-- ==== Defs.lean ====
def Pre_FfnK (m : (ℓ : Loc Cert.FfnK.nD Cert.FfnK.τ Cert.FfnK.sig) → Buf (Elt Bits) ℓ) : Prop :=
  True

def Pre_FfnKIdeal (m : (ℓ : Loc Cert.FfnKIdeal.nD Cert.FfnKIdeal.τ Cert.FfnKIdeal.sig) → Buf (Elt Ideal) ℓ) : Prop :=
  True

def Pre_FfnKIdeal_finite [hPre_finite : Cert.Pre_finite.Facts] (m : (ℓ : Loc Cert.FfnKIdeal.nD Cert.FfnKIdeal.τ Cert.FfnKIdeal.sig) → Buf (Elt Ideal) ℓ) : Prop :=
  ∀ c : Dev Cert.FfnKIdeal.nD,
    (Cert.Pre_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3))).1 = (fun _ => 1#1)
    ∧ (Cert.Pre_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3))).2.1 = (fun _ => 1#1)
    ∧ (Cert.Pre_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3))).2.2.1 = (fun _ => 1#1)
    ∧ (Cert.Pre_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3))).2.2.2 = (fun _ => 1#1)

def Pre_FfnRIdeal (m : (ℓ : Loc Cert.FfnRIdeal.nD Cert.FfnRIdeal.τ Cert.FfnRIdeal.sig) → Buf (Elt Ideal) ℓ) : Prop :=
  True

def Pre_FfnRIdeal_finite [hPre_finite : Cert.Pre_finite.Facts] (m : (ℓ : Loc Cert.FfnRIdeal.nD Cert.FfnRIdeal.τ Cert.FfnRIdeal.sig) → Buf (Elt Ideal) ℓ) : Prop :=
  ∀ c : Dev Cert.FfnRIdeal.nD,
    (Cert.Pre_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3))).1 = (fun _ => 1#1)
    ∧ (Cert.Pre_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3))).2.1 = (fun _ => 1#1)
    ∧ (Cert.Pre_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3))).2.2.1 = (fun _ => 1#1)
    ∧ (Cert.Pre_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3))).2.2.2 = (fun _ => 1#1)

def Pre_DwdownK (m : (ℓ : Loc Cert.DwdownK.nD Cert.DwdownK.τ Cert.DwdownK.sig) → Buf (Elt Bits) ℓ) : Prop :=
  True

def Pre_DwdownKIdeal (m : (ℓ : Loc Cert.DwdownKIdeal.nD Cert.DwdownKIdeal.τ Cert.DwdownKIdeal.sig) → Buf (Elt Ideal) ℓ) : Prop :=
  True

def Pre_DwdownRIdeal (m : (ℓ : Loc Cert.DwdownRIdeal.nD Cert.DwdownRIdeal.τ Cert.DwdownRIdeal.sig) → Buf (Elt Ideal) ℓ) : Prop :=
  True

def Pre_DwupK (m : (ℓ : Loc Cert.DwupK.nD Cert.DwupK.τ Cert.DwupK.sig) → Buf (Elt Bits) ℓ) : Prop :=
  True

def Pre_DwupKIdeal (m : (ℓ : Loc Cert.DwupKIdeal.nD Cert.DwupKIdeal.τ Cert.DwupKIdeal.sig) → Buf (Elt Ideal) ℓ) : Prop :=
  True

def Pre_DwupRIdeal (m : (ℓ : Loc Cert.DwupRIdeal.nD Cert.DwupRIdeal.τ Cert.DwupRIdeal.sig) → Buf (Elt Ideal) ℓ) : Prop :=
  True

def Pre_DactK (m : (ℓ : Loc Cert.DactK.nD Cert.DactK.τ Cert.DactK.sig) → Buf (Elt Bits) ℓ) : Prop :=
  True

def Pre_DactKIdeal (m : (ℓ : Loc Cert.DactKIdeal.nD Cert.DactKIdeal.τ Cert.DactKIdeal.sig) → Buf (Elt Ideal) ℓ) : Prop :=
  True

def Pre_DactRIdeal (m : (ℓ : Loc Cert.DactRIdeal.nD Cert.DactRIdeal.τ Cert.DactRIdeal.sig) → Buf (Elt Ideal) ℓ) : Prop :=
  True

def Pre_DwinK (m : (ℓ : Loc Cert.DwinK.nD Cert.DwinK.τ Cert.DwinK.sig) → Buf (Elt Bits) ℓ) : Prop :=
  True

def Pre_DwinKIdeal (m : (ℓ : Loc Cert.DwinKIdeal.nD Cert.DwinKIdeal.τ Cert.DwinKIdeal.sig) → Buf (Elt Ideal) ℓ) : Prop :=
  True

def Pre_DwinRIdeal (m : (ℓ : Loc Cert.DwinRIdeal.nD Cert.DwinRIdeal.τ Cert.DwinRIdeal.sig) → Buf (Elt Ideal) ℓ) : Prop :=
  True

def Pre_DhgK (m : (ℓ : Loc Cert.DhgK.nD Cert.DhgK.τ Cert.DhgK.sig) → Buf (Elt Bits) ℓ) : Prop :=
  True

def Pre_DhgKIdeal (m : (ℓ : Loc Cert.DhgKIdeal.nD Cert.DhgKIdeal.τ Cert.DhgKIdeal.sig) → Buf (Elt Ideal) ℓ) : Prop :=
  True

def Pre_DhgRIdeal (m : (ℓ : Loc Cert.DhgRIdeal.nD Cert.DhgRIdeal.τ Cert.DhgRIdeal.sig) → Buf (Elt Ideal) ℓ) : Prop :=
  True

def Pre_DhuK (m : (ℓ : Loc Cert.DhuK.nD Cert.DhuK.τ Cert.DhuK.sig) → Buf (Elt Bits) ℓ) : Prop :=
  True

def Pre_DhuKIdeal (m : (ℓ : Loc Cert.DhuKIdeal.nD Cert.DhuKIdeal.τ Cert.DhuKIdeal.sig) → Buf (Elt Ideal) ℓ) : Prop :=
  True

def Pre_DhuRIdeal (m : (ℓ : Loc Cert.DhuRIdeal.nD Cert.DhuRIdeal.τ Cert.DhuRIdeal.sig) → Buf (Elt Ideal) ℓ) : Prop :=
  True

def Pre_DhK (m : (ℓ : Loc Cert.DhK.nD Cert.DhK.τ Cert.DhK.sig) → Buf (Elt Bits) ℓ) : Prop :=
  True

def Pre_DhKIdeal (m : (ℓ : Loc Cert.DhKIdeal.nD Cert.DhKIdeal.τ Cert.DhKIdeal.sig) → Buf (Elt Ideal) ℓ) : Prop :=
  True

def Pre_DhRIdeal (m : (ℓ : Loc Cert.DhRIdeal.nD Cert.DhRIdeal.τ Cert.DhRIdeal.sig) → Buf (Elt Ideal) ℓ) : Prop :=
  True

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpRIdeal (m : (ℓ : Loc Cert.UpRIdeal.nD Cert.UpRIdeal.τ Cert.UpRIdeal.sig) → Buf (Elt Ideal) ℓ) : Prop :=
  True

def Pre_DownK (m : (ℓ : Loc Cert.DownK.nD Cert.DownK.τ Cert.DownK.sig) → Buf (Elt Bits) ℓ) : Prop :=
  True

def Pre_DownKIdeal (m : (ℓ : Loc Cert.DownKIdeal.nD Cert.DownKIdeal.τ Cert.DownKIdeal.sig) → Buf (Elt Ideal) ℓ) : Prop :=
  True

def Pre_DownRIdeal (m : (ℓ : Loc Cert.DownRIdeal.nD Cert.DownRIdeal.τ Cert.DownRIdeal.sig) → Buf (Elt Ideal) ℓ) : Prop :=
  True

def Pre_InMainK (m : (ℓ : Loc Cert.InMainK.nD Cert.InMainK.τ Cert.InMainK.sig) → Buf (Elt Bits) ℓ) : Prop :=
  True

def Pre_InMainKIdeal (m : (ℓ : Loc Cert.InMainKIdeal.nD Cert.InMainKIdeal.τ Cert.InMainKIdeal.sig) → Buf (Elt Ideal) ℓ) : Prop :=
  True

def Pre_InMainRIdeal (m : (ℓ : Loc Cert.InMainRIdeal.nD Cert.InMainRIdeal.τ Cert.InMainRIdeal.sig) → Buf (Elt Ideal) ℓ) : Prop :=
  True

def Pre_InBaK (m : (ℓ : Loc Cert.InBaK.nD Cert.InBaK.τ Cert.InBaK.sig) → Buf (Elt Bits) ℓ) : Prop :=
  True

def Pre_InBaKIdeal (m : (ℓ : Loc Cert.InBaKIdeal.nD Cert.InBaKIdeal.τ Cert.InBaKIdeal.sig) → Buf (Elt Ideal) ℓ) : Prop :=
  True

def Pre_InBaRIdeal (m : (ℓ : Loc Cert.InBaRIdeal.nD Cert.InBaRIdeal.τ Cert.InBaRIdeal.sig) → Buf (Elt Ideal) ℓ) : Prop :=
  True

def Pre_PwK (m : (ℓ : Loc Cert.PwK.nD Cert.PwK.τ Cert.PwK.sig) → Buf (Elt Bits) ℓ) : Prop :=
  True

def Pre_PwKIdeal (m : (ℓ : Loc Cert.PwKIdeal.nD Cert.PwKIdeal.τ Cert.PwKIdeal.sig) → Buf (Elt Ideal) ℓ) : Prop :=
  True

def Pre_PwRIdeal (m : (ℓ : Loc Cert.PwRIdeal.nD Cert.PwRIdeal.τ Cert.PwRIdeal.sig) → Buf (Elt Ideal) ℓ) : Prop :=
  True

def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_DoutaK (m : (ℓ : Loc Cert.DoutaK.nD Cert.DoutaK.τ Cert.DoutaK.sig) → Buf (Elt Bits) ℓ) : Prop :=
  True

def Pre_DoutaKIdeal (m : (ℓ : Loc Cert.DoutaKIdeal.nD Cert.DoutaKIdeal.τ Cert.DoutaKIdeal.sig) → Buf (Elt Ideal) ℓ) : Prop :=
  True

def Pre_DoutaRIdeal (m : (ℓ : Loc Cert.DoutaRIdeal.nD Cert.DoutaRIdeal.τ Cert.DoutaRIdeal.sig) → Buf (Elt Ideal) ℓ) : Prop :=
  True

def Pre_DoutbK (m : (ℓ : Loc Cert.DoutbK.nD Cert.DoutbK.τ Cert.DoutbK.sig) → Buf (Elt Bits) ℓ) : Prop :=
  True

def Pre_DoutbKIdeal (m : (ℓ : Loc Cert.DoutbKIdeal.nD Cert.DoutbKIdeal.τ Cert.DoutbKIdeal.sig) → Buf (Elt Ideal) ℓ) : Prop :=
  True

def Pre_DoutbRIdeal (m : (ℓ : Loc Cert.DoutbRIdeal.nD Cert.DoutbRIdeal.τ Cert.DoutbRIdeal.sig) → Buf (Elt Ideal) ℓ) : Prop :=
  True

def Pre_DwoutK (m : (ℓ : Loc Cert.DwoutK.nD Cert.DwoutK.τ Cert.DwoutK.sig) → Buf (Elt Bits) ℓ) : Prop :=
  True

def Pre_DwoutKIdeal (m : (ℓ : Loc Cert.DwoutKIdeal.nD Cert.DwoutKIdeal.τ Cert.DwoutKIdeal.sig) → Buf (Elt Ideal) ℓ) : Prop :=
  True

def Pre_DwoutRIdeal (m : (ℓ : Loc Cert.DwoutRIdeal.nD Cert.DwoutRIdeal.τ Cert.DwoutRIdeal.sig) → Buf (Elt Ideal) ℓ) : Prop :=
  True

def Pre_DucK (m : (ℓ : Loc Cert.DucK.nD Cert.DucK.τ Cert.DucK.sig) → Buf (Elt Bits) ℓ) : Prop :=
  True

def Pre_DucKIdeal (m : (ℓ : Loc Cert.DucKIdeal.nD Cert.DucKIdeal.τ Cert.DucKIdeal.sig) → Buf (Elt Ideal) ℓ) : Prop :=
  True

def Pre_DucRIdeal (m : (ℓ : Loc Cert.DucRIdeal.nD Cert.DucRIdeal.τ Cert.DucRIdeal.sig) → Buf (Elt Ideal) ℓ) : Prop :=
  True

def Pre_DwpwK (m : (ℓ : Loc Cert.DwpwK.nD Cert.DwpwK.τ Cert.DwpwK.sig) → Buf (Elt Bits) ℓ) : Prop :=
  True

def Pre_DwpwKIdeal (m : (ℓ : Loc Cert.DwpwKIdeal.nD Cert.DwpwKIdeal.τ Cert.DwpwKIdeal.sig) → Buf (Elt Ideal) ℓ) : Prop :=
  True

def Pre_DwpwRIdeal (m : (ℓ : Loc Cert.DwpwRIdeal.nD Cert.DwpwRIdeal.τ Cert.DwpwRIdeal.sig) → Buf (Elt Ideal) ℓ) : Prop :=
  True

def Pre_DwbaK (m : (ℓ : Loc Cert.DwbaK.nD Cert.DwbaK.τ Cert.DwbaK.sig) → Buf (Elt Bits) ℓ) : Prop :=
  True

def Pre_DwbaKIdeal (m : (ℓ : Loc Cert.DwbaKIdeal.nD Cert.DwbaKIdeal.τ Cert.DwbaKIdeal.sig) → Buf (Elt Ideal) ℓ) : Prop :=
  True

def Pre_DwbaRIdeal (m : (ℓ : Loc Cert.DwbaRIdeal.nD Cert.DwbaRIdeal.τ Cert.DwbaRIdeal.sig) → Buf (Elt Ideal) ℓ) : Prop :=
  True

def Pre_DhbaK (m : (ℓ : Loc Cert.DhbaK.nD Cert.DhbaK.τ Cert.DhbaK.sig) → Buf (Elt Bits) ℓ) : Prop :=
  True

def Pre_DhbaKIdeal (m : (ℓ : Loc Cert.DhbaKIdeal.nD Cert.DhbaKIdeal.τ Cert.DhbaKIdeal.sig) → Buf (Elt Ideal) ℓ) : Prop :=
  True

def Pre_DhbaRIdeal (m : (ℓ : Loc Cert.DhbaRIdeal.nD Cert.DhbaRIdeal.τ Cert.DhbaRIdeal.sig) → Buf (Elt Ideal) ℓ) : Prop :=
  True

def Pre_AdWinK (m : (ℓ : Loc Cert.AdWinK.nD Cert.AdWinK.τ Cert.AdWinK.sig) → Buf (Elt Bits) ℓ) : Prop :=
  True

def Pre_AdWinKIdeal (m : (ℓ : Loc Cert.AdWinKIdeal.nD Cert.AdWinKIdeal.τ Cert.AdWinKIdeal.sig) → Buf (Elt Ideal) ℓ) : Prop :=
  True

def Pre_AdWinRIdeal (m : (ℓ : Loc Cert.AdWinRIdeal.nD Cert.AdWinRIdeal.τ Cert.AdWinRIdeal.sig) → Buf (Elt Ideal) ℓ) : Prop :=
  True

def Pre_AdPwK (m : (ℓ : Loc Cert.AdPwK.nD Cert.AdPwK.τ Cert.AdPwK.sig) → Buf (Elt Bits) ℓ) : Prop :=
  True

def Pre_AdPwKIdeal (m : (ℓ : Loc Cert.AdPwKIdeal.nD Cert.AdPwKIdeal.τ Cert.AdPwKIdeal.sig) → Buf (Elt Ideal) ℓ) : Prop :=
  True

def Pre_AdPwRIdeal (m : (ℓ : Loc Cert.AdPwRIdeal.nD Cert.AdPwRIdeal.τ Cert.AdPwRIdeal.sig) → Buf (Elt Ideal) ℓ) : Prop :=
  True

def Pre_AdWoutK (m : (ℓ : Loc Cert.AdWoutK.nD Cert.AdWoutK.τ Cert.AdWoutK.sig) → Buf (Elt Bits) ℓ) : Prop :=
  True

def Pre_AdWoutKIdeal (m : (ℓ : Loc Cert.AdWoutKIdeal.nD Cert.AdWoutKIdeal.τ Cert.AdWoutKIdeal.sig) → Buf (Elt Ideal) ℓ) : Prop :=
  True

def Pre_AdWoutRIdeal (m : (ℓ : Loc Cert.AdWoutRIdeal.nD Cert.AdWoutRIdeal.τ Cert.AdWoutRIdeal.sig) → Buf (Elt Ideal) ℓ) : Prop :=
  True

def Pre_AdWupK (m : (ℓ : Loc Cert.AdWupK.nD Cert.AdWupK.τ Cert.AdWupK.sig) → Buf (Elt Bits) ℓ) : Prop :=
  True

def Pre_AdWupKIdeal (m : (ℓ : Loc Cert.AdWupKIdeal.nD Cert.AdWupKIdeal.τ Cert.AdWupKIdeal.sig) → Buf (Elt Ideal) ℓ) : Prop :=
  True

def Pre_AdWupRIdeal (m : (ℓ : Loc Cert.AdWupRIdeal.nD Cert.AdWupRIdeal.τ Cert.AdWupRIdeal.sig) → Buf (Elt Ideal) ℓ) : Prop :=
  True

def Pre_AdWdownK (m : (ℓ : Loc Cert.AdWdownK.nD Cert.AdWdownK.τ Cert.AdWdownK.sig) → Buf (Elt Bits) ℓ) : Prop :=
  True

def Pre_AdWdownKIdeal (m : (ℓ : Loc Cert.AdWdownKIdeal.nD Cert.AdWdownKIdeal.τ Cert.AdWdownKIdeal.sig) → Buf (Elt Ideal) ℓ) : Prop :=
  True

def Pre_AdWdownRIdeal (m : (ℓ : Loc Cert.AdWdownRIdeal.nD Cert.AdWdownRIdeal.τ Cert.AdWdownRIdeal.sig) → Buf (Elt Ideal) ℓ) : Prop :=
  True

def Pre_AdDwK (m : (ℓ : Loc Cert.AdDwK.nD Cert.AdDwK.τ Cert.AdDwK.sig) → Buf (Elt Bits) ℓ) : Prop :=
  True

def Pre_AdDwKIdeal (m : (ℓ : Loc Cert.AdDwKIdeal.nD Cert.AdDwKIdeal.τ Cert.AdDwKIdeal.sig) → Buf (Elt Ideal) ℓ) : Prop :=
  True

def Pre_AdDwRIdeal (m : (ℓ : Loc Cert.AdDwRIdeal.nD Cert.AdDwRIdeal.τ Cert.AdDwRIdeal.sig) → Buf (Elt Ideal) ℓ) : Prop :=
  True

def Pre_AdGcK (m : (ℓ : Loc Cert.AdGcK.nD Cert.AdGcK.τ Cert.AdGcK.sig) → Buf (Elt Bits) ℓ) : Prop :=
  True

def Pre_AdGcKIdeal (m : (ℓ : Loc Cert.AdGcKIdeal.nD Cert.AdGcKIdeal.τ Cert.AdGcKIdeal.sig) → Buf (Elt Ideal) ℓ) : Prop :=
  True

def Pre_AdGcRIdeal (m : (ℓ : Loc Cert.AdGcRIdeal.nD Cert.AdGcRIdeal.τ Cert.AdGcRIdeal.sig) → Buf (Elt Ideal) ℓ) : Prop :=
  True

def Pre_AdFcK (m : (ℓ : Loc Cert.AdFcK.nD Cert.AdFcK.τ Cert.AdFcK.sig) → Buf (Elt Bits) ℓ) : Prop :=
  True

def Pre_AdFcKIdeal (m : (ℓ : Loc Cert.AdFcKIdeal.nD Cert.AdFcKIdeal.τ Cert.AdFcKIdeal.sig) → Buf (Elt Ideal) ℓ) : Prop :=
  True

def Pre_AdFcRIdeal (m : (ℓ : Loc Cert.AdFcRIdeal.nD Cert.AdFcRIdeal.τ Cert.AdFcRIdeal.sig) → Buf (Elt Ideal) ℓ) : Prop :=
  True

def Pre_AdNormK (m : (ℓ : Loc Cert.AdNormK.nD Cert.AdNormK.τ Cert.AdNormK.sig) → Buf (Elt Bits) ℓ) : Prop :=
  True

def Pre_AdNormKIdeal (m : (ℓ : Loc Cert.AdNormKIdeal.nD Cert.AdNormKIdeal.τ Cert.AdNormKIdeal.sig) → Buf (Elt Ideal) ℓ) : Prop :=
  True

def Pre_AdNormRIdeal (m : (ℓ : Loc Cert.AdNormRIdeal.nD Cert.AdNormRIdeal.τ Cert.AdNormRIdeal.sig) → Buf (Elt Ideal) ℓ) : Prop :=
  True

def Pre_AdFinalK (m : (ℓ : Loc Cert.AdFinalK.nD Cert.AdFinalK.τ Cert.AdFinalK.sig) → Buf (Elt Bits) ℓ) : Prop :=
  True

def Pre_AdFinalKIdeal (m : (ℓ : Loc Cert.AdFinalKIdeal.nD Cert.AdFinalKIdeal.τ Cert.AdFinalKIdeal.sig) → Buf (Elt Ideal) ℓ) : Prop :=
  True

def Pre_AdFinalRIdeal (m : (ℓ : Loc Cert.AdFinalRIdeal.nD Cert.AdFinalRIdeal.τ Cert.AdFinalRIdeal.sig) → Buf (Elt Ideal) ℓ) : Prop :=
  True

def Pre_AdChK (m : (ℓ : Loc Cert.AdChK.nD Cert.AdChK.τ Cert.AdChK.sig) → Buf (Elt Bits) ℓ) : Prop :=
  True

def Pre_AdChKIdeal (m : (ℓ : Loc Cert.AdChKIdeal.nD Cert.AdChKIdeal.τ Cert.AdChKIdeal.sig) → Buf (Elt Ideal) ℓ) : Prop :=
  True

def Pre_AdChRIdeal (m : (ℓ : Loc Cert.AdChRIdeal.nD Cert.AdChRIdeal.τ Cert.AdChRIdeal.sig) → Buf (Elt Ideal) ℓ) : Prop :=
  True

def Pre_AdHeadK (m : (ℓ : Loc Cert.AdHeadK.nD Cert.AdHeadK.τ Cert.AdHeadK.sig) → Buf (Elt Bits) ℓ) : Prop :=
  True

def Pre_AdHeadKIdeal (m : (ℓ : Loc Cert.AdHeadKIdeal.nD Cert.AdHeadKIdeal.τ Cert.AdHeadKIdeal.sig) → Buf (Elt Ideal) ℓ) : Prop :=
  True

def Pre_AdHeadRIdeal (m : (ℓ : Loc Cert.AdHeadRIdeal.nD Cert.AdHeadRIdeal.τ Cert.AdHeadRIdeal.sig) → Buf (Elt Ideal) ℓ) : Prop :=
  True

def Pre_AdKeyK (m : (ℓ : Loc Cert.AdKeyK.nD Cert.AdKeyK.τ Cert.AdKeyK.sig) → Buf (Elt Bits) ℓ) : Prop :=
  True

def Pre_AdKeyKIdeal (m : (ℓ : Loc Cert.AdKeyKIdeal.nD Cert.AdKeyKIdeal.τ Cert.AdKeyKIdeal.sig) → Buf (Elt Ideal) ℓ) : Prop :=
  True

def Pre_AdKeyRIdeal (m : (ℓ : Loc Cert.AdKeyRIdeal.nD Cert.AdKeyRIdeal.τ Cert.AdKeyRIdeal.sig) → Buf (Elt Ideal) ℓ) : Prop :=
  True

def Pre_AdFbK (m : (ℓ : Loc Cert.AdFbK.nD Cert.AdFbK.τ Cert.AdFbK.sig) → Buf (Elt Bits) ℓ) : Prop :=
  True

def Pre_AdFbKIdeal (m : (ℓ : Loc Cert.AdFbKIdeal.nD Cert.AdFbKIdeal.τ Cert.AdFbKIdeal.sig) → Buf (Elt Ideal) ℓ) : Prop :=
  True

def Pre_AdFbRIdeal (m : (ℓ : Loc Cert.AdFbRIdeal.nD Cert.AdFbRIdeal.τ Cert.AdFbRIdeal.sig) → Buf (Elt Ideal) ℓ) : Prop :=
  True

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormRIdeal (m : (ℓ : Loc Cert.NormRIdeal.nD Cert.NormRIdeal.τ Cert.NormRIdeal.sig) → Buf (Elt Ideal) ℓ) : Prop :=
  True

def Pre_DnormK (m : (ℓ : Loc Cert.DnormK.nD Cert.DnormK.τ Cert.DnormK.sig) → Buf (Elt Bits) ℓ) : Prop :=
  True

def Pre_DnormKIdeal (m : (ℓ : Loc Cert.DnormKIdeal.nD Cert.DnormKIdeal.τ Cert.DnormKIdeal.sig) → Buf (Elt Ideal) ℓ) : Prop :=
  True

def Pre_DnormRIdeal (m : (ℓ : Loc Cert.DnormRIdeal.nD Cert.DnormRIdeal.τ Cert.DnormRIdeal.sig) → Buf (Elt Ideal) ℓ) : Prop :=
  True

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossRIdeal (m : (ℓ : Loc Cert.LossRIdeal.nD Cert.LossRIdeal.τ Cert.LossRIdeal.sig) → Buf (Elt Ideal) ℓ) : Prop :=
  True

def Pre_QkvFK (m : (ℓ : Loc Cert.QkvFK.nD Cert.QkvFK.τ Cert.QkvFK.sig) → Buf (Elt Bits) ℓ) : Prop :=
  True

def Pre_QkvFKIdeal (m : (ℓ : Loc Cert.QkvFKIdeal.nD Cert.QkvFKIdeal.τ Cert.QkvFKIdeal.sig) → Buf (Elt Ideal) ℓ) : Prop :=
  True

def Pre_QkvFRIdeal (m : (ℓ : Loc Cert.QkvFRIdeal.nD Cert.QkvFRIdeal.τ Cert.QkvFRIdeal.sig) → Buf (Elt Ideal) ℓ) : Prop :=
  True

def Pre_FfnFK (m : (ℓ : Loc Cert.FfnFK.nD Cert.FfnFK.τ Cert.FfnFK.sig) → Buf (Elt Bits) ℓ) : Prop :=
  True

def Pre_FfnFKIdeal (m : (ℓ : Loc Cert.FfnFKIdeal.nD Cert.FfnFKIdeal.τ Cert.FfnFKIdeal.sig) → Buf (Elt Ideal) ℓ) : Prop :=
  True

def Pre_FfnFRIdeal (m : (ℓ : Loc Cert.FfnFRIdeal.nD Cert.FfnFRIdeal.τ Cert.FfnFRIdeal.sig) → Buf (Elt Ideal) ℓ) : Prop :=
  True

def Pre_ConfFK (m : (ℓ : Loc Cert.ConfFK.nD Cert.ConfFK.τ Cert.ConfFK.sig) → Buf (Elt Bits) ℓ) : Prop :=
  True

def Pre_ConfFKIdeal (m : (ℓ : Loc Cert.ConfFKIdeal.nD Cert.ConfFKIdeal.τ Cert.ConfFKIdeal.sig) → Buf (Elt Ideal) ℓ) : Prop :=
  True

def Pre_ConfFRIdeal (m : (ℓ : Loc Cert.ConfFRIdeal.nD Cert.ConfFRIdeal.τ Cert.ConfFRIdeal.sig) → Buf (Elt Ideal) ℓ) : Prop :=
  True

def Pre_QkvK (m : (ℓ : Loc Cert.QkvK.nD Cert.QkvK.τ Cert.QkvK.sig) → Buf (Elt Bits) ℓ) : Prop :=
  True

def Pre_QkvKIdeal (m : (ℓ : Loc Cert.QkvKIdeal.nD Cert.QkvKIdeal.τ Cert.QkvKIdeal.sig) → Buf (Elt Ideal) ℓ) : Prop :=
  True

def Pre_QkvKIdeal_finite_qkv [hPre_finite_qkv : Cert.Pre_finite_qkv.Facts] (m : (ℓ : Loc Cert.QkvKIdeal.nD Cert.QkvKIdeal.τ Cert.QkvKIdeal.sig) → Buf (Elt Ideal) ℓ) : Prop :=
  ∀ c : Dev Cert.QkvKIdeal.nD,
    (Cert.Pre_finite_qkv.fn (F := Ideal) (m ((c.tc : Thread Cert.QkvKIdeal.nD Cert.QkvKIdeal.τ).loc Cert.QkvKIdeal.main_arg0)) (m ((c.tc : Thread Cert.QkvKIdeal.nD Cert.QkvKIdeal.τ).loc Cert.QkvKIdeal.main_arg1)) (m ((c.tc : Thread Cert.QkvKIdeal.nD Cert.QkvKIdeal.τ).loc Cert.QkvKIdeal.main_arg2))).1 = (fun _ => 1#1)
    ∧ (Cert.Pre_finite_qkv.fn (F := Ideal) (m ((c.tc : Thread Cert.QkvKIdeal.nD Cert.QkvKIdeal.τ).loc Cert.QkvKIdeal.main_arg0)) (m ((c.tc : Thread Cert.QkvKIdeal.nD Cert.QkvKIdeal.τ).loc Cert.QkvKIdeal.main_arg1)) (m ((c.tc : Thread Cert.QkvKIdeal.nD Cert.QkvKIdeal.τ).loc Cert.QkvKIdeal.main_arg2))).2.1 = (fun _ => 1#1)
    ∧ (Cert.Pre_finite_qkv.fn (F := Ideal) (m ((c.tc : Thread Cert.QkvKIdeal.nD Cert.QkvKIdeal.τ).loc Cert.QkvKIdeal.main_arg0)) (m ((c.tc : Thread Cert.QkvKIdeal.nD Cert.QkvKIdeal.τ).loc Cert.QkvKIdeal.main_arg1)) (m ((c.tc : Thread Cert.QkvKIdeal.nD Cert.QkvKIdeal.τ).loc Cert.QkvKIdeal.main_arg2))).2.2 = (fun _ => 1#1)

def Pre_QkvRIdeal (m : (ℓ : Loc Cert.QkvRIdeal.nD Cert.QkvRIdeal.τ Cert.QkvRIdeal.sig) → Buf (Elt Ideal) ℓ) : Prop :=
  True

def Pre_QkvRIdeal_finite_qkv [hPre_finite_qkv : Cert.Pre_finite_qkv.Facts] (m : (ℓ : Loc Cert.QkvRIdeal.nD Cert.QkvRIdeal.τ Cert.QkvRIdeal.sig) → Buf (Elt Ideal) ℓ) : Prop :=
  ∀ c : Dev Cert.QkvRIdeal.nD,
    (Cert.Pre_finite_qkv.fn (F := Ideal) (m ((c.tc : Thread Cert.QkvRIdeal.nD Cert.QkvRIdeal.τ).loc Cert.QkvRIdeal.main_arg0)) (m ((c.tc : Thread Cert.QkvRIdeal.nD Cert.QkvRIdeal.τ).loc Cert.QkvRIdeal.main_arg1)) (m ((c.tc : Thread Cert.QkvRIdeal.nD Cert.QkvRIdeal.τ).loc Cert.QkvRIdeal.main_arg2))).1 = (fun _ => 1#1)
    ∧ (Cert.Pre_finite_qkv.fn (F := Ideal) (m ((c.tc : Thread Cert.QkvRIdeal.nD Cert.QkvRIdeal.τ).loc Cert.QkvRIdeal.main_arg0)) (m ((c.tc : Thread Cert.QkvRIdeal.nD Cert.QkvRIdeal.τ).loc Cert.QkvRIdeal.main_arg1)) (m ((c.tc : Thread Cert.QkvRIdeal.nD Cert.QkvRIdeal.τ).loc Cert.QkvRIdeal.main_arg2))).2.1 = (fun _ => 1#1)
    ∧ (Cert.Pre_finite_qkv.fn (F := Ideal) (m ((c.tc : Thread Cert.QkvRIdeal.nD Cert.QkvRIdeal.τ).loc Cert.QkvRIdeal.main_arg0)) (m ((c.tc : Thread Cert.QkvRIdeal.nD Cert.QkvRIdeal.τ).loc Cert.QkvRIdeal.main_arg1)) (m ((c.tc : Thread Cert.QkvRIdeal.nD Cert.QkvRIdeal.τ).loc Cert.QkvRIdeal.main_arg2))).2.2 = (fun _ => 1#1)

def Pre_ConfK (m : (ℓ : Loc Cert.ConfK.nD Cert.ConfK.τ Cert.ConfK.sig) → Buf (Elt Bits) ℓ) : Prop :=
  True

def Pre_ConfKIdeal (m : (ℓ : Loc Cert.ConfKIdeal.nD Cert.ConfKIdeal.τ Cert.ConfKIdeal.sig) → Buf (Elt Ideal) ℓ) : Prop :=
  True

def Pre_ConfKIdeal_finite_conf [hPre_finite_conf : Cert.Pre_finite_conf.Facts] (m : (ℓ : Loc Cert.ConfKIdeal.nD Cert.ConfKIdeal.τ Cert.ConfKIdeal.sig) → Buf (Elt Ideal) ℓ) : Prop :=
  ∀ c : Dev Cert.ConfKIdeal.nD,
    (Cert.Pre_finite_conf.fn (F := Ideal) (m ((c.tc : Thread Cert.ConfKIdeal.nD Cert.ConfKIdeal.τ).loc Cert.ConfKIdeal.main_arg0)) (m ((c.tc : Thread Cert.ConfKIdeal.nD Cert.ConfKIdeal.τ).loc Cert.ConfKIdeal.main_arg1)) (m ((c.tc : Thread Cert.ConfKIdeal.nD Cert.ConfKIdeal.τ).loc Cert.ConfKIdeal.main_arg2)) (m ((c.tc : Thread Cert.ConfKIdeal.nD Cert.ConfKIdeal.τ).loc Cert.ConfKIdeal.main_arg3)) (m ((c.tc : Thread Cert.ConfKIdeal.nD Cert.ConfKIdeal.τ).loc Cert.ConfKIdeal.main_arg4)) (m ((c.tc : Thread Cert.ConfKIdeal.nD Cert.ConfKIdeal.τ).loc Cert.ConfKIdeal.main_arg5)) (m ((c.tc : Thread Cert.ConfKIdeal.nD Cert.ConfKIdeal.τ).loc Cert.ConfKIdeal.main_arg6)) (m ((c.tc : Thread Cert.ConfKIdeal.nD Cert.ConfKIdeal.τ).loc Cert.ConfKIdeal.main_arg7))).1 = (fun _ => 1#1)
    ∧ (Cert.Pre_finite_conf.fn (F := Ideal) (m ((c.tc : Thread Cert.ConfKIdeal.nD Cert.ConfKIdeal.τ).loc Cert.ConfKIdeal.main_arg0)) (m ((c.tc : Thread Cert.ConfKIdeal.nD Cert.ConfKIdeal.τ).loc Cert.ConfKIdeal.main_arg1)) (m ((c.tc : Thread Cert.ConfKIdeal.nD Cert.ConfKIdeal.τ).loc Cert.ConfKIdeal.main_arg2)) (m ((c.tc : Thread Cert.ConfKIdeal.nD Cert.ConfKIdeal.τ).loc Cert.ConfKIdeal.main_arg3)) (m ((c.tc : Thread Cert.ConfKIdeal.nD Cert.ConfKIdeal.τ).loc Cert.ConfKIdeal.main_arg4)) (m ((c.tc : Thread Cert.ConfKIdeal.nD Cert.ConfKIdeal.τ).loc Cert.ConfKIdeal.main_arg5)) (m ((c.tc : Thread Cert.ConfKIdeal.nD Cert.ConfKIdeal.τ).loc Cert.ConfKIdeal.main_arg6)) (m ((c.tc : Thread Cert.ConfKIdeal.nD Cert.ConfKIdeal.τ).loc Cert.ConfKIdeal.main_arg7))).2.1 = (fun _ => 1#1)
    ∧ (Cert.Pre_finite_conf.fn (F := Ideal) (m ((c.tc : Thread Cert.ConfKIdeal.nD Cert.ConfKIdeal.τ).loc Cert.ConfKIdeal.main_arg0)) (m ((c.tc : Thread Cert.ConfKIdeal.nD Cert.ConfKIdeal.τ).loc Cert.ConfKIdeal.main_arg1)) (m ((c.tc : Thread Cert.ConfKIdeal.nD Cert.ConfKIdeal.τ).loc Cert.ConfKIdeal.main_arg2)) (m ((c.tc : Thread Cert.ConfKIdeal.nD Cert.ConfKIdeal.τ).loc Cert.ConfKIdeal.main_arg3)) (m ((c.tc : Thread Cert.ConfKIdeal.nD Cert.ConfKIdeal.τ).loc Cert.ConfKIdeal.main_arg4)) (m ((c.tc : Thread Cert.ConfKIdeal.nD Cert.ConfKIdeal.τ).loc Cert.ConfKIdeal.main_arg5)) (m ((c.tc : Thread Cert.ConfKIdeal.nD Cert.ConfKIdeal.τ).loc Cert.ConfKIdeal.main_arg6)) (m ((c.tc : Thread Cert.ConfKIdeal.nD Cert.ConfKIdeal.τ).loc Cert.ConfKIdeal.main_arg7))).2.2.1 = (fun _ => 1#1)
    ∧ (Cert.Pre_finite_conf.fn (F := Ideal) (m ((c.tc : Thread Cert.ConfKIdeal.nD Cert.ConfKIdeal.τ).loc Cert.ConfKIdeal.main_arg0)) (m ((c.tc : Thread Cert.ConfKIdeal.nD Cert.ConfKIdeal.τ).loc Cert.ConfKIdeal.main_arg1)) (m ((c.tc : Thread Cert.ConfKIdeal.nD Cert.ConfKIdeal.τ).loc Cert.ConfKIdeal.main_arg2)) (m ((c.tc : Thread Cert.ConfKIdeal.nD Cert.ConfKIdeal.τ).loc Cert.ConfKIdeal.main_arg3)) (m ((c.tc : Thread Cert.ConfKIdeal.nD Cert.ConfKIdeal.τ).loc Cert.ConfKIdeal.main_arg4)) (m ((c.tc : Thread Cert.ConfKIdeal.nD Cert.ConfKIdeal.τ).loc Cert.ConfKIdeal.main_arg5)) (m ((c.tc : Thread Cert.ConfKIdeal.nD Cert.ConfKIdeal.τ).loc Cert.ConfKIdeal.main_arg6)) (m ((c.tc : Thread Cert.ConfKIdeal.nD Cert.ConfKIdeal.τ).loc Cert.ConfKIdeal.main_arg7))).2.2.2.1 = (fun _ => 1#1)
    ∧ (Cert.Pre_finite_conf.fn (F := Ideal) (m ((c.tc : Thread Cert.ConfKIdeal.nD Cert.ConfKIdeal.τ).loc Cert.ConfKIdeal.main_arg0)) (m ((c.tc : Thread Cert.ConfKIdeal.nD Cert.ConfKIdeal.τ).loc Cert.ConfKIdeal.main_arg1)) (m ((c.tc : Thread Cert.ConfKIdeal.nD Cert.ConfKIdeal.τ).loc Cert.ConfKIdeal.main_arg2)) (m ((c.tc : Thread Cert.ConfKIdeal.nD Cert.ConfKIdeal.τ).loc Cert.ConfKIdeal.main_arg3)) (m ((c.tc : Thread Cert.ConfKIdeal.nD Cert.ConfKIdeal.τ).loc Cert.ConfKIdeal.main_arg4)) (m ((c.tc : Thread Cert.ConfKIdeal.nD Cert.ConfKIdeal.τ).loc Cert.ConfKIdeal.main_arg5)) (m ((c.tc : Thread Cert.ConfKIdeal.nD Cert.ConfKIdeal.τ).loc Cert.ConfKIdeal.main_arg6)) (m ((c.tc : Thread Cert.ConfKIdeal.nD Cert.ConfKIdeal.τ).loc Cert.ConfKIdeal.main_arg7))).2.2.2.2.1 = (fun _ => 1#1)
    ∧ (Cert.Pre_finite_conf.fn (F := Ideal) (m ((c.tc : Thread Cert.ConfKIdeal.nD Cert.ConfKIdeal.τ).loc Cert.ConfKIdeal.main_arg0)) (m ((c.tc : Thread Cert.ConfKIdeal.nD Cert.ConfKIdeal.τ).loc Cert.ConfKIdeal.main_arg1)) (m ((c.tc : Thread Cert.ConfKIdeal.nD Cert.ConfKIdeal.τ).loc Cert.ConfKIdeal.main_arg2)) (m ((c.tc : Thread Cert.ConfKIdeal.nD Cert.ConfKIdeal.τ).loc Cert.ConfKIdeal.main_arg3)) (m ((c.tc : Thread Cert.ConfKIdeal.nD Cert.ConfKIdeal.τ).loc Cert.ConfKIdeal.main_arg4)) (m ((c.tc : Thread Cert.ConfKIdeal.nD Cert.ConfKIdeal.τ).loc Cert.ConfKIdeal.main_arg5)) (m ((c.tc : Thread Cert.ConfKIdeal.nD Cert.ConfKIdeal.τ).loc Cert.ConfKIdeal.main_arg6)) (m ((c.tc : Thread Cert.ConfKIdeal.nD Cert.ConfKIdeal.τ).loc Cert.ConfKIdeal.main_arg7))).2.2.2.2.2 = (fun _ => 1#1)

def Pre_ConfRIdeal (m : (ℓ : Loc Cert.ConfRIdeal.nD Cert.ConfRIdeal.τ Cert.ConfRIdeal.sig) → Buf (Elt Ideal) ℓ) : Prop :=
  True

def Pre_ConfRIdeal_finite_conf [hPre_finite_conf : Cert.Pre_finite_conf.Facts] (m : (ℓ : Loc Cert.ConfRIdeal.nD Cert.ConfRIdeal.τ Cert.ConfRIdeal.sig) → Buf (Elt Ideal) ℓ) : Prop :=
  ∀ c : Dev Cert.ConfRIdeal.nD,
    (Cert.Pre_finite_conf.fn (F := Ideal) (m ((c.tc : Thread Cert.ConfRIdeal.nD Cert.ConfRIdeal.τ).loc Cert.ConfRIdeal.main_arg0)) (m ((c.tc : Thread Cert.ConfRIdeal.nD Cert.ConfRIdeal.τ).loc Cert.ConfRIdeal.main_arg1)) (m ((c.tc : Thread Cert.ConfRIdeal.nD Cert.ConfRIdeal.τ).loc Cert.ConfRIdeal.main_arg2)) (m ((c.tc : Thread Cert.ConfRIdeal.nD Cert.ConfRIdeal.τ).loc Cert.ConfRIdeal.main_arg3)) (m ((c.tc : Thread Cert.ConfRIdeal.nD Cert.ConfRIdeal.τ).loc Cert.ConfRIdeal.main_arg4)) (m ((c.tc : Thread Cert.ConfRIdeal.nD Cert.ConfRIdeal.τ).loc Cert.ConfRIdeal.main_arg5)) (m ((c.tc : Thread Cert.ConfRIdeal.nD Cert.ConfRIdeal.τ).loc Cert.ConfRIdeal.main_arg6)) (m ((c.tc : Thread Cert.ConfRIdeal.nD Cert.ConfRIdeal.τ).loc Cert.ConfRIdeal.main_arg7))).1 = (fun _ => 1#1)
    ∧ (Cert.Pre_finite_conf.fn (F := Ideal) (m ((c.tc : Thread Cert.ConfRIdeal.nD Cert.ConfRIdeal.τ).loc Cert.ConfRIdeal.main_arg0)) (m ((c.tc : Thread Cert.ConfRIdeal.nD Cert.ConfRIdeal.τ).loc Cert.ConfRIdeal.main_arg1)) (m ((c.tc : Thread Cert.ConfRIdeal.nD Cert.ConfRIdeal.τ).loc Cert.ConfRIdeal.main_arg2)) (m ((c.tc : Thread Cert.ConfRIdeal.nD Cert.ConfRIdeal.τ).loc Cert.ConfRIdeal.main_arg3)) (m ((c.tc : Thread Cert.ConfRIdeal.nD Cert.ConfRIdeal.τ).loc Cert.ConfRIdeal.main_arg4)) (m ((c.tc : Thread Cert.ConfRIdeal.nD Cert.ConfRIdeal.τ).loc Cert.ConfRIdeal.main_arg5)) (m ((c.tc : Thread Cert.ConfRIdeal.nD Cert.ConfRIdeal.τ).loc Cert.ConfRIdeal.main_arg6)) (m ((c.tc : Thread Cert.ConfRIdeal.nD Cert.ConfRIdeal.τ).loc Cert.ConfRIdeal.main_arg7))).2.1 = (fun _ => 1#1)
    ∧ (Cert.Pre_finite_conf.fn (F := Ideal) (m ((c.tc : Thread Cert.ConfRIdeal.nD Cert.ConfRIdeal.τ).loc Cert.ConfRIdeal.main_arg0)) (m ((c.tc : Thread Cert.ConfRIdeal.nD Cert.ConfRIdeal.τ).loc Cert.ConfRIdeal.main_arg1)) (m ((c.tc : Thread Cert.ConfRIdeal.nD Cert.ConfRIdeal.τ).loc Cert.ConfRIdeal.main_arg2)) (m ((c.tc : Thread Cert.ConfRIdeal.nD Cert.ConfRIdeal.τ).loc Cert.ConfRIdeal.main_arg3)) (m ((c.tc : Thread Cert.ConfRIdeal.nD Cert.ConfRIdeal.τ).loc Cert.ConfRIdeal.main_arg4)) (m ((c.tc : Thread Cert.ConfRIdeal.nD Cert.ConfRIdeal.τ).loc Cert.ConfRIdeal.main_arg5)) (m ((c.tc : Thread Cert.ConfRIdeal.nD Cert.ConfRIdeal.τ).loc Cert.ConfRIdeal.main_arg6)) (m ((c.tc : Thread Cert.ConfRIdeal.nD Cert.ConfRIdeal.τ).loc Cert.ConfRIdeal.main_arg7))).2.2.1 = (fun _ => 1#1)
    ∧ (Cert.Pre_finite_conf.fn (F := Ideal) (m ((c.tc : Thread Cert.ConfRIdeal.nD Cert.ConfRIdeal.τ).loc Cert.ConfRIdeal.main_arg0)) (m ((c.tc : Thread Cert.ConfRIdeal.nD Cert.ConfRIdeal.τ).loc Cert.ConfRIdeal.main_arg1)) (m ((c.tc : Thread Cert.ConfRIdeal.nD Cert.ConfRIdeal.τ).loc Cert.ConfRIdeal.main_arg2)) (m ((c.tc : Thread Cert.ConfRIdeal.nD Cert.ConfRIdeal.τ).loc Cert.ConfRIdeal.main_arg3)) (m ((c.tc : Thread Cert.ConfRIdeal.nD Cert.ConfRIdeal.τ).loc Cert.ConfRIdeal.main_arg4)) (m ((c.tc : Thread Cert.ConfRIdeal.nD Cert.ConfRIdeal.τ).loc Cert.ConfRIdeal.main_arg5)) (m ((c.tc : Thread Cert.ConfRIdeal.nD Cert.ConfRIdeal.τ).loc Cert.ConfRIdeal.main_arg6)) (m ((c.tc : Thread Cert.ConfRIdeal.nD Cert.ConfRIdeal.τ).loc Cert.ConfRIdeal.main_arg7))).2.2.2.1 = (fun _ => 1#1)
    ∧ (Cert.Pre_finite_conf.fn (F := Ideal) (m ((c.tc : Thread Cert.ConfRIdeal.nD Cert.ConfRIdeal.τ).loc Cert.ConfRIdeal.main_arg0)) (m ((c.tc : Thread Cert.ConfRIdeal.nD Cert.ConfRIdeal.τ).loc Cert.ConfRIdeal.main_arg1)) (m ((c.tc : Thread Cert.ConfRIdeal.nD Cert.ConfRIdeal.τ).loc Cert.ConfRIdeal.main_arg2)) (m ((c.tc : Thread Cert.ConfRIdeal.nD Cert.ConfRIdeal.τ).loc Cert.ConfRIdeal.main_arg3)) (m ((c.tc : Thread Cert.ConfRIdeal.nD Cert.ConfRIdeal.τ).loc Cert.ConfRIdeal.main_arg4)) (m ((c.tc : Thread Cert.ConfRIdeal.nD Cert.ConfRIdeal.τ).loc Cert.ConfRIdeal.main_arg5)) (m ((c.tc : Thread Cert.ConfRIdeal.nD Cert.ConfRIdeal.τ).loc Cert.ConfRIdeal.main_arg6)) (m ((c.tc : Thread Cert.ConfRIdeal.nD Cert.ConfRIdeal.τ).loc Cert.ConfRIdeal.main_arg7))).2.2.2.2.1 = (fun _ => 1#1)
    ∧ (Cert.Pre_finite_conf.fn (F := Ideal) (m ((c.tc : Thread Cert.ConfRIdeal.nD Cert.ConfRIdeal.τ).loc Cert.ConfRIdeal.main_arg0)) (m ((c.tc : Thread Cert.ConfRIdeal.nD Cert.ConfRIdeal.τ).loc Cert.ConfRIdeal.main_arg1)) (m ((c.tc : Thread Cert.ConfRIdeal.nD Cert.ConfRIdeal.τ).loc Cert.ConfRIdeal.main_arg2)) (m ((c.tc : Thread Cert.ConfRIdeal.nD Cert.ConfRIdeal.τ).loc Cert.ConfRIdeal.main_arg3)) (m ((c.tc : Thread Cert.ConfRIdeal.nD Cert.ConfRIdeal.τ).loc Cert.ConfRIdeal.main_arg4)) (m ((c.tc : Thread Cert.ConfRIdeal.nD Cert.ConfRIdeal.τ).loc Cert.ConfRIdeal.main_arg5)) (m ((c.tc : Thread Cert.ConfRIdeal.nD Cert.ConfRIdeal.τ).loc Cert.ConfRIdeal.main_arg6)) (m ((c.tc : Thread Cert.ConfRIdeal.nD Cert.ConfRIdeal.τ).loc Cert.ConfRIdeal.main_arg7))).2.2.2.2.2 = (fun _ => 1#1)

def quiescent_FfnK [hFfnK : Cert.FfnK.Facts] : Prop :=
  ∀ (m : (ℓ : Loc Cert.FfnK.nD Cert.FfnK.τ Cert.FfnK.sig) → Buf (Elt Bits) ℓ) (g : Dev Cert.FfnK.nD → PrngReg), Pre_FfnK m →
    θ_run (Cert.FfnK.defs (F := Bits)) (onTc (τ := Cert.FfnK.τ) (Cert.FfnK.main (F := Bits))) ⟨m, fun _ => 0, g⟩ (fun r => (∀ c : Dev Cert.FfnK.nD,
      r.2.mem ((c.tc : Thread Cert.FfnK.nD Cert.FfnK.τ).loc Cert.FfnK.main_arg0) = m ((c.tc : Thread Cert.FfnK.nD Cert.FfnK.τ).loc Cert.FfnK.main_arg0)
      ∧ r.2.mem ((c.tc : Thread Cert.FfnK.nD Cert.FfnK.τ).loc Cert.FfnK.main_arg1) = m ((c.tc : Thread Cert.FfnK.nD Cert.FfnK.τ).loc Cert.FfnK.main_arg1)
      ∧ r.2.mem ((c.tc : Thread Cert.FfnK.nD Cert.FfnK.τ).loc Cert.FfnK.main_arg2) = m ((c.tc : Thread Cert.FfnK.nD Cert.FfnK.τ).loc Cert.FfnK.main_arg2)
      ∧ r.2.mem ((c.tc : Thread Cert.FfnK.nD Cert.FfnK.τ).loc Cert.FfnK.main_arg3) = m ((c.tc : Thread Cert.FfnK.nD Cert.FfnK.τ).loc Cert.FfnK.main_arg3))
      ∧ r.2.sem = fun _ => 0)

def quiescent_FfnKIdeal [hFfnKIdeal : Cert.FfnKIdeal.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3))
      ∧ r.2.sem = fun _ => 0)

def quiescent_FfnKIdeal_pre_finite [hFfnKIdeal : Cert.FfnKIdeal.Facts] [hPre_finite : Cert.Pre_finite.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal_finite m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3))
      ∧ r.2.sem = fun _ => 0)

def quiescent_FfnRIdeal [hFfnRIdeal : Cert.FfnRIdeal.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3))
      ∧ r.2.sem = fun _ => 0)

def quiescent_FfnRIdeal_pre_finite [hFfnRIdeal : Cert.FfnRIdeal.Facts] [hPre_finite : Cert.Pre_finite.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal_finite m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3))
      ∧ r.2.sem = fun _ => 0)

def quiescent_DwdownK [hDwdownK : Cert.DwdownK.Facts] : Prop :=
  ∀ (m : (ℓ : Loc Cert.DwdownK.nD Cert.DwdownK.τ Cert.DwdownK.sig) → Buf (Elt Bits) ℓ) (g : Dev Cert.DwdownK.nD → PrngReg), Pre_DwdownK m →
    θ_run (Cert.DwdownK.defs (F := Bits)) (onTc (τ := Cert.DwdownK.τ) (Cert.DwdownK.main (F := Bits))) ⟨m, fun _ => 0, g⟩ (fun r => (∀ c : Dev Cert.DwdownK.nD,
      r.2.mem ((c.tc : Thread Cert.DwdownK.nD Cert.DwdownK.τ).loc Cert.DwdownK.main_arg0) = m ((c.tc : Thread Cert.DwdownK.nD Cert.DwdownK.τ).loc Cert.DwdownK.main_arg0)
      ∧ r.2.mem ((c.tc : Thread Cert.DwdownK.nD Cert.DwdownK.τ).loc Cert.DwdownK.main_arg1) = m ((c.tc : Thread Cert.DwdownK.nD Cert.DwdownK.τ).loc Cert.DwdownK.main_arg1))
      ∧ r.2.sem = fun _ => 0)

def quiescent_DwdownKIdeal [hDwdownKIdeal : Cert.DwdownKIdeal.Facts] : Prop :=
  ∀ (m : (ℓ : Loc Cert.DwdownKIdeal.nD Cert.DwdownKIdeal.τ Cert.DwdownKIdeal.sig) → Buf (Elt Ideal) ℓ) (g : Dev Cert.DwdownKIdeal.nD → PrngReg), Pre_DwdownKIdeal m →
    θ_run (Cert.DwdownKIdeal.defs (F := Ideal)) (onTc (τ := Cert.DwdownKIdeal.τ) (Cert.DwdownKIdeal.main (F := Ideal))) ⟨m, fun _ => 0, g⟩ (fun r => (∀ c : Dev Cert.DwdownKIdeal.nD,
      r.2.mem ((c.tc : Thread Cert.DwdownKIdeal.nD Cert.DwdownKIdeal.τ).loc Cert.DwdownKIdeal.main_arg0) = m ((c.tc : Thread Cert.DwdownKIdeal.nD Cert.DwdownKIdeal.τ).loc Cert.DwdownKIdeal.main_arg0)
      ∧ r.2.mem ((c.tc : Thread Cert.DwdownKIdeal.nD Cert.DwdownKIdeal.τ).loc Cert.DwdownKIdeal.main_arg1) = m ((c.tc : Thread Cert.DwdownKIdeal.nD Cert.DwdownKIdeal.τ).loc Cert.DwdownKIdeal.main_arg1))
      ∧ r.2.sem = fun _ => 0)

def quiescent_DwdownRIdeal [hDwdownRIdeal : Cert.DwdownRIdeal.Facts] : Prop :=
  ∀ (m : (ℓ : Loc Cert.DwdownRIdeal.nD Cert.DwdownRIdeal.τ Cert.DwdownRIdeal.sig) → Buf (Elt Ideal) ℓ) (g : Dev Cert.DwdownRIdeal.nD → PrngReg), Pre_DwdownRIdeal m →
    θ_run (Cert.DwdownRIdeal.defs (F := Ideal)) (onTc (τ := Cert.DwdownRIdeal.τ) (Cert.DwdownRIdeal.main (F := Ideal))) ⟨m, fun _ => 0, g⟩ (fun r => (∀ c : Dev Cert.DwdownRIdeal.nD,
      r.2.mem ((c.tc : Thread Cert.DwdownRIdeal.nD Cert.DwdownRIdeal.τ).loc Cert.DwdownRIdeal.main_arg0) = m ((c.tc : Thread Cert.DwdownRIdeal.nD Cert.DwdownRIdeal.τ).loc Cert.DwdownRIdeal.main_arg0)
      ∧ r.2.mem ((c.tc : Thread Cert.DwdownRIdeal.nD Cert.DwdownRIdeal.τ).loc Cert.DwdownRIdeal.main_arg1) = m ((c.tc : Thread Cert.DwdownRIdeal.nD Cert.DwdownRIdeal.τ).loc Cert.DwdownRIdeal.main_arg1))
      ∧ r.2.sem = fun _ => 0)

def quiescent_DwupK [hDwupK : Cert.DwupK.Facts] : Prop :=
  ∀ (m : (ℓ : Loc Cert.DwupK.nD Cert.DwupK.τ Cert.DwupK.sig) → Buf (Elt Bits) ℓ) (g : Dev Cert.DwupK.nD → PrngReg), Pre_DwupK m →
    θ_run (Cert.DwupK.defs (F := Bits)) (onTc (τ := Cert.DwupK.τ) (Cert.DwupK.main (F := Bits))) ⟨m, fun _ => 0, g⟩ (fun r => (∀ c : Dev Cert.DwupK.nD,
      r.2.mem ((c.tc : Thread Cert.DwupK.nD Cert.DwupK.τ).loc Cert.DwupK.main_arg0) = m ((c.tc : Thread Cert.DwupK.nD Cert.DwupK.τ).loc Cert.DwupK.main_arg0)
      ∧ r.2.mem ((c.tc : Thread Cert.DwupK.nD Cert.DwupK.τ).loc Cert.DwupK.main_arg1) = m ((c.tc : Thread Cert.DwupK.nD Cert.DwupK.τ).loc Cert.DwupK.main_arg1))
      ∧ r.2.sem = fun _ => 0)

def quiescent_DwupKIdeal [hDwupKIdeal : Cert.DwupKIdeal.Facts] : Prop :=
  ∀ (m : (ℓ : Loc Cert.DwupKIdeal.nD Cert.DwupKIdeal.τ Cert.DwupKIdeal.sig) → Buf (Elt Ideal) ℓ) (g : Dev Cert.DwupKIdeal.nD → PrngReg), Pre_DwupKIdeal m →
    θ_run (Cert.DwupKIdeal.defs (F := Ideal)) (onTc (τ := Cert.DwupKIdeal.τ) (Cert.DwupKIdeal.main (F := Ideal))) ⟨m, fun _ => 0, g⟩ (fun r => (∀ c : Dev Cert.DwupKIdeal.nD,
      r.2.mem ((c.tc : Thread Cert.DwupKIdeal.nD Cert.DwupKIdeal.τ).loc Cert.DwupKIdeal.main_arg0) = m ((c.tc : Thread Cert.DwupKIdeal.nD Cert.DwupKIdeal.τ).loc Cert.DwupKIdeal.main_arg0)
      ∧ r.2.mem ((c.tc : Thread Cert.DwupKIdeal.nD Cert.DwupKIdeal.τ).loc Cert.DwupKIdeal.main_arg1) = m ((c.tc : Thread Cert.DwupKIdeal.nD Cert.DwupKIdeal.τ).loc Cert.DwupKIdeal.main_arg1))
      ∧ r.2.sem = fun _ => 0)

def quiescent_DwupRIdeal [hDwupRIdeal : Cert.DwupRIdeal.Facts] : Prop :=
  ∀ (m : (ℓ : Loc Cert.DwupRIdeal.nD Cert.DwupRIdeal.τ Cert.DwupRIdeal.sig) → Buf (Elt Ideal) ℓ) (g : Dev Cert.DwupRIdeal.nD → PrngReg), Pre_DwupRIdeal m →
    θ_run (Cert.DwupRIdeal.defs (F := Ideal)) (onTc (τ := Cert.DwupRIdeal.τ) (Cert.DwupRIdeal.main (F := Ideal))) ⟨m, fun _ => 0, g⟩ (fun r => (∀ c : Dev Cert.DwupRIdeal.nD,
      r.2.mem ((c.tc : Thread Cert.DwupRIdeal.nD Cert.DwupRIdeal.τ).loc Cert.DwupRIdeal.main_arg0) = m ((c.tc : Thread Cert.DwupRIdeal.nD Cert.DwupRIdeal.τ).loc Cert.DwupRIdeal.main_arg0)
      ∧ r.2.mem ((c.tc : Thread Cert.DwupRIdeal.nD Cert.DwupRIdeal.τ).loc Cert.DwupRIdeal.main_arg1) = m ((c.tc : Thread Cert.DwupRIdeal.nD Cert.DwupRIdeal.τ).loc Cert.DwupRIdeal.main_arg1))
      ∧ r.2.sem = fun _ => 0)

def quiescent_DactK [hDactK : Cert.DactK.Facts] : Prop :=
  ∀ (m : (ℓ : Loc Cert.DactK.nD Cert.DactK.τ Cert.DactK.sig) → Buf (Elt Bits) ℓ) (g : Dev Cert.DactK.nD → PrngReg), Pre_DactK m →
    θ_run (Cert.DactK.defs (F := Bits)) (onTc (τ := Cert.DactK.τ) (Cert.DactK.main (F := Bits))) ⟨m, fun _ => 0, g⟩ (fun r => (∀ c : Dev Cert.DactK.nD,
      r.2.mem ((c.tc : Thread Cert.DactK.nD Cert.DactK.τ).loc Cert.DactK.main_arg0) = m ((c.tc : Thread Cert.DactK.nD Cert.DactK.τ).loc Cert.DactK.main_arg0)
      ∧ r.2.mem ((c.tc : Thread Cert.DactK.nD Cert.DactK.τ).loc Cert.DactK.main_arg1) = m ((c.tc : Thread Cert.DactK.nD Cert.DactK.τ).loc Cert.DactK.main_arg1))
      ∧ r.2.sem = fun _ => 0)

def quiescent_DactKIdeal [hDactKIdeal : Cert.DactKIdeal.Facts] : Prop :=
  ∀ (m : (ℓ : Loc Cert.DactKIdeal.nD Cert.DactKIdeal.τ Cert.DactKIdeal.sig) → Buf (Elt Ideal) ℓ) (g : Dev Cert.DactKIdeal.nD → PrngReg), Pre_DactKIdeal m →
    θ_run (Cert.DactKIdeal.defs (F := Ideal)) (onTc (τ := Cert.DactKIdeal.τ) (Cert.DactKIdeal.main (F := Ideal))) ⟨m, fun _ => 0, g⟩ (fun r => (∀ c : Dev Cert.DactKIdeal.nD,
      r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
      ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1))
      ∧ r.2.sem = fun _ => 0)

def quiescent_DactRIdeal [hDactRIdeal : Cert.DactRIdeal.Facts] : Prop :=
  ∀ (m : (ℓ : Loc Cert.DactRIdeal.nD Cert.DactRIdeal.τ Cert.DactRIdeal.sig) → Buf (Elt Ideal) ℓ) (g : Dev Cert.DactRIdeal.nD → PrngReg), Pre_DactRIdeal m →
    θ_run (Cert.DactRIdeal.defs (F := Ideal)) (onTc (τ := Cert.DactRIdeal.τ) (Cert.DactRIdeal.main (F := Ideal))) ⟨m, fun _ => 0, g⟩ (fun r => (∀ c : Dev Cert.DactRIdeal.nD,
      r.2.mem ((c.tc : Thread Cert.DactRIdeal.nD Cert.DactRIdeal.τ).loc Cert.DactRIdeal.main_arg0) = m ((c.tc : Thread Cert.DactRIdeal.nD Cert.DactRIdeal.τ).loc Cert.DactRIdeal.main_arg0)
      ∧ r.2.mem ((c.tc : Thread Cert.DactRIdeal.nD Cert.DactRIdeal.τ).loc Cert.DactRIdeal.main_arg1) = m ((c.tc : Thread Cert.DactRIdeal.nD Cert.DactRIdeal.τ).loc Cert.DactRIdeal.main_arg1))
      ∧ r.2.sem = fun _ => 0)

def quiescent_DwinK [hDwinK : Cert.DwinK.Facts] : Prop :=
  ∀ (m : (ℓ : Loc Cert.DwinK.nD Cert.DwinK.τ Cert.DwinK.sig) → Buf (Elt Bits) ℓ) (g : Dev Cert.DwinK.nD → PrngReg), Pre_DwinK m →
    θ_run (Cert.DwinK.defs (F := Bits)) (onTc (τ := Cert.DwinK.τ) (Cert.DwinK.main (F := Bits))) ⟨m, fun _ => 0, g⟩ (fun r => (∀ c : Dev Cert.DwinK.nD,
      r.2.mem ((c.tc : Thread Cert.DwinK.nD Cert.DwinK.τ).loc Cert.DwinK.main_arg0) = m ((c.tc : Thread Cert.DwinK.nD Cert.DwinK.τ).loc Cert.DwinK.main_arg0)
      ∧ r.2.mem ((c.tc : Thread Cert.DwinK.nD Cert.DwinK.τ).loc Cert.DwinK.main_arg1) = m ((c.tc : Thread Cert.DwinK.nD Cert.DwinK.τ).loc Cert.DwinK.main_arg1))
      ∧ r.2.sem = fun _ => 0)

def quiescent_DwinKIdeal [hDwinKIdeal : Cert.DwinKIdeal.Facts] : Prop :=
  ∀ (m : (ℓ : Loc Cert.DwinKIdeal.nD Cert.DwinKIdeal.τ Cert.DwinKIdeal.sig) → Buf (Elt Ideal) ℓ) (g : Dev Cert.DwinKIdeal.nD → PrngReg), Pre_DwinKIdeal m →
    θ_run (Cert.DwinKIdeal.defs (F := Ideal)) (onTc (τ := Cert.DwinKIdeal.τ) (Cert.DwinKIdeal.main (F := Ideal))) ⟨m, fun _ => 0, g⟩ (fun r => (∀ c : Dev Cert.DwinKIdeal.nD,
      r.2.mem ((c.tc : Thread Cert.DwinKIdeal.nD Cert.DwinKIdeal.τ).loc Cert.DwinKIdeal.main_arg0) = m ((c.tc : Thread Cert.DwinKIdeal.nD Cert.DwinKIdeal.τ).loc Cert.DwinKIdeal.main_arg0)
      ∧ r.2.mem ((c.tc : Thread Cert.DwinKIdeal.nD Cert.DwinKIdeal.τ).loc Cert.DwinKIdeal.main_arg1) = m ((c.tc : Thread Cert.DwinKIdeal.nD Cert.DwinKIdeal.τ).loc Cert.DwinKIdeal.main_arg1))
      ∧ r.2.sem = fun _ => 0)

def quiescent_DwinRIdeal [hDwinRIdeal : Cert.DwinRIdeal.Facts] : Prop :=
  ∀ (m : (ℓ : Loc Cert.DwinRIdeal.nD Cert.DwinRIdeal.τ Cert.DwinRIdeal.sig) → Buf (Elt Ideal) ℓ) (g : Dev Cert.DwinRIdeal.nD → PrngReg), Pre_DwinRIdeal m →
    θ_run (Cert.DwinRIdeal.defs (F := Ideal)) (onTc (τ := Cert.DwinRIdeal.τ) (Cert.DwinRIdeal.main (F := Ideal))) ⟨m, fun _ => 0, g⟩ (fun r => (∀ c : Dev Cert.DwinRIdeal.nD,
      r.2.mem ((c.tc : Thread Cert.DwinRIdeal.nD Cert.DwinRIdeal.τ).loc Cert.DwinRIdeal.main_arg0) = m ((c.tc : Thread Cert.DwinRIdeal.nD Cert.DwinRIdeal.τ).loc Cert.DwinRIdeal.main_arg0)
      ∧ r.2.mem ((c.tc : Thread Cert.DwinRIdeal.nD Cert.DwinRIdeal.τ).loc Cert.DwinRIdeal.main_arg1) = m ((c.tc : Thread Cert.DwinRIdeal.nD Cert.DwinRIdeal.τ).loc Cert.DwinRIdeal.main_arg1))
      ∧ r.2.sem = fun _ => 0)

def quiescent_DhgK [hDhgK : Cert.DhgK.Facts] : Prop :=
  ∀ (m : (ℓ : Loc Cert.DhgK.nD Cert.DhgK.τ Cert.DhgK.sig) → Buf (Elt Bits) ℓ) (g : Dev Cert.DhgK.nD → PrngReg), Pre_DhgK m →
    θ_run (Cert.DhgK.defs (F := Bits)) (onTc (τ := Cert.DhgK.τ) (Cert.DhgK.main (F := Bits))) ⟨m, fun _ => 0, g⟩ (fun r => (∀ c : Dev Cert.DhgK.nD,
      r.2.mem ((c.tc : Thread Cert.DhgK.nD Cert.DhgK.τ).loc Cert.DhgK.main_arg0) = m ((c.tc : Thread Cert.DhgK.nD Cert.DhgK.τ).loc Cert.DhgK.main_arg0)
      ∧ r.2.mem ((c.tc : Thread Cert.DhgK.nD Cert.DhgK.τ).loc Cert.DhgK.main_arg1) = m ((c.tc : Thread Cert.DhgK.nD Cert.DhgK.τ).loc Cert.DhgK.main_arg1))
      ∧ r.2.sem = fun _ => 0)

def quiescent_DhgKIdeal [hDhgKIdeal : Cert.DhgKIdeal.Facts] : Prop :=
  ∀ (m : (ℓ : Loc Cert.DhgKIdeal.nD Cert.DhgKIdeal.τ Cert.DhgKIdeal.sig) → Buf (Elt Ideal) ℓ) (g : Dev Cert.DhgKIdeal.nD → PrngReg), Pre_DhgKIdeal m →
    θ_run (Cert.DhgKIdeal.defs (F := Ideal)) (onTc (τ := Cert.DhgKIdeal.τ) (Cert.DhgKIdeal.main (F := Ideal))) ⟨m, fun _ => 0, g⟩ (fun r => (∀ c : Dev Cert.DhgKIdeal.nD,
      r.2.mem ((c.tc : Thread Cert.DhgKIdeal.nD Cert.DhgKIdeal.τ).loc Cert.DhgKIdeal.main_arg0) = m ((c.tc : Thread Cert.DhgKIdeal.nD Cert.DhgKIdeal.τ).loc Cert.DhgKIdeal.main_arg0)
      ∧ r.2.mem ((c.tc : Thread Cert.DhgKIdeal.nD Cert.DhgKIdeal.τ).loc Cert.DhgKIdeal.main_arg1) = m ((c.tc : Thread Cert.DhgKIdeal.nD Cert.DhgKIdeal.τ).loc Cert.DhgKIdeal.main_arg1))
      ∧ r.2.sem = fun _ => 0)

def quiescent_DhgRIdeal [hDhgRIdeal : Cert.DhgRIdeal.Facts] : Prop :=
  ∀ (m : (ℓ : Loc Cert.DhgRIdeal.nD Cert.DhgRIdeal.τ Cert.DhgRIdeal.sig) → Buf (Elt Ideal) ℓ) (g : Dev Cert.DhgRIdeal.nD → PrngReg), Pre_DhgRIdeal m →
    θ_run (Cert.DhgRIdeal.defs (F := Ideal)) (onTc (τ := Cert.DhgRIdeal.τ) (Cert.DhgRIdeal.main (F := Ideal))) ⟨m, fun _ => 0, g⟩ (fun r => (∀ c : Dev Cert.DhgRIdeal.nD,
      r.2.mem ((c.tc : Thread Cert.DhgRIdeal.nD Cert.DhgRIdeal.τ).loc Cert.DhgRIdeal.main_arg0) = m ((c.tc : Thread Cert.DhgRIdeal.nD Cert.DhgRIdeal.τ).loc Cert.DhgRIdeal.main_arg0)
      ∧ r.2.mem ((c.tc : Thread Cert.DhgRIdeal.nD Cert.DhgRIdeal.τ).loc Cert.DhgRIdeal.main_arg1) = m ((c.tc : Thread Cert.DhgRIdeal.nD Cert.DhgRIdeal.τ).loc Cert.DhgRIdeal.main_arg1))
      ∧ r.2.sem = fun _ => 0)

def quiescent_DhuK [hDhuK : Cert.DhuK.Facts] : Prop :=
  ∀ (m : (ℓ : Loc Cert.DhuK.nD Cert.DhuK.τ Cert.DhuK.sig) → Buf (Elt Bits) ℓ) (g : Dev Cert.DhuK.nD → PrngReg), Pre_DhuK m →
    θ_run (Cert.DhuK.defs (F := Bits)) (onTc (τ := Cert.DhuK.τ) (Cert.DhuK.main (F := Bits))) ⟨m, fun _ => 0, g⟩ (fun r => (∀ c : Dev Cert.DhuK.nD,
      r.2.mem ((c.tc : Thread Cert.DhuK.nD Cert.DhuK.τ).loc Cert.DhuK.main_arg0) = m ((c.tc : Thread Cert.DhuK.nD Cert.DhuK.τ).loc Cert.DhuK.main_arg0)
      ∧ r.2.mem ((c.tc : Thread Cert.DhuK.nD Cert.DhuK.τ).loc Cert.DhuK.main_arg1) = m ((c.tc : Thread Cert.DhuK.nD Cert.DhuK.τ).loc Cert.DhuK.main_arg1)
      ∧ r.2.mem ((c.tc : Thread Cert.DhuK.nD Cert.DhuK.τ).loc Cert.DhuK.main_arg2) = m ((c.tc : Thread Cert.DhuK.nD Cert.DhuK.τ).loc Cert.DhuK.main_arg2))
      ∧ r.2.sem = fun _ => 0)

def quiescent_DhuKIdeal [hDhuKIdeal : Cert.DhuKIdeal.Facts] : Prop :=
  ∀ (m : (ℓ : Loc Cert.DhuKIdeal.nD Cert.DhuKIdeal.τ Cert.DhuKIdeal.sig) → Buf (Elt Ideal) ℓ) (g : Dev Cert.DhuKIdeal.nD → PrngReg), Pre_DhuKIdeal m →
    θ_run (Cert.DhuKIdeal.defs (F := Ideal)) (onTc (τ := Cert.DhuKIdeal.τ) (Cert.DhuKIdeal.main (F := Ideal))) ⟨m, fun _ => 0, g⟩ (fun r => (∀ c : Dev Cert.DhuKIdeal.nD,
      r.2.mem ((c.tc : Thread Cert.DhuKIdeal.nD Cert.DhuKIdeal.τ).loc Cert.DhuKIdeal.main_arg0) = m ((c.tc : Thread Cert.DhuKIdeal.nD Cert.DhuKIdeal.τ).loc Cert.DhuKIdeal.main_arg0)
      ∧ r.2.mem ((c.tc : Thread Cert.DhuKIdeal.nD Cert.DhuKIdeal.τ).loc Cert.DhuKIdeal.main_arg1) = m ((c.tc : Thread Cert.DhuKIdeal.nD Cert.DhuKIdeal.τ).loc Cert.DhuKIdeal.main_arg1)
      ∧ r.2.mem ((c.tc : Thread Cert.DhuKIdeal.nD Cert.DhuKIdeal.τ).loc Cert.DhuKIdeal.main_arg2) = m ((c.tc : Thread Cert.DhuKIdeal.nD Cert.DhuKIdeal.τ).loc Cert.DhuKIdeal.main_arg2))
      ∧ r.2.sem = fun _ => 0)

def quiescent_DhuRIdeal [hDhuRIdeal : Cert.DhuRIdeal.Facts] : Prop :=
  ∀ (m : (ℓ : Loc Cert.DhuRIdeal.nD Cert.DhuRIdeal.τ Cert.DhuRIdeal.sig) → Buf (Elt Ideal) ℓ) (g : Dev Cert.DhuRIdeal.nD → PrngReg), Pre_DhuRIdeal m →
    θ_run (Cert.DhuRIdeal.defs (F := Ideal)) (onTc (τ := Cert.DhuRIdeal.τ) (Cert.DhuRIdeal.main (F := Ideal))) ⟨m, fun _ => 0, g⟩ (fun r => (∀ c : Dev Cert.DhuRIdeal.nD,
      r.2.mem ((c.tc : Thread Cert.DhuRIdeal.nD Cert.DhuRIdeal.τ).loc Cert.DhuRIdeal.main_arg0) = m ((c.tc : Thread Cert.DhuRIdeal.nD Cert.DhuRIdeal.τ).loc Cert.DhuRIdeal.main_arg0)
      ∧ r.2.mem ((c.tc : Thread Cert.DhuRIdeal.nD Cert.DhuRIdeal.τ).loc Cert.DhuRIdeal.main_arg1) = m ((c.tc : Thread Cert.DhuRIdeal.nD Cert.DhuRIdeal.τ).loc Cert.DhuRIdeal.main_arg1)
      ∧ r.2.mem ((c.tc : Thread Cert.DhuRIdeal.nD Cert.DhuRIdeal.τ).loc Cert.DhuRIdeal.main_arg2) = m ((c.tc : Thread Cert.DhuRIdeal.nD Cert.DhuRIdeal.τ).loc Cert.DhuRIdeal.main_arg2))
      ∧ r.2.sem = fun _ => 0)

def quiescent_DhK [hDhK : Cert.DhK.Facts] : Prop :=
  ∀ (m : (ℓ : Loc Cert.DhK.nD Cert.DhK.τ Cert.DhK.sig) → Buf (Elt Bits) ℓ) (g : Dev Cert.DhK.nD → PrngReg), Pre_DhK m →
    θ_run (Cert.DhK.defs (F := Bits)) (onTc (τ := Cert.DhK.τ) (Cert.DhK.main (F := Bits))) ⟨m, fun _ => 0, g⟩ (fun r => (∀ c : Dev Cert.DhK.nD,
      r.2.mem ((c.tc : Thread Cert.DhK.nD Cert.DhK.τ).loc Cert.DhK.main_arg0) = m ((c.tc : Thread Cert.DhK.nD Cert.DhK.τ).loc Cert.DhK.main_arg0)
      ∧ r.2.mem ((c.tc : Thread Cert.DhK.nD Cert.DhK.τ).loc Cert.DhK.main_arg1) = m ((c.tc : Thread Cert.DhK.nD Cert.DhK.τ).loc Cert.DhK.main_arg1))
      ∧ r.2.sem = fun _ => 0)

def quiescent_DhKIdeal [hDhKIdeal : Cert.DhKIdeal.Facts] : Prop :=
  ∀ (m : (ℓ : Loc Cert.DhKIdeal.nD Cert.DhKIdeal.τ Cert.DhKIdeal.sig) → Buf (Elt Ideal) ℓ) (g : Dev Cert.DhKIdeal.nD → PrngReg), Pre_DhKIdeal m →
    θ_run (Cert.DhKIdeal.defs (F := Ideal)) (onTc (τ := Cert.DhKIdeal.τ) (Cert.DhKIdeal.main (F := Ideal))) ⟨m, fun _ => 0, g⟩ (fun r => (∀ c : Dev Cert.DhKIdeal.nD,
      r.2.mem ((c.tc : Thread Cert.DhKIdeal.nD Cert.DhKIdeal.τ).loc Cert.DhKIdeal.main_arg0) = m ((c.tc : Thread Cert.DhKIdeal.nD Cert.DhKIdeal.τ).loc Cert.DhKIdeal.main_arg0)
      ∧ r.2.mem ((c.tc : Thread Cert.DhKIdeal.nD Cert.DhKIdeal.τ).loc Cert.DhKIdeal.main_arg1) = m ((c.tc : Thread Cert.DhKIdeal.nD Cert.DhKIdeal.τ).loc Cert.DhKIdeal.main_arg1))
      ∧ r.2.sem = fun _ => 0)

def quiescent_DhRIdeal [hDhRIdeal : Cert.DhRIdeal.Facts] : Prop :=
  ∀ (m : (ℓ : Loc Cert.DhRIdeal.nD Cert.DhRIdeal.τ Cert.DhRIdeal.sig) → Buf (Elt Ideal) ℓ) (g : Dev Cert.DhRIdeal.nD → PrngReg), Pre_DhRIdeal m →
    θ_run (Cert.DhRIdeal.defs (F := Ideal)) (onTc (τ := Cert.DhRIdeal.τ) (Cert.DhRIdeal.main (F := Ideal))) ⟨m, fun _ => 0, g⟩ (fun r => (∀ c : Dev Cert.DhRIdeal.nD,
      r.2.mem ((c.tc : Thread Cert.DhRIdeal.nD Cert.DhRIdeal.τ).loc Cert.DhRIdeal.main_arg0) = m ((c.tc : Thread Cert.DhRIdeal.nD Cert.DhRIdeal.τ).loc Cert.DhRIdeal.main_arg0)
      ∧ r.2.mem ((c.tc : Thread Cert.DhRIdeal.nD Cert.DhRIdeal.τ).loc Cert.DhRIdeal.main_arg1) = m ((c.tc : Thread Cert.DhRIdeal.nD Cert.DhRIdeal.τ).loc Cert.DhRIdeal.main_arg1))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1))
      ∧ r.2.sem = fun _ => 0)

def quiescent_DownK [hDownK : Cert.DownK.Facts] : Prop :=
  ∀ (m : (ℓ : Loc Cert.DownK.nD Cert.DownK.τ Cert.DownK.sig) → Buf (Elt Bits) ℓ) (g : Dev Cert.DownK.nD → PrngReg), Pre_DownK m →
    θ_run (Cert.DownK.defs (F := Bits)) (onTc (τ := Cert.DownK.τ) (Cert.DownK.main (F := Bits))) ⟨m, fun _ => 0, g⟩ (fun r => (∀ c : Dev Cert.DownK.nD,
      r.2.mem ((c.tc : Thread Cert.DownK.nD Cert.DownK.τ).loc Cert.DownK.main_arg0) = m ((c.tc : Thread Cert.DownK.nD Cert.DownK.τ).loc Cert.DownK.main_arg0)
      ∧ r.2.mem ((c.tc : Thread Cert.DownK.nD Cert.DownK.τ).loc Cert.DownK.main_arg1) = m ((c.tc : Thread Cert.DownK.nD Cert.DownK.τ).loc Cert.DownK.main_arg1)
      ∧ r.2.mem ((c.tc : Thread Cert.DownK.nD Cert.DownK.τ).loc Cert.DownK.main_arg2) = m ((c.tc : Thread Cert.DownK.nD Cert.DownK.τ).loc Cert.DownK.main_arg2))
      ∧ r.2.sem = fun _ => 0)

def quiescent_DownKIdeal [hDownKIdeal : Cert.DownKIdeal.Facts] : Prop :=
  ∀ (m : (ℓ : Loc Cert.DownKIdeal.nD Cert.DownKIdeal.τ Cert.DownKIdeal.sig) → Buf (Elt Ideal) ℓ) (g : Dev Cert.DownKIdeal.nD → PrngReg), Pre_DownKIdeal m →
    θ_run (Cert.DownKIdeal.defs (F := Ideal)) (onTc (τ := Cert.DownKIdeal.τ) (Cert.DownKIdeal.main (F := Ideal))) ⟨m, fun _ => 0, g⟩ (fun r => (∀ c : Dev Cert.DownKIdeal.nD,
      r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
      ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
      ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2))
      ∧ r.2.sem = fun _ => 0)

def quiescent_DownRIdeal [hDownRIdeal : Cert.DownRIdeal.Facts] : Prop :=
  ∀ (m : (ℓ : Loc Cert.DownRIdeal.nD Cert.DownRIdeal.τ Cert.DownRIdeal.sig) → Buf (Elt Ideal) ℓ) (g : Dev Cert.DownRIdeal.nD → PrngReg), Pre_DownRIdeal m →
    θ_run (Cert.DownRIdeal.defs (F := Ideal)) (onTc (τ := Cert.DownRIdeal.τ) (Cert.DownRIdeal.main (F := Ideal))) ⟨m, fun _ => 0, g⟩ (fun r => (∀ c : Dev Cert.DownRIdeal.nD,
      r.2.mem ((c.tc : Thread Cert.DownRIdeal.nD Cert.DownRIdeal.τ).loc Cert.DownRIdeal.main_arg0) = m ((c.tc : Thread Cert.DownRIdeal.nD Cert.DownRIdeal.τ).loc Cert.DownRIdeal.main_arg0)
      ∧ r.2.mem ((c.tc : Thread Cert.DownRIdeal.nD Cert.DownRIdeal.τ).loc Cert.DownRIdeal.main_arg1) = m ((c.tc : Thread Cert.DownRIdeal.nD Cert.DownRIdeal.τ).loc Cert.DownRIdeal.main_arg1)
      ∧ r.2.mem ((c.tc : Thread Cert.DownRIdeal.nD Cert.DownRIdeal.τ).loc Cert.DownRIdeal.main_arg2) = m ((c.tc : Thread Cert.DownRIdeal.nD Cert.DownRIdeal.τ).loc Cert.DownRIdeal.main_arg2))
      ∧ r.2.sem = fun _ => 0)

def quiescent_InMainK [hInMainK : Cert.InMainK.Facts] : Prop :=
  ∀ (m : (ℓ : Loc Cert.InMainK.nD Cert.InMainK.τ Cert.InMainK.sig) → Buf (Elt Bits) ℓ) (g : Dev Cert.InMainK.nD → PrngReg), Pre_InMainK m →
    θ_run (Cert.InMainK.defs (F := Bits)) (onTc (τ := Cert.InMainK.τ) (Cert.InMainK.main (F := Bits))) ⟨m, fun _ => 0, g⟩ (fun r => (∀ c : Dev Cert.InMainK.nD,
      r.2.mem ((c.tc : Thread Cert.InMainK.nD Cert.InMainK.τ).loc Cert.InMainK.main_arg0) = m ((c.tc : Thread Cert.InMainK.nD Cert.InMainK.τ).loc Cert.InMainK.main_arg0)
      ∧ r.2.mem ((c.tc : Thread Cert.InMainK.nD Cert.InMainK.τ).loc Cert.InMainK.main_arg1) = m ((c.tc : Thread Cert.InMainK.nD Cert.InMainK.τ).loc Cert.InMainK.main_arg1))
      ∧ r.2.sem = fun _ => 0)

def quiescent_InMainKIdeal [hInMainKIdeal : Cert.InMainKIdeal.Facts] : Prop :=
  ∀ (m : (ℓ : Loc Cert.InMainKIdeal.nD Cert.InMainKIdeal.τ Cert.InMainKIdeal.sig) → Buf (Elt Ideal) ℓ) (g : Dev Cert.InMainKIdeal.nD → PrngReg), Pre_InMainKIdeal m →
    θ_run (Cert.InMainKIdeal.defs (F := Ideal)) (onTc (τ := Cert.InMainKIdeal.τ) (Cert.InMainKIdeal.main (F := Ideal))) ⟨m, fun _ => 0, g⟩ (fun r => (∀ c : Dev Cert.InMainKIdeal.nD,
      r.2.mem ((c.tc : Thread Cert.InMainKIdeal.nD Cert.InMainKIdeal.τ).loc Cert.InMainKIdeal.main_arg0) = m ((c.tc : Thread Cert.InMainKIdeal.nD Cert.InMainKIdeal.τ).loc Cert.InMainKIdeal.main_arg0)
      ∧ r.2.mem ((c.tc : Thread Cert.InMainKIdeal.nD Cert.InMainKIdeal.τ).loc Cert.InMainKIdeal.main_arg1) = m ((c.tc : Thread Cert.InMainKIdeal.nD Cert.InMainKIdeal.τ).loc Cert.InMainKIdeal.main_arg1))
      ∧ r.2.sem = fun _ => 0)

def quiescent_InMainRIdeal [hInMainRIdeal : Cert.InMainRIdeal.Facts] : Prop :=
  ∀ (m : (ℓ : Loc Cert.InMainRIdeal.nD Cert.InMainRIdeal.τ Cert.InMainRIdeal.sig) → Buf (Elt Ideal) ℓ) (g : Dev Cert.InMainRIdeal.nD → PrngReg), Pre_InMainRIdeal m →
    θ_run (Cert.InMainRIdeal.defs (F := Ideal)) (onTc (τ := Cert.InMainRIdeal.τ) (Cert.InMainRIdeal.main (F := Ideal))) ⟨m, fun _ => 0, g⟩ (fun r => (∀ c : Dev Cert.InMainRIdeal.nD,
      r.2.mem ((c.tc : Thread Cert.InMainRIdeal.nD Cert.InMainRIdeal.τ).loc Cert.InMainRIdeal.main_arg0) = m ((c.tc : Thread Cert.InMainRIdeal.nD Cert.InMainRIdeal.τ).loc Cert.InMainRIdeal.main_arg0)
      ∧ r.2.mem ((c.tc : Thread Cert.InMainRIdeal.nD Cert.InMainRIdeal.τ).loc Cert.InMainRIdeal.main_arg1) = m ((c.tc : Thread Cert.InMainRIdeal.nD Cert.InMainRIdeal.τ).loc Cert.InMainRIdeal.main_arg1))
      ∧ r.2.sem = fun _ => 0)

def quiescent_InBaK [hInBaK : Cert.InBaK.Facts] : Prop :=
  ∀ (m : (ℓ : Loc Cert.InBaK.nD Cert.InBaK.τ Cert.InBaK.sig) → Buf (Elt Bits) ℓ) (g : Dev Cert.InBaK.nD → PrngReg), Pre_InBaK m →
    θ_run (Cert.InBaK.defs (F := Bits)) (onTc (τ := Cert.InBaK.τ) (Cert.InBaK.main (F := Bits))) ⟨m, fun _ => 0, g⟩ (fun r => (∀ c : Dev Cert.InBaK.nD,
      r.2.mem ((c.tc : Thread Cert.InBaK.nD Cert.InBaK.τ).loc Cert.InBaK.main_arg0) = m ((c.tc : Thread Cert.InBaK.nD Cert.InBaK.τ).loc Cert.InBaK.main_arg0)
      ∧ r.2.mem ((c.tc : Thread Cert.InBaK.nD Cert.InBaK.τ).loc Cert.InBaK.main_arg1) = m ((c.tc : Thread Cert.InBaK.nD Cert.InBaK.τ).loc Cert.InBaK.main_arg1))
      ∧ r.2.sem = fun _ => 0)

def quiescent_InBaKIdeal [hInBaKIdeal : Cert.InBaKIdeal.Facts] : Prop :=
  ∀ (m : (ℓ : Loc Cert.InBaKIdeal.nD Cert.InBaKIdeal.τ Cert.InBaKIdeal.sig) → Buf (Elt Ideal) ℓ) (g : Dev Cert.InBaKIdeal.nD → PrngReg), Pre_InBaKIdeal m →
    θ_run (Cert.InBaKIdeal.defs (F := Ideal)) (onTc (τ := Cert.InBaKIdeal.τ) (Cert.InBaKIdeal.main (F := Ideal))) ⟨m, fun _ => 0, g⟩ (fun r => (∀ c : Dev Cert.InBaKIdeal.nD,
      r.2.mem ((c.tc : Thread Cert.InBaKIdeal.nD Cert.InBaKIdeal.τ).loc Cert.InBaKIdeal.main_arg0) = m ((c.tc : Thread Cert.InBaKIdeal.nD Cert.InBaKIdeal.τ).loc Cert.InBaKIdeal.main_arg0)
      ∧ r.2.mem ((c.tc : Thread Cert.InBaKIdeal.nD Cert.InBaKIdeal.τ).loc Cert.InBaKIdeal.main_arg1) = m ((c.tc : Thread Cert.InBaKIdeal.nD Cert.InBaKIdeal.τ).loc Cert.InBaKIdeal.main_arg1))
      ∧ r.2.sem = fun _ => 0)

def quiescent_InBaRIdeal [hInBaRIdeal : Cert.InBaRIdeal.Facts] : Prop :=
  ∀ (m : (ℓ : Loc Cert.InBaRIdeal.nD Cert.InBaRIdeal.τ Cert.InBaRIdeal.sig) → Buf (Elt Ideal) ℓ) (g : Dev Cert.InBaRIdeal.nD → PrngReg), Pre_InBaRIdeal m →
    θ_run (Cert.InBaRIdeal.defs (F := Ideal)) (onTc (τ := Cert.InBaRIdeal.τ) (Cert.InBaRIdeal.main (F := Ideal))) ⟨m, fun _ => 0, g⟩ (fun r => (∀ c : Dev Cert.InBaRIdeal.nD,
      r.2.mem ((c.tc : Thread Cert.InBaRIdeal.nD Cert.InBaRIdeal.τ).loc Cert.InBaRIdeal.main_arg0) = m ((c.tc : Thread Cert.InBaRIdeal.nD Cert.InBaRIdeal.τ).loc Cert.InBaRIdeal.main_arg0)
      ∧ r.2.mem ((c.tc : Thread Cert.InBaRIdeal.nD Cert.InBaRIdeal.τ).loc Cert.InBaRIdeal.main_arg1) = m ((c.tc : Thread Cert.InBaRIdeal.nD Cert.InBaRIdeal.τ).loc Cert.InBaRIdeal.main_arg1))
      ∧ r.2.sem = fun _ => 0)

def quiescent_PwK [hPwK : Cert.PwK.Facts] : Prop :=
  ∀ (m : (ℓ : Loc Cert.PwK.nD Cert.PwK.τ Cert.PwK.sig) → Buf (Elt Bits) ℓ) (g : Dev Cert.PwK.nD → PrngReg), Pre_PwK m →
    θ_run (Cert.PwK.defs (F := Bits)) (onTc (τ := Cert.PwK.τ) (Cert.PwK.main (F := Bits))) ⟨m, fun _ => 0, g⟩ (fun r => (∀ c : Dev Cert.PwK.nD,
      r.2.mem ((c.tc : Thread Cert.PwK.nD Cert.PwK.τ).loc Cert.PwK.main_arg0) = m ((c.tc : Thread Cert.PwK.nD Cert.PwK.τ).loc Cert.PwK.main_arg0)
      ∧ r.2.mem ((c.tc : Thread Cert.PwK.nD Cert.PwK.τ).loc Cert.PwK.main_arg1) = m ((c.tc : Thread Cert.PwK.nD Cert.PwK.τ).loc Cert.PwK.main_arg1)
      ∧ r.2.mem ((c.tc : Thread Cert.PwK.nD Cert.PwK.τ).loc Cert.PwK.main_arg2) = m ((c.tc : Thread Cert.PwK.nD Cert.PwK.τ).loc Cert.PwK.main_arg2))
      ∧ r.2.sem = fun _ => 0)

def quiescent_PwKIdeal [hPwKIdeal : Cert.PwKIdeal.Facts] : Prop :=
  ∀ (m : (ℓ : Loc Cert.PwKIdeal.nD Cert.PwKIdeal.τ Cert.PwKIdeal.sig) → Buf (Elt Ideal) ℓ) (g : Dev Cert.PwKIdeal.nD → PrngReg), Pre_PwKIdeal m →
    θ_run (Cert.PwKIdeal.defs (F := Ideal)) (onTc (τ := Cert.PwKIdeal.τ) (Cert.PwKIdeal.main (F := Ideal))) ⟨m, fun _ => 0, g⟩ (fun r => (∀ c : Dev Cert.PwKIdeal.nD,
      r.2.mem ((c.tc : Thread Cert.PwKIdeal.nD Cert.PwKIdeal.τ).loc Cert.PwKIdeal.main_arg0) = m ((c.tc : Thread Cert.PwKIdeal.nD Cert.PwKIdeal.τ).loc Cert.PwKIdeal.main_arg0)
      ∧ r.2.mem ((c.tc : Thread Cert.PwKIdeal.nD Cert.PwKIdeal.τ).loc Cert.PwKIdeal.main_arg1) = m ((c.tc : Thread Cert.PwKIdeal.nD Cert.PwKIdeal.τ).loc Cert.PwKIdeal.main_arg1)
      ∧ r.2.mem ((c.tc : Thread Cert.PwKIdeal.nD Cert.PwKIdeal.τ).loc Cert.PwKIdeal.main_arg2) = m ((c.tc : Thread Cert.PwKIdeal.nD Cert.PwKIdeal.τ).loc Cert.PwKIdeal.main_arg2))
      ∧ r.2.sem = fun _ => 0)

def quiescent_PwRIdeal [hPwRIdeal : Cert.PwRIdeal.Facts] : Prop :=
  ∀ (m : (ℓ : Loc Cert.PwRIdeal.nD Cert.PwRIdeal.τ Cert.PwRIdeal.sig) → Buf (Elt Ideal) ℓ) (g : Dev Cert.PwRIdeal.nD → PrngReg), Pre_PwRIdeal m →
    θ_run (Cert.PwRIdeal.defs (F := Ideal)) (onTc (τ := Cert.PwRIdeal.τ) (Cert.PwRIdeal.main (F := Ideal))) ⟨m, fun _ => 0, g⟩ (fun r => (∀ c : Dev Cert.PwRIdeal.nD,
      r.2.mem ((c.tc : Thread Cert.PwRIdeal.nD Cert.PwRIdeal.τ).loc Cert.PwRIdeal.main_arg0) = m ((c.tc : Thread Cert.PwRIdeal.nD Cert.PwRIdeal.τ).loc Cert.PwRIdeal.main_arg0)
      ∧ r.2.mem ((c.tc : Thread Cert.PwRIdeal.nD Cert.PwRIdeal.τ).loc Cert.PwRIdeal.main_arg1) = m ((c.tc : Thread Cert.PwRIdeal.nD Cert.PwRIdeal.τ).loc Cert.PwRIdeal.main_arg1)
      ∧ r.2.mem ((c.tc : Thread Cert.PwRIdeal.nD Cert.PwRIdeal.τ).loc Cert.PwRIdeal.main_arg2) = m ((c.tc : Thread Cert.PwRIdeal.nD Cert.PwRIdeal.τ).loc Cert.PwRIdeal.main_arg2))
      ∧ r.2.sem = fun _ => 0)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2))
      ∧ r.2.sem = fun _ => 0)

def quiescent_DoutaK [hDoutaK : Cert.DoutaK.Facts] : Prop :=
  ∀ (m : (ℓ : Loc Cert.DoutaK.nD Cert.DoutaK.τ Cert.DoutaK.sig) → Buf (Elt Bits) ℓ) (g : Dev Cert.DoutaK.nD → PrngReg), Pre_DoutaK m →
    θ_run (Cert.DoutaK.defs (F := Bits)) (onTc (τ := Cert.DoutaK.τ) (Cert.DoutaK.main (F := Bits))) ⟨m, fun _ => 0, g⟩ (fun r => (∀ c : Dev Cert.DoutaK.nD,
      r.2.mem ((c.tc : Thread Cert.DoutaK.nD Cert.DoutaK.τ).loc Cert.DoutaK.main_arg0) = m ((c.tc : Thread Cert.DoutaK.nD Cert.DoutaK.τ).loc Cert.DoutaK.main_arg0)
      ∧ r.2.mem ((c.tc : Thread Cert.DoutaK.nD Cert.DoutaK.τ).loc Cert.DoutaK.main_arg1) = m ((c.tc : Thread Cert.DoutaK.nD Cert.DoutaK.τ).loc Cert.DoutaK.main_arg1))
      ∧ r.2.sem = fun _ => 0)

def quiescent_DoutaKIdeal [hDoutaKIdeal : Cert.DoutaKIdeal.Facts] : Prop :=
  ∀ (m : (ℓ : Loc Cert.DoutaKIdeal.nD Cert.DoutaKIdeal.τ Cert.DoutaKIdeal.sig) → Buf (Elt Ideal) ℓ) (g : Dev Cert.DoutaKIdeal.nD → PrngReg), Pre_DoutaKIdeal m →
    θ_run (Cert.DoutaKIdeal.defs (F := Ideal)) (onTc (τ := Cert.DoutaKIdeal.τ) (Cert.DoutaKIdeal.main (F := Ideal))) ⟨m, fun _ => 0, g⟩ (fun r => (∀ c : Dev Cert.DoutaKIdeal.nD,
      r.2.mem ((c.tc : Thread Cert.DoutaKIdeal.nD Cert.DoutaKIdeal.τ).loc Cert.DoutaKIdeal.main_arg0) = m ((c.tc : Thread Cert.DoutaKIdeal.nD Cert.DoutaKIdeal.τ).loc Cert.DoutaKIdeal.main_arg0)
      ∧ r.2.mem ((c.tc : Thread Cert.DoutaKIdeal.nD Cert.DoutaKIdeal.τ).loc Cert.DoutaKIdeal.main_arg1) = m ((c.tc : Thread Cert.DoutaKIdeal.nD Cert.DoutaKIdeal.τ).loc Cert.DoutaKIdeal.main_arg1))
      ∧ r.2.sem = fun _ => 0)

def quiescent_DoutaRIdeal [hDoutaRIdeal : Cert.DoutaRIdeal.Facts] : Prop :=
  ∀ (m : (ℓ : Loc Cert.DoutaRIdeal.nD Cert.DoutaRIdeal.τ Cert.DoutaRIdeal.sig) → Buf (Elt Ideal) ℓ) (g : Dev Cert.DoutaRIdeal.nD → PrngReg), Pre_DoutaRIdeal m →
    θ_run (Cert.DoutaRIdeal.defs (F := Ideal)) (onTc (τ := Cert.DoutaRIdeal.τ) (Cert.DoutaRIdeal.main (F := Ideal))) ⟨m, fun _ => 0, g⟩ (fun r => (∀ c : Dev Cert.DoutaRIdeal.nD,
      r.2.mem ((c.tc : Thread Cert.DoutaRIdeal.nD Cert.DoutaRIdeal.τ).loc Cert.DoutaRIdeal.main_arg0) = m ((c.tc : Thread Cert.DoutaRIdeal.nD Cert.DoutaRIdeal.τ).loc Cert.DoutaRIdeal.main_arg0)
      ∧ r.2.mem ((c.tc : Thread Cert.DoutaRIdeal.nD Cert.DoutaRIdeal.τ).loc Cert.DoutaRIdeal.main_arg1) = m ((c.tc : Thread Cert.DoutaRIdeal.nD Cert.DoutaRIdeal.τ).loc Cert.DoutaRIdeal.main_arg1))
      ∧ r.2.sem = fun _ => 0)

def quiescent_DoutbK [hDoutbK : Cert.DoutbK.Facts] : Prop :=
  ∀ (m : (ℓ : Loc Cert.DoutbK.nD Cert.DoutbK.τ Cert.DoutbK.sig) → Buf (Elt Bits) ℓ) (g : Dev Cert.DoutbK.nD → PrngReg), Pre_DoutbK m →
    θ_run (Cert.DoutbK.defs (F := Bits)) (onTc (τ := Cert.DoutbK.τ) (Cert.DoutbK.main (F := Bits))) ⟨m, fun _ => 0, g⟩ (fun r => (∀ c : Dev Cert.DoutbK.nD,
      r.2.mem ((c.tc : Thread Cert.DoutbK.nD Cert.DoutbK.τ).loc Cert.DoutbK.main_arg0) = m ((c.tc : Thread Cert.DoutbK.nD Cert.DoutbK.τ).loc Cert.DoutbK.main_arg0)
      ∧ r.2.mem ((c.tc : Thread Cert.DoutbK.nD Cert.DoutbK.τ).loc Cert.DoutbK.main_arg1) = m ((c.tc : Thread Cert.DoutbK.nD Cert.DoutbK.τ).loc Cert.DoutbK.main_arg1))
      ∧ r.2.sem = fun _ => 0)

def quiescent_DoutbKIdeal [hDoutbKIdeal : Cert.DoutbKIdeal.Facts] : Prop :=
  ∀ (m : (ℓ : Loc Cert.DoutbKIdeal.nD Cert.DoutbKIdeal.τ Cert.DoutbKIdeal.sig) → Buf (Elt Ideal) ℓ) (g : Dev Cert.DoutbKIdeal.nD → PrngReg), Pre_DoutbKIdeal m →
    θ_run (Cert.DoutbKIdeal.defs (F := Ideal)) (onTc (τ := Cert.DoutbKIdeal.τ) (Cert.DoutbKIdeal.main (F := Ideal))) ⟨m, fun _ => 0, g⟩ (fun r => (∀ c : Dev Cert.DoutbKIdeal.nD,
      r.2.mem ((c.tc : Thread Cert.DoutbKIdeal.nD Cert.DoutbKIdeal.τ).loc Cert.DoutbKIdeal.main_arg0) = m ((c.tc : Thread Cert.DoutbKIdeal.nD Cert.DoutbKIdeal.τ).loc Cert.DoutbKIdeal.main_arg0)
      ∧ r.2.mem ((c.tc : Thread Cert.DoutbKIdeal.nD Cert.DoutbKIdeal.τ).loc Cert.DoutbKIdeal.main_arg1) = m ((c.tc : Thread Cert.DoutbKIdeal.nD Cert.DoutbKIdeal.τ).loc Cert.DoutbKIdeal.main_arg1))
      ∧ r.2.sem = fun _ => 0)

def quiescent_DoutbRIdeal [hDoutbRIdeal : Cert.DoutbRIdeal.Facts] : Prop :=
  ∀ (m : (ℓ : Loc Cert.DoutbRIdeal.nD Cert.DoutbRIdeal.τ Cert.DoutbRIdeal.sig) → Buf (Elt Ideal) ℓ) (g : Dev Cert.DoutbRIdeal.nD → PrngReg), Pre_DoutbRIdeal m →
    θ_run (Cert.DoutbRIdeal.defs (F := Ideal)) (onTc (τ := Cert.DoutbRIdeal.τ) (Cert.DoutbRIdeal.main (F := Ideal))) ⟨m, fun _ => 0, g⟩ (fun r => (∀ c : Dev Cert.DoutbRIdeal.nD,
      r.2.mem ((c.tc : Thread Cert.DoutbRIdeal.nD Cert.DoutbRIdeal.τ).loc Cert.DoutbRIdeal.main_arg0) = m ((c.tc : Thread Cert.DoutbRIdeal.nD Cert.DoutbRIdeal.τ).loc Cert.DoutbRIdeal.main_arg0)
      ∧ r.2.mem ((c.tc : Thread Cert.DoutbRIdeal.nD Cert.DoutbRIdeal.τ).loc Cert.DoutbRIdeal.main_arg1) = m ((c.tc : Thread Cert.DoutbRIdeal.nD Cert.DoutbRIdeal.τ).loc Cert.DoutbRIdeal.main_arg1))
      ∧ r.2.sem = fun _ => 0)

def quiescent_DwoutK [hDwoutK : Cert.DwoutK.Facts] : Prop :=
  ∀ (m : (ℓ : Loc Cert.DwoutK.nD Cert.DwoutK.τ Cert.DwoutK.sig) → Buf (Elt Bits) ℓ) (g : Dev Cert.DwoutK.nD → PrngReg), Pre_DwoutK m →
    θ_run (Cert.DwoutK.defs (F := Bits)) (onTc (τ := Cert.DwoutK.τ) (Cert.DwoutK.main (F := Bits))) ⟨m, fun _ => 0, g⟩ (fun r => (∀ c : Dev Cert.DwoutK.nD,
      r.2.mem ((c.tc : Thread Cert.DwoutK.nD Cert.DwoutK.τ).loc Cert.DwoutK.main_arg0) = m ((c.tc : Thread Cert.DwoutK.nD Cert.DwoutK.τ).loc Cert.DwoutK.main_arg0)
      ∧ r.2.mem ((c.tc : Thread Cert.DwoutK.nD Cert.DwoutK.τ).loc Cert.DwoutK.main_arg1) = m ((c.tc : Thread Cert.DwoutK.nD Cert.DwoutK.τ).loc Cert.DwoutK.main_arg1))
      ∧ r.2.sem = fun _ => 0)

def quiescent_DwoutKIdeal [hDwoutKIdeal : Cert.DwoutKIdeal.Facts] : Prop :=
  ∀ (m : (ℓ : Loc Cert.DwoutKIdeal.nD Cert.DwoutKIdeal.τ Cert.DwoutKIdeal.sig) → Buf (Elt Ideal) ℓ) (g : Dev Cert.DwoutKIdeal.nD → PrngReg), Pre_DwoutKIdeal m →
    θ_run (Cert.DwoutKIdeal.defs (F := Ideal)) (onTc (τ := Cert.DwoutKIdeal.τ) (Cert.DwoutKIdeal.main (F := Ideal))) ⟨m, fun _ => 0, g⟩ (fun r => (∀ c : Dev Cert.DwoutKIdeal.nD,
      r.2.mem ((c.tc : Thread Cert.DwoutKIdeal.nD Cert.DwoutKIdeal.τ).loc Cert.DwoutKIdeal.main_arg0) = m ((c.tc : Thread Cert.DwoutKIdeal.nD Cert.DwoutKIdeal.τ).loc Cert.DwoutKIdeal.main_arg0)
      ∧ r.2.mem ((c.tc : Thread Cert.DwoutKIdeal.nD Cert.DwoutKIdeal.τ).loc Cert.DwoutKIdeal.main_arg1) = m ((c.tc : Thread Cert.DwoutKIdeal.nD Cert.DwoutKIdeal.τ).loc Cert.DwoutKIdeal.main_arg1))
      ∧ r.2.sem = fun _ => 0)

def quiescent_DwoutRIdeal [hDwoutRIdeal : Cert.DwoutRIdeal.Facts] : Prop :=
  ∀ (m : (ℓ : Loc Cert.DwoutRIdeal.nD Cert.DwoutRIdeal.τ Cert.DwoutRIdeal.sig) → Buf (Elt Ideal) ℓ) (g : Dev Cert.DwoutRIdeal.nD → PrngReg), Pre_DwoutRIdeal m →
    θ_run (Cert.DwoutRIdeal.defs (F := Ideal)) (onTc (τ := Cert.DwoutRIdeal.τ) (Cert.DwoutRIdeal.main (F := Ideal))) ⟨m, fun _ => 0, g⟩ (fun r => (∀ c : Dev Cert.DwoutRIdeal.nD,
      r.2.mem ((c.tc : Thread Cert.DwoutRIdeal.nD Cert.DwoutRIdeal.τ).loc Cert.DwoutRIdeal.main_arg0) = m ((c.tc : Thread Cert.DwoutRIdeal.nD Cert.DwoutRIdeal.τ).loc Cert.DwoutRIdeal.main_arg0)
      ∧ r.2.mem ((c.tc : Thread Cert.DwoutRIdeal.nD Cert.DwoutRIdeal.τ).loc Cert.DwoutRIdeal.main_arg1) = m ((c.tc : Thread Cert.DwoutRIdeal.nD Cert.DwoutRIdeal.τ).loc Cert.DwoutRIdeal.main_arg1))
      ∧ r.2.sem = fun _ => 0)

def quiescent_DucK [hDucK : Cert.DucK.Facts] : Prop :=
  ∀ (m : (ℓ : Loc Cert.DucK.nD Cert.DucK.τ Cert.DucK.sig) → Buf (Elt Bits) ℓ) (g : Dev Cert.DucK.nD → PrngReg), Pre_DucK m →
    θ_run (Cert.DucK.defs (F := Bits)) (onTc (τ := Cert.DucK.τ) (Cert.DucK.main (F := Bits))) ⟨m, fun _ => 0, g⟩ (fun r => (∀ c : Dev Cert.DucK.nD,
      r.2.mem ((c.tc : Thread Cert.DucK.nD Cert.DucK.τ).loc Cert.DucK.main_arg0) = m ((c.tc : Thread Cert.DucK.nD Cert.DucK.τ).loc Cert.DucK.main_arg0)
      ∧ r.2.mem ((c.tc : Thread Cert.DucK.nD Cert.DucK.τ).loc Cert.DucK.main_arg1) = m ((c.tc : Thread Cert.DucK.nD Cert.DucK.τ).loc Cert.DucK.main_arg1))
      ∧ r.2.sem = fun _ => 0)

def quiescent_DucKIdeal [hDucKIdeal : Cert.DucKIdeal.Facts] : Prop :=
  ∀ (m : (ℓ : Loc Cert.DucKIdeal.nD Cert.DucKIdeal.τ Cert.DucKIdeal.sig) → Buf (Elt Ideal) ℓ) (g : Dev Cert.DucKIdeal.nD → PrngReg), Pre_DucKIdeal m →
    θ_run (Cert.DucKIdeal.defs (F := Ideal)) (onTc (τ := Cert.DucKIdeal.τ) (Cert.DucKIdeal.main (F := Ideal))) ⟨m, fun _ => 0, g⟩ (fun r => (∀ c : Dev Cert.DucKIdeal.nD,
      r.2.mem ((c.tc : Thread Cert.DucKIdeal.nD Cert.DucKIdeal.τ).loc Cert.DucKIdeal.main_arg0) = m ((c.tc : Thread Cert.DucKIdeal.nD Cert.DucKIdeal.τ).loc Cert.DucKIdeal.main_arg0)
      ∧ r.2.mem ((c.tc : Thread Cert.DucKIdeal.nD Cert.DucKIdeal.τ).loc Cert.DucKIdeal.main_arg1) = m ((c.tc : Thread Cert.DucKIdeal.nD Cert.DucKIdeal.τ).loc Cert.DucKIdeal.main_arg1))
      ∧ r.2.sem = fun _ => 0)

def quiescent_DucRIdeal [hDucRIdeal : Cert.DucRIdeal.Facts] : Prop :=
  ∀ (m : (ℓ : Loc Cert.DucRIdeal.nD Cert.DucRIdeal.τ Cert.DucRIdeal.sig) → Buf (Elt Ideal) ℓ) (g : Dev Cert.DucRIdeal.nD → PrngReg), Pre_DucRIdeal m →
    θ_run (Cert.DucRIdeal.defs (F := Ideal)) (onTc (τ := Cert.DucRIdeal.τ) (Cert.DucRIdeal.main (F := Ideal))) ⟨m, fun _ => 0, g⟩ (fun r => (∀ c : Dev Cert.DucRIdeal.nD,
      r.2.mem ((c.tc : Thread Cert.DucRIdeal.nD Cert.DucRIdeal.τ).loc Cert.DucRIdeal.main_arg0) = m ((c.tc : Thread Cert.DucRIdeal.nD Cert.DucRIdeal.τ).loc Cert.DucRIdeal.main_arg0)
      ∧ r.2.mem ((c.tc : Thread Cert.DucRIdeal.nD Cert.DucRIdeal.τ).loc Cert.DucRIdeal.main_arg1) = m ((c.tc : Thread Cert.DucRIdeal.nD Cert.DucRIdeal.τ).loc Cert.DucRIdeal.main_arg1))
      ∧ r.2.sem = fun _ => 0)

def quiescent_DwpwK [hDwpwK : Cert.DwpwK.Facts] : Prop :=
  ∀ (m : (ℓ : Loc Cert.DwpwK.nD Cert.DwpwK.τ Cert.DwpwK.sig) → Buf (Elt Bits) ℓ) (g : Dev Cert.DwpwK.nD → PrngReg), Pre_DwpwK m →
    θ_run (Cert.DwpwK.defs (F := Bits)) (onTc (τ := Cert.DwpwK.τ) (Cert.DwpwK.main (F := Bits))) ⟨m, fun _ => 0, g⟩ (fun r => (∀ c : Dev Cert.DwpwK.nD,
      r.2.mem ((c.tc : Thread Cert.DwpwK.nD Cert.DwpwK.τ).loc Cert.DwpwK.main_arg0) = m ((c.tc : Thread Cert.DwpwK.nD Cert.DwpwK.τ).loc Cert.DwpwK.main_arg0)
      ∧ r.2.mem ((c.tc : Thread Cert.DwpwK.nD Cert.DwpwK.τ).loc Cert.DwpwK.main_arg1) = m ((c.tc : Thread Cert.DwpwK.nD Cert.DwpwK.τ).loc Cert.DwpwK.main_arg1))
      ∧ r.2.sem = fun _ => 0)

def quiescent_DwpwKIdeal [hDwpwKIdeal : Cert.DwpwKIdeal.Facts] : Prop :=
  ∀ (m : (ℓ : Loc Cert.DwpwKIdeal.nD Cert.DwpwKIdeal.τ Cert.DwpwKIdeal.sig) → Buf (Elt Ideal) ℓ) (g : Dev Cert.DwpwKIdeal.nD → PrngReg), Pre_DwpwKIdeal m →
    θ_run (Cert.DwpwKIdeal.defs (F := Ideal)) (onTc (τ := Cert.DwpwKIdeal.τ) (Cert.DwpwKIdeal.main (F := Ideal))) ⟨m, fun _ => 0, g⟩ (fun r => (∀ c : Dev Cert.DwpwKIdeal.nD,
      r.2.mem ((c.tc : Thread Cert.DwpwKIdeal.nD Cert.DwpwKIdeal.τ).loc Cert.DwpwKIdeal.main_arg0) = m ((c.tc : Thread Cert.DwpwKIdeal.nD Cert.DwpwKIdeal.τ).loc Cert.DwpwKIdeal.main_arg0)
      ∧ r.2.mem ((c.tc : Thread Cert.DwpwKIdeal.nD Cert.DwpwKIdeal.τ).loc Cert.DwpwKIdeal.main_arg1) = m ((c.tc : Thread Cert.DwpwKIdeal.nD Cert.DwpwKIdeal.τ).loc Cert.DwpwKIdeal.main_arg1))
      ∧ r.2.sem = fun _ => 0)

def quiescent_DwpwRIdeal [hDwpwRIdeal : Cert.DwpwRIdeal.Facts] : Prop :=
  ∀ (m : (ℓ : Loc Cert.DwpwRIdeal.nD Cert.DwpwRIdeal.τ Cert.DwpwRIdeal.sig) → Buf (Elt Ideal) ℓ) (g : Dev Cert.DwpwRIdeal.nD → PrngReg), Pre_DwpwRIdeal m →
    θ_run (Cert.DwpwRIdeal.defs (F := Ideal)) (onTc (τ := Cert.DwpwRIdeal.τ) (Cert.DwpwRIdeal.main (F := Ideal))) ⟨m, fun _ => 0, g⟩ (fun r => (∀ c : Dev Cert.DwpwRIdeal.nD,
      r.2.mem ((c.tc : Thread Cert.DwpwRIdeal.nD Cert.DwpwRIdeal.τ).loc Cert.DwpwRIdeal.main_arg0) = m ((c.tc : Thread Cert.DwpwRIdeal.nD Cert.DwpwRIdeal.τ).loc Cert.DwpwRIdeal.main_arg0)
      ∧ r.2.mem ((c.tc : Thread Cert.DwpwRIdeal.nD Cert.DwpwRIdeal.τ).loc Cert.DwpwRIdeal.main_arg1) = m ((c.tc : Thread Cert.DwpwRIdeal.nD Cert.DwpwRIdeal.τ).loc Cert.DwpwRIdeal.main_arg1))
      ∧ r.2.sem = fun _ => 0)

def quiescent_DwbaK [hDwbaK : Cert.DwbaK.Facts] : Prop :=
  ∀ (m : (ℓ : Loc Cert.DwbaK.nD Cert.DwbaK.τ Cert.DwbaK.sig) → Buf (Elt Bits) ℓ) (g : Dev Cert.DwbaK.nD → PrngReg), Pre_DwbaK m →
    θ_run (Cert.DwbaK.defs (F := Bits)) (onTc (τ := Cert.DwbaK.τ) (Cert.DwbaK.main (F := Bits))) ⟨m, fun _ => 0, g⟩ (fun r => (∀ c : Dev Cert.DwbaK.nD,
      r.2.mem ((c.tc : Thread Cert.DwbaK.nD Cert.DwbaK.τ).loc Cert.DwbaK.main_arg0) = m ((c.tc : Thread Cert.DwbaK.nD Cert.DwbaK.τ).loc Cert.DwbaK.main_arg0)
      ∧ r.2.mem ((c.tc : Thread Cert.DwbaK.nD Cert.DwbaK.τ).loc Cert.DwbaK.main_arg1) = m ((c.tc : Thread Cert.DwbaK.nD Cert.DwbaK.τ).loc Cert.DwbaK.main_arg1))
      ∧ r.2.sem = fun _ => 0)

def quiescent_DwbaKIdeal [hDwbaKIdeal : Cert.DwbaKIdeal.Facts] : Prop :=
  ∀ (m : (ℓ : Loc Cert.DwbaKIdeal.nD Cert.DwbaKIdeal.τ Cert.DwbaKIdeal.sig) → Buf (Elt Ideal) ℓ) (g : Dev Cert.DwbaKIdeal.nD → PrngReg), Pre_DwbaKIdeal m →
    θ_run (Cert.DwbaKIdeal.defs (F := Ideal)) (onTc (τ := Cert.DwbaKIdeal.τ) (Cert.DwbaKIdeal.main (F := Ideal))) ⟨m, fun _ => 0, g⟩ (fun r => (∀ c : Dev Cert.DwbaKIdeal.nD,
      r.2.mem ((c.tc : Thread Cert.DwbaKIdeal.nD Cert.DwbaKIdeal.τ).loc Cert.DwbaKIdeal.main_arg0) = m ((c.tc : Thread Cert.DwbaKIdeal.nD Cert.DwbaKIdeal.τ).loc Cert.DwbaKIdeal.main_arg0)
      ∧ r.2.mem ((c.tc : Thread Cert.DwbaKIdeal.nD Cert.DwbaKIdeal.τ).loc Cert.DwbaKIdeal.main_arg1) = m ((c.tc : Thread Cert.DwbaKIdeal.nD Cert.DwbaKIdeal.τ).loc Cert.DwbaKIdeal.main_arg1))
      ∧ r.2.sem = fun _ => 0)

def quiescent_DwbaRIdeal [hDwbaRIdeal : Cert.DwbaRIdeal.Facts] : Prop :=
  ∀ (m : (ℓ : Loc Cert.DwbaRIdeal.nD Cert.DwbaRIdeal.τ Cert.DwbaRIdeal.sig) → Buf (Elt Ideal) ℓ) (g : Dev Cert.DwbaRIdeal.nD → PrngReg), Pre_DwbaRIdeal m →
    θ_run (Cert.DwbaRIdeal.defs (F := Ideal)) (onTc (τ := Cert.DwbaRIdeal.τ) (Cert.DwbaRIdeal.main (F := Ideal))) ⟨m, fun _ => 0, g⟩ (fun r => (∀ c : Dev Cert.DwbaRIdeal.nD,
      r.2.mem ((c.tc : Thread Cert.DwbaRIdeal.nD Cert.DwbaRIdeal.τ).loc Cert.DwbaRIdeal.main_arg0) = m ((c.tc : Thread Cert.DwbaRIdeal.nD Cert.DwbaRIdeal.τ).loc Cert.DwbaRIdeal.main_arg0)
      ∧ r.2.mem ((c.tc : Thread Cert.DwbaRIdeal.nD Cert.DwbaRIdeal.τ).loc Cert.DwbaRIdeal.main_arg1) = m ((c.tc : Thread Cert.DwbaRIdeal.nD Cert.DwbaRIdeal.τ).loc Cert.DwbaRIdeal.main_arg1))
      ∧ r.2.sem = fun _ => 0)

def quiescent_DhbaK [hDhbaK : Cert.DhbaK.Facts] : Prop :=
  ∀ (m : (ℓ : Loc Cert.DhbaK.nD Cert.DhbaK.τ Cert.DhbaK.sig) → Buf (Elt Bits) ℓ) (g : Dev Cert.DhbaK.nD → PrngReg), Pre_DhbaK m →
    θ_run (Cert.DhbaK.defs (F := Bits)) (onTc (τ := Cert.DhbaK.τ) (Cert.DhbaK.main (F := Bits))) ⟨m, fun _ => 0, g⟩ (fun r => (∀ c : Dev Cert.DhbaK.nD,
      r.2.mem ((c.tc : Thread Cert.DhbaK.nD Cert.DhbaK.τ).loc Cert.DhbaK.main_arg0) = m ((c.tc : Thread Cert.DhbaK.nD Cert.DhbaK.τ).loc Cert.DhbaK.main_arg0)
      ∧ r.2.mem ((c.tc : Thread Cert.DhbaK.nD Cert.DhbaK.τ).loc Cert.DhbaK.main_arg1) = m ((c.tc : Thread Cert.DhbaK.nD Cert.DhbaK.τ).loc Cert.DhbaK.main_arg1)
      ∧ r.2.mem ((c.tc : Thread Cert.DhbaK.nD Cert.DhbaK.τ).loc Cert.DhbaK.main_arg2) = m ((c.tc : Thread Cert.DhbaK.nD Cert.DhbaK.τ).loc Cert.DhbaK.main_arg2))
      ∧ r.2.sem = fun _ => 0)

def quiescent_DhbaKIdeal [hDhbaKIdeal : Cert.DhbaKIdeal.Facts] : Prop :=
  ∀ (m : (ℓ : Loc Cert.DhbaKIdeal.nD Cert.DhbaKIdeal.τ Cert.DhbaKIdeal.sig) → Buf (Elt Ideal) ℓ) (g : Dev Cert.DhbaKIdeal.nD → PrngReg), Pre_DhbaKIdeal m →
    θ_run (Cert.DhbaKIdeal.defs (F := Ideal)) (onTc (τ := Cert.DhbaKIdeal.τ) (Cert.DhbaKIdeal.main (F := Ideal))) ⟨m, fun _ => 0, g⟩ (fun r => (∀ c : Dev Cert.DhbaKIdeal.nD,
      r.2.mem ((c.tc : Thread Cert.DhbaKIdeal.nD Cert.DhbaKIdeal.τ).loc Cert.DhbaKIdeal.main_arg0) = m ((c.tc : Thread Cert.DhbaKIdeal.nD Cert.DhbaKIdeal.τ).loc Cert.DhbaKIdeal.main_arg0)
      ∧ r.2.mem ((c.tc : Thread Cert.DhbaKIdeal.nD Cert.DhbaKIdeal.τ).loc Cert.DhbaKIdeal.main_arg1) = m ((c.tc : Thread Cert.DhbaKIdeal.nD Cert.DhbaKIdeal.τ).loc Cert.DhbaKIdeal.main_arg1)
      ∧ r.2.mem ((c.tc : Thread Cert.DhbaKIdeal.nD Cert.DhbaKIdeal.τ).loc Cert.DhbaKIdeal.main_arg2) = m ((c.tc : Thread Cert.DhbaKIdeal.nD Cert.DhbaKIdeal.τ).loc Cert.DhbaKIdeal.main_arg2))
      ∧ r.2.sem = fun _ => 0)

def quiescent_DhbaRIdeal [hDhbaRIdeal : Cert.DhbaRIdeal.Facts] : Prop :=
  ∀ (m : (ℓ : Loc Cert.DhbaRIdeal.nD Cert.DhbaRIdeal.τ Cert.DhbaRIdeal.sig) → Buf (Elt Ideal) ℓ) (g : Dev Cert.DhbaRIdeal.nD → PrngReg), Pre_DhbaRIdeal m →
    θ_run (Cert.DhbaRIdeal.defs (F := Ideal)) (onTc (τ := Cert.DhbaRIdeal.τ) (Cert.DhbaRIdeal.main (F := Ideal))) ⟨m, fun _ => 0, g⟩ (fun r => (∀ c : Dev Cert.DhbaRIdeal.nD,
      r.2.mem ((c.tc : Thread Cert.DhbaRIdeal.nD Cert.DhbaRIdeal.τ).loc Cert.DhbaRIdeal.main_arg0) = m ((c.tc : Thread Cert.DhbaRIdeal.nD Cert.DhbaRIdeal.τ).loc Cert.DhbaRIdeal.main_arg0)
      ∧ r.2.mem ((c.tc : Thread Cert.DhbaRIdeal.nD Cert.DhbaRIdeal.τ).loc Cert.DhbaRIdeal.main_arg1) = m ((c.tc : Thread Cert.DhbaRIdeal.nD Cert.DhbaRIdeal.τ).loc Cert.DhbaRIdeal.main_arg1)
      ∧ r.2.mem ((c.tc : Thread Cert.DhbaRIdeal.nD Cert.DhbaRIdeal.τ).loc Cert.DhbaRIdeal.main_arg2) = m ((c.tc : Thread Cert.DhbaRIdeal.nD Cert.DhbaRIdeal.τ).loc Cert.DhbaRIdeal.main_arg2))
      ∧ r.2.sem = fun _ => 0)

def quiescent_AdWinK [hAdWinK : Cert.AdWinK.Facts] : Prop :=
  ∀ (m : (ℓ : Loc Cert.AdWinK.nD Cert.AdWinK.τ Cert.AdWinK.sig) → Buf (Elt Bits) ℓ) (g : Dev Cert.AdWinK.nD → PrngReg), Pre_AdWinK m →
    θ_run (Cert.AdWinK.defs (F := Bits)) (onTc (τ := Cert.AdWinK.τ) (Cert.AdWinK.main (F := Bits))) ⟨m, fun _ => 0, g⟩ (fun r => (∀ c : Dev Cert.AdWinK.nD,
      r.2.mem ((c.tc : Thread Cert.AdWinK.nD Cert.AdWinK.τ).loc Cert.AdWinK.main_arg0) = m ((c.tc : Thread Cert.AdWinK.nD Cert.AdWinK.τ).loc Cert.AdWinK.main_arg0)
      ∧ r.2.mem ((c.tc : Thread Cert.AdWinK.nD Cert.AdWinK.τ).loc Cert.AdWinK.main_arg1) = m ((c.tc : Thread Cert.AdWinK.nD Cert.AdWinK.τ).loc Cert.AdWinK.main_arg1)
      ∧ r.2.mem ((c.tc : Thread Cert.AdWinK.nD Cert.AdWinK.τ).loc Cert.AdWinK.main_arg2) = m ((c.tc : Thread Cert.AdWinK.nD Cert.AdWinK.τ).loc Cert.AdWinK.main_arg2)
      ∧ r.2.mem ((c.tc : Thread Cert.AdWinK.nD Cert.AdWinK.τ).loc Cert.AdWinK.main_arg3) = m ((c.tc : Thread Cert.AdWinK.nD Cert.AdWinK.τ).loc Cert.AdWinK.main_arg3)
      ∧ r.2.mem ((c.tc : Thread Cert.AdWinK.nD Cert.AdWinK.τ).loc Cert.AdWinK.main_arg4) = m ((c.tc : Thread Cert.AdWinK.nD Cert.AdWinK.τ).loc Cert.AdWinK.main_arg4))
      ∧ r.2.sem = fun _ => 0)

def quiescent_AdWinKIdeal [hAdWinKIdeal : Cert.AdWinKIdeal.Facts] : Prop :=
  ∀ (m : (ℓ : Loc Cert.AdWinKIdeal.nD Cert.AdWinKIdeal.τ Cert.AdWinKIdeal.sig) → Buf (Elt Ideal) ℓ) (g : Dev Cert.AdWinKIdeal.nD → PrngReg), Pre_AdWinKIdeal m →
    θ_run (Cert.AdWinKIdeal.defs (F := Ideal)) (onTc (τ := Cert.AdWinKIdeal.τ) (Cert.AdWinKIdeal.main (F := Ideal))) ⟨m, fun _ => 0, g⟩ (fun r => (∀ c : Dev Cert.AdWinKIdeal.nD,
      r.2.mem ((c.tc : Thread Cert.AdWinKIdeal.nD Cert.AdWinKIdeal.τ).loc Cert.AdWinKIdeal.main_arg0) = m ((c.tc : Thread Cert.AdWinKIdeal.nD Cert.AdWinKIdeal.τ).loc Cert.AdWinKIdeal.main_arg0)
      ∧ r.2.mem ((c.tc : Thread Cert.AdWinKIdeal.nD Cert.AdWinKIdeal.τ).loc Cert.AdWinKIdeal.main_arg1) = m ((c.tc : Thread Cert.AdWinKIdeal.nD Cert.AdWinKIdeal.τ).loc Cert.AdWinKIdeal.main_arg1)
      ∧ r.2.mem ((c.tc : Thread Cert.AdWinKIdeal.nD Cert.AdWinKIdeal.τ).loc Cert.AdWinKIdeal.main_arg2) = m ((c.tc : Thread Cert.AdWinKIdeal.nD Cert.AdWinKIdeal.τ).loc Cert.AdWinKIdeal.main_arg2)
      ∧ r.2.mem ((c.tc : Thread Cert.AdWinKIdeal.nD Cert.AdWinKIdeal.τ).loc Cert.AdWinKIdeal.main_arg3) = m ((c.tc : Thread Cert.AdWinKIdeal.nD Cert.AdWinKIdeal.τ).loc Cert.AdWinKIdeal.main_arg3)
      ∧ r.2.mem ((c.tc : Thread Cert.AdWinKIdeal.nD Cert.AdWinKIdeal.τ).loc Cert.AdWinKIdeal.main_arg4) = m ((c.tc : Thread Cert.AdWinKIdeal.nD Cert.AdWinKIdeal.τ).loc Cert.AdWinKIdeal.main_arg4))
      ∧ r.2.sem = fun _ => 0)

def quiescent_AdWinRIdeal [hAdWinRIdeal : Cert.AdWinRIdeal.Facts] : Prop :=
  ∀ (m : (ℓ : Loc Cert.AdWinRIdeal.nD Cert.AdWinRIdeal.τ Cert.AdWinRIdeal.sig) → Buf (Elt Ideal) ℓ) (g : Dev Cert.AdWinRIdeal.nD → PrngReg), Pre_AdWinRIdeal m →
    θ_run (Cert.AdWinRIdeal.defs (F := Ideal)) (onTc (τ := Cert.AdWinRIdeal.τ) (Cert.AdWinRIdeal.main (F := Ideal))) ⟨m, fun _ => 0, g⟩ (fun r => (∀ c : Dev Cert.AdWinRIdeal.nD,
      r.2.mem ((c.tc : Thread Cert.AdWinRIdeal.nD Cert.AdWinRIdeal.τ).loc Cert.AdWinRIdeal.main_arg0) = m ((c.tc : Thread Cert.AdWinRIdeal.nD Cert.AdWinRIdeal.τ).loc Cert.AdWinRIdeal.main_arg0)
      ∧ r.2.mem ((c.tc : Thread Cert.AdWinRIdeal.nD Cert.AdWinRIdeal.τ).loc Cert.AdWinRIdeal.main_arg1) = m ((c.tc : Thread Cert.AdWinRIdeal.nD Cert.AdWinRIdeal.τ).loc Cert.AdWinRIdeal.main_arg1)
      ∧ r.2.mem ((c.tc : Thread Cert.AdWinRIdeal.nD Cert.AdWinRIdeal.τ).loc Cert.AdWinRIdeal.main_arg2) = m ((c.tc : Thread Cert.AdWinRIdeal.nD Cert.AdWinRIdeal.τ).loc Cert.AdWinRIdeal.main_arg2)
      ∧ r.2.mem ((c.tc : Thread Cert.AdWinRIdeal.nD Cert.AdWinRIdeal.τ).loc Cert.AdWinRIdeal.main_arg3) = m ((c.tc : Thread Cert.AdWinRIdeal.nD Cert.AdWinRIdeal.τ).loc Cert.AdWinRIdeal.main_arg3)
      ∧ r.2.mem ((c.tc : Thread Cert.AdWinRIdeal.nD Cert.AdWinRIdeal.τ).loc Cert.AdWinRIdeal.main_arg4) = m ((c.tc : Thread Cert.AdWinRIdeal.nD Cert.AdWinRIdeal.τ).loc Cert.AdWinRIdeal.main_arg4))
      ∧ r.2.sem = fun _ => 0)

def quiescent_AdPwK [hAdPwK : Cert.AdPwK.Facts] : Prop :=
  ∀ (m : (ℓ : Loc Cert.AdPwK.nD Cert.AdPwK.τ Cert.AdPwK.sig) → Buf (Elt Bits) ℓ) (g : Dev Cert.AdPwK.nD → PrngReg), Pre_AdPwK m →
    θ_run (Cert.AdPwK.defs (F := Bits)) (onTc (τ := Cert.AdPwK.τ) (Cert.AdPwK.main (F := Bits))) ⟨m, fun _ => 0, g⟩ (fun r => (∀ c : Dev Cert.AdPwK.nD,
      r.2.mem ((c.tc : Thread Cert.AdPwK.nD Cert.AdPwK.τ).loc Cert.AdPwK.main_arg0) = m ((c.tc : Thread Cert.AdPwK.nD Cert.AdPwK.τ).loc Cert.AdPwK.main_arg0)
      ∧ r.2.mem ((c.tc : Thread Cert.AdPwK.nD Cert.AdPwK.τ).loc Cert.AdPwK.main_arg1) = m ((c.tc : Thread Cert.AdPwK.nD Cert.AdPwK.τ).loc Cert.AdPwK.main_arg1)
      ∧ r.2.mem ((c.tc : Thread Cert.AdPwK.nD Cert.AdPwK.τ).loc Cert.AdPwK.main_arg2) = m ((c.tc : Thread Cert.AdPwK.nD Cert.AdPwK.τ).loc Cert.AdPwK.main_arg2)
      ∧ r.2.mem ((c.tc : Thread Cert.AdPwK.nD Cert.AdPwK.τ).loc Cert.AdPwK.main_arg3) = m ((c.tc : Thread Cert.AdPwK.nD Cert.AdPwK.τ).loc Cert.AdPwK.main_arg3)
      ∧ r.2.mem ((c.tc : Thread Cert.AdPwK.nD Cert.AdPwK.τ).loc Cert.AdPwK.main_arg4) = m ((c.tc : Thread Cert.AdPwK.nD Cert.AdPwK.τ).loc Cert.AdPwK.main_arg4))
      ∧ r.2.sem = fun _ => 0)

def quiescent_AdPwKIdeal [hAdPwKIdeal : Cert.AdPwKIdeal.Facts] : Prop :=
  ∀ (m : (ℓ : Loc Cert.AdPwKIdeal.nD Cert.AdPwKIdeal.τ Cert.AdPwKIdeal.sig) → Buf (Elt Ideal) ℓ) (g : Dev Cert.AdPwKIdeal.nD → PrngReg), Pre_AdPwKIdeal m →
    θ_run (Cert.AdPwKIdeal.defs (F := Ideal)) (onTc (τ := Cert.AdPwKIdeal.τ) (Cert.AdPwKIdeal.main (F := Ideal))) ⟨m, fun _ => 0, g⟩ (fun r => (∀ c : Dev Cert.AdPwKIdeal.nD,
      r.2.mem ((c.tc : Thread Cert.AdPwKIdeal.nD Cert.AdPwKIdeal.τ).loc Cert.AdPwKIdeal.main_arg0) = m ((c.tc : Thread Cert.AdPwKIdeal.nD Cert.AdPwKIdeal.τ).loc Cert.AdPwKIdeal.main_arg0)
      ∧ r.2.mem ((c.tc : Thread Cert.AdPwKIdeal.nD Cert.AdPwKIdeal.τ).loc Cert.AdPwKIdeal.main_arg1) = m ((c.tc : Thread Cert.AdPwKIdeal.nD Cert.AdPwKIdeal.τ).loc Cert.AdPwKIdeal.main_arg1)
      ∧ r.2.mem ((c.tc : Thread Cert.AdPwKIdeal.nD Cert.AdPwKIdeal.τ).loc Cert.AdPwKIdeal.main_arg2) = m ((c.tc : Thread Cert.AdPwKIdeal.nD Cert.AdPwKIdeal.τ).loc Cert.AdPwKIdeal.main_arg2)
      ∧ r.2.mem ((c.tc : Thread Cert.AdPwKIdeal.nD Cert.AdPwKIdeal.τ).loc Cert.AdPwKIdeal.main_arg3) = m ((c.tc : Thread Cert.AdPwKIdeal.nD Cert.AdPwKIdeal.τ).loc Cert.AdPwKIdeal.main_arg3)
      ∧ r.2.mem ((c.tc : Thread Cert.AdPwKIdeal.nD Cert.AdPwKIdeal.τ).loc Cert.AdPwKIdeal.main_arg4) = m ((c.tc : Thread Cert.AdPwKIdeal.nD Cert.AdPwKIdeal.τ).loc Cert.AdPwKIdeal.main_arg4))
      ∧ r.2.sem = fun _ => 0)

def quiescent_AdPwRIdeal [hAdPwRIdeal : Cert.AdPwRIdeal.Facts] : Prop :=
  ∀ (m : (ℓ : Loc Cert.AdPwRIdeal.nD Cert.AdPwRIdeal.τ Cert.AdPwRIdeal.sig) → Buf (Elt Ideal) ℓ) (g : Dev Cert.AdPwRIdeal.nD → PrngReg), Pre_AdPwRIdeal m →
    θ_run (Cert.AdPwRIdeal.defs (F := Ideal)) (onTc (τ := Cert.AdPwRIdeal.τ) (Cert.AdPwRIdeal.main (F := Ideal))) ⟨m, fun _ => 0, g⟩ (fun r => (∀ c : Dev Cert.AdPwRIdeal.nD,
      r.2.mem ((c.tc : Thread Cert.AdPwRIdeal.nD Cert.AdPwRIdeal.τ).loc Cert.AdPwRIdeal.main_arg0) = m ((c.tc : Thread Cert.AdPwRIdeal.nD Cert.AdPwRIdeal.τ).loc Cert.AdPwRIdeal.main_arg0)
      ∧ r.2.mem ((c.tc : Thread Cert.AdPwRIdeal.nD Cert.AdPwRIdeal.τ).loc Cert.AdPwRIdeal.main_arg1) = m ((c.tc : Thread Cert.AdPwRIdeal.nD Cert.AdPwRIdeal.τ).loc Cert.AdPwRIdeal.main_arg1)
      ∧ r.2.mem ((c.tc : Thread Cert.AdPwRIdeal.nD Cert.AdPwRIdeal.τ).loc Cert.AdPwRIdeal.main_arg2) = m ((c.tc : Thread Cert.AdPwRIdeal.nD Cert.AdPwRIdeal.τ).loc Cert.AdPwRIdeal.main_arg2)
      ∧ r.2.mem ((c.tc : Thread Cert.AdPwRIdeal.nD Cert.AdPwRIdeal.τ).loc Cert.AdPwRIdeal.main_arg3) = m ((c.tc : Thread Cert.AdPwRIdeal.nD Cert.AdPwRIdeal.τ).loc Cert.AdPwRIdeal.main_arg3)
      ∧ r.2.mem ((c.tc : Thread Cert.AdPwRIdeal.nD Cert.AdPwRIdeal.τ).loc Cert.AdPwRIdeal.main_arg4) = m ((c.tc : Thread Cert.AdPwRIdeal.nD Cert.AdPwRIdeal.τ).loc Cert.AdPwRIdeal.main_arg4))
      ∧ r.2.sem = fun _ => 0)

def quiescent_AdWoutK [hAdWoutK : Cert.AdWoutK.Facts] : Prop :=
  ∀ (m : (ℓ : Loc Cert.AdWoutK.nD Cert.AdWoutK.τ Cert.AdWoutK.sig) → Buf (Elt Bits) ℓ) (g : Dev Cert.AdWoutK.nD → PrngReg), Pre_AdWoutK m →
    θ_run (Cert.AdWoutK.defs (F := Bits)) (onTc (τ := Cert.AdWoutK.τ) (Cert.AdWoutK.main (F := Bits))) ⟨m, fun _ => 0, g⟩ (fun r => (∀ c : Dev Cert.AdWoutK.nD,
      r.2.mem ((c.tc : Thread Cert.AdWoutK.nD Cert.AdWoutK.τ).loc Cert.AdWoutK.main_arg0) = m ((c.tc : Thread Cert.AdWoutK.nD Cert.AdWoutK.τ).loc Cert.AdWoutK.main_arg0)
      ∧ r.2.mem ((c.tc : Thread Cert.AdWoutK.nD Cert.AdWoutK.τ).loc Cert.AdWoutK.main_arg1) = m ((c.tc : Thread Cert.AdWoutK.nD Cert.AdWoutK.τ).loc Cert.AdWoutK.main_arg1)
      ∧ r.2.mem ((c.tc : Thread Cert.AdWoutK.nD Cert.AdWoutK.τ).loc Cert.AdWoutK.main_arg2) = m ((c.tc : Thread Cert.AdWoutK.nD Cert.AdWoutK.τ).loc Cert.AdWoutK.main_arg2)
      ∧ r.2.mem ((c.tc : Thread Cert.AdWoutK.nD Cert.AdWoutK.τ).loc Cert.AdWoutK.main_arg3) = m ((c.tc : Thread Cert.AdWoutK.nD Cert.AdWoutK.τ).loc Cert.AdWoutK.main_arg3)
      ∧ r.2.mem ((c.tc : Thread Cert.AdWoutK.nD Cert.AdWoutK.τ).loc Cert.AdWoutK.main_arg4) = m ((c.tc : Thread Cert.AdWoutK.nD Cert.AdWoutK.τ).loc Cert.AdWoutK.main_arg4))
      ∧ r.2.sem = fun _ => 0)

def quiescent_AdWoutKIdeal [hAdWoutKIdeal : Cert.AdWoutKIdeal.Facts] : Prop :=
  ∀ (m : (ℓ : Loc Cert.AdWoutKIdeal.nD Cert.AdWoutKIdeal.τ Cert.AdWoutKIdeal.sig) → Buf (Elt Ideal) ℓ) (g : Dev Cert.AdWoutKIdeal.nD → PrngReg), Pre_AdWoutKIdeal m →
    θ_run (Cert.AdWoutKIdeal.defs (F := Ideal)) (onTc (τ := Cert.AdWoutKIdeal.τ) (Cert.AdWoutKIdeal.main (F := Ideal))) ⟨m, fun _ => 0, g⟩ (fun r => (∀ c : Dev Cert.AdWoutKIdeal.nD,
      r.2.mem ((c.tc : Thread Cert.AdWoutKIdeal.nD Cert.AdWoutKIdeal.τ).loc Cert.AdWoutKIdeal.main_arg0) = m ((c.tc : Thread Cert.AdWoutKIdeal.nD Cert.AdWoutKIdeal.τ).loc Cert.AdWoutKIdeal.main_arg0)
      ∧ r.2.mem ((c.tc : Thread Cert.AdWoutKIdeal.nD Cert.AdWoutKIdeal.τ).loc Cert.AdWoutKIdeal.main_arg1) = m ((c.tc : Thread Cert.AdWoutKIdeal.nD Cert.AdWoutKIdeal.τ).loc Cert.AdWoutKIdeal.main_arg1)
      ∧ r.2.mem ((c.tc : Thread Cert.AdWoutKIdeal.nD Cert.AdWoutKIdeal.τ).loc Cert.AdWoutKIdeal.main_arg2) = m ((c.tc : Thread Cert.AdWoutKIdeal.nD Cert.AdWoutKIdeal.τ).loc Cert.AdWoutKIdeal.main_arg2)
      ∧ r.2.mem ((c.tc : Thread Cert.AdWoutKIdeal.nD Cert.AdWoutKIdeal.τ).loc Cert.AdWoutKIdeal.main_arg3) = m ((c.tc : Thread Cert.AdWoutKIdeal.nD Cert.AdWoutKIdeal.τ).loc Cert.AdWoutKIdeal.main_arg3)
      ∧ r.2.mem ((c.tc : Thread Cert.AdWoutKIdeal.nD Cert.AdWoutKIdeal.τ).loc Cert.AdWoutKIdeal.main_arg4) = m ((c.tc : Thread Cert.AdWoutKIdeal.nD Cert.AdWoutKIdeal.τ).loc Cert.AdWoutKIdeal.main_arg4))
      ∧ r.2.sem = fun _ => 0)

def quiescent_AdWoutRIdeal [hAdWoutRIdeal : Cert.AdWoutRIdeal.Facts] : Prop :=
  ∀ (m : (ℓ : Loc Cert.AdWoutRIdeal.nD Cert.AdWoutRIdeal.τ Cert.AdWoutRIdeal.sig) → Buf (Elt Ideal) ℓ) (g : Dev Cert.AdWoutRIdeal.nD → PrngReg), Pre_AdWoutRIdeal m →
    θ_run (Cert.AdWoutRIdeal.defs (F := Ideal)) (onTc (τ := Cert.AdWoutRIdeal.τ) (Cert.AdWoutRIdeal.main (F := Ideal))) ⟨m, fun _ => 0, g⟩ (fun r => (∀ c : Dev Cert.AdWoutRIdeal.nD,
      r.2.mem ((c.tc : Thread Cert.AdWoutRIdeal.nD Cert.AdWoutRIdeal.τ).loc Cert.AdWoutRIdeal.main_arg0) = m ((c.tc : Thread Cert.AdWoutRIdeal.nD Cert.AdWoutRIdeal.τ).loc Cert.AdWoutRIdeal.main_arg0)
      ∧ r.2.mem ((c.tc : Thread Cert.AdWoutRIdeal.nD Cert.AdWoutRIdeal.τ).loc Cert.AdWoutRIdeal.main_arg1) = m ((c.tc : Thread Cert.AdWoutRIdeal.nD Cert.AdWoutRIdeal.τ).loc Cert.AdWoutRIdeal.main_arg1)
      ∧ r.2.mem ((c.tc : Thread Cert.AdWoutRIdeal.nD Cert.AdWoutRIdeal.τ).loc Cert.AdWoutRIdeal.main_arg2) = m ((c.tc : Thread Cert.AdWoutRIdeal.nD Cert.AdWoutRIdeal.τ).loc Cert.AdWoutRIdeal.main_arg2)
      ∧ r.2.mem ((c.tc : Thread Cert.AdWoutRIdeal.nD Cert.AdWoutRIdeal.τ).loc Cert.AdWoutRIdeal.main_arg3) = m ((c.tc : Thread Cert.AdWoutRIdeal.nD Cert.AdWoutRIdeal.τ).loc Cert.AdWoutRIdeal.main_arg3)
      ∧ r.2.mem ((c.tc : Thread Cert.AdWoutRIdeal.nD Cert.AdWoutRIdeal.τ).loc Cert.AdWoutRIdeal.main_arg4) = m ((c.tc : Thread Cert.AdWoutRIdeal.nD Cert.AdWoutRIdeal.τ).loc Cert.AdWoutRIdeal.main_arg4))
      ∧ r.2.sem = fun _ => 0)

def quiescent_AdWupK [hAdWupK : Cert.AdWupK.Facts] : Prop :=
  ∀ (m : (ℓ : Loc Cert.AdWupK.nD Cert.AdWupK.τ Cert.AdWupK.sig) → Buf (Elt Bits) ℓ) (g : Dev Cert.AdWupK.nD → PrngReg), Pre_AdWupK m →
    θ_run (Cert.AdWupK.defs (F := Bits)) (onTc (τ := Cert.AdWupK.τ) (Cert.AdWupK.main (F := Bits))) ⟨m, fun _ => 0, g⟩ (fun r => (∀ c : Dev Cert.AdWupK.nD,
      r.2.mem ((c.tc : Thread Cert.AdWupK.nD Cert.AdWupK.τ).loc Cert.AdWupK.main_arg0) = m ((c.tc : Thread Cert.AdWupK.nD Cert.AdWupK.τ).loc Cert.AdWupK.main_arg0)
      ∧ r.2.mem ((c.tc : Thread Cert.AdWupK.nD Cert.AdWupK.τ).loc Cert.AdWupK.main_arg1) = m ((c.tc : Thread Cert.AdWupK.nD Cert.AdWupK.τ).loc Cert.AdWupK.main_arg1)
      ∧ r.2.mem ((c.tc : Thread Cert.AdWupK.nD Cert.AdWupK.τ).loc Cert.AdWupK.main_arg2) = m ((c.tc : Thread Cert.AdWupK.nD Cert.AdWupK.τ).loc Cert.AdWupK.main_arg2)
      ∧ r.2.mem ((c.tc : Thread Cert.AdWupK.nD Cert.AdWupK.τ).loc Cert.AdWupK.main_arg3) = m ((c.tc : Thread Cert.AdWupK.nD Cert.AdWupK.τ).loc Cert.AdWupK.main_arg3)
      ∧ r.2.mem ((c.tc : Thread Cert.AdWupK.nD Cert.AdWupK.τ).loc Cert.AdWupK.main_arg4) = m ((c.tc : Thread Cert.AdWupK.nD Cert.AdWupK.τ).loc Cert.AdWupK.main_arg4))
      ∧ r.2.sem = fun _ => 0)

def quiescent_AdWupKIdeal [hAdWupKIdeal : Cert.AdWupKIdeal.Facts] : Prop :=
  ∀ (m : (ℓ : Loc Cert.AdWupKIdeal.nD Cert.AdWupKIdeal.τ Cert.AdWupKIdeal.sig) → Buf (Elt Ideal) ℓ) (g : Dev Cert.AdWupKIdeal.nD → PrngReg), Pre_AdWupKIdeal m →
    θ_run (Cert.AdWupKIdeal.defs (F := Ideal)) (onTc (τ := Cert.AdWupKIdeal.τ) (Cert.AdWupKIdeal.main (F := Ideal))) ⟨m, fun _ => 0, g⟩ (fun r => (∀ c : Dev Cert.AdWupKIdeal.nD,
      r.2.mem ((c.tc : Thread Cert.AdWupKIdeal.nD Cert.AdWupKIdeal.τ).loc Cert.AdWupKIdeal.main_arg0) = m ((c.tc : Thread Cert.AdWupKIdeal.nD Cert.AdWupKIdeal.τ).loc Cert.AdWupKIdeal.main_arg0)
      ∧ r.2.mem ((c.tc : Thread Cert.AdWupKIdeal.nD Cert.AdWupKIdeal.τ).loc Cert.AdWupKIdeal.main_arg1) = m ((c.tc : Thread Cert.AdWupKIdeal.nD Cert.AdWupKIdeal.τ).loc Cert.AdWupKIdeal.main_arg1)
      ∧ r.2.mem ((c.tc : Thread Cert.AdWupKIdeal.nD Cert.AdWupKIdeal.τ).loc Cert.AdWupKIdeal.main_arg2) = m ((c.tc : Thread Cert.AdWupKIdeal.nD Cert.AdWupKIdeal.τ).loc Cert.AdWupKIdeal.main_arg2)
      ∧ r.2.mem ((c.tc : Thread Cert.AdWupKIdeal.nD Cert.AdWupKIdeal.τ).loc Cert.AdWupKIdeal.main_arg3) = m ((c.tc : Thread Cert.AdWupKIdeal.nD Cert.AdWupKIdeal.τ).loc Cert.AdWupKIdeal.main_arg3)
      ∧ r.2.mem ((c.tc : Thread Cert.AdWupKIdeal.nD Cert.AdWupKIdeal.τ).loc Cert.AdWupKIdeal.main_arg4) = m ((c.tc : Thread Cert.AdWupKIdeal.nD Cert.AdWupKIdeal.τ).loc Cert.AdWupKIdeal.main_arg4))
      ∧ r.2.sem = fun _ => 0)

def quiescent_AdWupRIdeal [hAdWupRIdeal : Cert.AdWupRIdeal.Facts] : Prop :=
  ∀ (m : (ℓ : Loc Cert.AdWupRIdeal.nD Cert.AdWupRIdeal.τ Cert.AdWupRIdeal.sig) → Buf (Elt Ideal) ℓ) (g : Dev Cert.AdWupRIdeal.nD → PrngReg), Pre_AdWupRIdeal m →
    θ_run (Cert.AdWupRIdeal.defs (F := Ideal)) (onTc (τ := Cert.AdWupRIdeal.τ) (Cert.AdWupRIdeal.main (F := Ideal))) ⟨m, fun _ => 0, g⟩ (fun r => (∀ c : Dev Cert.AdWupRIdeal.nD,
      r.2.mem ((c.tc : Thread Cert.AdWupRIdeal.nD Cert.AdWupRIdeal.τ).loc Cert.AdWupRIdeal.main_arg0) = m ((c.tc : Thread Cert.AdWupRIdeal.nD Cert.AdWupRIdeal.τ).loc Cert.AdWupRIdeal.main_arg0)
      ∧ r.2.mem ((c.tc : Thread Cert.AdWupRIdeal.nD Cert.AdWupRIdeal.τ).loc Cert.AdWupRIdeal.main_arg1) = m ((c.tc : Thread Cert.AdWupRIdeal.nD Cert.AdWupRIdeal.τ).loc Cert.AdWupRIdeal.main_arg1)
      ∧ r.2.mem ((c.tc : Thread Cert.AdWupRIdeal.nD Cert.AdWupRIdeal.τ).loc Cert.AdWupRIdeal.main_arg2) = m ((c.tc : Thread Cert.AdWupRIdeal.nD Cert.AdWupRIdeal.τ).loc Cert.AdWupRIdeal.main_arg2)
      ∧ r.2.mem ((c.tc : Thread Cert.AdWupRIdeal.nD Cert.AdWupRIdeal.τ).loc Cert.AdWupRIdeal.main_arg3) = m ((c.tc : Thread Cert.AdWupRIdeal.nD Cert.AdWupRIdeal.τ).loc Cert.AdWupRIdeal.main_arg3)
      ∧ r.2.mem ((c.tc : Thread Cert.AdWupRIdeal.nD Cert.AdWupRIdeal.τ).loc Cert.AdWupRIdeal.main_arg4) = m ((c.tc : Thread Cert.AdWupRIdeal.nD Cert.AdWupRIdeal.τ).loc Cert.AdWupRIdeal.main_arg4))
      ∧ r.2.sem = fun _ => 0)

def quiescent_AdWdownK [hAdWdownK : Cert.AdWdownK.Facts] : Prop :=
  ∀ (m : (ℓ : Loc Cert.AdWdownK.nD Cert.AdWdownK.τ Cert.AdWdownK.sig) → Buf (Elt Bits) ℓ) (g : Dev Cert.AdWdownK.nD → PrngReg), Pre_AdWdownK m →
    θ_run (Cert.AdWdownK.defs (F := Bits)) (onTc (τ := Cert.AdWdownK.τ) (Cert.AdWdownK.main (F := Bits))) ⟨m, fun _ => 0, g⟩ (fun r => (∀ c : Dev Cert.AdWdownK.nD,
      r.2.mem ((c.tc : Thread Cert.AdWdownK.nD Cert.AdWdownK.τ).loc Cert.AdWdownK.main_arg0) = m ((c.tc : Thread Cert.AdWdownK.nD Cert.AdWdownK.τ).loc Cert.AdWdownK.main_arg0)
      ∧ r.2.mem ((c.tc : Thread Cert.AdWdownK.nD Cert.AdWdownK.τ).loc Cert.AdWdownK.main_arg1) = m ((c.tc : Thread Cert.AdWdownK.nD Cert.AdWdownK.τ).loc Cert.AdWdownK.main_arg1)
      ∧ r.2.mem ((c.tc : Thread Cert.AdWdownK.nD Cert.AdWdownK.τ).loc Cert.AdWdownK.main_arg2) = m ((c.tc : Thread Cert.AdWdownK.nD Cert.AdWdownK.τ).loc Cert.AdWdownK.main_arg2)
      ∧ r.2.mem ((c.tc : Thread Cert.AdWdownK.nD Cert.AdWdownK.τ).loc Cert.AdWdownK.main_arg3) = m ((c.tc : Thread Cert.AdWdownK.nD Cert.AdWdownK.τ).loc Cert.AdWdownK.main_arg3)
      ∧ r.2.mem ((c.tc : Thread Cert.AdWdownK.nD Cert.AdWdownK.τ).loc Cert.AdWdownK.main_arg4) = m ((c.tc : Thread Cert.AdWdownK.nD Cert.AdWdownK.τ).loc Cert.AdWdownK.main_arg4))
      ∧ r.2.sem = fun _ => 0)

def quiescent_AdWdownKIdeal [hAdWdownKIdeal : Cert.AdWdownKIdeal.Facts] : Prop :=
  ∀ (m : (ℓ : Loc Cert.AdWdownKIdeal.nD Cert.AdWdownKIdeal.τ Cert.AdWdownKIdeal.sig) → Buf (Elt Ideal) ℓ) (g : Dev Cert.AdWdownKIdeal.nD → PrngReg), Pre_AdWdownKIdeal m →
    θ_run (Cert.AdWdownKIdeal.defs (F := Ideal)) (onTc (τ := Cert.AdWdownKIdeal.τ) (Cert.AdWdownKIdeal.main (F := Ideal))) ⟨m, fun _ => 0, g⟩ (fun r => (∀ c : Dev Cert.AdWdownKIdeal.nD,
      r.2.mem ((c.tc : Thread Cert.AdWdownKIdeal.nD Cert.AdWdownKIdeal.τ).loc Cert.AdWdownKIdeal.main_arg0) = m ((c.tc : Thread Cert.AdWdownKIdeal.nD Cert.AdWdownKIdeal.τ).loc Cert.AdWdownKIdeal.main_arg0)
      ∧ r.2.mem ((c.tc : Thread Cert.AdWdownKIdeal.nD Cert.AdWdownKIdeal.τ).loc Cert.AdWdownKIdeal.main_arg1) = m ((c.tc : Thread Cert.AdWdownKIdeal.nD Cert.AdWdownKIdeal.τ).loc Cert.AdWdownKIdeal.main_arg1)
      ∧ r.2.mem ((c.tc : Thread Cert.AdWdownKIdeal.nD Cert.AdWdownKIdeal.τ).loc Cert.AdWdownKIdeal.main_arg2) = m ((c.tc : Thread Cert.AdWdownKIdeal.nD Cert.AdWdownKIdeal.τ).loc Cert.AdWdownKIdeal.main_arg2)
      ∧ r.2.mem ((c.tc : Thread Cert.AdWdownKIdeal.nD Cert.AdWdownKIdeal.τ).loc Cert.AdWdownKIdeal.main_arg3) = m ((c.tc : Thread Cert.AdWdownKIdeal.nD Cert.AdWdownKIdeal.τ).loc Cert.AdWdownKIdeal.main_arg3)
      ∧ r.2.mem ((c.tc : Thread Cert.AdWdownKIdeal.nD Cert.AdWdownKIdeal.τ).loc Cert.AdWdownKIdeal.main_arg4) = m ((c.tc : Thread Cert.AdWdownKIdeal.nD Cert.AdWdownKIdeal.τ).loc Cert.AdWdownKIdeal.main_arg4))
      ∧ r.2.sem = fun _ => 0)

def quiescent_AdWdownRIdeal [hAdWdownRIdeal : Cert.AdWdownRIdeal.Facts] : Prop :=
  ∀ (m : (ℓ : Loc Cert.AdWdownRIdeal.nD Cert.AdWdownRIdeal.τ Cert.AdWdownRIdeal.sig) → Buf (Elt Ideal) ℓ) (g : Dev Cert.AdWdownRIdeal.nD → PrngReg), Pre_AdWdownRIdeal m →
    θ_run (Cert.AdWdownRIdeal.defs (F := Ideal)) (onTc (τ := Cert.AdWdownRIdeal.τ) (Cert.AdWdownRIdeal.main (F := Ideal))) ⟨m, fun _ => 0, g⟩ (fun r => (∀ c : Dev Cert.AdWdownRIdeal.nD,
      r.2.mem ((c.tc : Thread Cert.AdWdownRIdeal.nD Cert.AdWdownRIdeal.τ).loc Cert.AdWdownRIdeal.main_arg0) = m ((c.tc : Thread Cert.AdWdownRIdeal.nD Cert.AdWdownRIdeal.τ).loc Cert.AdWdownRIdeal.main_arg0)
      ∧ r.2.mem ((c.tc : Thread Cert.AdWdownRIdeal.nD Cert.AdWdownRIdeal.τ).loc Cert.AdWdownRIdeal.main_arg1) = m ((c.tc : Thread Cert.AdWdownRIdeal.nD Cert.AdWdownRIdeal.τ).loc Cert.AdWdownRIdeal.main_arg1)
      ∧ r.2.mem ((c.tc : Thread Cert.AdWdownRIdeal.nD Cert.AdWdownRIdeal.τ).loc Cert.AdWdownRIdeal.main_arg2) = m ((c.tc : Thread Cert.AdWdownRIdeal.nD Cert.AdWdownRIdeal.τ).loc Cert.AdWdownRIdeal.main_arg2)
      ∧ r.2.mem ((c.tc : Thread Cert.AdWdownRIdeal.nD Cert.AdWdownRIdeal.τ).loc Cert.AdWdownRIdeal.main_arg3) = m ((c.tc : Thread Cert.AdWdownRIdeal.nD Cert.AdWdownRIdeal.τ).loc Cert.AdWdownRIdeal.main_arg3)
      ∧ r.2.mem ((c.tc : Thread Cert.AdWdownRIdeal.nD Cert.AdWdownRIdeal.τ).loc Cert.AdWdownRIdeal.main_arg4) = m ((c.tc : Thread Cert.AdWdownRIdeal.nD Cert.AdWdownRIdeal.τ).loc Cert.AdWdownRIdeal.main_arg4))
      ∧ r.2.sem = fun _ => 0)

def quiescent_AdDwK [hAdDwK : Cert.AdDwK.Facts] : Prop :=
  ∀ (m : (ℓ : Loc Cert.AdDwK.nD Cert.AdDwK.τ Cert.AdDwK.sig) → Buf (Elt Bits) ℓ) (g : Dev Cert.AdDwK.nD → PrngReg), Pre_AdDwK m →
    θ_run (Cert.AdDwK.defs (F := Bits)) (onTc (τ := Cert.AdDwK.τ) (Cert.AdDwK.main (F := Bits))) ⟨m, fun _ => 0, g⟩ (fun r => (∀ c : Dev Cert.AdDwK.nD,
      r.2.mem ((c.tc : Thread Cert.AdDwK.nD Cert.AdDwK.τ).loc Cert.AdDwK.main_arg0) = m ((c.tc : Thread Cert.AdDwK.nD Cert.AdDwK.τ).loc Cert.AdDwK.main_arg0)
      ∧ r.2.mem ((c.tc : Thread Cert.AdDwK.nD Cert.AdDwK.τ).loc Cert.AdDwK.main_arg1) = m ((c.tc : Thread Cert.AdDwK.nD Cert.AdDwK.τ).loc Cert.AdDwK.main_arg1)
      ∧ r.2.mem ((c.tc : Thread Cert.AdDwK.nD Cert.AdDwK.τ).loc Cert.AdDwK.main_arg2) = m ((c.tc : Thread Cert.AdDwK.nD Cert.AdDwK.τ).loc Cert.AdDwK.main_arg2)
      ∧ r.2.mem ((c.tc : Thread Cert.AdDwK.nD Cert.AdDwK.τ).loc Cert.AdDwK.main_arg3) = m ((c.tc : Thread Cert.AdDwK.nD Cert.AdDwK.τ).loc Cert.AdDwK.main_arg3))
      ∧ r.2.sem = fun _ => 0)

def quiescent_AdDwKIdeal [hAdDwKIdeal : Cert.AdDwKIdeal.Facts] : Prop :=
  ∀ (m : (ℓ : Loc Cert.AdDwKIdeal.nD Cert.AdDwKIdeal.τ Cert.AdDwKIdeal.sig) → Buf (Elt Ideal) ℓ) (g : Dev Cert.AdDwKIdeal.nD → PrngReg), Pre_AdDwKIdeal m →
    θ_run (Cert.AdDwKIdeal.defs (F := Ideal)) (onTc (τ := Cert.AdDwKIdeal.τ) (Cert.AdDwKIdeal.main (F := Ideal))) ⟨m, fun _ => 0, g⟩ (fun r => (∀ c : Dev Cert.AdDwKIdeal.nD,
      r.2.mem ((c.tc : Thread Cert.AdDwKIdeal.nD Cert.AdDwKIdeal.τ).loc Cert.AdDwKIdeal.main_arg0) = m ((c.tc : Thread Cert.AdDwKIdeal.nD Cert.AdDwKIdeal.τ).loc Cert.AdDwKIdeal.main_arg0)
      ∧ r.2.mem ((c.tc : Thread Cert.AdDwKIdeal.nD Cert.AdDwKIdeal.τ).loc Cert.AdDwKIdeal.main_arg1) = m ((c.tc : Thread Cert.AdDwKIdeal.nD Cert.AdDwKIdeal.τ).loc Cert.AdDwKIdeal.main_arg1)
      ∧ r.2.mem ((c.tc : Thread Cert.AdDwKIdeal.nD Cert.AdDwKIdeal.τ).loc Cert.AdDwKIdeal.main_arg2) = m ((c.tc : Thread Cert.AdDwKIdeal.nD Cert.AdDwKIdeal.τ).loc Cert.AdDwKIdeal.main_arg2)
      ∧ r.2.mem ((c.tc : Thread Cert.AdDwKIdeal.nD Cert.AdDwKIdeal.τ).loc Cert.AdDwKIdeal.main_arg3) = m ((c.tc : Thread Cert.AdDwKIdeal.nD Cert.AdDwKIdeal.τ).loc Cert.AdDwKIdeal.main_arg3))
      ∧ r.2.sem = fun _ => 0)

def quiescent_AdDwRIdeal [hAdDwRIdeal : Cert.AdDwRIdeal.Facts] : Prop :=
  ∀ (m : (ℓ : Loc Cert.AdDwRIdeal.nD Cert.AdDwRIdeal.τ Cert.AdDwRIdeal.sig) → Buf (Elt Ideal) ℓ) (g : Dev Cert.AdDwRIdeal.nD → PrngReg), Pre_AdDwRIdeal m →
    θ_run (Cert.AdDwRIdeal.defs (F := Ideal)) (onTc (τ := Cert.AdDwRIdeal.τ) (Cert.AdDwRIdeal.main (F := Ideal))) ⟨m, fun _ => 0, g⟩ (fun r => (∀ c : Dev Cert.AdDwRIdeal.nD,
      r.2.mem ((c.tc : Thread Cert.AdDwRIdeal.nD Cert.AdDwRIdeal.τ).loc Cert.AdDwRIdeal.main_arg0) = m ((c.tc : Thread Cert.AdDwRIdeal.nD Cert.AdDwRIdeal.τ).loc Cert.AdDwRIdeal.main_arg0)
      ∧ r.2.mem ((c.tc : Thread Cert.AdDwRIdeal.nD Cert.AdDwRIdeal.τ).loc Cert.AdDwRIdeal.main_arg1) = m ((c.tc : Thread Cert.AdDwRIdeal.nD Cert.AdDwRIdeal.τ).loc Cert.AdDwRIdeal.main_arg1)
      ∧ r.2.mem ((c.tc : Thread Cert.AdDwRIdeal.nD Cert.AdDwRIdeal.τ).loc Cert.AdDwRIdeal.main_arg2) = m ((c.tc : Thread Cert.AdDwRIdeal.nD Cert.AdDwRIdeal.τ).loc Cert.AdDwRIdeal.main_arg2)
      ∧ r.2.mem ((c.tc : Thread Cert.AdDwRIdeal.nD Cert.AdDwRIdeal.τ).loc Cert.AdDwRIdeal.main_arg3) = m ((c.tc : Thread Cert.AdDwRIdeal.nD Cert.AdDwRIdeal.τ).loc Cert.AdDwRIdeal.main_arg3))
      ∧ r.2.sem = fun _ => 0)

def quiescent_AdGcK [hAdGcK : Cert.AdGcK.Facts] : Prop :=
  ∀ (m : (ℓ : Loc Cert.AdGcK.nD Cert.AdGcK.τ Cert.AdGcK.sig) → Buf (Elt Bits) ℓ) (g : Dev Cert.AdGcK.nD → PrngReg), Pre_AdGcK m →
    θ_run (Cert.AdGcK.defs (F := Bits)) (onTc (τ := Cert.AdGcK.τ) (Cert.AdGcK.main (F := Bits))) ⟨m, fun _ => 0, g⟩ (fun r => (∀ c : Dev Cert.AdGcK.nD,
      r.2.mem ((c.tc : Thread Cert.AdGcK.nD Cert.AdGcK.τ).loc Cert.AdGcK.main_arg0) = m ((c.tc : Thread Cert.AdGcK.nD Cert.AdGcK.τ).loc Cert.AdGcK.main_arg0)
      ∧ r.2.mem ((c.tc : Thread Cert.AdGcK.nD Cert.AdGcK.τ).loc Cert.AdGcK.main_arg1) = m ((c.tc : Thread Cert.AdGcK.nD Cert.AdGcK.τ).loc Cert.AdGcK.main_arg1)
      ∧ r.2.mem ((c.tc : Thread Cert.AdGcK.nD Cert.AdGcK.τ).loc Cert.AdGcK.main_arg2) = m ((c.tc : Thread Cert.AdGcK.nD Cert.AdGcK.τ).loc Cert.AdGcK.main_arg2)
      ∧ r.2.mem ((c.tc : Thread Cert.AdGcK.nD Cert.AdGcK.τ).loc Cert.AdGcK.main_arg3) = m ((c.tc : Thread Cert.AdGcK.nD Cert.AdGcK.τ).loc Cert.AdGcK.main_arg3))
      ∧ r.2.sem = fun _ => 0)

def quiescent_AdGcKIdeal [hAdGcKIdeal : Cert.AdGcKIdeal.Facts] : Prop :=
  ∀ (m : (ℓ : Loc Cert.AdGcKIdeal.nD Cert.AdGcKIdeal.τ Cert.AdGcKIdeal.sig) → Buf (Elt Ideal) ℓ) (g : Dev Cert.AdGcKIdeal.nD → PrngReg), Pre_AdGcKIdeal m →
    θ_run (Cert.AdGcKIdeal.defs (F := Ideal)) (onTc (τ := Cert.AdGcKIdeal.τ) (Cert.AdGcKIdeal.main (F := Ideal))) ⟨m, fun _ => 0, g⟩ (fun r => (∀ c : Dev Cert.AdGcKIdeal.nD,
      r.2.mem ((c.tc : Thread Cert.AdGcKIdeal.nD Cert.AdGcKIdeal.τ).loc Cert.AdGcKIdeal.main_arg0) = m ((c.tc : Thread Cert.AdGcKIdeal.nD Cert.AdGcKIdeal.τ).loc Cert.AdGcKIdeal.main_arg0)
      ∧ r.2.mem ((c.tc : Thread Cert.AdGcKIdeal.nD Cert.AdGcKIdeal.τ).loc Cert.AdGcKIdeal.main_arg1) = m ((c.tc : Thread Cert.AdGcKIdeal.nD Cert.AdGcKIdeal.τ).loc Cert.AdGcKIdeal.main_arg1)
      ∧ r.2.mem ((c.tc : Thread Cert.AdGcKIdeal.nD Cert.AdGcKIdeal.τ).loc Cert.AdGcKIdeal.main_arg2) = m ((c.tc : Thread Cert.AdGcKIdeal.nD Cert.AdGcKIdeal.τ).loc Cert.AdGcKIdeal.main_arg2)
      ∧ r.2.mem ((c.tc : Thread Cert.AdGcKIdeal.nD Cert.AdGcKIdeal.τ).loc Cert.AdGcKIdeal.main_arg3) = m ((c.tc : Thread Cert.AdGcKIdeal.nD Cert.AdGcKIdeal.τ).loc Cert.AdGcKIdeal.main_arg3))
      ∧ r.2.sem = fun _ => 0)

def quiescent_AdGcRIdeal [hAdGcRIdeal : Cert.AdGcRIdeal.Facts] : Prop :=
  ∀ (m : (ℓ : Loc Cert.AdGcRIdeal.nD Cert.AdGcRIdeal.τ Cert.AdGcRIdeal.sig) → Buf (Elt Ideal) ℓ) (g : Dev Cert.AdGcRIdeal.nD → PrngReg), Pre_AdGcRIdeal m →
    θ_run (Cert.AdGcRIdeal.defs (F := Ideal)) (onTc (τ := Cert.AdGcRIdeal.τ) (Cert.AdGcRIdeal.main (F := Ideal))) ⟨m, fun _ => 0, g⟩ (fun r => (∀ c : Dev Cert.AdGcRIdeal.nD,
      r.2.mem ((c.tc : Thread Cert.AdGcRIdeal.nD Cert.AdGcRIdeal.τ).loc Cert.AdGcRIdeal.main_arg0) = m ((c.tc : Thread Cert.AdGcRIdeal.nD Cert.AdGcRIdeal.τ).loc Cert.AdGcRIdeal.main_arg0)
      ∧ r.2.mem ((c.tc : Thread Cert.AdGcRIdeal.nD Cert.AdGcRIdeal.τ).loc Cert.AdGcRIdeal.main_arg1) = m ((c.tc : Thread Cert.AdGcRIdeal.nD Cert.AdGcRIdeal.τ).loc Cert.AdGcRIdeal.main_arg1)
      ∧ r.2.mem ((c.tc : Thread Cert.AdGcRIdeal.nD Cert.AdGcRIdeal.τ).loc Cert.AdGcRIdeal.main_arg2) = m ((c.tc : Thread Cert.AdGcRIdeal.nD Cert.AdGcRIdeal.τ).loc Cert.AdGcRIdeal.main_arg2)
      ∧ r.2.mem ((c.tc : Thread Cert.AdGcRIdeal.nD Cert.AdGcRIdeal.τ).loc Cert.AdGcRIdeal.main_arg3) = m ((c.tc : Thread Cert.AdGcRIdeal.nD Cert.AdGcRIdeal.τ).loc Cert.AdGcRIdeal.main_arg3))
      ∧ r.2.sem = fun _ => 0)

def quiescent_AdFcK [hAdFcK : Cert.AdFcK.Facts] : Prop :=
  ∀ (m : (ℓ : Loc Cert.AdFcK.nD Cert.AdFcK.τ Cert.AdFcK.sig) → Buf (Elt Bits) ℓ) (g : Dev Cert.AdFcK.nD → PrngReg), Pre_AdFcK m →
    θ_run (Cert.AdFcK.defs (F := Bits)) (onTc (τ := Cert.AdFcK.τ) (Cert.AdFcK.main (F := Bits))) ⟨m, fun _ => 0, g⟩ (fun r => (∀ c : Dev Cert.AdFcK.nD,
      r.2.mem ((c.tc : Thread Cert.AdFcK.nD Cert.AdFcK.τ).loc Cert.AdFcK.main_arg0) = m ((c.tc : Thread Cert.AdFcK.nD Cert.AdFcK.τ).loc Cert.AdFcK.main_arg0)
      ∧ r.2.mem ((c.tc : Thread Cert.AdFcK.nD Cert.AdFcK.τ).loc Cert.AdFcK.main_arg1) = m ((c.tc : Thread Cert.AdFcK.nD Cert.AdFcK.τ).loc Cert.AdFcK.main_arg1)
      ∧ r.2.mem ((c.tc : Thread Cert.AdFcK.nD Cert.AdFcK.τ).loc Cert.AdFcK.main_arg2) = m ((c.tc : Thread Cert.AdFcK.nD Cert.AdFcK.τ).loc Cert.AdFcK.main_arg2)
      ∧ r.2.mem ((c.tc : Thread Cert.AdFcK.nD Cert.AdFcK.τ).loc Cert.AdFcK.main_arg3) = m ((c.tc : Thread Cert.AdFcK.nD Cert.AdFcK.τ).loc Cert.AdFcK.main_arg3))
      ∧ r.2.sem = fun _ => 0)

def quiescent_AdFcKIdeal [hAdFcKIdeal : Cert.AdFcKIdeal.Facts] : Prop :=
  ∀ (m : (ℓ : Loc Cert.AdFcKIdeal.nD Cert.AdFcKIdeal.τ Cert.AdFcKIdeal.sig) → Buf (Elt Ideal) ℓ) (g : Dev Cert.AdFcKIdeal.nD → PrngReg), Pre_AdFcKIdeal m →
    θ_run (Cert.AdFcKIdeal.defs (F := Ideal)) (onTc (τ := Cert.AdFcKIdeal.τ) (Cert.AdFcKIdeal.main (F := Ideal))) ⟨m, fun _ => 0, g⟩ (fun r => (∀ c : Dev Cert.AdFcKIdeal.nD,
      r.2.mem ((c.tc : Thread Cert.AdFcKIdeal.nD Cert.AdFcKIdeal.τ).loc Cert.AdFcKIdeal.main_arg0) = m ((c.tc : Thread Cert.AdFcKIdeal.nD Cert.AdFcKIdeal.τ).loc Cert.AdFcKIdeal.main_arg0)
      ∧ r.2.mem ((c.tc : Thread Cert.AdFcKIdeal.nD Cert.AdFcKIdeal.τ).loc Cert.AdFcKIdeal.main_arg1) = m ((c.tc : Thread Cert.AdFcKIdeal.nD Cert.AdFcKIdeal.τ).loc Cert.AdFcKIdeal.main_arg1)
      ∧ r.2.mem ((c.tc : Thread Cert.AdFcKIdeal.nD Cert.AdFcKIdeal.τ).loc Cert.AdFcKIdeal.main_arg2) = m ((c.tc : Thread Cert.AdFcKIdeal.nD Cert.AdFcKIdeal.τ).loc Cert.AdFcKIdeal.main_arg2)
      ∧ r.2.mem ((c.tc : Thread Cert.AdFcKIdeal.nD Cert.AdFcKIdeal.τ).loc Cert.AdFcKIdeal.main_arg3) = m ((c.tc : Thread Cert.AdFcKIdeal.nD Cert.AdFcKIdeal.τ).loc Cert.AdFcKIdeal.main_arg3))
      ∧ r.2.sem = fun _ => 0)

def quiescent_AdFcRIdeal [hAdFcRIdeal : Cert.AdFcRIdeal.Facts] : Prop :=
  ∀ (m : (ℓ : Loc Cert.AdFcRIdeal.nD Cert.AdFcRIdeal.τ Cert.AdFcRIdeal.sig) → Buf (Elt Ideal) ℓ) (g : Dev Cert.AdFcRIdeal.nD → PrngReg), Pre_AdFcRIdeal m →
    θ_run (Cert.AdFcRIdeal.defs (F := Ideal)) (onTc (τ := Cert.AdFcRIdeal.τ) (Cert.AdFcRIdeal.main (F := Ideal))) ⟨m, fun _ => 0, g⟩ (fun r => (∀ c : Dev Cert.AdFcRIdeal.nD,
      r.2.mem ((c.tc : Thread Cert.AdFcRIdeal.nD Cert.AdFcRIdeal.τ).loc Cert.AdFcRIdeal.main_arg0) = m ((c.tc : Thread Cert.AdFcRIdeal.nD Cert.AdFcRIdeal.τ).loc Cert.AdFcRIdeal.main_arg0)
      ∧ r.2.mem ((c.tc : Thread Cert.AdFcRIdeal.nD Cert.AdFcRIdeal.τ).loc Cert.AdFcRIdeal.main_arg1) = m ((c.tc : Thread Cert.AdFcRIdeal.nD Cert.AdFcRIdeal.τ).loc Cert.AdFcRIdeal.main_arg1)
      ∧ r.2.mem ((c.tc : Thread Cert.AdFcRIdeal.nD Cert.AdFcRIdeal.τ).loc Cert.AdFcRIdeal.main_arg2) = m ((c.tc : Thread Cert.AdFcRIdeal.nD Cert.AdFcRIdeal.τ).loc Cert.AdFcRIdeal.main_arg2)
      ∧ r.2.mem ((c.tc : Thread Cert.AdFcRIdeal.nD Cert.AdFcRIdeal.τ).loc Cert.AdFcRIdeal.main_arg3) = m ((c.tc : Thread Cert.AdFcRIdeal.nD Cert.AdFcRIdeal.τ).loc Cert.AdFcRIdeal.main_arg3))
      ∧ r.2.sem = fun _ => 0)

def quiescent_AdNormK [hAdNormK : Cert.AdNormK.Facts] : Prop :=
  ∀ (m : (ℓ : Loc Cert.AdNormK.nD Cert.AdNormK.τ Cert.AdNormK.sig) → Buf (Elt Bits) ℓ) (g : Dev Cert.AdNormK.nD → PrngReg), Pre_AdNormK m →
    θ_run (Cert.AdNormK.defs (F := Bits)) (onTc (τ := Cert.AdNormK.τ) (Cert.AdNormK.main (F := Bits))) ⟨m, fun _ => 0, g⟩ (fun r => (∀ c : Dev Cert.AdNormK.nD,
      r.2.mem ((c.tc : Thread Cert.AdNormK.nD Cert.AdNormK.τ).loc Cert.AdNormK.main_arg0) = m ((c.tc : Thread Cert.AdNormK.nD Cert.AdNormK.τ).loc Cert.AdNormK.main_arg0)
      ∧ r.2.mem ((c.tc : Thread Cert.AdNormK.nD Cert.AdNormK.τ).loc Cert.AdNormK.main_arg1) = m ((c.tc : Thread Cert.AdNormK.nD Cert.AdNormK.τ).loc Cert.AdNormK.main_arg1)
      ∧ r.2.mem ((c.tc : Thread Cert.AdNormK.nD Cert.AdNormK.τ).loc Cert.AdNormK.main_arg2) = m ((c.tc : Thread Cert.AdNormK.nD Cert.AdNormK.τ).loc Cert.AdNormK.main_arg2)
      ∧ r.2.mem ((c.tc : Thread Cert.AdNormK.nD Cert.AdNormK.τ).loc Cert.AdNormK.main_arg3) = m ((c.tc : Thread Cert.AdNormK.nD Cert.AdNormK.τ).loc Cert.AdNormK.main_arg3))
      ∧ r.2.sem = fun _ => 0)

def quiescent_AdNormKIdeal [hAdNormKIdeal : Cert.AdNormKIdeal.Facts] : Prop :=
  ∀ (m : (ℓ : Loc Cert.AdNormKIdeal.nD Cert.AdNormKIdeal.τ Cert.AdNormKIdeal.sig) → Buf (Elt Ideal) ℓ) (g : Dev Cert.AdNormKIdeal.nD → PrngReg), Pre_AdNormKIdeal m →
    θ_run (Cert.AdNormKIdeal.defs (F := Ideal)) (onTc (τ := Cert.AdNormKIdeal.τ) (Cert.AdNormKIdeal.main (F := Ideal))) ⟨m, fun _ => 0, g⟩ (fun r => (∀ c : Dev Cert.AdNormKIdeal.nD,
      r.2.mem ((c.tc : Thread Cert.AdNormKIdeal.nD Cert.AdNormKIdeal.τ).loc Cert.AdNormKIdeal.main_arg0) = m ((c.tc : Thread Cert.AdNormKIdeal.nD Cert.AdNormKIdeal.τ).loc Cert.AdNormKIdeal.main_arg0)
      ∧ r.2.mem ((c.tc : Thread Cert.AdNormKIdeal.nD Cert.AdNormKIdeal.τ).loc Cert.AdNormKIdeal.main_arg1) = m ((c.tc : Thread Cert.AdNormKIdeal.nD Cert.AdNormKIdeal.τ).loc Cert.AdNormKIdeal.main_arg1)
      ∧ r.2.mem ((c.tc : Thread Cert.AdNormKIdeal.nD Cert.AdNormKIdeal.τ).loc Cert.AdNormKIdeal.main_arg2) = m ((c.tc : Thread Cert.AdNormKIdeal.nD Cert.AdNormKIdeal.τ).loc Cert.AdNormKIdeal.main_arg2)
      ∧ r.2.mem ((c.tc : Thread Cert.AdNormKIdeal.nD Cert.AdNormKIdeal.τ).loc Cert.AdNormKIdeal.main_arg3) = m ((c.tc : Thread Cert.AdNormKIdeal.nD Cert.AdNormKIdeal.τ).loc Cert.AdNormKIdeal.main_arg3))
      ∧ r.2.sem = fun _ => 0)

def quiescent_AdNormRIdeal [hAdNormRIdeal : Cert.AdNormRIdeal.Facts] : Prop :=
  ∀ (m : (ℓ : Loc Cert.AdNormRIdeal.nD Cert.AdNormRIdeal.τ Cert.AdNormRIdeal.sig) → Buf (Elt Ideal) ℓ) (g : Dev Cert.AdNormRIdeal.nD → PrngReg), Pre_AdNormRIdeal m →
    θ_run (Cert.AdNormRIdeal.defs (F := Ideal)) (onTc (τ := Cert.AdNormRIdeal.τ) (Cert.AdNormRIdeal.main (F := Ideal))) ⟨m, fun _ => 0, g⟩ (fun r => (∀ c : Dev Cert.AdNormRIdeal.nD,
      r.2.mem ((c.tc : Thread Cert.AdNormRIdeal.nD Cert.AdNormRIdeal.τ).loc Cert.AdNormRIdeal.main_arg0) = m ((c.tc : Thread Cert.AdNormRIdeal.nD Cert.AdNormRIdeal.τ).loc Cert.AdNormRIdeal.main_arg0)
      ∧ r.2.mem ((c.tc : Thread Cert.AdNormRIdeal.nD Cert.AdNormRIdeal.τ).loc Cert.AdNormRIdeal.main_arg1) = m ((c.tc : Thread Cert.AdNormRIdeal.nD Cert.AdNormRIdeal.τ).loc Cert.AdNormRIdeal.main_arg1)
      ∧ r.2.mem ((c.tc : Thread Cert.AdNormRIdeal.nD Cert.AdNormRIdeal.τ).loc Cert.AdNormRIdeal.main_arg2) = m ((c.tc : Thread Cert.AdNormRIdeal.nD Cert.AdNormRIdeal.τ).loc Cert.AdNormRIdeal.main_arg2)
      ∧ r.2.mem ((c.tc : Thread Cert.AdNormRIdeal.nD Cert.AdNormRIdeal.τ).loc Cert.AdNormRIdeal.main_arg3) = m ((c.tc : Thread Cert.AdNormRIdeal.nD Cert.AdNormRIdeal.τ).loc Cert.AdNormRIdeal.main_arg3))
      ∧ r.2.sem = fun _ => 0)

def quiescent_AdFinalK [hAdFinalK : Cert.AdFinalK.Facts] : Prop :=
  ∀ (m : (ℓ : Loc Cert.AdFinalK.nD Cert.AdFinalK.τ Cert.AdFinalK.sig) → Buf (Elt Bits) ℓ) (g : Dev Cert.AdFinalK.nD → PrngReg), Pre_AdFinalK m →
    θ_run (Cert.AdFinalK.defs (F := Bits)) (onTc (τ := Cert.AdFinalK.τ) (Cert.AdFinalK.main (F := Bits))) ⟨m, fun _ => 0, g⟩ (fun r => (∀ c : Dev Cert.AdFinalK.nD,
      r.2.mem ((c.tc : Thread Cert.AdFinalK.nD Cert.AdFinalK.τ).loc Cert.AdFinalK.main_arg0) = m ((c.tc : Thread Cert.AdFinalK.nD Cert.AdFinalK.τ).loc Cert.AdFinalK.main_arg0)
      ∧ r.2.mem ((c.tc : Thread Cert.AdFinalK.nD Cert.AdFinalK.τ).loc Cert.AdFinalK.main_arg1) = m ((c.tc : Thread Cert.AdFinalK.nD Cert.AdFinalK.τ).loc Cert.AdFinalK.main_arg1)
      ∧ r.2.mem ((c.tc : Thread Cert.AdFinalK.nD Cert.AdFinalK.τ).loc Cert.AdFinalK.main_arg2) = m ((c.tc : Thread Cert.AdFinalK.nD Cert.AdFinalK.τ).loc Cert.AdFinalK.main_arg2)
      ∧ r.2.mem ((c.tc : Thread Cert.AdFinalK.nD Cert.AdFinalK.τ).loc Cert.AdFinalK.main_arg3) = m ((c.tc : Thread Cert.AdFinalK.nD Cert.AdFinalK.τ).loc Cert.AdFinalK.main_arg3))
      ∧ r.2.sem = fun _ => 0)

def quiescent_AdFinalKIdeal [hAdFinalKIdeal : Cert.AdFinalKIdeal.Facts] : Prop :=
  ∀ (m : (ℓ : Loc Cert.AdFinalKIdeal.nD Cert.AdFinalKIdeal.τ Cert.AdFinalKIdeal.sig) → Buf (Elt Ideal) ℓ) (g : Dev Cert.AdFinalKIdeal.nD → PrngReg), Pre_AdFinalKIdeal m →
    θ_run (Cert.AdFinalKIdeal.defs (F := Ideal)) (onTc (τ := Cert.AdFinalKIdeal.τ) (Cert.AdFinalKIdeal.main (F := Ideal))) ⟨m, fun _ => 0, g⟩ (fun r => (∀ c : Dev Cert.AdFinalKIdeal.nD,
      r.2.mem ((c.tc : Thread Cert.AdFinalKIdeal.nD Cert.AdFinalKIdeal.τ).loc Cert.AdFinalKIdeal.main_arg0) = m ((c.tc : Thread Cert.AdFinalKIdeal.nD Cert.AdFinalKIdeal.τ).loc Cert.AdFinalKIdeal.main_arg0)
      ∧ r.2.mem ((c.tc : Thread Cert.AdFinalKIdeal.nD Cert.AdFinalKIdeal.τ).loc Cert.AdFinalKIdeal.main_arg1) = m ((c.tc : Thread Cert.AdFinalKIdeal.nD Cert.AdFinalKIdeal.τ).loc Cert.AdFinalKIdeal.main_arg1)
      ∧ r.2.mem ((c.tc : Thread Cert.AdFinalKIdeal.nD Cert.AdFinalKIdeal.τ).loc Cert.AdFinalKIdeal.main_arg2) = m ((c.tc : Thread Cert.AdFinalKIdeal.nD Cert.AdFinalKIdeal.τ).loc Cert.AdFinalKIdeal.main_arg2)
      ∧ r.2.mem ((c.tc : Thread Cert.AdFinalKIdeal.nD Cert.AdFinalKIdeal.τ).loc Cert.AdFinalKIdeal.main_arg3) = m ((c.tc : Thread Cert.AdFinalKIdeal.nD Cert.AdFinalKIdeal.τ).loc Cert.AdFinalKIdeal.main_arg3))
      ∧ r.2.sem = fun _ => 0)

def quiescent_AdFinalRIdeal [hAdFinalRIdeal : Cert.AdFinalRIdeal.Facts] : Prop :=
  ∀ (m : (ℓ : Loc Cert.AdFinalRIdeal.nD Cert.AdFinalRIdeal.τ Cert.AdFinalRIdeal.sig) → Buf (Elt Ideal) ℓ) (g : Dev Cert.AdFinalRIdeal.nD → PrngReg), Pre_AdFinalRIdeal m →
    θ_run (Cert.AdFinalRIdeal.defs (F := Ideal)) (onTc (τ := Cert.AdFinalRIdeal.τ) (Cert.AdFinalRIdeal.main (F := Ideal))) ⟨m, fun _ => 0, g⟩ (fun r => (∀ c : Dev Cert.AdFinalRIdeal.nD,
      r.2.mem ((c.tc : Thread Cert.AdFinalRIdeal.nD Cert.AdFinalRIdeal.τ).loc Cert.AdFinalRIdeal.main_arg0) = m ((c.tc : Thread Cert.AdFinalRIdeal.nD Cert.AdFinalRIdeal.τ).loc Cert.AdFinalRIdeal.main_arg0)
      ∧ r.2.mem ((c.tc : Thread Cert.AdFinalRIdeal.nD Cert.AdFinalRIdeal.τ).loc Cert.AdFinalRIdeal.main_arg1) = m ((c.tc : Thread Cert.AdFinalRIdeal.nD Cert.AdFinalRIdeal.τ).loc Cert.AdFinalRIdeal.main_arg1)
      ∧ r.2.mem ((c.tc : Thread Cert.AdFinalRIdeal.nD Cert.AdFinalRIdeal.τ).loc Cert.AdFinalRIdeal.main_arg2) = m ((c.tc : Thread Cert.AdFinalRIdeal.nD Cert.AdFinalRIdeal.τ).loc Cert.AdFinalRIdeal.main_arg2)
      ∧ r.2.mem ((c.tc : Thread Cert.AdFinalRIdeal.nD Cert.AdFinalRIdeal.τ).loc Cert.AdFinalRIdeal.main_arg3) = m ((c.tc : Thread Cert.AdFinalRIdeal.nD Cert.AdFinalRIdeal.τ).loc Cert.AdFinalRIdeal.main_arg3))
      ∧ r.2.sem = fun _ => 0)

def quiescent_AdChK [hAdChK : Cert.AdChK.Facts] : Prop :=
  ∀ (m : (ℓ : Loc Cert.AdChK.nD Cert.AdChK.τ Cert.AdChK.sig) → Buf (Elt Bits) ℓ) (g : Dev Cert.AdChK.nD → PrngReg), Pre_AdChK m →
    θ_run (Cert.AdChK.defs (F := Bits)) (onTc (τ := Cert.AdChK.τ) (Cert.AdChK.main (F := Bits))) ⟨m, fun _ => 0, g⟩ (fun r => (∀ c : Dev Cert.AdChK.nD,
      r.2.mem ((c.tc : Thread Cert.AdChK.nD Cert.AdChK.τ).loc Cert.AdChK.main_arg0) = m ((c.tc : Thread Cert.AdChK.nD Cert.AdChK.τ).loc Cert.AdChK.main_arg0)
      ∧ r.2.mem ((c.tc : Thread Cert.AdChK.nD Cert.AdChK.τ).loc Cert.AdChK.main_arg1) = m ((c.tc : Thread Cert.AdChK.nD Cert.AdChK.τ).loc Cert.AdChK.main_arg1)
      ∧ r.2.mem ((c.tc : Thread Cert.AdChK.nD Cert.AdChK.τ).loc Cert.AdChK.main_arg2) = m ((c.tc : Thread Cert.AdChK.nD Cert.AdChK.τ).loc Cert.AdChK.main_arg2)
      ∧ r.2.mem ((c.tc : Thread Cert.AdChK.nD Cert.AdChK.τ).loc Cert.AdChK.main_arg3) = m ((c.tc : Thread Cert.AdChK.nD Cert.AdChK.τ).loc Cert.AdChK.main_arg3))
      ∧ r.2.sem = fun _ => 0)

def quiescent_AdChKIdeal [hAdChKIdeal : Cert.AdChKIdeal.Facts] : Prop :=
  ∀ (m : (ℓ : Loc Cert.AdChKIdeal.nD Cert.AdChKIdeal.τ Cert.AdChKIdeal.sig) → Buf (Elt Ideal) ℓ) (g : Dev Cert.AdChKIdeal.nD → PrngReg), Pre_AdChKIdeal m →
    θ_run (Cert.AdChKIdeal.defs (F := Ideal)) (onTc (τ := Cert.AdChKIdeal.τ) (Cert.AdChKIdeal.main (F := Ideal))) ⟨m, fun _ => 0, g⟩ (fun r => (∀ c : Dev Cert.AdChKIdeal.nD,
      r.2.mem ((c.tc : Thread Cert.AdChKIdeal.nD Cert.AdChKIdeal.τ).loc Cert.AdChKIdeal.main_arg0) = m ((c.tc : Thread Cert.AdChKIdeal.nD Cert.AdChKIdeal.τ).loc Cert.AdChKIdeal.main_arg0)
      ∧ r.2.mem ((c.tc : Thread Cert.AdChKIdeal.nD Cert.AdChKIdeal.τ).loc Cert.AdChKIdeal.main_arg1) = m ((c.tc : Thread Cert.AdChKIdeal.nD Cert.AdChKIdeal.τ).loc Cert.AdChKIdeal.main_arg1)
      ∧ r.2.mem ((c.tc : Thread Cert.AdChKIdeal.nD Cert.AdChKIdeal.τ).loc Cert.AdChKIdeal.main_arg2) = m ((c.tc : Thread Cert.AdChKIdeal.nD Cert.AdChKIdeal.τ).loc Cert.AdChKIdeal.main_arg2)
      ∧ r.2.mem ((c.tc : Thread Cert.AdChKIdeal.nD Cert.AdChKIdeal.τ).loc Cert.AdChKIdeal.main_arg3) = m ((c.tc : Thread Cert.AdChKIdeal.nD Cert.AdChKIdeal.τ).loc Cert.AdChKIdeal.main_arg3))
      ∧ r.2.sem = fun _ => 0)

def quiescent_AdChRIdeal [hAdChRIdeal : Cert.AdChRIdeal.Facts] : Prop :=
  ∀ (m : (ℓ : Loc Cert.AdChRIdeal.nD Cert.AdChRIdeal.τ Cert.AdChRIdeal.sig) → Buf (Elt Ideal) ℓ) (g : Dev Cert.AdChRIdeal.nD → PrngReg), Pre_AdChRIdeal m →
    θ_run (Cert.AdChRIdeal.defs (F := Ideal)) (onTc (τ := Cert.AdChRIdeal.τ) (Cert.AdChRIdeal.main (F := Ideal))) ⟨m, fun _ => 0, g⟩ (fun r => (∀ c : Dev Cert.AdChRIdeal.nD,
      r.2.mem ((c.tc : Thread Cert.AdChRIdeal.nD Cert.AdChRIdeal.τ).loc Cert.AdChRIdeal.main_arg0) = m ((c.tc : Thread Cert.AdChRIdeal.nD Cert.AdChRIdeal.τ).loc Cert.AdChRIdeal.main_arg0)
      ∧ r.2.mem ((c.tc : Thread Cert.AdChRIdeal.nD Cert.AdChRIdeal.τ).loc Cert.AdChRIdeal.main_arg1) = m ((c.tc : Thread Cert.AdChRIdeal.nD Cert.AdChRIdeal.τ).loc Cert.AdChRIdeal.main_arg1)
      ∧ r.2.mem ((c.tc : Thread Cert.AdChRIdeal.nD Cert.AdChRIdeal.τ).loc Cert.AdChRIdeal.main_arg2) = m ((c.tc : Thread Cert.AdChRIdeal.nD Cert.AdChRIdeal.τ).loc Cert.AdChRIdeal.main_arg2)
      ∧ r.2.mem ((c.tc : Thread Cert.AdChRIdeal.nD Cert.AdChRIdeal.τ).loc Cert.AdChRIdeal.main_arg3) = m ((c.tc : Thread Cert.AdChRIdeal.nD Cert.AdChRIdeal.τ).loc Cert.AdChRIdeal.main_arg3))
      ∧ r.2.sem = fun _ => 0)

def quiescent_AdHeadK [hAdHeadK : Cert.AdHeadK.Facts] : Prop :=
  ∀ (m : (ℓ : Loc Cert.AdHeadK.nD Cert.AdHeadK.τ Cert.AdHeadK.sig) → Buf (Elt Bits) ℓ) (g : Dev Cert.AdHeadK.nD → PrngReg), Pre_AdHeadK m →
    θ_run (Cert.AdHeadK.defs (F := Bits)) (onTc (τ := Cert.AdHeadK.τ) (Cert.AdHeadK.main (F := Bits))) ⟨m, fun _ => 0, g⟩ (fun r => (∀ c : Dev Cert.AdHeadK.nD,
      r.2.mem ((c.tc : Thread Cert.AdHeadK.nD Cert.AdHeadK.τ).loc Cert.AdHeadK.main_arg0) = m ((c.tc : Thread Cert.AdHeadK.nD Cert.AdHeadK.τ).loc Cert.AdHeadK.main_arg0)
      ∧ r.2.mem ((c.tc : Thread Cert.AdHeadK.nD Cert.AdHeadK.τ).loc Cert.AdHeadK.main_arg1) = m ((c.tc : Thread Cert.AdHeadK.nD Cert.AdHeadK.τ).loc Cert.AdHeadK.main_arg1)
      ∧ r.2.mem ((c.tc : Thread Cert.AdHeadK.nD Cert.AdHeadK.τ).loc Cert.AdHeadK.main_arg2) = m ((c.tc : Thread Cert.AdHeadK.nD Cert.AdHeadK.τ).loc Cert.AdHeadK.main_arg2)
      ∧ r.2.mem ((c.tc : Thread Cert.AdHeadK.nD Cert.AdHeadK.τ).loc Cert.AdHeadK.main_arg3) = m ((c.tc : Thread Cert.AdHeadK.nD Cert.AdHeadK.τ).loc Cert.AdHeadK.main_arg3))
      ∧ r.2.sem = fun _ => 0)

def quiescent_AdHeadKIdeal [hAdHeadKIdeal : Cert.AdHeadKIdeal.Facts] : Prop :=
  ∀ (m : (ℓ : Loc Cert.AdHeadKIdeal.nD Cert.AdHeadKIdeal.τ Cert.AdHeadKIdeal.sig) → Buf (Elt Ideal) ℓ) (g : Dev Cert.AdHeadKIdeal.nD → PrngReg), Pre_AdHeadKIdeal m →
    θ_run (Cert.AdHeadKIdeal.defs (F := Ideal)) (onTc (τ := Cert.AdHeadKIdeal.τ) (Cert.AdHeadKIdeal.main (F := Ideal))) ⟨m, fun _ => 0, g⟩ (fun r => (∀ c : Dev Cert.AdHeadKIdeal.nD,
      r.2.mem ((c.tc : Thread Cert.AdHeadKIdeal.nD Cert.AdHeadKIdeal.τ).loc Cert.AdHeadKIdeal.main_arg0) = m ((c.tc : Thread Cert.AdHeadKIdeal.nD Cert.AdHeadKIdeal.τ).loc Cert.AdHeadKIdeal.main_arg0)
      ∧ r.2.mem ((c.tc : Thread Cert.AdHeadKIdeal.nD Cert.AdHeadKIdeal.τ).loc Cert.AdHeadKIdeal.main_arg1) = m ((c.tc : Thread Cert.AdHeadKIdeal.nD Cert.AdHeadKIdeal.τ).loc Cert.AdHeadKIdeal.main_arg1)
      ∧ r.2.mem ((c.tc : Thread Cert.AdHeadKIdeal.nD Cert.AdHeadKIdeal.τ).loc Cert.AdHeadKIdeal.main_arg2) = m ((c.tc : Thread Cert.AdHeadKIdeal.nD Cert.AdHeadKIdeal.τ).loc Cert.AdHeadKIdeal.main_arg2)
      ∧ r.2.mem ((c.tc : Thread Cert.AdHeadKIdeal.nD Cert.AdHeadKIdeal.τ).loc Cert.AdHeadKIdeal.main_arg3) = m ((c.tc : Thread Cert.AdHeadKIdeal.nD Cert.AdHeadKIdeal.τ).loc Cert.AdHeadKIdeal.main_arg3))
      ∧ r.2.sem = fun _ => 0)

def quiescent_AdHeadRIdeal [hAdHeadRIdeal : Cert.AdHeadRIdeal.Facts] : Prop :=
  ∀ (m : (ℓ : Loc Cert.AdHeadRIdeal.nD Cert.AdHeadRIdeal.τ Cert.AdHeadRIdeal.sig) → Buf (Elt Ideal) ℓ) (g : Dev Cert.AdHeadRIdeal.nD → PrngReg), Pre_AdHeadRIdeal m →
    θ_run (Cert.AdHeadRIdeal.defs (F := Ideal)) (onTc (τ := Cert.AdHeadRIdeal.τ) (Cert.AdHeadRIdeal.main (F := Ideal))) ⟨m, fun _ => 0, g⟩ (fun r => (∀ c : Dev Cert.AdHeadRIdeal.nD,
      r.2.mem ((c.tc : Thread Cert.AdHeadRIdeal.nD Cert.AdHeadRIdeal.τ).loc Cert.AdHeadRIdeal.main_arg0) = m ((c.tc : Thread Cert.AdHeadRIdeal.nD Cert.AdHeadRIdeal.τ).loc Cert.AdHeadRIdeal.main_arg0)
      ∧ r.2.mem ((c.tc : Thread Cert.AdHeadRIdeal.nD Cert.AdHeadRIdeal.τ).loc Cert.AdHeadRIdeal.main_arg1) = m ((c.tc : Thread Cert.AdHeadRIdeal.nD Cert.AdHeadRIdeal.τ).loc Cert.AdHeadRIdeal.main_arg1)
      ∧ r.2.mem ((c.tc : Thread Cert.AdHeadRIdeal.nD Cert.AdHeadRIdeal.τ).loc Cert.AdHeadRIdeal.main_arg2) = m ((c.tc : Thread Cert.AdHeadRIdeal.nD Cert.AdHeadRIdeal.τ).loc Cert.AdHeadRIdeal.main_arg2)
      ∧ r.2.mem ((c.tc : Thread Cert.AdHeadRIdeal.nD Cert.AdHeadRIdeal.τ).loc Cert.AdHeadRIdeal.main_arg3) = m ((c.tc : Thread Cert.AdHeadRIdeal.nD Cert.AdHeadRIdeal.τ).loc Cert.AdHeadRIdeal.main_arg3))
      ∧ r.2.sem = fun _ => 0)

def quiescent_AdKeyK [hAdKeyK : Cert.AdKeyK.Facts] : Prop :=
  ∀ (m : (ℓ : Loc Cert.AdKeyK.nD Cert.AdKeyK.τ Cert.AdKeyK.sig) → Buf (Elt Bits) ℓ) (g : Dev Cert.AdKeyK.nD → PrngReg), Pre_AdKeyK m →
    θ_run (Cert.AdKeyK.defs (F := Bits)) (onTc (τ := Cert.AdKeyK.τ) (Cert.AdKeyK.main (F := Bits))) ⟨m, fun _ => 0, g⟩ (fun r => (∀ c : Dev Cert.AdKeyK.nD,
      r.2.mem ((c.tc : Thread Cert.AdKeyK.nD Cert.AdKeyK.τ).loc Cert.AdKeyK.main_arg0) = m ((c.tc : Thread Cert.AdKeyK.nD Cert.AdKeyK.τ).loc Cert.AdKeyK.main_arg0)
      ∧ r.2.mem ((c.tc : Thread Cert.AdKeyK.nD Cert.AdKeyK.τ).loc Cert.AdKeyK.main_arg1) = m ((c.tc : Thread Cert.AdKeyK.nD Cert.AdKeyK.τ).loc Cert.AdKeyK.main_arg1)
      ∧ r.2.mem ((c.tc : Thread Cert.AdKeyK.nD Cert.AdKeyK.τ).loc Cert.AdKeyK.main_arg2) = m ((c.tc : Thread Cert.AdKeyK.nD Cert.AdKeyK.τ).loc Cert.AdKeyK.main_arg2)
      ∧ r.2.mem ((c.tc : Thread Cert.AdKeyK.nD Cert.AdKeyK.τ).loc Cert.AdKeyK.main_arg3) = m ((c.tc : Thread Cert.AdKeyK.nD Cert.AdKeyK.τ).loc Cert.AdKeyK.main_arg3))
      ∧ r.2.sem = fun _ => 0)

def quiescent_AdKeyKIdeal [hAdKeyKIdeal : Cert.AdKeyKIdeal.Facts] : Prop :=
  ∀ (m : (ℓ : Loc Cert.AdKeyKIdeal.nD Cert.AdKeyKIdeal.τ Cert.AdKeyKIdeal.sig) → Buf (Elt Ideal) ℓ) (g : Dev Cert.AdKeyKIdeal.nD → PrngReg), Pre_AdKeyKIdeal m →
    θ_run (Cert.AdKeyKIdeal.defs (F := Ideal)) (onTc (τ := Cert.AdKeyKIdeal.τ) (Cert.AdKeyKIdeal.main (F := Ideal))) ⟨m, fun _ => 0, g⟩ (fun r => (∀ c : Dev Cert.AdKeyKIdeal.nD,
      r.2.mem ((c.tc : Thread Cert.AdKeyKIdeal.nD Cert.AdKeyKIdeal.τ).loc Cert.AdKeyKIdeal.main_arg0) = m ((c.tc : Thread Cert.AdKeyKIdeal.nD Cert.AdKeyKIdeal.τ).loc Cert.AdKeyKIdeal.main_arg0)
      ∧ r.2.mem ((c.tc : Thread Cert.AdKeyKIdeal.nD Cert.AdKeyKIdeal.τ).loc Cert.AdKeyKIdeal.main_arg1) = m ((c.tc : Thread Cert.AdKeyKIdeal.nD Cert.AdKeyKIdeal.τ).loc Cert.AdKeyKIdeal.main_arg1)
      ∧ r.2.mem ((c.tc : Thread Cert.AdKeyKIdeal.nD Cert.AdKeyKIdeal.τ).loc Cert.AdKeyKIdeal.main_arg2) = m ((c.tc : Thread Cert.AdKeyKIdeal.nD Cert.AdKeyKIdeal.τ).loc Cert.AdKeyKIdeal.main_arg2)
      ∧ r.2.mem ((c.tc : Thread Cert.AdKeyKIdeal.nD Cert.AdKeyKIdeal.τ).loc Cert.AdKeyKIdeal.main_arg3) = m ((c.tc : Thread Cert.AdKeyKIdeal.nD Cert.AdKeyKIdeal.τ).loc Cert.AdKeyKIdeal.main_arg3))
      ∧ r.2.sem = fun _ => 0)

def quiescent_AdKeyRIdeal [hAdKeyRIdeal : Cert.AdKeyRIdeal.Facts] : Prop :=
  ∀ (m : (ℓ : Loc Cert.AdKeyRIdeal.nD Cert.AdKeyRIdeal.τ Cert.AdKeyRIdeal.sig) → Buf (Elt Ideal) ℓ) (g : Dev Cert.AdKeyRIdeal.nD → PrngReg), Pre_AdKeyRIdeal m →
    θ_run (Cert.AdKeyRIdeal.defs (F := Ideal)) (onTc (τ := Cert.AdKeyRIdeal.τ) (Cert.AdKeyRIdeal.main (F := Ideal))) ⟨m, fun _ => 0, g⟩ (fun r => (∀ c : Dev Cert.AdKeyRIdeal.nD,
      r.2.mem ((c.tc : Thread Cert.AdKeyRIdeal.nD Cert.AdKeyRIdeal.τ).loc Cert.AdKeyRIdeal.main_arg0) = m ((c.tc : Thread Cert.AdKeyRIdeal.nD Cert.AdKeyRIdeal.τ).loc Cert.AdKeyRIdeal.main_arg0)
      ∧ r.2.mem ((c.tc : Thread Cert.AdKeyRIdeal.nD Cert.AdKeyRIdeal.τ).loc Cert.AdKeyRIdeal.main_arg1) = m ((c.tc : Thread Cert.AdKeyRIdeal.nD Cert.AdKeyRIdeal.τ).loc Cert.AdKeyRIdeal.main_arg1)
      ∧ r.2.mem ((c.tc : Thread Cert.AdKeyRIdeal.nD Cert.AdKeyRIdeal.τ).loc Cert.AdKeyRIdeal.main_arg2) = m ((c.tc : Thread Cert.AdKeyRIdeal.nD Cert.AdKeyRIdeal.τ).loc Cert.AdKeyRIdeal.main_arg2)
      ∧ r.2.mem ((c.tc : Thread Cert.AdKeyRIdeal.nD Cert.AdKeyRIdeal.τ).loc Cert.AdKeyRIdeal.main_arg3) = m ((c.tc : Thread Cert.AdKeyRIdeal.nD Cert.AdKeyRIdeal.τ).loc Cert.AdKeyRIdeal.main_arg3))
      ∧ r.2.sem = fun _ => 0)

def quiescent_AdFbK [hAdFbK : Cert.AdFbK.Facts] : Prop :=
  ∀ (m : (ℓ : Loc Cert.AdFbK.nD Cert.AdFbK.τ Cert.AdFbK.sig) → Buf (Elt Bits) ℓ) (g : Dev Cert.AdFbK.nD → PrngReg), Pre_AdFbK m →
    θ_run (Cert.AdFbK.defs (F := Bits)) (onTc (τ := Cert.AdFbK.τ) (Cert.AdFbK.main (F := Bits))) ⟨m, fun _ => 0, g⟩ (fun r => (∀ c : Dev Cert.AdFbK.nD,
      r.2.mem ((c.tc : Thread Cert.AdFbK.nD Cert.AdFbK.τ).loc Cert.AdFbK.main_arg0) = m ((c.tc : Thread Cert.AdFbK.nD Cert.AdFbK.τ).loc Cert.AdFbK.main_arg0)
      ∧ r.2.mem ((c.tc : Thread Cert.AdFbK.nD Cert.AdFbK.τ).loc Cert.AdFbK.main_arg1) = m ((c.tc : Thread Cert.AdFbK.nD Cert.AdFbK.τ).loc Cert.AdFbK.main_arg1)
      ∧ r.2.mem ((c.tc : Thread Cert.AdFbK.nD Cert.AdFbK.τ).loc Cert.AdFbK.main_arg2) = m ((c.tc : Thread Cert.AdFbK.nD Cert.AdFbK.τ).loc Cert.AdFbK.main_arg2)
      ∧ r.2.mem ((c.tc : Thread Cert.AdFbK.nD Cert.AdFbK.τ).loc Cert.AdFbK.main_arg3) = m ((c.tc : Thread Cert.AdFbK.nD Cert.AdFbK.τ).loc Cert.AdFbK.main_arg3))
      ∧ r.2.sem = fun _ => 0)

def quiescent_AdFbKIdeal [hAdFbKIdeal : Cert.AdFbKIdeal.Facts] : Prop :=
  ∀ (m : (ℓ : Loc Cert.AdFbKIdeal.nD Cert.AdFbKIdeal.τ Cert.AdFbKIdeal.sig) → Buf (Elt Ideal) ℓ) (g : Dev Cert.AdFbKIdeal.nD → PrngReg), Pre_AdFbKIdeal m →
    θ_run (Cert.AdFbKIdeal.defs (F := Ideal)) (onTc (τ := Cert.AdFbKIdeal.τ) (Cert.AdFbKIdeal.main (F := Ideal))) ⟨m, fun _ => 0, g⟩ (fun r => (∀ c : Dev Cert.AdFbKIdeal.nD,
      r.2.mem ((c.tc : Thread Cert.AdFbKIdeal.nD Cert.AdFbKIdeal.τ).loc Cert.AdFbKIdeal.main_arg0) = m ((c.tc : Thread Cert.AdFbKIdeal.nD Cert.AdFbKIdeal.τ).loc Cert.AdFbKIdeal.main_arg0)
      ∧ r.2.mem ((c.tc : Thread Cert.AdFbKIdeal.nD Cert.AdFbKIdeal.τ).loc Cert.AdFbKIdeal.main_arg1) = m ((c.tc : Thread Cert.AdFbKIdeal.nD Cert.AdFbKIdeal.τ).loc Cert.AdFbKIdeal.main_arg1)
      ∧ r.2.mem ((c.tc : Thread Cert.AdFbKIdeal.nD Cert.AdFbKIdeal.τ).loc Cert.AdFbKIdeal.main_arg2) = m ((c.tc : Thread Cert.AdFbKIdeal.nD Cert.AdFbKIdeal.τ).loc Cert.AdFbKIdeal.main_arg2)
      ∧ r.2.mem ((c.tc : Thread Cert.AdFbKIdeal.nD Cert.AdFbKIdeal.τ).loc Cert.AdFbKIdeal.main_arg3) = m ((c.tc : Thread Cert.AdFbKIdeal.nD Cert.AdFbKIdeal.τ).loc Cert.AdFbKIdeal.main_arg3))
      ∧ r.2.sem = fun _ => 0)

def quiescent_AdFbRIdeal [hAdFbRIdeal : Cert.AdFbRIdeal.Facts] : Prop :=
  ∀ (m : (ℓ : Loc Cert.AdFbRIdeal.nD Cert.AdFbRIdeal.τ Cert.AdFbRIdeal.sig) → Buf (Elt Ideal) ℓ) (g : Dev Cert.AdFbRIdeal.nD → PrngReg), Pre_AdFbRIdeal m →
    θ_run (Cert.AdFbRIdeal.defs (F := Ideal)) (onTc (τ := Cert.AdFbRIdeal.τ) (Cert.AdFbRIdeal.main (F := Ideal))) ⟨m, fun _ => 0, g⟩ (fun r => (∀ c : Dev Cert.AdFbRIdeal.nD,
      r.2.mem ((c.tc : Thread Cert.AdFbRIdeal.nD Cert.AdFbRIdeal.τ).loc Cert.AdFbRIdeal.main_arg0) = m ((c.tc : Thread Cert.AdFbRIdeal.nD Cert.AdFbRIdeal.τ).loc Cert.AdFbRIdeal.main_arg0)
      ∧ r.2.mem ((c.tc : Thread Cert.AdFbRIdeal.nD Cert.AdFbRIdeal.τ).loc Cert.AdFbRIdeal.main_arg1) = m ((c.tc : Thread Cert.AdFbRIdeal.nD Cert.AdFbRIdeal.τ).loc Cert.AdFbRIdeal.main_arg1)
      ∧ r.2.mem ((c.tc : Thread Cert.AdFbRIdeal.nD Cert.AdFbRIdeal.τ).loc Cert.AdFbRIdeal.main_arg2) = m ((c.tc : Thread Cert.AdFbRIdeal.nD Cert.AdFbRIdeal.τ).loc Cert.AdFbRIdeal.main_arg2)
      ∧ r.2.mem ((c.tc : Thread Cert.AdFbRIdeal.nD Cert.AdFbRIdeal.τ).loc Cert.AdFbRIdeal.main_arg3) = m ((c.tc : Thread Cert.AdFbRIdeal.nD Cert.AdFbRIdeal.τ).loc Cert.AdFbRIdeal.main_arg3))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1))
      ∧ r.2.sem = fun _ => 0)

def quiescent_DnormK [hDnormK : Cert.DnormK.Facts] : Prop :=
  ∀ (m : (ℓ : Loc Cert.DnormK.nD Cert.DnormK.τ Cert.DnormK.sig) → Buf (Elt Bits) ℓ) (g : Dev Cert.DnormK.nD → PrngReg), Pre_DnormK m →
    θ_run (Cert.DnormK.defs (F := Bits)) (onTc (τ := Cert.DnormK.τ) (Cert.DnormK.main (F := Bits))) ⟨m, fun _ => 0, g⟩ (fun r => (∀ c : Dev Cert.DnormK.nD,
      r.2.mem ((c.tc : Thread Cert.DnormK.nD Cert.DnormK.τ).loc Cert.DnormK.main_arg0) = m ((c.tc : Thread Cert.DnormK.nD Cert.DnormK.τ).loc Cert.DnormK.main_arg0)
      ∧ r.2.mem ((c.tc : Thread Cert.DnormK.nD Cert.DnormK.τ).loc Cert.DnormK.main_arg1) = m ((c.tc : Thread Cert.DnormK.nD Cert.DnormK.τ).loc Cert.DnormK.main_arg1)
      ∧ r.2.mem ((c.tc : Thread Cert.DnormK.nD Cert.DnormK.τ).loc Cert.DnormK.main_arg2) = m ((c.tc : Thread Cert.DnormK.nD Cert.DnormK.τ).loc Cert.DnormK.main_arg2)
      ∧ r.2.mem ((c.tc : Thread Cert.DnormK.nD Cert.DnormK.τ).loc Cert.DnormK.main_arg3) = m ((c.tc : Thread Cert.DnormK.nD Cert.DnormK.τ).loc Cert.DnormK.main_arg3))
      ∧ r.2.sem = fun _ => 0)

def quiescent_DnormKIdeal [hDnormKIdeal : Cert.DnormKIdeal.Facts] : Prop :=
  ∀ (m : (ℓ : Loc Cert.DnormKIdeal.nD Cert.DnormKIdeal.τ Cert.DnormKIdeal.sig) → Buf (Elt Ideal) ℓ) (g : Dev Cert.DnormKIdeal.nD → PrngReg), Pre_DnormKIdeal m →
    θ_run (Cert.DnormKIdeal.defs (F := Ideal)) (onTc (τ := Cert.DnormKIdeal.τ) (Cert.DnormKIdeal.main (F := Ideal))) ⟨m, fun _ => 0, g⟩ (fun r => (∀ c : Dev Cert.DnormKIdeal.nD,
      r.2.mem ((c.tc : Thread Cert.DnormKIdeal.nD Cert.DnormKIdeal.τ).loc Cert.DnormKIdeal.main_arg0) = m ((c.tc : Thread Cert.DnormKIdeal.nD Cert.DnormKIdeal.τ).loc Cert.DnormKIdeal.main_arg0)
      ∧ r.2.mem ((c.tc : Thread Cert.DnormKIdeal.nD Cert.DnormKIdeal.τ).loc Cert.DnormKIdeal.main_arg1) = m ((c.tc : Thread Cert.DnormKIdeal.nD Cert.DnormKIdeal.τ).loc Cert.DnormKIdeal.main_arg1)
      ∧ r.2.mem ((c.tc : Thread Cert.DnormKIdeal.nD Cert.DnormKIdeal.τ).loc Cert.DnormKIdeal.main_arg2) = m ((c.tc : Thread Cert.DnormKIdeal.nD Cert.DnormKIdeal.τ).loc Cert.DnormKIdeal.main_arg2)
      ∧ r.2.mem ((c.tc : Thread Cert.DnormKIdeal.nD Cert.DnormKIdeal.τ).loc Cert.DnormKIdeal.main_arg3) = m ((c.tc : Thread Cert.DnormKIdeal.nD Cert.DnormKIdeal.τ).loc Cert.DnormKIdeal.main_arg3))
      ∧ r.2.sem = fun _ => 0)

def quiescent_DnormRIdeal [hDnormRIdeal : Cert.DnormRIdeal.Facts] : Prop :=
  ∀ (m : (ℓ : Loc Cert.DnormRIdeal.nD Cert.DnormRIdeal.τ Cert.DnormRIdeal.sig) → Buf (Elt Ideal) ℓ) (g : Dev Cert.DnormRIdeal.nD → PrngReg), Pre_DnormRIdeal m →
    θ_run (Cert.DnormRIdeal.defs (F := Ideal)) (onTc (τ := Cert.DnormRIdeal.τ) (Cert.DnormRIdeal.main (F := Ideal))) ⟨m, fun _ => 0, g⟩ (fun r => (∀ c : Dev Cert.DnormRIdeal.nD,
      r.2.mem ((c.tc : Thread Cert.DnormRIdeal.nD Cert.DnormRIdeal.τ).loc Cert.DnormRIdeal.main_arg0) = m ((c.tc : Thread Cert.DnormRIdeal.nD Cert.DnormRIdeal.τ).loc Cert.DnormRIdeal.main_arg0)
      ∧ r.2.mem ((c.tc : Thread Cert.DnormRIdeal.nD Cert.DnormRIdeal.τ).loc Cert.DnormRIdeal.main_arg1) = m ((c.tc : Thread Cert.DnormRIdeal.nD Cert.DnormRIdeal.τ).loc Cert.DnormRIdeal.main_arg1)
      ∧ r.2.mem ((c.tc : Thread Cert.DnormRIdeal.nD Cert.DnormRIdeal.τ).loc Cert.DnormRIdeal.main_arg2) = m ((c.tc : Thread Cert.DnormRIdeal.nD Cert.DnormRIdeal.τ).loc Cert.DnormRIdeal.main_arg2)
      ∧ r.2.mem ((c.tc : Thread Cert.DnormRIdeal.nD Cert.DnormRIdeal.τ).loc Cert.DnormRIdeal.main_arg3) = m ((c.tc : Thread Cert.DnormRIdeal.nD Cert.DnormRIdeal.τ).loc Cert.DnormRIdeal.main_arg3))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_QkvFK [hQkvFK : Cert.QkvFK.Facts] : Prop :=
  ∀ (m : (ℓ : Loc Cert.QkvFK.nD Cert.QkvFK.τ Cert.QkvFK.sig) → Buf (Elt Bits) ℓ) (g : Dev Cert.QkvFK.nD → PrngReg), Pre_QkvFK m →
    θ_run (Cert.QkvFK.defs (F := Bits)) (onTc (τ := Cert.QkvFK.τ) (Cert.QkvFK.main (F := Bits))) ⟨m, fun _ => 0, g⟩ (fun r => (∀ c : Dev Cert.QkvFK.nD,
      r.2.mem ((c.tc : Thread Cert.QkvFK.nD Cert.QkvFK.τ).loc Cert.QkvFK.main_arg0) = m ((c.tc : Thread Cert.QkvFK.nD Cert.QkvFK.τ).loc Cert.QkvFK.main_arg0)
      ∧ r.2.mem ((c.tc : Thread Cert.QkvFK.nD Cert.QkvFK.τ).loc Cert.QkvFK.main_arg1) = m ((c.tc : Thread Cert.QkvFK.nD Cert.QkvFK.τ).loc Cert.QkvFK.main_arg1))
      ∧ r.2.sem = fun _ => 0)

def quiescent_QkvFKIdeal [hQkvFKIdeal : Cert.QkvFKIdeal.Facts] : Prop :=
  ∀ (m : (ℓ : Loc Cert.QkvFKIdeal.nD Cert.QkvFKIdeal.τ Cert.QkvFKIdeal.sig) → Buf (Elt Ideal) ℓ) (g : Dev Cert.QkvFKIdeal.nD → PrngReg), Pre_QkvFKIdeal m →
    θ_run (Cert.QkvFKIdeal.defs (F := Ideal)) (onTc (τ := Cert.QkvFKIdeal.τ) (Cert.QkvFKIdeal.main (F := Ideal))) ⟨m, fun _ => 0, g⟩ (fun r => (∀ c : Dev Cert.QkvFKIdeal.nD,
      r.2.mem ((c.tc : Thread Cert.QkvFKIdeal.nD Cert.QkvFKIdeal.τ).loc Cert.QkvFKIdeal.main_arg0) = m ((c.tc : Thread Cert.QkvFKIdeal.nD Cert.QkvFKIdeal.τ).loc Cert.QkvFKIdeal.main_arg0)
      ∧ r.2.mem ((c.tc : Thread Cert.QkvFKIdeal.nD Cert.QkvFKIdeal.τ).loc Cert.QkvFKIdeal.main_arg1) = m ((c.tc : Thread Cert.QkvFKIdeal.nD Cert.QkvFKIdeal.τ).loc Cert.QkvFKIdeal.main_arg1))
      ∧ r.2.sem = fun _ => 0)

def quiescent_QkvFRIdeal [hQkvFRIdeal : Cert.QkvFRIdeal.Facts] : Prop :=
  ∀ (m : (ℓ : Loc Cert.QkvFRIdeal.nD Cert.QkvFRIdeal.τ Cert.QkvFRIdeal.sig) → Buf (Elt Ideal) ℓ) (g : Dev Cert.QkvFRIdeal.nD → PrngReg), Pre_QkvFRIdeal m →
    θ_run (Cert.QkvFRIdeal.defs (F := Ideal)) (onTc (τ := Cert.QkvFRIdeal.τ) (Cert.QkvFRIdeal.main (F := Ideal))) ⟨m, fun _ => 0, g⟩ (fun r => (∀ c : Dev Cert.QkvFRIdeal.nD,
      r.2.mem ((c.tc : Thread Cert.QkvFRIdeal.nD Cert.QkvFRIdeal.τ).loc Cert.QkvFRIdeal.main_arg0) = m ((c.tc : Thread Cert.QkvFRIdeal.nD Cert.QkvFRIdeal.τ).loc Cert.QkvFRIdeal.main_arg0)
      ∧ r.2.mem ((c.tc : Thread Cert.QkvFRIdeal.nD Cert.QkvFRIdeal.τ).loc Cert.QkvFRIdeal.main_arg1) = m ((c.tc : Thread Cert.QkvFRIdeal.nD Cert.QkvFRIdeal.τ).loc Cert.QkvFRIdeal.main_arg1))
      ∧ r.2.sem = fun _ => 0)

def quiescent_FfnFK [hFfnFK : Cert.FfnFK.Facts] : Prop :=
  ∀ (m : (ℓ : Loc Cert.FfnFK.nD Cert.FfnFK.τ Cert.FfnFK.sig) → Buf (Elt Bits) ℓ) (g : Dev Cert.FfnFK.nD → PrngReg), Pre_FfnFK m →
    θ_run (Cert.FfnFK.defs (F := Bits)) (onTc (τ := Cert.FfnFK.τ) (Cert.FfnFK.main (F := Bits))) ⟨m, fun _ => 0, g⟩ (fun r => (∀ c : Dev Cert.FfnFK.nD,
      r.2.mem ((c.tc : Thread Cert.FfnFK.nD Cert.FfnFK.τ).loc Cert.FfnFK.main_arg0) = m ((c.tc : Thread Cert.FfnFK.nD Cert.FfnFK.τ).loc Cert.FfnFK.main_arg0)
      ∧ r.2.mem ((c.tc : Thread Cert.FfnFK.nD Cert.FfnFK.τ).loc Cert.FfnFK.main_arg1) = m ((c.tc : Thread Cert.FfnFK.nD Cert.FfnFK.τ).loc Cert.FfnFK.main_arg1)
      ∧ r.2.mem ((c.tc : Thread Cert.FfnFK.nD Cert.FfnFK.τ).loc Cert.FfnFK.main_arg2) = m ((c.tc : Thread Cert.FfnFK.nD Cert.FfnFK.τ).loc Cert.FfnFK.main_arg2))
      ∧ r.2.sem = fun _ => 0)

def quiescent_FfnFKIdeal [hFfnFKIdeal : Cert.FfnFKIdeal.Facts] : Prop :=
  ∀ (m : (ℓ : Loc Cert.FfnFKIdeal.nD Cert.FfnFKIdeal.τ Cert.FfnFKIdeal.sig) → Buf (Elt Ideal) ℓ) (g : Dev Cert.FfnFKIdeal.nD → PrngReg), Pre_FfnFKIdeal m →
    θ_run (Cert.FfnFKIdeal.defs (F := Ideal)) (onTc (τ := Cert.FfnFKIdeal.τ) (Cert.FfnFKIdeal.main (F := Ideal))) ⟨m, fun _ => 0, g⟩ (fun r => (∀ c : Dev Cert.FfnFKIdeal.nD,
      r.2.mem ((c.tc : Thread Cert.FfnFKIdeal.nD Cert.FfnFKIdeal.τ).loc Cert.FfnFKIdeal.main_arg0) = m ((c.tc : Thread Cert.FfnFKIdeal.nD Cert.FfnFKIdeal.τ).loc Cert.FfnFKIdeal.main_arg0)
      ∧ r.2.mem ((c.tc : Thread Cert.FfnFKIdeal.nD Cert.FfnFKIdeal.τ).loc Cert.FfnFKIdeal.main_arg1) = m ((c.tc : Thread Cert.FfnFKIdeal.nD Cert.FfnFKIdeal.τ).loc Cert.FfnFKIdeal.main_arg1)
      ∧ r.2.mem ((c.tc : Thread Cert.FfnFKIdeal.nD Cert.FfnFKIdeal.τ).loc Cert.FfnFKIdeal.main_arg2) = m ((c.tc : Thread Cert.FfnFKIdeal.nD Cert.FfnFKIdeal.τ).loc Cert.FfnFKIdeal.main_arg2))
      ∧ r.2.sem = fun _ => 0)

def quiescent_FfnFRIdeal [hFfnFRIdeal : Cert.FfnFRIdeal.Facts] : Prop :=
  ∀ (m : (ℓ : Loc Cert.FfnFRIdeal.nD Cert.FfnFRIdeal.τ Cert.FfnFRIdeal.sig) → Buf (Elt Ideal) ℓ) (g : Dev Cert.FfnFRIdeal.nD → PrngReg), Pre_FfnFRIdeal m →
    θ_run (Cert.FfnFRIdeal.defs (F := Ideal)) (onTc (τ := Cert.FfnFRIdeal.τ) (Cert.FfnFRIdeal.main (F := Ideal))) ⟨m, fun _ => 0, g⟩ (fun r => (∀ c : Dev Cert.FfnFRIdeal.nD,
      r.2.mem ((c.tc : Thread Cert.FfnFRIdeal.nD Cert.FfnFRIdeal.τ).loc Cert.FfnFRIdeal.main_arg0) = m ((c.tc : Thread Cert.FfnFRIdeal.nD Cert.FfnFRIdeal.τ).loc Cert.FfnFRIdeal.main_arg0)
      ∧ r.2.mem ((c.tc : Thread Cert.FfnFRIdeal.nD Cert.FfnFRIdeal.τ).loc Cert.FfnFRIdeal.main_arg1) = m ((c.tc : Thread Cert.FfnFRIdeal.nD Cert.FfnFRIdeal.τ).loc Cert.FfnFRIdeal.main_arg1)
      ∧ r.2.mem ((c.tc : Thread Cert.FfnFRIdeal.nD Cert.FfnFRIdeal.τ).loc Cert.FfnFRIdeal.main_arg2) = m ((c.tc : Thread Cert.FfnFRIdeal.nD Cert.FfnFRIdeal.τ).loc Cert.FfnFRIdeal.main_arg2))
      ∧ r.2.sem = fun _ => 0)

def quiescent_ConfFK [hConfFK : Cert.ConfFK.Facts] : Prop :=
  ∀ (m : (ℓ : Loc Cert.ConfFK.nD Cert.ConfFK.τ Cert.ConfFK.sig) → Buf (Elt Bits) ℓ) (g : Dev Cert.ConfFK.nD → PrngReg), Pre_ConfFK m →
    θ_run (Cert.ConfFK.defs (F := Bits)) (onTc (τ := Cert.ConfFK.τ) (Cert.ConfFK.main (F := Bits))) ⟨m, fun _ => 0, g⟩ (fun r => (∀ c : Dev Cert.ConfFK.nD,
      r.2.mem ((c.tc : Thread Cert.ConfFK.nD Cert.ConfFK.τ).loc Cert.ConfFK.main_arg0) = m ((c.tc : Thread Cert.ConfFK.nD Cert.ConfFK.τ).loc Cert.ConfFK.main_arg0)
      ∧ r.2.mem ((c.tc : Thread Cert.ConfFK.nD Cert.ConfFK.τ).loc Cert.ConfFK.main_arg1) = m ((c.tc : Thread Cert.ConfFK.nD Cert.ConfFK.τ).loc Cert.ConfFK.main_arg1)
      ∧ r.2.mem ((c.tc : Thread Cert.ConfFK.nD Cert.ConfFK.τ).loc Cert.ConfFK.main_arg2) = m ((c.tc : Thread Cert.ConfFK.nD Cert.ConfFK.τ).loc Cert.ConfFK.main_arg2)
      ∧ r.2.mem ((c.tc : Thread Cert.ConfFK.nD Cert.ConfFK.τ).loc Cert.ConfFK.main_arg3) = m ((c.tc : Thread Cert.ConfFK.nD Cert.ConfFK.τ).loc Cert.ConfFK.main_arg3)
      ∧ r.2.mem ((c.tc : Thread Cert.ConfFK.nD Cert.ConfFK.τ).loc Cert.ConfFK.main_arg4) = m ((c.tc : Thread Cert.ConfFK.nD Cert.ConfFK.τ).loc Cert.ConfFK.main_arg4))
      ∧ r.2.sem = fun _ => 0)

def quiescent_ConfFKIdeal [hConfFKIdeal : Cert.ConfFKIdeal.Facts] : Prop :=
  ∀ (m : (ℓ : Loc Cert.ConfFKIdeal.nD Cert.ConfFKIdeal.τ Cert.ConfFKIdeal.sig) → Buf (Elt Ideal) ℓ) (g : Dev Cert.ConfFKIdeal.nD → PrngReg), Pre_ConfFKIdeal m →
    θ_run (Cert.ConfFKIdeal.defs (F := Ideal)) (onTc (τ := Cert.ConfFKIdeal.τ) (Cert.ConfFKIdeal.main (F := Ideal))) ⟨m, fun _ => 0, g⟩ (fun r => (∀ c : Dev Cert.ConfFKIdeal.nD,
      r.2.mem ((c.tc : Thread Cert.ConfFKIdeal.nD Cert.ConfFKIdeal.τ).loc Cert.ConfFKIdeal.main_arg0) = m ((c.tc : Thread Cert.ConfFKIdeal.nD Cert.ConfFKIdeal.τ).loc Cert.ConfFKIdeal.main_arg0)
      ∧ r.2.mem ((c.tc : Thread Cert.ConfFKIdeal.nD Cert.ConfFKIdeal.τ).loc Cert.ConfFKIdeal.main_arg1) = m ((c.tc : Thread Cert.ConfFKIdeal.nD Cert.ConfFKIdeal.τ).loc Cert.ConfFKIdeal.main_arg1)
      ∧ r.2.mem ((c.tc : Thread Cert.ConfFKIdeal.nD Cert.ConfFKIdeal.τ).loc Cert.ConfFKIdeal.main_arg2) = m ((c.tc : Thread Cert.ConfFKIdeal.nD Cert.ConfFKIdeal.τ).loc Cert.ConfFKIdeal.main_arg2)
      ∧ r.2.mem ((c.tc : Thread Cert.ConfFKIdeal.nD Cert.ConfFKIdeal.τ).loc Cert.ConfFKIdeal.main_arg3) = m ((c.tc : Thread Cert.ConfFKIdeal.nD Cert.ConfFKIdeal.τ).loc Cert.ConfFKIdeal.main_arg3)
      ∧ r.2.mem ((c.tc : Thread Cert.ConfFKIdeal.nD Cert.ConfFKIdeal.τ).loc Cert.ConfFKIdeal.main_arg4) = m ((c.tc : Thread Cert.ConfFKIdeal.nD Cert.ConfFKIdeal.τ).loc Cert.ConfFKIdeal.main_arg4))
      ∧ r.2.sem = fun _ => 0)

def quiescent_ConfFRIdeal [hConfFRIdeal : Cert.ConfFRIdeal.Facts] : Prop :=
  ∀ (m : (ℓ : Loc Cert.ConfFRIdeal.nD Cert.ConfFRIdeal.τ Cert.ConfFRIdeal.sig) → Buf (Elt Ideal) ℓ) (g : Dev Cert.ConfFRIdeal.nD → PrngReg), Pre_ConfFRIdeal m →
    θ_run (Cert.ConfFRIdeal.defs (F := Ideal)) (onTc (τ := Cert.ConfFRIdeal.τ) (Cert.ConfFRIdeal.main (F := Ideal))) ⟨m, fun _ => 0, g⟩ (fun r => (∀ c : Dev Cert.ConfFRIdeal.nD,
      r.2.mem ((c.tc : Thread Cert.ConfFRIdeal.nD Cert.ConfFRIdeal.τ).loc Cert.ConfFRIdeal.main_arg0) = m ((c.tc : Thread Cert.ConfFRIdeal.nD Cert.ConfFRIdeal.τ).loc Cert.ConfFRIdeal.main_arg0)
      ∧ r.2.mem ((c.tc : Thread Cert.ConfFRIdeal.nD Cert.ConfFRIdeal.τ).loc Cert.ConfFRIdeal.main_arg1) = m ((c.tc : Thread Cert.ConfFRIdeal.nD Cert.ConfFRIdeal.τ).loc Cert.ConfFRIdeal.main_arg1)
      ∧ r.2.mem ((c.tc : Thread Cert.ConfFRIdeal.nD Cert.ConfFRIdeal.τ).loc Cert.ConfFRIdeal.main_arg2) = m ((c.tc : Thread Cert.ConfFRIdeal.nD Cert.ConfFRIdeal.τ).loc Cert.ConfFRIdeal.main_arg2)
      ∧ r.2.mem ((c.tc : Thread Cert.ConfFRIdeal.nD Cert.ConfFRIdeal.τ).loc Cert.ConfFRIdeal.main_arg3) = m ((c.tc : Thread Cert.ConfFRIdeal.nD Cert.ConfFRIdeal.τ).loc Cert.ConfFRIdeal.main_arg3)
      ∧ r.2.mem ((c.tc : Thread Cert.ConfFRIdeal.nD Cert.ConfFRIdeal.τ).loc Cert.ConfFRIdeal.main_arg4) = m ((c.tc : Thread Cert.ConfFRIdeal.nD Cert.ConfFRIdeal.τ).loc Cert.ConfFRIdeal.main_arg4))
      ∧ r.2.sem = fun _ => 0)

def quiescent_QkvK [hQkvK : Cert.QkvK.Facts] : Prop :=
  ∀ (m : (ℓ : Loc Cert.QkvK.nD Cert.QkvK.τ Cert.QkvK.sig) → Buf (Elt Bits) ℓ) (g : Dev Cert.QkvK.nD → PrngReg), Pre_QkvK m →
    θ_run (Cert.QkvK.defs (F := Bits)) (onTc (τ := Cert.QkvK.τ) (Cert.QkvK.main (F := Bits))) ⟨m, fun _ => 0, g⟩ (fun r => (∀ c : Dev Cert.QkvK.nD,
      r.2.mem ((c.tc : Thread Cert.QkvK.nD Cert.QkvK.τ).loc Cert.QkvK.main_arg0) = m ((c.tc : Thread Cert.QkvK.nD Cert.QkvK.τ).loc Cert.QkvK.main_arg0)
      ∧ r.2.mem ((c.tc : Thread Cert.QkvK.nD Cert.QkvK.τ).loc Cert.QkvK.main_arg1) = m ((c.tc : Thread Cert.QkvK.nD Cert.QkvK.τ).loc Cert.QkvK.main_arg1)
      ∧ r.2.mem ((c.tc : Thread Cert.QkvK.nD Cert.QkvK.τ).loc Cert.QkvK.main_arg2) = m ((c.tc : Thread Cert.QkvK.nD Cert.QkvK.τ).loc Cert.QkvK.main_arg2))
      ∧ r.2.sem = fun _ => 0)

def quiescent_QkvKIdeal [hQkvKIdeal : Cert.QkvKIdeal.Facts] : Prop :=
  ∀ (m : (ℓ : Loc Cert.QkvKIdeal.nD Cert.QkvKIdeal.τ Cert.QkvKIdeal.sig) → Buf (Elt Ideal) ℓ) (g : Dev Cert.QkvKIdeal.nD → PrngReg), Pre_QkvKIdeal m →
    θ_run (Cert.QkvKIdeal.defs (F := Ideal)) (onTc (τ := Cert.QkvKIdeal.τ) (Cert.QkvKIdeal.main (F := Ideal))) ⟨m, fun _ => 0, g⟩ (fun r => (∀ c : Dev Cert.QkvKIdeal.nD,
      r.2.mem ((c.tc : Thread Cert.QkvKIdeal.nD Cert.QkvKIdeal.τ).loc Cert.QkvKIdeal.main_arg0) = m ((c.tc : Thread Cert.QkvKIdeal.nD Cert.QkvKIdeal.τ).loc Cert.QkvKIdeal.main_arg0)
      ∧ r.2.mem ((c.tc : Thread Cert.QkvKIdeal.nD Cert.QkvKIdeal.τ).loc Cert.QkvKIdeal.main_arg1) = m ((c.tc : Thread Cert.QkvKIdeal.nD Cert.QkvKIdeal.τ).loc Cert.QkvKIdeal.main_arg1)
      ∧ r.2.mem ((c.tc : Thread Cert.QkvKIdeal.nD Cert.QkvKIdeal.τ).loc Cert.QkvKIdeal.main_arg2) = m ((c.tc : Thread Cert.QkvKIdeal.nD Cert.QkvKIdeal.τ).loc Cert.QkvKIdeal.main_arg2))
      ∧ r.2.sem = fun _ => 0)

def quiescent_QkvKIdeal_pre_finite_qkv [hQkvKIdeal : Cert.QkvKIdeal.Facts] [hPre_finite_qkv : Cert.Pre_finite_qkv.Facts] : Prop :=
  ∀ (m : (ℓ : Loc Cert.QkvKIdeal.nD Cert.QkvKIdeal.τ Cert.QkvKIdeal.sig) → Buf (Elt Ideal) ℓ) (g : Dev Cert.QkvKIdeal.nD → PrngReg), Pre_QkvKIdeal_finite_qkv m →
    θ_run (Cert.QkvKIdeal.defs (F := Ideal)) (onTc (τ := Cert.QkvKIdeal.τ) (Cert.QkvKIdeal.main (F := Ideal))) ⟨m, fun _ => 0, g⟩ (fun r => (∀ c : Dev Cert.QkvKIdeal.nD,
      r.2.mem ((c.tc : Thread Cert.QkvKIdeal.nD Cert.QkvKIdeal.τ).loc Cert.QkvKIdeal.main_arg0) = m ((c.tc : Thread Cert.QkvKIdeal.nD Cert.QkvKIdeal.τ).loc Cert.QkvKIdeal.main_arg0)
      ∧ r.2.mem ((c.tc : Thread Cert.QkvKIdeal.nD Cert.QkvKIdeal.τ).loc Cert.QkvKIdeal.main_arg1) = m ((c.tc : Thread Cert.QkvKIdeal.nD Cert.QkvKIdeal.τ).loc Cert.QkvKIdeal.main_arg1)
      ∧ r.2.mem ((c.tc : Thread Cert.QkvKIdeal.nD Cert.QkvKIdeal.τ).loc Cert.QkvKIdeal.main_arg2) = m ((c.tc : Thread Cert.QkvKIdeal.nD Cert.QkvKIdeal.τ).loc Cert.QkvKIdeal.main_arg2))
      ∧ r.2.sem = fun _ => 0)

def quiescent_QkvRIdeal [hQkvRIdeal : Cert.QkvRIdeal.Facts] : Prop :=
  ∀ (m : (ℓ : Loc Cert.QkvRIdeal.nD Cert.QkvRIdeal.τ Cert.QkvRIdeal.sig) → Buf (Elt Ideal) ℓ) (g : Dev Cert.QkvRIdeal.nD → PrngReg), Pre_QkvRIdeal m →
    θ_run (Cert.QkvRIdeal.defs (F := Ideal)) (onTc (τ := Cert.QkvRIdeal.τ) (Cert.QkvRIdeal.main (F := Ideal))) ⟨m, fun _ => 0, g⟩ (fun r => (∀ c : Dev Cert.QkvRIdeal.nD,
      r.2.mem ((c.tc : Thread Cert.QkvRIdeal.nD Cert.QkvRIdeal.τ).loc Cert.QkvRIdeal.main_arg0) = m ((c.tc : Thread Cert.QkvRIdeal.nD Cert.QkvRIdeal.τ).loc Cert.QkvRIdeal.main_arg0)
      ∧ r.2.mem ((c.tc : Thread Cert.QkvRIdeal.nD Cert.QkvRIdeal.τ).loc Cert.QkvRIdeal.main_arg1) = m ((c.tc : Thread Cert.QkvRIdeal.nD Cert.QkvRIdeal.τ).loc Cert.QkvRIdeal.main_arg1)
      ∧ r.2.mem ((c.tc : Thread Cert.QkvRIdeal.nD Cert.QkvRIdeal.τ).loc Cert.QkvRIdeal.main_arg2) = m ((c.tc : Thread Cert.QkvRIdeal.nD Cert.QkvRIdeal.τ).loc Cert.QkvRIdeal.main_arg2))
      ∧ r.2.sem = fun _ => 0)

def quiescent_QkvRIdeal_pre_finite_qkv [hQkvRIdeal : Cert.QkvRIdeal.Facts] [hPre_finite_qkv : Cert.Pre_finite_qkv.Facts] : Prop :=
  ∀ (m : (ℓ : Loc Cert.QkvRIdeal.nD Cert.QkvRIdeal.τ Cert.QkvRIdeal.sig) → Buf (Elt Ideal) ℓ) (g : Dev Cert.QkvRIdeal.nD → PrngReg), Pre_QkvRIdeal_finite_qkv m →
    θ_run (Cert.QkvRIdeal.defs (F := Ideal)) (onTc (τ := Cert.QkvRIdeal.τ) (Cert.QkvRIdeal.main (F := Ideal))) ⟨m, fun _ => 0, g⟩ (fun r => (∀ c : Dev Cert.QkvRIdeal.nD,
      r.2.mem ((c.tc : Thread Cert.QkvRIdeal.nD Cert.QkvRIdeal.τ).loc Cert.QkvRIdeal.main_arg0) = m ((c.tc : Thread Cert.QkvRIdeal.nD Cert.QkvRIdeal.τ).loc Cert.QkvRIdeal.main_arg0)
      ∧ r.2.mem ((c.tc : Thread Cert.QkvRIdeal.nD Cert.QkvRIdeal.τ).loc Cert.QkvRIdeal.main_arg1) = m ((c.tc : Thread Cert.QkvRIdeal.nD Cert.QkvRIdeal.τ).loc Cert.QkvRIdeal.main_arg1)
      ∧ r.2.mem ((c.tc : Thread Cert.QkvRIdeal.nD Cert.QkvRIdeal.τ).loc Cert.QkvRIdeal.main_arg2) = m ((c.tc : Thread Cert.QkvRIdeal.nD Cert.QkvRIdeal.τ).loc Cert.QkvRIdeal.main_arg2))
      ∧ r.2.sem = fun _ => 0)

def quiescent_ConfK [hConfK : Cert.ConfK.Facts] : Prop :=
  ∀ (m : (ℓ : Loc Cert.ConfK.nD Cert.ConfK.τ Cert.ConfK.sig) → Buf (Elt Bits) ℓ) (g : Dev Cert.ConfK.nD → PrngReg), Pre_ConfK m →
    θ_run (Cert.ConfK.defs (F := Bits)) (onTc (τ := Cert.ConfK.τ) (Cert.ConfK.main (F := Bits))) ⟨m, fun _ => 0, g⟩ (fun r => (∀ c : Dev Cert.ConfK.nD,
      r.2.mem ((c.tc : Thread Cert.ConfK.nD Cert.ConfK.τ).loc Cert.ConfK.main_arg0) = m ((c.tc : Thread Cert.ConfK.nD Cert.ConfK.τ).loc Cert.ConfK.main_arg0)
      ∧ r.2.mem ((c.tc : Thread Cert.ConfK.nD Cert.ConfK.τ).loc Cert.ConfK.main_arg1) = m ((c.tc : Thread Cert.ConfK.nD Cert.ConfK.τ).loc Cert.ConfK.main_arg1)
      ∧ r.2.mem ((c.tc : Thread Cert.ConfK.nD Cert.ConfK.τ).loc Cert.ConfK.main_arg2) = m ((c.tc : Thread Cert.ConfK.nD Cert.ConfK.τ).loc Cert.ConfK.main_arg2)
      ∧ r.2.mem ((c.tc : Thread Cert.ConfK.nD Cert.ConfK.τ).loc Cert.ConfK.main_arg3) = m ((c.tc : Thread Cert.ConfK.nD Cert.ConfK.τ).loc Cert.ConfK.main_arg3)
      ∧ r.2.mem ((c.tc : Thread Cert.ConfK.nD Cert.ConfK.τ).loc Cert.ConfK.main_arg4) = m ((c.tc : Thread Cert.ConfK.nD Cert.ConfK.τ).loc Cert.ConfK.main_arg4)
      ∧ r.2.mem ((c.tc : Thread Cert.ConfK.nD Cert.ConfK.τ).loc Cert.ConfK.main_arg5) = m ((c.tc : Thread Cert.ConfK.nD Cert.ConfK.τ).loc Cert.ConfK.main_arg5)
      ∧ r.2.mem ((c.tc : Thread Cert.ConfK.nD Cert.ConfK.τ).loc Cert.ConfK.main_arg6) = m ((c.tc : Thread Cert.ConfK.nD Cert.ConfK.τ).loc Cert.ConfK.main_arg6)
      ∧ r.2.mem ((c.tc : Thread Cert.ConfK.nD Cert.ConfK.τ).loc Cert.ConfK.main_arg7) = m ((c.tc : Thread Cert.ConfK.nD Cert.ConfK.τ).loc Cert.ConfK.main_arg7))
      ∧ r.2.sem = fun _ => 0)

def quiescent_ConfKIdeal [hConfKIdeal : Cert.ConfKIdeal.Facts] : Prop :=
  ∀ (m : (ℓ : Loc Cert.ConfKIdeal.nD Cert.ConfKIdeal.τ Cert.ConfKIdeal.sig) → Buf (Elt Ideal) ℓ) (g : Dev Cert.ConfKIdeal.nD → PrngReg), Pre_ConfKIdeal m →
    θ_run (Cert.ConfKIdeal.defs (F := Ideal)) (onTc (τ := Cert.ConfKIdeal.τ) (Cert.ConfKIdeal.main (F := Ideal))) ⟨m, fun _ => 0, g⟩ (fun r => (∀ c : Dev Cert.ConfKIdeal.nD,
      r.2.mem ((c.tc : Thread Cert.ConfKIdeal.nD Cert.ConfKIdeal.τ).loc Cert.ConfKIdeal.main_arg0) = m ((c.tc : Thread Cert.ConfKIdeal.nD Cert.ConfKIdeal.τ).loc Cert.ConfKIdeal.main_arg0)
      ∧ r.2.mem ((c.tc : Thread Cert.ConfKIdeal.nD Cert.ConfKIdeal.τ).loc Cert.ConfKIdeal.main_arg1) = m ((c.tc : Thread Cert.ConfKIdeal.nD Cert.ConfKIdeal.τ).loc Cert.ConfKIdeal.main_arg1)
      ∧ r.2.mem ((c.tc : Thread Cert.ConfKIdeal.nD Cert.ConfKIdeal.τ).loc Cert.ConfKIdeal.main_arg2) = m ((c.tc : Thread Cert.ConfKIdeal.nD Cert.ConfKIdeal.τ).loc Cert.ConfKIdeal.main_arg2)
      ∧ r.2.mem ((c.tc : Thread Cert.ConfKIdeal.nD Cert.ConfKIdeal.τ).loc Cert.ConfKIdeal.main_arg3) = m ((c.tc : Thread Cert.ConfKIdeal.nD Cert.ConfKIdeal.τ).loc Cert.ConfKIdeal.main_arg3)
      ∧ r.2.mem ((c.tc : Thread Cert.ConfKIdeal.nD Cert.ConfKIdeal.τ).loc Cert.ConfKIdeal.main_arg4) = m ((c.tc : Thread Cert.ConfKIdeal.nD Cert.ConfKIdeal.τ).loc Cert.ConfKIdeal.main_arg4)
      ∧ r.2.mem ((c.tc : Thread Cert.ConfKIdeal.nD Cert.ConfKIdeal.τ).loc Cert.ConfKIdeal.main_arg5) = m ((c.tc : Thread Cert.ConfKIdeal.nD Cert.ConfKIdeal.τ).loc Cert.ConfKIdeal.main_arg5)
      ∧ r.2.mem ((c.tc : Thread Cert.ConfKIdeal.nD Cert.ConfKIdeal.τ).loc Cert.ConfKIdeal.main_arg6) = m ((c.tc : Thread Cert.ConfKIdeal.nD Cert.ConfKIdeal.τ).loc Cert.ConfKIdeal.main_arg6)
      ∧ r.2.mem ((c.tc : Thread Cert.ConfKIdeal.nD Cert.ConfKIdeal.τ).loc Cert.ConfKIdeal.main_arg7) = m ((c.tc : Thread Cert.ConfKIdeal.nD Cert.ConfKIdeal.τ).loc Cert.ConfKIdeal.main_arg7))
      ∧ r.2.sem = fun _ => 0)

def quiescent_ConfKIdeal_pre_finite_conf [hConfKIdeal : Cert.ConfKIdeal.Facts] [hPre_finite_conf : Cert.Pre_finite_conf.Facts] : Prop :=
  ∀ (m : (ℓ : Loc Cert.ConfKIdeal.nD Cert.ConfKIdeal.τ Cert.ConfKIdeal.sig) → Buf (Elt Ideal) ℓ) (g : Dev Cert.ConfKIdeal.nD → PrngReg), Pre_ConfKIdeal_finite_conf m →
    θ_run (Cert.ConfKIdeal.defs (F := Ideal)) (onTc (τ := Cert.ConfKIdeal.τ) (Cert.ConfKIdeal.main (F := Ideal))) ⟨m, fun _ => 0, g⟩ (fun r => (∀ c : Dev Cert.ConfKIdeal.nD,
      r.2.mem ((c.tc : Thread Cert.ConfKIdeal.nD Cert.ConfKIdeal.τ).loc Cert.ConfKIdeal.main_arg0) = m ((c.tc : Thread Cert.ConfKIdeal.nD Cert.ConfKIdeal.τ).loc Cert.ConfKIdeal.main_arg0)
      ∧ r.2.mem ((c.tc : Thread Cert.ConfKIdeal.nD Cert.ConfKIdeal.τ).loc Cert.ConfKIdeal.main_arg1) = m ((c.tc : Thread Cert.ConfKIdeal.nD Cert.ConfKIdeal.τ).loc Cert.ConfKIdeal.main_arg1)
      ∧ r.2.mem ((c.tc : Thread Cert.ConfKIdeal.nD Cert.ConfKIdeal.τ).loc Cert.ConfKIdeal.main_arg2) = m ((c.tc : Thread Cert.ConfKIdeal.nD Cert.ConfKIdeal.τ).loc Cert.ConfKIdeal.main_arg2)
      ∧ r.2.mem ((c.tc : Thread Cert.ConfKIdeal.nD Cert.ConfKIdeal.τ).loc Cert.ConfKIdeal.main_arg3) = m ((c.tc : Thread Cert.ConfKIdeal.nD Cert.ConfKIdeal.τ).loc Cert.ConfKIdeal.main_arg3)
      ∧ r.2.mem ((c.tc : Thread Cert.ConfKIdeal.nD Cert.ConfKIdeal.τ).loc Cert.ConfKIdeal.main_arg4) = m ((c.tc : Thread Cert.ConfKIdeal.nD Cert.ConfKIdeal.τ).loc Cert.ConfKIdeal.main_arg4)
      ∧ r.2.mem ((c.tc : Thread Cert.ConfKIdeal.nD Cert.ConfKIdeal.τ).loc Cert.ConfKIdeal.main_arg5) = m ((c.tc : Thread Cert.ConfKIdeal.nD Cert.ConfKIdeal.τ).loc Cert.ConfKIdeal.main_arg5)
      ∧ r.2.mem ((c.tc : Thread Cert.ConfKIdeal.nD Cert.ConfKIdeal.τ).loc Cert.ConfKIdeal.main_arg6) = m ((c.tc : Thread Cert.ConfKIdeal.nD Cert.ConfKIdeal.τ).loc Cert.ConfKIdeal.main_arg6)
      ∧ r.2.mem ((c.tc : Thread Cert.ConfKIdeal.nD Cert.ConfKIdeal.τ).loc Cert.ConfKIdeal.main_arg7) = m ((c.tc : Thread Cert.ConfKIdeal.nD Cert.ConfKIdeal.τ).loc Cert.ConfKIdeal.main_arg7))
      ∧ r.2.sem = fun _ => 0)

def quiescent_ConfRIdeal [hConfRIdeal : Cert.ConfRIdeal.Facts] : Prop :=
  ∀ (m : (ℓ : Loc Cert.ConfRIdeal.nD Cert.ConfRIdeal.τ Cert.ConfRIdeal.sig) → Buf (Elt Ideal) ℓ) (g : Dev Cert.ConfRIdeal.nD → PrngReg), Pre_ConfRIdeal m →
    θ_run (Cert.ConfRIdeal.defs (F := Ideal)) (onTc (τ := Cert.ConfRIdeal.τ) (Cert.ConfRIdeal.main (F := Ideal))) ⟨m, fun _ => 0, g⟩ (fun r => (∀ c : Dev Cert.ConfRIdeal.nD,
      r.2.mem ((c.tc : Thread Cert.ConfRIdeal.nD Cert.ConfRIdeal.τ).loc Cert.ConfRIdeal.main_arg0) = m ((c.tc : Thread Cert.ConfRIdeal.nD Cert.ConfRIdeal.τ).loc Cert.ConfRIdeal.main_arg0)
      ∧ r.2.mem ((c.tc : Thread Cert.ConfRIdeal.nD Cert.ConfRIdeal.τ).loc Cert.ConfRIdeal.main_arg1) = m ((c.tc : Thread Cert.ConfRIdeal.nD Cert.ConfRIdeal.τ).loc Cert.ConfRIdeal.main_arg1)
      ∧ r.2.mem ((c.tc : Thread Cert.ConfRIdeal.nD Cert.ConfRIdeal.τ).loc Cert.ConfRIdeal.main_arg2) = m ((c.tc : Thread Cert.ConfRIdeal.nD Cert.ConfRIdeal.τ).loc Cert.ConfRIdeal.main_arg2)
      ∧ r.2.mem ((c.tc : Thread Cert.ConfRIdeal.nD Cert.ConfRIdeal.τ).loc Cert.ConfRIdeal.main_arg3) = m ((c.tc : Thread Cert.ConfRIdeal.nD Cert.ConfRIdeal.τ).loc Cert.ConfRIdeal.main_arg3)
      ∧ r.2.mem ((c.tc : Thread Cert.ConfRIdeal.nD Cert.ConfRIdeal.τ).loc Cert.ConfRIdeal.main_arg4) = m ((c.tc : Thread Cert.ConfRIdeal.nD Cert.ConfRIdeal.τ).loc Cert.ConfRIdeal.main_arg4)
      ∧ r.2.mem ((c.tc : Thread Cert.ConfRIdeal.nD Cert.ConfRIdeal.τ).loc Cert.ConfRIdeal.main_arg5) = m ((c.tc : Thread Cert.ConfRIdeal.nD Cert.ConfRIdeal.τ).loc Cert.ConfRIdeal.main_arg5)
      ∧ r.2.mem ((c.tc : Thread Cert.ConfRIdeal.nD Cert.ConfRIdeal.τ).loc Cert.ConfRIdeal.main_arg6) = m ((c.tc : Thread Cert.ConfRIdeal.nD Cert.ConfRIdeal.τ).loc Cert.ConfRIdeal.main_arg6)
      ∧ r.2.mem ((c.tc : Thread Cert.ConfRIdeal.nD Cert.ConfRIdeal.τ).loc Cert.ConfRIdeal.main_arg7) = m ((c.tc : Thread Cert.ConfRIdeal.nD Cert.ConfRIdeal.τ).loc Cert.ConfRIdeal.main_arg7))
      ∧ r.2.sem = fun _ => 0)

def quiescent_ConfRIdeal_pre_finite_conf [hConfRIdeal : Cert.ConfRIdeal.Facts] [hPre_finite_conf : Cert.Pre_finite_conf.Facts] : Prop :=
  ∀ (m : (ℓ : Loc Cert.ConfRIdeal.nD Cert.ConfRIdeal.τ Cert.ConfRIdeal.sig) → Buf (Elt Ideal) ℓ) (g : Dev Cert.ConfRIdeal.nD → PrngReg), Pre_ConfRIdeal_finite_conf m →
    θ_run (Cert.ConfRIdeal.defs (F := Ideal)) (onTc (τ := Cert.ConfRIdeal.τ) (Cert.ConfRIdeal.main (F := Ideal))) ⟨m, fun _ => 0, g⟩ (fun r => (∀ c : Dev Cert.ConfRIdeal.nD,
      r.2.mem ((c.tc : Thread Cert.ConfRIdeal.nD Cert.ConfRIdeal.τ).loc Cert.ConfRIdeal.main_arg0) = m ((c.tc : Thread Cert.ConfRIdeal.nD Cert.ConfRIdeal.τ).loc Cert.ConfRIdeal.main_arg0)
      ∧ r.2.mem ((c.tc : Thread Cert.ConfRIdeal.nD Cert.ConfRIdeal.τ).loc Cert.ConfRIdeal.main_arg1) = m ((c.tc : Thread Cert.ConfRIdeal.nD Cert.ConfRIdeal.τ).loc Cert.ConfRIdeal.main_arg1)
      ∧ r.2.mem ((c.tc : Thread Cert.ConfRIdeal.nD Cert.ConfRIdeal.τ).loc Cert.ConfRIdeal.main_arg2) = m ((c.tc : Thread Cert.ConfRIdeal.nD Cert.ConfRIdeal.τ).loc Cert.ConfRIdeal.main_arg2)
      ∧ r.2.mem ((c.tc : Thread Cert.ConfRIdeal.nD Cert.ConfRIdeal.τ).loc Cert.ConfRIdeal.main_arg3) = m ((c.tc : Thread Cert.ConfRIdeal.nD Cert.ConfRIdeal.τ).loc Cert.ConfRIdeal.main_arg3)
      ∧ r.2.mem ((c.tc : Thread Cert.ConfRIdeal.nD Cert.ConfRIdeal.τ).loc Cert.ConfRIdeal.main_arg4) = m ((c.tc : Thread Cert.ConfRIdeal.nD Cert.ConfRIdeal.τ).loc Cert.ConfRIdeal.main_arg4)
      ∧ r.2.mem ((c.tc : Thread Cert.ConfRIdeal.nD Cert.ConfRIdeal.τ).loc Cert.ConfRIdeal.main_arg5) = m ((c.tc : Thread Cert.ConfRIdeal.nD Cert.ConfRIdeal.τ).loc Cert.ConfRIdeal.main_arg5)
      ∧ r.2.mem ((c.tc : Thread Cert.ConfRIdeal.nD Cert.ConfRIdeal.τ).loc Cert.ConfRIdeal.main_arg6) = m ((c.tc : Thread Cert.ConfRIdeal.nD Cert.ConfRIdeal.τ).loc Cert.ConfRIdeal.main_arg6)
      ∧ r.2.mem ((c.tc : Thread Cert.ConfRIdeal.nD Cert.ConfRIdeal.τ).loc Cert.ConfRIdeal.main_arg7) = m ((c.tc : Thread Cert.ConfRIdeal.nD Cert.ConfRIdeal.τ).loc Cert.ConfRIdeal.main_arg7))
      ∧ r.2.sem = fun _ => 0)

def preserves_FfnK_FfnKIdeal : Prop :=
  True

def algebraic_FfnKIdeal_FfnRIdeal_pre_finite [hFfnKIdeal : Cert.FfnKIdeal.Facts] [hFfnRIdeal : Cert.FfnRIdeal.Facts] [hPre_finite : Cert.Pre_finite.Facts] : Prop :=
  ∀ (m : (ℓ : Loc Cert.FfnKIdeal.nD Cert.FfnKIdeal.τ Cert.FfnKIdeal.sig) → Buf (Elt Ideal) ℓ) (g : Dev Cert.FfnKIdeal.nD → PrngReg)
    (m' : (ℓ : Loc Cert.FfnRIdeal.nD Cert.FfnRIdeal.τ Cert.FfnRIdeal.sig) → Buf (Elt Ideal) ℓ) (g' : Dev Cert.FfnRIdeal.nD → PrngReg), Pre_FfnKIdeal_finite m →
    (∀ c : Dev Cert.FfnKIdeal.nD,
      m' ((c.tc : Thread Cert.FfnRIdeal.nD Cert.FfnRIdeal.τ).loc Cert.FfnRIdeal.main_arg0) = m ((c.tc : Thread Cert.FfnKIdeal.nD Cert.FfnKIdeal.τ).loc Cert.FfnKIdeal.main_arg0)
      ∧ m' ((c.tc : Thread Cert.FfnRIdeal.nD Cert.FfnRIdeal.τ).loc Cert.FfnRIdeal.main_arg1) = m ((c.tc : Thread Cert.FfnKIdeal.nD Cert.FfnKIdeal.τ).loc Cert.FfnKIdeal.main_arg1)
      ∧ m' ((c.tc : Thread Cert.FfnRIdeal.nD Cert.FfnRIdeal.τ).loc Cert.FfnRIdeal.main_arg2) = m ((c.tc : Thread Cert.FfnKIdeal.nD Cert.FfnKIdeal.τ).loc Cert.FfnKIdeal.main_arg2)
      ∧ m' ((c.tc : Thread Cert.FfnRIdeal.nD Cert.FfnRIdeal.τ).loc Cert.FfnRIdeal.main_arg3) = m ((c.tc : Thread Cert.FfnKIdeal.nD Cert.FfnKIdeal.τ).loc Cert.FfnKIdeal.main_arg3)) →
    ∃ (v0 : (c : Dev Cert.FfnKIdeal.nD) → Buf (Elt Ideal) ((c.tc : Thread Cert.FfnKIdeal.nD Cert.FfnKIdeal.τ).loc Cert.FfnKIdeal.main_v1_0)) (v1 : (c : Dev Cert.FfnKIdeal.nD) → Buf (Elt Ideal) ((c.tc : Thread Cert.FfnKIdeal.nD Cert.FfnKIdeal.τ).loc Cert.FfnKIdeal.main_v1_1)) (v2 : (c : Dev Cert.FfnKIdeal.nD) → Buf (Elt Ideal) ((c.tc : Thread Cert.FfnKIdeal.nD Cert.FfnKIdeal.τ).loc Cert.FfnKIdeal.main_v1_2)),
      θ_run (Cert.FfnKIdeal.defs (F := Ideal)) (onTc (τ := Cert.FfnKIdeal.τ) (Cert.FfnKIdeal.main (F := Ideal))) ⟨m, fun _ => 0, g⟩ (fun r => ∀ c : Dev Cert.FfnKIdeal.nD,
          r.2.mem ((c.tc : Thread Cert.FfnKIdeal.nD Cert.FfnKIdeal.τ).loc Cert.FfnKIdeal.main_v1_0) = v0 c
          ∧ r.2.mem ((c.tc : Thread Cert.FfnKIdeal.nD Cert.FfnKIdeal.τ).loc Cert.FfnKIdeal.main_v1_1) = v1 c
          ∧ r.2.mem ((c.tc : Thread Cert.FfnKIdeal.nD Cert.FfnKIdeal.τ).loc Cert.FfnKIdeal.main_v1_2) = v2 c
          ∧ r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
          ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
          ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
          ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3))
      ∧ θ_run (Cert.FfnRIdeal.defs (F := Ideal)) (onTc (τ := Cert.FfnRIdeal.τ) (Cert.FfnRIdeal.main (F := Ideal))) ⟨m', fun _ => 0, g'⟩ (fun r => ∀ c : Dev Cert.FfnRIdeal.nD,
          r.2.mem ((c.tc : Thread Cert.FfnRIdeal.nD Cert.FfnRIdeal.τ).loc Cert.FfnRIdeal.main_v44) = v0 c
          ∧ r.2.mem ((c.tc : Thread Cert.FfnRIdeal.nD Cert.FfnRIdeal.τ).loc Cert.FfnRIdeal.main_v46) = v1 c
          ∧ r.2.mem ((c.tc : Thread Cert.FfnRIdeal.nD Cert.FfnRIdeal.τ).loc Cert.FfnRIdeal.main_v49) = v2 c
          ∧ r.2.mem ((c.tc : Thread Cert.FfnRIdeal.nD Cert.FfnRIdeal.τ).loc Cert.FfnRIdeal.main_arg0) = m' ((c.tc : Thread Cert.FfnRIdeal.nD Cert.FfnRIdeal.τ).loc Cert.FfnRIdeal.main_arg0)
          ∧ r.2.mem ((c.tc : Thread Cert.FfnRIdeal.nD Cert.FfnRIdeal.τ).loc Cert.FfnRIdeal.main_arg1) = m' ((c.tc : Thread Cert.FfnRIdeal.nD Cert.FfnRIdeal.τ).loc Cert.FfnRIdeal.main_arg1)
          ∧ r.2.mem ((c.tc : Thread Cert.FfnRIdeal.nD Cert.FfnRIdeal.τ).loc Cert.FfnRIdeal.main_arg2) = m' ((c.tc : Thread Cert.FfnRIdeal.nD Cert.FfnRIdeal.τ).loc Cert.FfnRIdeal.main_arg2)
          ∧ r.2.mem ((c.tc : Thread Cert.FfnRIdeal.nD Cert.FfnRIdeal.τ).loc Cert.FfnRIdeal.main_arg3) = m' ((c.tc : Thread Cert.FfnRIdeal.nD Cert.FfnRIdeal.τ).loc Cert.FfnRIdeal.main_arg3))

def preserves_DwdownK_DwdownKIdeal : Prop :=
  True

def algebraic_DwdownKIdeal_DwdownRIdeal [hDwdownKIdeal : Cert.DwdownKIdeal.Facts] [hDwdownRIdeal : Cert.DwdownRIdeal.Facts] : Prop :=
  ∀ (m : (ℓ : Loc Cert.DwdownKIdeal.nD Cert.DwdownKIdeal.τ Cert.DwdownKIdeal.sig) → Buf (Elt Ideal) ℓ) (g : Dev Cert.DwdownKIdeal.nD → PrngReg)
    (m' : (ℓ : Loc Cert.DwdownRIdeal.nD Cert.DwdownRIdeal.τ Cert.DwdownRIdeal.sig) → Buf (Elt Ideal) ℓ) (g' : Dev Cert.DwdownRIdeal.nD → PrngReg), Pre_DwdownKIdeal m →
    (∀ c : Dev Cert.DwdownKIdeal.nD,
      m' ((c.tc : Thread Cert.DwdownRIdeal.nD Cert.DwdownRIdeal.τ).loc Cert.DwdownRIdeal.main_arg0) = m ((c.tc : Thread Cert.DwdownKIdeal.nD Cert.DwdownKIdeal.τ).loc Cert.DwdownKIdeal.main_arg0)
      ∧ m' ((c.tc : Thread Cert.DwdownRIdeal.nD Cert.DwdownRIdeal.τ).loc Cert.DwdownRIdeal.main_arg1) = m ((c.tc : Thread Cert.DwdownKIdeal.nD Cert.DwdownKIdeal.τ).loc Cert.DwdownKIdeal.main_arg1)) →
    ∃ (v0 : (c : Dev Cert.DwdownKIdeal.nD) → Buf (Elt Ideal) ((c.tc : Thread Cert.DwdownKIdeal.nD Cert.DwdownKIdeal.τ).loc Cert.DwdownKIdeal.main_v0)),
      θ_run (Cert.DwdownKIdeal.defs (F := Ideal)) (onTc (τ := Cert.DwdownKIdeal.τ) (Cert.DwdownKIdeal.main (F := Ideal))) ⟨m, fun _ => 0, g⟩ (fun r => ∀ c : Dev Cert.DwdownKIdeal.nD,
          r.2.mem ((c.tc : Thread Cert.DwdownKIdeal.nD Cert.DwdownKIdeal.τ).loc Cert.DwdownKIdeal.main_v0) = v0 c
          ∧ r.2.mem ((c.tc : Thread Cert.DwdownKIdeal.nD Cert.DwdownKIdeal.τ).loc Cert.DwdownKIdeal.main_arg0) = m ((c.tc : Thread Cert.DwdownKIdeal.nD Cert.DwdownKIdeal.τ).loc Cert.DwdownKIdeal.main_arg0)
          ∧ r.2.mem ((c.tc : Thread Cert.DwdownKIdeal.nD Cert.DwdownKIdeal.τ).loc Cert.DwdownKIdeal.main_arg1) = m ((c.tc : Thread Cert.DwdownKIdeal.nD Cert.DwdownKIdeal.τ).loc Cert.DwdownKIdeal.main_arg1))
      ∧ θ_run (Cert.DwdownRIdeal.defs (F := Ideal)) (onTc (τ := Cert.DwdownRIdeal.τ) (Cert.DwdownRIdeal.main (F := Ideal))) ⟨m', fun _ => 0, g'⟩ (fun r => ∀ c : Dev Cert.DwdownRIdeal.nD,
          r.2.mem ((c.tc : Thread Cert.DwdownRIdeal.nD Cert.DwdownRIdeal.τ).loc Cert.DwdownRIdeal.main_v6) = v0 c
          ∧ r.2.mem ((c.tc : Thread Cert.DwdownRIdeal.nD Cert.DwdownRIdeal.τ).loc Cert.DwdownRIdeal.main_arg0) = m' ((c.tc : Thread Cert.DwdownRIdeal.nD Cert.DwdownRIdeal.τ).loc Cert.DwdownRIdeal.main_arg0)
          ∧ r.2.mem ((c.tc : Thread Cert.DwdownRIdeal.nD Cert.DwdownRIdeal.τ).loc Cert.DwdownRIdeal.main_arg1) = m' ((c.tc : Thread Cert.DwdownRIdeal.nD Cert.DwdownRIdeal.τ).loc Cert.DwdownRIdeal.main_arg1))

def preserves_DwupK_DwupKIdeal : Prop :=
  True

def algebraic_DwupKIdeal_DwupRIdeal [hDwupKIdeal : Cert.DwupKIdeal.Facts] [hDwupRIdeal : Cert.DwupRIdeal.Facts] : Prop :=
  ∀ (m : (ℓ : Loc Cert.DwupKIdeal.nD Cert.DwupKIdeal.τ Cert.DwupKIdeal.sig) → Buf (Elt Ideal) ℓ) (g : Dev Cert.DwupKIdeal.nD → PrngReg)
    (m' : (ℓ : Loc Cert.DwupRIdeal.nD Cert.DwupRIdeal.τ Cert.DwupRIdeal.sig) → Buf (Elt Ideal) ℓ) (g' : Dev Cert.DwupRIdeal.nD → PrngReg), Pre_DwupKIdeal m →
    (∀ c : Dev Cert.DwupKIdeal.nD,
      m' ((c.tc : Thread Cert.DwupRIdeal.nD Cert.DwupRIdeal.τ).loc Cert.DwupRIdeal.main_arg0) = m ((c.tc : Thread Cert.DwupKIdeal.nD Cert.DwupKIdeal.τ).loc Cert.DwupKIdeal.main_arg0)
      ∧ m' ((c.tc : Thread Cert.DwupRIdeal.nD Cert.DwupRIdeal.τ).loc Cert.DwupRIdeal.main_arg1) = m ((c.tc : Thread Cert.DwupKIdeal.nD Cert.DwupKIdeal.τ).loc Cert.DwupKIdeal.main_arg1)) →
    ∃ (v0 : (c : Dev Cert.DwupKIdeal.nD) → Buf (Elt Ideal) ((c.tc : Thread Cert.DwupKIdeal.nD Cert.DwupKIdeal.τ).loc Cert.DwupKIdeal.main_v0)),
      θ_run (Cert.DwupKIdeal.defs (F := Ideal)) (onTc (τ := Cert.DwupKIdeal.τ) (Cert.DwupKIdeal.main (F := Ideal))) ⟨m, fun _ => 0, g⟩ (fun r => ∀ c : Dev Cert.DwupKIdeal.nD,
          r.2.mem ((c.tc : Thread Cert.DwupKIdeal.nD Cert.DwupKIdeal.τ).loc Cert.DwupKIdeal.main_v0) = v0 c
          ∧ r.2.mem ((c.tc : Thread Cert.DwupKIdeal.nD Cert.DwupKIdeal.τ).loc Cert.DwupKIdeal.main_arg0) = m ((c.tc : Thread Cert.DwupKIdeal.nD Cert.DwupKIdeal.τ).loc Cert.DwupKIdeal.main_arg0)
          ∧ r.2.mem ((c.tc : Thread Cert.DwupKIdeal.nD Cert.DwupKIdeal.τ).loc Cert.DwupKIdeal.main_arg1) = m ((c.tc : Thread Cert.DwupKIdeal.nD Cert.DwupKIdeal.τ).loc Cert.DwupKIdeal.main_arg1))
      ∧ θ_run (Cert.DwupRIdeal.defs (F := Ideal)) (onTc (τ := Cert.DwupRIdeal.τ) (Cert.DwupRIdeal.main (F := Ideal))) ⟨m', fun _ => 0, g'⟩ (fun r => ∀ c : Dev Cert.DwupRIdeal.nD,
          r.2.mem ((c.tc : Thread Cert.DwupRIdeal.nD Cert.DwupRIdeal.τ).loc Cert.DwupRIdeal.main_v8) = v0 c
          ∧ r.2.mem ((c.tc : Thread Cert.DwupRIdeal.nD Cert.DwupRIdeal.τ).loc Cert.DwupRIdeal.main_arg0) = m' ((c.tc : Thread Cert.DwupRIdeal.nD Cert.DwupRIdeal.τ).loc Cert.DwupRIdeal.main_arg0)
          ∧ r.2.mem ((c.tc : Thread Cert.DwupRIdeal.nD Cert.DwupRIdeal.τ).loc Cert.DwupRIdeal.main_arg1) = m' ((c.tc : Thread Cert.DwupRIdeal.nD Cert.DwupRIdeal.τ).loc Cert.DwupRIdeal.main_arg1))

def preserves_DactK_DactKIdeal : Prop :=
  True

def algebraic_DactKIdeal_DactRIdeal [hDactKIdeal : Cert.DactKIdeal.Facts] [hDactRIdeal : Cert.DactRIdeal.Facts] : Prop :=
  ∀ (m : (ℓ : Loc Cert.DactKIdeal.nD Cert.DactKIdeal.τ Cert.DactKIdeal.sig) → Buf (Elt Ideal) ℓ) (g : Dev Cert.DactKIdeal.nD → PrngReg)
    (m' : (ℓ : Loc Cert.DactRIdeal.nD Cert.DactRIdeal.τ Cert.DactRIdeal.sig) → Buf (Elt Ideal) ℓ) (g' : Dev Cert.DactRIdeal.nD → PrngReg), Pre_DactKIdeal m →
    (∀ c : Dev Cert.DactKIdeal.nD,
      m' ((c.tc : Thread Cert.DactRIdeal.nD Cert.DactRIdeal.τ).loc Cert.DactRIdeal.main_arg0) = m ((c.tc : Thread Cert.DactKIdeal.nD Cert.DactKIdeal.τ).loc Cert.DactKIdeal.main_arg0)
      ∧ m' ((c.tc : Thread Cert.DactRIdeal.nD Cert.DactRIdeal.τ).loc Cert.DactRIdeal.main_arg1) = m ((c.tc : Thread Cert.DactKIdeal.nD Cert.DactKIdeal.τ).loc Cert.DactKIdeal.main_arg1)) →
    ∃ (v0 : (c : Dev Cert.DactKIdeal.nD) → Buf (Elt Ideal) ((c.tc : Thread Cert.DactKIdeal.nD Cert.DactKIdeal.τ).loc Cert.DactKIdeal.main_v0)),
      θ_run (Cert.DactKIdeal.defs (F := Ideal)) (onTc (τ := Cert.DactKIdeal.τ) (Cert.DactKIdeal.main (F := Ideal))) ⟨m, fun _ => 0, g⟩ (fun r => ∀ c : Dev Cert.DactKIdeal.nD,
          r.2.mem ((c.tc : Thread Cert.DactKIdeal.nD Cert.DactKIdeal.τ).loc Cert.DactKIdeal.main_v0) = v0 c
          ∧ r.2.mem ((c.tc : Thread Cert.DactKIdeal.nD Cert.DactKIdeal.τ).loc Cert.DactKIdeal.main_arg0) = m ((c.tc : Thread Cert.DactKIdeal.nD Cert.DactKIdeal.τ).loc Cert.DactKIdeal.main_arg0)
          ∧ r.2.mem ((c.tc : Thread Cert.DactKIdeal.nD Cert.DactKIdeal.τ).loc Cert.DactKIdeal.main_arg1) = m ((c.tc : Thread Cert.DactKIdeal.nD Cert.DactKIdeal.τ).loc Cert.DactKIdeal.main_arg1))
      ∧ θ_run (Cert.DactRIdeal.defs (F := Ideal)) (onTc (τ := Cert.DactRIdeal.τ) (Cert.DactRIdeal.main (F := Ideal))) ⟨m', fun _ => 0, g'⟩ (fun r => ∀ c : Dev Cert.DactRIdeal.nD,
          r.2.mem ((c.tc : Thread Cert.DactRIdeal.nD Cert.DactRIdeal.τ).loc Cert.DactRIdeal.main_v5) = v0 c
          ∧ r.2.mem ((c.tc : Thread Cert.DactRIdeal.nD Cert.DactRIdeal.τ).loc Cert.DactRIdeal.main_arg0) = m' ((c.tc : Thread Cert.DactRIdeal.nD Cert.DactRIdeal.τ).loc Cert.DactRIdeal.main_arg0)
          ∧ r.2.mem ((c.tc : Thread Cert.DactRIdeal.nD Cert.DactRIdeal.τ).loc Cert.DactRIdeal.main_arg1) = m' ((c.tc : Thread Cert.DactRIdeal.nD Cert.DactRIdeal.τ).loc Cert.DactRIdeal.main_arg1))

def preserves_DwinK_DwinKIdeal : Prop :=
  True

def algebraic_DwinKIdeal_DwinRIdeal [hDwinKIdeal : Cert.DwinKIdeal.Facts] [hDwinRIdeal : Cert.DwinRIdeal.Facts] : Prop :=
  ∀ (m : (ℓ : Loc Cert.DwinKIdeal.nD Cert.DwinKIdeal.τ Cert.DwinKIdeal.sig) → Buf (Elt Ideal) ℓ) (g : Dev Cert.DwinKIdeal.nD → PrngReg)
    (m' : (ℓ : Loc Cert.DwinRIdeal.nD Cert.DwinRIdeal.τ Cert.DwinRIdeal.sig) → Buf (Elt Ideal) ℓ) (g' : Dev Cert.DwinRIdeal.nD → PrngReg), Pre_DwinKIdeal m →
    (∀ c : Dev Cert.DwinKIdeal.nD,
      m' ((c.tc : Thread Cert.DwinRIdeal.nD Cert.DwinRIdeal.τ).loc Cert.DwinRIdeal.main_arg0) = m ((c.tc : Thread Cert.DwinKIdeal.nD Cert.DwinKIdeal.τ).loc Cert.DwinKIdeal.main_arg0)
      ∧ m' ((c.tc : Thread Cert.DwinRIdeal.nD Cert.DwinRIdeal.τ).loc Cert.DwinRIdeal.main_arg1) = m ((c.tc : Thread Cert.DwinKIdeal.nD Cert.DwinKIdeal.τ).loc Cert.DwinKIdeal.main_arg1)) →
    ∃ (v0 : (c : Dev Cert.DwinKIdeal.nD) → Buf (Elt Ideal) ((c.tc : Thread Cert.DwinKIdeal.nD Cert.DwinKIdeal.τ).loc Cert.DwinKIdeal.main_v0)),
      θ_run (Cert.DwinKIdeal.defs (F := Ideal)) (onTc (τ := Cert.DwinKIdeal.τ) (Cert.DwinKIdeal.main (F := Ideal))) ⟨m, fun _ => 0, g⟩ (fun r => ∀ c : Dev Cert.DwinKIdeal.nD,
          r.2.mem ((c.tc : Thread Cert.DwinKIdeal.nD Cert.DwinKIdeal.τ).loc Cert.DwinKIdeal.main_v0) = v0 c
          ∧ r.2.mem ((c.tc : Thread Cert.DwinKIdeal.nD Cert.DwinKIdeal.τ).loc Cert.DwinKIdeal.main_arg0) = m ((c.tc : Thread Cert.DwinKIdeal.nD Cert.DwinKIdeal.τ).loc Cert.DwinKIdeal.main_arg0)
          ∧ r.2.mem ((c.tc : Thread Cert.DwinKIdeal.nD Cert.DwinKIdeal.τ).loc Cert.DwinKIdeal.main_arg1) = m ((c.tc : Thread Cert.DwinKIdeal.nD Cert.DwinKIdeal.τ).loc Cert.DwinKIdeal.main_arg1))
      ∧ θ_run (Cert.DwinRIdeal.defs (F := Ideal)) (onTc (τ := Cert.DwinRIdeal.τ) (Cert.DwinRIdeal.main (F := Ideal))) ⟨m', fun _ => 0, g'⟩ (fun r => ∀ c : Dev Cert.DwinRIdeal.nD,
          r.2.mem ((c.tc : Thread Cert.DwinRIdeal.nD Cert.DwinRIdeal.τ).loc Cert.DwinRIdeal.main_v6) = v0 c
          ∧ r.2.mem ((c.tc : Thread Cert.DwinRIdeal.nD Cert.DwinRIdeal.τ).loc Cert.DwinRIdeal.main_arg0) = m' ((c.tc : Thread Cert.DwinRIdeal.nD Cert.DwinRIdeal.τ).loc Cert.DwinRIdeal.main_arg0)
          ∧ r.2.mem ((c.tc : Thread Cert.DwinRIdeal.nD Cert.DwinRIdeal.τ).loc Cert.DwinRIdeal.main_arg1) = m' ((c.tc : Thread Cert.DwinRIdeal.nD Cert.DwinRIdeal.τ).loc Cert.DwinRIdeal.main_arg1))

def preserves_DhgK_DhgKIdeal : Prop :=
  True

def algebraic_DhgKIdeal_DhgRIdeal [hDhgKIdeal : Cert.DhgKIdeal.Facts] [hDhgRIdeal : Cert.DhgRIdeal.Facts] : Prop :=
  ∀ (m : (ℓ : Loc Cert.DhgKIdeal.nD Cert.DhgKIdeal.τ Cert.DhgKIdeal.sig) → Buf (Elt Ideal) ℓ) (g : Dev Cert.DhgKIdeal.nD → PrngReg)
    (m' : (ℓ : Loc Cert.DhgRIdeal.nD Cert.DhgRIdeal.τ Cert.DhgRIdeal.sig) → Buf (Elt Ideal) ℓ) (g' : Dev Cert.DhgRIdeal.nD → PrngReg), Pre_DhgKIdeal m →
    (∀ c : Dev Cert.DhgKIdeal.nD,
      m' ((c.tc : Thread Cert.DhgRIdeal.nD Cert.DhgRIdeal.τ).loc Cert.DhgRIdeal.main_arg0) = m ((c.tc : Thread Cert.DhgKIdeal.nD Cert.DhgKIdeal.τ).loc Cert.DhgKIdeal.main_arg0)
      ∧ m' ((c.tc : Thread Cert.DhgRIdeal.nD Cert.DhgRIdeal.τ).loc Cert.DhgRIdeal.main_arg1) = m ((c.tc : Thread Cert.DhgKIdeal.nD Cert.DhgKIdeal.τ).loc Cert.DhgKIdeal.main_arg1)) →
    ∃ (v0 : (c : Dev Cert.DhgKIdeal.nD) → Buf (Elt Ideal) ((c.tc : Thread Cert.DhgKIdeal.nD Cert.DhgKIdeal.τ).loc Cert.DhgKIdeal.main_v0)),
      θ_run (Cert.DhgKIdeal.defs (F := Ideal)) (onTc (τ := Cert.DhgKIdeal.τ) (Cert.DhgKIdeal.main (F := Ideal))) ⟨m, fun _ => 0, g⟩ (fun r => ∀ c : Dev Cert.DhgKIdeal.nD,
          r.2.mem ((c.tc : Thread Cert.DhgKIdeal.nD Cert.DhgKIdeal.τ).loc Cert.DhgKIdeal.main_v0) = v0 c
          ∧ r.2.mem ((c.tc : Thread Cert.DhgKIdeal.nD Cert.DhgKIdeal.τ).loc Cert.DhgKIdeal.main_arg0) = m ((c.tc : Thread Cert.DhgKIdeal.nD Cert.DhgKIdeal.τ).loc Cert.DhgKIdeal.main_arg0)
          ∧ r.2.mem ((c.tc : Thread Cert.DhgKIdeal.nD Cert.DhgKIdeal.τ).loc Cert.DhgKIdeal.main_arg1) = m ((c.tc : Thread Cert.DhgKIdeal.nD Cert.DhgKIdeal.τ).loc Cert.DhgKIdeal.main_arg1))
      ∧ θ_run (Cert.DhgRIdeal.defs (F := Ideal)) (onTc (τ := Cert.DhgRIdeal.τ) (Cert.DhgRIdeal.main (F := Ideal))) ⟨m', fun _ => 0, g'⟩ (fun r => ∀ c : Dev Cert.DhgRIdeal.nD,
          r.2.mem ((c.tc : Thread Cert.DhgRIdeal.nD Cert.DhgRIdeal.τ).loc Cert.DhgRIdeal.main_v7) = v0 c
          ∧ r.2.mem ((c.tc : Thread Cert.DhgRIdeal.nD Cert.DhgRIdeal.τ).loc Cert.DhgRIdeal.main_arg0) = m' ((c.tc : Thread Cert.DhgRIdeal.nD Cert.DhgRIdeal.τ).loc Cert.DhgRIdeal.main_arg0)
          ∧ r.2.mem ((c.tc : Thread Cert.DhgRIdeal.nD Cert.DhgRIdeal.τ).loc Cert.DhgRIdeal.main_arg1) = m' ((c.tc : Thread Cert.DhgRIdeal.nD Cert.DhgRIdeal.τ).loc Cert.DhgRIdeal.main_arg1))

def preserves_DhuK_DhuKIdeal : Prop :=
  True

def algebraic_DhuKIdeal_DhuRIdeal [hDhuKIdeal : Cert.DhuKIdeal.Facts] [hDhuRIdeal : Cert.DhuRIdeal.Facts] : Prop :=
  ∀ (m : (ℓ : Loc Cert.DhuKIdeal.nD Cert.DhuKIdeal.τ Cert.DhuKIdeal.sig) → Buf (Elt Ideal) ℓ) (g : Dev Cert.DhuKIdeal.nD → PrngReg)
    (m' : (ℓ : Loc Cert.DhuRIdeal.nD Cert.DhuRIdeal.τ Cert.DhuRIdeal.sig) → Buf (Elt Ideal) ℓ) (g' : Dev Cert.DhuRIdeal.nD → PrngReg), Pre_DhuKIdeal m →
    (∀ c : Dev Cert.DhuKIdeal.nD,
      m' ((c.tc : Thread Cert.DhuRIdeal.nD Cert.DhuRIdeal.τ).loc Cert.DhuRIdeal.main_arg0) = m ((c.tc : Thread Cert.DhuKIdeal.nD Cert.DhuKIdeal.τ).loc Cert.DhuKIdeal.main_arg0)
      ∧ m' ((c.tc : Thread Cert.DhuRIdeal.nD Cert.DhuRIdeal.τ).loc Cert.DhuRIdeal.main_arg1) = m ((c.tc : Thread Cert.DhuKIdeal.nD Cert.DhuKIdeal.τ).loc Cert.DhuKIdeal.main_arg1)
      ∧ m' ((c.tc : Thread Cert.DhuRIdeal.nD Cert.DhuRIdeal.τ).loc Cert.DhuRIdeal.main_arg2) = m ((c.tc : Thread Cert.DhuKIdeal.nD Cert.DhuKIdeal.τ).loc Cert.DhuKIdeal.main_arg2)) →
    ∃ (v0 : (c : Dev Cert.DhuKIdeal.nD) → Buf (Elt Ideal) ((c.tc : Thread Cert.DhuKIdeal.nD Cert.DhuKIdeal.τ).loc Cert.DhuKIdeal.main_v0)),
      θ_run (Cert.DhuKIdeal.defs (F := Ideal)) (onTc (τ := Cert.DhuKIdeal.τ) (Cert.DhuKIdeal.main (F := Ideal))) ⟨m, fun _ => 0, g⟩ (fun r => ∀ c : Dev Cert.DhuKIdeal.nD,
          r.2.mem ((c.tc : Thread Cert.DhuKIdeal.nD Cert.DhuKIdeal.τ).loc Cert.DhuKIdeal.main_v0) = v0 c
          ∧ r.2.mem ((c.tc : Thread Cert.DhuKIdeal.nD Cert.DhuKIdeal.τ).loc Cert.DhuKIdeal.main_arg0) = m ((c.tc : Thread Cert.DhuKIdeal.nD Cert.DhuKIdeal.τ).loc Cert.DhuKIdeal.main_arg0)
          ∧ r.2.mem ((c.tc : Thread Cert.DhuKIdeal.nD Cert.DhuKIdeal.τ).loc Cert.DhuKIdeal.main_arg1) = m ((c.tc : Thread Cert.DhuKIdeal.nD Cert.DhuKIdeal.τ).loc Cert.DhuKIdeal.main_arg1)
          ∧ r.2.mem ((c.tc : Thread Cert.DhuKIdeal.nD Cert.DhuKIdeal.τ).loc Cert.DhuKIdeal.main_arg2) = m ((c.tc : Thread Cert.DhuKIdeal.nD Cert.DhuKIdeal.τ).loc Cert.DhuKIdeal.main_arg2))
      ∧ θ_run (Cert.DhuRIdeal.defs (F := Ideal)) (onTc (τ := Cert.DhuRIdeal.τ) (Cert.DhuRIdeal.main (F := Ideal))) ⟨m', fun _ => 0, g'⟩ (fun r => ∀ c : Dev Cert.DhuRIdeal.nD,
          r.2.mem ((c.tc : Thread Cert.DhuRIdeal.nD Cert.DhuRIdeal.τ).loc Cert.DhuRIdeal.main_v8) = v0 c
          ∧ r.2.mem ((c.tc : Thread Cert.DhuRIdeal.nD Cert.DhuRIdeal.τ).loc Cert.DhuRIdeal.main_arg0) = m' ((c.tc : Thread Cert.DhuRIdeal.nD Cert.DhuRIdeal.τ).loc Cert.DhuRIdeal.main_arg0)
          ∧ r.2.mem ((c.tc : Thread Cert.DhuRIdeal.nD Cert.DhuRIdeal.τ).loc Cert.DhuRIdeal.main_arg1) = m' ((c.tc : Thread Cert.DhuRIdeal.nD Cert.DhuRIdeal.τ).loc Cert.DhuRIdeal.main_arg1)
          ∧ r.2.mem ((c.tc : Thread Cert.DhuRIdeal.nD Cert.DhuRIdeal.τ).loc Cert.DhuRIdeal.main_arg2) = m' ((c.tc : Thread Cert.DhuRIdeal.nD Cert.DhuRIdeal.τ).loc Cert.DhuRIdeal.main_arg2))

def preserves_DhK_DhKIdeal : Prop :=
  True

def algebraic_DhKIdeal_DhRIdeal [hDhKIdeal : Cert.DhKIdeal.Facts] [hDhRIdeal : Cert.DhRIdeal.Facts] : Prop :=
  ∀ (m : (ℓ : Loc Cert.DhKIdeal.nD Cert.DhKIdeal.τ Cert.DhKIdeal.sig) → Buf (Elt Ideal) ℓ) (g : Dev Cert.DhKIdeal.nD → PrngReg)
    (m' : (ℓ : Loc Cert.DhRIdeal.nD Cert.DhRIdeal.τ Cert.DhRIdeal.sig) → Buf (Elt Ideal) ℓ) (g' : Dev Cert.DhRIdeal.nD → PrngReg), Pre_DhKIdeal m →
    (∀ c : Dev Cert.DhKIdeal.nD,
      m' ((c.tc : Thread Cert.DhRIdeal.nD Cert.DhRIdeal.τ).loc Cert.DhRIdeal.main_arg0) = m ((c.tc : Thread Cert.DhKIdeal.nD Cert.DhKIdeal.τ).loc Cert.DhKIdeal.main_arg0)
      ∧ m' ((c.tc : Thread Cert.DhRIdeal.nD Cert.DhRIdeal.τ).loc Cert.DhRIdeal.main_arg1) = m ((c.tc : Thread Cert.DhKIdeal.nD Cert.DhKIdeal.τ).loc Cert.DhKIdeal.main_arg1)) →
    ∃ (v0 : (c : Dev Cert.DhKIdeal.nD) → Buf (Elt Ideal) ((c.tc : Thread Cert.DhKIdeal.nD Cert.DhKIdeal.τ).loc Cert.DhKIdeal.main_v0)),
      θ_run (Cert.DhKIdeal.defs (F := Ideal)) (onTc (τ := Cert.DhKIdeal.τ) (Cert.DhKIdeal.main (F := Ideal))) ⟨m, fun _ => 0, g⟩ (fun r => ∀ c : Dev Cert.DhKIdeal.nD,
          r.2.mem ((c.tc : Thread Cert.DhKIdeal.nD Cert.DhKIdeal.τ).loc Cert.DhKIdeal.main_v0) = v0 c
          ∧ r.2.mem ((c.tc : Thread Cert.DhKIdeal.nD Cert.DhKIdeal.τ).loc Cert.DhKIdeal.main_arg0) = m ((c.tc : Thread Cert.DhKIdeal.nD Cert.DhKIdeal.τ).loc Cert.DhKIdeal.main_arg0)
          ∧ r.2.mem ((c.tc : Thread Cert.DhKIdeal.nD Cert.DhKIdeal.τ).loc Cert.DhKIdeal.main_arg1) = m ((c.tc : Thread Cert.DhKIdeal.nD Cert.DhKIdeal.τ).loc Cert.DhKIdeal.main_arg1))
      ∧ θ_run (Cert.DhRIdeal.defs (F := Ideal)) (onTc (τ := Cert.DhRIdeal.τ) (Cert.DhRIdeal.main (F := Ideal))) ⟨m', fun _ => 0, g'⟩ (fun r => ∀ c : Dev Cert.DhRIdeal.nD,
          r.2.mem ((c.tc : Thread Cert.DhRIdeal.nD Cert.DhRIdeal.τ).loc Cert.DhRIdeal.main_v4) = v0 c
          ∧ r.2.mem ((c.tc : Thread Cert.DhRIdeal.nD Cert.DhRIdeal.τ).loc Cert.DhRIdeal.main_arg0) = m' ((c.tc : Thread Cert.DhRIdeal.nD Cert.DhRIdeal.τ).loc Cert.DhRIdeal.main_arg0)
          ∧ r.2.mem ((c.tc : Thread Cert.DhRIdeal.nD Cert.DhRIdeal.τ).loc Cert.DhRIdeal.main_arg1) = m' ((c.tc : Thread Cert.DhRIdeal.nD Cert.DhRIdeal.τ).loc Cert.DhRIdeal.main_arg1))

def preserves_UpK_UpKIdeal : Prop :=
  True

def algebraic_UpKIdeal_UpRIdeal [hUpKIdeal : Cert.UpKIdeal.Facts] [hUpRIdeal : Cert.UpRIdeal.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)) →
    ∃ (v0 : (c : Dev Cert.UpKIdeal.nD) → Buf (Elt Ideal) ((c.tc : Thread Cert.UpKIdeal.nD Cert.UpKIdeal.τ).loc Cert.UpKIdeal.main_v0)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v0) = v0 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v5) = v0 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1))

def preserves_DownK_DownKIdeal : Prop :=
  True

def algebraic_DownKIdeal_DownRIdeal [hDownKIdeal : Cert.DownKIdeal.Facts] [hDownRIdeal : Cert.DownRIdeal.Facts] : Prop :=
  ∀ (m : (ℓ : Loc Cert.DownKIdeal.nD Cert.DownKIdeal.τ Cert.DownKIdeal.sig) → Buf (Elt Ideal) ℓ) (g : Dev Cert.DownKIdeal.nD → PrngReg)
    (m' : (ℓ : Loc Cert.DownRIdeal.nD Cert.DownRIdeal.τ Cert.DownRIdeal.sig) → Buf (Elt Ideal) ℓ) (g' : Dev Cert.DownRIdeal.nD → PrngReg), Pre_DownKIdeal m →
    (∀ c : Dev Cert.DownKIdeal.nD,
      m' ((c.tc : Thread Cert.DownRIdeal.nD Cert.DownRIdeal.τ).loc Cert.DownRIdeal.main_arg0) = m ((c.tc : Thread Cert.DownKIdeal.nD Cert.DownKIdeal.τ).loc Cert.DownKIdeal.main_arg0)
      ∧ m' ((c.tc : Thread Cert.DownRIdeal.nD Cert.DownRIdeal.τ).loc Cert.DownRIdeal.main_arg1) = m ((c.tc : Thread Cert.DownKIdeal.nD Cert.DownKIdeal.τ).loc Cert.DownKIdeal.main_arg1)
      ∧ m' ((c.tc : Thread Cert.DownRIdeal.nD Cert.DownRIdeal.τ).loc Cert.DownRIdeal.main_arg2) = m ((c.tc : Thread Cert.DownKIdeal.nD Cert.DownKIdeal.τ).loc Cert.DownKIdeal.main_arg2)) →
    ∃ (v0 : (c : Dev Cert.DownKIdeal.nD) → Buf (Elt Ideal) ((c.tc : Thread Cert.DownKIdeal.nD Cert.DownKIdeal.τ).loc Cert.DownKIdeal.main_v0)),
      θ_run (Cert.DownKIdeal.defs (F := Ideal)) (onTc (τ := Cert.DownKIdeal.τ) (Cert.DownKIdeal.main (F := Ideal))) ⟨m, fun _ => 0, g⟩ (fun r => ∀ c : Dev Cert.DownKIdeal.nD,
          r.2.mem ((c.tc : Thread Cert.DownKIdeal.nD Cert.DownKIdeal.τ).loc Cert.DownKIdeal.main_v0) = v0 c
          ∧ r.2.mem ((c.tc : Thread Cert.DownKIdeal.nD Cert.DownKIdeal.τ).loc Cert.DownKIdeal.main_arg0) = m ((c.tc : Thread Cert.DownKIdeal.nD Cert.DownKIdeal.τ).loc Cert.DownKIdeal.main_arg0)
          ∧ r.2.mem ((c.tc : Thread Cert.DownKIdeal.nD Cert.DownKIdeal.τ).loc Cert.DownKIdeal.main_arg1) = m ((c.tc : Thread Cert.DownKIdeal.nD Cert.DownKIdeal.τ).loc Cert.DownKIdeal.main_arg1)
          ∧ r.2.mem ((c.tc : Thread Cert.DownKIdeal.nD Cert.DownKIdeal.τ).loc Cert.DownKIdeal.main_arg2) = m ((c.tc : Thread Cert.DownKIdeal.nD Cert.DownKIdeal.τ).loc Cert.DownKIdeal.main_arg2))
      ∧ θ_run (Cert.DownRIdeal.defs (F := Ideal)) (onTc (τ := Cert.DownRIdeal.τ) (Cert.DownRIdeal.main (F := Ideal))) ⟨m', fun _ => 0, g'⟩ (fun r => ∀ c : Dev Cert.DownRIdeal.nD,
          r.2.mem ((c.tc : Thread Cert.DownRIdeal.nD Cert.DownRIdeal.τ).loc Cert.DownRIdeal.main_v3) = v0 c
          ∧ r.2.mem ((c.tc : Thread Cert.DownRIdeal.nD Cert.DownRIdeal.τ).loc Cert.DownRIdeal.main_arg0) = m' ((c.tc : Thread Cert.DownRIdeal.nD Cert.DownRIdeal.τ).loc Cert.DownRIdeal.main_arg0)
          ∧ r.2.mem ((c.tc : Thread Cert.DownRIdeal.nD Cert.DownRIdeal.τ).loc Cert.DownRIdeal.main_arg1) = m' ((c.tc : Thread Cert.DownRIdeal.nD Cert.DownRIdeal.τ).loc Cert.DownRIdeal.main_arg1)
          ∧ r.2.mem ((c.tc : Thread Cert.DownRIdeal.nD Cert.DownRIdeal.τ).loc Cert.DownRIdeal.main_arg2) = m' ((c.tc : Thread Cert.DownRIdeal.nD Cert.DownRIdeal.τ).loc Cert.DownRIdeal.main_arg2))

def preserves_InMainK_InMainKIdeal : Prop :=
  True

def algebraic_InMainKIdeal_InMainRIdeal [hInMainKIdeal : Cert.InMainKIdeal.Facts] [hInMainRIdeal : Cert.InMainRIdeal.Facts] : Prop :=
  ∀ (m : (ℓ : Loc Cert.InMainKIdeal.nD Cert.InMainKIdeal.τ Cert.InMainKIdeal.sig) → Buf (Elt Ideal) ℓ) (g : Dev Cert.InMainKIdeal.nD → PrngReg)
    (m' : (ℓ : Loc Cert.InMainRIdeal.nD Cert.InMainRIdeal.τ Cert.InMainRIdeal.sig) → Buf (Elt Ideal) ℓ) (g' : Dev Cert.InMainRIdeal.nD → PrngReg), Pre_InMainKIdeal m →
    (∀ c : Dev Cert.InMainKIdeal.nD,
      m' ((c.tc : Thread Cert.InMainRIdeal.nD Cert.InMainRIdeal.τ).loc Cert.InMainRIdeal.main_arg0) = m ((c.tc : Thread Cert.InMainKIdeal.nD Cert.InMainKIdeal.τ).loc Cert.InMainKIdeal.main_arg0)
      ∧ m' ((c.tc : Thread Cert.InMainRIdeal.nD Cert.InMainRIdeal.τ).loc Cert.InMainRIdeal.main_arg1) = m ((c.tc : Thread Cert.InMainKIdeal.nD Cert.InMainKIdeal.τ).loc Cert.InMainKIdeal.main_arg1)) →
    ∃ (v0 : (c : Dev Cert.InMainKIdeal.nD) → Buf (Elt Ideal) ((c.tc : Thread Cert.InMainKIdeal.nD Cert.InMainKIdeal.τ).loc Cert.InMainKIdeal.main_v0)),
      θ_run (Cert.InMainKIdeal.defs (F := Ideal)) (onTc (τ := Cert.InMainKIdeal.τ) (Cert.InMainKIdeal.main (F := Ideal))) ⟨m, fun _ => 0, g⟩ (fun r => ∀ c : Dev Cert.InMainKIdeal.nD,
          r.2.mem ((c.tc : Thread Cert.InMainKIdeal.nD Cert.InMainKIdeal.τ).loc Cert.InMainKIdeal.main_v0) = v0 c
          ∧ r.2.mem ((c.tc : Thread Cert.InMainKIdeal.nD Cert.InMainKIdeal.τ).loc Cert.InMainKIdeal.main_arg0) = m ((c.tc : Thread Cert.InMainKIdeal.nD Cert.InMainKIdeal.τ).loc Cert.InMainKIdeal.main_arg0)
          ∧ r.2.mem ((c.tc : Thread Cert.InMainKIdeal.nD Cert.InMainKIdeal.τ).loc Cert.InMainKIdeal.main_arg1) = m ((c.tc : Thread Cert.InMainKIdeal.nD Cert.InMainKIdeal.τ).loc Cert.InMainKIdeal.main_arg1))
      ∧ θ_run (Cert.InMainRIdeal.defs (F := Ideal)) (onTc (τ := Cert.InMainRIdeal.τ) (Cert.InMainRIdeal.main (F := Ideal))) ⟨m', fun _ => 0, g'⟩ (fun r => ∀ c : Dev Cert.InMainRIdeal.nD,
          r.2.mem ((c.tc : Thread Cert.InMainRIdeal.nD Cert.InMainRIdeal.τ).loc Cert.InMainRIdeal.main_v2) = v0 c
          ∧ r.2.mem ((c.tc : Thread Cert.InMainRIdeal.nD Cert.InMainRIdeal.τ).loc Cert.InMainRIdeal.main_arg0) = m' ((c.tc : Thread Cert.InMainRIdeal.nD Cert.InMainRIdeal.τ).loc Cert.InMainRIdeal.main_arg0)
          ∧ r.2.mem ((c.tc : Thread Cert.InMainRIdeal.nD Cert.InMainRIdeal.τ).loc Cert.InMainRIdeal.main_arg1) = m' ((c.tc : Thread Cert.InMainRIdeal.nD Cert.InMainRIdeal.τ).loc Cert.InMainRIdeal.main_arg1))

def preserves_InBaK_InBaKIdeal : Prop :=
  True

def algebraic_InBaKIdeal_InBaRIdeal [hInBaKIdeal : Cert.InBaKIdeal.Facts] [hInBaRIdeal : Cert.InBaRIdeal.Facts] : Prop :=
  ∀ (m : (ℓ : Loc Cert.InBaKIdeal.nD Cert.InBaKIdeal.τ Cert.InBaKIdeal.sig) → Buf (Elt Ideal) ℓ) (g : Dev Cert.InBaKIdeal.nD → PrngReg)
    (m' : (ℓ : Loc Cert.InBaRIdeal.nD Cert.InBaRIdeal.τ Cert.InBaRIdeal.sig) → Buf (Elt Ideal) ℓ) (g' : Dev Cert.InBaRIdeal.nD → PrngReg), Pre_InBaKIdeal m →
    (∀ c : Dev Cert.InBaKIdeal.nD,
      m' ((c.tc : Thread Cert.InBaRIdeal.nD Cert.InBaRIdeal.τ).loc Cert.InBaRIdeal.main_arg0) = m ((c.tc : Thread Cert.InBaKIdeal.nD Cert.InBaKIdeal.τ).loc Cert.InBaKIdeal.main_arg0)
      ∧ m' ((c.tc : Thread Cert.InBaRIdeal.nD Cert.InBaRIdeal.τ).loc Cert.InBaRIdeal.main_arg1) = m ((c.tc : Thread Cert.InBaKIdeal.nD Cert.InBaKIdeal.τ).loc Cert.InBaKIdeal.main_arg1)) →
    ∃ (v0 : (c : Dev Cert.InBaKIdeal.nD) → Buf (Elt Ideal) ((c.tc : Thread Cert.InBaKIdeal.nD Cert.InBaKIdeal.τ).loc Cert.InBaKIdeal.main_v0)),
      θ_run (Cert.InBaKIdeal.defs (F := Ideal)) (onTc (τ := Cert.InBaKIdeal.τ) (Cert.InBaKIdeal.main (F := Ideal))) ⟨m, fun _ => 0, g⟩ (fun r => ∀ c : Dev Cert.InBaKIdeal.nD,
          r.2.mem ((c.tc : Thread Cert.InBaKIdeal.nD Cert.InBaKIdeal.τ).loc Cert.InBaKIdeal.main_v0) = v0 c
          ∧ r.2.mem ((c.tc : Thread Cert.InBaKIdeal.nD Cert.InBaKIdeal.τ).loc Cert.InBaKIdeal.main_arg0) = m ((c.tc : Thread Cert.InBaKIdeal.nD Cert.InBaKIdeal.τ).loc Cert.InBaKIdeal.main_arg0)
          ∧ r.2.mem ((c.tc : Thread Cert.InBaKIdeal.nD Cert.InBaKIdeal.τ).loc Cert.InBaKIdeal.main_arg1) = m ((c.tc : Thread Cert.InBaKIdeal.nD Cert.InBaKIdeal.τ).loc Cert.InBaKIdeal.main_arg1))
      ∧ θ_run (Cert.InBaRIdeal.defs (F := Ideal)) (onTc (τ := Cert.InBaRIdeal.τ) (Cert.InBaRIdeal.main (F := Ideal))) ⟨m', fun _ => 0, g'⟩ (fun r => ∀ c : Dev Cert.InBaRIdeal.nD,
          r.2.mem ((c.tc : Thread Cert.InBaRIdeal.nD Cert.InBaRIdeal.τ).loc Cert.InBaRIdeal.main_v2) = v0 c
          ∧ r.2.mem ((c.tc : Thread Cert.InBaRIdeal.nD Cert.InBaRIdeal.τ).loc Cert.InBaRIdeal.main_arg0) = m' ((c.tc : Thread Cert.InBaRIdeal.nD Cert.InBaRIdeal.τ).loc Cert.InBaRIdeal.main_arg0)
          ∧ r.2.mem ((c.tc : Thread Cert.InBaRIdeal.nD Cert.InBaRIdeal.τ).loc Cert.InBaRIdeal.main_arg1) = m' ((c.tc : Thread Cert.InBaRIdeal.nD Cert.InBaRIdeal.τ).loc Cert.InBaRIdeal.main_arg1))

def preserves_PwK_PwKIdeal : Prop :=
  True

def algebraic_PwKIdeal_PwRIdeal [hPwKIdeal : Cert.PwKIdeal.Facts] [hPwRIdeal : Cert.PwRIdeal.Facts] : Prop :=
  ∀ (m : (ℓ : Loc Cert.PwKIdeal.nD Cert.PwKIdeal.τ Cert.PwKIdeal.sig) → Buf (Elt Ideal) ℓ) (g : Dev Cert.PwKIdeal.nD → PrngReg)
    (m' : (ℓ : Loc Cert.PwRIdeal.nD Cert.PwRIdeal.τ Cert.PwRIdeal.sig) → Buf (Elt Ideal) ℓ) (g' : Dev Cert.PwRIdeal.nD → PrngReg), Pre_PwKIdeal m →
    (∀ c : Dev Cert.PwKIdeal.nD,
      m' ((c.tc : Thread Cert.PwRIdeal.nD Cert.PwRIdeal.τ).loc Cert.PwRIdeal.main_arg0) = m ((c.tc : Thread Cert.PwKIdeal.nD Cert.PwKIdeal.τ).loc Cert.PwKIdeal.main_arg0)
      ∧ m' ((c.tc : Thread Cert.PwRIdeal.nD Cert.PwRIdeal.τ).loc Cert.PwRIdeal.main_arg1) = m ((c.tc : Thread Cert.PwKIdeal.nD Cert.PwKIdeal.τ).loc Cert.PwKIdeal.main_arg1)
      ∧ m' ((c.tc : Thread Cert.PwRIdeal.nD Cert.PwRIdeal.τ).loc Cert.PwRIdeal.main_arg2) = m ((c.tc : Thread Cert.PwKIdeal.nD Cert.PwKIdeal.τ).loc Cert.PwKIdeal.main_arg2)) →
    ∃ (v0 : (c : Dev Cert.PwKIdeal.nD) → Buf (Elt Ideal) ((c.tc : Thread Cert.PwKIdeal.nD Cert.PwKIdeal.τ).loc Cert.PwKIdeal.main_v1)),
      θ_run (Cert.PwKIdeal.defs (F := Ideal)) (onTc (τ := Cert.PwKIdeal.τ) (Cert.PwKIdeal.main (F := Ideal))) ⟨m, fun _ => 0, g⟩ (fun r => ∀ c : Dev Cert.PwKIdeal.nD,
          r.2.mem ((c.tc : Thread Cert.PwKIdeal.nD Cert.PwKIdeal.τ).loc Cert.PwKIdeal.main_v1) = v0 c
          ∧ r.2.mem ((c.tc : Thread Cert.PwKIdeal.nD Cert.PwKIdeal.τ).loc Cert.PwKIdeal.main_arg0) = m ((c.tc : Thread Cert.PwKIdeal.nD Cert.PwKIdeal.τ).loc Cert.PwKIdeal.main_arg0)
          ∧ r.2.mem ((c.tc : Thread Cert.PwKIdeal.nD Cert.PwKIdeal.τ).loc Cert.PwKIdeal.main_arg1) = m ((c.tc : Thread Cert.PwKIdeal.nD Cert.PwKIdeal.τ).loc Cert.PwKIdeal.main_arg1)
          ∧ r.2.mem ((c.tc : Thread Cert.PwKIdeal.nD Cert.PwKIdeal.τ).loc Cert.PwKIdeal.main_arg2) = m ((c.tc : Thread Cert.PwKIdeal.nD Cert.PwKIdeal.τ).loc Cert.PwKIdeal.main_arg2))
      ∧ θ_run (Cert.PwRIdeal.defs (F := Ideal)) (onTc (τ := Cert.PwRIdeal.τ) (Cert.PwRIdeal.main (F := Ideal))) ⟨m', fun _ => 0, g'⟩ (fun r => ∀ c : Dev Cert.PwRIdeal.nD,
          r.2.mem ((c.tc : Thread Cert.PwRIdeal.nD Cert.PwRIdeal.τ).loc Cert.PwRIdeal.main_v6) = v0 c
          ∧ r.2.mem ((c.tc : Thread Cert.PwRIdeal.nD Cert.PwRIdeal.τ).loc Cert.PwRIdeal.main_arg0) = m' ((c.tc : Thread Cert.PwRIdeal.nD Cert.PwRIdeal.τ).loc Cert.PwRIdeal.main_arg0)
          ∧ r.2.mem ((c.tc : Thread Cert.PwRIdeal.nD Cert.PwRIdeal.τ).loc Cert.PwRIdeal.main_arg1) = m' ((c.tc : Thread Cert.PwRIdeal.nD Cert.PwRIdeal.τ).loc Cert.PwRIdeal.main_arg1)
          ∧ r.2.mem ((c.tc : Thread Cert.PwRIdeal.nD Cert.PwRIdeal.τ).loc Cert.PwRIdeal.main_arg2) = m' ((c.tc : Thread Cert.PwRIdeal.nD Cert.PwRIdeal.τ).loc Cert.PwRIdeal.main_arg2))

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)) →
    ∃ (v0 : (c : Dev Cert.OutKIdeal.nD) → Buf (Elt Ideal) ((c.tc : Thread Cert.OutKIdeal.nD Cert.OutKIdeal.τ).loc Cert.OutKIdeal.main_v0)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v0) = v0 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v3) = v0 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2))

def preserves_DoutaK_DoutaKIdeal : Prop :=
  True

def algebraic_DoutaKIdeal_DoutaRIdeal [hDoutaKIdeal : Cert.DoutaKIdeal.Facts] [hDoutaRIdeal : Cert.DoutaRIdeal.Facts] : Prop :=
  ∀ (m : (ℓ : Loc Cert.DoutaKIdeal.nD Cert.DoutaKIdeal.τ Cert.DoutaKIdeal.sig) → Buf (Elt Ideal) ℓ) (g : Dev Cert.DoutaKIdeal.nD → PrngReg)
    (m' : (ℓ : Loc Cert.DoutaRIdeal.nD Cert.DoutaRIdeal.τ Cert.DoutaRIdeal.sig) → Buf (Elt Ideal) ℓ) (g' : Dev Cert.DoutaRIdeal.nD → PrngReg), Pre_DoutaKIdeal m →
    (∀ c : Dev Cert.DoutaKIdeal.nD,
      m' ((c.tc : Thread Cert.DoutaRIdeal.nD Cert.DoutaRIdeal.τ).loc Cert.DoutaRIdeal.main_arg0) = m ((c.tc : Thread Cert.DoutaKIdeal.nD Cert.DoutaKIdeal.τ).loc Cert.DoutaKIdeal.main_arg0)
      ∧ m' ((c.tc : Thread Cert.DoutaRIdeal.nD Cert.DoutaRIdeal.τ).loc Cert.DoutaRIdeal.main_arg1) = m ((c.tc : Thread Cert.DoutaKIdeal.nD Cert.DoutaKIdeal.τ).loc Cert.DoutaKIdeal.main_arg1)) →
    ∃ (v0 : (c : Dev Cert.DoutaKIdeal.nD) → Buf (Elt Ideal) ((c.tc : Thread Cert.DoutaKIdeal.nD Cert.DoutaKIdeal.τ).loc Cert.DoutaKIdeal.main_v0)),
      θ_run (Cert.DoutaKIdeal.defs (F := Ideal)) (onTc (τ := Cert.DoutaKIdeal.τ) (Cert.DoutaKIdeal.main (F := Ideal))) ⟨m, fun _ => 0, g⟩ (fun r => ∀ c : Dev Cert.DoutaKIdeal.nD,
          r.2.mem ((c.tc : Thread Cert.DoutaKIdeal.nD Cert.DoutaKIdeal.τ).loc Cert.DoutaKIdeal.main_v0) = v0 c
          ∧ r.2.mem ((c.tc : Thread Cert.DoutaKIdeal.nD Cert.DoutaKIdeal.τ).loc Cert.DoutaKIdeal.main_arg0) = m ((c.tc : Thread Cert.DoutaKIdeal.nD Cert.DoutaKIdeal.τ).loc Cert.DoutaKIdeal.main_arg0)
          ∧ r.2.mem ((c.tc : Thread Cert.DoutaKIdeal.nD Cert.DoutaKIdeal.τ).loc Cert.DoutaKIdeal.main_arg1) = m ((c.tc : Thread Cert.DoutaKIdeal.nD Cert.DoutaKIdeal.τ).loc Cert.DoutaKIdeal.main_arg1))
      ∧ θ_run (Cert.DoutaRIdeal.defs (F := Ideal)) (onTc (τ := Cert.DoutaRIdeal.τ) (Cert.DoutaRIdeal.main (F := Ideal))) ⟨m', fun _ => 0, g'⟩ (fun r => ∀ c : Dev Cert.DoutaRIdeal.nD,
          r.2.mem ((c.tc : Thread Cert.DoutaRIdeal.nD Cert.DoutaRIdeal.τ).loc Cert.DoutaRIdeal.main_v5) = v0 c
          ∧ r.2.mem ((c.tc : Thread Cert.DoutaRIdeal.nD Cert.DoutaRIdeal.τ).loc Cert.DoutaRIdeal.main_arg0) = m' ((c.tc : Thread Cert.DoutaRIdeal.nD Cert.DoutaRIdeal.τ).loc Cert.DoutaRIdeal.main_arg0)
          ∧ r.2.mem ((c.tc : Thread Cert.DoutaRIdeal.nD Cert.DoutaRIdeal.τ).loc Cert.DoutaRIdeal.main_arg1) = m' ((c.tc : Thread Cert.DoutaRIdeal.nD Cert.DoutaRIdeal.τ).loc Cert.DoutaRIdeal.main_arg1))

def preserves_DoutbK_DoutbKIdeal : Prop :=
  True

def algebraic_DoutbKIdeal_DoutbRIdeal [hDoutbKIdeal : Cert.DoutbKIdeal.Facts] [hDoutbRIdeal : Cert.DoutbRIdeal.Facts] : Prop :=
  ∀ (m : (ℓ : Loc Cert.DoutbKIdeal.nD Cert.DoutbKIdeal.τ Cert.DoutbKIdeal.sig) → Buf (Elt Ideal) ℓ) (g : Dev Cert.DoutbKIdeal.nD → PrngReg)
    (m' : (ℓ : Loc Cert.DoutbRIdeal.nD Cert.DoutbRIdeal.τ Cert.DoutbRIdeal.sig) → Buf (Elt Ideal) ℓ) (g' : Dev Cert.DoutbRIdeal.nD → PrngReg), Pre_DoutbKIdeal m →
    (∀ c : Dev Cert.DoutbKIdeal.nD,
      m' ((c.tc : Thread Cert.DoutbRIdeal.nD Cert.DoutbRIdeal.τ).loc Cert.DoutbRIdeal.main_arg0) = m ((c.tc : Thread Cert.DoutbKIdeal.nD Cert.DoutbKIdeal.τ).loc Cert.DoutbKIdeal.main_arg0)
      ∧ m' ((c.tc : Thread Cert.DoutbRIdeal.nD Cert.DoutbRIdeal.τ).loc Cert.DoutbRIdeal.main_arg1) = m ((c.tc : Thread Cert.DoutbKIdeal.nD Cert.DoutbKIdeal.τ).loc Cert.DoutbKIdeal.main_arg1)) →
    ∃ (v0 : (c : Dev Cert.DoutbKIdeal.nD) → Buf (Elt Ideal) ((c.tc : Thread Cert.DoutbKIdeal.nD Cert.DoutbKIdeal.τ).loc Cert.DoutbKIdeal.main_v0)),
      θ_run (Cert.DoutbKIdeal.defs (F := Ideal)) (onTc (τ := Cert.DoutbKIdeal.τ) (Cert.DoutbKIdeal.main (F := Ideal))) ⟨m, fun _ => 0, g⟩ (fun r => ∀ c : Dev Cert.DoutbKIdeal.nD,
          r.2.mem ((c.tc : Thread Cert.DoutbKIdeal.nD Cert.DoutbKIdeal.τ).loc Cert.DoutbKIdeal.main_v0) = v0 c
          ∧ r.2.mem ((c.tc : Thread Cert.DoutbKIdeal.nD Cert.DoutbKIdeal.τ).loc Cert.DoutbKIdeal.main_arg0) = m ((c.tc : Thread Cert.DoutbKIdeal.nD Cert.DoutbKIdeal.τ).loc Cert.DoutbKIdeal.main_arg0)
          ∧ r.2.mem ((c.tc : Thread Cert.DoutbKIdeal.nD Cert.DoutbKIdeal.τ).loc Cert.DoutbKIdeal.main_arg1) = m ((c.tc : Thread Cert.DoutbKIdeal.nD Cert.DoutbKIdeal.τ).loc Cert.DoutbKIdeal.main_arg1))
      ∧ θ_run (Cert.DoutbRIdeal.defs (F := Ideal)) (onTc (τ := Cert.DoutbRIdeal.τ) (Cert.DoutbRIdeal.main (F := Ideal))) ⟨m', fun _ => 0, g'⟩ (fun r => ∀ c : Dev Cert.DoutbRIdeal.nD,
          r.2.mem ((c.tc : Thread Cert.DoutbRIdeal.nD Cert.DoutbRIdeal.τ).loc Cert.DoutbRIdeal.main_v4) = v0 c
          ∧ r.2.mem ((c.tc : Thread Cert.DoutbRIdeal.nD Cert.DoutbRIdeal.τ).loc Cert.DoutbRIdeal.main_arg0) = m' ((c.tc : Thread Cert.DoutbRIdeal.nD Cert.DoutbRIdeal.τ).loc Cert.DoutbRIdeal.main_arg0)
          ∧ r.2.mem ((c.tc : Thread Cert.DoutbRIdeal.nD Cert.DoutbRIdeal.τ).loc Cert.DoutbRIdeal.main_arg1) = m' ((c.tc : Thread Cert.DoutbRIdeal.nD Cert.DoutbRIdeal.τ).loc Cert.DoutbRIdeal.main_arg1))

def preserves_DwoutK_DwoutKIdeal : Prop :=
  True

def algebraic_DwoutKIdeal_DwoutRIdeal [hDwoutKIdeal : Cert.DwoutKIdeal.Facts] [hDwoutRIdeal : Cert.DwoutRIdeal.Facts] : Prop :=
  ∀ (m : (ℓ : Loc Cert.DwoutKIdeal.nD Cert.DwoutKIdeal.τ Cert.DwoutKIdeal.sig) → Buf (Elt Ideal) ℓ) (g : Dev Cert.DwoutKIdeal.nD → PrngReg)
    (m' : (ℓ : Loc Cert.DwoutRIdeal.nD Cert.DwoutRIdeal.τ Cert.DwoutRIdeal.sig) → Buf (Elt Ideal) ℓ) (g' : Dev Cert.DwoutRIdeal.nD → PrngReg), Pre_DwoutKIdeal m →
    (∀ c : Dev Cert.DwoutKIdeal.nD,
      m' ((c.tc : Thread Cert.DwoutRIdeal.nD Cert.DwoutRIdeal.τ).loc Cert.DwoutRIdeal.main_arg0) = m ((c.tc : Thread Cert.DwoutKIdeal.nD Cert.DwoutKIdeal.τ).loc Cert.DwoutKIdeal.main_arg0)
      ∧ m' ((c.tc : Thread Cert.DwoutRIdeal.nD Cert.DwoutRIdeal.τ).loc Cert.DwoutRIdeal.main_arg1) = m ((c.tc : Thread Cert.DwoutKIdeal.nD Cert.DwoutKIdeal.τ).loc Cert.DwoutKIdeal.main_arg1)) →
    ∃ (v0 : (c : Dev Cert.DwoutKIdeal.nD) → Buf (Elt Ideal) ((c.tc : Thread Cert.DwoutKIdeal.nD Cert.DwoutKIdeal.τ).loc Cert.DwoutKIdeal.main_v0)),
      θ_run (Cert.DwoutKIdeal.defs (F := Ideal)) (onTc (τ := Cert.DwoutKIdeal.τ) (Cert.DwoutKIdeal.main (F := Ideal))) ⟨m, fun _ => 0, g⟩ (fun r => ∀ c : Dev Cert.DwoutKIdeal.nD,
          r.2.mem ((c.tc : Thread Cert.DwoutKIdeal.nD Cert.DwoutKIdeal.τ).loc Cert.DwoutKIdeal.main_v0) = v0 c
          ∧ r.2.mem ((c.tc : Thread Cert.DwoutKIdeal.nD Cert.DwoutKIdeal.τ).loc Cert.DwoutKIdeal.main_arg0) = m ((c.tc : Thread Cert.DwoutKIdeal.nD Cert.DwoutKIdeal.τ).loc Cert.DwoutKIdeal.main_arg0)
          ∧ r.2.mem ((c.tc : Thread Cert.DwoutKIdeal.nD Cert.DwoutKIdeal.τ).loc Cert.DwoutKIdeal.main_arg1) = m ((c.tc : Thread Cert.DwoutKIdeal.nD Cert.DwoutKIdeal.τ).loc Cert.DwoutKIdeal.main_arg1))
      ∧ θ_run (Cert.DwoutRIdeal.defs (F := Ideal)) (onTc (τ := Cert.DwoutRIdeal.τ) (Cert.DwoutRIdeal.main (F := Ideal))) ⟨m', fun _ => 0, g'⟩ (fun r => ∀ c : Dev Cert.DwoutRIdeal.nD,
          r.2.mem ((c.tc : Thread Cert.DwoutRIdeal.nD Cert.DwoutRIdeal.τ).loc Cert.DwoutRIdeal.main_v6) = v0 c
          ∧ r.2.mem ((c.tc : Thread Cert.DwoutRIdeal.nD Cert.DwoutRIdeal.τ).loc Cert.DwoutRIdeal.main_arg0) = m' ((c.tc : Thread Cert.DwoutRIdeal.nD Cert.DwoutRIdeal.τ).loc Cert.DwoutRIdeal.main_arg0)
          ∧ r.2.mem ((c.tc : Thread Cert.DwoutRIdeal.nD Cert.DwoutRIdeal.τ).loc Cert.DwoutRIdeal.main_arg1) = m' ((c.tc : Thread Cert.DwoutRIdeal.nD Cert.DwoutRIdeal.τ).loc Cert.DwoutRIdeal.main_arg1))

def preserves_DucK_DucKIdeal : Prop :=
  True

def algebraic_DucKIdeal_DucRIdeal [hDucKIdeal : Cert.DucKIdeal.Facts] [hDucRIdeal : Cert.DucRIdeal.Facts] : Prop :=
  ∀ (m : (ℓ : Loc Cert.DucKIdeal.nD Cert.DucKIdeal.τ Cert.DucKIdeal.sig) → Buf (Elt Ideal) ℓ) (g : Dev Cert.DucKIdeal.nD → PrngReg)
    (m' : (ℓ : Loc Cert.DucRIdeal.nD Cert.DucRIdeal.τ Cert.DucRIdeal.sig) → Buf (Elt Ideal) ℓ) (g' : Dev Cert.DucRIdeal.nD → PrngReg), Pre_DucKIdeal m →
    (∀ c : Dev Cert.DucKIdeal.nD,
      m' ((c.tc : Thread Cert.DucRIdeal.nD Cert.DucRIdeal.τ).loc Cert.DucRIdeal.main_arg0) = m ((c.tc : Thread Cert.DucKIdeal.nD Cert.DucKIdeal.τ).loc Cert.DucKIdeal.main_arg0)
      ∧ m' ((c.tc : Thread Cert.DucRIdeal.nD Cert.DucRIdeal.τ).loc Cert.DucRIdeal.main_arg1) = m ((c.tc : Thread Cert.DucKIdeal.nD Cert.DucKIdeal.τ).loc Cert.DucKIdeal.main_arg1)) →
    ∃ (v0 : (c : Dev Cert.DucKIdeal.nD) → Buf (Elt Ideal) ((c.tc : Thread Cert.DucKIdeal.nD Cert.DucKIdeal.τ).loc Cert.DucKIdeal.main_v0)),
      θ_run (Cert.DucKIdeal.defs (F := Ideal)) (onTc (τ := Cert.DucKIdeal.τ) (Cert.DucKIdeal.main (F := Ideal))) ⟨m, fun _ => 0, g⟩ (fun r => ∀ c : Dev Cert.DucKIdeal.nD,
          r.2.mem ((c.tc : Thread Cert.DucKIdeal.nD Cert.DucKIdeal.τ).loc Cert.DucKIdeal.main_v0) = v0 c
          ∧ r.2.mem ((c.tc : Thread Cert.DucKIdeal.nD Cert.DucKIdeal.τ).loc Cert.DucKIdeal.main_arg0) = m ((c.tc : Thread Cert.DucKIdeal.nD Cert.DucKIdeal.τ).loc Cert.DucKIdeal.main_arg0)
          ∧ r.2.mem ((c.tc : Thread Cert.DucKIdeal.nD Cert.DucKIdeal.τ).loc Cert.DucKIdeal.main_arg1) = m ((c.tc : Thread Cert.DucKIdeal.nD Cert.DucKIdeal.τ).loc Cert.DucKIdeal.main_arg1))
      ∧ θ_run (Cert.DucRIdeal.defs (F := Ideal)) (onTc (τ := Cert.DucRIdeal.τ) (Cert.DucRIdeal.main (F := Ideal))) ⟨m', fun _ => 0, g'⟩ (fun r => ∀ c : Dev Cert.DucRIdeal.nD,
          r.2.mem ((c.tc : Thread Cert.DucRIdeal.nD Cert.DucRIdeal.τ).loc Cert.DucRIdeal.main_v4) = v0 c
          ∧ r.2.mem ((c.tc : Thread Cert.DucRIdeal.nD Cert.DucRIdeal.τ).loc Cert.DucRIdeal.main_arg0) = m' ((c.tc : Thread Cert.DucRIdeal.nD Cert.DucRIdeal.τ).loc Cert.DucRIdeal.main_arg0)
          ∧ r.2.mem ((c.tc : Thread Cert.DucRIdeal.nD Cert.DucRIdeal.τ).loc Cert.DucRIdeal.main_arg1) = m' ((c.tc : Thread Cert.DucRIdeal.nD Cert.DucRIdeal.τ).loc Cert.DucRIdeal.main_arg1))

def preserves_DwpwK_DwpwKIdeal : Prop :=
  True

def algebraic_DwpwKIdeal_DwpwRIdeal [hDwpwKIdeal : Cert.DwpwKIdeal.Facts] [hDwpwRIdeal : Cert.DwpwRIdeal.Facts] : Prop :=
  ∀ (m : (ℓ : Loc Cert.DwpwKIdeal.nD Cert.DwpwKIdeal.τ Cert.DwpwKIdeal.sig) → Buf (Elt Ideal) ℓ) (g : Dev Cert.DwpwKIdeal.nD → PrngReg)
    (m' : (ℓ : Loc Cert.DwpwRIdeal.nD Cert.DwpwRIdeal.τ Cert.DwpwRIdeal.sig) → Buf (Elt Ideal) ℓ) (g' : Dev Cert.DwpwRIdeal.nD → PrngReg), Pre_DwpwKIdeal m →
    (∀ c : Dev Cert.DwpwKIdeal.nD,
      m' ((c.tc : Thread Cert.DwpwRIdeal.nD Cert.DwpwRIdeal.τ).loc Cert.DwpwRIdeal.main_arg0) = m ((c.tc : Thread Cert.DwpwKIdeal.nD Cert.DwpwKIdeal.τ).loc Cert.DwpwKIdeal.main_arg0)
      ∧ m' ((c.tc : Thread Cert.DwpwRIdeal.nD Cert.DwpwRIdeal.τ).loc Cert.DwpwRIdeal.main_arg1) = m ((c.tc : Thread Cert.DwpwKIdeal.nD Cert.DwpwKIdeal.τ).loc Cert.DwpwKIdeal.main_arg1)) →
    ∃ (v0 : (c : Dev Cert.DwpwKIdeal.nD) → Buf (Elt Ideal) ((c.tc : Thread Cert.DwpwKIdeal.nD Cert.DwpwKIdeal.τ).loc Cert.DwpwKIdeal.main_v0)),
      θ_run (Cert.DwpwKIdeal.defs (F := Ideal)) (onTc (τ := Cert.DwpwKIdeal.τ) (Cert.DwpwKIdeal.main (F := Ideal))) ⟨m, fun _ => 0, g⟩ (fun r => ∀ c : Dev Cert.DwpwKIdeal.nD,
          r.2.mem ((c.tc : Thread Cert.DwpwKIdeal.nD Cert.DwpwKIdeal.τ).loc Cert.DwpwKIdeal.main_v0) = v0 c
          ∧ r.2.mem ((c.tc : Thread Cert.DwpwKIdeal.nD Cert.DwpwKIdeal.τ).loc Cert.DwpwKIdeal.main_arg0) = m ((c.tc : Thread Cert.DwpwKIdeal.nD Cert.DwpwKIdeal.τ).loc Cert.DwpwKIdeal.main_arg0)
          ∧ r.2.mem ((c.tc : Thread Cert.DwpwKIdeal.nD Cert.DwpwKIdeal.τ).loc Cert.DwpwKIdeal.main_arg1) = m ((c.tc : Thread Cert.DwpwKIdeal.nD Cert.DwpwKIdeal.τ).loc Cert.DwpwKIdeal.main_arg1))
      ∧ θ_run (Cert.DwpwRIdeal.defs (F := Ideal)) (onTc (τ := Cert.DwpwRIdeal.τ) (Cert.DwpwRIdeal.main (F := Ideal))) ⟨m', fun _ => 0, g'⟩ (fun r => ∀ c : Dev Cert.DwpwRIdeal.nD,
          r.2.mem ((c.tc : Thread Cert.DwpwRIdeal.nD Cert.DwpwRIdeal.τ).loc Cert.DwpwRIdeal.main_v6) = v0 c
          ∧ r.2.mem ((c.tc : Thread Cert.DwpwRIdeal.nD Cert.DwpwRIdeal.τ).loc Cert.DwpwRIdeal.main_arg0) = m' ((c.tc : Thread Cert.DwpwRIdeal.nD Cert.DwpwRIdeal.τ).loc Cert.DwpwRIdeal.main_arg0)
          ∧ r.2.mem ((c.tc : Thread Cert.DwpwRIdeal.nD Cert.DwpwRIdeal.τ).loc Cert.DwpwRIdeal.main_arg1) = m' ((c.tc : Thread Cert.DwpwRIdeal.nD Cert.DwpwRIdeal.τ).loc Cert.DwpwRIdeal.main_arg1))

def preserves_DwbaK_DwbaKIdeal : Prop :=
  True

def algebraic_DwbaKIdeal_DwbaRIdeal [hDwbaKIdeal : Cert.DwbaKIdeal.Facts] [hDwbaRIdeal : Cert.DwbaRIdeal.Facts] : Prop :=
  ∀ (m : (ℓ : Loc Cert.DwbaKIdeal.nD Cert.DwbaKIdeal.τ Cert.DwbaKIdeal.sig) → Buf (Elt Ideal) ℓ) (g : Dev Cert.DwbaKIdeal.nD → PrngReg)
    (m' : (ℓ : Loc Cert.DwbaRIdeal.nD Cert.DwbaRIdeal.τ Cert.DwbaRIdeal.sig) → Buf (Elt Ideal) ℓ) (g' : Dev Cert.DwbaRIdeal.nD → PrngReg), Pre_DwbaKIdeal m →
    (∀ c : Dev Cert.DwbaKIdeal.nD,
      m' ((c.tc : Thread Cert.DwbaRIdeal.nD Cert.DwbaRIdeal.τ).loc Cert.DwbaRIdeal.main_arg0) = m ((c.tc : Thread Cert.DwbaKIdeal.nD Cert.DwbaKIdeal.τ).loc Cert.DwbaKIdeal.main_arg0)
      ∧ m' ((c.tc : Thread Cert.DwbaRIdeal.nD Cert.DwbaRIdeal.τ).loc Cert.DwbaRIdeal.main_arg1) = m ((c.tc : Thread Cert.DwbaKIdeal.nD Cert.DwbaKIdeal.τ).loc Cert.DwbaKIdeal.main_arg1)) →
    ∃ (v0 : (c : Dev Cert.DwbaKIdeal.nD) → Buf (Elt Ideal) ((c.tc : Thread Cert.DwbaKIdeal.nD Cert.DwbaKIdeal.τ).loc Cert.DwbaKIdeal.main_v0)),
      θ_run (Cert.DwbaKIdeal.defs (F := Ideal)) (onTc (τ := Cert.DwbaKIdeal.τ) (Cert.DwbaKIdeal.main (F := Ideal))) ⟨m, fun _ => 0, g⟩ (fun r => ∀ c : Dev Cert.DwbaKIdeal.nD,
          r.2.mem ((c.tc : Thread Cert.DwbaKIdeal.nD Cert.DwbaKIdeal.τ).loc Cert.DwbaKIdeal.main_v0) = v0 c
          ∧ r.2.mem ((c.tc : Thread Cert.DwbaKIdeal.nD Cert.DwbaKIdeal.τ).loc Cert.DwbaKIdeal.main_arg0) = m ((c.tc : Thread Cert.DwbaKIdeal.nD Cert.DwbaKIdeal.τ).loc Cert.DwbaKIdeal.main_arg0)
          ∧ r.2.mem ((c.tc : Thread Cert.DwbaKIdeal.nD Cert.DwbaKIdeal.τ).loc Cert.DwbaKIdeal.main_arg1) = m ((c.tc : Thread Cert.DwbaKIdeal.nD Cert.DwbaKIdeal.τ).loc Cert.DwbaKIdeal.main_arg1))
      ∧ θ_run (Cert.DwbaRIdeal.defs (F := Ideal)) (onTc (τ := Cert.DwbaRIdeal.τ) (Cert.DwbaRIdeal.main (F := Ideal))) ⟨m', fun _ => 0, g'⟩ (fun r => ∀ c : Dev Cert.DwbaRIdeal.nD,
          r.2.mem ((c.tc : Thread Cert.DwbaRIdeal.nD Cert.DwbaRIdeal.τ).loc Cert.DwbaRIdeal.main_v5) = v0 c
          ∧ r.2.mem ((c.tc : Thread Cert.DwbaRIdeal.nD Cert.DwbaRIdeal.τ).loc Cert.DwbaRIdeal.main_arg0) = m' ((c.tc : Thread Cert.DwbaRIdeal.nD Cert.DwbaRIdeal.τ).loc Cert.DwbaRIdeal.main_arg0)
          ∧ r.2.mem ((c.tc : Thread Cert.DwbaRIdeal.nD Cert.DwbaRIdeal.τ).loc Cert.DwbaRIdeal.main_arg1) = m' ((c.tc : Thread Cert.DwbaRIdeal.nD Cert.DwbaRIdeal.τ).loc Cert.DwbaRIdeal.main_arg1))

def preserves_DhbaK_DhbaKIdeal : Prop :=
  True

def algebraic_DhbaKIdeal_DhbaRIdeal [hDhbaKIdeal : Cert.DhbaKIdeal.Facts] [hDhbaRIdeal : Cert.DhbaRIdeal.Facts] : Prop :=
  ∀ (m : (ℓ : Loc Cert.DhbaKIdeal.nD Cert.DhbaKIdeal.τ Cert.DhbaKIdeal.sig) → Buf (Elt Ideal) ℓ) (g : Dev Cert.DhbaKIdeal.nD → PrngReg)
    (m' : (ℓ : Loc Cert.DhbaRIdeal.nD Cert.DhbaRIdeal.τ Cert.DhbaRIdeal.sig) → Buf (Elt Ideal) ℓ) (g' : Dev Cert.DhbaRIdeal.nD → PrngReg), Pre_DhbaKIdeal m →
    (∀ c : Dev Cert.DhbaKIdeal.nD,
      m' ((c.tc : Thread Cert.DhbaRIdeal.nD Cert.DhbaRIdeal.τ).loc Cert.DhbaRIdeal.main_arg0) = m ((c.tc : Thread Cert.DhbaKIdeal.nD Cert.DhbaKIdeal.τ).loc Cert.DhbaKIdeal.main_arg0)
      ∧ m' ((c.tc : Thread Cert.DhbaRIdeal.nD Cert.DhbaRIdeal.τ).loc Cert.DhbaRIdeal.main_arg1) = m ((c.tc : Thread Cert.DhbaKIdeal.nD Cert.DhbaKIdeal.τ).loc Cert.DhbaKIdeal.main_arg1)
      ∧ m' ((c.tc : Thread Cert.DhbaRIdeal.nD Cert.DhbaRIdeal.τ).loc Cert.DhbaRIdeal.main_arg2) = m ((c.tc : Thread Cert.DhbaKIdeal.nD Cert.DhbaKIdeal.τ).loc Cert.DhbaKIdeal.main_arg2)) →
    ∃ (v0 : (c : Dev Cert.DhbaKIdeal.nD) → Buf (Elt Ideal) ((c.tc : Thread Cert.DhbaKIdeal.nD Cert.DhbaKIdeal.τ).loc Cert.DhbaKIdeal.main_v0)),
      θ_run (Cert.DhbaKIdeal.defs (F := Ideal)) (onTc (τ := Cert.DhbaKIdeal.τ) (Cert.DhbaKIdeal.main (F := Ideal))) ⟨m, fun _ => 0, g⟩ (fun r => ∀ c : Dev Cert.DhbaKIdeal.nD,
          r.2.mem ((c.tc : Thread Cert.DhbaKIdeal.nD Cert.DhbaKIdeal.τ).loc Cert.DhbaKIdeal.main_v0) = v0 c
          ∧ r.2.mem ((c.tc : Thread Cert.DhbaKIdeal.nD Cert.DhbaKIdeal.τ).loc Cert.DhbaKIdeal.main_arg0) = m ((c.tc : Thread Cert.DhbaKIdeal.nD Cert.DhbaKIdeal.τ).loc Cert.DhbaKIdeal.main_arg0)
          ∧ r.2.mem ((c.tc : Thread Cert.DhbaKIdeal.nD Cert.DhbaKIdeal.τ).loc Cert.DhbaKIdeal.main_arg1) = m ((c.tc : Thread Cert.DhbaKIdeal.nD Cert.DhbaKIdeal.τ).loc Cert.DhbaKIdeal.main_arg1)
          ∧ r.2.mem ((c.tc : Thread Cert.DhbaKIdeal.nD Cert.DhbaKIdeal.τ).loc Cert.DhbaKIdeal.main_arg2) = m ((c.tc : Thread Cert.DhbaKIdeal.nD Cert.DhbaKIdeal.τ).loc Cert.DhbaKIdeal.main_arg2))
      ∧ θ_run (Cert.DhbaRIdeal.defs (F := Ideal)) (onTc (τ := Cert.DhbaRIdeal.τ) (Cert.DhbaRIdeal.main (F := Ideal))) ⟨m', fun _ => 0, g'⟩ (fun r => ∀ c : Dev Cert.DhbaRIdeal.nD,
          r.2.mem ((c.tc : Thread Cert.DhbaRIdeal.nD Cert.DhbaRIdeal.τ).loc Cert.DhbaRIdeal.main_v4) = v0 c
          ∧ r.2.mem ((c.tc : Thread Cert.DhbaRIdeal.nD Cert.DhbaRIdeal.τ).loc Cert.DhbaRIdeal.main_arg0) = m' ((c.tc : Thread Cert.DhbaRIdeal.nD Cert.DhbaRIdeal.τ).loc Cert.DhbaRIdeal.main_arg0)
          ∧ r.2.mem ((c.tc : Thread Cert.DhbaRIdeal.nD Cert.DhbaRIdeal.τ).loc Cert.DhbaRIdeal.main_arg1) = m' ((c.tc : Thread Cert.DhbaRIdeal.nD Cert.DhbaRIdeal.τ).loc Cert.DhbaRIdeal.main_arg1)
          ∧ r.2.mem ((c.tc : Thread Cert.DhbaRIdeal.nD Cert.DhbaRIdeal.τ).loc Cert.DhbaRIdeal.main_arg2) = m' ((c.tc : Thread Cert.DhbaRIdeal.nD Cert.DhbaRIdeal.τ).loc Cert.DhbaRIdeal.main_arg2))

def preserves_AdWinK_AdWinKIdeal : Prop :=
  True

def algebraic_AdWinKIdeal_AdWinRIdeal [hAdWinKIdeal : Cert.AdWinKIdeal.Facts] [hAdWinRIdeal : Cert.AdWinRIdeal.Facts] : Prop :=
  ∀ (m : (ℓ : Loc Cert.AdWinKIdeal.nD Cert.AdWinKIdeal.τ Cert.AdWinKIdeal.sig) → Buf (Elt Ideal) ℓ) (g : Dev Cert.AdWinKIdeal.nD → PrngReg)
    (m' : (ℓ : Loc Cert.AdWinRIdeal.nD Cert.AdWinRIdeal.τ Cert.AdWinRIdeal.sig) → Buf (Elt Ideal) ℓ) (g' : Dev Cert.AdWinRIdeal.nD → PrngReg), Pre_AdWinKIdeal m →
    (∀ c : Dev Cert.AdWinKIdeal.nD,
      m' ((c.tc : Thread Cert.AdWinRIdeal.nD Cert.AdWinRIdeal.τ).loc Cert.AdWinRIdeal.main_arg0) = m ((c.tc : Thread Cert.AdWinKIdeal.nD Cert.AdWinKIdeal.τ).loc Cert.AdWinKIdeal.main_arg0)
      ∧ m' ((c.tc : Thread Cert.AdWinRIdeal.nD Cert.AdWinRIdeal.τ).loc Cert.AdWinRIdeal.main_arg1) = m ((c.tc : Thread Cert.AdWinKIdeal.nD Cert.AdWinKIdeal.τ).loc Cert.AdWinKIdeal.main_arg1)
      ∧ m' ((c.tc : Thread Cert.AdWinRIdeal.nD Cert.AdWinRIdeal.τ).loc Cert.AdWinRIdeal.main_arg2) = m ((c.tc : Thread Cert.AdWinKIdeal.nD Cert.AdWinKIdeal.τ).loc Cert.AdWinKIdeal.main_arg2)
      ∧ m' ((c.tc : Thread Cert.AdWinRIdeal.nD Cert.AdWinRIdeal.τ).loc Cert.AdWinRIdeal.main_arg3) = m ((c.tc : Thread Cert.AdWinKIdeal.nD Cert.AdWinKIdeal.τ).loc Cert.AdWinKIdeal.main_arg3)
      ∧ m' ((c.tc : Thread Cert.AdWinRIdeal.nD Cert.AdWinRIdeal.τ).loc Cert.AdWinRIdeal.main_arg4) = m ((c.tc : Thread Cert.AdWinKIdeal.nD Cert.AdWinKIdeal.τ).loc Cert.AdWinKIdeal.main_arg4)) →
    ∃ (v0 : (c : Dev Cert.AdWinKIdeal.nD) → Buf (Elt Ideal) ((c.tc : Thread Cert.AdWinKIdeal.nD Cert.AdWinKIdeal.τ).loc Cert.AdWinKIdeal.main_v0_0)) (v1 : (c : Dev Cert.AdWinKIdeal.nD) → Buf (Elt Ideal) ((c.tc : Thread Cert.AdWinKIdeal.nD Cert.AdWinKIdeal.τ).loc Cert.AdWinKIdeal.main_v0_1)) (v2 : (c : Dev Cert.AdWinKIdeal.nD) → Buf (Elt Ideal) ((c.tc : Thread Cert.AdWinKIdeal.nD Cert.AdWinKIdeal.τ).loc Cert.AdWinKIdeal.main_v0_2)) (v3 : (c : Dev Cert.AdWinKIdeal.nD) → Buf (Elt Ideal) ((c.tc : Thread Cert.AdWinKIdeal.nD Cert.AdWinKIdeal.τ).loc Cert.AdWinKIdeal.main_v0_3)),
      θ_run (Cert.AdWinKIdeal.defs (F := Ideal)) (onTc (τ := Cert.AdWinKIdeal.τ) (Cert.AdWinKIdeal.main (F := Ideal))) ⟨m, fun _ => 0, g⟩ (fun r => ∀ c : Dev Cert.AdWinKIdeal.nD,
          r.2.mem ((c.tc : Thread Cert.AdWinKIdeal.nD Cert.AdWinKIdeal.τ).loc Cert.AdWinKIdeal.main_v0_0) = v0 c
          ∧ r.2.mem ((c.tc : Thread Cert.AdWinKIdeal.nD Cert.AdWinKIdeal.τ).loc Cert.AdWinKIdeal.main_v0_1) = v1 c
          ∧ r.2.mem ((c.tc : Thread Cert.AdWinKIdeal.nD Cert.AdWinKIdeal.τ).loc Cert.AdWinKIdeal.main_v0_2) = v2 c
          ∧ r.2.mem ((c.tc : Thread Cert.AdWinKIdeal.nD Cert.AdWinKIdeal.τ).loc Cert.AdWinKIdeal.main_v0_3) = v3 c
          ∧ r.2.mem ((c.tc : Thread Cert.AdWinKIdeal.nD Cert.AdWinKIdeal.τ).loc Cert.AdWinKIdeal.main_arg0) = m ((c.tc : Thread Cert.AdWinKIdeal.nD Cert.AdWinKIdeal.τ).loc Cert.AdWinKIdeal.main_arg0)
          ∧ r.2.mem ((c.tc : Thread Cert.AdWinKIdeal.nD Cert.AdWinKIdeal.τ).loc Cert.AdWinKIdeal.main_arg1) = m ((c.tc : Thread Cert.AdWinKIdeal.nD Cert.AdWinKIdeal.τ).loc Cert.AdWinKIdeal.main_arg1)
          ∧ r.2.mem ((c.tc : Thread Cert.AdWinKIdeal.nD Cert.AdWinKIdeal.τ).loc Cert.AdWinKIdeal.main_arg2) = m ((c.tc : Thread Cert.AdWinKIdeal.nD Cert.AdWinKIdeal.τ).loc Cert.AdWinKIdeal.main_arg2)
          ∧ r.2.mem ((c.tc : Thread Cert.AdWinKIdeal.nD Cert.AdWinKIdeal.τ).loc Cert.AdWinKIdeal.main_arg3) = m ((c.tc : Thread Cert.AdWinKIdeal.nD Cert.AdWinKIdeal.τ).loc Cert.AdWinKIdeal.main_arg3)
          ∧ r.2.mem ((c.tc : Thread Cert.AdWinKIdeal.nD Cert.AdWinKIdeal.τ).loc Cert.AdWinKIdeal.main_arg4) = m ((c.tc : Thread Cert.AdWinKIdeal.nD Cert.AdWinKIdeal.τ).loc Cert.AdWinKIdeal.main_arg4))
      ∧ θ_run (Cert.AdWinRIdeal.defs (F := Ideal)) (onTc (τ := Cert.AdWinRIdeal.τ) (Cert.AdWinRIdeal.main (F := Ideal))) ⟨m', fun _ => 0, g'⟩ (fun r => ∀ c : Dev Cert.AdWinRIdeal.nD,
          r.2.mem ((c.tc : Thread Cert.AdWinRIdeal.nD Cert.AdWinRIdeal.τ).loc Cert.AdWinRIdeal.main_v2) = v0 c
          ∧ r.2.mem ((c.tc : Thread Cert.AdWinRIdeal.nD Cert.AdWinRIdeal.τ).loc Cert.AdWinRIdeal.main_v26) = v1 c
          ∧ r.2.mem ((c.tc : Thread Cert.AdWinRIdeal.nD Cert.AdWinRIdeal.τ).loc Cert.AdWinRIdeal.main_v7) = v2 c
          ∧ r.2.mem ((c.tc : Thread Cert.AdWinRIdeal.nD Cert.AdWinRIdeal.τ).loc Cert.AdWinRIdeal.main_v13) = v3 c
          ∧ r.2.mem ((c.tc : Thread Cert.AdWinRIdeal.nD Cert.AdWinRIdeal.τ).loc Cert.AdWinRIdeal.main_arg0) = m' ((c.tc : Thread Cert.AdWinRIdeal.nD Cert.AdWinRIdeal.τ).loc Cert.AdWinRIdeal.main_arg0)
          ∧ r.2.mem ((c.tc : Thread Cert.AdWinRIdeal.nD Cert.AdWinRIdeal.τ).loc Cert.AdWinRIdeal.main_arg1) = m' ((c.tc : Thread Cert.AdWinRIdeal.nD Cert.AdWinRIdeal.τ).loc Cert.AdWinRIdeal.main_arg1)
          ∧ r.2.mem ((c.tc : Thread Cert.AdWinRIdeal.nD Cert.AdWinRIdeal.τ).loc Cert.AdWinRIdeal.main_arg2) = m' ((c.tc : Thread Cert.AdWinRIdeal.nD Cert.AdWinRIdeal.τ).loc Cert.AdWinRIdeal.main_arg2)
          ∧ r.2.mem ((c.tc : Thread Cert.AdWinRIdeal.nD Cert.AdWinRIdeal.τ).loc Cert.AdWinRIdeal.main_arg3) = m' ((c.tc : Thread Cert.AdWinRIdeal.nD Cert.AdWinRIdeal.τ).loc Cert.AdWinRIdeal.main_arg3)
          ∧ r.2.mem ((c.tc : Thread Cert.AdWinRIdeal.nD Cert.AdWinRIdeal.τ).loc Cert.AdWinRIdeal.main_arg4) = m' ((c.tc : Thread Cert.AdWinRIdeal.nD Cert.AdWinRIdeal.τ).loc Cert.AdWinRIdeal.main_arg4))

def preserves_AdPwK_AdPwKIdeal : Prop :=
  True

def algebraic_AdPwKIdeal_AdPwRIdeal [hAdPwKIdeal : Cert.AdPwKIdeal.Facts] [hAdPwRIdeal : Cert.AdPwRIdeal.Facts] : Prop :=
  ∀ (m : (ℓ : Loc Cert.AdPwKIdeal.nD Cert.AdPwKIdeal.τ Cert.AdPwKIdeal.sig) → Buf (Elt Ideal) ℓ) (g : Dev Cert.AdPwKIdeal.nD → PrngReg)
    (m' : (ℓ : Loc Cert.AdPwRIdeal.nD Cert.AdPwRIdeal.τ Cert.AdPwRIdeal.sig) → Buf (Elt Ideal) ℓ) (g' : Dev Cert.AdPwRIdeal.nD → PrngReg), Pre_AdPwKIdeal m →
    (∀ c : Dev Cert.AdPwKIdeal.nD,
      m' ((c.tc : Thread Cert.AdPwRIdeal.nD Cert.AdPwRIdeal.τ).loc Cert.AdPwRIdeal.main_arg0) = m ((c.tc : Thread Cert.AdPwKIdeal.nD Cert.AdPwKIdeal.τ).loc Cert.AdPwKIdeal.main_arg0)
      ∧ m' ((c.tc : Thread Cert.AdPwRIdeal.nD Cert.AdPwRIdeal.τ).loc Cert.AdPwRIdeal.main_arg1) = m ((c.tc : Thread Cert.AdPwKIdeal.nD Cert.AdPwKIdeal.τ).loc Cert.AdPwKIdeal.main_arg1)
      ∧ m' ((c.tc : Thread Cert.AdPwRIdeal.nD Cert.AdPwRIdeal.τ).loc Cert.AdPwRIdeal.main_arg2) = m ((c.tc : Thread Cert.AdPwKIdeal.nD Cert.AdPwKIdeal.τ).loc Cert.AdPwKIdeal.main_arg2)
      ∧ m' ((c.tc : Thread Cert.AdPwRIdeal.nD Cert.AdPwRIdeal.τ).loc Cert.AdPwRIdeal.main_arg3) = m ((c.tc : Thread Cert.AdPwKIdeal.nD Cert.AdPwKIdeal.τ).loc Cert.AdPwKIdeal.main_arg3)
      ∧ m' ((c.tc : Thread Cert.AdPwRIdeal.nD Cert.AdPwRIdeal.τ).loc Cert.AdPwRIdeal.main_arg4) = m ((c.tc : Thread Cert.AdPwKIdeal.nD Cert.AdPwKIdeal.τ).loc Cert.AdPwKIdeal.main_arg4)) →
    ∃ (v0 : (c : Dev Cert.AdPwKIdeal.nD) → Buf (Elt Ideal) ((c.tc : Thread Cert.AdPwKIdeal.nD Cert.AdPwKIdeal.τ).loc Cert.AdPwKIdeal.main_v0_0)) (v1 : (c : Dev Cert.AdPwKIdeal.nD) → Buf (Elt Ideal) ((c.tc : Thread Cert.AdPwKIdeal.nD Cert.AdPwKIdeal.τ).loc Cert.AdPwKIdeal.main_v0_1)) (v2 : (c : Dev Cert.AdPwKIdeal.nD) → Buf (Elt Ideal) ((c.tc : Thread Cert.AdPwKIdeal.nD Cert.AdPwKIdeal.τ).loc Cert.AdPwKIdeal.main_v0_2)) (v3 : (c : Dev Cert.AdPwKIdeal.nD) → Buf (Elt Ideal) ((c.tc : Thread Cert.AdPwKIdeal.nD Cert.AdPwKIdeal.τ).loc Cert.AdPwKIdeal.main_v0_3)),
      θ_run (Cert.AdPwKIdeal.defs (F := Ideal)) (onTc (τ := Cert.AdPwKIdeal.τ) (Cert.AdPwKIdeal.main (F := Ideal))) ⟨m, fun _ => 0, g⟩ (fun r => ∀ c : Dev Cert.AdPwKIdeal.nD,
          r.2.mem ((c.tc : Thread Cert.AdPwKIdeal.nD Cert.AdPwKIdeal.τ).loc Cert.AdPwKIdeal.main_v0_0) = v0 c
          ∧ r.2.mem ((c.tc : Thread Cert.AdPwKIdeal.nD Cert.AdPwKIdeal.τ).loc Cert.AdPwKIdeal.main_v0_1) = v1 c
          ∧ r.2.mem ((c.tc : Thread Cert.AdPwKIdeal.nD Cert.AdPwKIdeal.τ).loc Cert.AdPwKIdeal.main_v0_2) = v2 c
          ∧ r.2.mem ((c.tc : Thread Cert.AdPwKIdeal.nD Cert.AdPwKIdeal.τ).loc Cert.AdPwKIdeal.main_v0_3) = v3 c
          ∧ r.2.mem ((c.tc : Thread Cert.AdPwKIdeal.nD Cert.AdPwKIdeal.τ).loc Cert.AdPwKIdeal.main_arg0) = m ((c.tc : Thread Cert.AdPwKIdeal.nD Cert.AdPwKIdeal.τ).loc Cert.AdPwKIdeal.main_arg0)
          ∧ r.2.mem ((c.tc : Thread Cert.AdPwKIdeal.nD Cert.AdPwKIdeal.τ).loc Cert.AdPwKIdeal.main_arg1) = m ((c.tc : Thread Cert.AdPwKIdeal.nD Cert.AdPwKIdeal.τ).loc Cert.AdPwKIdeal.main_arg1)
          ∧ r.2.mem ((c.tc : Thread Cert.AdPwKIdeal.nD Cert.AdPwKIdeal.τ).loc Cert.AdPwKIdeal.main_arg2) = m ((c.tc : Thread Cert.AdPwKIdeal.nD Cert.AdPwKIdeal.τ).loc Cert.AdPwKIdeal.main_arg2)
          ∧ r.2.mem ((c.tc : Thread Cert.AdPwKIdeal.nD Cert.AdPwKIdeal.τ).loc Cert.AdPwKIdeal.main_arg3) = m ((c.tc : Thread Cert.AdPwKIdeal.nD Cert.AdPwKIdeal.τ).loc Cert.AdPwKIdeal.main_arg3)
          ∧ r.2.mem ((c.tc : Thread Cert.AdPwKIdeal.nD Cert.AdPwKIdeal.τ).loc Cert.AdPwKIdeal.main_arg4) = m ((c.tc : Thread Cert.AdPwKIdeal.nD Cert.AdPwKIdeal.τ).loc Cert.AdPwKIdeal.main_arg4))
      ∧ θ_run (Cert.AdPwRIdeal.defs (F := Ideal)) (onTc (τ := Cert.AdPwRIdeal.τ) (Cert.AdPwRIdeal.main (F := Ideal))) ⟨m', fun _ => 0, g'⟩ (fun r => ∀ c : Dev Cert.AdPwRIdeal.nD,
          r.2.mem ((c.tc : Thread Cert.AdPwRIdeal.nD Cert.AdPwRIdeal.τ).loc Cert.AdPwRIdeal.main_v2) = v0 c
          ∧ r.2.mem ((c.tc : Thread Cert.AdPwRIdeal.nD Cert.AdPwRIdeal.τ).loc Cert.AdPwRIdeal.main_v26) = v1 c
          ∧ r.2.mem ((c.tc : Thread Cert.AdPwRIdeal.nD Cert.AdPwRIdeal.τ).loc Cert.AdPwRIdeal.main_v7) = v2 c
          ∧ r.2.mem ((c.tc : Thread Cert.AdPwRIdeal.nD Cert.AdPwRIdeal.τ).loc Cert.AdPwRIdeal.main_v13) = v3 c
          ∧ r.2.mem ((c.tc : Thread Cert.AdPwRIdeal.nD Cert.AdPwRIdeal.τ).loc Cert.AdPwRIdeal.main_arg0) = m' ((c.tc : Thread Cert.AdPwRIdeal.nD Cert.AdPwRIdeal.τ).loc Cert.AdPwRIdeal.main_arg0)
          ∧ r.2.mem ((c.tc : Thread Cert.AdPwRIdeal.nD Cert.AdPwRIdeal.τ).loc Cert.AdPwRIdeal.main_arg1) = m' ((c.tc : Thread Cert.AdPwRIdeal.nD Cert.AdPwRIdeal.τ).loc Cert.AdPwRIdeal.main_arg1)
          ∧ r.2.mem ((c.tc : Thread Cert.AdPwRIdeal.nD Cert.AdPwRIdeal.τ).loc Cert.AdPwRIdeal.main_arg2) = m' ((c.tc : Thread Cert.AdPwRIdeal.nD Cert.AdPwRIdeal.τ).loc Cert.AdPwRIdeal.main_arg2)
          ∧ r.2.mem ((c.tc : Thread Cert.AdPwRIdeal.nD Cert.AdPwRIdeal.τ).loc Cert.AdPwRIdeal.main_arg3) = m' ((c.tc : Thread Cert.AdPwRIdeal.nD Cert.AdPwRIdeal.τ).loc Cert.AdPwRIdeal.main_arg3)
          ∧ r.2.mem ((c.tc : Thread Cert.AdPwRIdeal.nD Cert.AdPwRIdeal.τ).loc Cert.AdPwRIdeal.main_arg4) = m' ((c.tc : Thread Cert.AdPwRIdeal.nD Cert.AdPwRIdeal.τ).loc Cert.AdPwRIdeal.main_arg4))

def preserves_AdWoutK_AdWoutKIdeal : Prop :=
  True

def algebraic_AdWoutKIdeal_AdWoutRIdeal [hAdWoutKIdeal : Cert.AdWoutKIdeal.Facts] [hAdWoutRIdeal : Cert.AdWoutRIdeal.Facts] : Prop :=
  ∀ (m : (ℓ : Loc Cert.AdWoutKIdeal.nD Cert.AdWoutKIdeal.τ Cert.AdWoutKIdeal.sig) → Buf (Elt Ideal) ℓ) (g : Dev Cert.AdWoutKIdeal.nD → PrngReg)
    (m' : (ℓ : Loc Cert.AdWoutRIdeal.nD Cert.AdWoutRIdeal.τ Cert.AdWoutRIdeal.sig) → Buf (Elt Ideal) ℓ) (g' : Dev Cert.AdWoutRIdeal.nD → PrngReg), Pre_AdWoutKIdeal m →
    (∀ c : Dev Cert.AdWoutKIdeal.nD,
      m' ((c.tc : Thread Cert.AdWoutRIdeal.nD Cert.AdWoutRIdeal.τ).loc Cert.AdWoutRIdeal.main_arg0) = m ((c.tc : Thread Cert.AdWoutKIdeal.nD Cert.AdWoutKIdeal.τ).loc Cert.AdWoutKIdeal.main_arg0)
      ∧ m' ((c.tc : Thread Cert.AdWoutRIdeal.nD Cert.AdWoutRIdeal.τ).loc Cert.AdWoutRIdeal.main_arg1) = m ((c.tc : Thread Cert.AdWoutKIdeal.nD Cert.AdWoutKIdeal.τ).loc Cert.AdWoutKIdeal.main_arg1)
      ∧ m' ((c.tc : Thread Cert.AdWoutRIdeal.nD Cert.AdWoutRIdeal.τ).loc Cert.AdWoutRIdeal.main_arg2) = m ((c.tc : Thread Cert.AdWoutKIdeal.nD Cert.AdWoutKIdeal.τ).loc Cert.AdWoutKIdeal.main_arg2)
      ∧ m' ((c.tc : Thread Cert.AdWoutRIdeal.nD Cert.AdWoutRIdeal.τ).loc Cert.AdWoutRIdeal.main_arg3) = m ((c.tc : Thread Cert.AdWoutKIdeal.nD Cert.AdWoutKIdeal.τ).loc Cert.AdWoutKIdeal.main_arg3)
      ∧ m' ((c.tc : Thread Cert.AdWoutRIdeal.nD Cert.AdWoutRIdeal.τ).loc Cert.AdWoutRIdeal.main_arg4) = m ((c.tc : Thread Cert.AdWoutKIdeal.nD Cert.AdWoutKIdeal.τ).loc Cert.AdWoutKIdeal.main_arg4)) →
    ∃ (v0 : (c : Dev Cert.AdWoutKIdeal.nD) → Buf (Elt Ideal) ((c.tc : Thread Cert.AdWoutKIdeal.nD Cert.AdWoutKIdeal.τ).loc Cert.AdWoutKIdeal.main_v0_0)) (v1 : (c : Dev Cert.AdWoutKIdeal.nD) → Buf (Elt Ideal) ((c.tc : Thread Cert.AdWoutKIdeal.nD Cert.AdWoutKIdeal.τ).loc Cert.AdWoutKIdeal.main_v0_1)) (v2 : (c : Dev Cert.AdWoutKIdeal.nD) → Buf (Elt Ideal) ((c.tc : Thread Cert.AdWoutKIdeal.nD Cert.AdWoutKIdeal.τ).loc Cert.AdWoutKIdeal.main_v0_2)) (v3 : (c : Dev Cert.AdWoutKIdeal.nD) → Buf (Elt Ideal) ((c.tc : Thread Cert.AdWoutKIdeal.nD Cert.AdWoutKIdeal.τ).loc Cert.AdWoutKIdeal.main_v0_3)),
      θ_run (Cert.AdWoutKIdeal.defs (F := Ideal)) (onTc (τ := Cert.AdWoutKIdeal.τ) (Cert.AdWoutKIdeal.main (F := Ideal))) ⟨m, fun _ => 0, g⟩ (fun r => ∀ c : Dev Cert.AdWoutKIdeal.nD,
          r.2.mem ((c.tc : Thread Cert.AdWoutKIdeal.nD Cert.AdWoutKIdeal.τ).loc Cert.AdWoutKIdeal.main_v0_0) = v0 c
          ∧ r.2.mem ((c.tc : Thread Cert.AdWoutKIdeal.nD Cert.AdWoutKIdeal.τ).loc Cert.AdWoutKIdeal.main_v0_1) = v1 c
          ∧ r.2.mem ((c.tc : Thread Cert.AdWoutKIdeal.nD Cert.AdWoutKIdeal.τ).loc Cert.AdWoutKIdeal.main_v0_2) = v2 c
          ∧ r.2.mem ((c.tc : Thread Cert.AdWoutKIdeal.nD Cert.AdWoutKIdeal.τ).loc Cert.AdWoutKIdeal.main_v0_3) = v3 c
          ∧ r.2.mem ((c.tc : Thread Cert.AdWoutKIdeal.nD Cert.AdWoutKIdeal.τ).loc Cert.AdWoutKIdeal.main_arg0) = m ((c.tc : Thread Cert.AdWoutKIdeal.nD Cert.AdWoutKIdeal.τ).loc Cert.AdWoutKIdeal.main_arg0)
          ∧ r.2.mem ((c.tc : Thread Cert.AdWoutKIdeal.nD Cert.AdWoutKIdeal.τ).loc Cert.AdWoutKIdeal.main_arg1) = m ((c.tc : Thread Cert.AdWoutKIdeal.nD Cert.AdWoutKIdeal.τ).loc Cert.AdWoutKIdeal.main_arg1)
          ∧ r.2.mem ((c.tc : Thread Cert.AdWoutKIdeal.nD Cert.AdWoutKIdeal.τ).loc Cert.AdWoutKIdeal.main_arg2) = m ((c.tc : Thread Cert.AdWoutKIdeal.nD Cert.AdWoutKIdeal.τ).loc Cert.AdWoutKIdeal.main_arg2)
          ∧ r.2.mem ((c.tc : Thread Cert.AdWoutKIdeal.nD Cert.AdWoutKIdeal.τ).loc Cert.AdWoutKIdeal.main_arg3) = m ((c.tc : Thread Cert.AdWoutKIdeal.nD Cert.AdWoutKIdeal.τ).loc Cert.AdWoutKIdeal.main_arg3)
          ∧ r.2.mem ((c.tc : Thread Cert.AdWoutKIdeal.nD Cert.AdWoutKIdeal.τ).loc Cert.AdWoutKIdeal.main_arg4) = m ((c.tc : Thread Cert.AdWoutKIdeal.nD Cert.AdWoutKIdeal.τ).loc Cert.AdWoutKIdeal.main_arg4))
      ∧ θ_run (Cert.AdWoutRIdeal.defs (F := Ideal)) (onTc (τ := Cert.AdWoutRIdeal.τ) (Cert.AdWoutRIdeal.main (F := Ideal))) ⟨m', fun _ => 0, g'⟩ (fun r => ∀ c : Dev Cert.AdWoutRIdeal.nD,
          r.2.mem ((c.tc : Thread Cert.AdWoutRIdeal.nD Cert.AdWoutRIdeal.τ).loc Cert.AdWoutRIdeal.main_v2) = v0 c
          ∧ r.2.mem ((c.tc : Thread Cert.AdWoutRIdeal.nD Cert.AdWoutRIdeal.τ).loc Cert.AdWoutRIdeal.main_v26) = v1 c
          ∧ r.2.mem ((c.tc : Thread Cert.AdWoutRIdeal.nD Cert.AdWoutRIdeal.τ).loc Cert.AdWoutRIdeal.main_v7) = v2 c
          ∧ r.2.mem ((c.tc : Thread Cert.AdWoutRIdeal.nD Cert.AdWoutRIdeal.τ).loc Cert.AdWoutRIdeal.main_v13) = v3 c
          ∧ r.2.mem ((c.tc : Thread Cert.AdWoutRIdeal.nD Cert.AdWoutRIdeal.τ).loc Cert.AdWoutRIdeal.main_arg0) = m' ((c.tc : Thread Cert.AdWoutRIdeal.nD Cert.AdWoutRIdeal.τ).loc Cert.AdWoutRIdeal.main_arg0)
          ∧ r.2.mem ((c.tc : Thread Cert.AdWoutRIdeal.nD Cert.AdWoutRIdeal.τ).loc Cert.AdWoutRIdeal.main_arg1) = m' ((c.tc : Thread Cert.AdWoutRIdeal.nD Cert.AdWoutRIdeal.τ).loc Cert.AdWoutRIdeal.main_arg1)
          ∧ r.2.mem ((c.tc : Thread Cert.AdWoutRIdeal.nD Cert.AdWoutRIdeal.τ).loc Cert.AdWoutRIdeal.main_arg2) = m' ((c.tc : Thread Cert.AdWoutRIdeal.nD Cert.AdWoutRIdeal.τ).loc Cert.AdWoutRIdeal.main_arg2)
          ∧ r.2.mem ((c.tc : Thread Cert.AdWoutRIdeal.nD Cert.AdWoutRIdeal.τ).loc Cert.AdWoutRIdeal.main_arg3) = m' ((c.tc : Thread Cert.AdWoutRIdeal.nD Cert.AdWoutRIdeal.τ).loc Cert.AdWoutRIdeal.main_arg3)
          ∧ r.2.mem ((c.tc : Thread Cert.AdWoutRIdeal.nD Cert.AdWoutRIdeal.τ).loc Cert.AdWoutRIdeal.main_arg4) = m' ((c.tc : Thread Cert.AdWoutRIdeal.nD Cert.AdWoutRIdeal.τ).loc Cert.AdWoutRIdeal.main_arg4))

def preserves_AdWupK_AdWupKIdeal : Prop :=
  True

def algebraic_AdWupKIdeal_AdWupRIdeal [hAdWupKIdeal : Cert.AdWupKIdeal.Facts] [hAdWupRIdeal : Cert.AdWupRIdeal.Facts] : Prop :=
  ∀ (m : (ℓ : Loc Cert.AdWupKIdeal.nD Cert.AdWupKIdeal.τ Cert.AdWupKIdeal.sig) → Buf (Elt Ideal) ℓ) (g : Dev Cert.AdWupKIdeal.nD → PrngReg)
    (m' : (ℓ : Loc Cert.AdWupRIdeal.nD Cert.AdWupRIdeal.τ Cert.AdWupRIdeal.sig) → Buf (Elt Ideal) ℓ) (g' : Dev Cert.AdWupRIdeal.nD → PrngReg), Pre_AdWupKIdeal m →
    (∀ c : Dev Cert.AdWupKIdeal.nD,
      m' ((c.tc : Thread Cert.AdWupRIdeal.nD Cert.AdWupRIdeal.τ).loc Cert.AdWupRIdeal.main_arg0) = m ((c.tc : Thread Cert.AdWupKIdeal.nD Cert.AdWupKIdeal.τ).loc Cert.AdWupKIdeal.main_arg0)
      ∧ m' ((c.tc : Thread Cert.AdWupRIdeal.nD Cert.AdWupRIdeal.τ).loc Cert.AdWupRIdeal.main_arg1) = m ((c.tc : Thread Cert.AdWupKIdeal.nD Cert.AdWupKIdeal.τ).loc Cert.AdWupKIdeal.main_arg1)
      ∧ m' ((c.tc : Thread Cert.AdWupRIdeal.nD Cert.AdWupRIdeal.τ).loc Cert.AdWupRIdeal.main_arg2) = m ((c.tc : Thread Cert.AdWupKIdeal.nD Cert.AdWupKIdeal.τ).loc Cert.AdWupKIdeal.main_arg2)
      ∧ m' ((c.tc : Thread Cert.AdWupRIdeal.nD Cert.AdWupRIdeal.τ).loc Cert.AdWupRIdeal.main_arg3) = m ((c.tc : Thread Cert.AdWupKIdeal.nD Cert.AdWupKIdeal.τ).loc Cert.AdWupKIdeal.main_arg3)
      ∧ m' ((c.tc : Thread Cert.AdWupRIdeal.nD Cert.AdWupRIdeal.τ).loc Cert.AdWupRIdeal.main_arg4) = m ((c.tc : Thread Cert.AdWupKIdeal.nD Cert.AdWupKIdeal.τ).loc Cert.AdWupKIdeal.main_arg4)) →
    ∃ (v0 : (c : Dev Cert.AdWupKIdeal.nD) → Buf (Elt Ideal) ((c.tc : Thread Cert.AdWupKIdeal.nD Cert.AdWupKIdeal.τ).loc Cert.AdWupKIdeal.main_v0_0)) (v1 : (c : Dev Cert.AdWupKIdeal.nD) → Buf (Elt Ideal) ((c.tc : Thread Cert.AdWupKIdeal.nD Cert.AdWupKIdeal.τ).loc Cert.AdWupKIdeal.main_v0_1)) (v2 : (c : Dev Cert.AdWupKIdeal.nD) → Buf (Elt Ideal) ((c.tc : Thread Cert.AdWupKIdeal.nD Cert.AdWupKIdeal.τ).loc Cert.AdWupKIdeal.main_v0_2)) (v3 : (c : Dev Cert.AdWupKIdeal.nD) → Buf (Elt Ideal) ((c.tc : Thread Cert.AdWupKIdeal.nD Cert.AdWupKIdeal.τ).loc Cert.AdWupKIdeal.main_v0_3)),
      θ_run (Cert.AdWupKIdeal.defs (F := Ideal)) (onTc (τ := Cert.AdWupKIdeal.τ) (Cert.AdWupKIdeal.main (F := Ideal))) ⟨m, fun _ => 0, g⟩ (fun r => ∀ c : Dev Cert.AdWupKIdeal.nD,
          r.2.mem ((c.tc : Thread Cert.AdWupKIdeal.nD Cert.AdWupKIdeal.τ).loc Cert.AdWupKIdeal.main_v0_0) = v0 c
          ∧ r.2.mem ((c.tc : Thread Cert.AdWupKIdeal.nD Cert.AdWupKIdeal.τ).loc Cert.AdWupKIdeal.main_v0_1) = v1 c
          ∧ r.2.mem ((c.tc : Thread Cert.AdWupKIdeal.nD Cert.AdWupKIdeal.τ).loc Cert.AdWupKIdeal.main_v0_2) = v2 c
          ∧ r.2.mem ((c.tc : Thread Cert.AdWupKIdeal.nD Cert.AdWupKIdeal.τ).loc Cert.AdWupKIdeal.main_v0_3) = v3 c
          ∧ r.2.mem ((c.tc : Thread Cert.AdWupKIdeal.nD Cert.AdWupKIdeal.τ).loc Cert.AdWupKIdeal.main_arg0) = m ((c.tc : Thread Cert.AdWupKIdeal.nD Cert.AdWupKIdeal.τ).loc Cert.AdWupKIdeal.main_arg0)
          ∧ r.2.mem ((c.tc : Thread Cert.AdWupKIdeal.nD Cert.AdWupKIdeal.τ).loc Cert.AdWupKIdeal.main_arg1) = m ((c.tc : Thread Cert.AdWupKIdeal.nD Cert.AdWupKIdeal.τ).loc Cert.AdWupKIdeal.main_arg1)
          ∧ r.2.mem ((c.tc : Thread Cert.AdWupKIdeal.nD Cert.AdWupKIdeal.τ).loc Cert.AdWupKIdeal.main_arg2) = m ((c.tc : Thread Cert.AdWupKIdeal.nD Cert.AdWupKIdeal.τ).loc Cert.AdWupKIdeal.main_arg2)
          ∧ r.2.mem ((c.tc : Thread Cert.AdWupKIdeal.nD Cert.AdWupKIdeal.τ).loc Cert.AdWupKIdeal.main_arg3) = m ((c.tc : Thread Cert.AdWupKIdeal.nD Cert.AdWupKIdeal.τ).loc Cert.AdWupKIdeal.main_arg3)
          ∧ r.2.mem ((c.tc : Thread Cert.AdWupKIdeal.nD Cert.AdWupKIdeal.τ).loc Cert.AdWupKIdeal.main_arg4) = m ((c.tc : Thread Cert.AdWupKIdeal.nD Cert.AdWupKIdeal.τ).loc Cert.AdWupKIdeal.main_arg4))
      ∧ θ_run (Cert.AdWupRIdeal.defs (F := Ideal)) (onTc (τ := Cert.AdWupRIdeal.τ) (Cert.AdWupRIdeal.main (F := Ideal))) ⟨m', fun _ => 0, g'⟩ (fun r => ∀ c : Dev Cert.AdWupRIdeal.nD,
          r.2.mem ((c.tc : Thread Cert.AdWupRIdeal.nD Cert.AdWupRIdeal.τ).loc Cert.AdWupRIdeal.main_v2) = v0 c
          ∧ r.2.mem ((c.tc : Thread Cert.AdWupRIdeal.nD Cert.AdWupRIdeal.τ).loc Cert.AdWupRIdeal.main_v26) = v1 c
          ∧ r.2.mem ((c.tc : Thread Cert.AdWupRIdeal.nD Cert.AdWupRIdeal.τ).loc Cert.AdWupRIdeal.main_v7) = v2 c
          ∧ r.2.mem ((c.tc : Thread Cert.AdWupRIdeal.nD Cert.AdWupRIdeal.τ).loc Cert.AdWupRIdeal.main_v13) = v3 c
          ∧ r.2.mem ((c.tc : Thread Cert.AdWupRIdeal.nD Cert.AdWupRIdeal.τ).loc Cert.AdWupRIdeal.main_arg0) = m' ((c.tc : Thread Cert.AdWupRIdeal.nD Cert.AdWupRIdeal.τ).loc Cert.AdWupRIdeal.main_arg0)
          ∧ r.2.mem ((c.tc : Thread Cert.AdWupRIdeal.nD Cert.AdWupRIdeal.τ).loc Cert.AdWupRIdeal.main_arg1) = m' ((c.tc : Thread Cert.AdWupRIdeal.nD Cert.AdWupRIdeal.τ).loc Cert.AdWupRIdeal.main_arg1)
          ∧ r.2.mem ((c.tc : Thread Cert.AdWupRIdeal.nD Cert.AdWupRIdeal.τ).loc Cert.AdWupRIdeal.main_arg2) = m' ((c.tc : Thread Cert.AdWupRIdeal.nD Cert.AdWupRIdeal.τ).loc Cert.AdWupRIdeal.main_arg2)
          ∧ r.2.mem ((c.tc : Thread Cert.AdWupRIdeal.nD Cert.AdWupRIdeal.τ).loc Cert.AdWupRIdeal.main_arg3) = m' ((c.tc : Thread Cert.AdWupRIdeal.nD Cert.AdWupRIdeal.τ).loc Cert.AdWupRIdeal.main_arg3)
          ∧ r.2.mem ((c.tc : Thread Cert.AdWupRIdeal.nD Cert.AdWupRIdeal.τ).loc Cert.AdWupRIdeal.main_arg4) = m' ((c.tc : Thread Cert.AdWupRIdeal.nD Cert.AdWupRIdeal.τ).loc Cert.AdWupRIdeal.main_arg4))

def preserves_AdWdownK_AdWdownKIdeal : Prop :=
  True

def algebraic_AdWdownKIdeal_AdWdownRIdeal [hAdWdownKIdeal : Cert.AdWdownKIdeal.Facts] [hAdWdownRIdeal : Cert.AdWdownRIdeal.Facts] : Prop :=
  ∀ (m : (ℓ : Loc Cert.AdWdownKIdeal.nD Cert.AdWdownKIdeal.τ Cert.AdWdownKIdeal.sig) → Buf (Elt Ideal) ℓ) (g : Dev Cert.AdWdownKIdeal.nD → PrngReg)
    (m' : (ℓ : Loc Cert.AdWdownRIdeal.nD Cert.AdWdownRIdeal.τ Cert.AdWdownRIdeal.sig) → Buf (Elt Ideal) ℓ) (g' : Dev Cert.AdWdownRIdeal.nD → PrngReg), Pre_AdWdownKIdeal m →
    (∀ c : Dev Cert.AdWdownKIdeal.nD,
      m' ((c.tc : Thread Cert.AdWdownRIdeal.nD Cert.AdWdownRIdeal.τ).loc Cert.AdWdownRIdeal.main_arg0) = m ((c.tc : Thread Cert.AdWdownKIdeal.nD Cert.AdWdownKIdeal.τ).loc Cert.AdWdownKIdeal.main_arg0)
      ∧ m' ((c.tc : Thread Cert.AdWdownRIdeal.nD Cert.AdWdownRIdeal.τ).loc Cert.AdWdownRIdeal.main_arg1) = m ((c.tc : Thread Cert.AdWdownKIdeal.nD Cert.AdWdownKIdeal.τ).loc Cert.AdWdownKIdeal.main_arg1)
      ∧ m' ((c.tc : Thread Cert.AdWdownRIdeal.nD Cert.AdWdownRIdeal.τ).loc Cert.AdWdownRIdeal.main_arg2) = m ((c.tc : Thread Cert.AdWdownKIdeal.nD Cert.AdWdownKIdeal.τ).loc Cert.AdWdownKIdeal.main_arg2)
      ∧ m' ((c.tc : Thread Cert.AdWdownRIdeal.nD Cert.AdWdownRIdeal.τ).loc Cert.AdWdownRIdeal.main_arg3) = m ((c.tc : Thread Cert.AdWdownKIdeal.nD Cert.AdWdownKIdeal.τ).loc Cert.AdWdownKIdeal.main_arg3)
      ∧ m' ((c.tc : Thread Cert.AdWdownRIdeal.nD Cert.AdWdownRIdeal.τ).loc Cert.AdWdownRIdeal.main_arg4) = m ((c.tc : Thread Cert.AdWdownKIdeal.nD Cert.AdWdownKIdeal.τ).loc Cert.AdWdownKIdeal.main_arg4)) →
    ∃ (v0 : (c : Dev Cert.AdWdownKIdeal.nD) → Buf (Elt Ideal) ((c.tc : Thread Cert.AdWdownKIdeal.nD Cert.AdWdownKIdeal.τ).loc Cert.AdWdownKIdeal.main_v0_0)) (v1 : (c : Dev Cert.AdWdownKIdeal.nD) → Buf (Elt Ideal) ((c.tc : Thread Cert.AdWdownKIdeal.nD Cert.AdWdownKIdeal.τ).loc Cert.AdWdownKIdeal.main_v0_1)) (v2 : (c : Dev Cert.AdWdownKIdeal.nD) → Buf (Elt Ideal) ((c.tc : Thread Cert.AdWdownKIdeal.nD Cert.AdWdownKIdeal.τ).loc Cert.AdWdownKIdeal.main_v0_2)) (v3 : (c : Dev Cert.AdWdownKIdeal.nD) → Buf (Elt Ideal) ((c.tc : Thread Cert.AdWdownKIdeal.nD Cert.AdWdownKIdeal.τ).loc Cert.AdWdownKIdeal.main_v0_3)),
      θ_run (Cert.AdWdownKIdeal.defs (F := Ideal)) (onTc (τ := Cert.AdWdownKIdeal.τ) (Cert.AdWdownKIdeal.main (F := Ideal))) ⟨m, fun _ => 0, g⟩ (fun r => ∀ c : Dev Cert.AdWdownKIdeal.nD,
          r.2.mem ((c.tc : Thread Cert.AdWdownKIdeal.nD Cert.AdWdownKIdeal.τ).loc Cert.AdWdownKIdeal.main_v0_0) = v0 c
          ∧ r.2.mem ((c.tc : Thread Cert.AdWdownKIdeal.nD Cert.AdWdownKIdeal.τ).loc Cert.AdWdownKIdeal.main_v0_1) = v1 c
          ∧ r.2.mem ((c.tc : Thread Cert.AdWdownKIdeal.nD Cert.AdWdownKIdeal.τ).loc Cert.AdWdownKIdeal.main_v0_2) = v2 c
          ∧ r.2.mem ((c.tc : Thread Cert.AdWdownKIdeal.nD Cert.AdWdownKIdeal.τ).loc Cert.AdWdownKIdeal.main_v0_3) = v3 c
          ∧ r.2.mem ((c.tc : Thread Cert.AdWdownKIdeal.nD Cert.AdWdownKIdeal.τ).loc Cert.AdWdownKIdeal.main_arg0) = m ((c.tc : Thread Cert.AdWdownKIdeal.nD Cert.AdWdownKIdeal.τ).loc Cert.AdWdownKIdeal.main_arg0)
          ∧ r.2.mem ((c.tc : Thread Cert.AdWdownKIdeal.nD Cert.AdWdownKIdeal.τ).loc Cert.AdWdownKIdeal.main_arg1) = m ((c.tc : Thread Cert.AdWdownKIdeal.nD Cert.AdWdownKIdeal.τ).loc Cert.AdWdownKIdeal.main_arg1)
          ∧ r.2.mem ((c.tc : Thread Cert.AdWdownKIdeal.nD Cert.AdWdownKIdeal.τ).loc Cert.AdWdownKIdeal.main_arg2) = m ((c.tc : Thread Cert.AdWdownKIdeal.nD Cert.AdWdownKIdeal.τ).loc Cert.AdWdownKIdeal.main_arg2)
          ∧ r.2.mem ((c.tc : Thread Cert.AdWdownKIdeal.nD Cert.AdWdownKIdeal.τ).loc Cert.AdWdownKIdeal.main_arg3) = m ((c.tc : Thread Cert.AdWdownKIdeal.nD Cert.AdWdownKIdeal.τ).loc Cert.AdWdownKIdeal.main_arg3)
          ∧ r.2.mem ((c.tc : Thread Cert.AdWdownKIdeal.nD Cert.AdWdownKIdeal.τ).loc Cert.AdWdownKIdeal.main_arg4) = m ((c.tc : Thread Cert.AdWdownKIdeal.nD Cert.AdWdownKIdeal.τ).loc Cert.AdWdownKIdeal.main_arg4))
      ∧ θ_run (Cert.AdWdownRIdeal.defs (F := Ideal)) (onTc (τ := Cert.AdWdownRIdeal.τ) (Cert.AdWdownRIdeal.main (F := Ideal))) ⟨m', fun _ => 0, g'⟩ (fun r => ∀ c : Dev Cert.AdWdownRIdeal.nD,
          r.2.mem ((c.tc : Thread Cert.AdWdownRIdeal.nD Cert.AdWdownRIdeal.τ).loc Cert.AdWdownRIdeal.main_v2) = v0 c
          ∧ r.2.mem ((c.tc : Thread Cert.AdWdownRIdeal.nD Cert.AdWdownRIdeal.τ).loc Cert.AdWdownRIdeal.main_v26) = v1 c
          ∧ r.2.mem ((c.tc : Thread Cert.AdWdownRIdeal.nD Cert.AdWdownRIdeal.τ).loc Cert.AdWdownRIdeal.main_v7) = v2 c
          ∧ r.2.mem ((c.tc : Thread Cert.AdWdownRIdeal.nD Cert.AdWdownRIdeal.τ).loc Cert.AdWdownRIdeal.main_v13) = v3 c
          ∧ r.2.mem ((c.tc : Thread Cert.AdWdownRIdeal.nD Cert.AdWdownRIdeal.τ).loc Cert.AdWdownRIdeal.main_arg0) = m' ((c.tc : Thread Cert.AdWdownRIdeal.nD Cert.AdWdownRIdeal.τ).loc Cert.AdWdownRIdeal.main_arg0)
          ∧ r.2.mem ((c.tc : Thread Cert.AdWdownRIdeal.nD Cert.AdWdownRIdeal.τ).loc Cert.AdWdownRIdeal.main_arg1) = m' ((c.tc : Thread Cert.AdWdownRIdeal.nD Cert.AdWdownRIdeal.τ).loc Cert.AdWdownRIdeal.main_arg1)
          ∧ r.2.mem ((c.tc : Thread Cert.AdWdownRIdeal.nD Cert.AdWdownRIdeal.τ).loc Cert.AdWdownRIdeal.main_arg2) = m' ((c.tc : Thread Cert.AdWdownRIdeal.nD Cert.AdWdownRIdeal.τ).loc Cert.AdWdownRIdeal.main_arg2)
          ∧ r.2.mem ((c.tc : Thread Cert.AdWdownRIdeal.nD Cert.AdWdownRIdeal.τ).loc Cert.AdWdownRIdeal.main_arg3) = m' ((c.tc : Thread Cert.AdWdownRIdeal.nD Cert.AdWdownRIdeal.τ).loc Cert.AdWdownRIdeal.main_arg3)
          ∧ r.2.mem ((c.tc : Thread Cert.AdWdownRIdeal.nD Cert.AdWdownRIdeal.τ).loc Cert.AdWdownRIdeal.main_arg4) = m' ((c.tc : Thread Cert.AdWdownRIdeal.nD Cert.AdWdownRIdeal.τ).loc Cert.AdWdownRIdeal.main_arg4))

def preserves_AdDwK_AdDwKIdeal : Prop :=
  True

def algebraic_AdDwKIdeal_AdDwRIdeal [hAdDwKIdeal : Cert.AdDwKIdeal.Facts] [hAdDwRIdeal : Cert.AdDwRIdeal.Facts] : Prop :=
  ∀ (m : (ℓ : Loc Cert.AdDwKIdeal.nD Cert.AdDwKIdeal.τ Cert.AdDwKIdeal.sig) → Buf (Elt Ideal) ℓ) (g : Dev Cert.AdDwKIdeal.nD → PrngReg)
    (m' : (ℓ : Loc Cert.AdDwRIdeal.nD Cert.AdDwRIdeal.τ Cert.AdDwRIdeal.sig) → Buf (Elt Ideal) ℓ) (g' : Dev Cert.AdDwRIdeal.nD → PrngReg), Pre_AdDwKIdeal m →
    (∀ c : Dev Cert.AdDwKIdeal.nD,
      m' ((c.tc : Thread Cert.AdDwRIdeal.nD Cert.AdDwRIdeal.τ).loc Cert.AdDwRIdeal.main_arg0) = m ((c.tc : Thread Cert.AdDwKIdeal.nD Cert.AdDwKIdeal.τ).loc Cert.AdDwKIdeal.main_arg0)
      ∧ m' ((c.tc : Thread Cert.AdDwRIdeal.nD Cert.AdDwRIdeal.τ).loc Cert.AdDwRIdeal.main_arg1) = m ((c.tc : Thread Cert.AdDwKIdeal.nD Cert.AdDwKIdeal.τ).loc Cert.AdDwKIdeal.main_arg1)
      ∧ m' ((c.tc : Thread Cert.AdDwRIdeal.nD Cert.AdDwRIdeal.τ).loc Cert.AdDwRIdeal.main_arg2) = m ((c.tc : Thread Cert.AdDwKIdeal.nD Cert.AdDwKIdeal.τ).loc Cert.AdDwKIdeal.main_arg2)
      ∧ m' ((c.tc : Thread Cert.AdDwRIdeal.nD Cert.AdDwRIdeal.τ).loc Cert.AdDwRIdeal.main_arg3) = m ((c.tc : Thread Cert.AdDwKIdeal.nD Cert.AdDwKIdeal.τ).loc Cert.AdDwKIdeal.main_arg3)) →
    ∃ (v0 : (c : Dev Cert.AdDwKIdeal.nD) → Buf (Elt Ideal) ((c.tc : Thread Cert.AdDwKIdeal.nD Cert.AdDwKIdeal.τ).loc Cert.AdDwKIdeal.main_v0_0)) (v1 : (c : Dev Cert.AdDwKIdeal.nD) → Buf (Elt Ideal) ((c.tc : Thread Cert.AdDwKIdeal.nD Cert.AdDwKIdeal.τ).loc Cert.AdDwKIdeal.main_v0_1)) (v2 : (c : Dev Cert.AdDwKIdeal.nD) → Buf (Elt Ideal) ((c.tc : Thread Cert.AdDwKIdeal.nD Cert.AdDwKIdeal.τ).loc Cert.AdDwKIdeal.main_v0_2)) (v3 : (c : Dev Cert.AdDwKIdeal.nD) → Buf (Elt Ideal) ((c.tc : Thread Cert.AdDwKIdeal.nD Cert.AdDwKIdeal.τ).loc Cert.AdDwKIdeal.main_v0_3)),
      θ_run (Cert.AdDwKIdeal.defs (F := Ideal)) (onTc (τ := Cert.AdDwKIdeal.τ) (Cert.AdDwKIdeal.main (F := Ideal))) ⟨m, fun _ => 0, g⟩ (fun r => ∀ c : Dev Cert.AdDwKIdeal.nD,
          r.2.mem ((c.tc : Thread Cert.AdDwKIdeal.nD Cert.AdDwKIdeal.τ).loc Cert.AdDwKIdeal.main_v0_0) = v0 c
          ∧ r.2.mem ((c.tc : Thread Cert.AdDwKIdeal.nD Cert.AdDwKIdeal.τ).loc Cert.AdDwKIdeal.main_v0_1) = v1 c
          ∧ r.2.mem ((c.tc : Thread Cert.AdDwKIdeal.nD Cert.AdDwKIdeal.τ).loc Cert.AdDwKIdeal.main_v0_2) = v2 c
          ∧ r.2.mem ((c.tc : Thread Cert.AdDwKIdeal.nD Cert.AdDwKIdeal.τ).loc Cert.AdDwKIdeal.main_v0_3) = v3 c
          ∧ r.2.mem ((c.tc : Thread Cert.AdDwKIdeal.nD Cert.AdDwKIdeal.τ).loc Cert.AdDwKIdeal.main_arg0) = m ((c.tc : Thread Cert.AdDwKIdeal.nD Cert.AdDwKIdeal.τ).loc Cert.AdDwKIdeal.main_arg0)
          ∧ r.2.mem ((c.tc : Thread Cert.AdDwKIdeal.nD Cert.AdDwKIdeal.τ).loc Cert.AdDwKIdeal.main_arg1) = m ((c.tc : Thread Cert.AdDwKIdeal.nD Cert.AdDwKIdeal.τ).loc Cert.AdDwKIdeal.main_arg1)
          ∧ r.2.mem ((c.tc : Thread Cert.AdDwKIdeal.nD Cert.AdDwKIdeal.τ).loc Cert.AdDwKIdeal.main_arg2) = m ((c.tc : Thread Cert.AdDwKIdeal.nD Cert.AdDwKIdeal.τ).loc Cert.AdDwKIdeal.main_arg2)
          ∧ r.2.mem ((c.tc : Thread Cert.AdDwKIdeal.nD Cert.AdDwKIdeal.τ).loc Cert.AdDwKIdeal.main_arg3) = m ((c.tc : Thread Cert.AdDwKIdeal.nD Cert.AdDwKIdeal.τ).loc Cert.AdDwKIdeal.main_arg3))
      ∧ θ_run (Cert.AdDwRIdeal.defs (F := Ideal)) (onTc (τ := Cert.AdDwRIdeal.τ) (Cert.AdDwRIdeal.main (F := Ideal))) ⟨m', fun _ => 0, g'⟩ (fun r => ∀ c : Dev Cert.AdDwRIdeal.nD,
          r.2.mem ((c.tc : Thread Cert.AdDwRIdeal.nD Cert.AdDwRIdeal.τ).loc Cert.AdDwRIdeal.main_arg0) = v0 c
          ∧ r.2.mem ((c.tc : Thread Cert.AdDwRIdeal.nD Cert.AdDwRIdeal.τ).loc Cert.AdDwRIdeal.main_v23) = v1 c
          ∧ r.2.mem ((c.tc : Thread Cert.AdDwRIdeal.nD Cert.AdDwRIdeal.τ).loc Cert.AdDwRIdeal.main_v4) = v2 c
          ∧ r.2.mem ((c.tc : Thread Cert.AdDwRIdeal.nD Cert.AdDwRIdeal.τ).loc Cert.AdDwRIdeal.main_v10) = v3 c
          ∧ r.2.mem ((c.tc : Thread Cert.AdDwRIdeal.nD Cert.AdDwRIdeal.τ).loc Cert.AdDwRIdeal.main_arg0) = m' ((c.tc : Thread Cert.AdDwRIdeal.nD Cert.AdDwRIdeal.τ).loc Cert.AdDwRIdeal.main_arg0)
          ∧ r.2.mem ((c.tc : Thread Cert.AdDwRIdeal.nD Cert.AdDwRIdeal.τ).loc Cert.AdDwRIdeal.main_arg1) = m' ((c.tc : Thread Cert.AdDwRIdeal.nD Cert.AdDwRIdeal.τ).loc Cert.AdDwRIdeal.main_arg1)
          ∧ r.2.mem ((c.tc : Thread Cert.AdDwRIdeal.nD Cert.AdDwRIdeal.τ).loc Cert.AdDwRIdeal.main_arg2) = m' ((c.tc : Thread Cert.AdDwRIdeal.nD Cert.AdDwRIdeal.τ).loc Cert.AdDwRIdeal.main_arg2)
          ∧ r.2.mem ((c.tc : Thread Cert.AdDwRIdeal.nD Cert.AdDwRIdeal.τ).loc Cert.AdDwRIdeal.main_arg3) = m' ((c.tc : Thread Cert.AdDwRIdeal.nD Cert.AdDwRIdeal.τ).loc Cert.AdDwRIdeal.main_arg3))

def preserves_AdGcK_AdGcKIdeal : Prop :=
  True

def algebraic_AdGcKIdeal_AdGcRIdeal [hAdGcKIdeal : Cert.AdGcKIdeal.Facts] [hAdGcRIdeal : Cert.AdGcRIdeal.Facts] : Prop :=
  ∀ (m : (ℓ : Loc Cert.AdGcKIdeal.nD Cert.AdGcKIdeal.τ Cert.AdGcKIdeal.sig) → Buf (Elt Ideal) ℓ) (g : Dev Cert.AdGcKIdeal.nD → PrngReg)
    (m' : (ℓ : Loc Cert.AdGcRIdeal.nD Cert.AdGcRIdeal.τ Cert.AdGcRIdeal.sig) → Buf (Elt Ideal) ℓ) (g' : Dev Cert.AdGcRIdeal.nD → PrngReg), Pre_AdGcKIdeal m →
    (∀ c : Dev Cert.AdGcKIdeal.nD,
      m' ((c.tc : Thread Cert.AdGcRIdeal.nD Cert.AdGcRIdeal.τ).loc Cert.AdGcRIdeal.main_arg0) = m ((c.tc : Thread Cert.AdGcKIdeal.nD Cert.AdGcKIdeal.τ).loc Cert.AdGcKIdeal.main_arg0)
      ∧ m' ((c.tc : Thread Cert.AdGcRIdeal.nD Cert.AdGcRIdeal.τ).loc Cert.AdGcRIdeal.main_arg1) = m ((c.tc : Thread Cert.AdGcKIdeal.nD Cert.AdGcKIdeal.τ).loc Cert.AdGcKIdeal.main_arg1)
      ∧ m' ((c.tc : Thread Cert.AdGcRIdeal.nD Cert.AdGcRIdeal.τ).loc Cert.AdGcRIdeal.main_arg2) = m ((c.tc : Thread Cert.AdGcKIdeal.nD Cert.AdGcKIdeal.τ).loc Cert.AdGcKIdeal.main_arg2)
      ∧ m' ((c.tc : Thread Cert.AdGcRIdeal.nD Cert.AdGcRIdeal.τ).loc Cert.AdGcRIdeal.main_arg3) = m ((c.tc : Thread Cert.AdGcKIdeal.nD Cert.AdGcKIdeal.τ).loc Cert.AdGcKIdeal.main_arg3)) →
    ∃ (v0 : (c : Dev Cert.AdGcKIdeal.nD) → Buf (Elt Ideal) ((c.tc : Thread Cert.AdGcKIdeal.nD Cert.AdGcKIdeal.τ).loc Cert.AdGcKIdeal.main_v0_0)) (v1 : (c : Dev Cert.AdGcKIdeal.nD) → Buf (Elt Ideal) ((c.tc : Thread Cert.AdGcKIdeal.nD Cert.AdGcKIdeal.τ).loc Cert.AdGcKIdeal.main_v0_1)) (v2 : (c : Dev Cert.AdGcKIdeal.nD) → Buf (Elt Ideal) ((c.tc : Thread Cert.AdGcKIdeal.nD Cert.AdGcKIdeal.τ).loc Cert.AdGcKIdeal.main_v0_2)) (v3 : (c : Dev Cert.AdGcKIdeal.nD) → Buf (Elt Ideal) ((c.tc : Thread Cert.AdGcKIdeal.nD Cert.AdGcKIdeal.τ).loc Cert.AdGcKIdeal.main_v0_3)),
      θ_run (Cert.AdGcKIdeal.defs (F := Ideal)) (onTc (τ := Cert.AdGcKIdeal.τ) (Cert.AdGcKIdeal.main (F := Ideal))) ⟨m, fun _ => 0, g⟩ (fun r => ∀ c : Dev Cert.AdGcKIdeal.nD,
          r.2.mem ((c.tc : Thread Cert.AdGcKIdeal.nD Cert.AdGcKIdeal.τ).loc Cert.AdGcKIdeal.main_v0_0) = v0 c
          ∧ r.2.mem ((c.tc : Thread Cert.AdGcKIdeal.nD Cert.AdGcKIdeal.τ).loc Cert.AdGcKIdeal.main_v0_1) = v1 c
          ∧ r.2.mem ((c.tc : Thread Cert.AdGcKIdeal.nD Cert.AdGcKIdeal.τ).loc Cert.AdGcKIdeal.main_v0_2) = v2 c
          ∧ r.2.mem ((c.tc : Thread Cert.AdGcKIdeal.nD Cert.AdGcKIdeal.τ).loc Cert.AdGcKIdeal.main_v0_3) = v3 c
          ∧ r.2.mem ((c.tc : Thread Cert.AdGcKIdeal.nD Cert.AdGcKIdeal.τ).loc Cert.AdGcKIdeal.main_arg0) = m ((c.tc : Thread Cert.AdGcKIdeal.nD Cert.AdGcKIdeal.τ).loc Cert.AdGcKIdeal.main_arg0)
          ∧ r.2.mem ((c.tc : Thread Cert.AdGcKIdeal.nD Cert.AdGcKIdeal.τ).loc Cert.AdGcKIdeal.main_arg1) = m ((c.tc : Thread Cert.AdGcKIdeal.nD Cert.AdGcKIdeal.τ).loc Cert.AdGcKIdeal.main_arg1)
          ∧ r.2.mem ((c.tc : Thread Cert.AdGcKIdeal.nD Cert.AdGcKIdeal.τ).loc Cert.AdGcKIdeal.main_arg2) = m ((c.tc : Thread Cert.AdGcKIdeal.nD Cert.AdGcKIdeal.τ).loc Cert.AdGcKIdeal.main_arg2)
          ∧ r.2.mem ((c.tc : Thread Cert.AdGcKIdeal.nD Cert.AdGcKIdeal.τ).loc Cert.AdGcKIdeal.main_arg3) = m ((c.tc : Thread Cert.AdGcKIdeal.nD Cert.AdGcKIdeal.τ).loc Cert.AdGcKIdeal.main_arg3))
      ∧ θ_run (Cert.AdGcRIdeal.defs (F := Ideal)) (onTc (τ := Cert.AdGcRIdeal.τ) (Cert.AdGcRIdeal.main (F := Ideal))) ⟨m', fun _ => 0, g'⟩ (fun r => ∀ c : Dev Cert.AdGcRIdeal.nD,
          r.2.mem ((c.tc : Thread Cert.AdGcRIdeal.nD Cert.AdGcRIdeal.τ).loc Cert.AdGcRIdeal.main_arg0) = v0 c
          ∧ r.2.mem ((c.tc : Thread Cert.AdGcRIdeal.nD Cert.AdGcRIdeal.τ).loc Cert.AdGcRIdeal.main_v23) = v1 c
          ∧ r.2.mem ((c.tc : Thread Cert.AdGcRIdeal.nD Cert.AdGcRIdeal.τ).loc Cert.AdGcRIdeal.main_v4) = v2 c
          ∧ r.2.mem ((c.tc : Thread Cert.AdGcRIdeal.nD Cert.AdGcRIdeal.τ).loc Cert.AdGcRIdeal.main_v10) = v3 c
          ∧ r.2.mem ((c.tc : Thread Cert.AdGcRIdeal.nD Cert.AdGcRIdeal.τ).loc Cert.AdGcRIdeal.main_arg0) = m' ((c.tc : Thread Cert.AdGcRIdeal.nD Cert.AdGcRIdeal.τ).loc Cert.AdGcRIdeal.main_arg0)
          ∧ r.2.mem ((c.tc : Thread Cert.AdGcRIdeal.nD Cert.AdGcRIdeal.τ).loc Cert.AdGcRIdeal.main_arg1) = m' ((c.tc : Thread Cert.AdGcRIdeal.nD Cert.AdGcRIdeal.τ).loc Cert.AdGcRIdeal.main_arg1)
          ∧ r.2.mem ((c.tc : Thread Cert.AdGcRIdeal.nD Cert.AdGcRIdeal.τ).loc Cert.AdGcRIdeal.main_arg2) = m' ((c.tc : Thread Cert.AdGcRIdeal.nD Cert.AdGcRIdeal.τ).loc Cert.AdGcRIdeal.main_arg2)
          ∧ r.2.mem ((c.tc : Thread Cert.AdGcRIdeal.nD Cert.AdGcRIdeal.τ).loc Cert.AdGcRIdeal.main_arg3) = m' ((c.tc : Thread Cert.AdGcRIdeal.nD Cert.AdGcRIdeal.τ).loc Cert.AdGcRIdeal.main_arg3))

def preserves_AdFcK_AdFcKIdeal : Prop :=
  True

def algebraic_AdFcKIdeal_AdFcRIdeal [hAdFcKIdeal : Cert.AdFcKIdeal.Facts] [hAdFcRIdeal : Cert.AdFcRIdeal.Facts] : Prop :=
  ∀ (m : (ℓ : Loc Cert.AdFcKIdeal.nD Cert.AdFcKIdeal.τ Cert.AdFcKIdeal.sig) → Buf (Elt Ideal) ℓ) (g : Dev Cert.AdFcKIdeal.nD → PrngReg)
    (m' : (ℓ : Loc Cert.AdFcRIdeal.nD Cert.AdFcRIdeal.τ Cert.AdFcRIdeal.sig) → Buf (Elt Ideal) ℓ) (g' : Dev Cert.AdFcRIdeal.nD → PrngReg), Pre_AdFcKIdeal m →
    (∀ c : Dev Cert.AdFcKIdeal.nD,
      m' ((c.tc : Thread Cert.AdFcRIdeal.nD Cert.AdFcRIdeal.τ).loc Cert.AdFcRIdeal.main_arg0) = m ((c.tc : Thread Cert.AdFcKIdeal.nD Cert.AdFcKIdeal.τ).loc Cert.AdFcKIdeal.main_arg0)
      ∧ m' ((c.tc : Thread Cert.AdFcRIdeal.nD Cert.AdFcRIdeal.τ).loc Cert.AdFcRIdeal.main_arg1) = m ((c.tc : Thread Cert.AdFcKIdeal.nD Cert.AdFcKIdeal.τ).loc Cert.AdFcKIdeal.main_arg1)
      ∧ m' ((c.tc : Thread Cert.AdFcRIdeal.nD Cert.AdFcRIdeal.τ).loc Cert.AdFcRIdeal.main_arg2) = m ((c.tc : Thread Cert.AdFcKIdeal.nD Cert.AdFcKIdeal.τ).loc Cert.AdFcKIdeal.main_arg2)
      ∧ m' ((c.tc : Thread Cert.AdFcRIdeal.nD Cert.AdFcRIdeal.τ).loc Cert.AdFcRIdeal.main_arg3) = m ((c.tc : Thread Cert.AdFcKIdeal.nD Cert.AdFcKIdeal.τ).loc Cert.AdFcKIdeal.main_arg3)) →
    ∃ (v0 : (c : Dev Cert.AdFcKIdeal.nD) → Buf (Elt Ideal) ((c.tc : Thread Cert.AdFcKIdeal.nD Cert.AdFcKIdeal.τ).loc Cert.AdFcKIdeal.main_v0_0)) (v1 : (c : Dev Cert.AdFcKIdeal.nD) → Buf (Elt Ideal) ((c.tc : Thread Cert.AdFcKIdeal.nD Cert.AdFcKIdeal.τ).loc Cert.AdFcKIdeal.main_v0_1)) (v2 : (c : Dev Cert.AdFcKIdeal.nD) → Buf (Elt Ideal) ((c.tc : Thread Cert.AdFcKIdeal.nD Cert.AdFcKIdeal.τ).loc Cert.AdFcKIdeal.main_v0_2)) (v3 : (c : Dev Cert.AdFcKIdeal.nD) → Buf (Elt Ideal) ((c.tc : Thread Cert.AdFcKIdeal.nD Cert.AdFcKIdeal.τ).loc Cert.AdFcKIdeal.main_v0_3)),
      θ_run (Cert.AdFcKIdeal.defs (F := Ideal)) (onTc (τ := Cert.AdFcKIdeal.τ) (Cert.AdFcKIdeal.main (F := Ideal))) ⟨m, fun _ => 0, g⟩ (fun r => ∀ c : Dev Cert.AdFcKIdeal.nD,
          r.2.mem ((c.tc : Thread Cert.AdFcKIdeal.nD Cert.AdFcKIdeal.τ).loc Cert.AdFcKIdeal.main_v0_0) = v0 c
          ∧ r.2.mem ((c.tc : Thread Cert.AdFcKIdeal.nD Cert.AdFcKIdeal.τ).loc Cert.AdFcKIdeal.main_v0_1) = v1 c
          ∧ r.2.mem ((c.tc : Thread Cert.AdFcKIdeal.nD Cert.AdFcKIdeal.τ).loc Cert.AdFcKIdeal.main_v0_2) = v2 c
          ∧ r.2.mem ((c.tc : Thread Cert.AdFcKIdeal.nD Cert.AdFcKIdeal.τ).loc Cert.AdFcKIdeal.main_v0_3) = v3 c
          ∧ r.2.mem ((c.tc : Thread Cert.AdFcKIdeal.nD Cert.AdFcKIdeal.τ).loc Cert.AdFcKIdeal.main_arg0) = m ((c.tc : Thread Cert.AdFcKIdeal.nD Cert.AdFcKIdeal.τ).loc Cert.AdFcKIdeal.main_arg0)
          ∧ r.2.mem ((c.tc : Thread Cert.AdFcKIdeal.nD Cert.AdFcKIdeal.τ).loc Cert.AdFcKIdeal.main_arg1) = m ((c.tc : Thread Cert.AdFcKIdeal.nD Cert.AdFcKIdeal.τ).loc Cert.AdFcKIdeal.main_arg1)
          ∧ r.2.mem ((c.tc : Thread Cert.AdFcKIdeal.nD Cert.AdFcKIdeal.τ).loc Cert.AdFcKIdeal.main_arg2) = m ((c.tc : Thread Cert.AdFcKIdeal.nD Cert.AdFcKIdeal.τ).loc Cert.AdFcKIdeal.main_arg2)
          ∧ r.2.mem ((c.tc : Thread Cert.AdFcKIdeal.nD Cert.AdFcKIdeal.τ).loc Cert.AdFcKIdeal.main_arg3) = m ((c.tc : Thread Cert.AdFcKIdeal.nD Cert.AdFcKIdeal.τ).loc Cert.AdFcKIdeal.main_arg3))
      ∧ θ_run (Cert.AdFcRIdeal.defs (F := Ideal)) (onTc (τ := Cert.AdFcRIdeal.τ) (Cert.AdFcRIdeal.main (F := Ideal))) ⟨m', fun _ => 0, g'⟩ (fun r => ∀ c : Dev Cert.AdFcRIdeal.nD,
          r.2.mem ((c.tc : Thread Cert.AdFcRIdeal.nD Cert.AdFcRIdeal.τ).loc Cert.AdFcRIdeal.main_arg0) = v0 c
          ∧ r.2.mem ((c.tc : Thread Cert.AdFcRIdeal.nD Cert.AdFcRIdeal.τ).loc Cert.AdFcRIdeal.main_v23) = v1 c
          ∧ r.2.mem ((c.tc : Thread Cert.AdFcRIdeal.nD Cert.AdFcRIdeal.τ).loc Cert.AdFcRIdeal.main_v4) = v2 c
          ∧ r.2.mem ((c.tc : Thread Cert.AdFcRIdeal.nD Cert.AdFcRIdeal.τ).loc Cert.AdFcRIdeal.main_v10) = v3 c
          ∧ r.2.mem ((c.tc : Thread Cert.AdFcRIdeal.nD Cert.AdFcRIdeal.τ).loc Cert.AdFcRIdeal.main_arg0) = m' ((c.tc : Thread Cert.AdFcRIdeal.nD Cert.AdFcRIdeal.τ).loc Cert.AdFcRIdeal.main_arg0)
          ∧ r.2.mem ((c.tc : Thread Cert.AdFcRIdeal.nD Cert.AdFcRIdeal.τ).loc Cert.AdFcRIdeal.main_arg1) = m' ((c.tc : Thread Cert.AdFcRIdeal.nD Cert.AdFcRIdeal.τ).loc Cert.AdFcRIdeal.main_arg1)
          ∧ r.2.mem ((c.tc : Thread Cert.AdFcRIdeal.nD Cert.AdFcRIdeal.τ).loc Cert.AdFcRIdeal.main_arg2) = m' ((c.tc : Thread Cert.AdFcRIdeal.nD Cert.AdFcRIdeal.τ).loc Cert.AdFcRIdeal.main_arg2)
          ∧ r.2.mem ((c.tc : Thread Cert.AdFcRIdeal.nD Cert.AdFcRIdeal.τ).loc Cert.AdFcRIdeal.main_arg3) = m' ((c.tc : Thread Cert.AdFcRIdeal.nD Cert.AdFcRIdeal.τ).loc Cert.AdFcRIdeal.main_arg3))

def preserves_AdNormK_AdNormKIdeal : Prop :=
  True

def algebraic_AdNormKIdeal_AdNormRIdeal [hAdNormKIdeal : Cert.AdNormKIdeal.Facts] [hAdNormRIdeal : Cert.AdNormRIdeal.Facts] : Prop :=
  ∀ (m : (ℓ : Loc Cert.AdNormKIdeal.nD Cert.AdNormKIdeal.τ Cert.AdNormKIdeal.sig) → Buf (Elt Ideal) ℓ) (g : Dev Cert.AdNormKIdeal.nD → PrngReg)
    (m' : (ℓ : Loc Cert.AdNormRIdeal.nD Cert.AdNormRIdeal.τ Cert.AdNormRIdeal.sig) → Buf (Elt Ideal) ℓ) (g' : Dev Cert.AdNormRIdeal.nD → PrngReg), Pre_AdNormKIdeal m →
    (∀ c : Dev Cert.AdNormKIdeal.nD,
      m' ((c.tc : Thread Cert.AdNormRIdeal.nD Cert.AdNormRIdeal.τ).loc Cert.AdNormRIdeal.main_arg0) = m ((c.tc : Thread Cert.AdNormKIdeal.nD Cert.AdNormKIdeal.τ).loc Cert.AdNormKIdeal.main_arg0)
      ∧ m' ((c.tc : Thread Cert.AdNormRIdeal.nD Cert.AdNormRIdeal.τ).loc Cert.AdNormRIdeal.main_arg1) = m ((c.tc : Thread Cert.AdNormKIdeal.nD Cert.AdNormKIdeal.τ).loc Cert.AdNormKIdeal.main_arg1)
      ∧ m' ((c.tc : Thread Cert.AdNormRIdeal.nD Cert.AdNormRIdeal.τ).loc Cert.AdNormRIdeal.main_arg2) = m ((c.tc : Thread Cert.AdNormKIdeal.nD Cert.AdNormKIdeal.τ).loc Cert.AdNormKIdeal.main_arg2)
      ∧ m' ((c.tc : Thread Cert.AdNormRIdeal.nD Cert.AdNormRIdeal.τ).loc Cert.AdNormRIdeal.main_arg3) = m ((c.tc : Thread Cert.AdNormKIdeal.nD Cert.AdNormKIdeal.τ).loc Cert.AdNormKIdeal.main_arg3)) →
    ∃ (v0 : (c : Dev Cert.AdNormKIdeal.nD) → Buf (Elt Ideal) ((c.tc : Thread Cert.AdNormKIdeal.nD Cert.AdNormKIdeal.τ).loc Cert.AdNormKIdeal.main_v0_0)) (v1 : (c : Dev Cert.AdNormKIdeal.nD) → Buf (Elt Ideal) ((c.tc : Thread Cert.AdNormKIdeal.nD Cert.AdNormKIdeal.τ).loc Cert.AdNormKIdeal.main_v0_1)) (v2 : (c : Dev Cert.AdNormKIdeal.nD) → Buf (Elt Ideal) ((c.tc : Thread Cert.AdNormKIdeal.nD Cert.AdNormKIdeal.τ).loc Cert.AdNormKIdeal.main_v0_2)) (v3 : (c : Dev Cert.AdNormKIdeal.nD) → Buf (Elt Ideal) ((c.tc : Thread Cert.AdNormKIdeal.nD Cert.AdNormKIdeal.τ).loc Cert.AdNormKIdeal.main_v0_3)),
      θ_run (Cert.AdNormKIdeal.defs (F := Ideal)) (onTc (τ := Cert.AdNormKIdeal.τ) (Cert.AdNormKIdeal.main (F := Ideal))) ⟨m, fun _ => 0, g⟩ (fun r => ∀ c : Dev Cert.AdNormKIdeal.nD,
          r.2.mem ((c.tc : Thread Cert.AdNormKIdeal.nD Cert.AdNormKIdeal.τ).loc Cert.AdNormKIdeal.main_v0_0) = v0 c
          ∧ r.2.mem ((c.tc : Thread Cert.AdNormKIdeal.nD Cert.AdNormKIdeal.τ).loc Cert.AdNormKIdeal.main_v0_1) = v1 c
          ∧ r.2.mem ((c.tc : Thread Cert.AdNormKIdeal.nD Cert.AdNormKIdeal.τ).loc Cert.AdNormKIdeal.main_v0_2) = v2 c
          ∧ r.2.mem ((c.tc : Thread Cert.AdNormKIdeal.nD Cert.AdNormKIdeal.τ).loc Cert.AdNormKIdeal.main_v0_3) = v3 c
          ∧ r.2.mem ((c.tc : Thread Cert.AdNormKIdeal.nD Cert.AdNormKIdeal.τ).loc Cert.AdNormKIdeal.main_arg0) = m ((c.tc : Thread Cert.AdNormKIdeal.nD Cert.AdNormKIdeal.τ).loc Cert.AdNormKIdeal.main_arg0)
          ∧ r.2.mem ((c.tc : Thread Cert.AdNormKIdeal.nD Cert.AdNormKIdeal.τ).loc Cert.AdNormKIdeal.main_arg1) = m ((c.tc : Thread Cert.AdNormKIdeal.nD Cert.AdNormKIdeal.τ).loc Cert.AdNormKIdeal.main_arg1)
          ∧ r.2.mem ((c.tc : Thread Cert.AdNormKIdeal.nD Cert.AdNormKIdeal.τ).loc Cert.AdNormKIdeal.main_arg2) = m ((c.tc : Thread Cert.AdNormKIdeal.nD Cert.AdNormKIdeal.τ).loc Cert.AdNormKIdeal.main_arg2)
          ∧ r.2.mem ((c.tc : Thread Cert.AdNormKIdeal.nD Cert.AdNormKIdeal.τ).loc Cert.AdNormKIdeal.main_arg3) = m ((c.tc : Thread Cert.AdNormKIdeal.nD Cert.AdNormKIdeal.τ).loc Cert.AdNormKIdeal.main_arg3))
      ∧ θ_run (Cert.AdNormRIdeal.defs (F := Ideal)) (onTc (τ := Cert.AdNormRIdeal.τ) (Cert.AdNormRIdeal.main (F := Ideal))) ⟨m', fun _ => 0, g'⟩ (fun r => ∀ c : Dev Cert.AdNormRIdeal.nD,
          r.2.mem ((c.tc : Thread Cert.AdNormRIdeal.nD Cert.AdNormRIdeal.τ).loc Cert.AdNormRIdeal.main_arg0) = v0 c
          ∧ r.2.mem ((c.tc : Thread Cert.AdNormRIdeal.nD Cert.AdNormRIdeal.τ).loc Cert.AdNormRIdeal.main_v23) = v1 c
          ∧ r.2.mem ((c.tc : Thread Cert.AdNormRIdeal.nD Cert.AdNormRIdeal.τ).loc Cert.AdNormRIdeal.main_v4) = v2 c
          ∧ r.2.mem ((c.tc : Thread Cert.AdNormRIdeal.nD Cert.AdNormRIdeal.τ).loc Cert.AdNormRIdeal.main_v10) = v3 c
          ∧ r.2.mem ((c.tc : Thread Cert.AdNormRIdeal.nD Cert.AdNormRIdeal.τ).loc Cert.AdNormRIdeal.main_arg0) = m' ((c.tc : Thread Cert.AdNormRIdeal.nD Cert.AdNormRIdeal.τ).loc Cert.AdNormRIdeal.main_arg0)
          ∧ r.2.mem ((c.tc : Thread Cert.AdNormRIdeal.nD Cert.AdNormRIdeal.τ).loc Cert.AdNormRIdeal.main_arg1) = m' ((c.tc : Thread Cert.AdNormRIdeal.nD Cert.AdNormRIdeal.τ).loc Cert.AdNormRIdeal.main_arg1)
          ∧ r.2.mem ((c.tc : Thread Cert.AdNormRIdeal.nD Cert.AdNormRIdeal.τ).loc Cert.AdNormRIdeal.main_arg2) = m' ((c.tc : Thread Cert.AdNormRIdeal.nD Cert.AdNormRIdeal.τ).loc Cert.AdNormRIdeal.main_arg2)
          ∧ r.2.mem ((c.tc : Thread Cert.AdNormRIdeal.nD Cert.AdNormRIdeal.τ).loc Cert.AdNormRIdeal.main_arg3) = m' ((c.tc : Thread Cert.AdNormRIdeal.nD Cert.AdNormRIdeal.τ).loc Cert.AdNormRIdeal.main_arg3))

def preserves_AdFinalK_AdFinalKIdeal : Prop :=
  True

def algebraic_AdFinalKIdeal_AdFinalRIdeal [hAdFinalKIdeal : Cert.AdFinalKIdeal.Facts] [hAdFinalRIdeal : Cert.AdFinalRIdeal.Facts] : Prop :=
  ∀ (m : (ℓ : Loc Cert.AdFinalKIdeal.nD Cert.AdFinalKIdeal.τ Cert.AdFinalKIdeal.sig) → Buf (Elt Ideal) ℓ) (g : Dev Cert.AdFinalKIdeal.nD → PrngReg)
    (m' : (ℓ : Loc Cert.AdFinalRIdeal.nD Cert.AdFinalRIdeal.τ Cert.AdFinalRIdeal.sig) → Buf (Elt Ideal) ℓ) (g' : Dev Cert.AdFinalRIdeal.nD → PrngReg), Pre_AdFinalKIdeal m →
    (∀ c : Dev Cert.AdFinalKIdeal.nD,
      m' ((c.tc : Thread Cert.AdFinalRIdeal.nD Cert.AdFinalRIdeal.τ).loc Cert.AdFinalRIdeal.main_arg0) = m ((c.tc : Thread Cert.AdFinalKIdeal.nD Cert.AdFinalKIdeal.τ).loc Cert.AdFinalKIdeal.main_arg0)
      ∧ m' ((c.tc : Thread Cert.AdFinalRIdeal.nD Cert.AdFinalRIdeal.τ).loc Cert.AdFinalRIdeal.main_arg1) = m ((c.tc : Thread Cert.AdFinalKIdeal.nD Cert.AdFinalKIdeal.τ).loc Cert.AdFinalKIdeal.main_arg1)
      ∧ m' ((c.tc : Thread Cert.AdFinalRIdeal.nD Cert.AdFinalRIdeal.τ).loc Cert.AdFinalRIdeal.main_arg2) = m ((c.tc : Thread Cert.AdFinalKIdeal.nD Cert.AdFinalKIdeal.τ).loc Cert.AdFinalKIdeal.main_arg2)
      ∧ m' ((c.tc : Thread Cert.AdFinalRIdeal.nD Cert.AdFinalRIdeal.τ).loc Cert.AdFinalRIdeal.main_arg3) = m ((c.tc : Thread Cert.AdFinalKIdeal.nD Cert.AdFinalKIdeal.τ).loc Cert.AdFinalKIdeal.main_arg3)) →
    ∃ (v0 : (c : Dev Cert.AdFinalKIdeal.nD) → Buf (Elt Ideal) ((c.tc : Thread Cert.AdFinalKIdeal.nD Cert.AdFinalKIdeal.τ).loc Cert.AdFinalKIdeal.main_v0_0)) (v1 : (c : Dev Cert.AdFinalKIdeal.nD) → Buf (Elt Ideal) ((c.tc : Thread Cert.AdFinalKIdeal.nD Cert.AdFinalKIdeal.τ).loc Cert.AdFinalKIdeal.main_v0_1)) (v2 : (c : Dev Cert.AdFinalKIdeal.nD) → Buf (Elt Ideal) ((c.tc : Thread Cert.AdFinalKIdeal.nD Cert.AdFinalKIdeal.τ).loc Cert.AdFinalKIdeal.main_v0_2)) (v3 : (c : Dev Cert.AdFinalKIdeal.nD) → Buf (Elt Ideal) ((c.tc : Thread Cert.AdFinalKIdeal.nD Cert.AdFinalKIdeal.τ).loc Cert.AdFinalKIdeal.main_v0_3)),
      θ_run (Cert.AdFinalKIdeal.defs (F := Ideal)) (onTc (τ := Cert.AdFinalKIdeal.τ) (Cert.AdFinalKIdeal.main (F := Ideal))) ⟨m, fun _ => 0, g⟩ (fun r => ∀ c : Dev Cert.AdFinalKIdeal.nD,
          r.2.mem ((c.tc : Thread Cert.AdFinalKIdeal.nD Cert.AdFinalKIdeal.τ).loc Cert.AdFinalKIdeal.main_v0_0) = v0 c
          ∧ r.2.mem ((c.tc : Thread Cert.AdFinalKIdeal.nD Cert.AdFinalKIdeal.τ).loc Cert.AdFinalKIdeal.main_v0_1) = v1 c
          ∧ r.2.mem ((c.tc : Thread Cert.AdFinalKIdeal.nD Cert.AdFinalKIdeal.τ).loc Cert.AdFinalKIdeal.main_v0_2) = v2 c
          ∧ r.2.mem ((c.tc : Thread Cert.AdFinalKIdeal.nD Cert.AdFinalKIdeal.τ).loc Cert.AdFinalKIdeal.main_v0_3) = v3 c
          ∧ r.2.mem ((c.tc : Thread Cert.AdFinalKIdeal.nD Cert.AdFinalKIdeal.τ).loc Cert.AdFinalKIdeal.main_arg0) = m ((c.tc : Thread Cert.AdFinalKIdeal.nD Cert.AdFinalKIdeal.τ).loc Cert.AdFinalKIdeal.main_arg0)
          ∧ r.2.mem ((c.tc : Thread Cert.AdFinalKIdeal.nD Cert.AdFinalKIdeal.τ).loc Cert.AdFinalKIdeal.main_arg1) = m ((c.tc : Thread Cert.AdFinalKIdeal.nD Cert.AdFinalKIdeal.τ).loc Cert.AdFinalKIdeal.main_arg1)
          ∧ r.2.mem ((c.tc : Thread Cert.AdFinalKIdeal.nD Cert.AdFinalKIdeal.τ).loc Cert.AdFinalKIdeal.main_arg2) = m ((c.tc : Thread Cert.AdFinalKIdeal.nD Cert.AdFinalKIdeal.τ).loc Cert.AdFinalKIdeal.main_arg2)
          ∧ r.2.mem ((c.tc : Thread Cert.AdFinalKIdeal.nD Cert.AdFinalKIdeal.τ).loc Cert.AdFinalKIdeal.main_arg3) = m ((c.tc : Thread Cert.AdFinalKIdeal.nD Cert.AdFinalKIdeal.τ).loc Cert.AdFinalKIdeal.main_arg3))
      ∧ θ_run (Cert.AdFinalRIdeal.defs (F := Ideal)) (onTc (τ := Cert.AdFinalRIdeal.τ) (Cert.AdFinalRIdeal.main (F := Ideal))) ⟨m', fun _ => 0, g'⟩ (fun r => ∀ c : Dev Cert.AdFinalRIdeal.nD,
          r.2.mem ((c.tc : Thread Cert.AdFinalRIdeal.nD Cert.AdFinalRIdeal.τ).loc Cert.AdFinalRIdeal.main_arg0) = v0 c
          ∧ r.2.mem ((c.tc : Thread Cert.AdFinalRIdeal.nD Cert.AdFinalRIdeal.τ).loc Cert.AdFinalRIdeal.main_v23) = v1 c
          ∧ r.2.mem ((c.tc : Thread Cert.AdFinalRIdeal.nD Cert.AdFinalRIdeal.τ).loc Cert.AdFinalRIdeal.main_v4) = v2 c
          ∧ r.2.mem ((c.tc : Thread Cert.AdFinalRIdeal.nD Cert.AdFinalRIdeal.τ).loc Cert.AdFinalRIdeal.main_v10) = v3 c
          ∧ r.2.mem ((c.tc : Thread Cert.AdFinalRIdeal.nD Cert.AdFinalRIdeal.τ).loc Cert.AdFinalRIdeal.main_arg0) = m' ((c.tc : Thread Cert.AdFinalRIdeal.nD Cert.AdFinalRIdeal.τ).loc Cert.AdFinalRIdeal.main_arg0)
          ∧ r.2.mem ((c.tc : Thread Cert.AdFinalRIdeal.nD Cert.AdFinalRIdeal.τ).loc Cert.AdFinalRIdeal.main_arg1) = m' ((c.tc : Thread Cert.AdFinalRIdeal.nD Cert.AdFinalRIdeal.τ).loc Cert.AdFinalRIdeal.main_arg1)
          ∧ r.2.mem ((c.tc : Thread Cert.AdFinalRIdeal.nD Cert.AdFinalRIdeal.τ).loc Cert.AdFinalRIdeal.main_arg2) = m' ((c.tc : Thread Cert.AdFinalRIdeal.nD Cert.AdFinalRIdeal.τ).loc Cert.AdFinalRIdeal.main_arg2)
          ∧ r.2.mem ((c.tc : Thread Cert.AdFinalRIdeal.nD Cert.AdFinalRIdeal.τ).loc Cert.AdFinalRIdeal.main_arg3) = m' ((c.tc : Thread Cert.AdFinalRIdeal.nD Cert.AdFinalRIdeal.τ).loc Cert.AdFinalRIdeal.main_arg3))

def preserves_AdChK_AdChKIdeal : Prop :=
  True

def algebraic_AdChKIdeal_AdChRIdeal [hAdChKIdeal : Cert.AdChKIdeal.Facts] [hAdChRIdeal : Cert.AdChRIdeal.Facts] : Prop :=
  ∀ (m : (ℓ : Loc Cert.AdChKIdeal.nD Cert.AdChKIdeal.τ Cert.AdChKIdeal.sig) → Buf (Elt Ideal) ℓ) (g : Dev Cert.AdChKIdeal.nD → PrngReg)
    (m' : (ℓ : Loc Cert.AdChRIdeal.nD Cert.AdChRIdeal.τ Cert.AdChRIdeal.sig) → Buf (Elt Ideal) ℓ) (g' : Dev Cert.AdChRIdeal.nD → PrngReg), Pre_AdChKIdeal m →
    (∀ c : Dev Cert.AdChKIdeal.nD,
      m' ((c.tc : Thread Cert.AdChRIdeal.nD Cert.AdChRIdeal.τ).loc Cert.AdChRIdeal.main_arg0) = m ((c.tc : Thread Cert.AdChKIdeal.nD Cert.AdChKIdeal.τ).loc Cert.AdChKIdeal.main_arg0)
      ∧ m' ((c.tc : Thread Cert.AdChRIdeal.nD Cert.AdChRIdeal.τ).loc Cert.AdChRIdeal.main_arg1) = m ((c.tc : Thread Cert.AdChKIdeal.nD Cert.AdChKIdeal.τ).loc Cert.AdChKIdeal.main_arg1)
      ∧ m' ((c.tc : Thread Cert.AdChRIdeal.nD Cert.AdChRIdeal.τ).loc Cert.AdChRIdeal.main_arg2) = m ((c.tc : Thread Cert.AdChKIdeal.nD Cert.AdChKIdeal.τ).loc Cert.AdChKIdeal.main_arg2)
      ∧ m' ((c.tc : Thread Cert.AdChRIdeal.nD Cert.AdChRIdeal.τ).loc Cert.AdChRIdeal.main_arg3) = m ((c.tc : Thread Cert.AdChKIdeal.nD Cert.AdChKIdeal.τ).loc Cert.AdChKIdeal.main_arg3)) →
    ∃ (v0 : (c : Dev Cert.AdChKIdeal.nD) → Buf (Elt Ideal) ((c.tc : Thread Cert.AdChKIdeal.nD Cert.AdChKIdeal.τ).loc Cert.AdChKIdeal.main_v0_0)) (v1 : (c : Dev Cert.AdChKIdeal.nD) → Buf (Elt Ideal) ((c.tc : Thread Cert.AdChKIdeal.nD Cert.AdChKIdeal.τ).loc Cert.AdChKIdeal.main_v0_1)) (v2 : (c : Dev Cert.AdChKIdeal.nD) → Buf (Elt Ideal) ((c.tc : Thread Cert.AdChKIdeal.nD Cert.AdChKIdeal.τ).loc Cert.AdChKIdeal.main_v0_2)) (v3 : (c : Dev Cert.AdChKIdeal.nD) → Buf (Elt Ideal) ((c.tc : Thread Cert.AdChKIdeal.nD Cert.AdChKIdeal.τ).loc Cert.AdChKIdeal.main_v0_3)),
      θ_run (Cert.AdChKIdeal.defs (F := Ideal)) (onTc (τ := Cert.AdChKIdeal.τ) (Cert.AdChKIdeal.main (F := Ideal))) ⟨m, fun _ => 0, g⟩ (fun r => ∀ c : Dev Cert.AdChKIdeal.nD,
          r.2.mem ((c.tc : Thread Cert.AdChKIdeal.nD Cert.AdChKIdeal.τ).loc Cert.AdChKIdeal.main_v0_0) = v0 c
          ∧ r.2.mem ((c.tc : Thread Cert.AdChKIdeal.nD Cert.AdChKIdeal.τ).loc Cert.AdChKIdeal.main_v0_1) = v1 c
          ∧ r.2.mem ((c.tc : Thread Cert.AdChKIdeal.nD Cert.AdChKIdeal.τ).loc Cert.AdChKIdeal.main_v0_2) = v2 c
          ∧ r.2.mem ((c.tc : Thread Cert.AdChKIdeal.nD Cert.AdChKIdeal.τ).loc Cert.AdChKIdeal.main_v0_3) = v3 c
          ∧ r.2.mem ((c.tc : Thread Cert.AdChKIdeal.nD Cert.AdChKIdeal.τ).loc Cert.AdChKIdeal.main_arg0) = m ((c.tc : Thread Cert.AdChKIdeal.nD Cert.AdChKIdeal.τ).loc Cert.AdChKIdeal.main_arg0)
          ∧ r.2.mem ((c.tc : Thread Cert.AdChKIdeal.nD Cert.AdChKIdeal.τ).loc Cert.AdChKIdeal.main_arg1) = m ((c.tc : Thread Cert.AdChKIdeal.nD Cert.AdChKIdeal.τ).loc Cert.AdChKIdeal.main_arg1)
          ∧ r.2.mem ((c.tc : Thread Cert.AdChKIdeal.nD Cert.AdChKIdeal.τ).loc Cert.AdChKIdeal.main_arg2) = m ((c.tc : Thread Cert.AdChKIdeal.nD Cert.AdChKIdeal.τ).loc Cert.AdChKIdeal.main_arg2)
          ∧ r.2.mem ((c.tc : Thread Cert.AdChKIdeal.nD Cert.AdChKIdeal.τ).loc Cert.AdChKIdeal.main_arg3) = m ((c.tc : Thread Cert.AdChKIdeal.nD Cert.AdChKIdeal.τ).loc Cert.AdChKIdeal.main_arg3))
      ∧ θ_run (Cert.AdChRIdeal.defs (F := Ideal)) (onTc (τ := Cert.AdChRIdeal.τ) (Cert.AdChRIdeal.main (F := Ideal))) ⟨m', fun _ => 0, g'⟩ (fun r => ∀ c : Dev Cert.AdChRIdeal.nD,
          r.2.mem ((c.tc : Thread Cert.AdChRIdeal.nD Cert.AdChRIdeal.τ).loc Cert.AdChRIdeal.main_arg0) = v0 c
          ∧ r.2.mem ((c.tc : Thread Cert.AdChRIdeal.nD Cert.AdChRIdeal.τ).loc Cert.AdChRIdeal.main_v23) = v1 c
          ∧ r.2.mem ((c.tc : Thread Cert.AdChRIdeal.nD Cert.AdChRIdeal.τ).loc Cert.AdChRIdeal.main_v4) = v2 c
          ∧ r.2.mem ((c.tc : Thread Cert.AdChRIdeal.nD Cert.AdChRIdeal.τ).loc Cert.AdChRIdeal.main_v10) = v3 c
          ∧ r.2.mem ((c.tc : Thread Cert.AdChRIdeal.nD Cert.AdChRIdeal.τ).loc Cert.AdChRIdeal.main_arg0) = m' ((c.tc : Thread Cert.AdChRIdeal.nD Cert.AdChRIdeal.τ).loc Cert.AdChRIdeal.main_arg0)
          ∧ r.2.mem ((c.tc : Thread Cert.AdChRIdeal.nD Cert.AdChRIdeal.τ).loc Cert.AdChRIdeal.main_arg1) = m' ((c.tc : Thread Cert.AdChRIdeal.nD Cert.AdChRIdeal.τ).loc Cert.AdChRIdeal.main_arg1)
          ∧ r.2.mem ((c.tc : Thread Cert.AdChRIdeal.nD Cert.AdChRIdeal.τ).loc Cert.AdChRIdeal.main_arg2) = m' ((c.tc : Thread Cert.AdChRIdeal.nD Cert.AdChRIdeal.τ).loc Cert.AdChRIdeal.main_arg2)
          ∧ r.2.mem ((c.tc : Thread Cert.AdChRIdeal.nD Cert.AdChRIdeal.τ).loc Cert.AdChRIdeal.main_arg3) = m' ((c.tc : Thread Cert.AdChRIdeal.nD Cert.AdChRIdeal.τ).loc Cert.AdChRIdeal.main_arg3))

def preserves_AdHeadK_AdHeadKIdeal : Prop :=
  True

def algebraic_AdHeadKIdeal_AdHeadRIdeal [hAdHeadKIdeal : Cert.AdHeadKIdeal.Facts] [hAdHeadRIdeal : Cert.AdHeadRIdeal.Facts] : Prop :=
  ∀ (m : (ℓ : Loc Cert.AdHeadKIdeal.nD Cert.AdHeadKIdeal.τ Cert.AdHeadKIdeal.sig) → Buf (Elt Ideal) ℓ) (g : Dev Cert.AdHeadKIdeal.nD → PrngReg)
    (m' : (ℓ : Loc Cert.AdHeadRIdeal.nD Cert.AdHeadRIdeal.τ Cert.AdHeadRIdeal.sig) → Buf (Elt Ideal) ℓ) (g' : Dev Cert.AdHeadRIdeal.nD → PrngReg), Pre_AdHeadKIdeal m →
    (∀ c : Dev Cert.AdHeadKIdeal.nD,
      m' ((c.tc : Thread Cert.AdHeadRIdeal.nD Cert.AdHeadRIdeal.τ).loc Cert.AdHeadRIdeal.main_arg0) = m ((c.tc : Thread Cert.AdHeadKIdeal.nD Cert.AdHeadKIdeal.τ).loc Cert.AdHeadKIdeal.main_arg0)
      ∧ m' ((c.tc : Thread Cert.AdHeadRIdeal.nD Cert.AdHeadRIdeal.τ).loc Cert.AdHeadRIdeal.main_arg1) = m ((c.tc : Thread Cert.AdHeadKIdeal.nD Cert.AdHeadKIdeal.τ).loc Cert.AdHeadKIdeal.main_arg1)
      ∧ m' ((c.tc : Thread Cert.AdHeadRIdeal.nD Cert.AdHeadRIdeal.τ).loc Cert.AdHeadRIdeal.main_arg2) = m ((c.tc : Thread Cert.AdHeadKIdeal.nD Cert.AdHeadKIdeal.τ).loc Cert.AdHeadKIdeal.main_arg2)
      ∧ m' ((c.tc : Thread Cert.AdHeadRIdeal.nD Cert.AdHeadRIdeal.τ).loc Cert.AdHeadRIdeal.main_arg3) = m ((c.tc : Thread Cert.AdHeadKIdeal.nD Cert.AdHeadKIdeal.τ).loc Cert.AdHeadKIdeal.main_arg3)) →
    ∃ (v0 : (c : Dev Cert.AdHeadKIdeal.nD) → Buf (Elt Ideal) ((c.tc : Thread Cert.AdHeadKIdeal.nD Cert.AdHeadKIdeal.τ).loc Cert.AdHeadKIdeal.main_v0_0)) (v1 : (c : Dev Cert.AdHeadKIdeal.nD) → Buf (Elt Ideal) ((c.tc : Thread Cert.AdHeadKIdeal.nD Cert.AdHeadKIdeal.τ).loc Cert.AdHeadKIdeal.main_v0_1)) (v2 : (c : Dev Cert.AdHeadKIdeal.nD) → Buf (Elt Ideal) ((c.tc : Thread Cert.AdHeadKIdeal.nD Cert.AdHeadKIdeal.τ).loc Cert.AdHeadKIdeal.main_v0_2)) (v3 : (c : Dev Cert.AdHeadKIdeal.nD) → Buf (Elt Ideal) ((c.tc : Thread Cert.AdHeadKIdeal.nD Cert.AdHeadKIdeal.τ).loc Cert.AdHeadKIdeal.main_v0_3)),
      θ_run (Cert.AdHeadKIdeal.defs (F := Ideal)) (onTc (τ := Cert.AdHeadKIdeal.τ) (Cert.AdHeadKIdeal.main (F := Ideal))) ⟨m, fun _ => 0, g⟩ (fun r => ∀ c : Dev Cert.AdHeadKIdeal.nD,
          r.2.mem ((c.tc : Thread Cert.AdHeadKIdeal.nD Cert.AdHeadKIdeal.τ).loc Cert.AdHeadKIdeal.main_v0_0) = v0 c
          ∧ r.2.mem ((c.tc : Thread Cert.AdHeadKIdeal.nD Cert.AdHeadKIdeal.τ).loc Cert.AdHeadKIdeal.main_v0_1) = v1 c
          ∧ r.2.mem ((c.tc : Thread Cert.AdHeadKIdeal.nD Cert.AdHeadKIdeal.τ).loc Cert.AdHeadKIdeal.main_v0_2) = v2 c
          ∧ r.2.mem ((c.tc : Thread Cert.AdHeadKIdeal.nD Cert.AdHeadKIdeal.τ).loc Cert.AdHeadKIdeal.main_v0_3) = v3 c
          ∧ r.2.mem ((c.tc : Thread Cert.AdHeadKIdeal.nD Cert.AdHeadKIdeal.τ).loc Cert.AdHeadKIdeal.main_arg0) = m ((c.tc : Thread Cert.AdHeadKIdeal.nD Cert.AdHeadKIdeal.τ).loc Cert.AdHeadKIdeal.main_arg0)
          ∧ r.2.mem ((c.tc : Thread Cert.AdHeadKIdeal.nD Cert.AdHeadKIdeal.τ).loc Cert.AdHeadKIdeal.main_arg1) = m ((c.tc : Thread Cert.AdHeadKIdeal.nD Cert.AdHeadKIdeal.τ).loc Cert.AdHeadKIdeal.main_arg1)
          ∧ r.2.mem ((c.tc : Thread Cert.AdHeadKIdeal.nD Cert.AdHeadKIdeal.τ).loc Cert.AdHeadKIdeal.main_arg2) = m ((c.tc : Thread Cert.AdHeadKIdeal.nD Cert.AdHeadKIdeal.τ).loc Cert.AdHeadKIdeal.main_arg2)
          ∧ r.2.mem ((c.tc : Thread Cert.AdHeadKIdeal.nD Cert.AdHeadKIdeal.τ).loc Cert.AdHeadKIdeal.main_arg3) = m ((c.tc : Thread Cert.AdHeadKIdeal.nD Cert.AdHeadKIdeal.τ).loc Cert.AdHeadKIdeal.main_arg3))
      ∧ θ_run (Cert.AdHeadRIdeal.defs (F := Ideal)) (onTc (τ := Cert.AdHeadRIdeal.τ) (Cert.AdHeadRIdeal.main (F := Ideal))) ⟨m', fun _ => 0, g'⟩ (fun r => ∀ c : Dev Cert.AdHeadRIdeal.nD,
          r.2.mem ((c.tc : Thread Cert.AdHeadRIdeal.nD Cert.AdHeadRIdeal.τ).loc Cert.AdHeadRIdeal.main_arg0) = v0 c
          ∧ r.2.mem ((c.tc : Thread Cert.AdHeadRIdeal.nD Cert.AdHeadRIdeal.τ).loc Cert.AdHeadRIdeal.main_v23) = v1 c
          ∧ r.2.mem ((c.tc : Thread Cert.AdHeadRIdeal.nD Cert.AdHeadRIdeal.τ).loc Cert.AdHeadRIdeal.main_v4) = v2 c
          ∧ r.2.mem ((c.tc : Thread Cert.AdHeadRIdeal.nD Cert.AdHeadRIdeal.τ).loc Cert.AdHeadRIdeal.main_v10) = v3 c
          ∧ r.2.mem ((c.tc : Thread Cert.AdHeadRIdeal.nD Cert.AdHeadRIdeal.τ).loc Cert.AdHeadRIdeal.main_arg0) = m' ((c.tc : Thread Cert.AdHeadRIdeal.nD Cert.AdHeadRIdeal.τ).loc Cert.AdHeadRIdeal.main_arg0)
          ∧ r.2.mem ((c.tc : Thread Cert.AdHeadRIdeal.nD Cert.AdHeadRIdeal.τ).loc Cert.AdHeadRIdeal.main_arg1) = m' ((c.tc : Thread Cert.AdHeadRIdeal.nD Cert.AdHeadRIdeal.τ).loc Cert.AdHeadRIdeal.main_arg1)
          ∧ r.2.mem ((c.tc : Thread Cert.AdHeadRIdeal.nD Cert.AdHeadRIdeal.τ).loc Cert.AdHeadRIdeal.main_arg2) = m' ((c.tc : Thread Cert.AdHeadRIdeal.nD Cert.AdHeadRIdeal.τ).loc Cert.AdHeadRIdeal.main_arg2)
          ∧ r.2.mem ((c.tc : Thread Cert.AdHeadRIdeal.nD Cert.AdHeadRIdeal.τ).loc Cert.AdHeadRIdeal.main_arg3) = m' ((c.tc : Thread Cert.AdHeadRIdeal.nD Cert.AdHeadRIdeal.τ).loc Cert.AdHeadRIdeal.main_arg3))

def preserves_AdKeyK_AdKeyKIdeal : Prop :=
  True

def algebraic_AdKeyKIdeal_AdKeyRIdeal [hAdKeyKIdeal : Cert.AdKeyKIdeal.Facts] [hAdKeyRIdeal : Cert.AdKeyRIdeal.Facts] : Prop :=
  ∀ (m : (ℓ : Loc Cert.AdKeyKIdeal.nD Cert.AdKeyKIdeal.τ Cert.AdKeyKIdeal.sig) → Buf (Elt Ideal) ℓ) (g : Dev Cert.AdKeyKIdeal.nD → PrngReg)
    (m' : (ℓ : Loc Cert.AdKeyRIdeal.nD Cert.AdKeyRIdeal.τ Cert.AdKeyRIdeal.sig) → Buf (Elt Ideal) ℓ) (g' : Dev Cert.AdKeyRIdeal.nD → PrngReg), Pre_AdKeyKIdeal m →
    (∀ c : Dev Cert.AdKeyKIdeal.nD,
      m' ((c.tc : Thread Cert.AdKeyRIdeal.nD Cert.AdKeyRIdeal.τ).loc Cert.AdKeyRIdeal.main_arg0) = m ((c.tc : Thread Cert.AdKeyKIdeal.nD Cert.AdKeyKIdeal.τ).loc Cert.AdKeyKIdeal.main_arg0)
      ∧ m' ((c.tc : Thread Cert.AdKeyRIdeal.nD Cert.AdKeyRIdeal.τ).loc Cert.AdKeyRIdeal.main_arg1) = m ((c.tc : Thread Cert.AdKeyKIdeal.nD Cert.AdKeyKIdeal.τ).loc Cert.AdKeyKIdeal.main_arg1)
      ∧ m' ((c.tc : Thread Cert.AdKeyRIdeal.nD Cert.AdKeyRIdeal.τ).loc Cert.AdKeyRIdeal.main_arg2) = m ((c.tc : Thread Cert.AdKeyKIdeal.nD Cert.AdKeyKIdeal.τ).loc Cert.AdKeyKIdeal.main_arg2)
      ∧ m' ((c.tc : Thread Cert.AdKeyRIdeal.nD Cert.AdKeyRIdeal.τ).loc Cert.AdKeyRIdeal.main_arg3) = m ((c.tc : Thread Cert.AdKeyKIdeal.nD Cert.AdKeyKIdeal.τ).loc Cert.AdKeyKIdeal.main_arg3)) →
    ∃ (v0 : (c : Dev Cert.AdKeyKIdeal.nD) → Buf (Elt Ideal) ((c.tc : Thread Cert.AdKeyKIdeal.nD Cert.AdKeyKIdeal.τ).loc Cert.AdKeyKIdeal.main_v0_0)) (v1 : (c : Dev Cert.AdKeyKIdeal.nD) → Buf (Elt Ideal) ((c.tc : Thread Cert.AdKeyKIdeal.nD Cert.AdKeyKIdeal.τ).loc Cert.AdKeyKIdeal.main_v0_1)) (v2 : (c : Dev Cert.AdKeyKIdeal.nD) → Buf (Elt Ideal) ((c.tc : Thread Cert.AdKeyKIdeal.nD Cert.AdKeyKIdeal.τ).loc Cert.AdKeyKIdeal.main_v0_2)) (v3 : (c : Dev Cert.AdKeyKIdeal.nD) → Buf (Elt Ideal) ((c.tc : Thread Cert.AdKeyKIdeal.nD Cert.AdKeyKIdeal.τ).loc Cert.AdKeyKIdeal.main_v0_3)),
      θ_run (Cert.AdKeyKIdeal.defs (F := Ideal)) (onTc (τ := Cert.AdKeyKIdeal.τ) (Cert.AdKeyKIdeal.main (F := Ideal))) ⟨m, fun _ => 0, g⟩ (fun r => ∀ c : Dev Cert.AdKeyKIdeal.nD,
          r.2.mem ((c.tc : Thread Cert.AdKeyKIdeal.nD Cert.AdKeyKIdeal.τ).loc Cert.AdKeyKIdeal.main_v0_0) = v0 c
          ∧ r.2.mem ((c.tc : Thread Cert.AdKeyKIdeal.nD Cert.AdKeyKIdeal.τ).loc Cert.AdKeyKIdeal.main_v0_1) = v1 c
          ∧ r.2.mem ((c.tc : Thread Cert.AdKeyKIdeal.nD Cert.AdKeyKIdeal.τ).loc Cert.AdKeyKIdeal.main_v0_2) = v2 c
          ∧ r.2.mem ((c.tc : Thread Cert.AdKeyKIdeal.nD Cert.AdKeyKIdeal.τ).loc Cert.AdKeyKIdeal.main_v0_3) = v3 c
          ∧ r.2.mem ((c.tc : Thread Cert.AdKeyKIdeal.nD Cert.AdKeyKIdeal.τ).loc Cert.AdKeyKIdeal.main_arg0) = m ((c.tc : Thread Cert.AdKeyKIdeal.nD Cert.AdKeyKIdeal.τ).loc Cert.AdKeyKIdeal.main_arg0)
          ∧ r.2.mem ((c.tc : Thread Cert.AdKeyKIdeal.nD Cert.AdKeyKIdeal.τ).loc Cert.AdKeyKIdeal.main_arg1) = m ((c.tc : Thread Cert.AdKeyKIdeal.nD Cert.AdKeyKIdeal.τ).loc Cert.AdKeyKIdeal.main_arg1)
          ∧ r.2.mem ((c.tc : Thread Cert.AdKeyKIdeal.nD Cert.AdKeyKIdeal.τ).loc Cert.AdKeyKIdeal.main_arg2) = m ((c.tc : Thread Cert.AdKeyKIdeal.nD Cert.AdKeyKIdeal.τ).loc Cert.AdKeyKIdeal.main_arg2)
          ∧ r.2.mem ((c.tc : Thread Cert.AdKeyKIdeal.nD Cert.AdKeyKIdeal.τ).loc Cert.AdKeyKIdeal.main_arg3) = m ((c.tc : Thread Cert.AdKeyKIdeal.nD Cert.AdKeyKIdeal.τ).loc Cert.AdKeyKIdeal.main_arg3))
      ∧ θ_run (Cert.AdKeyRIdeal.defs (F := Ideal)) (onTc (τ := Cert.AdKeyRIdeal.τ) (Cert.AdKeyRIdeal.main (F := Ideal))) ⟨m', fun _ => 0, g'⟩ (fun r => ∀ c : Dev Cert.AdKeyRIdeal.nD,
          r.2.mem ((c.tc : Thread Cert.AdKeyRIdeal.nD Cert.AdKeyRIdeal.τ).loc Cert.AdKeyRIdeal.main_arg0) = v0 c
          ∧ r.2.mem ((c.tc : Thread Cert.AdKeyRIdeal.nD Cert.AdKeyRIdeal.τ).loc Cert.AdKeyRIdeal.main_v23) = v1 c
          ∧ r.2.mem ((c.tc : Thread Cert.AdKeyRIdeal.nD Cert.AdKeyRIdeal.τ).loc Cert.AdKeyRIdeal.main_v4) = v2 c
          ∧ r.2.mem ((c.tc : Thread Cert.AdKeyRIdeal.nD Cert.AdKeyRIdeal.τ).loc Cert.AdKeyRIdeal.main_v10) = v3 c
          ∧ r.2.mem ((c.tc : Thread Cert.AdKeyRIdeal.nD Cert.AdKeyRIdeal.τ).loc Cert.AdKeyRIdeal.main_arg0) = m' ((c.tc : Thread Cert.AdKeyRIdeal.nD Cert.AdKeyRIdeal.τ).loc Cert.AdKeyRIdeal.main_arg0)
          ∧ r.2.mem ((c.tc : Thread Cert.AdKeyRIdeal.nD Cert.AdKeyRIdeal.τ).loc Cert.AdKeyRIdeal.main_arg1) = m' ((c.tc : Thread Cert.AdKeyRIdeal.nD Cert.AdKeyRIdeal.τ).loc Cert.AdKeyRIdeal.main_arg1)
          ∧ r.2.mem ((c.tc : Thread Cert.AdKeyRIdeal.nD Cert.AdKeyRIdeal.τ).loc Cert.AdKeyRIdeal.main_arg2) = m' ((c.tc : Thread Cert.AdKeyRIdeal.nD Cert.AdKeyRIdeal.τ).loc Cert.AdKeyRIdeal.main_arg2)
          ∧ r.2.mem ((c.tc : Thread Cert.AdKeyRIdeal.nD Cert.AdKeyRIdeal.τ).loc Cert.AdKeyRIdeal.main_arg3) = m' ((c.tc : Thread Cert.AdKeyRIdeal.nD Cert.AdKeyRIdeal.τ).loc Cert.AdKeyRIdeal.main_arg3))

def preserves_AdFbK_AdFbKIdeal : Prop :=
  True

def algebraic_AdFbKIdeal_AdFbRIdeal [hAdFbKIdeal : Cert.AdFbKIdeal.Facts] [hAdFbRIdeal : Cert.AdFbRIdeal.Facts] : Prop :=
  ∀ (m : (ℓ : Loc Cert.AdFbKIdeal.nD Cert.AdFbKIdeal.τ Cert.AdFbKIdeal.sig) → Buf (Elt Ideal) ℓ) (g : Dev Cert.AdFbKIdeal.nD → PrngReg)
    (m' : (ℓ : Loc Cert.AdFbRIdeal.nD Cert.AdFbRIdeal.τ Cert.AdFbRIdeal.sig) → Buf (Elt Ideal) ℓ) (g' : Dev Cert.AdFbRIdeal.nD → PrngReg), Pre_AdFbKIdeal m →
    (∀ c : Dev Cert.AdFbKIdeal.nD,
      m' ((c.tc : Thread Cert.AdFbRIdeal.nD Cert.AdFbRIdeal.τ).loc Cert.AdFbRIdeal.main_arg0) = m ((c.tc : Thread Cert.AdFbKIdeal.nD Cert.AdFbKIdeal.τ).loc Cert.AdFbKIdeal.main_arg0)
      ∧ m' ((c.tc : Thread Cert.AdFbRIdeal.nD Cert.AdFbRIdeal.τ).loc Cert.AdFbRIdeal.main_arg1) = m ((c.tc : Thread Cert.AdFbKIdeal.nD Cert.AdFbKIdeal.τ).loc Cert.AdFbKIdeal.main_arg1)
      ∧ m' ((c.tc : Thread Cert.AdFbRIdeal.nD Cert.AdFbRIdeal.τ).loc Cert.AdFbRIdeal.main_arg2) = m ((c.tc : Thread Cert.AdFbKIdeal.nD Cert.AdFbKIdeal.τ).loc Cert.AdFbKIdeal.main_arg2)
      ∧ m' ((c.tc : Thread Cert.AdFbRIdeal.nD Cert.AdFbRIdeal.τ).loc Cert.AdFbRIdeal.main_arg3) = m ((c.tc : Thread Cert.AdFbKIdeal.nD Cert.AdFbKIdeal.τ).loc Cert.AdFbKIdeal.main_arg3)) →
    ∃ (v0 : (c : Dev Cert.AdFbKIdeal.nD) → Buf (Elt Ideal) ((c.tc : Thread Cert.AdFbKIdeal.nD Cert.AdFbKIdeal.τ).loc Cert.AdFbKIdeal.main_v0_0)) (v1 : (c : Dev Cert.AdFbKIdeal.nD) → Buf (Elt Ideal) ((c.tc : Thread Cert.AdFbKIdeal.nD Cert.AdFbKIdeal.τ).loc Cert.AdFbKIdeal.main_v0_1)) (v2 : (c : Dev Cert.AdFbKIdeal.nD) → Buf (Elt Ideal) ((c.tc : Thread Cert.AdFbKIdeal.nD Cert.AdFbKIdeal.τ).loc Cert.AdFbKIdeal.main_v0_2)) (v3 : (c : Dev Cert.AdFbKIdeal.nD) → Buf (Elt Ideal) ((c.tc : Thread Cert.AdFbKIdeal.nD Cert.AdFbKIdeal.τ).loc Cert.AdFbKIdeal.main_v0_3)),
      θ_run (Cert.AdFbKIdeal.defs (F := Ideal)) (onTc (τ := Cert.AdFbKIdeal.τ) (Cert.AdFbKIdeal.main (F := Ideal))) ⟨m, fun _ => 0, g⟩ (fun r => ∀ c : Dev Cert.AdFbKIdeal.nD,
          r.2.mem ((c.tc : Thread Cert.AdFbKIdeal.nD Cert.AdFbKIdeal.τ).loc Cert.AdFbKIdeal.main_v0_0) = v0 c
          ∧ r.2.mem ((c.tc : Thread Cert.AdFbKIdeal.nD Cert.AdFbKIdeal.τ).loc Cert.AdFbKIdeal.main_v0_1) = v1 c
          ∧ r.2.mem ((c.tc : Thread Cert.AdFbKIdeal.nD Cert.AdFbKIdeal.τ).loc Cert.AdFbKIdeal.main_v0_2) = v2 c
          ∧ r.2.mem ((c.tc : Thread Cert.AdFbKIdeal.nD Cert.AdFbKIdeal.τ).loc Cert.AdFbKIdeal.main_v0_3) = v3 c
          ∧ r.2.mem ((c.tc : Thread Cert.AdFbKIdeal.nD Cert.AdFbKIdeal.τ).loc Cert.AdFbKIdeal.main_arg0) = m ((c.tc : Thread Cert.AdFbKIdeal.nD Cert.AdFbKIdeal.τ).loc Cert.AdFbKIdeal.main_arg0)
          ∧ r.2.mem ((c.tc : Thread Cert.AdFbKIdeal.nD Cert.AdFbKIdeal.τ).loc Cert.AdFbKIdeal.main_arg1) = m ((c.tc : Thread Cert.AdFbKIdeal.nD Cert.AdFbKIdeal.τ).loc Cert.AdFbKIdeal.main_arg1)
          ∧ r.2.mem ((c.tc : Thread Cert.AdFbKIdeal.nD Cert.AdFbKIdeal.τ).loc Cert.AdFbKIdeal.main_arg2) = m ((c.tc : Thread Cert.AdFbKIdeal.nD Cert.AdFbKIdeal.τ).loc Cert.AdFbKIdeal.main_arg2)
          ∧ r.2.mem ((c.tc : Thread Cert.AdFbKIdeal.nD Cert.AdFbKIdeal.τ).loc Cert.AdFbKIdeal.main_arg3) = m ((c.tc : Thread Cert.AdFbKIdeal.nD Cert.AdFbKIdeal.τ).loc Cert.AdFbKIdeal.main_arg3))
      ∧ θ_run (Cert.AdFbRIdeal.defs (F := Ideal)) (onTc (τ := Cert.AdFbRIdeal.τ) (Cert.AdFbRIdeal.main (F := Ideal))) ⟨m', fun _ => 0, g'⟩ (fun r => ∀ c : Dev Cert.AdFbRIdeal.nD,
          r.2.mem ((c.tc : Thread Cert.AdFbRIdeal.nD Cert.AdFbRIdeal.τ).loc Cert.AdFbRIdeal.main_arg0) = v0 c
          ∧ r.2.mem ((c.tc : Thread Cert.AdFbRIdeal.nD Cert.AdFbRIdeal.τ).loc Cert.AdFbRIdeal.main_v23) = v1 c
          ∧ r.2.mem ((c.tc : Thread Cert.AdFbRIdeal.nD Cert.AdFbRIdeal.τ).loc Cert.AdFbRIdeal.main_v4) = v2 c
          ∧ r.2.mem ((c.tc : Thread Cert.AdFbRIdeal.nD Cert.AdFbRIdeal.τ).loc Cert.AdFbRIdeal.main_v10) = v3 c
          ∧ r.2.mem ((c.tc : Thread Cert.AdFbRIdeal.nD Cert.AdFbRIdeal.τ).loc Cert.AdFbRIdeal.main_arg0) = m' ((c.tc : Thread Cert.AdFbRIdeal.nD Cert.AdFbRIdeal.τ).loc Cert.AdFbRIdeal.main_arg0)
          ∧ r.2.mem ((c.tc : Thread Cert.AdFbRIdeal.nD Cert.AdFbRIdeal.τ).loc Cert.AdFbRIdeal.main_arg1) = m' ((c.tc : Thread Cert.AdFbRIdeal.nD Cert.AdFbRIdeal.τ).loc Cert.AdFbRIdeal.main_arg1)
          ∧ r.2.mem ((c.tc : Thread Cert.AdFbRIdeal.nD Cert.AdFbRIdeal.τ).loc Cert.AdFbRIdeal.main_arg2) = m' ((c.tc : Thread Cert.AdFbRIdeal.nD Cert.AdFbRIdeal.τ).loc Cert.AdFbRIdeal.main_arg2)
          ∧ r.2.mem ((c.tc : Thread Cert.AdFbRIdeal.nD Cert.AdFbRIdeal.τ).loc Cert.AdFbRIdeal.main_arg3) = m' ((c.tc : Thread Cert.AdFbRIdeal.nD Cert.AdFbRIdeal.τ).loc Cert.AdFbRIdeal.main_arg3))

def preserves_NormK_NormKIdeal : Prop :=
  True

def algebraic_NormKIdeal_NormRIdeal [hNormKIdeal : Cert.NormKIdeal.Facts] [hNormRIdeal : Cert.NormRIdeal.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)) →
    ∃ (v0 : (c : Dev Cert.NormKIdeal.nD) → Buf (Elt Ideal) ((c.tc : Thread Cert.NormKIdeal.nD Cert.NormKIdeal.τ).loc Cert.NormKIdeal.main_v1)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v1) = v0 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v13) = v0 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1))

def preserves_DnormK_DnormKIdeal : Prop :=
  True

def algebraic_DnormKIdeal_DnormRIdeal [hDnormKIdeal : Cert.DnormKIdeal.Facts] [hDnormRIdeal : Cert.DnormRIdeal.Facts] : Prop :=
  ∀ (m : (ℓ : Loc Cert.DnormKIdeal.nD Cert.DnormKIdeal.τ Cert.DnormKIdeal.sig) → Buf (Elt Ideal) ℓ) (g : Dev Cert.DnormKIdeal.nD → PrngReg)
    (m' : (ℓ : Loc Cert.DnormRIdeal.nD Cert.DnormRIdeal.τ Cert.DnormRIdeal.sig) → Buf (Elt Ideal) ℓ) (g' : Dev Cert.DnormRIdeal.nD → PrngReg), Pre_DnormKIdeal m →
    (∀ c : Dev Cert.DnormKIdeal.nD,
      m' ((c.tc : Thread Cert.DnormRIdeal.nD Cert.DnormRIdeal.τ).loc Cert.DnormRIdeal.main_arg0) = m ((c.tc : Thread Cert.DnormKIdeal.nD Cert.DnormKIdeal.τ).loc Cert.DnormKIdeal.main_arg0)
      ∧ m' ((c.tc : Thread Cert.DnormRIdeal.nD Cert.DnormRIdeal.τ).loc Cert.DnormRIdeal.main_arg1) = m ((c.tc : Thread Cert.DnormKIdeal.nD Cert.DnormKIdeal.τ).loc Cert.DnormKIdeal.main_arg1)
      ∧ m' ((c.tc : Thread Cert.DnormRIdeal.nD Cert.DnormRIdeal.τ).loc Cert.DnormRIdeal.main_arg2) = m ((c.tc : Thread Cert.DnormKIdeal.nD Cert.DnormKIdeal.τ).loc Cert.DnormKIdeal.main_arg2)
      ∧ m' ((c.tc : Thread Cert.DnormRIdeal.nD Cert.DnormRIdeal.τ).loc Cert.DnormRIdeal.main_arg3) = m ((c.tc : Thread Cert.DnormKIdeal.nD Cert.DnormKIdeal.τ).loc Cert.DnormKIdeal.main_arg3)) →
    ∃ (v0 : (c : Dev Cert.DnormKIdeal.nD) → Buf (Elt Ideal) ((c.tc : Thread Cert.DnormKIdeal.nD Cert.DnormKIdeal.τ).loc Cert.DnormKIdeal.main_v1_0)) (v1 : (c : Dev Cert.DnormKIdeal.nD) → Buf (Elt Ideal) ((c.tc : Thread Cert.DnormKIdeal.nD Cert.DnormKIdeal.τ).loc Cert.DnormKIdeal.main_v1_1)) (v2 : (c : Dev Cert.DnormKIdeal.nD) → Buf (Elt Ideal) ((c.tc : Thread Cert.DnormKIdeal.nD Cert.DnormKIdeal.τ).loc Cert.DnormKIdeal.main_v1_2)),
      θ_run (Cert.DnormKIdeal.defs (F := Ideal)) (onTc (τ := Cert.DnormKIdeal.τ) (Cert.DnormKIdeal.main (F := Ideal))) ⟨m, fun _ => 0, g⟩ (fun r => ∀ c : Dev Cert.DnormKIdeal.nD,
          r.2.mem ((c.tc : Thread Cert.DnormKIdeal.nD Cert.DnormKIdeal.τ).loc Cert.DnormKIdeal.main_v1_0) = v0 c
          ∧ r.2.mem ((c.tc : Thread Cert.DnormKIdeal.nD Cert.DnormKIdeal.τ).loc Cert.DnormKIdeal.main_v1_1) = v1 c
          ∧ r.2.mem ((c.tc : Thread Cert.DnormKIdeal.nD Cert.DnormKIdeal.τ).loc Cert.DnormKIdeal.main_v1_2) = v2 c
          ∧ r.2.mem ((c.tc : Thread Cert.DnormKIdeal.nD Cert.DnormKIdeal.τ).loc Cert.DnormKIdeal.main_arg0) = m ((c.tc : Thread Cert.DnormKIdeal.nD Cert.DnormKIdeal.τ).loc Cert.DnormKIdeal.main_arg0)
          ∧ r.2.mem ((c.tc : Thread Cert.DnormKIdeal.nD Cert.DnormKIdeal.τ).loc Cert.DnormKIdeal.main_arg1) = m ((c.tc : Thread Cert.DnormKIdeal.nD Cert.DnormKIdeal.τ).loc Cert.DnormKIdeal.main_arg1)
          ∧ r.2.mem ((c.tc : Thread Cert.DnormKIdeal.nD Cert.DnormKIdeal.τ).loc Cert.DnormKIdeal.main_arg2) = m ((c.tc : Thread Cert.DnormKIdeal.nD Cert.DnormKIdeal.τ).loc Cert.DnormKIdeal.main_arg2)
          ∧ r.2.mem ((c.tc : Thread Cert.DnormKIdeal.nD Cert.DnormKIdeal.τ).loc Cert.DnormKIdeal.main_arg3) = m ((c.tc : Thread Cert.DnormKIdeal.nD Cert.DnormKIdeal.τ).loc Cert.DnormKIdeal.main_arg3))
      ∧ θ_run (Cert.DnormRIdeal.defs (F := Ideal)) (onTc (τ := Cert.DnormRIdeal.τ) (Cert.DnormRIdeal.main (F := Ideal))) ⟨m', fun _ => 0, g'⟩ (fun r => ∀ c : Dev Cert.DnormRIdeal.nD,
          r.2.mem ((c.tc : Thread Cert.DnormRIdeal.nD Cert.DnormRIdeal.τ).loc Cert.DnormRIdeal.main_v36) = v0 c
          ∧ r.2.mem ((c.tc : Thread Cert.DnormRIdeal.nD Cert.DnormRIdeal.τ).loc Cert.DnormRIdeal.main_v37) = v1 c
          ∧ r.2.mem ((c.tc : Thread Cert.DnormRIdeal.nD Cert.DnormRIdeal.τ).loc Cert.DnormRIdeal.main_v38) = v2 c
          ∧ r.2.mem ((c.tc : Thread Cert.DnormRIdeal.nD Cert.DnormRIdeal.τ).loc Cert.DnormRIdeal.main_arg0) = m' ((c.tc : Thread Cert.DnormRIdeal.nD Cert.DnormRIdeal.τ).loc Cert.DnormRIdeal.main_arg0)
          ∧ r.2.mem ((c.tc : Thread Cert.DnormRIdeal.nD Cert.DnormRIdeal.τ).loc Cert.DnormRIdeal.main_arg1) = m' ((c.tc : Thread Cert.DnormRIdeal.nD Cert.DnormRIdeal.τ).loc Cert.DnormRIdeal.main_arg1)
          ∧ r.2.mem ((c.tc : Thread Cert.DnormRIdeal.nD Cert.DnormRIdeal.τ).loc Cert.DnormRIdeal.main_arg2) = m' ((c.tc : Thread Cert.DnormRIdeal.nD Cert.DnormRIdeal.τ).loc Cert.DnormRIdeal.main_arg2)
          ∧ r.2.mem ((c.tc : Thread Cert.DnormRIdeal.nD Cert.DnormRIdeal.τ).loc Cert.DnormRIdeal.main_arg3) = m' ((c.tc : Thread Cert.DnormRIdeal.nD Cert.DnormRIdeal.τ).loc Cert.DnormRIdeal.main_arg3))

def preserves_LossK_LossKIdeal : Prop :=
  True

def algebraic_LossKIdeal_LossRIdeal [hLossKIdeal : Cert.LossKIdeal.Facts] [hLossRIdeal : Cert.LossRIdeal.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)) →
    ∃ (v0 : (c : Dev Cert.LossKIdeal.nD) → Buf (Elt Ideal) ((c.tc : Thread Cert.LossKIdeal.nD Cert.LossKIdeal.τ).loc Cert.LossKIdeal.main_v1_0)) (v1 : (c : Dev Cert.LossKIdeal.nD) → Buf (Elt Ideal) ((c.tc : Thread Cert.LossKIdeal.nD Cert.LossKIdeal.τ).loc Cert.LossKIdeal.main_v1_1)) (v2 : (c : Dev Cert.LossKIdeal.nD) → Buf (Elt Ideal) ((c.tc : Thread Cert.LossKIdeal.nD Cert.LossKIdeal.τ).loc Cert.LossKIdeal.main_v1_2)) (v3 : (c : Dev Cert.LossKIdeal.nD) → Buf (Elt Ideal) ((c.tc : Thread Cert.LossKIdeal.nD Cert.LossKIdeal.τ).loc Cert.LossKIdeal.main_v1_3)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v1_0) = v0 c
          ∧ r.2.mem ((c.tc : Thread Cert.LossKIdeal.nD Cert.LossKIdeal.τ).loc Cert.LossKIdeal.main_v1_1) = v1 c
          ∧ r.2.mem ((c.tc : Thread Cert.LossKIdeal.nD Cert.LossKIdeal.τ).loc Cert.LossKIdeal.main_v1_2) = v2 c
          ∧ r.2.mem ((c.tc : Thread Cert.LossKIdeal.nD Cert.LossKIdeal.τ).loc Cert.LossKIdeal.main_v1_3) = v3 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v51) = v0 c
          ∧ r.2.mem ((c.tc : Thread Cert.LossRIdeal.nD Cert.LossRIdeal.τ).loc Cert.LossRIdeal.main_v50) = v1 c
          ∧ r.2.mem ((c.tc : Thread Cert.LossRIdeal.nD Cert.LossRIdeal.τ).loc Cert.LossRIdeal.main_v52) = v2 c
          ∧ r.2.mem ((c.tc : Thread Cert.LossRIdeal.nD Cert.LossRIdeal.τ).loc Cert.LossRIdeal.main_v53) = v3 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_QkvFK_QkvFKIdeal : Prop :=
  True

def algebraic_QkvFKIdeal_QkvFRIdeal [hQkvFKIdeal : Cert.QkvFKIdeal.Facts] [hQkvFRIdeal : Cert.QkvFRIdeal.Facts] : Prop :=
  ∀ (m : (ℓ : Loc Cert.QkvFKIdeal.nD Cert.QkvFKIdeal.τ Cert.QkvFKIdeal.sig) → Buf (Elt Ideal) ℓ) (g : Dev Cert.QkvFKIdeal.nD → PrngReg)
    (m' : (ℓ : Loc Cert.QkvFRIdeal.nD Cert.QkvFRIdeal.τ Cert.QkvFRIdeal.sig) → Buf (Elt Ideal) ℓ) (g' : Dev Cert.QkvFRIdeal.nD → PrngReg), Pre_QkvFKIdeal m →
    (∀ c : Dev Cert.QkvFKIdeal.nD,
      m' ((c.tc : Thread Cert.QkvFRIdeal.nD Cert.QkvFRIdeal.τ).loc Cert.QkvFRIdeal.main_arg0) = m ((c.tc : Thread Cert.QkvFKIdeal.nD Cert.QkvFKIdeal.τ).loc Cert.QkvFKIdeal.main_arg0)
      ∧ m' ((c.tc : Thread Cert.QkvFRIdeal.nD Cert.QkvFRIdeal.τ).loc Cert.QkvFRIdeal.main_arg1) = m ((c.tc : Thread Cert.QkvFKIdeal.nD Cert.QkvFKIdeal.τ).loc Cert.QkvFKIdeal.main_arg1)) →
    ∃ (v0 : (c : Dev Cert.QkvFKIdeal.nD) → Buf (Elt Ideal) ((c.tc : Thread Cert.QkvFKIdeal.nD Cert.QkvFKIdeal.τ).loc Cert.QkvFKIdeal.main_v0)),
      θ_run (Cert.QkvFKIdeal.defs (F := Ideal)) (onTc (τ := Cert.QkvFKIdeal.τ) (Cert.QkvFKIdeal.main (F := Ideal))) ⟨m, fun _ => 0, g⟩ (fun r => ∀ c : Dev Cert.QkvFKIdeal.nD,
          r.2.mem ((c.tc : Thread Cert.QkvFKIdeal.nD Cert.QkvFKIdeal.τ).loc Cert.QkvFKIdeal.main_v0) = v0 c
          ∧ r.2.mem ((c.tc : Thread Cert.QkvFKIdeal.nD Cert.QkvFKIdeal.τ).loc Cert.QkvFKIdeal.main_arg0) = m ((c.tc : Thread Cert.QkvFKIdeal.nD Cert.QkvFKIdeal.τ).loc Cert.QkvFKIdeal.main_arg0)
          ∧ r.2.mem ((c.tc : Thread Cert.QkvFKIdeal.nD Cert.QkvFKIdeal.τ).loc Cert.QkvFKIdeal.main_arg1) = m ((c.tc : Thread Cert.QkvFKIdeal.nD Cert.QkvFKIdeal.τ).loc Cert.QkvFKIdeal.main_arg1))
      ∧ θ_run (Cert.QkvFRIdeal.defs (F := Ideal)) (onTc (τ := Cert.QkvFRIdeal.τ) (Cert.QkvFRIdeal.main (F := Ideal))) ⟨m', fun _ => 0, g'⟩ (fun r => ∀ c : Dev Cert.QkvFRIdeal.nD,
          r.2.mem ((c.tc : Thread Cert.QkvFRIdeal.nD Cert.QkvFRIdeal.τ).loc Cert.QkvFRIdeal.main_v18) = v0 c
          ∧ r.2.mem ((c.tc : Thread Cert.QkvFRIdeal.nD Cert.QkvFRIdeal.τ).loc Cert.QkvFRIdeal.main_arg0) = m' ((c.tc : Thread Cert.QkvFRIdeal.nD Cert.QkvFRIdeal.τ).loc Cert.QkvFRIdeal.main_arg0)
          ∧ r.2.mem ((c.tc : Thread Cert.QkvFRIdeal.nD Cert.QkvFRIdeal.τ).loc Cert.QkvFRIdeal.main_arg1) = m' ((c.tc : Thread Cert.QkvFRIdeal.nD Cert.QkvFRIdeal.τ).loc Cert.QkvFRIdeal.main_arg1))

def preserves_FfnFK_FfnFKIdeal : Prop :=
  True

def algebraic_FfnFKIdeal_FfnFRIdeal [hFfnFKIdeal : Cert.FfnFKIdeal.Facts] [hFfnFRIdeal : Cert.FfnFRIdeal.Facts] : Prop :=
  ∀ (m : (ℓ : Loc Cert.FfnFKIdeal.nD Cert.FfnFKIdeal.τ Cert.FfnFKIdeal.sig) → Buf (Elt Ideal) ℓ) (g : Dev Cert.FfnFKIdeal.nD → PrngReg)
    (m' : (ℓ : Loc Cert.FfnFRIdeal.nD Cert.FfnFRIdeal.τ Cert.FfnFRIdeal.sig) → Buf (Elt Ideal) ℓ) (g' : Dev Cert.FfnFRIdeal.nD → PrngReg), Pre_FfnFKIdeal m →
    (∀ c : Dev Cert.FfnFKIdeal.nD,
      m' ((c.tc : Thread Cert.FfnFRIdeal.nD Cert.FfnFRIdeal.τ).loc Cert.FfnFRIdeal.main_arg0) = m ((c.tc : Thread Cert.FfnFKIdeal.nD Cert.FfnFKIdeal.τ).loc Cert.FfnFKIdeal.main_arg0)
      ∧ m' ((c.tc : Thread Cert.FfnFRIdeal.nD Cert.FfnFRIdeal.τ).loc Cert.FfnFRIdeal.main_arg1) = m ((c.tc : Thread Cert.FfnFKIdeal.nD Cert.FfnFKIdeal.τ).loc Cert.FfnFKIdeal.main_arg1)
      ∧ m' ((c.tc : Thread Cert.FfnFRIdeal.nD Cert.FfnFRIdeal.τ).loc Cert.FfnFRIdeal.main_arg2) = m ((c.tc : Thread Cert.FfnFKIdeal.nD Cert.FfnFKIdeal.τ).loc Cert.FfnFKIdeal.main_arg2)) →
    ∃ (v0 : (c : Dev Cert.FfnFKIdeal.nD) → Buf (Elt Ideal) ((c.tc : Thread Cert.FfnFKIdeal.nD Cert.FfnFKIdeal.τ).loc Cert.FfnFKIdeal.main_v1)),
      θ_run (Cert.FfnFKIdeal.defs (F := Ideal)) (onTc (τ := Cert.FfnFKIdeal.τ) (Cert.FfnFKIdeal.main (F := Ideal))) ⟨m, fun _ => 0, g⟩ (fun r => ∀ c : Dev Cert.FfnFKIdeal.nD,
          r.2.mem ((c.tc : Thread Cert.FfnFKIdeal.nD Cert.FfnFKIdeal.τ).loc Cert.FfnFKIdeal.main_v1) = v0 c
          ∧ r.2.mem ((c.tc : Thread Cert.FfnFKIdeal.nD Cert.FfnFKIdeal.τ).loc Cert.FfnFKIdeal.main_arg0) = m ((c.tc : Thread Cert.FfnFKIdeal.nD Cert.FfnFKIdeal.τ).loc Cert.FfnFKIdeal.main_arg0)
          ∧ r.2.mem ((c.tc : Thread Cert.FfnFKIdeal.nD Cert.FfnFKIdeal.τ).loc Cert.FfnFKIdeal.main_arg1) = m ((c.tc : Thread Cert.FfnFKIdeal.nD Cert.FfnFKIdeal.τ).loc Cert.FfnFKIdeal.main_arg1)
          ∧ r.2.mem ((c.tc : Thread Cert.FfnFKIdeal.nD Cert.FfnFKIdeal.τ).loc Cert.FfnFKIdeal.main_arg2) = m ((c.tc : Thread Cert.FfnFKIdeal.nD Cert.FfnFKIdeal.τ).loc Cert.FfnFKIdeal.main_arg2))
      ∧ θ_run (Cert.FfnFRIdeal.defs (F := Ideal)) (onTc (τ := Cert.FfnFRIdeal.τ) (Cert.FfnFRIdeal.main (F := Ideal))) ⟨m', fun _ => 0, g'⟩ (fun r => ∀ c : Dev Cert.FfnFRIdeal.nD,
          r.2.mem ((c.tc : Thread Cert.FfnFRIdeal.nD Cert.FfnFRIdeal.τ).loc Cert.FfnFRIdeal.main_v26) = v0 c
          ∧ r.2.mem ((c.tc : Thread Cert.FfnFRIdeal.nD Cert.FfnFRIdeal.τ).loc Cert.FfnFRIdeal.main_arg0) = m' ((c.tc : Thread Cert.FfnFRIdeal.nD Cert.FfnFRIdeal.τ).loc Cert.FfnFRIdeal.main_arg0)
          ∧ r.2.mem ((c.tc : Thread Cert.FfnFRIdeal.nD Cert.FfnFRIdeal.τ).loc Cert.FfnFRIdeal.main_arg1) = m' ((c.tc : Thread Cert.FfnFRIdeal.nD Cert.FfnFRIdeal.τ).loc Cert.FfnFRIdeal.main_arg1)
          ∧ r.2.mem ((c.tc : Thread Cert.FfnFRIdeal.nD Cert.FfnFRIdeal.τ).loc Cert.FfnFRIdeal.main_arg2) = m' ((c.tc : Thread Cert.FfnFRIdeal.nD Cert.FfnFRIdeal.τ).loc Cert.FfnFRIdeal.main_arg2))

def preserves_ConfFK_ConfFKIdeal : Prop :=
  True

def algebraic_ConfFKIdeal_ConfFRIdeal [hConfFKIdeal : Cert.ConfFKIdeal.Facts] [hConfFRIdeal : Cert.ConfFRIdeal.Facts] : Prop :=
  ∀ (m : (ℓ : Loc Cert.ConfFKIdeal.nD Cert.ConfFKIdeal.τ Cert.ConfFKIdeal.sig) → Buf (Elt Ideal) ℓ) (g : Dev Cert.ConfFKIdeal.nD → PrngReg)
    (m' : (ℓ : Loc Cert.ConfFRIdeal.nD Cert.ConfFRIdeal.τ Cert.ConfFRIdeal.sig) → Buf (Elt Ideal) ℓ) (g' : Dev Cert.ConfFRIdeal.nD → PrngReg), Pre_ConfFKIdeal m →
    (∀ c : Dev Cert.ConfFKIdeal.nD,
      m' ((c.tc : Thread Cert.ConfFRIdeal.nD Cert.ConfFRIdeal.τ).loc Cert.ConfFRIdeal.main_arg0) = m ((c.tc : Thread Cert.ConfFKIdeal.nD Cert.ConfFKIdeal.τ).loc Cert.ConfFKIdeal.main_arg0)
      ∧ m' ((c.tc : Thread Cert.ConfFRIdeal.nD Cert.ConfFRIdeal.τ).loc Cert.ConfFRIdeal.main_arg1) = m ((c.tc : Thread Cert.ConfFKIdeal.nD Cert.ConfFKIdeal.τ).loc Cert.ConfFKIdeal.main_arg1)
      ∧ m' ((c.tc : Thread Cert.ConfFRIdeal.nD Cert.ConfFRIdeal.τ).loc Cert.ConfFRIdeal.main_arg2) = m ((c.tc : Thread Cert.ConfFKIdeal.nD Cert.ConfFKIdeal.τ).loc Cert.ConfFKIdeal.main_arg2)
      ∧ m' ((c.tc : Thread Cert.ConfFRIdeal.nD Cert.ConfFRIdeal.τ).loc Cert.ConfFRIdeal.main_arg3) = m ((c.tc : Thread Cert.ConfFKIdeal.nD Cert.ConfFKIdeal.τ).loc Cert.ConfFKIdeal.main_arg3)
      ∧ m' ((c.tc : Thread Cert.ConfFRIdeal.nD Cert.ConfFRIdeal.τ).loc Cert.ConfFRIdeal.main_arg4) = m ((c.tc : Thread Cert.ConfFKIdeal.nD Cert.ConfFKIdeal.τ).loc Cert.ConfFKIdeal.main_arg4)) →
    ∃ (v0 : (c : Dev Cert.ConfFKIdeal.nD) → Buf (Elt Ideal) ((c.tc : Thread Cert.ConfFKIdeal.nD Cert.ConfFKIdeal.τ).loc Cert.ConfFKIdeal.main_v3_0)) (v1 : (c : Dev Cert.ConfFKIdeal.nD) → Buf (Elt Ideal) ((c.tc : Thread Cert.ConfFKIdeal.nD Cert.ConfFKIdeal.τ).loc Cert.ConfFKIdeal.main_v3_1)),
      θ_run (Cert.ConfFKIdeal.defs (F := Ideal)) (onTc (τ := Cert.ConfFKIdeal.τ) (Cert.ConfFKIdeal.main (F := Ideal))) ⟨m, fun _ => 0, g⟩ (fun r => ∀ c : Dev Cert.ConfFKIdeal.nD,
          r.2.mem ((c.tc : Thread Cert.ConfFKIdeal.nD Cert.ConfFKIdeal.τ).loc Cert.ConfFKIdeal.main_v3_0) = v0 c
          ∧ r.2.mem ((c.tc : Thread Cert.ConfFKIdeal.nD Cert.ConfFKIdeal.τ).loc Cert.ConfFKIdeal.main_v3_1) = v1 c
          ∧ r.2.mem ((c.tc : Thread Cert.ConfFKIdeal.nD Cert.ConfFKIdeal.τ).loc Cert.ConfFKIdeal.main_arg0) = m ((c.tc : Thread Cert.ConfFKIdeal.nD Cert.ConfFKIdeal.τ).loc Cert.ConfFKIdeal.main_arg0)
          ∧ r.2.mem ((c.tc : Thread Cert.ConfFKIdeal.nD Cert.ConfFKIdeal.τ).loc Cert.ConfFKIdeal.main_arg1) = m ((c.tc : Thread Cert.ConfFKIdeal.nD Cert.ConfFKIdeal.τ).loc Cert.ConfFKIdeal.main_arg1)
          ∧ r.2.mem ((c.tc : Thread Cert.ConfFKIdeal.nD Cert.ConfFKIdeal.τ).loc Cert.ConfFKIdeal.main_arg2) = m ((c.tc : Thread Cert.ConfFKIdeal.nD Cert.ConfFKIdeal.τ).loc Cert.ConfFKIdeal.main_arg2)
          ∧ r.2.mem ((c.tc : Thread Cert.ConfFKIdeal.nD Cert.ConfFKIdeal.τ).loc Cert.ConfFKIdeal.main_arg3) = m ((c.tc : Thread Cert.ConfFKIdeal.nD Cert.ConfFKIdeal.τ).loc Cert.ConfFKIdeal.main_arg3)
          ∧ r.2.mem ((c.tc : Thread Cert.ConfFKIdeal.nD Cert.ConfFKIdeal.τ).loc Cert.ConfFKIdeal.main_arg4) = m ((c.tc : Thread Cert.ConfFKIdeal.nD Cert.ConfFKIdeal.τ).loc Cert.ConfFKIdeal.main_arg4))
      ∧ θ_run (Cert.ConfFRIdeal.defs (F := Ideal)) (onTc (τ := Cert.ConfFRIdeal.τ) (Cert.ConfFRIdeal.main (F := Ideal))) ⟨m', fun _ => 0, g'⟩ (fun r => ∀ c : Dev Cert.ConfFRIdeal.nD,
          r.2.mem ((c.tc : Thread Cert.ConfFRIdeal.nD Cert.ConfFRIdeal.τ).loc Cert.ConfFRIdeal.main_v58) = v0 c
          ∧ r.2.mem ((c.tc : Thread Cert.ConfFRIdeal.nD Cert.ConfFRIdeal.τ).loc Cert.ConfFRIdeal.main_v59) = v1 c
          ∧ r.2.mem ((c.tc : Thread Cert.ConfFRIdeal.nD Cert.ConfFRIdeal.τ).loc Cert.ConfFRIdeal.main_arg0) = m' ((c.tc : Thread Cert.ConfFRIdeal.nD Cert.ConfFRIdeal.τ).loc Cert.ConfFRIdeal.main_arg0)
          ∧ r.2.mem ((c.tc : Thread Cert.ConfFRIdeal.nD Cert.ConfFRIdeal.τ).loc Cert.ConfFRIdeal.main_arg1) = m' ((c.tc : Thread Cert.ConfFRIdeal.nD Cert.ConfFRIdeal.τ).loc Cert.ConfFRIdeal.main_arg1)
          ∧ r.2.mem ((c.tc : Thread Cert.ConfFRIdeal.nD Cert.ConfFRIdeal.τ).loc Cert.ConfFRIdeal.main_arg2) = m' ((c.tc : Thread Cert.ConfFRIdeal.nD Cert.ConfFRIdeal.τ).loc Cert.ConfFRIdeal.main_arg2)
          ∧ r.2.mem ((c.tc : Thread Cert.ConfFRIdeal.nD Cert.ConfFRIdeal.τ).loc Cert.ConfFRIdeal.main_arg3) = m' ((c.tc : Thread Cert.ConfFRIdeal.nD Cert.ConfFRIdeal.τ).loc Cert.ConfFRIdeal.main_arg3)
          ∧ r.2.mem ((c.tc : Thread Cert.ConfFRIdeal.nD Cert.ConfFRIdeal.τ).loc Cert.ConfFRIdeal.main_arg4) = m' ((c.tc : Thread Cert.ConfFRIdeal.nD Cert.ConfFRIdeal.τ).loc Cert.ConfFRIdeal.main_arg4))

def preserves_QkvK_QkvKIdeal : Prop :=
  True

def algebraic_QkvKIdeal_QkvRIdeal_pre_finite_qkv [hQkvKIdeal : Cert.QkvKIdeal.Facts] [hQkvRIdeal : Cert.QkvRIdeal.Facts] [hPre_finite_qkv : Cert.Pre_finite_qkv.Facts] : Prop :=
  ∀ (m : (ℓ : Loc Cert.QkvKIdeal.nD Cert.QkvKIdeal.τ Cert.QkvKIdeal.sig) → Buf (Elt Ideal) ℓ) (g : Dev Cert.QkvKIdeal.nD → PrngReg)
    (m' : (ℓ : Loc Cert.QkvRIdeal.nD Cert.QkvRIdeal.τ Cert.QkvRIdeal.sig) → Buf (Elt Ideal) ℓ) (g' : Dev Cert.QkvRIdeal.nD → PrngReg), Pre_QkvKIdeal_finite_qkv m →
    (∀ c : Dev Cert.QkvKIdeal.nD,
      m' ((c.tc : Thread Cert.QkvRIdeal.nD Cert.QkvRIdeal.τ).loc Cert.QkvRIdeal.main_arg0) = m ((c.tc : Thread Cert.QkvKIdeal.nD Cert.QkvKIdeal.τ).loc Cert.QkvKIdeal.main_arg0)
      ∧ m' ((c.tc : Thread Cert.QkvRIdeal.nD Cert.QkvRIdeal.τ).loc Cert.QkvRIdeal.main_arg1) = m ((c.tc : Thread Cert.QkvKIdeal.nD Cert.QkvKIdeal.τ).loc Cert.QkvKIdeal.main_arg1)
      ∧ m' ((c.tc : Thread Cert.QkvRIdeal.nD Cert.QkvRIdeal.τ).loc Cert.QkvRIdeal.main_arg2) = m ((c.tc : Thread Cert.QkvKIdeal.nD Cert.QkvKIdeal.τ).loc Cert.QkvKIdeal.main_arg2)) →
    ∃ (v0 : (c : Dev Cert.QkvKIdeal.nD) → Buf (Elt Ideal) ((c.tc : Thread Cert.QkvKIdeal.nD Cert.QkvKIdeal.τ).loc Cert.QkvKIdeal.main_v0_0)) (v1 : (c : Dev Cert.QkvKIdeal.nD) → Buf (Elt Ideal) ((c.tc : Thread Cert.QkvKIdeal.nD Cert.QkvKIdeal.τ).loc Cert.QkvKIdeal.main_v0_1)),
      θ_run (Cert.QkvKIdeal.defs (F := Ideal)) (onTc (τ := Cert.QkvKIdeal.τ) (Cert.QkvKIdeal.main (F := Ideal))) ⟨m, fun _ => 0, g⟩ (fun r => ∀ c : Dev Cert.QkvKIdeal.nD,
          r.2.mem ((c.tc : Thread Cert.QkvKIdeal.nD Cert.QkvKIdeal.τ).loc Cert.QkvKIdeal.main_v0_0) = v0 c
          ∧ r.2.mem ((c.tc : Thread Cert.QkvKIdeal.nD Cert.QkvKIdeal.τ).loc Cert.QkvKIdeal.main_v0_1) = v1 c
          ∧ r.2.mem ((c.tc : Thread Cert.QkvKIdeal.nD Cert.QkvKIdeal.τ).loc Cert.QkvKIdeal.main_arg0) = m ((c.tc : Thread Cert.QkvKIdeal.nD Cert.QkvKIdeal.τ).loc Cert.QkvKIdeal.main_arg0)
          ∧ r.2.mem ((c.tc : Thread Cert.QkvKIdeal.nD Cert.QkvKIdeal.τ).loc Cert.QkvKIdeal.main_arg1) = m ((c.tc : Thread Cert.QkvKIdeal.nD Cert.QkvKIdeal.τ).loc Cert.QkvKIdeal.main_arg1)
          ∧ r.2.mem ((c.tc : Thread Cert.QkvKIdeal.nD Cert.QkvKIdeal.τ).loc Cert.QkvKIdeal.main_arg2) = m ((c.tc : Thread Cert.QkvKIdeal.nD Cert.QkvKIdeal.τ).loc Cert.QkvKIdeal.main_arg2))
      ∧ θ_run (Cert.QkvRIdeal.defs (F := Ideal)) (onTc (τ := Cert.QkvRIdeal.τ) (Cert.QkvRIdeal.main (F := Ideal))) ⟨m', fun _ => 0, g'⟩ (fun r => ∀ c : Dev Cert.QkvRIdeal.nD,
          r.2.mem ((c.tc : Thread Cert.QkvRIdeal.nD Cert.QkvRIdeal.τ).loc Cert.QkvRIdeal.main_v31) = v0 c
          ∧ r.2.mem ((c.tc : Thread Cert.QkvRIdeal.nD Cert.QkvRIdeal.τ).loc Cert.QkvRIdeal.main_v33) = v1 c
          ∧ r.2.mem ((c.tc : Thread Cert.QkvRIdeal.nD Cert.QkvRIdeal.τ).loc Cert.QkvRIdeal.main_arg0) = m' ((c.tc : Thread Cert.QkvRIdeal.nD Cert.QkvRIdeal.τ).loc Cert.QkvRIdeal.main_arg0)
          ∧ r.2.mem ((c.tc : Thread Cert.QkvRIdeal.nD Cert.QkvRIdeal.τ).loc Cert.QkvRIdeal.main_arg1) = m' ((c.tc : Thread Cert.QkvRIdeal.nD Cert.QkvRIdeal.τ).loc Cert.QkvRIdeal.main_arg1)
          ∧ r.2.mem ((c.tc : Thread Cert.QkvRIdeal.nD Cert.QkvRIdeal.τ).loc Cert.QkvRIdeal.main_arg2) = m' ((c.tc : Thread Cert.QkvRIdeal.nD Cert.QkvRIdeal.τ).loc Cert.QkvRIdeal.main_arg2))

def preserves_ConfK_ConfKIdeal : Prop :=
  True

def algebraic_ConfKIdeal_ConfRIdeal_pre_finite_conf [hConfKIdeal : Cert.ConfKIdeal.Facts] [hConfRIdeal : Cert.ConfRIdeal.Facts] [hPre_finite_conf : Cert.Pre_finite_conf.Facts] : Prop :=
  ∀ (m : (ℓ : Loc Cert.ConfKIdeal.nD Cert.ConfKIdeal.τ Cert.ConfKIdeal.sig) → Buf (Elt Ideal) ℓ) (g : Dev Cert.ConfKIdeal.nD → PrngReg)
    (m' : (ℓ : Loc Cert.ConfRIdeal.nD Cert.ConfRIdeal.τ Cert.ConfRIdeal.sig) → Buf (Elt Ideal) ℓ) (g' : Dev Cert.ConfRIdeal.nD → PrngReg), Pre_ConfKIdeal_finite_conf m →
    (∀ c : Dev Cert.ConfKIdeal.nD,
      m' ((c.tc : Thread Cert.ConfRIdeal.nD Cert.ConfRIdeal.τ).loc Cert.ConfRIdeal.main_arg0) = m ((c.tc : Thread Cert.ConfKIdeal.nD Cert.ConfKIdeal.τ).loc Cert.ConfKIdeal.main_arg0)
      ∧ m' ((c.tc : Thread Cert.ConfRIdeal.nD Cert.ConfRIdeal.τ).loc Cert.ConfRIdeal.main_arg1) = m ((c.tc : Thread Cert.ConfKIdeal.nD Cert.ConfKIdeal.τ).loc Cert.ConfKIdeal.main_arg1)
      ∧ m' ((c.tc : Thread Cert.ConfRIdeal.nD Cert.ConfRIdeal.τ).loc Cert.ConfRIdeal.main_arg2) = m ((c.tc : Thread Cert.ConfKIdeal.nD Cert.ConfKIdeal.τ).loc Cert.ConfKIdeal.main_arg2)
      ∧ m' ((c.tc : Thread Cert.ConfRIdeal.nD Cert.ConfRIdeal.τ).loc Cert.ConfRIdeal.main_arg3) = m ((c.tc : Thread Cert.ConfKIdeal.nD Cert.ConfKIdeal.τ).loc Cert.ConfKIdeal.main_arg3)
      ∧ m' ((c.tc : Thread Cert.ConfRIdeal.nD Cert.ConfRIdeal.τ).loc Cert.ConfRIdeal.main_arg4) = m ((c.tc : Thread Cert.ConfKIdeal.nD Cert.ConfKIdeal.τ).loc Cert.ConfKIdeal.main_arg4)
      ∧ m' ((c.tc : Thread Cert.ConfRIdeal.nD Cert.ConfRIdeal.τ).loc Cert.ConfRIdeal.main_arg5) = m ((c.tc : Thread Cert.ConfKIdeal.nD Cert.ConfKIdeal.τ).loc Cert.ConfKIdeal.main_arg5)
      ∧ m' ((c.tc : Thread Cert.ConfRIdeal.nD Cert.ConfRIdeal.τ).loc Cert.ConfRIdeal.main_arg6) = m ((c.tc : Thread Cert.ConfKIdeal.nD Cert.ConfKIdeal.τ).loc Cert.ConfKIdeal.main_arg6)
      ∧ m' ((c.tc : Thread Cert.ConfRIdeal.nD Cert.ConfRIdeal.τ).loc Cert.ConfRIdeal.main_arg7) = m ((c.tc : Thread Cert.ConfKIdeal.nD Cert.ConfKIdeal.τ).loc Cert.ConfKIdeal.main_arg7)) →
    ∃ (v0 : (c : Dev Cert.ConfKIdeal.nD) → Buf (Elt Ideal) ((c.tc : Thread Cert.ConfKIdeal.nD Cert.ConfKIdeal.τ).loc Cert.ConfKIdeal.main_v3_0)) (v1 : (c : Dev Cert.ConfKIdeal.nD) → Buf (Elt Ideal) ((c.tc : Thread Cert.ConfKIdeal.nD Cert.ConfKIdeal.τ).loc Cert.ConfKIdeal.main_v3_1)) (v2 : (c : Dev Cert.ConfKIdeal.nD) → Buf (Elt Ideal) ((c.tc : Thread Cert.ConfKIdeal.nD Cert.ConfKIdeal.τ).loc Cert.ConfKIdeal.main_v3_2)) (v3 : (c : Dev Cert.ConfKIdeal.nD) → Buf (Elt Ideal) ((c.tc : Thread Cert.ConfKIdeal.nD Cert.ConfKIdeal.τ).loc Cert.ConfKIdeal.main_v3_3)),
      θ_run (Cert.ConfKIdeal.defs (F := Ideal)) (onTc (τ := Cert.ConfKIdeal.τ) (Cert.ConfKIdeal.main (F := Ideal))) ⟨m, fun _ => 0, g⟩ (fun r => ∀ c : Dev Cert.ConfKIdeal.nD,
          r.2.mem ((c.tc : Thread Cert.ConfKIdeal.nD Cert.ConfKIdeal.τ).loc Cert.ConfKIdeal.main_v3_0) = v0 c
          ∧ r.2.mem ((c.tc : Thread Cert.ConfKIdeal.nD Cert.ConfKIdeal.τ).loc Cert.ConfKIdeal.main_v3_1) = v1 c
          ∧ r.2.mem ((c.tc : Thread Cert.ConfKIdeal.nD Cert.ConfKIdeal.τ).loc Cert.ConfKIdeal.main_v3_2) = v2 c
          ∧ r.2.mem ((c.tc : Thread Cert.ConfKIdeal.nD Cert.ConfKIdeal.τ).loc Cert.ConfKIdeal.main_v3_3) = v3 c
          ∧ r.2.mem ((c.tc : Thread Cert.ConfKIdeal.nD Cert.ConfKIdeal.τ).loc Cert.ConfKIdeal.main_arg0) = m ((c.tc : Thread Cert.ConfKIdeal.nD Cert.ConfKIdeal.τ).loc Cert.ConfKIdeal.main_arg0)
          ∧ r.2.mem ((c.tc : Thread Cert.ConfKIdeal.nD Cert.ConfKIdeal.τ).loc Cert.ConfKIdeal.main_arg1) = m ((c.tc : Thread Cert.ConfKIdeal.nD Cert.ConfKIdeal.τ).loc Cert.ConfKIdeal.main_arg1)
          ∧ r.2.mem ((c.tc : Thread Cert.ConfKIdeal.nD Cert.ConfKIdeal.τ).loc Cert.ConfKIdeal.main_arg2) = m ((c.tc : Thread Cert.ConfKIdeal.nD Cert.ConfKIdeal.τ).loc Cert.ConfKIdeal.main_arg2)
          ∧ r.2.mem ((c.tc : Thread Cert.ConfKIdeal.nD Cert.ConfKIdeal.τ).loc Cert.ConfKIdeal.main_arg3) = m ((c.tc : Thread Cert.ConfKIdeal.nD Cert.ConfKIdeal.τ).loc Cert.ConfKIdeal.main_arg3)
          ∧ r.2.mem ((c.tc : Thread Cert.ConfKIdeal.nD Cert.ConfKIdeal.τ).loc Cert.ConfKIdeal.main_arg4) = m ((c.tc : Thread Cert.ConfKIdeal.nD Cert.ConfKIdeal.τ).loc Cert.ConfKIdeal.main_arg4)
          ∧ r.2.mem ((c.tc : Thread Cert.ConfKIdeal.nD Cert.ConfKIdeal.τ).loc Cert.ConfKIdeal.main_arg5) = m ((c.tc : Thread Cert.ConfKIdeal.nD Cert.ConfKIdeal.τ).loc Cert.ConfKIdeal.main_arg5)
          ∧ r.2.mem ((c.tc : Thread Cert.ConfKIdeal.nD Cert.ConfKIdeal.τ).loc Cert.ConfKIdeal.main_arg6) = m ((c.tc : Thread Cert.ConfKIdeal.nD Cert.ConfKIdeal.τ).loc Cert.ConfKIdeal.main_arg6)
          ∧ r.2.mem ((c.tc : Thread Cert.ConfKIdeal.nD Cert.ConfKIdeal.τ).loc Cert.ConfKIdeal.main_arg7) = m ((c.tc : Thread Cert.ConfKIdeal.nD Cert.ConfKIdeal.τ).loc Cert.ConfKIdeal.main_arg7))
      ∧ θ_run (Cert.ConfRIdeal.defs (F := Ideal)) (onTc (τ := Cert.ConfRIdeal.τ) (Cert.ConfRIdeal.main (F := Ideal))) ⟨m', fun _ => 0, g'⟩ (fun r => ∀ c : Dev Cert.ConfRIdeal.nD,
          r.2.mem ((c.tc : Thread Cert.ConfRIdeal.nD Cert.ConfRIdeal.τ).loc Cert.ConfRIdeal.main_v119) = v0 c
          ∧ r.2.mem ((c.tc : Thread Cert.ConfRIdeal.nD Cert.ConfRIdeal.τ).loc Cert.ConfRIdeal.main_v121) = v1 c
          ∧ r.2.mem ((c.tc : Thread Cert.ConfRIdeal.nD Cert.ConfRIdeal.τ).loc Cert.ConfRIdeal.main_v111) = v2 c
          ∧ r.2.mem ((c.tc : Thread Cert.ConfRIdeal.nD Cert.ConfRIdeal.τ).loc Cert.ConfRIdeal.main_v128) = v3 c
          ∧ r.2.mem ((c.tc : Thread Cert.ConfRIdeal.nD Cert.ConfRIdeal.τ).loc Cert.ConfRIdeal.main_arg0) = m' ((c.tc : Thread Cert.ConfRIdeal.nD Cert.ConfRIdeal.τ).loc Cert.ConfRIdeal.main_arg0)
          ∧ r.2.mem ((c.tc : Thread Cert.ConfRIdeal.nD Cert.ConfRIdeal.τ).loc Cert.ConfRIdeal.main_arg1) = m' ((c.tc : Thread Cert.ConfRIdeal.nD Cert.ConfRIdeal.τ).loc Cert.ConfRIdeal.main_arg1)
          ∧ r.2.mem ((c.tc : Thread Cert.ConfRIdeal.nD Cert.ConfRIdeal.τ).loc Cert.ConfRIdeal.main_arg2) = m' ((c.tc : Thread Cert.ConfRIdeal.nD Cert.ConfRIdeal.τ).loc Cert.ConfRIdeal.main_arg2)
          ∧ r.2.mem ((c.tc : Thread Cert.ConfRIdeal.nD Cert.ConfRIdeal.τ).loc Cert.ConfRIdeal.main_arg3) = m' ((c.tc : Thread Cert.ConfRIdeal.nD Cert.ConfRIdeal.τ).loc Cert.ConfRIdeal.main_arg3)
          ∧ r.2.mem ((c.tc : Thread Cert.ConfRIdeal.nD Cert.ConfRIdeal.τ).loc Cert.ConfRIdeal.main_arg4) = m' ((c.tc : Thread Cert.ConfRIdeal.nD Cert.ConfRIdeal.τ).loc Cert.ConfRIdeal.main_arg4)
          ∧ r.2.mem ((c.tc : Thread Cert.ConfRIdeal.nD Cert.ConfRIdeal.τ).loc Cert.ConfRIdeal.main_arg5) = m' ((c.tc : Thread Cert.ConfRIdeal.nD Cert.ConfRIdeal.τ).loc Cert.ConfRIdeal.main_arg5)
          ∧ r.2.mem ((c.tc : Thread Cert.ConfRIdeal.nD Cert.ConfRIdeal.τ).loc Cert.ConfRIdeal.main_arg6) = m' ((c.tc : Thread Cert.ConfRIdeal.nD Cert.ConfRIdeal.τ).loc Cert.ConfRIdeal.main_arg6)
          ∧ r.2.mem ((c.tc : Thread Cert.ConfRIdeal.nD Cert.ConfRIdeal.τ).loc Cert.ConfRIdeal.main_arg7) = m' ((c.tc : Thread Cert.ConfRIdeal.nD Cert.ConfRIdeal.τ).loc Cert.ConfRIdeal.main_arg7))

def Claim : Prop :=
  ∃ (hFfnK : Cert.FfnK.Facts) (hFfnKIdeal : Cert.FfnKIdeal.Facts) (hFfnRIdeal : Cert.FfnRIdeal.Facts) (hDwdownK : Cert.DwdownK.Facts) (hDwdownKIdeal : Cert.DwdownKIdeal.Facts) (hDwdownRIdeal : Cert.DwdownRIdeal.Facts) (hDwupK : Cert.DwupK.Facts) (hDwupKIdeal : Cert.DwupKIdeal.Facts) (hDwupRIdeal : Cert.DwupRIdeal.Facts) (hDactK : Cert.DactK.Facts) (hDactKIdeal : Cert.DactKIdeal.Facts) (hDactRIdeal : Cert.DactRIdeal.Facts) (hDwinK : Cert.DwinK.Facts) (hDwinKIdeal : Cert.DwinKIdeal.Facts) (hDwinRIdeal : Cert.DwinRIdeal.Facts) (hDhgK : Cert.DhgK.Facts) (hDhgKIdeal : Cert.DhgKIdeal.Facts) (hDhgRIdeal : Cert.DhgRIdeal.Facts) (hDhuK : Cert.DhuK.Facts) (hDhuKIdeal : Cert.DhuKIdeal.Facts) (hDhuRIdeal : Cert.DhuRIdeal.Facts) (hDhK : Cert.DhK.Facts) (hDhKIdeal : Cert.DhKIdeal.Facts) (hDhRIdeal : Cert.DhRIdeal.Facts) (hUpK : Cert.UpK.Facts) (hUpKIdeal : Cert.UpKIdeal.Facts) (hUpRIdeal : Cert.UpRIdeal.Facts) (hDownK : Cert.DownK.Facts) (hDownKIdeal : Cert.DownKIdeal.Facts) (hDownRIdeal : Cert.DownRIdeal.Facts) (hInMainK : Cert.InMainK.Facts) (hInMainKIdeal : Cert.InMainKIdeal.Facts) (hInMainRIdeal : Cert.InMainRIdeal.Facts) (hInBaK : Cert.InBaK.Facts) (hInBaKIdeal : Cert.InBaKIdeal.Facts) (hInBaRIdeal : Cert.InBaRIdeal.Facts) (hPwK : Cert.PwK.Facts) (hPwKIdeal : Cert.PwKIdeal.Facts) (hPwRIdeal : Cert.PwRIdeal.Facts) (hOutK : Cert.OutK.Facts) (hOutKIdeal : Cert.OutKIdeal.Facts) (hOutRIdeal : Cert.OutRIdeal.Facts) (hDoutaK : Cert.DoutaK.Facts) (hDoutaKIdeal : Cert.DoutaKIdeal.Facts) (hDoutaRIdeal : Cert.DoutaRIdeal.Facts) (hDoutbK : Cert.DoutbK.Facts) (hDoutbKIdeal : Cert.DoutbKIdeal.Facts) (hDoutbRIdeal : Cert.DoutbRIdeal.Facts) (hDwoutK : Cert.DwoutK.Facts) (hDwoutKIdeal : Cert.DwoutKIdeal.Facts) (hDwoutRIdeal : Cert.DwoutRIdeal.Facts) (hDucK : Cert.DucK.Facts) (hDucKIdeal : Cert.DucKIdeal.Facts) (hDucRIdeal : Cert.DucRIdeal.Facts) (hDwpwK : Cert.DwpwK.Facts) (hDwpwKIdeal : Cert.DwpwKIdeal.Facts) (hDwpwRIdeal : Cert.DwpwRIdeal.Facts) (hDwbaK : Cert.DwbaK.Facts) (hDwbaKIdeal : Cert.DwbaKIdeal.Facts) (hDwbaRIdeal : Cert.DwbaRIdeal.Facts) (hDhbaK : Cert.DhbaK.Facts) (hDhbaKIdeal : Cert.DhbaKIdeal.Facts) (hDhbaRIdeal : Cert.DhbaRIdeal.Facts) (hAdWinK : Cert.AdWinK.Facts) (hAdWinKIdeal : Cert.AdWinKIdeal.Facts) (hAdWinRIdeal : Cert.AdWinRIdeal.Facts) (hAdPwK : Cert.AdPwK.Facts) (hAdPwKIdeal : Cert.AdPwKIdeal.Facts) (hAdPwRIdeal : Cert.AdPwRIdeal.Facts) (hAdWoutK : Cert.AdWoutK.Facts) (hAdWoutKIdeal : Cert.AdWoutKIdeal.Facts) (hAdWoutRIdeal : Cert.AdWoutRIdeal.Facts) (hAdWupK : Cert.AdWupK.Facts) (hAdWupKIdeal : Cert.AdWupKIdeal.Facts) (hAdWupRIdeal : Cert.AdWupRIdeal.Facts) (hAdWdownK : Cert.AdWdownK.Facts) (hAdWdownKIdeal : Cert.AdWdownKIdeal.Facts) (hAdWdownRIdeal : Cert.AdWdownRIdeal.Facts) (hAdDwK : Cert.AdDwK.Facts) (hAdDwKIdeal : Cert.AdDwKIdeal.Facts) (hAdDwRIdeal : Cert.AdDwRIdeal.Facts) (hAdGcK : Cert.AdGcK.Facts) (hAdGcKIdeal : Cert.AdGcKIdeal.Facts) (hAdGcRIdeal : Cert.AdGcRIdeal.Facts) (hAdFcK : Cert.AdFcK.Facts) (hAdFcKIdeal : Cert.AdFcKIdeal.Facts) (hAdFcRIdeal : Cert.AdFcRIdeal.Facts) (hAdNormK : Cert.AdNormK.Facts) (hAdNormKIdeal : Cert.AdNormKIdeal.Facts) (hAdNormRIdeal : Cert.AdNormRIdeal.Facts) (hAdFinalK : Cert.AdFinalK.Facts) (hAdFinalKIdeal : Cert.AdFinalKIdeal.Facts) (hAdFinalRIdeal : Cert.AdFinalRIdeal.Facts) (hAdChK : Cert.AdChK.Facts) (hAdChKIdeal : Cert.AdChKIdeal.Facts) (hAdChRIdeal : Cert.AdChRIdeal.Facts) (hAdHeadK : Cert.AdHeadK.Facts) (hAdHeadKIdeal : Cert.AdHeadKIdeal.Facts) (hAdHeadRIdeal : Cert.AdHeadRIdeal.Facts) (hAdKeyK : Cert.AdKeyK.Facts) (hAdKeyKIdeal : Cert.AdKeyKIdeal.Facts) (hAdKeyRIdeal : Cert.AdKeyRIdeal.Facts) (hAdFbK : Cert.AdFbK.Facts) (hAdFbKIdeal : Cert.AdFbKIdeal.Facts) (hAdFbRIdeal : Cert.AdFbRIdeal.Facts) (hNormK : Cert.NormK.Facts) (hNormKIdeal : Cert.NormKIdeal.Facts) (hNormRIdeal : Cert.NormRIdeal.Facts) (hDnormK : Cert.DnormK.Facts) (hDnormKIdeal : Cert.DnormKIdeal.Facts) (hDnormRIdeal : Cert.DnormRIdeal.Facts) (hLossK : Cert.LossK.Facts) (hLossKIdeal : Cert.LossKIdeal.Facts) (hLossRIdeal : Cert.LossRIdeal.Facts) (hQkvFK : Cert.QkvFK.Facts) (hQkvFKIdeal : Cert.QkvFKIdeal.Facts) (hQkvFRIdeal : Cert.QkvFRIdeal.Facts) (hFfnFK : Cert.FfnFK.Facts) (hFfnFKIdeal : Cert.FfnFKIdeal.Facts) (hFfnFRIdeal : Cert.FfnFRIdeal.Facts) (hConfFK : Cert.ConfFK.Facts) (hConfFKIdeal : Cert.ConfFKIdeal.Facts) (hConfFRIdeal : Cert.ConfFRIdeal.Facts) (hQkvK : Cert.QkvK.Facts) (hQkvKIdeal : Cert.QkvKIdeal.Facts) (hQkvRIdeal : Cert.QkvRIdeal.Facts) (hConfK : Cert.ConfK.Facts) (hConfKIdeal : Cert.ConfKIdeal.Facts) (hConfRIdeal : Cert.ConfRIdeal.Facts) (hPre_finite : Cert.Pre_finite.Facts) (hPre_finite_qkv : Cert.Pre_finite_qkv.Facts) (hPre_finite_conf : Cert.Pre_finite_conf.Facts),
    quiescent_FfnK (hFfnK := hFfnK)
    ∧ quiescent_FfnKIdeal (hFfnKIdeal := hFfnKIdeal)
    ∧ quiescent_FfnKIdeal_pre_finite (hFfnKIdeal := hFfnKIdeal) (hPre_finite := hPre_finite)
    ∧ quiescent_FfnRIdeal (hFfnRIdeal := hFfnRIdeal)
    ∧ quiescent_FfnRIdeal_pre_finite (hFfnRIdeal := hFfnRIdeal) (hPre_finite := hPre_finite)
    ∧ quiescent_DwdownK (hDwdownK := hDwdownK)
    ∧ quiescent_DwdownKIdeal (hDwdownKIdeal := hDwdownKIdeal)
    ∧ quiescent_DwdownRIdeal (hDwdownRIdeal := hDwdownRIdeal)
    ∧ quiescent_DwupK (hDwupK := hDwupK)
    ∧ quiescent_DwupKIdeal (hDwupKIdeal := hDwupKIdeal)
    ∧ quiescent_DwupRIdeal (hDwupRIdeal := hDwupRIdeal)
    ∧ quiescent_DactK (hDactK := hDactK)
    ∧ quiescent_DactKIdeal (hDactKIdeal := hDactKIdeal)
    ∧ quiescent_DactRIdeal (hDactRIdeal := hDactRIdeal)
    ∧ quiescent_DwinK (hDwinK := hDwinK)
    ∧ quiescent_DwinKIdeal (hDwinKIdeal := hDwinKIdeal)
    ∧ quiescent_DwinRIdeal (hDwinRIdeal := hDwinRIdeal)
    ∧ quiescent_DhgK (hDhgK := hDhgK)
    ∧ quiescent_DhgKIdeal (hDhgKIdeal := hDhgKIdeal)
    ∧ quiescent_DhgRIdeal (hDhgRIdeal := hDhgRIdeal)
    ∧ quiescent_DhuK (hDhuK := hDhuK)
    ∧ quiescent_DhuKIdeal (hDhuKIdeal := hDhuKIdeal)
    ∧ quiescent_DhuRIdeal (hDhuRIdeal := hDhuRIdeal)
    ∧ quiescent_DhK (hDhK := hDhK)
    ∧ quiescent_DhKIdeal (hDhKIdeal := hDhKIdeal)
    ∧ quiescent_DhRIdeal (hDhRIdeal := hDhRIdeal)
    ∧ quiescent_UpK (hUpK := hUpK)
    ∧ quiescent_UpKIdeal (hUpKIdeal := hUpKIdeal)
    ∧ quiescent_UpRIdeal (hUpRIdeal := hUpRIdeal)
    ∧ quiescent_DownK (hDownK := hDownK)
    ∧ quiescent_DownKIdeal (hDownKIdeal := hDownKIdeal)
    ∧ quiescent_DownRIdeal (hDownRIdeal := hDownRIdeal)
    ∧ quiescent_InMainK (hInMainK := hInMainK)
    ∧ quiescent_InMainKIdeal (hInMainKIdeal := hInMainKIdeal)
    ∧ quiescent_InMainRIdeal (hInMainRIdeal := hInMainRIdeal)
    ∧ quiescent_InBaK (hInBaK := hInBaK)
    ∧ quiescent_InBaKIdeal (hInBaKIdeal := hInBaKIdeal)
    ∧ quiescent_InBaRIdeal (hInBaRIdeal := hInBaRIdeal)
    ∧ quiescent_PwK (hPwK := hPwK)
    ∧ quiescent_PwKIdeal (hPwKIdeal := hPwKIdeal)
    ∧ quiescent_PwRIdeal (hPwRIdeal := hPwRIdeal)
    ∧ quiescent_OutK (hOutK := hOutK)
    ∧ quiescent_OutKIdeal (hOutKIdeal := hOutKIdeal)
    ∧ quiescent_OutRIdeal (hOutRIdeal := hOutRIdeal)
    ∧ quiescent_DoutaK (hDoutaK := hDoutaK)
    ∧ quiescent_DoutaKIdeal (hDoutaKIdeal := hDoutaKIdeal)
    ∧ quiescent_DoutaRIdeal (hDoutaRIdeal := hDoutaRIdeal)
    ∧ quiescent_DoutbK (hDoutbK := hDoutbK)
    ∧ quiescent_DoutbKIdeal (hDoutbKIdeal := hDoutbKIdeal)
    ∧ quiescent_DoutbRIdeal (hDoutbRIdeal := hDoutbRIdeal)
    ∧ quiescent_DwoutK (hDwoutK := hDwoutK)
    ∧ quiescent_DwoutKIdeal (hDwoutKIdeal := hDwoutKIdeal)
    ∧ quiescent_DwoutRIdeal (hDwoutRIdeal := hDwoutRIdeal)
    ∧ quiescent_DucK (hDucK := hDucK)
    ∧ quiescent_DucKIdeal (hDucKIdeal := hDucKIdeal)
    ∧ quiescent_DucRIdeal (hDucRIdeal := hDucRIdeal)
    ∧ quiescent_DwpwK (hDwpwK := hDwpwK)
    ∧ quiescent_DwpwKIdeal (hDwpwKIdeal := hDwpwKIdeal)
    ∧ quiescent_DwpwRIdeal (hDwpwRIdeal := hDwpwRIdeal)
    ∧ quiescent_DwbaK (hDwbaK := hDwbaK)
    ∧ quiescent_DwbaKIdeal (hDwbaKIdeal := hDwbaKIdeal)
    ∧ quiescent_DwbaRIdeal (hDwbaRIdeal := hDwbaRIdeal)
    ∧ quiescent_DhbaK (hDhbaK := hDhbaK)
    ∧ quiescent_DhbaKIdeal (hDhbaKIdeal := hDhbaKIdeal)
    ∧ quiescent_DhbaRIdeal (hDhbaRIdeal := hDhbaRIdeal)
    ∧ quiescent_AdWinK (hAdWinK := hAdWinK)
    ∧ quiescent_AdWinKIdeal (hAdWinKIdeal := hAdWinKIdeal)
    ∧ quiescent_AdWinRIdeal (hAdWinRIdeal := hAdWinRIdeal)
    ∧ quiescent_AdPwK (hAdPwK := hAdPwK)
    ∧ quiescent_AdPwKIdeal (hAdPwKIdeal := hAdPwKIdeal)
    ∧ quiescent_AdPwRIdeal (hAdPwRIdeal := hAdPwRIdeal)
    ∧ quiescent_AdWoutK (hAdWoutK := hAdWoutK)
    ∧ quiescent_AdWoutKIdeal (hAdWoutKIdeal := hAdWoutKIdeal)
    ∧ quiescent_AdWoutRIdeal (hAdWoutRIdeal := hAdWoutRIdeal)
    ∧ quiescent_AdWupK (hAdWupK := hAdWupK)
    ∧ quiescent_AdWupKIdeal (hAdWupKIdeal := hAdWupKIdeal)
    ∧ quiescent_AdWupRIdeal (hAdWupRIdeal := hAdWupRIdeal)
    ∧ quiescent_AdWdownK (hAdWdownK := hAdWdownK)
    ∧ quiescent_AdWdownKIdeal (hAdWdownKIdeal := hAdWdownKIdeal)
    ∧ quiescent_AdWdownRIdeal (hAdWdownRIdeal := hAdWdownRIdeal)
    ∧ quiescent_AdDwK (hAdDwK := hAdDwK)
    ∧ quiescent_AdDwKIdeal (hAdDwKIdeal := hAdDwKIdeal)
    ∧ quiescent_AdDwRIdeal (hAdDwRIdeal := hAdDwRIdeal)
    ∧ quiescent_AdGcK (hAdGcK := hAdGcK)
    ∧ quiescent_AdGcKIdeal (hAdGcKIdeal := hAdGcKIdeal)
    ∧ quiescent_AdGcRIdeal (hAdGcRIdeal := hAdGcRIdeal)
    ∧ quiescent_AdFcK (hAdFcK := hAdFcK)
    ∧ quiescent_AdFcKIdeal (hAdFcKIdeal := hAdFcKIdeal)
    ∧ quiescent_AdFcRIdeal (hAdFcRIdeal := hAdFcRIdeal)
    ∧ quiescent_AdNormK (hAdNormK := hAdNormK)
    ∧ quiescent_AdNormKIdeal (hAdNormKIdeal := hAdNormKIdeal)
    ∧ quiescent_AdNormRIdeal (hAdNormRIdeal := hAdNormRIdeal)
    ∧ quiescent_AdFinalK (hAdFinalK := hAdFinalK)
    ∧ quiescent_AdFinalKIdeal (hAdFinalKIdeal := hAdFinalKIdeal)
    ∧ quiescent_AdFinalRIdeal (hAdFinalRIdeal := hAdFinalRIdeal)
    ∧ quiescent_AdChK (hAdChK := hAdChK)
    ∧ quiescent_AdChKIdeal (hAdChKIdeal := hAdChKIdeal)
    ∧ quiescent_AdChRIdeal (hAdChRIdeal := hAdChRIdeal)
    ∧ quiescent_AdHeadK (hAdHeadK := hAdHeadK)
    ∧ quiescent_AdHeadKIdeal (hAdHeadKIdeal := hAdHeadKIdeal)
    ∧ quiescent_AdHeadRIdeal (hAdHeadRIdeal := hAdHeadRIdeal)
    ∧ quiescent_AdKeyK (hAdKeyK := hAdKeyK)
    ∧ quiescent_AdKeyKIdeal (hAdKeyKIdeal := hAdKeyKIdeal)
    ∧ quiescent_AdKeyRIdeal (hAdKeyRIdeal := hAdKeyRIdeal)
    ∧ quiescent_AdFbK (hAdFbK := hAdFbK)
    ∧ quiescent_AdFbKIdeal (hAdFbKIdeal := hAdFbKIdeal)
    ∧ quiescent_AdFbRIdeal (hAdFbRIdeal := hAdFbRIdeal)
    ∧ quiescent_NormK (hNormK := hNormK)
    ∧ quiescent_NormKIdeal (hNormKIdeal := hNormKIdeal)
    ∧ quiescent_NormRIdeal (hNormRIdeal := hNormRIdeal)
    ∧ quiescent_DnormK (hDnormK := hDnormK)
    ∧ quiescent_DnormKIdeal (hDnormKIdeal := hDnormKIdeal)
    ∧ quiescent_DnormRIdeal (hDnormRIdeal := hDnormRIdeal)
    ∧ quiescent_LossK (hLossK := hLossK)
    ∧ quiescent_LossKIdeal (hLossKIdeal := hLossKIdeal)
    ∧ quiescent_LossRIdeal (hLossRIdeal := hLossRIdeal)
    ∧ quiescent_QkvFK (hQkvFK := hQkvFK)
    ∧ quiescent_QkvFKIdeal (hQkvFKIdeal := hQkvFKIdeal)
    ∧ quiescent_QkvFRIdeal (hQkvFRIdeal := hQkvFRIdeal)
    ∧ quiescent_FfnFK (hFfnFK := hFfnFK)
    ∧ quiescent_FfnFKIdeal (hFfnFKIdeal := hFfnFKIdeal)
    ∧ quiescent_FfnFRIdeal (hFfnFRIdeal := hFfnFRIdeal)
    ∧ quiescent_ConfFK (hConfFK := hConfFK)
    ∧ quiescent_ConfFKIdeal (hConfFKIdeal := hConfFKIdeal)
    ∧ quiescent_ConfFRIdeal (hConfFRIdeal := hConfFRIdeal)
    ∧ quiescent_QkvK (hQkvK := hQkvK)
    ∧ quiescent_QkvKIdeal (hQkvKIdeal := hQkvKIdeal)
    ∧ quiescent_QkvKIdeal_pre_finite_qkv (hQkvKIdeal := hQkvKIdeal) (hPre_finite_qkv := hPre_finite_qkv)
    ∧ quiescent_QkvRIdeal (hQkvRIdeal := hQkvRIdeal)
    ∧ quiescent_QkvRIdeal_pre_finite_qkv (hQkvRIdeal := hQkvRIdeal) (hPre_finite_qkv := hPre_finite_qkv)
    ∧ quiescent_ConfK (hConfK := hConfK)
    ∧ quiescent_ConfKIdeal (hConfKIdeal := hConfKIdeal)
    ∧ quiescent_ConfKIdeal_pre_finite_conf (hConfKIdeal := hConfKIdeal) (hPre_finite_conf := hPre_finite_conf)
    ∧ quiescent_ConfRIdeal (hConfRIdeal := hConfRIdeal)
    ∧ quiescent_ConfRIdeal_pre_finite_conf (hConfRIdeal := hConfRIdeal) (hPre_finite_conf := hPre_finite_conf)
    ∧ preserves_FfnK_FfnKIdeal
    ∧ algebraic_FfnKIdeal_FfnRIdeal_pre_finite (hFfnKIdeal := hFfnKIdeal) (hFfnRIdeal := hFfnRIdeal) (hPre_finite := hPre_finite)
    ∧ preserves_DwdownK_DwdownKIdeal
    ∧ algebraic_DwdownKIdeal_DwdownRIdeal (hDwdownKIdeal := hDwdownKIdeal) (hDwdownRIdeal := hDwdownRIdeal)
    ∧ preserves_DwupK_DwupKIdeal
    ∧ algebraic_DwupKIdeal_DwupRIdeal (hDwupKIdeal := hDwupKIdeal) (hDwupRIdeal := hDwupRIdeal)
    ∧ preserves_DactK_DactKIdeal
    ∧ algebraic_DactKIdeal_DactRIdeal (hDactKIdeal := hDactKIdeal) (hDactRIdeal := hDactRIdeal)
    ∧ preserves_DwinK_DwinKIdeal
    ∧ algebraic_DwinKIdeal_DwinRIdeal (hDwinKIdeal := hDwinKIdeal) (hDwinRIdeal := hDwinRIdeal)
    ∧ preserves_DhgK_DhgKIdeal
    ∧ algebraic_DhgKIdeal_DhgRIdeal (hDhgKIdeal := hDhgKIdeal) (hDhgRIdeal := hDhgRIdeal)
    ∧ preserves_DhuK_DhuKIdeal
    ∧ algebraic_DhuKIdeal_DhuRIdeal (hDhuKIdeal := hDhuKIdeal) (hDhuRIdeal := hDhuRIdeal)
    ∧ preserves_DhK_DhKIdeal
    ∧ algebraic_DhKIdeal_DhRIdeal (hDhKIdeal := hDhKIdeal) (hDhRIdeal := hDhRIdeal)
    ∧ preserves_UpK_UpKIdeal
    ∧ algebraic_UpKIdeal_UpRIdeal (hUpKIdeal := hUpKIdeal) (hUpRIdeal := hUpRIdeal)
    ∧ preserves_DownK_DownKIdeal
    ∧ algebraic_DownKIdeal_DownRIdeal (hDownKIdeal := hDownKIdeal) (hDownRIdeal := hDownRIdeal)
    ∧ preserves_InMainK_InMainKIdeal
    ∧ algebraic_InMainKIdeal_InMainRIdeal (hInMainKIdeal := hInMainKIdeal) (hInMainRIdeal := hInMainRIdeal)
    ∧ preserves_InBaK_InBaKIdeal
    ∧ algebraic_InBaKIdeal_InBaRIdeal (hInBaKIdeal := hInBaKIdeal) (hInBaRIdeal := hInBaRIdeal)
    ∧ preserves_PwK_PwKIdeal
    ∧ algebraic_PwKIdeal_PwRIdeal (hPwKIdeal := hPwKIdeal) (hPwRIdeal := hPwRIdeal)
    ∧ preserves_OutK_OutKIdeal
    ∧ algebraic_OutKIdeal_OutRIdeal (hOutKIdeal := hOutKIdeal) (hOutRIdeal := hOutRIdeal)
    ∧ preserves_DoutaK_DoutaKIdeal
    ∧ algebraic_DoutaKIdeal_DoutaRIdeal (hDoutaKIdeal := hDoutaKIdeal) (hDoutaRIdeal := hDoutaRIdeal)
    ∧ preserves_DoutbK_DoutbKIdeal
    ∧ algebraic_DoutbKIdeal_DoutbRIdeal (hDoutbKIdeal := hDoutbKIdeal) (hDoutbRIdeal := hDoutbRIdeal)
    ∧ preserves_DwoutK_DwoutKIdeal
    ∧ algebraic_DwoutKIdeal_DwoutRIdeal (hDwoutKIdeal := hDwoutKIdeal) (hDwoutRIdeal := hDwoutRIdeal)
    ∧ preserves_DucK_DucKIdeal
    ∧ algebraic_DucKIdeal_DucRIdeal (hDucKIdeal := hDucKIdeal) (hDucRIdeal := hDucRIdeal)
    ∧ preserves_DwpwK_DwpwKIdeal
    ∧ algebraic_DwpwKIdeal_DwpwRIdeal (hDwpwKIdeal := hDwpwKIdeal) (hDwpwRIdeal := hDwpwRIdeal)
    ∧ preserves_DwbaK_DwbaKIdeal
    ∧ algebraic_DwbaKIdeal_DwbaRIdeal (hDwbaKIdeal := hDwbaKIdeal) (hDwbaRIdeal := hDwbaRIdeal)
    ∧ preserves_DhbaK_DhbaKIdeal
    ∧ algebraic_DhbaKIdeal_DhbaRIdeal (hDhbaKIdeal := hDhbaKIdeal) (hDhbaRIdeal := hDhbaRIdeal)
    ∧ preserves_AdWinK_AdWinKIdeal
    ∧ algebraic_AdWinKIdeal_AdWinRIdeal (hAdWinKIdeal := hAdWinKIdeal) (hAdWinRIdeal := hAdWinRIdeal)
    ∧ preserves_AdPwK_AdPwKIdeal
    ∧ algebraic_AdPwKIdeal_AdPwRIdeal (hAdPwKIdeal := hAdPwKIdeal) (hAdPwRIdeal := hAdPwRIdeal)
    ∧ preserves_AdWoutK_AdWoutKIdeal
    ∧ algebraic_AdWoutKIdeal_AdWoutRIdeal (hAdWoutKIdeal := hAdWoutKIdeal) (hAdWoutRIdeal := hAdWoutRIdeal)
    ∧ preserves_AdWupK_AdWupKIdeal
    ∧ algebraic_AdWupKIdeal_AdWupRIdeal (hAdWupKIdeal := hAdWupKIdeal) (hAdWupRIdeal := hAdWupRIdeal)
    ∧ preserves_AdWdownK_AdWdownKIdeal
    ∧ algebraic_AdWdownKIdeal_AdWdownRIdeal (hAdWdownKIdeal := hAdWdownKIdeal) (hAdWdownRIdeal := hAdWdownRIdeal)
    ∧ preserves_AdDwK_AdDwKIdeal
    ∧ algebraic_AdDwKIdeal_AdDwRIdeal (hAdDwKIdeal := hAdDwKIdeal) (hAdDwRIdeal := hAdDwRIdeal)
    ∧ preserves_AdGcK_AdGcKIdeal
    ∧ algebraic_AdGcKIdeal_AdGcRIdeal (hAdGcKIdeal := hAdGcKIdeal) (hAdGcRIdeal := hAdGcRIdeal)
    ∧ preserves_AdFcK_AdFcKIdeal
    ∧ algebraic_AdFcKIdeal_AdFcRIdeal (hAdFcKIdeal := hAdFcKIdeal) (hAdFcRIdeal := hAdFcRIdeal)
    ∧ preserves_AdNormK_AdNormKIdeal
    ∧ algebraic_AdNormKIdeal_AdNormRIdeal (hAdNormKIdeal := hAdNormKIdeal) (hAdNormRIdeal := hAdNormRIdeal)
    ∧ preserves_AdFinalK_AdFinalKIdeal
    ∧ algebraic_AdFinalKIdeal_AdFinalRIdeal (hAdFinalKIdeal := hAdFinalKIdeal) (hAdFinalRIdeal := hAdFinalRIdeal)
    ∧ preserves_AdChK_AdChKIdeal
    ∧ algebraic_AdChKIdeal_AdChRIdeal (hAdChKIdeal := hAdChKIdeal) (hAdChRIdeal := hAdChRIdeal)
    ∧ preserves_AdHeadK_AdHeadKIdeal
    ∧ algebraic_AdHeadKIdeal_AdHeadRIdeal (hAdHeadKIdeal := hAdHeadKIdeal) (hAdHeadRIdeal := hAdHeadRIdeal)
    ∧ preserves_AdKeyK_AdKeyKIdeal
    ∧ algebraic_AdKeyKIdeal_AdKeyRIdeal (hAdKeyKIdeal := hAdKeyKIdeal) (hAdKeyRIdeal := hAdKeyRIdeal)
    ∧ preserves_AdFbK_AdFbKIdeal
    ∧ algebraic_AdFbKIdeal_AdFbRIdeal (hAdFbKIdeal := hAdFbKIdeal) (hAdFbRIdeal := hAdFbRIdeal)
    ∧ preserves_NormK_NormKIdeal
    ∧ algebraic_NormKIdeal_NormRIdeal (hNormKIdeal := hNormKIdeal) (hNormRIdeal := hNormRIdeal)
    ∧ preserves_DnormK_DnormKIdeal
    ∧ algebraic_DnormKIdeal_DnormRIdeal (hDnormKIdeal := hDnormKIdeal) (hDnormRIdeal := hDnormRIdeal)
    ∧ preserves_LossK_LossKIdeal
    ∧ algebraic_LossKIdeal_LossRIdeal (hLossKIdeal := hLossKIdeal) (hLossRIdeal := hLossRIdeal)
    ∧ preserves_QkvFK_QkvFKIdeal
    ∧ algebraic_QkvFKIdeal_QkvFRIdeal (hQkvFKIdeal := hQkvFKIdeal) (hQkvFRIdeal := hQkvFRIdeal)
    ∧ preserves_FfnFK_FfnFKIdeal
    ∧ algebraic_FfnFKIdeal_FfnFRIdeal (hFfnFKIdeal := hFfnFKIdeal) (hFfnFRIdeal := hFfnFRIdeal)
    ∧ preserves_ConfFK_ConfFKIdeal
    ∧ algebraic_ConfFKIdeal_ConfFRIdeal (hConfFKIdeal := hConfFKIdeal) (hConfFRIdeal := hConfFRIdeal)
    ∧ preserves_QkvK_QkvKIdeal
    ∧ algebraic_QkvKIdeal_QkvRIdeal_pre_finite_qkv (hQkvKIdeal := hQkvKIdeal) (hQkvRIdeal := hQkvRIdeal) (hPre_finite_qkv := hPre_finite_qkv)
    ∧ preserves_ConfK_ConfKIdeal
    ∧ algebraic_ConfKIdeal_ConfRIdeal_pre_finite_conf (hConfKIdeal := hConfKIdeal) (hConfRIdeal := hConfRIdeal) (hPre_finite_conf := hPre_finite_conf)
-- ==== Pre_finite.lean ====
abbrev S4096x11264 : Shape := ⟨2, ![4096, 11264]⟩
abbrev S3x5632 : Shape := ⟨2, ![3, 5632]⟩
abbrev S5632 : Shape := ⟨1, ![5632]⟩
abbrev S4096x5632 : Shape := ⟨2, ![4096, 5632]⟩
abbrev S_ : Shape := ⟨0, ![]⟩

class Facts : Prop where
  bcast_S_S4096x11264 : S_.BroadcastsInDim S4096x11264 (![] : Fin 0 → Fin S4096x11264.rank)
  bcast_S_S3x5632 : S_.BroadcastsInDim S3x5632 (![] : Fin 0 → Fin S3x5632.rank)
  bcast_S_S5632 : S_.BroadcastsInDim S5632 (![] : Fin 0 → Fin S5632.rank)
  bcast_S_S4096x5632 : S_.BroadcastsInDim S4096x5632 (![] : Fin 0 → Fin S4096x5632.rank)

variable [Facts]

def fn_part1 {F : FTy → Type} [FloatOps F] (main_arg3 : FVec F S4096x5632 .bf16) (main_v4 : IVec S4096x11264 1) (main_v9 : IVec S3x5632 1) (main_v14 : IVec S5632 1) (main_v16 : IVec S4096x5632 1) : IVec S4096x11264 1 × IVec S3x5632 1 × IVec S5632 1 × IVec S4096x5632 1 :=
  let main_cst_6 : FVec F S_ .bf16 := constant S_ .bf16 0xFF80#16
  let main_v17 : FVec F S4096x5632 .bf16 := broadcastInDim S4096x5632 ![] bcast_S_S4096x5632 main_cst_6
  let main_v18 : IVec S4096x5632 1 := cmpf .ogt main_arg3 main_v17
  let main_v19 : IVec S4096x5632 1 := andi main_v16 main_v18
  (main_v4, main_v9, main_v14, main_v19)

def fn {F : FTy → Type} [FloatOps F] (main_arg0 : FVec F S4096x11264 .bf16) (main_arg1 : FVec F S3x5632 .f32) (main_arg2 : FVec F S5632 .f32) (main_arg3 : FVec F S4096x5632 .bf16) : IVec S4096x11264 1 × IVec S3x5632 1 × IVec S5632 1 × IVec S4096x5632 1 :=
  let main_cst : FVec F S_ .bf16 := constant S_ .bf16 0x7F80#16
  let main_v0 : FVec F S4096x11264 .bf16 := broadcastInDim S4096x11264 ![] bcast_S_S4096x11264 main_cst
  let main_v1 : IVec S4096x11264 1 := cmpf .olt main_arg0 main_v0
  let main_cst_0 : FVec F S_ .bf16 := constant S_ .bf16 0xFF80#16
  let main_v2 : FVec F S4096x11264 .bf16 := broadcastInDim S4096x11264 ![] bcast_S_S4096x11264 main_cst_0
  let main_v3 : IVec S4096x11264 1 := cmpf .ogt main_arg0 main_v2
  let main_v4 : IVec S4096x11264 1 := andi main_v1 main_v3
  let main_cst_1 : FVec F S_ .f32 := constant S_ .f32 0x7F800000#32
  let main_v5 : FVec F S3x5632 .f32 := broadcastInDim S3x5632 ![] bcast_S_S3x5632 main_cst_1
  let main_v6 : IVec S3x5632 1 := cmpf .olt main_arg1 main_v5
  let main_cst_2 : FVec F S_ .f32 := constant S_ .f32 0xFF800000#32
  let main_v7 : FVec F S3x5632 .f32 := broadcastInDim S3x5632 ![] bcast_S_S3x5632 main_cst_2
  let main_v8 : IVec S3x5632 1 := cmpf .ogt main_arg1 main_v7
  let main_v9 : IVec S3x5632 1 := andi main_v6 main_v8
  let main_cst_3 : FVec F S_ .f32 := constant S_ .f32 0x7F800000#32
  let main_v10 : FVec F S5632 .f32 := broadcastInDim S5632 ![] bcast_S_S5632 main_cst_3
  let main_v11 : IVec S5632 1 := cmpf .olt main_arg2 main_v10
  let main_cst_4 : FVec F S_ .f32 := constant S_ .f32 0xFF800000#32
  let main_v12 : FVec F S5632 .f32 := broadcastInDim S5632 ![] bcast_S_S5632 main_cst_4
  let main_v13 : IVec S5632 1 := cmpf .ogt main_arg2 main_v12
  let main_v14 : IVec S5632 1 := andi main_v11 main_v13
  let main_cst_5 : FVec F S_ .bf16 := constant S_ .bf16 0x7F80#16
  let main_v15 : FVec F S4096x5632 .bf16 := broadcastInDim S4096x5632 ![] bcast_S_S4096x5632 main_cst_5
  let main_v16 : IVec S4096x5632 1 := cmpf .olt main_arg3 main_v15
  fn_part1 (F := F) main_arg3 main_v4 main_v9 main_v14 main_v16
-- ==== Pre_finite_conf.lean ====
abbrev S4096x5120 : Shape := ⟨2, ![4096, 5120]⟩
abbrev S4096x1024 : Shape := ⟨2, ![4096, 1024]⟩
abbrev S31x1024 : Shape := ⟨2, ![31, 1024]⟩
abbrev S1024 : Shape := ⟨1, ![1024]⟩
abbrev S_ : Shape := ⟨0, ![]⟩

class Facts : Prop where
  bcast_S_S4096x5120 : S_.BroadcastsInDim S4096x5120 (![] : Fin 0 → Fin S4096x5120.rank)
  bcast_S_S4096x1024 : S_.BroadcastsInDim S4096x1024 (![] : Fin 0 → Fin S4096x1024.rank)
  bcast_S_S31x1024 : S_.BroadcastsInDim S31x1024 (![] : Fin 0 → Fin S31x1024.rank)
  bcast_S_S1024 : S_.BroadcastsInDim S1024 (![] : Fin 0 → Fin S1024.rank)

variable [Facts]

def fn_part1 {F : FTy → Type} [FloatOps F] (main_arg4 : FVec F S1024 .f32) (main_arg5 : FVec F S1024 .f32) (main_arg6 : FVec F S4096x1024 .f32) (main_v4 : IVec S4096x5120 1) (main_v9 : IVec S4096x1024 1) (main_v14 : IVec S31x1024 1) (main_v16 : IVec S1024 1) : IVec S4096x5120 1 × IVec S4096x1024 1 × IVec S31x1024 1 × IVec S1024 1 × IVec S1024 1 × IVec S4096x1024 1 :=
  let main_cst_6 : FVec F S_ .f32 := constant S_ .f32 0xFF800000#32
  let main_v17 : FVec F S1024 .f32 := broadcastInDim S1024 ![] bcast_S_S1024 main_cst_6
  let main_v18 : IVec S1024 1 := cmpf .ogt main_arg4 main_v17
  let main_v19 : IVec S1024 1 := andi main_v16 main_v18
  let main_cst_7 : FVec F S_ .f32 := constant S_ .f32 0x7F800000#32
  let main_v20 : FVec F S1024 .f32 := broadcastInDim S1024 ![] bcast_S_S1024 main_cst_7
  let main_v21 : IVec S1024 1 := cmpf .olt main_arg5 main_v20
  let main_cst_8 : FVec F S_ .f32 := constant S_ .f32 0xFF800000#32
  let main_v22 : FVec F S1024 .f32 := broadcastInDim S1024 ![] bcast_S_S1024 main_cst_8
  let main_v23 : IVec S1024 1 := cmpf .ogt main_arg5 main_v22
  let main_v24 : IVec S1024 1 := andi main_v21 main_v23
  let main_cst_9 : FVec F S_ .f32 := constant S_ .f32 0x7F800000#32
  let main_v25 : FVec F S4096x1024 .f32 := broadcastInDim S4096x1024 ![] bcast_S_S4096x1024 main_cst_9
  let main_v26 : IVec S4096x1024 1 := cmpf .olt main_arg6 main_v25
  let main_cst_10 : FVec F S_ .f32 := constant S_ .f32 0xFF800000#32
  let main_v27 : FVec F S4096x1024 .f32 := broadcastInDim S4096x1024 ![] bcast_S_S4096x1024 main_cst_10
  let main_v28 : IVec S4096x1024 1 := cmpf .ogt main_arg6 main_v27
  let main_v29 : IVec S4096x1024 1 := andi main_v26 main_v28
  (main_v4, main_v9, main_v14, main_v19, main_v24, main_v29)

def fn {F : FTy → Type} [FloatOps F] (main_arg0 : FVec F S4096x5120 .f32) (main_arg1 : FVec F S4096x1024 .f32) (main_arg2 : FVec F S31x1024 .f32) (main_arg3 : FVec F S1024 .f32) (main_arg4 : FVec F S1024 .f32) (main_arg5 : FVec F S1024 .f32) (main_arg6 : FVec F S4096x1024 .f32) (main_arg7 : FVec F S4096x1024 .bf16) : IVec S4096x5120 1 × IVec S4096x1024 1 × IVec S31x1024 1 × IVec S1024 1 × IVec S1024 1 × IVec S4096x1024 1 :=
  let main_cst : FVec F S_ .f32 := constant S_ .f32 0x7F800000#32
  let main_v0 : FVec F S4096x5120 .f32 := broadcastInDim S4096x5120 ![] bcast_S_S4096x5120 main_cst
  let main_v1 : IVec S4096x5120 1 := cmpf .olt main_arg0 main_v0
  let main_cst_0 : FVec F S_ .f32 := constant S_ .f32 0xFF800000#32
  let main_v2 : FVec F S4096x5120 .f32 := broadcastInDim S4096x5120 ![] bcast_S_S4096x5120 main_cst_0
  let main_v3 : IVec S4096x5120 1 := cmpf .ogt main_arg0 main_v2
  let main_v4 : IVec S4096x5120 1 := andi main_v1 main_v3
  let main_cst_1 : FVec F S_ .f32 := constant S_ .f32 0x7F800000#32
  let main_v5 : FVec F S4096x1024 .f32 := broadcastInDim S4096x1024 ![] bcast_S_S4096x1024 main_cst_1
  let main_v6 : IVec S4096x1024 1 := cmpf .olt main_arg1 main_v5
  let main_cst_2 : FVec F S_ .f32 := constant S_ .f32 0xFF800000#32
  let main_v7 : FVec F S4096x1024 .f32 := broadcastInDim S4096x1024 ![] bcast_S_S4096x1024 main_cst_2
  let main_v8 : IVec S4096x1024 1 := cmpf .ogt main_arg1 main_v7
  let main_v9 : IVec S4096x1024 1 := andi main_v6 main_v8
  let main_cst_3 : FVec F S_ .f32 := constant S_ .f32 0x7F800000#32
  let main_v10 : FVec F S31x1024 .f32 := broadcastInDim S31x1024 ![] bcast_S_S31x1024 main_cst_3
  let main_v11 : IVec S31x1024 1 := cmpf .olt main_arg2 main_v10
  let main_cst_4 : FVec F S_ .f32 := constant S_ .f32 0xFF800000#32
  let main_v12 : FVec F S31x1024 .f32 := broadcastInDim S31x1024 ![] bcast_S_S31x1024 main_cst_4
  let main_v13 : IVec S31x1024 1 := cmpf .ogt main_arg2 main_v12
  let main_v14 : IVec S31x1024 1 := andi main_v11 main_v13
  let main_cst_5 : FVec F S_ .f32 := constant S_ .f32 0x7F800000#32
  let main_v15 : FVec F S1024 .f32 := broadcastInDim S1024 ![] bcast_S_S1024 main_cst_5
  let main_v16 : IVec S1024 1 := cmpf .olt main_arg4 main_v15
  fn_part1 (F := F) main_arg4 main_arg5 main_arg6 main_v4 main_v9 main_v14 main_v16
-- ==== Pre_finite_qkv.lean ====
abbrev S4096x5120 : Shape := ⟨2, ![4096, 5120]⟩
abbrev S4x2048 : Shape := ⟨2, ![4, 2048]⟩
abbrev S4096x2048 : Shape := ⟨2, ![4096, 2048]⟩
abbrev S_ : Shape := ⟨0, ![]⟩

class Facts : Prop where
  bcast_S_S4096x5120 : S_.BroadcastsInDim S4096x5120 (![] : Fin 0 → Fin S4096x5120.rank)
  bcast_S_S4x2048 : S_.BroadcastsInDim S4x2048 (![] : Fin 0 → Fin S4x2048.rank)
  bcast_S_S4096x2048 : S_.BroadcastsInDim S4096x2048 (![] : Fin 0 → Fin S4096x2048.rank)

variable [Facts]

def fn {F : FTy → Type} [FloatOps F] (main_arg0 : FVec F S4096x5120 .f32) (main_arg1 : FVec F S4x2048 .f32) (main_arg2 : FVec F S4096x2048 .f32) : IVec S4096x5120 1 × IVec S4x2048 1 × IVec S4096x2048 1 :=
  let main_cst : FVec F S_ .f32 := constant S_ .f32 0x7F800000#32
  let main_v0 : FVec F S4096x5120 .f32 := broadcastInDim S4096x5120 ![] bcast_S_S4096x5120 main_cst
  let main_v1 : IVec S4096x5120 1 := cmpf .olt main_arg0 main_v0
  let main_cst_0 : FVec F S_ .f32 := constant S_ .f32 0xFF800000#32
  let main_v2 : FVec F S4096x5120 .f32 := broadcastInDim S4096x5120 ![] bcast_S_S4096x5120 main_cst_0
  let main_v3 : IVec S4096x5120 1 := cmpf .ogt main_arg0 main_v2
  let main_v4 : IVec S4096x5120 1 := andi main_v1 main_v3
  let main_cst_1 : FVec F S_ .f32 := constant S_ .f32 0x7F800000#32
  let main_v5 : FVec F S4x2048 .f32 := broadcastInDim S4x2048 ![] bcast_S_S4x2048 main_cst_1
  let main_v6 : IVec S4x2048 1 := cmpf .olt main_arg1 main_v5
  let main_cst_2 : FVec F S_ .f32 := constant S_ .f32 0xFF800000#32
  let main_v7 : FVec F S4x2048 .f32 := broadcastInDim S4x2048 ![] bcast_S_S4x2048 main_cst_2
  let main_v8 : IVec S4x2048 1 := cmpf .ogt main_arg1 main_v7
  let main_v9 : IVec S4x2048 1 := andi main_v6 main_v8
  let main_cst_3 : FVec F S_ .f32 := constant S_ .f32 0x7F800000#32
  let main_v10 : FVec F S4096x2048 .f32 := broadcastInDim S4096x2048 ![] bcast_S_S4096x2048 main_cst_3
  let main_v11 : IVec S4096x2048 1 := cmpf .olt main_arg2 main_v10
  let main_cst_4 : FVec F S_ .f32 := constant S_ .f32 0xFF800000#32
  let main_v12 : FVec F S4096x2048 .f32 := broadcastInDim S4096x2048 ![] bcast_S_S4096x2048 main_cst_4
  let main_v13 : IVec S4096x2048 1 := cmpf .ogt main_arg2 main_v12
  let main_v14 : IVec S4096x2048 1 := andi main_v11 main_v13
  (main_v4, main_v9, main_v14)
-- ==== FfnK.lean ====
abbrev S4096x11264 : Shape := ⟨2, ![4096, 11264]⟩
abbrev S3x5632 : Shape := ⟨2, ![3, 5632]⟩
abbrev S5632 : Shape := ⟨1, ![5632]⟩
abbrev S4096x5632 : Shape := ⟨2, ![4096, 5632]⟩
abbrev S1x5632 : Shape := ⟨2, ![1, 5632]⟩
abbrev S2x8x5632 : Shape := ⟨3, ![2, 8, 5632]⟩
abbrev S2048x256 : Shape := ⟨2, ![2048, 256]⟩
abbrev S3x256 : Shape := ⟨2, ![3, 256]⟩
abbrev S1x256 : Shape := ⟨2, ![1, 256]⟩
abbrev S1x8x256 : Shape := ⟨3, ![1, 8, 256]⟩
abbrev S256 : Shape := ⟨1, ![256]⟩
abbrev S8x256 : Shape := ⟨2, ![8, 256]⟩

abbrev nBuf : Space → Nat
  | .hbm => 8
  | .vmem => 16
  | .smem => 0
  | _ => 0

abbrev bufTy : (tb : Table) → Fin (tcTables nBuf tb) → BufTy
  | .hbm, ⟨0, _⟩ => ⟨S4096x11264, .bf16⟩
  | .hbm, ⟨1, _⟩ => ⟨S3x5632, .f32⟩
  | .hbm, ⟨2, _⟩ => ⟨S5632, .f32⟩
  | .hbm, ⟨3, _⟩ => ⟨S4096x5632, .bf16⟩
  | .hbm, ⟨4, _⟩ => ⟨S1x5632, .f32⟩
  | .hbm, ⟨5, _⟩ => ⟨S4096x5632, .bf16⟩
  | .hbm, ⟨6, _⟩ => ⟨S4096x5632, .bf16⟩
  | .hbm, ⟨7, _⟩ => ⟨S2x8x5632, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S1x8x256, .f32⟩
  | .local _ .vmem, ⟨15, _⟩ => ⟨S1x8x256, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRIdeal.lean ====
abbrev S4096x11264 : Shape := ⟨2, ![4096, 11264]⟩
abbrev S3x5632 : Shape := ⟨2, ![3, 5632]⟩
abbrev S5632 : Shape := ⟨1, ![5632]⟩
abbrev S4096x5632 : Shape := ⟨2, ![4096, 5632]⟩
abbrev S2x2048x11264 : Shape := ⟨3, ![2, 2048, 11264]⟩
abbrev S2x2048x5632 : Shape := ⟨3, ![2, 2048, 5632]⟩
abbrev S2x3x5632 : Shape := ⟨3, ![2, 3, 5632]⟩
abbrev S2x5632 : Shape := ⟨2, ![2, 5632]⟩
abbrev S3x2048x2048 : Shape := ⟨3, ![3, 2048, 2048]⟩
abbrev S_ : Shape := ⟨0, ![]⟩
abbrev S2x3x1x5632 : Shape := ⟨4, ![2, 3, 1, 5632]⟩
abbrev S2x5632x3x2048 : Shape := ⟨4, ![2, 5632, 3, 2048]⟩
abbrev S2x3x2048x5632 : Shape := ⟨4, ![2, 3, 2048, 5632]⟩
abbrev S2x1x5632 : Shape := ⟨3, ![2, 1, 5632]⟩
abbrev S2x5632x2048 : Shape := ⟨3, ![2, 5632, 2048]⟩
abbrev S2x4x5632 : Shape := ⟨3, ![2, 4, 5632]⟩
abbrev S2x8x5632 : Shape := ⟨3, ![2, 8, 5632]⟩

abbrev nBuf : Space → Nat
  | .hbm => 80
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x5632, .f32⟩
  | .hbm, ⟨2, _⟩ => ⟨S5632, .f32⟩
  | .hbm, ⟨3, _⟩ => ⟨S4096x5632, .bf16⟩
  | .hbm, ⟨4, _⟩ => ⟨S4096x11264, .f32⟩
  | .hbm, ⟨5, _⟩ => ⟨S2x2048x11264, .f32⟩
  | .hbm, ⟨6, _⟩ => ⟨S2x2048x5632, .f32⟩
  | .hbm, ⟨7, _⟩ => ⟨S2x2048x5632, .f32⟩
  | .hbm, ⟨8, _⟩ => ⟨S2x3x5632, .f32⟩
  | .hbm, ⟨9, _⟩ => ⟨S2x5632, .f32⟩
  | .hbm, ⟨10, _⟩ => ⟨S3x2048x2048, .i32⟩
  | .hbm, ⟨11, _⟩ => ⟨S3x2048x2048, .i32⟩
  | .hbm, ⟨12, _⟩ => ⟨S3x2048x2048, .i32⟩
  | .hbm, ⟨13, _⟩ => ⟨S_, .i32⟩
  | .hbm, ⟨14, _⟩ => ⟨S3x2048x2048, .i32⟩
  | .hbm, ⟨15, _⟩ => ⟨S3x2048x2048, .i32⟩
  | .hbm, ⟨16, _⟩ => ⟨S3x2048x2048, .i32⟩
  | .hbm, ⟨17, _⟩ => ⟨S3x2048x2048, .i1⟩
  | .hbm, ⟨18, _⟩ => ⟨S_, .f32⟩
  | .hbm, ⟨19, _⟩ => ⟨S_, .f32⟩
  | .hbm, ⟨20, _⟩ => ⟨S3x2048x2048, .f32⟩
  | .hbm, ⟨21, _⟩ => ⟨S3x2048x2048, .f32⟩
  | .hbm, ⟨22, _⟩ => ⟨S3x2048x2048, .f32⟩
  | .hbm, ⟨23, _⟩ => ⟨S2x3x1x5632, .f32⟩
  | .hbm, ⟨24, _⟩ => ⟨S2x5632x3x2048, .f32⟩
  | .hbm, ⟨25, _⟩ => ⟨S2x3x2048x5632, .f32⟩
  | .hbm, ⟨26, _⟩ => ⟨S2x3x2048x5632, .f32⟩
  | .hbm, ⟨27, _⟩ => ⟨S2x3x2048x5632, .f32⟩
  | .hbm, ⟨28, _⟩ => ⟨S_, .f32⟩
  | .hbm, ⟨29, _⟩ => ⟨S2x2048x5632, .f32⟩
  | .hbm, ⟨30, _⟩ => ⟨S2x1x5632, .f32⟩
  | .hbm, ⟨31, _⟩ => ⟨S2x2048x5632, .f32⟩
  | .hbm, ⟨32, _⟩ => ⟨S2x2048x5632, .f32⟩
  | .hbm, ⟨33, _⟩ => ⟨S2x2048x5632, .f32⟩
  | .hbm, ⟨34, _⟩ => ⟨S2x2048x5632, .f32⟩
  | .hbm, ⟨35, _⟩ => ⟨S_, .f32⟩
  | .hbm, ⟨36, _⟩ => ⟨S2x2048x5632, .f32⟩
  | .hbm, ⟨37, _⟩ => ⟨S2x2048x5632, .f32⟩
  | .hbm, ⟨38, _⟩ => ⟨S_, .f32⟩
  | .hbm, ⟨39, _⟩ => ⟨S2x2048x5632, .f32⟩
  | .hbm, ⟨40, _⟩ => ⟨S2x2048x5632, .f32⟩
  | .hbm, ⟨41, _⟩ => ⟨S_, .f32⟩
  | .hbm, ⟨42, _⟩ => ⟨S2x2048x5632, .f32⟩
  | .hbm, ⟨43, _⟩ => ⟨S2x2048x5632, .f32⟩
  | .hbm, ⟨44, _⟩ => ⟨S2x2048x5632, .f32⟩
  | .hbm, ⟨45, _⟩ => ⟨S2x2048x5632, .f32⟩
  | .hbm, ⟨46, _⟩ => ⟨S2x2048x5632, .f32⟩
  | .hbm, ⟨47, _⟩ => ⟨S4096x5632, .f32⟩
  | .hbm, ⟨48, _⟩ => ⟨S2x2048x5632, .f32⟩
  | .hbm, ⟨49, _⟩ => ⟨S2x2048x5632, .f32⟩
  | .hbm, ⟨50, _⟩ => ⟨S2x2048x5632, .f32⟩
  | .hbm, ⟨51, _⟩ => ⟨S2x2048x5632, .f32⟩
  | .hbm, ⟨52, _⟩ => ⟨S2x2048x5632, .f32⟩
  | .hbm, ⟨53, _⟩ => ⟨S2x2048x5632, .f32⟩
  | .hbm, ⟨54, _⟩ => ⟨S2x2048x5632, .f32⟩
  | .hbm, ⟨55, _⟩ => ⟨S_, .f32⟩
  | .hbm, ⟨56, _⟩ => ⟨S2x5632, .f32⟩
  | .hbm, ⟨57, _⟩ => ⟨S2x1x5632, .f32⟩
  | .hbm, ⟨58, _⟩ => ⟨S_, .f32⟩
  | .hbm, ⟨59, _⟩ => ⟨S2x5632, .f32⟩
  | .hbm, ⟨60, _⟩ => ⟨S2x3x2048x5632, .f32⟩
  | .hbm, ⟨61, _⟩ => ⟨S2x3x2048x5632, .f32⟩
  | .hbm, ⟨62, _⟩ => ⟨S2x3x2048x5632, .f32⟩
  | .hbm, ⟨63, _⟩ => ⟨S2x3x2048x5632, .f32⟩
  | .hbm, ⟨64, _⟩ => ⟨S_, .f32⟩
  | .hbm, ⟨65, _⟩ => ⟨S2x3x5632, .f32⟩
  | .hbm, ⟨66, _⟩ => ⟨S2x3x1x5632, .f32⟩
  | .hbm, ⟨67, _⟩ => ⟨S2x5632x3x2048, .f32⟩
  | .hbm, ⟨68, _⟩ => ⟨S2x5632x2048, .f32⟩
  | .hbm, ⟨69, _⟩ => ⟨S2x2048x5632, .f32⟩
  | .hbm, ⟨70, _⟩ => ⟨S_, .f32⟩
  | .hbm, ⟨71, _⟩ => ⟨S2x3x5632, .f32⟩
  | .hbm, ⟨72, _⟩ => ⟨S4096x5632, .f32⟩
  | .hbm, ⟨73, _⟩ => ⟨S4096x5632, .bf16⟩
  | .hbm, ⟨74, _⟩ => ⟨S4096x5632, .f32⟩
  | .hbm, ⟨75, _⟩ => ⟨S4096x5632, .bf16⟩
  | .hbm, ⟨76, _⟩ => ⟨S2x1x5632, .f32⟩
  | .hbm, ⟨77, _⟩ => ⟨S_, .f32⟩
  | .hbm, ⟨78, _⟩ => ⟨S2x4x5632, .f32⟩
  | .hbm, ⟨79, _⟩ => ⟨S2x8x5632, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_v23_2 : Ref sig .tc := ⟨.hbm, 40, rfl⟩
abbrev main_call1_cst_1 : Ref sig .tc := ⟨.hbm, 41, rfl⟩
abbrev main_call1_v6 : Ref sig .tc := ⟨.hbm, 42, rfl⟩
abbrev main_call1_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]
-- ==== DwdownK.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwupK.lean ====
abbrev S4096x2048 : Shape := ⟨2, ![4096, 2048]⟩
abbrev S4096x5632 : Shape := ⟨2, ![4096, 5632]⟩
abbrev S2x2048x2816 : Shape := ⟨3, ![2, 2048, 2816]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwupRIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x2x2816 : Shape := ⟨3, ![2048, 2, 2816]⟩
abbrev S2x2048x2816 : Shape := ⟨3, ![2, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x2x2816, .f32⟩
  | .hbm, ⟨10, _⟩ => ⟨S2x2048x2816, .f32⟩
  | .hbm, ⟨11, _⟩ => ⟨S2x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DactK.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwinK.lean ====
abbrev S4096x2048 : Shape := ⟨2, ![4096, 2048]⟩
abbrev S4096x5120 : Shape := ⟨2, ![4096, 5120]⟩
abbrev S2048x5120 : Shape := ⟨2, ![2048, 5120]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRIdeal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S_, .f32⟩
  | .hbm, ⟨3, _⟩ => ⟨S2048x5120, .f32⟩
  | .hbm, ⟨4, _⟩ => ⟨S4096x2048, .f32⟩
  | .hbm, ⟨5, _⟩ => ⟨S4096x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DhgK.lean ====
abbrev S4096x5632 : Shape := ⟨2, ![4096, 5632]⟩
abbrev S4x2048x2816 : Shape := ⟨3, ![4, 2048, 2816]⟩
abbrev S4096x2048 : Shape := ⟨2, ![4096, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x2048x2816, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhgRIdeal.lean ====
abbrev S4096x5632 : Shape := ⟨2, ![4096, 5632]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x5632 : Shape := ⟨2, ![2048, 5632]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S2048x5632, .bf16⟩
  | .hbm, ⟨5, _⟩ => ⟨S_, .f32⟩
  | .hbm, ⟨6, _⟩ => ⟨S4096x2048, .f32⟩
  | .hbm, ⟨7, _⟩ => ⟨S2048x5632, .f32⟩
  | .hbm, ⟨8, _⟩ => ⟨S4096x5632, .f32⟩
  | .hbm, ⟨9, _⟩ => ⟨S4096x5632, .f32⟩
  | .hbm, ⟨10, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DhuK.lean ====
abbrev S4096x5632 : Shape := ⟨2, ![4096, 5632]⟩
abbrev S4x2048x2816 : Shape := ⟨3, ![4, 2048, 2816]⟩
abbrev S4096x2048 : Shape := ⟨2, ![4096, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S4x2048x2816, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhuRIdeal.lean ====
abbrev S4096x5632 : Shape := ⟨2, ![4096, 5632]⟩
abbrev S4x2048x2816 : Shape := ⟨3, ![4, 2048, 2816]⟩
abbrev S4096x2048 : Shape := ⟨2, ![4096, 2048]⟩
abbrev S2048x4x2816 : Shape := ⟨3, ![2048, 4, 2816]⟩
abbrev S2048x11264 : Shape := ⟨2, ![2048, 11264]⟩
abbrev S2048x5632 : Shape := ⟨2, ![2048, 5632]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x2816, .bf16⟩
  | .hbm, ⟨2, _⟩ => ⟨S4096x2048, .f32⟩
  | .hbm, ⟨3, _⟩ => ⟨S2048x4x2816, .bf16⟩
  | .hbm, ⟨4, _⟩ => ⟨S2048x11264, .bf16⟩
  | .hbm, ⟨5, _⟩ => ⟨S2048x5632, .bf16⟩
  | .hbm, ⟨6, _⟩ => ⟨S_, .f32⟩
  | .hbm, ⟨7, _⟩ => ⟨S4096x2048, .f32⟩
  | .hbm, ⟨8, _⟩ => ⟨S2048x5632, .f32⟩
  | .hbm, ⟨9, _⟩ => ⟨S4096x5632, .f32⟩
  | .hbm, ⟨10, _⟩ => ⟨S4096x5632, .f32⟩
  | .hbm, ⟨11, _⟩ => ⟨S4096x2048, .f32⟩
  | .hbm, ⟨12, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DhK.lean ====
abbrev S4096x5120 : Shape := ⟨2, ![4096, 5120]⟩
abbrev S2048x5120 : Shape := ⟨2, ![2048, 5120]⟩
abbrev S4096x2048 : Shape := ⟨2, ![4096, 2048]⟩
abbrev S512x5120 : Shape := ⟨2, ![512, 5120]⟩
abbrev S1024x5120 : Shape := ⟨2, ![1024, 5120]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .f32⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S1024x5120, .bf16⟩
  | .local _ .vmem, ⟨4, _⟩ => ⟨S512x1024, .f32⟩
  | .local _ .vmem, ⟨5, _⟩ => ⟨S512x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRIdeal.lean ====
abbrev S4096x5120 : Shape := ⟨2, ![4096, 5120]⟩
abbrev S2048x5120 : Shape := ⟨2, ![2048, 5120]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S_, .f32⟩
  | .hbm, ⟨3, _⟩ => ⟨S4096x2048, .f32⟩
  | .hbm, ⟨4, _⟩ => ⟨S2048x5120, .f32⟩
  | .hbm, ⟨5, _⟩ => ⟨S4096x5120, .f32⟩
  | .hbm, ⟨6, _⟩ => ⟨S4096x5120, .f32⟩
  | .hbm, ⟨7, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpK.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg2 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRIdeal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S4096x2048, .f32⟩
  | .hbm, ⟨5, _⟩ => ⟨S2048x11264, .f32⟩
  | .hbm, ⟨6, _⟩ => ⟨S4096x11264, .f32⟩
  | .hbm, ⟨7, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DownK.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InMainK.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InMainRIdeal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InBaK.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBaRIdeal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PwK.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PwRIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutK.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DoutaK.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoutaRIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DoutbK.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoutbRIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwoutK.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DucK.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DucRIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwpwK.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpwRIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwbaK.lean ====
abbrev S4096x2048 : Shape := ⟨2, ![4096, 2048]⟩
abbrev S4096x128 : Shape := ⟨2, ![4096, 128]⟩
abbrev S2048x128 : Shape := ⟨2, ![2048, 128]⟩
abbrev S4096x1024 : Shape := ⟨2, ![4096, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x128, .f32⟩
  | .hbm, ⟨2, _⟩ => ⟨S2048x128, .bf16⟩
  | .local _ .vmem, ⟨0, _⟩ => ⟨S4096x1024, .bf16⟩
  | .local _ .vmem, ⟨1, _⟩ => ⟨S4096x1024, .bf16⟩
  | .local _ .vmem, ⟨2, _⟩ => ⟨S4096x128, .f32⟩
  | .local _ .vmem, ⟨3, _⟩ => ⟨S1024x128, .bf16⟩
  | .local _ .vmem, ⟨4, _⟩ => ⟨S1024x128, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwbaRIdeal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .f32⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S128x2048, .f32⟩
  | .hbm, ⟨7, _⟩ => ⟨S2048x128, .f32⟩
  | .hbm, ⟨8, _⟩ => ⟨S2048x128, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DhbaK.lean ====
abbrev S4096x128 : Shape := ⟨2, ![4096, 128]⟩
abbrev S2048x128 : Shape := ⟨2, ![2048, 128]⟩
abbrev S4096x2048 : Shape := ⟨2, ![4096, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S2048x128, .bf16⟩
  | .hbm, ⟨2, _⟩ => ⟨S4096x2048, .f32⟩
  | .hbm, ⟨3, _⟩ => ⟨S4096x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhbaRIdeal.lean ====
abbrev S4096x128 : Shape := ⟨2, ![4096, 128]⟩
abbrev S2048x128 : Shape := ⟨2, ![2048, 128]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2048x128, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x128, .f32⟩
  | .hbm, ⟨6, _⟩ => ⟨S4096x128, .f32⟩
  | .hbm, ⟨7, _⟩ => ⟨S4096x2048, .f32⟩
  | .hbm, ⟨8, _⟩ => ⟨S4096x2048, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AdWinK.lean ====
abbrev S2x2048x1284 : Shape := ⟨3, ![2, 2048, 1284]⟩
abbrev S1x128x1284 : Shape := ⟨3, ![1, 128, 1284]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x1284, .bf16⟩
  | .hbm, ⟨1, _⟩ => ⟨S2x2048x1284, .bf16⟩
  | .hbm, ⟨2, _⟩ => ⟨S2x2048x1284, .f32⟩
  | .hbm, ⟨3, _⟩ => ⟨S2x2048x1284, .f32⟩
  | .hbm, ⟨4, _⟩ => ⟨S2x2048x1284, .f32⟩
  | .hbm, ⟨5, _⟩ => ⟨S2x2048x1284, .f32⟩
  | .hbm, ⟨6, _⟩ => ⟨S2x2048x1284, .f32⟩
  | .hbm, ⟨7, _⟩ => ⟨S2x2048x1284, .f32⟩
  | .hbm, ⟨8, _⟩ => ⟨S2x2048x1284, .f32⟩
  | .local _ .vmem, ⟨0, _⟩ => ⟨S1x128x1284, .bf16⟩
  | .local _ .vmem, ⟨1, _⟩ => ⟨S1x128x1284, .bf16⟩
  | .local _ .vmem, ⟨2, _⟩ => ⟨S1x128x1284, .bf16⟩
  | .local _ .vmem, ⟨3, _⟩ => ⟨S1x128x1284, .bf16⟩
  | .local _ .vmem, ⟨4, _⟩ => ⟨S1x128x1284, .f32⟩
  | .local _ .vmem, ⟨5, _⟩ => ⟨S1x128x1284, .f32⟩
  | .local _ .vmem, ⟨6, _⟩ => ⟨S1x128x1284, .f32⟩
  | .local _ .vmem, ⟨7, _⟩ => ⟨S1x128x1284, .f32⟩
  | .local _ .vmem, ⟨8, _⟩ => ⟨S1x128x1284, .f32⟩
  | .local _ .vmem, ⟨9, _⟩ => ⟨S1x128x1284, .f32⟩
  | .local _ .vmem, ⟨10, _⟩ => ⟨S1x128x1284, .f32⟩
  | .local _ .vmem, ⟨11, _⟩ => ⟨S1x128x1284, .f32⟩
  | .local _ .vmem, ⟨12, _⟩ => ⟨S1x128x1284, .f32⟩
  | .local _ .vmem, ⟨13, _⟩ => ⟨S1x128x1284, .f32⟩
  | .local _ .vmem, ⟨14, _⟩ => ⟨S1x128x1284, .f32⟩
  | .local _ .vmem, ⟨15, _⟩ => ⟨S1x128x1284, .f32⟩
  | .local _ .vmem, ⟨16, _⟩ => ⟨S1x128x1284, .f32⟩
  | .local _ .vmem, ⟨17, _⟩ => ⟨S1x128x1284, .f32⟩
  | _, _ => ⟨S2x2048x1284, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1284 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1284 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1284 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1284 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdWinKIdeal.lean ====
abbrev S2x2048x1284 : Shape := ⟨3, ![2, 2048, 1284]⟩
abbrev S1x128x1284 : Shape := ⟨3, ![1, 128, 1284]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x1284, .bf16⟩
  | .hbm, ⟨1, _⟩ => ⟨S2x2048x1284, .bf16⟩
  | .hbm, ⟨2, _⟩ => ⟨S2x2048x1284, .f32⟩
  | .hbm, ⟨3, _⟩ => ⟨S2x2048x1284, .f32⟩
  | .hbm, ⟨4, _⟩ => ⟨S2x2048x1284, .f32⟩
  | .hbm, ⟨5, _⟩ => ⟨S2x2048x1284, .f32⟩
  | .hbm, ⟨6, _⟩ => ⟨S2x2048x1284, .f32⟩
  | .hbm, ⟨7, _⟩ => ⟨S2x2048x1284, .f32⟩
  | .hbm, ⟨8, _⟩ => ⟨S2x2048x1284, .f32⟩
  | .local _ .vmem, ⟨0, _⟩ => ⟨S1x128x1284, .bf16⟩
  | .local _ .vmem, ⟨1, _⟩ => ⟨S1x128x1284, .bf16⟩
  | .local _ .vmem, ⟨2, _⟩ => ⟨S1x128x1284, .bf16⟩
  | .local _ .vmem, ⟨3, _⟩ => ⟨S1x128x1284, .bf16⟩
  | .local _ .vmem, ⟨4, _⟩ => ⟨S1x128x1284, .f32⟩
  | .local _ .vmem, ⟨5, _⟩ => ⟨S1x128x1284, .f32⟩
  | .local _ .vmem, ⟨6, _⟩ => ⟨S1x128x1284, .f32⟩
  | .local _ .vmem, ⟨7, _⟩ => ⟨S1x128x1284, .f32⟩
  | .local _ .vmem, ⟨8, _⟩ => ⟨S1x128x1284, .f32⟩
  | .local _ .vmem, ⟨9, _⟩ => ⟨S1x128x1284, .f32⟩
  | .local _ .vmem, ⟨10, _⟩ => ⟨S1x128x1284, .f32⟩
  | .local _ .vmem, ⟨11, _⟩ => ⟨S1x128x1284, .f32⟩
  | .local _ .vmem, ⟨12, _⟩ => ⟨S1x128x1284, .f32⟩
  | .local _ .vmem, ⟨13, _⟩ => ⟨S1x128x1284, .f32⟩
  | .local _ .vmem, ⟨14, _⟩ => ⟨S1x128x1284, .f32⟩
  | .local _ .vmem, ⟨15, _⟩ => ⟨S1x128x1284, .f32⟩
  | .local _ .vmem, ⟨16, _⟩ => ⟨S1x128x1284, .f32⟩
  | .local _ .vmem, ⟨17, _⟩ => ⟨S1x128x1284, .f32⟩
  | _, _ => ⟨S2x2048x1284, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1284 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1284 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1284 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1284 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdWinRIdeal.lean ====
abbrev S2x2048x1284 : Shape := ⟨3, ![2, 2048, 1284]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1284, .bf16⟩
  | .hbm, ⟨1, _⟩ => ⟨S2x2048x1284, .bf16⟩
  | .hbm, ⟨2, _⟩ => ⟨S2x2048x1284, .f32⟩
  | .hbm, ⟨3, _⟩ => ⟨S2x2048x1284, .f32⟩
  | .hbm, ⟨4, _⟩ => ⟨S2x2048x1284, .f32⟩
  | .hbm, ⟨5, _⟩ => ⟨S2x2048x1284, .f32⟩
  | .hbm, ⟨6, _⟩ => ⟨S2x2048x1284, .f32⟩
  | .hbm, ⟨7, _⟩ => ⟨S2x2048x1284, .f32⟩
  | .hbm, ⟨8, _⟩ => ⟨S_, .f32⟩
  | .hbm, ⟨9, _⟩ => ⟨S2x2048x1284, .f32⟩
  | .hbm, ⟨10, _⟩ => ⟨S2x2048x1284, .f32⟩
  | .hbm, ⟨11, _⟩ => ⟨S_, .f32⟩
  | .hbm, ⟨12, _⟩ => ⟨S2x2048x1284, .f32⟩
  | .hbm, ⟨13, _⟩ => ⟨S2x2048x1284, .f32⟩
  | .hbm, ⟨14, _⟩ => ⟨S2x2048x1284, .f32⟩
  | .hbm, ⟨15, _⟩ => ⟨S_, .f32⟩
  | .hbm, ⟨16, _⟩ => ⟨S2x2048x1284, .f32⟩
  | .hbm, ⟨17, _⟩ => ⟨S2x2048x1284, .f32⟩
  | .hbm, ⟨18, _⟩ => ⟨S2x2048x1284, .f32⟩
  | .hbm, ⟨19, _⟩ => ⟨S_, .f32⟩
  | .hbm, ⟨20, _⟩ => ⟨S2x2048x1284, .f32⟩
  | .hbm, ⟨21, _⟩ => ⟨S2x2048x1284, .f32⟩
  | .hbm, ⟨22, _⟩ => ⟨S2x2048x1284, .f32⟩
  | .hbm, ⟨23, _⟩ => ⟨S_, .f32⟩
  | .hbm, ⟨24, _⟩ => ⟨S2x2048x1284, .f32⟩
  | .hbm, ⟨25, _⟩ => ⟨S2x2048x1284, .f32⟩
  | .hbm, ⟨26, _⟩ => ⟨S_, .f32⟩
  | .hbm, ⟨27, _⟩ => ⟨S2x2048x1284, .f32⟩
  | .hbm, ⟨28, _⟩ => ⟨S2x2048x1284, .f32⟩
  | .hbm, ⟨29, _⟩ => ⟨S2x2048x1284, .f32⟩
  | .hbm, ⟨30, _⟩ => ⟨S_, .f32⟩
  | .hbm, ⟨31, _⟩ => ⟨S2x2048x1284, .f32⟩
  | .hbm, ⟨32, _⟩ => ⟨S2x2048x1284, .f32⟩
  | .hbm, ⟨33, _⟩ => ⟨S2x2048x1284, .f32⟩
  | .hbm, ⟨34, _⟩ => ⟨S_, .f32⟩
  | .hbm, ⟨35, _⟩ => ⟨S2x2048x1284, .f32⟩
  | .hbm, ⟨36, _⟩ => ⟨S2x2048x1284, .f32⟩
  | .hbm, ⟨37, _⟩ => ⟨S2x2048x1284, .f32⟩
  | .hbm, ⟨38, _⟩ => ⟨S_, .f32⟩
  | .hbm, ⟨39, _⟩ => ⟨S2x2048x1284, .f32⟩
  | .hbm, ⟨40, _⟩ => ⟨S2x2048x1284, .f32⟩
  | _, _ => ⟨S2x2048x1284, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdPwK.lean ====
abbrev S2x256x1024 : Shape := ⟨3, ![2, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .bf16⟩
  | .hbm, ⟨1, _⟩ => ⟨S2x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdPwKIdeal.lean ====
abbrev S2x256x1024 : Shape := ⟨3, ![2, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .bf16⟩
  | .hbm, ⟨1, _⟩ => ⟨S2x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdPwRIdeal.lean ====
abbrev S2x256x1024 : Shape := ⟨3, ![2, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S2x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdWoutK.lean ====
abbrev S2x512x2048 : Shape := ⟨3, ![2, 512, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .bf16⟩
  | .hbm, ⟨1, _⟩ => ⟨S2x512x2048, .bf16⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdWoutKIdeal.lean ====
abbrev S2x512x2048 : Shape := ⟨3, ![2, 512, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .bf16⟩
  | .hbm, ⟨1, _⟩ => ⟨S2x512x2048, .bf16⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdWoutRIdeal.lean ====
abbrev S2x512x2048 : Shape := ⟨3, ![2, 512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .bf16⟩
  | .hbm, ⟨1, _⟩ => ⟨S2x512x2048, .bf16⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S_, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | _, _ => ⟨S2x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdWupK.lean ====
abbrev S2x2048x2816 : Shape := ⟨3, ![2, 2048, 2816]⟩
abbrev S1x64x2816 : Shape := ⟨3, ![1, 64, 2816]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2816, .bf16⟩
  | .hbm, ⟨1, _⟩ => ⟨S2x2048x2816, .bf16⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .local _ .vmem, ⟨0, _⟩ => ⟨S1x64x2816, .bf16⟩
  | .local _ .vmem, ⟨1, _⟩ => ⟨S1x64x2816, .bf16⟩
  | .local _ .vmem, ⟨2, _⟩ => ⟨S1x64x2816, .bf16⟩
  | .local _ .vmem, ⟨3, _⟩ => ⟨S1x64x2816, .bf16⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | .local _ .vmem, ⟨16, _⟩ => ⟨S1x64x2816, .f32⟩
  | .local _ .vmem, ⟨17, _⟩ => ⟨S1x64x2816, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdWupKIdeal.lean ====
abbrev S2x2048x2816 : Shape := ⟨3, ![2, 2048, 2816]⟩
abbrev S1x64x2816 : Shape := ⟨3, ![1, 64, 2816]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2816, .bf16⟩
  | .hbm, ⟨1, _⟩ => ⟨S2x2048x2816, .bf16⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .local _ .vmem, ⟨0, _⟩ => ⟨S1x64x2816, .bf16⟩
  | .local _ .vmem, ⟨1, _⟩ => ⟨S1x64x2816, .bf16⟩
  | .local _ .vmem, ⟨2, _⟩ => ⟨S1x64x2816, .bf16⟩
  | .local _ .vmem, ⟨3, _⟩ => ⟨S1x64x2816, .bf16⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | .local _ .vmem, ⟨16, _⟩ => ⟨S1x64x2816, .f32⟩
  | .local _ .vmem, ⟨17, _⟩ => ⟨S1x64x2816, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdWupRIdeal.lean ====
abbrev S2x2048x2816 : Shape := ⟨3, ![2, 2048, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2x2048x2816, .bf16⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S_, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S_, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdWdownK.lean ====
abbrev S2x1408x2048 : Shape := ⟨3, ![2, 1408, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1408x2048, .bf16⟩
  | .hbm, ⟨1, _⟩ => ⟨S2x1408x2048, .bf16⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdWdownRIdeal.lean ====
abbrev S2x1408x2048 : Shape := ⟨3, ![2, 1408, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1408x2048, .bf16⟩
  | .hbm, ⟨1, _⟩ => ⟨S2x1408x2048, .bf16⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S_, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S2x1408x2048, .f32⟩
  | .hbm, ⟨23, _⟩ => ⟨S_, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2x1408x2048, .f32⟩
  | .hbm, ⟨38, _⟩ => ⟨S_, .f32⟩
  | .hbm, ⟨39, _⟩ => ⟨S2x1408x2048, .f32⟩
  | .hbm, ⟨40, _⟩ => ⟨S2x1408x2048, .f32⟩
  | _, _ => ⟨S2x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdDwK.lean ====
abbrev S2x31x256 : Shape := ⟨3, ![2, 31, 256]⟩
abbrev S1x31x256 : Shape := ⟨3, ![1, 31, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S2x31x256, .f32⟩
  | .hbm, ⟨5, _⟩ => ⟨S2x31x256, .f32⟩
  | .hbm, ⟨6, _⟩ => ⟨S2x31x256, .f32⟩
  | .hbm, ⟨7, _⟩ => ⟨S2x31x256, .f32⟩
  | .local _ .vmem, ⟨0, _⟩ => ⟨S1x31x256, .f32⟩
  | .local _ .vmem, ⟨1, _⟩ => ⟨S1x31x256, .f32⟩
  | .local _ .vmem, ⟨2, _⟩ => ⟨S1x31x256, .f32⟩
  | .local _ .vmem, ⟨3, _⟩ => ⟨S1x31x256, .f32⟩
  | .local _ .vmem, ⟨4, _⟩ => ⟨S1x31x256, .f32⟩
  | .local _ .vmem, ⟨5, _⟩ => ⟨S1x31x256, .f32⟩
  | .local _ .vmem, ⟨6, _⟩ => ⟨S1x31x256, .f32⟩
  | .local _ .vmem, ⟨7, _⟩ => ⟨S1x31x256, .f32⟩
  | .local _ .vmem, ⟨8, _⟩ => ⟨S1x31x256, .f32⟩
  | .local _ .vmem, ⟨9, _⟩ => ⟨S1x31x256, .f32⟩
  | .local _ .vmem, ⟨10, _⟩ => ⟨S1x31x256, .f32⟩
  | .local _ .vmem, ⟨11, _⟩ => ⟨S1x31x256, .f32⟩
  | .local _ .vmem, ⟨12, _⟩ => ⟨S1x31x256, .f32⟩
  | .local _ .vmem, ⟨13, _⟩ => ⟨S1x31x256, .f32⟩
  | .local _ .vmem, ⟨14, _⟩ => ⟨S1x31x256, .f32⟩
  | .local _ .vmem, ⟨15, _⟩ => ⟨S1x31x256, .f32⟩
  | _, _ => ⟨S2x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x31x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x31x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x31x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x31x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x31x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x31x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x31x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdDwKIdeal.lean ====
abbrev S2x31x256 : Shape := ⟨3, ![2, 31, 256]⟩
abbrev S1x31x256 : Shape := ⟨3, ![1, 31, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S2x31x256, .f32⟩
  | .hbm, ⟨5, _⟩ => ⟨S2x31x256, .f32⟩
  | .hbm, ⟨6, _⟩ => ⟨S2x31x256, .f32⟩
  | .hbm, ⟨7, _⟩ => ⟨S2x31x256, .f32⟩
  | .local _ .vmem, ⟨0, _⟩ => ⟨S1x31x256, .f32⟩
  | .local _ .vmem, ⟨1, _⟩ => ⟨S1x31x256, .f32⟩
  | .local _ .vmem, ⟨2, _⟩ => ⟨S1x31x256, .f32⟩
  | .local _ .vmem, ⟨3, _⟩ => ⟨S1x31x256, .f32⟩
  | .local _ .vmem, ⟨4, _⟩ => ⟨S1x31x256, .f32⟩
  | .local _ .vmem, ⟨5, _⟩ => ⟨S1x31x256, .f32⟩
  | .local _ .vmem, ⟨6, _⟩ => ⟨S1x31x256, .f32⟩
  | .local _ .vmem, ⟨7, _⟩ => ⟨S1x31x256, .f32⟩
  | .local _ .vmem, ⟨8, _⟩ => ⟨S1x31x256, .f32⟩
  | .local _ .vmem, ⟨9, _⟩ => ⟨S1x31x256, .f32⟩
  | .local _ .vmem, ⟨10, _⟩ => ⟨S1x31x256, .f32⟩
  | .local _ .vmem, ⟨11, _⟩ => ⟨S1x31x256, .f32⟩
  | .local _ .vmem, ⟨12, _⟩ => ⟨S1x31x256, .f32⟩
  | .local _ .vmem, ⟨13, _⟩ => ⟨S1x31x256, .f32⟩
  | .local _ .vmem, ⟨14, _⟩ => ⟨S1x31x256, .f32⟩
  | .local _ .vmem, ⟨15, _⟩ => ⟨S1x31x256, .f32⟩
  | _, _ => ⟨S2x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x31x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x31x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x31x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x31x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x31x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x31x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x31x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdDwRIdeal.lean ====
abbrev S2x31x256 : Shape := ⟨3, ![2, 31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S_, .f32⟩
  | .hbm, ⟨5, _⟩ => ⟨S2x31x256, .f32⟩
  | .hbm, ⟨6, _⟩ => ⟨S2x31x256, .f32⟩
  | .hbm, ⟨7, _⟩ => ⟨S_, .f32⟩
  | .hbm, ⟨8, _⟩ => ⟨S2x31x256, .f32⟩
  | .hbm, ⟨9, _⟩ => ⟨S2x31x256, .f32⟩
  | .hbm, ⟨10, _⟩ => ⟨S2x31x256, .f32⟩
  | .hbm, ⟨11, _⟩ => ⟨S_, .f32⟩
  | .hbm, ⟨12, _⟩ => ⟨S2x31x256, .f32⟩
  | .hbm, ⟨13, _⟩ => ⟨S2x31x256, .f32⟩
  | .hbm, ⟨14, _⟩ => ⟨S2x31x256, .f32⟩
  | .hbm, ⟨15, _⟩ => ⟨S_, .f32⟩
  | .hbm, ⟨16, _⟩ => ⟨S2x31x256, .f32⟩
  | .hbm, ⟨17, _⟩ => ⟨S2x31x256, .f32⟩
  | .hbm, ⟨18, _⟩ => ⟨S2x31x256, .f32⟩
  | .hbm, ⟨19, _⟩ => ⟨S_, .f32⟩
  | .hbm, ⟨20, _⟩ => ⟨S2x31x256, .f32⟩
  | .hbm, ⟨21, _⟩ => ⟨S2x31x256, .f32⟩
  | .hbm, ⟨22, _⟩ => ⟨S_, .f32⟩
  | .hbm, ⟨23, _⟩ => ⟨S2x31x256, .f32⟩
  | .hbm, ⟨24, _⟩ => ⟨S2x31x256, .f32⟩
  | .hbm, ⟨25, _⟩ => ⟨S2x31x256, .f32⟩
  | .hbm, ⟨26, _⟩ => ⟨S_, .f32⟩
  | .hbm, ⟨27, _⟩ => ⟨S2x31x256, .f32⟩
  | .hbm, ⟨28, _⟩ => ⟨S2x31x256, .f32⟩
  | .hbm, ⟨29, _⟩ => ⟨S2x31x256, .f32⟩
  | .hbm, ⟨30, _⟩ => ⟨S_, .f32⟩
  | .hbm, ⟨31, _⟩ => ⟨S2x31x256, .f32⟩
  | .hbm, ⟨32, _⟩ => ⟨S2x31x256, .f32⟩
  | .hbm, ⟨33, _⟩ => ⟨S2x31x256, .f32⟩
  | .hbm, ⟨34, _⟩ => ⟨S_, .f32⟩
  | .hbm, ⟨35, _⟩ => ⟨S2x31x256, .f32⟩
  | .hbm, ⟨36, _⟩ => ⟨S2x31x256, .f32⟩
  | _, _ => ⟨S2x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGcK.lean ====
abbrev S2x4x512 : Shape := ⟨3, ![2, 4, 512]⟩
abbrev S1x4x512 : Shape := ⟨3, ![1, 4, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S2x4x512, .f32⟩
  | .hbm, ⟨4, _⟩ => ⟨S2x4x512, .f32⟩
  | .hbm, ⟨5, _⟩ => ⟨S2x4x512, .f32⟩
  | .hbm, ⟨6, _⟩ => ⟨S2x4x512, .f32⟩
  | .hbm, ⟨7, _⟩ => ⟨S2x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | .local _ .vmem, ⟨12, _⟩ => ⟨S1x4x512, .f32⟩
  | .local _ .vmem, ⟨13, _⟩ => ⟨S1x4x512, .f32⟩
  | .local _ .vmem, ⟨14, _⟩ => ⟨S1x4x512, .f32⟩
  | .local _ .vmem, ⟨15, _⟩ => ⟨S1x4x512, .f32⟩
  | _, _ => ⟨S2x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdGcKIdeal.lean ====
abbrev S2x4x512 : Shape := ⟨3, ![2, 4, 512]⟩
abbrev S1x4x512 : Shape := ⟨3, ![1, 4, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S2x4x512, .f32⟩
  | .hbm, ⟨4, _⟩ => ⟨S2x4x512, .f32⟩
  | .hbm, ⟨5, _⟩ => ⟨S2x4x512, .f32⟩
  | .hbm, ⟨6, _⟩ => ⟨S2x4x512, .f32⟩
  | .hbm, ⟨7, _⟩ => ⟨S2x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | .local _ .vmem, ⟨12, _⟩ => ⟨S1x4x512, .f32⟩
  | .local _ .vmem, ⟨13, _⟩ => ⟨S1x4x512, .f32⟩
  | .local _ .vmem, ⟨14, _⟩ => ⟨S1x4x512, .f32⟩
  | .local _ .vmem, ⟨15, _⟩ => ⟨S1x4x512, .f32⟩
  | _, _ => ⟨S2x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdGcRIdeal.lean ====
abbrev S2x4x512 : Shape := ⟨3, ![2, 4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S2x4x512, .f32⟩
  | .hbm, ⟨4, _⟩ => ⟨S_, .f32⟩
  | .hbm, ⟨5, _⟩ => ⟨S2x4x512, .f32⟩
  | .hbm, ⟨6, _⟩ => ⟨S2x4x512, .f32⟩
  | .hbm, ⟨7, _⟩ => ⟨S_, .f32⟩
  | .hbm, ⟨8, _⟩ => ⟨S2x4x512, .f32⟩
  | .hbm, ⟨9, _⟩ => ⟨S2x4x512, .f32⟩
  | .hbm, ⟨10, _⟩ => ⟨S2x4x512, .f32⟩
  | .hbm, ⟨11, _⟩ => ⟨S_, .f32⟩
  | .hbm, ⟨12, _⟩ => ⟨S2x4x512, .f32⟩
  | .hbm, ⟨13, _⟩ => ⟨S2x4x512, .f32⟩
  | .hbm, ⟨14, _⟩ => ⟨S2x4x512, .f32⟩
  | .hbm, ⟨15, _⟩ => ⟨S_, .f32⟩
  | .hbm, ⟨16, _⟩ => ⟨S2x4x512, .f32⟩
  | .hbm, ⟨17, _⟩ => ⟨S2x4x512, .f32⟩
  | .hbm, ⟨18, _⟩ => ⟨S2x4x512, .f32⟩
  | .hbm, ⟨19, _⟩ => ⟨S_, .f32⟩
  | .hbm, ⟨20, _⟩ => ⟨S2x4x512, .f32⟩
  | .hbm, ⟨21, _⟩ => ⟨S2x4x512, .f32⟩
  | .hbm, ⟨22, _⟩ => ⟨S_, .f32⟩
  | .hbm, ⟨23, _⟩ => ⟨S2x4x512, .f32⟩
  | .hbm, ⟨24, _⟩ => ⟨S2x4x512, .f32⟩
  | .hbm, ⟨25, _⟩ => ⟨S2x4x512, .f32⟩
  | .hbm, ⟨26, _⟩ => ⟨S_, .f32⟩
  | .hbm, ⟨27, _⟩ => ⟨S2x4x512, .f32⟩
  | .hbm, ⟨28, _⟩ => ⟨S2x4x512, .f32⟩
  | .hbm, ⟨29, _⟩ => ⟨S2x4x512, .f32⟩
  | .hbm, ⟨30, _⟩ => ⟨S_, .f32⟩
  | .hbm, ⟨31, _⟩ => ⟨S2x4x512, .f32⟩
  | .hbm, ⟨32, _⟩ => ⟨S2x4x512, .f32⟩
  | .hbm, ⟨33, _⟩ => ⟨S2x4x512, .f32⟩
  | .hbm, ⟨34, _⟩ => ⟨S_, .f32⟩
  | .hbm, ⟨35, _⟩ => ⟨S2x4x512, .f32⟩
  | .hbm, ⟨36, _⟩ => ⟨S2x4x512, .f32⟩
  | _, _ => ⟨S2x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFcK.lean ====
abbrev S2x3x1408 : Shape := ⟨3, ![2, 3, 1408]⟩
abbrev S1x3x1408 : Shape := ⟨3, ![1, 3, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S2x3x1408, .f32⟩
  | .hbm, ⟨5, _⟩ => ⟨S2x3x1408, .f32⟩
  | .hbm, ⟨6, _⟩ => ⟨S2x3x1408, .f32⟩
  | .hbm, ⟨7, _⟩ => ⟨S2x3x1408, .f32⟩
  | .local _ .vmem, ⟨0, _⟩ => ⟨S1x3x1408, .f32⟩
  | .local _ .vmem, ⟨1, _⟩ => ⟨S1x3x1408, .f32⟩
  | .local _ .vmem, ⟨2, _⟩ => ⟨S1x3x1408, .f32⟩
  | .local _ .vmem, ⟨3, _⟩ => ⟨S1x3x1408, .f32⟩
  | .local _ .vmem, ⟨4, _⟩ => ⟨S1x3x1408, .f32⟩
  | .local _ .vmem, ⟨5, _⟩ => ⟨S1x3x1408, .f32⟩
  | .local _ .vmem, ⟨6, _⟩ => ⟨S1x3x1408, .f32⟩
  | .local _ .vmem, ⟨7, _⟩ => ⟨S1x3x1408, .f32⟩
  | .local _ .vmem, ⟨8, _⟩ => ⟨S1x3x1408, .f32⟩
  | .local _ .vmem, ⟨9, _⟩ => ⟨S1x3x1408, .f32⟩
  | .local _ .vmem, ⟨10, _⟩ => ⟨S1x3x1408, .f32⟩
  | .local _ .vmem, ⟨11, _⟩ => ⟨S1x3x1408, .f32⟩
  | .local _ .vmem, ⟨12, _⟩ => ⟨S1x3x1408, .f32⟩
  | .local _ .vmem, ⟨13, _⟩ => ⟨S1x3x1408, .f32⟩
  | .local _ .vmem, ⟨14, _⟩ => ⟨S1x3x1408, .f32⟩
  | .local _ .vmem, ⟨15, _⟩ => ⟨S1x3x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdFcKIdeal.lean ====
abbrev S2x3x1408 : Shape := ⟨3, ![2, 3, 1408]⟩
abbrev S1x3x1408 : Shape := ⟨3, ![1, 3, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S2x3x1408, .f32⟩
  | .hbm, ⟨5, _⟩ => ⟨S2x3x1408, .f32⟩
  | .hbm, ⟨6, _⟩ => ⟨S2x3x1408, .f32⟩
  | .hbm, ⟨7, _⟩ => ⟨S2x3x1408, .f32⟩
  | .local _ .vmem, ⟨0, _⟩ => ⟨S1x3x1408, .f32⟩
  | .local _ .vmem, ⟨1, _⟩ => ⟨S1x3x1408, .f32⟩
  | .local _ .vmem, ⟨2, _⟩ => ⟨S1x3x1408, .f32⟩
  | .local _ .vmem, ⟨3, _⟩ => ⟨S1x3x1408, .f32⟩
  | .local _ .vmem, ⟨4, _⟩ => ⟨S1x3x1408, .f32⟩
  | .local _ .vmem, ⟨5, _⟩ => ⟨S1x3x1408, .f32⟩
  | .local _ .vmem, ⟨6, _⟩ => ⟨S1x3x1408, .f32⟩
  | .local _ .vmem, ⟨7, _⟩ => ⟨S1x3x1408, .f32⟩
  | .local _ .vmem, ⟨8, _⟩ => ⟨S1x3x1408, .f32⟩
  | .local _ .vmem, ⟨9, _⟩ => ⟨S1x3x1408, .f32⟩
  | .local _ .vmem, ⟨10, _⟩ => ⟨S1x3x1408, .f32⟩
  | .local _ .vmem, ⟨11, _⟩ => ⟨S1x3x1408, .f32⟩
  | .local _ .vmem, ⟨12, _⟩ => ⟨S1x3x1408, .f32⟩
  | .local _ .vmem, ⟨13, _⟩ => ⟨S1x3x1408, .f32⟩
  | .local _ .vmem, ⟨14, _⟩ => ⟨S1x3x1408, .f32⟩
  | .local _ .vmem, ⟨15, _⟩ => ⟨S1x3x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdFcRIdeal.lean ====
abbrev S2x3x1408 : Shape := ⟨3, ![2, 3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdNormK.lean ====
abbrev S1x2x2048 : Shape := ⟨3, ![1, 2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2048, .f32⟩
  | .hbm, ⟨1, _⟩ => ⟨S1x2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .local _ .vmem, ⟨0, _⟩ => ⟨S1x2x2048, .f32⟩
  | .local _ .vmem, ⟨1, _⟩ => ⟨S1x2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | _, _ => ⟨S1x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdNormKIdeal.lean ====
abbrev S1x2x2048 : Shape := ⟨3, ![1, 2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2048, .f32⟩
  | .hbm, ⟨1, _⟩ => ⟨S1x2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .local _ .vmem, ⟨0, _⟩ => ⟨S1x2x2048, .f32⟩
  | .local _ .vmem, ⟨1, _⟩ => ⟨S1x2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | _, _ => ⟨S1x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdNormRIdeal.lean ====
abbrev S1x2x2048 : Shape := ⟨3, ![1, 2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x2048, .f32⟩
  | .hbm, ⟨1, _⟩ => ⟨S1x2x2048, .f32⟩
  | .hbm, ⟨2, _⟩ => ⟨S1x2x2048, .f32⟩
  | .hbm, ⟨3, _⟩ => ⟨S1x2x2048, .f32⟩
  | .hbm, ⟨4, _⟩ => ⟨S_, .f32⟩
  | .hbm, ⟨5, _⟩ => ⟨S1x2x2048, .f32⟩
  | .hbm, ⟨6, _⟩ => ⟨S1x2x2048, .f32⟩
  | .hbm, ⟨7, _⟩ => ⟨S_, .f32⟩
  | .hbm, ⟨8, _⟩ => ⟨S1x2x2048, .f32⟩
  | .hbm, ⟨9, _⟩ => ⟨S1x2x2048, .f32⟩
  | .hbm, ⟨10, _⟩ => ⟨S1x2x2048, .f32⟩
  | .hbm, ⟨11, _⟩ => ⟨S_, .f32⟩
  | .hbm, ⟨12, _⟩ => ⟨S1x2x2048, .f32⟩
  | .hbm, ⟨13, _⟩ => ⟨S1x2x2048, .f32⟩
  | .hbm, ⟨14, _⟩ => ⟨S1x2x2048, .f32⟩
  | .hbm, ⟨15, _⟩ => ⟨S_, .f32⟩
  | .hbm, ⟨16, _⟩ => ⟨S1x2x2048, .f32⟩
  | .hbm, ⟨17, _⟩ => ⟨S1x2x2048, .f32⟩
  | .hbm, ⟨18, _⟩ => ⟨S1x2x2048, .f32⟩
  | .hbm, ⟨19, _⟩ => ⟨S_, .f32⟩
  | .hbm, ⟨20, _⟩ => ⟨S1x2x2048, .f32⟩
  | .hbm, ⟨21, _⟩ => ⟨S1x2x2048, .f32⟩
  | .hbm, ⟨22, _⟩ => ⟨S_, .f32⟩
  | .hbm, ⟨23, _⟩ => ⟨S1x2x2048, .f32⟩
  | .hbm, ⟨24, _⟩ => ⟨S1x2x2048, .f32⟩
  | .hbm, ⟨25, _⟩ => ⟨S1x2x2048, .f32⟩
  | .hbm, ⟨26, _⟩ => ⟨S_, .f32⟩
  | .hbm, ⟨27, _⟩ => ⟨S1x2x2048, .f32⟩
  | .hbm, ⟨28, _⟩ => ⟨S1x2x2048, .f32⟩
  | .hbm, ⟨29, _⟩ => ⟨S1x2x2048, .f32⟩
  | .hbm, ⟨30, _⟩ => ⟨S_, .f32⟩
  | .hbm, ⟨31, _⟩ => ⟨S1x2x2048, .f32⟩
  | .hbm, ⟨32, _⟩ => ⟨S1x2x2048, .f32⟩
  | .hbm, ⟨33, _⟩ => ⟨S1x2x2048, .f32⟩
  | .hbm, ⟨34, _⟩ => ⟨S_, .f32⟩
  | .hbm, ⟨35, _⟩ => ⟨S1x2x2048, .f32⟩
  | .hbm, ⟨36, _⟩ => ⟨S1x2x2048, .f32⟩
  | _, _ => ⟨S1x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFinalK.lean ====
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x1x2048, .f32⟩
  | .hbm, ⟨1, _⟩ => ⟨S1x1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdFinalKIdeal.lean ====
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x1x2048, .f32⟩
  | .hbm, ⟨1, _⟩ => ⟨S1x1x2048, .f32⟩
  | .hbm, ⟨2, _⟩ => ⟨S1x1x2048, .f32⟩
  | .hbm, ⟨3, _⟩ => ⟨S1x1x2048, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdFinalRIdeal.lean ====
abbrev S1x1x2048 : Shape := ⟨3, ![1, 1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1x2048, .f32⟩
  | .hbm, ⟨1, _⟩ => ⟨S1x1x2048, .f32⟩
  | .hbm, ⟨2, _⟩ => ⟨S1x1x2048, .f32⟩
  | .hbm, ⟨3, _⟩ => ⟨S1x1x2048, .f32⟩
  | .hbm, ⟨4, _⟩ => ⟨S_, .f32⟩
  | .hbm, ⟨5, _⟩ => ⟨S1x1x2048, .f32⟩
  | .hbm, ⟨6, _⟩ => ⟨S1x1x2048, .f32⟩
  | .hbm, ⟨7, _⟩ => ⟨S_, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S_, .f32⟩
  | .hbm, ⟨12, _⟩ => ⟨S1x1x2048, .f32⟩
  | .hbm, ⟨13, _⟩ => ⟨S1x1x2048, .f32⟩
  | .hbm, ⟨14, _⟩ => ⟨S1x1x2048, .f32⟩
  | .hbm, ⟨15, _⟩ => ⟨S_, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S_, .f32⟩
  | .hbm, ⟨20, _⟩ => ⟨S1x1x2048, .f32⟩
  | .hbm, ⟨21, _⟩ => ⟨S1x1x2048, .f32⟩
  | .hbm, ⟨22, _⟩ => ⟨S_, .f32⟩
  | .hbm, ⟨23, _⟩ => ⟨S1x1x2048, .f32⟩
  | .hbm, ⟨24, _⟩ => ⟨S1x1x2048, .f32⟩
  | .hbm, ⟨25, _⟩ => ⟨S1x1x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S1x1x2048, .f32⟩
  | .hbm, ⟨30, _⟩ => ⟨S_, .f32⟩
  | .hbm, ⟨31, _⟩ => ⟨S1x1x2048, .f32⟩
  | .hbm, ⟨32, _⟩ => ⟨S1x1x2048, .f32⟩
  | .hbm, ⟨33, _⟩ => ⟨S1x1x2048, .f32⟩
  | .hbm, ⟨34, _⟩ => ⟨S_, .f32⟩
  | .hbm, ⟨35, _⟩ => ⟨S1x1x2048, .f32⟩
  | .hbm, ⟨36, _⟩ => ⟨S1x1x2048, .f32⟩
  | _, _ => ⟨S1x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdChK.lean ====
abbrev S1x2x1024 : Shape := ⟨3, ![1, 2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S1x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdChKIdeal.lean ====
abbrev S1x2x1024 : Shape := ⟨3, ![1, 2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S1x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdChRIdeal.lean ====
abbrev S1x2x1024 : Shape := ⟨3, ![1, 2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S_, .f32⟩
  | .hbm, ⟨5, _⟩ => ⟨S1x2x1024, .f32⟩
  | .hbm, ⟨6, _⟩ => ⟨S1x2x1024, .f32⟩
  | .hbm, ⟨7, _⟩ => ⟨S_, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .hbm, ⟨11, _⟩ => ⟨S_, .f32⟩
  | .hbm, ⟨12, _⟩ => ⟨S1x2x1024, .f32⟩
  | .hbm, ⟨13, _⟩ => ⟨S1x2x1024, .f32⟩
  | .hbm, ⟨14, _⟩ => ⟨S1x2x1024, .f32⟩
  | .hbm, ⟨15, _⟩ => ⟨S_, .f32⟩
  | .hbm, ⟨16, _⟩ => ⟨S1x2x1024, .f32⟩
  | .hbm, ⟨17, _⟩ => ⟨S1x2x1024, .f32⟩
  | .hbm, ⟨18, _⟩ => ⟨S1x2x1024, .f32⟩
  | .hbm, ⟨19, _⟩ => ⟨S_, .f32⟩
  | .hbm, ⟨20, _⟩ => ⟨S1x2x1024, .f32⟩
  | .hbm, ⟨21, _⟩ => ⟨S1x2x1024, .f32⟩
  | .hbm, ⟨22, _⟩ => ⟨S_, .f32⟩
  | .hbm, ⟨23, _⟩ => ⟨S1x2x1024, .f32⟩
  | .hbm, ⟨24, _⟩ => ⟨S1x2x1024, .f32⟩
  | .hbm, ⟨25, _⟩ => ⟨S1x2x1024, .f32⟩
  | .hbm, ⟨26, _⟩ => ⟨S_, .f32⟩
  | .hbm, ⟨27, _⟩ => ⟨S1x2x1024, .f32⟩
  | .hbm, ⟨28, _⟩ => ⟨S1x2x1024, .f32⟩
  | .hbm, ⟨29, _⟩ => ⟨S1x2x1024, .f32⟩
  | .hbm, ⟨30, _⟩ => ⟨S_, .f32⟩
  | .hbm, ⟨31, _⟩ => ⟨S1x2x1024, .f32⟩
  | .hbm, ⟨32, _⟩ => ⟨S1x2x1024, .f32⟩
  | .hbm, ⟨33, _⟩ => ⟨S1x2x1024, .f32⟩
  | .hbm, ⟨34, _⟩ => ⟨S_, .f32⟩
  | .hbm, ⟨35, _⟩ => ⟨S1x2x1024, .f32⟩
  | .hbm, ⟨36, _⟩ => ⟨S1x2x1024, .f32⟩
  | _, _ => ⟨S1x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdHeadK.lean ====
abbrev S1x2x8 : Shape := ⟨3, ![1, 2, 8]⟩

abbrev nBuf : Space → Nat
  | .hbm => 8
  | .vmem => 8
  | .smem => 0
  | _ => 0

abbrev bufTy : (tb : Table) → Fin (tcTables nBuf tb) → BufTy
  | .hbm, ⟨0, _⟩ => ⟨S1x2x8, .f32⟩
  | .hbm, ⟨1, _⟩ => ⟨S1x2x8, .f32⟩
  | .hbm, ⟨2, _⟩ => ⟨S1x2x8, .f32⟩
  | .hbm, ⟨3, _⟩ => ⟨S1x2x8, .f32⟩
  | .hbm, ⟨4, _⟩ => ⟨S1x2x8, .f32⟩
  | .hbm, ⟨5, _⟩ => ⟨S1x2x8, .f32⟩
  | .hbm, ⟨6, _⟩ => ⟨S1x2x8, .f32⟩
  | .hbm, ⟨7, _⟩ => ⟨S1x2x8, .f32⟩
  | .local _ .vmem, ⟨0, _⟩ => ⟨S1x2x8, .f32⟩
  | .local _ .vmem, ⟨1, _⟩ => ⟨S1x2x8, .f32⟩
  | .local _ .vmem, ⟨2, _⟩ => ⟨S1x2x8, .f32⟩
  | .local _ .vmem, ⟨3, _⟩ => ⟨S1x2x8, .f32⟩
  | .local _ .vmem, ⟨4, _⟩ => ⟨S1x2x8, .f32⟩
  | .local _ .vmem, ⟨5, _⟩ => ⟨S1x2x8, .f32⟩
  | .local _ .vmem, ⟨6, _⟩ => ⟨S1x2x8, .f32⟩
  | .local _ .vmem, ⟨7, _⟩ => ⟨S1x2x8, .f32⟩
  | _, _ => ⟨S1x2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdHeadKIdeal.lean ====
abbrev S1x2x8 : Shape := ⟨3, ![1, 2, 8]⟩

abbrev nBuf : Space → Nat
  | .hbm => 8
  | .vmem => 8
  | .smem => 0
  | _ => 0

abbrev bufTy : (tb : Table) → Fin (tcTables nBuf tb) → BufTy
  | .hbm, ⟨0, _⟩ => ⟨S1x2x8, .f32⟩
  | .hbm, ⟨1, _⟩ => ⟨S1x2x8, .f32⟩
  | .hbm, ⟨2, _⟩ => ⟨S1x2x8, .f32⟩
  | .hbm, ⟨3, _⟩ => ⟨S1x2x8, .f32⟩
  | .hbm, ⟨4, _⟩ => ⟨S1x2x8, .f32⟩
  | .hbm, ⟨5, _⟩ => ⟨S1x2x8, .f32⟩
  | .hbm, ⟨6, _⟩ => ⟨S1x2x8, .f32⟩
  | .hbm, ⟨7, _⟩ => ⟨S1x2x8, .f32⟩
  | .local _ .vmem, ⟨0, _⟩ => ⟨S1x2x8, .f32⟩
  | .local _ .vmem, ⟨1, _⟩ => ⟨S1x2x8, .f32⟩
  | .local _ .vmem, ⟨2, _⟩ => ⟨S1x2x8, .f32⟩
  | .local _ .vmem, ⟨3, _⟩ => ⟨S1x2x8, .f32⟩
  | .local _ .vmem, ⟨4, _⟩ => ⟨S1x2x8, .f32⟩
  | .local _ .vmem, ⟨5, _⟩ => ⟨S1x2x8, .f32⟩
  | .local _ .vmem, ⟨6, _⟩ => ⟨S1x2x8, .f32⟩
  | .local _ .vmem, ⟨7, _⟩ => ⟨S1x2x8, .f32⟩
  | _, _ => ⟨S1x2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdHeadRIdeal.lean ====
abbrev S1x2x8 : Shape := ⟨3, ![1, 2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x8, .f32⟩
  | .hbm, ⟨1, _⟩ => ⟨S1x2x8, .f32⟩
  | .hbm, ⟨2, _⟩ => ⟨S1x2x8, .f32⟩
  | .hbm, ⟨3, _⟩ => ⟨S1x2x8, .f32⟩
  | .hbm, ⟨4, _⟩ => ⟨S_, .f32⟩
  | .hbm, ⟨5, _⟩ => ⟨S1x2x8, .f32⟩
  | .hbm, ⟨6, _⟩ => ⟨S1x2x8, .f32⟩
  | .hbm, ⟨7, _⟩ => ⟨S_, .f32⟩
  | .hbm, ⟨8, _⟩ => ⟨S1x2x8, .f32⟩
  | .hbm, ⟨9, _⟩ => ⟨S1x2x8, .f32⟩
  | .hbm, ⟨10, _⟩ => ⟨S1x2x8, .f32⟩
  | .hbm, ⟨11, _⟩ => ⟨S_, .f32⟩
  | .hbm, ⟨12, _⟩ => ⟨S1x2x8, .f32⟩
  | .hbm, ⟨13, _⟩ => ⟨S1x2x8, .f32⟩
  | .hbm, ⟨14, _⟩ => ⟨S1x2x8, .f32⟩
  | .hbm, ⟨15, _⟩ => ⟨S_, .f32⟩
  | .hbm, ⟨16, _⟩ => ⟨S1x2x8, .f32⟩
  | .hbm, ⟨17, _⟩ => ⟨S1x2x8, .f32⟩
  | .hbm, ⟨18, _⟩ => ⟨S1x2x8, .f32⟩
  | .hbm, ⟨19, _⟩ => ⟨S_, .f32⟩
  | .hbm, ⟨20, _⟩ => ⟨S1x2x8, .f32⟩
  | .hbm, ⟨21, _⟩ => ⟨S1x2x8, .f32⟩
  | .hbm, ⟨22, _⟩ => ⟨S_, .f32⟩
  | .hbm, ⟨23, _⟩ => ⟨S1x2x8, .f32⟩
  | .hbm, ⟨24, _⟩ => ⟨S1x2x8, .f32⟩
  | .hbm, ⟨25, _⟩ => ⟨S1x2x8, .f32⟩
  | .hbm, ⟨26, _⟩ => ⟨S_, .f32⟩
  | .hbm, ⟨27, _⟩ => ⟨S1x2x8, .f32⟩
  | .hbm, ⟨28, _⟩ => ⟨S1x2x8, .f32⟩
  | .hbm, ⟨29, _⟩ => ⟨S1x2x8, .f32⟩
  | .hbm, ⟨30, _⟩ => ⟨S_, .f32⟩
  | .hbm, ⟨31, _⟩ => ⟨S1x2x8, .f32⟩
  | .hbm, ⟨32, _⟩ => ⟨S1x2x8, .f32⟩
  | .hbm, ⟨33, _⟩ => ⟨S1x2x8, .f32⟩
  | .hbm, ⟨34, _⟩ => ⟨S_, .f32⟩
  | .hbm, ⟨35, _⟩ => ⟨S1x2x8, .f32⟩
  | .hbm, ⟨36, _⟩ => ⟨S1x2x8, .f32⟩
  | _, _ => ⟨S1x2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdKeyK.lean ====
abbrev S1x2x128 : Shape := ⟨3, ![1, 2, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x2x128, .f32⟩
  | .hbm, ⟨1, _⟩ => ⟨S1x2x128, .f32⟩
  | .hbm, ⟨2, _⟩ => ⟨S1x2x128, .f32⟩
  | .hbm, ⟨3, _⟩ => ⟨S1x2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .hbm, ⟨7, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | _, _ => ⟨S1x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdKeyKIdeal.lean ====
abbrev S1x2x128 : Shape := ⟨3, ![1, 2, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x2x128, .f32⟩
  | .hbm, ⟨1, _⟩ => ⟨S1x2x128, .f32⟩
  | .hbm, ⟨2, _⟩ => ⟨S1x2x128, .f32⟩
  | .hbm, ⟨3, _⟩ => ⟨S1x2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .hbm, ⟨7, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S1x2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | _, _ => ⟨S1x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdKeyRIdeal.lean ====
abbrev S1x2x128 : Shape := ⟨3, ![1, 2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x128, .f32⟩
  | .hbm, ⟨1, _⟩ => ⟨S1x2x128, .f32⟩
  | .hbm, ⟨2, _⟩ => ⟨S1x2x128, .f32⟩
  | .hbm, ⟨3, _⟩ => ⟨S1x2x128, .f32⟩
  | .hbm, ⟨4, _⟩ => ⟨S_, .f32⟩
  | .hbm, ⟨5, _⟩ => ⟨S1x2x128, .f32⟩
  | .hbm, ⟨6, _⟩ => ⟨S1x2x128, .f32⟩
  | .hbm, ⟨7, _⟩ => ⟨S_, .f32⟩
  | .hbm, ⟨8, _⟩ => ⟨S1x2x128, .f32⟩
  | .hbm, ⟨9, _⟩ => ⟨S1x2x128, .f32⟩
  | .hbm, ⟨10, _⟩ => ⟨S1x2x128, .f32⟩
  | .hbm, ⟨11, _⟩ => ⟨S_, .f32⟩
  | .hbm, ⟨12, _⟩ => ⟨S1x2x128, .f32⟩
  | .hbm, ⟨13, _⟩ => ⟨S1x2x128, .f32⟩
  | .hbm, ⟨14, _⟩ => ⟨S1x2x128, .f32⟩
  | .hbm, ⟨15, _⟩ => ⟨S_, .f32⟩
  | .hbm, ⟨16, _⟩ => ⟨S1x2x128, .f32⟩
  | .hbm, ⟨17, _⟩ => ⟨S1x2x128, .f32⟩
  | .hbm, ⟨18, _⟩ => ⟨S1x2x128, .f32⟩
  | .hbm, ⟨19, _⟩ => ⟨S_, .f32⟩
  | .hbm, ⟨20, _⟩ => ⟨S1x2x128, .f32⟩
  | .hbm, ⟨21, _⟩ => ⟨S1x2x128, .f32⟩
  | .hbm, ⟨22, _⟩ => ⟨S_, .f32⟩
  | .hbm, ⟨23, _⟩ => ⟨S1x2x128, .f32⟩
  | .hbm, ⟨24, _⟩ => ⟨S1x2x128, .f32⟩
  | .hbm, ⟨25, _⟩ => ⟨S1x2x128, .f32⟩
  | .hbm, ⟨26, _⟩ => ⟨S_, .f32⟩
  | .hbm, ⟨27, _⟩ => ⟨S1x2x128, .f32⟩
  | .hbm, ⟨28, _⟩ => ⟨S1x2x128, .f32⟩
  | .hbm, ⟨29, _⟩ => ⟨S1x2x128, .f32⟩
  | .hbm, ⟨30, _⟩ => ⟨S_, .f32⟩
  | .hbm, ⟨31, _⟩ => ⟨S1x2x128, .f32⟩
  | .hbm, ⟨32, _⟩ => ⟨S1x2x128, .f32⟩
  | .hbm, ⟨33, _⟩ => ⟨S1x2x128, .f32⟩
  | .hbm, ⟨34, _⟩ => ⟨S_, .f32⟩
  | .hbm, ⟨35, _⟩ => ⟨S1x2x128, .f32⟩
  | .hbm, ⟨36, _⟩ => ⟨S1x2x128, .f32⟩
  | _, _ => ⟨S1x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFbK.lean ====
abbrev S1x2x5632 : Shape := ⟨3, ![1, 2, 5632]⟩

abbrev nBuf : Space → Nat
  | .hbm => 8
  | .vmem => 8
  | .smem => 0
  | _ => 0

abbrev bufTy : (tb : Table) → Fin (tcTables nBuf tb) → BufTy
  | .hbm, ⟨0, _⟩ => ⟨S1x2x5632, .f32⟩
  | .hbm, ⟨1, _⟩ => ⟨S1x2x5632, .f32⟩
  | .hbm, ⟨2, _⟩ => ⟨S1x2x5632, .f32⟩
  | .hbm, ⟨3, _⟩ => ⟨S1x2x5632, .f32⟩
  | .hbm, ⟨4, _⟩ => ⟨S1x2x5632, .f32⟩
  | .hbm, ⟨5, _⟩ => ⟨S1x2x5632, .f32⟩
  | .hbm, ⟨6, _⟩ => ⟨S1x2x5632, .f32⟩
  | .hbm, ⟨7, _⟩ => ⟨S1x2x5632, .f32⟩
  | .local _ .vmem, ⟨0, _⟩ => ⟨S1x2x5632, .f32⟩
  | .local _ .vmem, ⟨1, _⟩ => ⟨S1x2x5632, .f32⟩
  | .local _ .vmem, ⟨2, _⟩ => ⟨S1x2x5632, .f32⟩
  | .local _ .vmem, ⟨3, _⟩ => ⟨S1x2x5632, .f32⟩
  | .local _ .vmem, ⟨4, _⟩ => ⟨S1x2x5632, .f32⟩
  | .local _ .vmem, ⟨5, _⟩ => ⟨S1x2x5632, .f32⟩
  | .local _ .vmem, ⟨6, _⟩ => ⟨S1x2x5632, .f32⟩
  | .local _ .vmem, ⟨7, _⟩ => ⟨S1x2x5632, .f32⟩
  | _, _ => ⟨S1x2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdFbRIdeal.lean ====
abbrev S1x2x5632 : Shape := ⟨3, ![1, 2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x5632, .f32⟩
  | .hbm, ⟨1, _⟩ => ⟨S1x2x5632, .f32⟩
  | .hbm, ⟨2, _⟩ => ⟨S1x2x5632, .f32⟩
  | .hbm, ⟨3, _⟩ => ⟨S1x2x5632, .f32⟩
  | .hbm, ⟨4, _⟩ => ⟨S_, .f32⟩
  | .hbm, ⟨5, _⟩ => ⟨S1x2x5632, .f32⟩
  | .hbm, ⟨6, _⟩ => ⟨S1x2x5632, .f32⟩
  | .hbm, ⟨7, _⟩ => ⟨S_, .f32⟩
  | .hbm, ⟨8, _⟩ => ⟨S1x2x5632, .f32⟩
  | .hbm, ⟨9, _⟩ => ⟨S1x2x5632, .f32⟩
  | .hbm, ⟨10, _⟩ => ⟨S1x2x5632, .f32⟩
  | .hbm, ⟨11, _⟩ => ⟨S_, .f32⟩
  | .hbm, ⟨12, _⟩ => ⟨S1x2x5632, .f32⟩
  | .hbm, ⟨13, _⟩ => ⟨S1x2x5632, .f32⟩
  | .hbm, ⟨14, _⟩ => ⟨S1x2x5632, .f32⟩
  | .hbm, ⟨15, _⟩ => ⟨S_, .f32⟩
  | .hbm, ⟨16, _⟩ => ⟨S1x2x5632, .f32⟩
  | .hbm, ⟨17, _⟩ => ⟨S1x2x5632, .f32⟩
  | .hbm, ⟨18, _⟩ => ⟨S1x2x5632, .f32⟩
  | .hbm, ⟨19, _⟩ => ⟨S_, .f32⟩
  | .hbm, ⟨20, _⟩ => ⟨S1x2x5632, .f32⟩
  | .hbm, ⟨21, _⟩ => ⟨S1x2x5632, .f32⟩
  | .hbm, ⟨22, _⟩ => ⟨S_, .f32⟩
  | .hbm, ⟨23, _⟩ => ⟨S1x2x5632, .f32⟩
  | .hbm, ⟨24, _⟩ => ⟨S1x2x5632, .f32⟩
  | .hbm, ⟨25, _⟩ => ⟨S1x2x5632, .f32⟩
  | .hbm, ⟨26, _⟩ => ⟨S_, .f32⟩
  | .hbm, ⟨27, _⟩ => ⟨S1x2x5632, .f32⟩
  | .hbm, ⟨28, _⟩ => ⟨S1x2x5632, .f32⟩
  | .hbm, ⟨29, _⟩ => ⟨S1x2x5632, .f32⟩
  | .hbm, ⟨30, _⟩ => ⟨S_, .f32⟩
  | .hbm, ⟨31, _⟩ => ⟨S1x2x5632, .f32⟩
  | .hbm, ⟨32, _⟩ => ⟨S1x2x5632, .f32⟩
  | .hbm, ⟨33, _⟩ => ⟨S1x2x5632, .f32⟩
  | .hbm, ⟨34, _⟩ => ⟨S_, .f32⟩
  | .hbm, ⟨35, _⟩ => ⟨S1x2x5632, .f32⟩
  | .hbm, ⟨36, _⟩ => ⟨S1x2x5632, .f32⟩
  | _, _ => ⟨S1x2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormK.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DnormK.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormRIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== LossK.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S8x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S8x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== QkvFK.lean ====
abbrev S4096x5120 : Shape := ⟨2, ![4096, 5120]⟩
abbrev S4x2048 : Shape := ⟨2, ![4, 2048]⟩
abbrev S4096x2048 : Shape := ⟨2, ![4096, 2048]⟩
abbrev S2048x128 : Shape := ⟨2, ![2048, 128]⟩
abbrev S4x128 : Shape := ⟨2, ![4, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .f32⟩
  | .hbm, ⟨1, _⟩ => ⟨S4x2048, .f32⟩
  | .hbm, ⟨2, _⟩ => ⟨S4096x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvFRIdeal.lean ====
abbrev S4096x5120 : Shape := ⟨2, ![4096, 5120]⟩
abbrev S4x2048 : Shape := ⟨2, ![4, 2048]⟩
abbrev S4096x2048 : Shape := ⟨2, ![4096, 2048]⟩
abbrev S2x2048x2048 : Shape := ⟨3, ![2, 2048, 2048]⟩
abbrev S2x4x2048 : Shape := ⟨3, ![2, 4, 2048]⟩
abbrev S4x2048x2048 : Shape := ⟨3, ![4, 2048, 2048]⟩
abbrev S_ : Shape := ⟨0, ![]⟩
abbrev S2x4x1x2048 : Shape := ⟨4, ![2, 4, 1, 2048]⟩
abbrev S2x2048x4x2048 : Shape := ⟨4, ![2, 2048, 4, 2048]⟩
abbrev S2x4x2048x2048 : Shape := ⟨4, ![2, 4, 2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4x2048, .f32⟩
  | .hbm, ⟨2, _⟩ => ⟨S4096x2048, .f32⟩
  | .hbm, ⟨3, _⟩ => ⟨S2x2048x2048, .f32⟩
  | .hbm, ⟨4, _⟩ => ⟨S2x4x2048, .f32⟩
  | .hbm, ⟨5, _⟩ => ⟨S4x2048x2048, .i32⟩
  | .hbm, ⟨6, _⟩ => ⟨S4x2048x2048, .i32⟩
  | .hbm, ⟨7, _⟩ => ⟨S4x2048x2048, .i32⟩
  | .hbm, ⟨8, _⟩ => ⟨S_, .i32⟩
  | .hbm, ⟨9, _⟩ => ⟨S4x2048x2048, .i32⟩
  | .hbm, ⟨10, _⟩ => ⟨S4x2048x2048, .i32⟩
  | .hbm, ⟨11, _⟩ => ⟨S4x2048x2048, .i32⟩
  | .hbm, ⟨12, _⟩ => ⟨S4x2048x2048, .i1⟩
  | .hbm, ⟨13, _⟩ => ⟨S_, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S2x4x1x2048, .f32⟩
  | .hbm, ⟨19, _⟩ => ⟨S2x2048x4x2048, .f32⟩
  | .hbm, ⟨20, _⟩ => ⟨S2x4x2048x2048, .f32⟩
  | .hbm, ⟨21, _⟩ => ⟨S2x4x2048x2048, .f32⟩
  | .hbm, ⟨22, _⟩ => ⟨S2x4x2048x2048, .f32⟩
  | .hbm, ⟨23, _⟩ => ⟨S_, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S_, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S4096x2048, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== FfnFK.lean ====
abbrev S4096x11264 : Shape := ⟨2, ![4096, 11264]⟩
abbrev S3x5632 : Shape := ⟨2, ![3, 5632]⟩
abbrev S5632 : Shape := ⟨1, ![5632]⟩
abbrev S1x5632 : Shape := ⟨2, ![1, 5632]⟩
abbrev S4096x5632 : Shape := ⟨2, ![4096, 5632]⟩
abbrev S2048x256 : Shape := ⟨2, ![2048, 256]⟩
abbrev S3x256 : Shape := ⟨2, ![3, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x11264, .bf16⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S4096x5632, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnFRIdeal.lean ====
abbrev S4096x11264 : Shape := ⟨2, ![4096, 11264]⟩
abbrev S3x5632 : Shape := ⟨2, ![3, 5632]⟩
abbrev S5632 : Shape := ⟨1, ![5632]⟩
abbrev S2x2048x11264 : Shape := ⟨3, ![2, 2048, 11264]⟩
abbrev S2x2048x5632 : Shape := ⟨3, ![2, 2048, 5632]⟩
abbrev S2x3x5632 : Shape := ⟨3, ![2, 3, 5632]⟩
abbrev S2x5632 : Shape := ⟨2, ![2, 5632]⟩
abbrev S3x2048x2048 : Shape := ⟨3, ![3, 2048, 2048]⟩
abbrev S_ : Shape := ⟨0, ![]⟩
abbrev S2x3x1x5632 : Shape := ⟨4, ![2, 3, 1, 5632]⟩
abbrev S2x5632x3x2048 : Shape := ⟨4, ![2, 5632, 3, 2048]⟩
abbrev S2x3x2048x5632 : Shape := ⟨4, ![2, 3, 2048, 5632]⟩
abbrev S2x1x5632 : Shape := ⟨3, ![2, 1, 5632]⟩
abbrev S4096x5632 : Shape := ⟨2, ![4096, 5632]⟩

abbrev nBuf : Space → Nat
  | .hbm => 44
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x5632, .f32⟩
  | .hbm, ⟨2, _⟩ => ⟨S5632, .f32⟩
  | .hbm, ⟨3, _⟩ => ⟨S4096x11264, .f32⟩
  | .hbm, ⟨4, _⟩ => ⟨S2x2048x11264, .f32⟩
  | .hbm, ⟨5, _⟩ => ⟨S2x2048x5632, .f32⟩
  | .hbm, ⟨6, _⟩ => ⟨S2x2048x5632, .f32⟩
  | .hbm, ⟨7, _⟩ => ⟨S2x3x5632, .f32⟩
  | .hbm, ⟨8, _⟩ => ⟨S2x5632, .f32⟩
  | .hbm, ⟨9, _⟩ => ⟨S3x2048x2048, .i32⟩
  | .hbm, ⟨10, _⟩ => ⟨S3x2048x2048, .i32⟩
  | .hbm, ⟨11, _⟩ => ⟨S3x2048x2048, .i32⟩
  | .hbm, ⟨12, _⟩ => ⟨S_, .i32⟩
  | .hbm, ⟨13, _⟩ => ⟨S3x2048x2048, .i32⟩
  | .hbm, ⟨14, _⟩ => ⟨S3x2048x2048, .i32⟩
  | .hbm, ⟨15, _⟩ => ⟨S3x2048x2048, .i32⟩
  | .hbm, ⟨16, _⟩ => ⟨S3x2048x2048, .i1⟩
  | .hbm, ⟨17, _⟩ => ⟨S_, .f32⟩
  | .hbm, ⟨18, _⟩ => ⟨S_, .f32⟩
  | .hbm, ⟨19, _⟩ => ⟨S3x2048x2048, .f32⟩
  | .hbm, ⟨20, _⟩ => ⟨S3x2048x2048, .f32⟩
  | .hbm, ⟨21, _⟩ => ⟨S3x2048x2048, .f32⟩
  | .hbm, ⟨22, _⟩ => ⟨S2x3x1x5632, .f32⟩
  | .hbm, ⟨23, _⟩ => ⟨S2x5632x3x2048, .f32⟩
  | .hbm, ⟨24, _⟩ => ⟨S2x3x2048x5632, .f32⟩
  | .hbm, ⟨25, _⟩ => ⟨S2x3x2048x5632, .f32⟩
  | .hbm, ⟨26, _⟩ => ⟨S2x3x2048x5632, .f32⟩
  | .hbm, ⟨27, _⟩ => ⟨S_, .f32⟩
  | .hbm, ⟨28, _⟩ => ⟨S2x2048x5632, .f32⟩
  | .hbm, ⟨29, _⟩ => ⟨S2x1x5632, .f32⟩
  | .hbm, ⟨30, _⟩ => ⟨S2x2048x5632, .f32⟩
  | .hbm, ⟨31, _⟩ => ⟨S2x2048x5632, .f32⟩
  | .hbm, ⟨32, _⟩ => ⟨S2x2048x5632, .f32⟩
  | .hbm, ⟨33, _⟩ => ⟨S2x2048x5632, .f32⟩
  | .hbm, ⟨34, _⟩ => ⟨S_, .f32⟩
  | .hbm, ⟨35, _⟩ => ⟨S2x2048x5632, .f32⟩
  | .hbm, ⟨36, _⟩ => ⟨S2x2048x5632, .f32⟩
  | .hbm, ⟨37, _⟩ => ⟨S_, .f32⟩
  | .hbm, ⟨38, _⟩ => ⟨S2x2048x5632, .f32⟩
  | .hbm, ⟨39, _⟩ => ⟨S2x2048x5632, .f32⟩
  | .hbm, ⟨40, _⟩ => ⟨S2x2048x5632, .f32⟩
  | .hbm, ⟨41, _⟩ => ⟨S2x2048x5632, .f32⟩
  | .hbm, ⟨42, _⟩ => ⟨S4096x5632, .f32⟩
  | .hbm, ⟨43, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== ConfFK.lean ====
abbrev S4096x5120 : Shape := ⟨2, ![4096, 5120]⟩
abbrev S31x1024 : Shape := ⟨2, ![31, 1024]⟩
abbrev S1024 : Shape := ⟨1, ![1024]⟩
abbrev S1x1024 : Shape := ⟨2, ![1, 1024]⟩
abbrev S4096x1024 : Shape := ⟨2, ![4096, 1024]⟩
abbrev S2048x128 : Shape := ⟨2, ![2048, 128]⟩
abbrev S31x128 : Shape := ⟨2, ![31, 128]⟩
abbrev S1x128 : Shape := ⟨2, ![1, 128]⟩
abbrev S2048 : Shape := ⟨1, ![2048]⟩
abbrev S2048x1 : Shape := ⟨2, ![2048, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x5120, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .bf16⟩
  | .hbm, ⟨9, _⟩ => ⟨S4096x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S2048x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConfFRIdeal.lean ====
abbrev S4096x5120 : Shape := ⟨2, ![4096, 5120]⟩
abbrev S31x1024 : Shape := ⟨2, ![31, 1024]⟩
abbrev S1024 : Shape := ⟨1, ![1024]⟩
abbrev S4096x1024 : Shape := ⟨2, ![4096, 1024]⟩
abbrev S2x2048x1024 : Shape := ⟨3, ![2, 2048, 1024]⟩
abbrev S_ : Shape := ⟨0, ![]⟩
abbrev S2x31x1024 : Shape := ⟨3, ![2, 31, 1024]⟩
abbrev S31x2048x2048 : Shape := ⟨3, ![31, 2048, 2048]⟩
abbrev S2x31x1x1024 : Shape := ⟨4, ![2, 31, 1, 1024]⟩
abbrev S2x1024x31x2048 : Shape := ⟨4, ![2, 1024, 31, 2048]⟩
abbrev S2x31x2048x1024 : Shape := ⟨4, ![2, 31, 2048, 1024]⟩
abbrev S2x1024 : Shape := ⟨2, ![2, 1024]⟩
abbrev S2x1x1024 : Shape := ⟨3, ![2, 1, 1024]⟩
abbrev S2x2048x8x128 : Shape := ⟨4, ![2, 2048, 8, 128]⟩
abbrev S2x2048x8 : Shape := ⟨3, ![2, 2048, 8]⟩
abbrev S2x2048x8x1 : Shape := ⟨4, ![2, 2048, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S2x2048x1024, .f32⟩
  | .hbm, ⟨7, _⟩ => ⟨S4096x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x31x1024, .f32⟩
  | .hbm, ⟨19, _⟩ => ⟨S31x2048x2048, .i32⟩
  | .hbm, ⟨20, _⟩ => ⟨S31x2048x2048, .i32⟩
  | .hbm, ⟨21, _⟩ => ⟨S31x2048x2048, .i32⟩
  | .hbm, ⟨22, _⟩ => ⟨S_, .i32⟩
  | .hbm, ⟨23, _⟩ => ⟨S31x2048x2048, .i32⟩
  | .hbm, ⟨24, _⟩ => ⟨S31x2048x2048, .i32⟩
  | .hbm, ⟨25, _⟩ => ⟨S31x2048x2048, .i32⟩
  | .hbm, ⟨26, _⟩ => ⟨S31x2048x2048, .i1⟩
  | .hbm, ⟨27, _⟩ => ⟨S_, .f32⟩
  | .hbm, ⟨28, _⟩ => ⟨S_, .f32⟩
  | .hbm, ⟨29, _⟩ => ⟨S31x2048x2048, .f32⟩
  | .hbm, ⟨30, _⟩ => ⟨S31x2048x2048, .f32⟩
  | .hbm, ⟨31, _⟩ => ⟨S31x2048x2048, .f32⟩
  | .hbm, ⟨32, _⟩ => ⟨S2x31x1x1024, .f32⟩
  | .hbm, ⟨33, _⟩ => ⟨S2x1024x31x2048, .f32⟩
  | .hbm, ⟨34, _⟩ => ⟨S2x31x2048x1024, .f32⟩
  | .hbm, ⟨35, _⟩ => ⟨S2x31x2048x1024, .f32⟩
  | .hbm, ⟨36, _⟩ => ⟨S2x31x2048x1024, .f32⟩
  | .hbm, ⟨37, _⟩ => ⟨S_, .f32⟩
  | .hbm, ⟨38, _⟩ => ⟨S2x2048x1024, .f32⟩
  | .hbm, ⟨39, _⟩ => ⟨S2x1024, .f32⟩
  | .hbm, ⟨40, _⟩ => ⟨S2x1x1024, .f32⟩
  | .hbm, ⟨41, _⟩ => ⟨S2x2048x1024, .f32⟩
  | .hbm, ⟨42, _⟩ => ⟨S2x2048x1024, .f32⟩
  | .hbm, ⟨43, _⟩ => ⟨S2x1024, .f32⟩
  | .hbm, ⟨44, _⟩ => ⟨S2x1024, .f32⟩
  | .hbm, ⟨45, _⟩ => ⟨S2x2048x8x128, .f32⟩
  | .hbm, ⟨46, _⟩ => ⟨S_, .f32⟩
  | .hbm, ⟨47, _⟩ => ⟨S2x2048x8, .f32⟩
  | .hbm, ⟨48, _⟩ => ⟨S2x2048x8x1, .f32⟩
  | .hbm, ⟨49, _⟩ => ⟨S_, .f32⟩
  | .hbm, ⟨50, _⟩ => ⟨S2x2048x8x1, .f32⟩
  | .hbm, ⟨51, _⟩ => ⟨S2x2048x8x1, .f32⟩
  | .hbm, ⟨52, _⟩ => ⟨S2x2048x8x128, .f32⟩
  | .hbm, ⟨53, _⟩ => ⟨S2x2048x8x128, .f32⟩
  | .hbm, ⟨54, _⟩ => ⟨S2x2048x8x128, .f32⟩
  | .hbm, ⟨55, _⟩ => ⟨S_, .f32⟩
  | .hbm, ⟨56, _⟩ => ⟨S2x2048x8, .f32⟩
  | .hbm, ⟨57, _⟩ => ⟨S2x2048x8x1, .f32⟩
  | .hbm, ⟨58, _⟩ => ⟨S_, .f32⟩
  | .hbm, ⟨59, _⟩ => ⟨S2x2048x8x1, .f32⟩
  | .hbm, ⟨60, _⟩ => ⟨S2x2048x8x1, .f32⟩
  | .hbm, ⟨61, _⟩ => ⟨S_, .f32⟩
  | .hbm, ⟨62, _⟩ => ⟨S2x2048x8x1, .f32⟩
  | .hbm, ⟨63, _⟩ => ⟨S2x2048x8x1, .f32⟩
  | .hbm, ⟨64, _⟩ => ⟨S2x2048x8x1, .f32⟩
  | .hbm, ⟨65, _⟩ => ⟨S2x2048x8x128, .f32⟩
  | .hbm, ⟨66, _⟩ => ⟨S2x2048x8x128, .f32⟩
  | .hbm, ⟨67, _⟩ => ⟨S2x2048x1024, .f32⟩
  | .hbm, ⟨68, _⟩ => ⟨S2x1x1024, .f32⟩
  | .hbm, ⟨69, _⟩ => ⟨S2x2048x1024, .f32⟩
  | .hbm, ⟨70, _⟩ => ⟨S2x2048x1024, .f32⟩
  | .hbm, ⟨71, _⟩ => ⟨S2x1x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S_, .f32⟩
  | .hbm, ⟨77, _⟩ => ⟨S2x2048x1024, .f32⟩
  | .hbm, ⟨78, _⟩ => ⟨S2x2048x1024, .f32⟩
  | .hbm, ⟨79, _⟩ => ⟨S_, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S4096x1024, .f32⟩
  | .hbm, ⟨84, _⟩ => ⟨S4096x1024, .bf16⟩
  | .hbm, ⟨85, _⟩ => ⟨S4096x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== QkvK.lean ====
abbrev S4096x5120 : Shape := ⟨2, ![4096, 5120]⟩
abbrev S4x2048 : Shape := ⟨2, ![4, 2048]⟩
abbrev S4096x2048 : Shape := ⟨2, ![4096, 2048]⟩
abbrev S2x8x2048 : Shape := ⟨3, ![2, 8, 2048]⟩
abbrev S2048x128 : Shape := ⟨2, ![2048, 128]⟩
abbrev S4x128 : Shape := ⟨2, ![4, 128]⟩
abbrev S1x8x128 : Shape := ⟨3, ![1, 8, 128]⟩
abbrev S1x128 : Shape := ⟨2, ![1, 128]⟩
abbrev S128 : Shape := ⟨1, ![128]⟩
abbrev S8x128 : Shape := ⟨2, ![8, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x5120, .f32⟩
  | .hbm, ⟨1, _⟩ => ⟨S4x2048, .f32⟩
  | .hbm, ⟨2, _⟩ => ⟨S4096x2048, .f32⟩
  | .hbm, ⟨3, _⟩ => ⟨S4096x2048, .bf16⟩
  | .hbm, ⟨4, _⟩ => ⟨S2x8x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S1x8x128, .f32⟩
  | .local _ .vmem, ⟨9, _⟩ => ⟨S1x8x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRIdeal.lean ====
abbrev S4096x5120 : Shape := ⟨2, ![4096, 5120]⟩
abbrev S4x2048 : Shape := ⟨2, ![4, 2048]⟩
abbrev S4096x2048 : Shape := ⟨2, ![4096, 2048]⟩
abbrev S2x2048x2048 : Shape := ⟨3, ![2, 2048, 2048]⟩
abbrev S2x4x2048 : Shape := ⟨3, ![2, 4, 2048]⟩
abbrev S4x2048x2048 : Shape := ⟨3, ![4, 2048, 2048]⟩
abbrev S_ : Shape := ⟨0, ![]⟩
abbrev S2x4x1x2048 : Shape := ⟨4, ![2, 4, 1, 2048]⟩
abbrev S2x2048x4x2048 : Shape := ⟨4, ![2, 2048, 4, 2048]⟩
abbrev S2x4x2048x2048 : Shape := ⟨4, ![2, 4, 2048, 2048]⟩
abbrev S2x8x2048 : Shape := ⟨3, ![2, 8, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4x2048, .f32⟩
  | .hbm, ⟨2, _⟩ => ⟨S4096x2048, .f32⟩
  | .hbm, ⟨3, _⟩ => ⟨S4096x2048, .f32⟩
  | .hbm, ⟨4, _⟩ => ⟨S2x2048x2048, .f32⟩
  | .hbm, ⟨5, _⟩ => ⟨S2x4x2048, .f32⟩
  | .hbm, ⟨6, _⟩ => ⟨S4x2048x2048, .i32⟩
  | .hbm, ⟨7, _⟩ => ⟨S4x2048x2048, .i32⟩
  | .hbm, ⟨8, _⟩ => ⟨S4x2048x2048, .i32⟩
  | .hbm, ⟨9, _⟩ => ⟨S_, .i32⟩
  | .hbm, ⟨10, _⟩ => ⟨S4x2048x2048, .i32⟩
  | .hbm, ⟨11, _⟩ => ⟨S4x2048x2048, .i32⟩
  | .hbm, ⟨12, _⟩ => ⟨S4x2048x2048, .i32⟩
  | .hbm, ⟨13, _⟩ => ⟨S4x2048x2048, .i1⟩
  | .hbm, ⟨14, _⟩ => ⟨S_, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S2x4x1x2048, .f32⟩
  | .hbm, ⟨20, _⟩ => ⟨S2x2048x4x2048, .f32⟩
  | .hbm, ⟨21, _⟩ => ⟨S2x4x2048x2048, .f32⟩
  | .hbm, ⟨22, _⟩ => ⟨S2x4x2048x2048, .f32⟩
  | .hbm, ⟨23, _⟩ => ⟨S2x4x2048x2048, .f32⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S_, .f32⟩
  | .hbm, ⟨29, _⟩ => ⟨S2x2048x2048, .f32⟩
  | .hbm, ⟨30, _⟩ => ⟨S2x2048x2048, .f32⟩
  | .hbm, ⟨31, _⟩ => ⟨S_, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S2x2048x2048, .f32⟩
  | .hbm, ⟨43, _⟩ => ⟨S2x2048x2048, .f32⟩
  | .hbm, ⟨44, _⟩ => ⟨S2x4x2048x2048, .f32⟩
  | .hbm, ⟨45, _⟩ => ⟨S2x4x2048x2048, .f32⟩
  | .hbm, ⟨46, _⟩ => ⟨S2x4x2048x2048, .f32⟩
  | .hbm, ⟨47, _⟩ => ⟨S2x4x2048x2048, .f32⟩
  | .hbm, ⟨48, _⟩ => ⟨S_, .f32⟩
  | .hbm, ⟨49, _⟩ => ⟨S2x4x2048, .f32⟩
  | .hbm, ⟨50, _⟩ => ⟨S2x4x1x2048, .f32⟩
  | .hbm, ⟨51, _⟩ => ⟨S2x2048x4x2048, .f32⟩
  | .hbm, ⟨52, _⟩ => ⟨S2x2048x2048, .f32⟩
  | .hbm, ⟨53, _⟩ => ⟨S2x2048x2048, .f32⟩
  | .hbm, ⟨54, _⟩ => ⟨S_, .f32⟩
  | .hbm, ⟨55, _⟩ => ⟨S2x4x2048, .f32⟩
  | .hbm, ⟨56, _⟩ => ⟨S4096x2048, .f32⟩
  | .hbm, ⟨57, _⟩ => ⟨S4096x2048, .bf16⟩
  | .hbm, ⟨58, _⟩ => ⟨S_, .f32⟩
  | .hbm, ⟨59, _⟩ => ⟨S2x4x2048, .f32⟩
  | .hbm, ⟨60, _⟩ => ⟨S2x8x2048, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_v17_2 : Ref sig .tc := ⟨.hbm, 33, rfl⟩
abbrev main_call1_cst_1 : Ref sig .tc := ⟨.hbm, 34, rfl⟩
abbrev main_call1_v6 : Ref sig .tc := ⟨.hbm, 35, rfl⟩
abbrev main_call1_v7 : Ref sig .tc := ⟨.hbm, 36, rfl⟩
abbrev main_v17_1 : Ref sig .tc := ⟨.hbm, 37, rfl⟩
abbrev main_v17_0 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== ConfK.lean ====
abbrev S4096x5120 : Shape := ⟨2, ![4096, 5120]⟩
abbrev S4096x1024 : Shape := ⟨2, ![4096, 1024]⟩
abbrev S31x1024 : Shape := ⟨2, ![31, 1024]⟩
abbrev S1024 : Shape := ⟨1, ![1024]⟩
abbrev S1x1024 : Shape := ⟨2, ![1, 1024]⟩
abbrev S2x31x1024 : Shape := ⟨3, ![2, 31, 1024]⟩
abbrev S2x8x1024 : Shape := ⟨3, ![2, 8, 1024]⟩
abbrev S2048x128 : Shape := ⟨2, ![2048, 128]⟩
abbrev S31x128 : Shape := ⟨2, ![31, 128]⟩
abbrev S1x128 : Shape := ⟨2, ![1, 128]⟩
abbrev S1x31x128 : Shape := ⟨3, ![1, 31, 128]⟩
abbrev S1x8x128 : Shape := ⟨3, ![1, 8, 128]⟩
abbrev S2048 : Shape := ⟨1, ![2048]⟩
abbrev S2048x1 : Shape := ⟨2, ![2048, 1]⟩
abbrev S128 : Shape := ⟨1, ![128]⟩
abbrev S1x1x128 : Shape := ⟨3, ![1, 1, 128]⟩
abbrev S8x128 : Shape := ⟨2, ![8, 128]⟩

abbrev nBuf : Space → Nat
  | .hbm => 15
  | .vmem => 26
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S4096x1024, .bf16⟩
  | .hbm, ⟨13, _⟩ => ⟨S2x31x1024, .f32⟩
  | .hbm, ⟨14, _⟩ => ⟨S2x8x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S31x128, .f32⟩
  | .local _ .vmem, ⟨7, _⟩ => ⟨S31x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x31x128, .f32⟩
  | .local _ .vmem, ⟨23, _⟩ => ⟨S1x31x128, .f32⟩
  | .local _ .vmem, ⟨24, _⟩ => ⟨S1x8x128, .f32⟩
  | .local _ .vmem, ⟨25, _⟩ => ⟨S1x8x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x31x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ConfRIdeal.lean ====
abbrev S4096x5120 : Shape := ⟨2, ![4096, 5120]⟩
abbrev S4096x1024 : Shape := ⟨2, ![4096, 1024]⟩
abbrev S31x1024 : Shape := ⟨2, ![31, 1024]⟩
abbrev S1024 : Shape := ⟨1, ![1024]⟩
abbrev S2x2048x1024 : Shape := ⟨3, ![2, 2048, 1024]⟩
abbrev S2x1024 : Shape := ⟨2, ![2, 1024]⟩
abbrev S2x2048x8x128 : Shape := ⟨4, ![2, 2048, 8, 128]⟩
abbrev S_ : Shape := ⟨0, ![]⟩
abbrev S2x2048x8 : Shape := ⟨3, ![2, 2048, 8]⟩
abbrev S2x2048x8x1 : Shape := ⟨4, ![2, 2048, 8, 1]⟩
abbrev S2x1x1024 : Shape := ⟨3, ![2, 1, 1024]⟩
abbrev S2x31x1024 : Shape := ⟨3, ![2, 31, 1024]⟩
abbrev S31x2048x2048 : Shape := ⟨3, ![31, 2048, 2048]⟩
abbrev S2x31x1x1024 : Shape := ⟨4, ![2, 31, 1, 1024]⟩
abbrev S2x1024x31x2048 : Shape := ⟨4, ![2, 1024, 31, 2048]⟩
abbrev S2x31x2048x1024 : Shape := ⟨4, ![2, 31, 2048, 1024]⟩
abbrev S2x1024x2048 : Shape := ⟨3, ![2, 1024, 2048]⟩
abbrev S2x4x1024 : Shape := ⟨3, ![2, 4, 1024]⟩
abbrev S2x8x1024 : Shape := ⟨3, ![2, 8, 1024]⟩

abbrev nBuf : Space → Nat
  | .hbm => 183
  | .vmem => 0
  | .smem => 0
  | _ => 0

abbrev hbmTy0_0 (i : Nat) : BufTy := match i % 128 with
  | 0 => ⟨S4096x5120, .f32⟩
  | 1 => ⟨S4096x1024, .f32⟩
  | 2 => ⟨S31x1024, .f32⟩
  | 3 => ⟨S1024, .f32⟩
  | 4 => ⟨S1024, .f32⟩
  | 5 => ⟨S1024, .f32⟩
  | 6 => ⟨S4096x1024, .f32⟩
  | 7 => ⟨S4096x1024, .bf16⟩
  | 8 => ⟨S2x2048x1024, .f32⟩
  | 9 => ⟨S2x1024, .f32⟩
  | 10 => ⟨S2x1024, .f32⟩
  | 11 => ⟨S2x2048x8x128, .f32⟩
  | 12 => ⟨S_, .f32⟩
  | 13 => ⟨S2x2048x8, .f32⟩
  | 14 => ⟨S2x2048x8x1, .f32⟩
  | 15 => ⟨S_, .f32⟩
  | 16 => ⟨S2x2048x8x1, .f32⟩
  | 17 => ⟨S2x2048x8x1, .f32⟩
  | 18 => ⟨S2x2048x8x128, .f32⟩
  | 19 => ⟨S2x2048x8x128, .f32⟩
  | 20 => ⟨S2x2048x8x128, .f32⟩
  | 21 => ⟨S_, .f32⟩
  | 22 => ⟨S2x2048x8, .f32⟩
  | 23 => ⟨S2x2048x8x1, .f32⟩
  | 24 => ⟨S_, .f32⟩
  | 25 => ⟨S2x2048x8x1, .f32⟩
  | 26 => ⟨S2x2048x8x1, .f32⟩
  | 27 => ⟨S_, .f32⟩
  | 28 => ⟨S2x2048x8x1, .f32⟩
  | 29 => ⟨S2x2048x8x1, .f32⟩
  | 30 => ⟨S2x2048x8x1, .f32⟩
  | 31 => ⟨S2x2048x8x1, .f32⟩
  | 32 => ⟨S_, .f32⟩
  | 33 => ⟨S2x2048x8x1, .f32⟩
  | 34 => ⟨S2x2048x8x1, .f32⟩
  | 35 => ⟨S2x2048x8x128, .f32⟩
  | 36 => ⟨S2x2048x8x128, .f32⟩
  | 37 => ⟨S2x2048x1024, .f32⟩
  | 38 => ⟨S2x1x1024, .f32⟩
  | 39 => ⟨S2x2048x1024, .f32⟩
  | 40 => ⟨S2x2048x1024, .f32⟩
  | 41 => ⟨S2x1x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S_, .f32⟩
  | 47 => ⟨S2x2048x1024, .f32⟩
  | 48 => ⟨S2x2048x1024, .f32⟩
  | 49 => ⟨S_, .f32⟩
  | 50 => ⟨S2x2048x1024, .f32⟩
  | 51 => ⟨S2x2048x1024, .f32⟩
  | 52 => ⟨S_, .f32⟩
  | 53 => ⟨S2x2048x1024, .f32⟩
  | 54 => ⟨S2x2048x1024, .f32⟩
  | 55 => ⟨S2x2048x1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S2x2048x1024, .f32⟩
  | 61 => ⟨S2x2048x1024, .f32⟩
  | 62 => ⟨S_, .f32⟩
  | 63 => ⟨S2x1024, .f32⟩
  | 64 => ⟨S2x1x1024, .f32⟩
  | 65 => ⟨S_, .f32⟩
  | 66 => ⟨S2x1024, .f32⟩
  | 67 => ⟨S2x2048x1024, .f32⟩
  | 68 => ⟨S_, .f32⟩
  | 69 => ⟨S2x1024, .f32⟩
  | 70 => ⟨S2x1x1024, .f32⟩
  | 71 => ⟨S2x2048x1024, .f32⟩
  | 72 => ⟨S2x2048x1024, .f32⟩
  | 73 => ⟨S_, .f32⟩
  | 74 => ⟨S2x1024, .f32⟩
  | 75 => ⟨S2x2048x8x128, .f32⟩
  | 76 => ⟨S2x2048x8x128, .f32⟩
  | 77 => ⟨S_, .f32⟩
  | 78 => ⟨S2x2048x8, .f32⟩
  | 79 => ⟨S2x2048x8x1, .f32⟩
  | 80 => ⟨S2x2048x8x128, .f32⟩
  | 81 => ⟨S2x2048x8x128, .f32⟩
  | 82 => ⟨S2x2048x8x1, .f32⟩
  | 83 => ⟨S_, .f32⟩
  | 84 => ⟨S2x2048x8x1, .f32⟩
  | 85 => ⟨S2x2048x8x1, .f32⟩
  | 86 => ⟨S_, .f32⟩
  | 87 => ⟨S2x2048x8, .f32⟩
  | 88 => ⟨S2x2048x8x128, .f32⟩
  | 89 => ⟨S2x2048x8x128, .f32⟩
  | 90 => ⟨S2x2048x8x128, .f32⟩
  | 91 => ⟨S2x2048x8x128, .f32⟩
  | 92 => ⟨S2x2048x8x128, .f32⟩
  | 93 => ⟨S2x2048x8x128, .f32⟩
  | 94 => ⟨S_, .f32⟩
  | 95 => ⟨S2x2048x8, .f32⟩
  | 96 => ⟨S2x2048x8x1, .f32⟩
  | 97 => ⟨S_, .f32⟩
  | 98 => ⟨S2x2048x8x1, .f32⟩
  | 99 => ⟨S2x2048x8x1, .f32⟩
  | 100 => ⟨S_, .f32⟩
  | 101 => ⟨S2x2048x8, .f32⟩
  | 102 => ⟨S2x2048x8x128, .f32⟩
  | 103 => ⟨S2x2048x8x128, .f32⟩
  | 104 => ⟨S2x2048x1024, .f32⟩
  | 105 => ⟨S4096x1024, .f32⟩
  | 106 => ⟨S2x2048x1024, .f32⟩
  | 107 => ⟨S4096x1024, .f32⟩
  | 108 => ⟨S2x2048x1024, .f32⟩
  | 109 => ⟨S2x31x1024, .f32⟩
  | 110 => ⟨S2x1024, .f32⟩
  | 111 => ⟨S2x2048x1024, .f32⟩
  | 112 => ⟨S2x2048x1024, .f32⟩
  | 113 => ⟨S_, .f32⟩
  | 114 => ⟨S2x2048x1024, .f32⟩
  | 115 => ⟨S2x2048x1024, .f32⟩
  | 116 => ⟨S_, .f32⟩
  | 117 => ⟨S2x2048x1024, .f32⟩
  | 118 => ⟨S2x2048x1024, .f32⟩
  | 119 => ⟨S_, .f32⟩
  | 120 => ⟨S2x2048x1024, .f32⟩
  | 121 => ⟨S2x2048x1024, .f32⟩
  | 122 => ⟨S2x2048x1024, .f32⟩
  | 123 => ⟨S2x2048x1024, .f32⟩
  | 124 => ⟨S31x2048x2048, .i32⟩
  | 125 => ⟨S31x2048x2048, .i32⟩
  | 126 => ⟨S31x2048x2048, .i32⟩
  | 127 => ⟨S_, .i32⟩
  | _ => ⟨S4096x5120, .f32⟩

abbrev hbmTy0_1 (i : Nat) : BufTy := match i % 128 with
  | 0 => ⟨S31x2048x2048, .i32⟩
  | 1 => ⟨S31x2048x2048, .i32⟩
  | 2 => ⟨S31x2048x2048, .i32⟩
  | 3 => ⟨S31x2048x2048, .i1⟩
  | 4 => ⟨S_, .f32⟩
  | 5 => ⟨S_, .f32⟩
  | 6 => ⟨S31x2048x2048, .f32⟩
  | 7 => ⟨S31x2048x2048, .f32⟩
  | 8 => ⟨S31x2048x2048, .f32⟩
  | 9 => ⟨S2x31x1x1024, .f32⟩
  | 10 => ⟨S2x1024x31x2048, .f32⟩
  | 11 => ⟨S2x31x2048x1024, .f32⟩
  | 12 => ⟨S2x31x2048x1024, .f32⟩
  | 13 => ⟨S2x31x2048x1024, .f32⟩
  | 14 => ⟨S_, .f32⟩
  | 15 => ⟨S2x2048x1024, .f32⟩
  | 16 => ⟨S2x1x1024, .f32⟩
  | 17 => ⟨S2x2048x1024, .f32⟩
  | 18 => ⟨S2x2048x1024, .f32⟩
  | 19 => ⟨S_, .f32⟩
  | 20 => ⟨S2x1024, .f32⟩
  | 21 => ⟨S2x1x1024, .f32⟩
  | 22 => ⟨S_, .f32⟩
  | 23 => ⟨S2x1024, .f32⟩
  | 24 => ⟨S2x31x2048x1024, .f32⟩
  | 25 => ⟨S2x31x2048x1024, .f32⟩
  | 26 => ⟨S2x31x2048x1024, .f32⟩
  | 27 => ⟨S2x31x2048x1024, .f32⟩
  | 28 => ⟨S_, .f32⟩
  | 29 => ⟨S2x31x1024, .f32⟩
  | 30 => ⟨S2x31x1x1024, .f32⟩
  | 31 => ⟨S2x1024x31x2048, .f32⟩
  | 32 => ⟨S2x1024x2048, .f32⟩
  | 33 => ⟨S2x2048x1024, .f32⟩
  | 34 => ⟨S_, .f32⟩
  | 35 => ⟨S2x31x1024, .f32⟩
  | 36 => ⟨S2x2048x1024, .f32⟩
  | 37 => ⟨S2x2048x1024, .f32⟩
  | 38 => ⟨S2x2048x1024, .f32⟩
  | 39 => ⟨S4096x1024, .f32⟩
  | 40 => ⟨S2x2048x1024, .f32⟩
  | 41 => ⟨S_, .f32⟩
  | 42 => ⟨S2x1024, .f32⟩
  | 43 => ⟨S4096x1024, .f32⟩
  | 44 => ⟨S4096x1024, .bf16⟩
  | 45 => ⟨S4096x1024, .f32⟩
  | 46 => ⟨S4096x1024, .bf16⟩
  | 47 => ⟨S2x1x1024, .f32⟩
  | 48 => ⟨S2x1x1024, .f32⟩
  | 49 => ⟨S2x1x1024, .f32⟩
  | 50 => ⟨S2x1x1024, .f32⟩
  | 51 => ⟨S2x4x1024, .f32⟩
  | 52 => ⟨S_, .f32⟩
  | 53 => ⟨S2x4x1024, .f32⟩
  | 54 => ⟨S2x8x1024, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v30_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v30_1 : Ref sig .tc := ⟨.hbm, 55, rfl⟩
abbrev main_v30_0 : Ref sig .tc := ⟨.hbm, 56, rfl⟩
abbrev main_v31 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_cst_11 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_12 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_v61 : Ref sig .tc := ⟨.hbm, 99, rfl⟩
abbrev main_cst_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_15 : Ref sig .tc := ⟨.hbm, 113, rfl⟩
abbrev main_v74 : Ref sig .tc := ⟨.hbm, 114, rfl⟩
abbrev main_v75 : Ref sig .tc := ⟨.hbm, 115, rfl⟩
abbrev main_cst_16 : Ref sig .tc := ⟨.hbm, 116, rfl⟩
abbrev main_v76 : Ref sig .tc := ⟨.hbm, 117, rfl⟩
abbrev main_v77 : Ref sig .tc := ⟨.hbm, 118, rfl⟩
abbrev main_cst_17 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_18 : Ref sig .tc := ⟨.hbm, 132, rfl⟩
abbrev main_cst_19 : Ref sig .tc := ⟨.hbm, 133, rfl⟩
abbrev main_call2_v0 : Ref sig .tc := ⟨.hbm, 134, rfl⟩
abbrev main_call2_v1 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_20 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_21 : Ref sig .tc := ⟨.hbm, 147, rfl⟩
abbrev main_v99 : Ref sig .tc := ⟨.hbm, 148, rfl⟩
abbrev main_v100 : Ref sig .tc := ⟨.hbm, 149, rfl⟩
abbrev main_cst_22 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_23 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_24 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_25 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_26 : Ref sig .tc := ⟨.hbm, 180, rfl⟩
abbrev main_v127 : Ref sig .tc := ⟨.hbm, 181, rfl⟩
abbrev main_v128 : Ref sig .tc := ⟨.hbm, 182, rfl⟩

abbrev nD : Nat := 1
abbrev τ : Topo := Topo.v7x

variable {F : FTy → Type} [FloatOps F]
-- ==== Proof.Products.lean ====
/- Matrix products over the extended reals, and what the claims about the step's product calls share. -/
module

public import Idealize.ShloMosaic.Lib.Pointwise

@[expose] public section

noncomputable section

namespace Cert.Proof

open Idealize.ShloMosaic

/-- A matrix of extended reals, indexed as the programs' arrays are. -/
abbrev Mat (m n : Nat) := (⟨2, ![m, n]⟩ : Shape).Idx → EReal

theorem Mat.ext {m n : Nat} {f g : Mat m n} (h : ∀ r l, f (ix2 r l) = g (ix2 r l)) : f = g :=
  funext fun i => by rw [eq_ix2 i]; exact h _ _

/-- The product of two matrices. -/
def nn {m n K : Nat} (a : Mat m K) (b : Mat K n) : Mat m n := fun i => ∑ k : Fin K, a (ix2 (i 0) k) * b (ix2 k (i 1))

/-- A matrix times a transposed one. -/
def nt {m n K : Nat} (a : Mat m K) (b : Mat n K) : Mat m n := fun i => ∑ k : Fin K, a (ix2 (i 0) k) * b (ix2 (i 1) k)

/-- A transposed matrix times another. -/
def tn {m n K : Nat} (a : Mat K m) (b : Mat K n) : Mat m n := fun i => ∑ k : Fin K, a (ix2 k (i 0)) * b (ix2 k (i 1))

theorem sum_mul_congr {K : Nat} {a b x y : Fin K → EReal} (ha : ∀ k, x k = a k) (hb : ∀ k, y k = b k) :
    (∑ k, x k * y k) = ∑ k, a k * b k :=
  Finset.sum_congr rfl fun k _ => by rw [ha k, hb k]

/-- The sum of two matrices. -/
def plus {m n : Nat} (a b : Mat m n) : Mat m n := fun i => a i + b i

theorem add_congr {a b c d : EReal} (h : a = b) (k : c = d) : a + c = b + d := by rw [h, k]

/-! A block of a product is the product of the rows and columns that it takes. -/

section
variable {m n p q K : Nat} {j : (⟨2, ![p, q]⟩ : Shape).Idx} {i : (⟨2, ![m, n]⟩ : Shape).Idx}

theorem nn_block {x : Mat p K} {y : Mat K q} {a : Mat m K} {b : Mat K n}
    (ha : ∀ k, x (ix2 (j 0) k) = a (ix2 (i 0) k)) (hb : ∀ k, y (ix2 k (j 1)) = b (ix2 k (i 1))) : nn x y j = nn a b i :=
  sum_mul_congr ha hb

theorem nt_block {x : Mat p K} {y : Mat q K} {a : Mat m K} {b : Mat n K}
    (ha : ∀ k, x (ix2 (j 0) k) = a (ix2 (i 0) k)) (hb : ∀ k, y (ix2 (j 1) k) = b (ix2 (i 1) k)) : nt x y j = nt a b i :=
  sum_mul_congr ha hb

theorem tn_block {x : Mat K p} {y : Mat K q} {a : Mat K m} {b : Mat K n}
    (ha : ∀ k, x (ix2 k (j 0)) = a (ix2 k (i 0))) (hb : ∀ k, y (ix2 k (j 1)) = b (ix2 k (i 1))) : tn x y j = tn a b i :=
  sum_mul_congr ha hb
end

/-- The gradient of a weight, as the reference has it: the factors exchanged. -/
theorem tn_comm {m n K : Nat} (a : Mat K m) (b : Mat K n) (r : Fin m) (l : Fin n) :
    (∑ k : Fin K, b (ix2 k l) * a (ix2 k r)) = tn a b (ix2 r l) :=
  Finset.sum_congr rfl fun k _ => mul_comm _ _

/-! ## The claims about two runs -/

section
variable {D : Type} {A B : Type} {V : D → Type} {RA : (A → Prop) → Prop} {RB : (B → Prop) → Prop}

/-- Two runs whose results are both `v` satisfy the claim that they are equal. -/
theorem agree (monoA : ∀ {P Q : A → Prop}, (∀ r, P r → Q r) → RA P → RA Q) (monoB : ∀ {P Q : B → Prop}, (∀ r, P r → Q r) → RB P → RB Q)
    {out : A → (c : D) → V c} {out' : B → (c : D) → V c} {keep : A → D → Prop} {keep' : B → D → Prop} {x y : (c : D) → V c}
    (v : (c : D) → V c) (ha : RA fun r => ∀ c, out r c = x c ∧ keep r c) (hx : ∀ c, x c = v c)
    (hb : RB fun r => ∀ c, out' r c = y c ∧ keep' r c) (hy : ∀ c, y c = v c) :
    ∃ v : (c : D) → V c, (RA fun r => ∀ c, out r c = v c ∧ keep r c) ∧ RB fun r => ∀ c, out' r c = v c ∧ keep' r c :=
  ⟨v, monoA (fun _ h c => ⟨(h c).1.trans (hx c), (h c).2⟩) ha, monoB (fun _ h c => ⟨(h c).1.trans (hy c), (h c).2⟩) hb⟩

/-- The frame of a program from its run to a result, where nothing counts on a semaphore. -/
theorem quiet (monoA : ∀ {P Q : A → Prop}, (∀ r, P r → Q r) → RA P → RA Q) {Z : A → Prop} (hz : ∀ r, Z r)
    {out : A → (c : D) → V c} {x : (c : D) → V c} {keep : A → D → Prop}
    (ha : RA fun r => ∀ c, out r c = x c ∧ keep r c) : RA fun r => (∀ c, keep r c) ∧ Z r :=
  monoA (fun r h => ⟨fun c => (h c).2, hz r⟩) ha
end

end Cert.Proof

end
-- ==== Proof.Weights.lean ====
/- The gradients of the weights: a transposed input times a cotangent, summed over the tokens. -/
module

public import proofs.«01_k».proof.Defs
public import proofs.«01_k».proof.Proof.Gen.DwdownKIdeal.Value
public import proofs.«01_k».proof.Proof.Gen.DwdownRIdeal.Read
public import proofs.«01_k».proof.Proof.Gen.DwupKIdeal.Value
public import proofs.«01_k».proof.Proof.Gen.DwupRIdeal.Read
public import proofs.«01_k».proof.Proof.Gen.DwinKIdeal.Value
public import proofs.«01_k».proof.Proof.Gen.DwinRIdeal.Read
public import proofs.«01_k».proof.Proof.Gen.DwoutKIdeal.Value
public import proofs.«01_k».proof.Proof.Gen.DwoutRIdeal.Read
public import proofs.«01_k».proof.Proof.Gen.DwpwKIdeal.Value
public import proofs.«01_k».proof.Proof.Gen.DwpwRIdeal.Read
public import proofs.«01_k».proof.Proof.Gen.DwbaKIdeal.Value
public import proofs.«01_k».proof.Proof.Gen.DwbaRIdeal.Read
public import proofs.«01_k».proof.Proof.Products
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

namespace Cert.Proof

open Idealize.ShloMosaic Idealize.ShloMosaic.TcCoe Idealize.SL.Sem

/-! ## The down projection -/

namespace Dwdown
open Cert.DwdownKIdeal Cert.DwdownKIdeal.Gen

theorem cell (x : Mat 4096 512) (y : Mat 4096 1024) : out0_2 (F := Ideal) x y = tn x y :=
  Mat.ext fun r l => by
    frame_out
    unfold k0_pay1
    pointwise
    rfl

theorem blk0 : ∀ t : Fin cfg0.N, win0_0.index t = ![0, win0_2.index t 0] := (by decide +kernel : ∀ t : Fin grid0.N, _)
theorem blk1 : ∀ t : Fin cfg0.N, win0_1.index t = ![0, win0_2.index t 1] := (by decide +kernel : ∀ t : Fin grid0.N, _)

theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ (by decide +kernel) fun t _ j => ?_
  blk_simp
  rw [after0_2, cell]
  exact tn_block (fun k => by blk_ext [iblk, V, blk0 t]) fun k => by blk_ext [iblk, V, blk1 t]

open Cert.DwdownRIdeal.Read in
theorem ref (a : Mat 4096 5632) (b : Mat 4096 2048) : val_main_v6 (F := Ideal) a b = tn a b :=
  Mat.ext fun r l => by
    unfold val_main_v6 val_main_v5 val_main_v4 val_main_v3 val_main_v1
    pointwise
    exact tn_comm a b r l

theorem frame_reference : Cert.quiescent_DwdownRIdeal (hDwdownRIdeal := Cert.DwdownRIdeal.Gen.facts) := fun m ρ _ =>
  quiet (θ_run _ _ _).mono (fun r => sem_eq_zero_of_no_sems (by decide) r.2) (Cert.DwdownRIdeal.Value.run m ρ)

theorem algebraic : Cert.algebraic_DwdownKIdeal_DwdownRIdeal (hDwdownKIdeal := Cert.DwdownKIdeal.Gen.facts) (hDwdownRIdeal := Cert.DwdownRIdeal.Gen.facts) :=
  fun m g m' g' _ hm => agree (θ_run _ _ _).mono (θ_run _ _ _).mono _ (Value.run_blocks m g) (arr m) (Cert.DwdownRIdeal.Value.run m' g') fun c => by
    rw [Cert.DwdownRIdeal.Read.val_main_v6_eq, (hm c).1, (hm c).2]
    exact ref _ _

end Dwdown

/-! ## The up projection: one half of its columns, written as that half's two slots -/

namespace Dwup
open Cert.DwupKIdeal Cert.DwupKIdeal.Gen

/-- The half's gradient, column `l` of slot `z` being column `2816 z + l` of the cotangent. -/
def slots (a : Mat 4096 2048) (b : Mat 4096 5632) (i : S2x2048x2816.Idx) : EReal :=
  tn a b (ix2 (i 1) ⟨(i 0).val * 2816 + (i 2).val, by have : (i 0).val < 2 := (i 0).isLt; have : (i 2).val < 2816 := (i 2).isLt; omega⟩)

theorem cell (x : Mat 4096 512) (y : Mat 4096 1408) (z : Fin 1) (r : Fin 512) (l : Fin 1408) :
    out0_2 (F := Ideal) x y (ix3 z r l) = tn x y (ix2 r l) := by
  frame_out
  unfold k0_pay1
  pointwise
  rfl

theorem blk0 : ∀ t : Fin cfg0.N, win0_0.index t = ![0, win0_2.index t 1] := (by decide +kernel : ∀ t : Fin grid0.N, _)
theorem blk1 : ∀ t : Fin cfg0.N, win0_1.index t = ![0, win0_2.index t 0 * 2 + win0_2.index t 2] := (by decide +kernel : ∀ t : Fin grid0.N, _)

theorem arr (m : (ℓ : Loc nD τ sig) → Buf (Elt Ideal) ℓ) (c : Dev nD) :
    (dats m 0 c).arrAt 2 cfg0.N = slots (m ((c : Thread nD τ).loc main_arg0)) (m ((c : Thread nD τ).loc main_arg1)) := by
  refine (dats m 0 c).arrAt_eq_of_covers 2 _ (by decide +kernel) fun t _ j => ?_
  blk_simp
  rw [after0_2]
  have hj : j = ix3 (j 0) (j 1) (j 2) := eq_ix3 j
  rw [hj]
  refine (cell _ _ (j 0) (j 1) (j 2)).trans (tn_block (fun k => ?_) fun k => ?_)
  · blk_ext [iblk, V, blk0 t]
  · blk_ext [iblk, V, blk1 t]

open Cert.DwupRIdeal.Read in
theorem ref (a : Mat 4096 2048) (b : Mat 4096 5632) : val_main_v8 (F := Ideal) a b = slots a b := by
  funext i
  have hi : i = ix3 (i 0) (i 1) (i 2) := eq_ix3 i
  generalize i 0 = z at hi
  generalize i 1 = r at hi
  generalize i 2 = l at hi
  subst hi
  unfold val_main_v8 val_main_v7 val_main_v6 val_main_v5 val_main_v4 val_main_v3 val_main_v1
  pointwise
  exact tn_comm a b _ _

theorem frame_reference : Cert.quiescent_DwupRIdeal (hDwupRIdeal := Cert.DwupRIdeal.Gen.facts) := fun m ρ _ =>
  quiet (θ_run _ _ _).mono (fun r => sem_eq_zero_of_no_sems (by decide) r.2) (Cert.DwupRIdeal.Value.run m ρ)

theorem algebraic : Cert.algebraic_DwupKIdeal_DwupRIdeal (hDwupKIdeal := Cert.DwupKIdeal.Gen.facts) (hDwupRIdeal := Cert.DwupRIdeal.Gen.facts) :=
  fun m g m' g' _ hm => agree (θ_run _ _ _).mono (θ_run _ _ _).mono _ (Value.run_blocks m g) (arr m) (Cert.DwupRIdeal.Value.run m' g') fun c => by
    rw [Cert.DwupRIdeal.Read.val_main_v8_eq, (hm c).1, (hm c).2]
    exact ref _ _

end Dwup

/-! ## The input projection's main columns -/

namespace Dwin
open Cert.DwinKIdeal Cert.DwinKIdeal.Gen

theorem cell (x : Mat 4096 1024) (y : Mat 4096 1024) : out0_2 (F := Ideal) x y = tn x y :=
  Mat.ext fun r l => by
    frame_out
    unfold k0_pay1
    pointwise
    rfl

theorem blk0 : ∀ t : Fin cfg0.N, win0_0.index t = ![0, win0_2.index t 0] := (by decide +kernel : ∀ t : Fin grid0.N, _)
theorem blk1 : ∀ t : Fin cfg0.N, win0_1.index t = ![0, win0_2.index t 1] := (by decide +kernel : ∀ t : Fin grid0.N, _)

theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ (by decide +kernel) fun t _ j => ?_
  blk_simp
  rw [after0_2, cell]
  exact tn_block (fun k => by blk_ext [iblk, V, blk0 t]) fun k => by blk_ext [iblk, V, blk1 t]

open Cert.DwinRIdeal.Read in
theorem ref (a : Mat 4096 2048) (b : Mat 4096 5120) : val_main_v6 (F := Ideal) a b = tn a b :=
  Mat.ext fun r l => by
    unfold val_main_v6 val_main_v5 val_main_v4 val_main_v3 val_main_v1
    pointwise
    exact tn_comm a b r l

theorem frame_reference : Cert.quiescent_DwinRIdeal (hDwinRIdeal := Cert.DwinRIdeal.Gen.facts) := fun m ρ _ =>
  quiet (θ_run _ _ _).mono (fun r => sem_eq_zero_of_no_sems (by decide) r.2) (Cert.DwinRIdeal.Value.run m ρ)

theorem algebraic : Cert.algebraic_DwinKIdeal_DwinRIdeal (hDwinKIdeal := Cert.DwinKIdeal.Gen.facts) (hDwinRIdeal := Cert.DwinRIdeal.Gen.facts) :=
  fun m g m' g' _ hm => agree (θ_run _ _ _).mono (θ_run _ _ _).mono _ (Value.run_blocks m g) (arr m) (Cert.DwinRIdeal.Value.run m' g') fun c => by
    rw [Cert.DwinRIdeal.Read.val_main_v6_eq, (hm c).1, (hm c).2]
    exact ref _ _

end Dwin

/-! ## The output projection: the rows of one branch -/

namespace Dwout
open Cert.DwoutKIdeal Cert.DwoutKIdeal.Gen

theorem cell (x : Mat 4096 1024) (y : Mat 4096 1024) : out0_2 (F := Ideal) x y = tn x y :=
  Mat.ext fun r l => by
    frame_out
    unfold k0_pay1
    pointwise
    rfl

theorem blk0 : ∀ t : Fin cfg0.N, win0_0.index t = ![0, win0_2.index t 0] := (by decide +kernel : ∀ t : Fin grid0.N, _)
theorem blk1 : ∀ t : Fin cfg0.N, win0_1.index t = ![0, win0_2.index t 1] := (by decide +kernel : ∀ t : Fin grid0.N, _)

theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ (by decide +kernel) fun t _ j => ?_
  blk_simp
  rw [after0_2, cell]
  exact tn_block (fun k => by blk_ext [iblk, V, blk0 t]) fun k => by blk_ext [iblk, V, blk1 t]

open Cert.DwoutRIdeal.Read in
theorem ref (a : Mat 4096 1024) (b : Mat 4096 2048) : val_main_v6 (F := Ideal) a b = tn a b :=
  Mat.ext fun r l => by
    unfold val_main_v6 val_main_v5 val_main_v4 val_main_v3 val_main_v1
    pointwise
    exact tn_comm a b r l

theorem frame_reference : Cert.quiescent_DwoutRIdeal (hDwoutRIdeal := Cert.DwoutRIdeal.Gen.facts) := fun m ρ _ =>
  quiet (θ_run _ _ _).mono (fun r => sem_eq_zero_of_no_sems (by decide) r.2) (Cert.DwoutRIdeal.Value.run m ρ)

theorem algebraic : Cert.algebraic_DwoutKIdeal_DwoutRIdeal (hDwoutKIdeal := Cert.DwoutKIdeal.Gen.facts) (hDwoutRIdeal := Cert.DwoutRIdeal.Gen.facts) :=
  fun m g m' g' _ hm => agree (θ_run _ _ _).mono (θ_run _ _ _).mono _ (Value.run_blocks m g) (arr m) (Cert.DwoutRIdeal.Value.run m' g') fun c => by
    rw [Cert.DwoutRIdeal.Read.val_main_v6_eq, (hm c).1, (hm c).2]
    exact ref _ _

end Dwout

/-! ## The pointwise product of the convolution branch -/

namespace Dwpw
open Cert.DwpwKIdeal Cert.DwpwKIdeal.Gen

theorem cell (x : Mat 4096 1024) (y : Mat 4096 1024) : out0_2 (F := Ideal) x y = tn x y :=
  Mat.ext fun r l => by
    frame_out
    unfold k0_pay1
    pointwise
    rfl

theorem blk0 : ∀ t : Fin cfg0.N, win0_0.index t = ![0, win0_2.index t 0] := (by decide +kernel : ∀ t : Fin grid0.N, _)
theorem blk1 : ∀ t : Fin cfg0.N, win0_1.index t = ![0, win0_2.index t 1] := (by decide +kernel : ∀ t : Fin grid0.N, _)

theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ (by decide +kernel) fun t _ j => ?_
  blk_simp
  rw [after0_2, cell]
  exact tn_block (fun k => by blk_ext [iblk, V, blk0 t]) fun k => by blk_ext [iblk, V, blk1 t]

open Cert.DwpwRIdeal.Read in
theorem ref (a : Mat 4096 1024) (b : Mat 4096 1024) : val_main_v6 (F := Ideal) a b = tn a b :=
  Mat.ext fun r l => by
    unfold val_main_v6 val_main_v5 val_main_v4 val_main_v3 val_main_v1
    pointwise
    exact tn_comm a b r l

theorem frame_reference : Cert.quiescent_DwpwRIdeal (hDwpwRIdeal := Cert.DwpwRIdeal.Gen.facts) := fun m ρ _ =>
  quiet (θ_run _ _ _).mono (fun r => sem_eq_zero_of_no_sems (by decide) r.2) (Cert.DwpwRIdeal.Value.run m ρ)

theorem algebraic : Cert.algebraic_DwpwKIdeal_DwpwRIdeal (hDwpwKIdeal := Cert.DwpwKIdeal.Gen.facts) (hDwpwRIdeal := Cert.DwpwRIdeal.Gen.facts) :=
  fun m g m' g' _ hm => agree (θ_run _ _ _).mono (θ_run _ _ _).mono _ (Value.run_blocks m g) (arr m) (Cert.DwpwRIdeal.Value.run m' g') fun c => by
    rw [Cert.DwpwRIdeal.Read.val_main_v6_eq, (hm c).1, (hm c).2]
    exact ref _ _

end Dwpw

/-! ## The input projection's narrow columns -/

namespace Dwba
open Cert.DwbaKIdeal Cert.DwbaKIdeal.Gen

theorem cell (x : Mat 4096 1024) (y : Mat 4096 128) : out0_2 (F := Ideal) x y = tn x y :=
  Mat.ext fun r l => by
    frame_out
    unfold k0_pay1
    pointwise
    rfl

theorem blk0 : ∀ t : Fin cfg0.N, win0_0.index t = ![0, win0_2.index t 0] := (by decide +kernel : ∀ t : Fin grid0.N, _)
theorem blk1 : ∀ t : Fin cfg0.N, win0_1.index t = ![0, win0_2.index t 1] := (by decide +kernel : ∀ t : Fin grid0.N, _)

theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ (by decide +kernel) fun t _ j => ?_
  blk_simp
  rw [after0_2, cell]
  exact tn_block (fun k => by blk_ext [iblk, V, blk0 t]) fun k => by blk_ext [iblk, V, blk1 t]

open Cert.DwbaRIdeal.Read in
theorem ref (a : Mat 4096 2048) (b : Mat 4096 128) : val_main_v5 (F := Ideal) a b = tn a b :=
  Mat.ext fun r l => by
    unfold val_main_v5 val_main_v4 val_main_v3 val_main_v1
    pointwise
    exact tn_comm a b r l

theorem frame_reference : Cert.quiescent_DwbaRIdeal (hDwbaRIdeal := Cert.DwbaRIdeal.Gen.facts) := fun m ρ _ =>
  quiet (θ_run _ _ _).mono (fun r => sem_eq_zero_of_no_sems (by decide) r.2) (Cert.DwbaRIdeal.Value.run m ρ)

theorem algebraic : Cert.algebraic_DwbaKIdeal_DwbaRIdeal (hDwbaKIdeal := Cert.DwbaKIdeal.Gen.facts) (hDwbaRIdeal := Cert.DwbaRIdeal.Gen.facts) :=
  fun m g m' g' _ hm => agree (θ_run _ _ _).mono (θ_run _ _ _).mono _ (Value.run_blocks m g) (arr m) (Cert.DwbaRIdeal.Value.run m' g') fun c => by
    rw [Cert.DwbaRIdeal.Read.val_main_v5_eq, (hm c).1, (hm c).2]
    exact ref _ _

end Dwba

end Cert.Proof

end
-- ==== Proof.Inputs.lean ====
/- The gradients of the products' inputs: a cotangent times a transposed weight. -/
module

public import proofs.«01_k».proof.Defs
public import proofs.«01_k».proof.Proof.Gen.DactKIdeal.Value
public import proofs.«01_k».proof.Proof.Gen.DactRIdeal.Read
public import proofs.«01_k».proof.Proof.Gen.DhKIdeal.Value
public import proofs.«01_k».proof.Proof.Gen.DhRIdeal.Read
public import proofs.«01_k».proof.Proof.Gen.DoutaKIdeal.Value
public import proofs.«01_k».proof.Proof.Gen.DoutaRIdeal.Read
public import proofs.«01_k».proof.Proof.Gen.DoutbKIdeal.Value
public import proofs.«01_k».proof.Proof.Gen.DoutbRIdeal.Read
public import proofs.«01_k».proof.Proof.Gen.DucKIdeal.Value
public import proofs.«01_k».proof.Proof.Gen.DucRIdeal.Read
public import proofs.«01_k».proof.Proof.Gen.DhbaKIdeal.Value
public import proofs.«01_k».proof.Proof.Gen.DhbaRIdeal.Read
public import proofs.«01_k».proof.Proof.Products
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

namespace Cert.Proof

open Idealize.ShloMosaic Idealize.ShloMosaic.TcCoe Idealize.SL.Sem

/-! ## The feed-forward activation -/

namespace Dact
open Cert.DactKIdeal Cert.DactKIdeal.Gen

theorem cell (x : Mat 1024 2048) (y : Mat 512 2048) : out0_2 (F := Ideal) x y = nt x y :=
  Mat.ext fun r l => by
    frame_out
    unfold k0_pay1
    pointwise
    rfl

theorem blk0 : ∀ t : Fin cfg0.N, win0_0.index t = ![win0_2.index t 0, 0] := (by decide +kernel : ∀ t : Fin grid0.N, _)
theorem blk1 : ∀ t : Fin cfg0.N, win0_1.index t = ![win0_2.index t 1, 0] := (by decide +kernel : ∀ t : Fin grid0.N, _)

theorem arr (m : (ℓ : Loc nD τ sig) → Buf (Elt Ideal) ℓ) (c : Dev nD) :
    (dats m 0 c).arrAt 2 cfg0.N = nt (m ((c : Thread nD τ).loc main_arg0)) (m ((c : Thread nD τ).loc main_arg1)) := by
  refine (dats m 0 c).arrAt_eq_of_covers 2 _ (by decide +kernel) fun t _ j => ?_
  blk_simp
  rw [after0_2, cell]
  exact nt_block (fun k => by blk_ext [iblk, V, blk0 t]) fun k => by blk_ext [iblk, V, blk1 t]

open Cert.DactRIdeal.Read in
theorem ref (a : Mat 4096 2048) (b : Mat 5632 2048) : val_main_v5 (F := Ideal) a b = nt a b :=
  Mat.ext fun r l => by
    unfold val_main_v5 val_main_v4 val_main_v3 val_main_v1
    pointwise
    rfl

theorem frame_reference : Cert.quiescent_DactRIdeal (hDactRIdeal := Cert.DactRIdeal.Gen.facts) := fun m ρ _ =>
  quiet (θ_run _ _ _).mono (fun r => sem_eq_zero_of_no_sems (by decide) r.2) (Cert.DactRIdeal.Value.run m ρ)

theorem algebraic : Cert.algebraic_DactKIdeal_DactRIdeal (hDactKIdeal := Cert.DactKIdeal.Gen.facts) (hDactRIdeal := Cert.DactRIdeal.Gen.facts) :=
  fun m g m' g' _ hm => agree (θ_run _ _ _).mono (θ_run _ _ _).mono _ (Value.run_blocks m g) (arr m) (Cert.DactRIdeal.Value.run m' g') fun c => by
    rw [Cert.DactRIdeal.Read.val_main_v5_eq, (hm c).1, (hm c).2]
    exact ref _ _

end Dact

/-! ## The normalised input, through the input projection's main columns -/

namespace Dh
open Cert.DhKIdeal Cert.DhKIdeal.Gen

theorem cell (x : Mat 512 5120) (y : Mat 1024 5120) : out0_2 (F := Ideal) x y = nt x y :=
  Mat.ext fun r l => by
    frame_out
    unfold k0_pay1
    pointwise
    rfl

theorem blk0 : ∀ t : Fin cfg0.N, win0_0.index t = ![win0_2.index t 0, 0] := (by decide +kernel : ∀ t : Fin grid0.N, _)
theorem blk1 : ∀ t : Fin cfg0.N, win0_1.index t = ![win0_2.index t 1, 0] := (by decide +kernel : ∀ t : Fin grid0.N, _)

theorem arr (m : (ℓ : Loc nD τ sig) → Buf (Elt Ideal) ℓ) (c : Dev nD) :
    (dats m 0 c).arrAt 2 cfg0.N = nt (m ((c : Thread nD τ).loc main_arg0)) (m ((c : Thread nD τ).loc main_arg1)) := by
  refine (dats m 0 c).arrAt_eq_of_covers 2 _ (by decide +kernel) fun t _ j => ?_
  blk_simp
  rw [after0_2, cell]
  exact nt_block (fun k => by blk_ext [iblk, V, blk0 t]) fun k => by blk_ext [iblk, V, blk1 t]

open Cert.DhRIdeal.Read in
theorem ref (a : Mat 4096 5120) (b : Mat 2048 5120) : val_main_v4 (F := Ideal) a b = nt a b :=
  Mat.ext fun r l => by
    unfold val_main_v4 val_main_v3 val_main_v1
    pointwise
    rfl

theorem frame_reference : Cert.quiescent_DhRIdeal (hDhRIdeal := Cert.DhRIdeal.Gen.facts) := fun m ρ _ =>
  quiet (θ_run _ _ _).mono (fun r => sem_eq_zero_of_no_sems (by decide) r.2) (Cert.DhRIdeal.Value.run m ρ)

theorem algebraic : Cert.algebraic_DhKIdeal_DhRIdeal (hDhKIdeal := Cert.DhKIdeal.Gen.facts) (hDhRIdeal := Cert.DhRIdeal.Gen.facts) :=
  fun m g m' g' _ hm => agree (θ_run _ _ _).mono (θ_run _ _ _).mono _ (Value.run_blocks m g) (arr m) (Cert.DhRIdeal.Value.run m' g') fun c => by
    rw [Cert.DhRIdeal.Read.val_main_v4_eq, (hm c).1, (hm c).2]
    exact ref _ _

end Dh

/-! ## The mixer's two halves, through the output projection -/

namespace Douta
open Cert.DoutaKIdeal Cert.DoutaKIdeal.Gen

theorem cell (x : Mat 1024 2048) (y : Mat 1024 2048) : out0_2 (F := Ideal) x y = nt x y :=
  Mat.ext fun r l => by
    frame_out
    unfold k0_pay1
    pointwise
    rfl

theorem blk0 : ∀ t : Fin cfg0.N, win0_0.index t = ![win0_2.index t 0, 0] := (by decide +kernel : ∀ t : Fin grid0.N, _)
theorem blk1 : ∀ t : Fin cfg0.N, win0_1.index t = ![win0_2.index t 1, 0] := (by decide +kernel : ∀ t : Fin grid0.N, _)

theorem arr (m : (ℓ : Loc nD τ sig) → Buf (Elt Ideal) ℓ) (c : Dev nD) :
    (dats m 0 c).arrAt 2 cfg0.N = nt (m ((c : Thread nD τ).loc main_arg0)) (m ((c : Thread nD τ).loc main_arg1)) := by
  refine (dats m 0 c).arrAt_eq_of_covers 2 _ (by decide +kernel) fun t _ j => ?_
  blk_simp
  rw [after0_2, cell]
  exact nt_block (fun k => by blk_ext [iblk, V, blk0 t]) fun k => by blk_ext [iblk, V, blk1 t]

open Cert.DoutaRIdeal.Read in
theorem ref (a : Mat 4096 2048) (b : Mat 1024 2048) : val_main_v5 (F := Ideal) a b = nt a b :=
  Mat.ext fun r l => by
    unfold val_main_v5 val_main_v4 val_main_v3 val_main_v1
    pointwise
    rfl

theorem frame_reference : Cert.quiescent_DoutaRIdeal (hDoutaRIdeal := Cert.DoutaRIdeal.Gen.facts) := fun m ρ _ =>
  quiet (θ_run _ _ _).mono (fun r => sem_eq_zero_of_no_sems (by decide) r.2) (Cert.DoutaRIdeal.Value.run m ρ)

theorem algebraic : Cert.algebraic_DoutaKIdeal_DoutaRIdeal (hDoutaKIdeal := Cert.DoutaKIdeal.Gen.facts) (hDoutaRIdeal := Cert.DoutaRIdeal.Gen.facts) :=
  fun m g m' g' _ hm => agree (θ_run _ _ _).mono (θ_run _ _ _).mono _ (Value.run_blocks m g) (arr m) (Cert.DoutaRIdeal.Value.run m' g') fun c => by
    rw [Cert.DoutaRIdeal.Read.val_main_v5_eq, (hm c).1, (hm c).2]
    exact ref _ _

end Douta

namespace Doutb
open Cert.DoutbKIdeal Cert.DoutbKIdeal.Gen

theorem cell (x : Mat 1024 2048) (y : Mat 1024 2048) : out0_2 (F := Ideal) x y = nt x y :=
  Mat.ext fun r l => by
    frame_out
    unfold k0_pay1
    pointwise
    rfl

theorem blk0 : ∀ t : Fin cfg0.N, win0_0.index t = ![win0_2.index t 0, 0] := (by decide +kernel : ∀ t : Fin grid0.N, _)
theorem blk1 : ∀ t : Fin cfg0.N, win0_1.index t = ![win0_2.index t 1, 0] := (by decide +kernel : ∀ t : Fin grid0.N, _)

theorem arr (m : (ℓ : Loc nD τ sig) → Buf (Elt Ideal) ℓ) (c : Dev nD) :
    (dats m 0 c).arrAt 2 cfg0.N = nt (m ((c : Thread nD τ).loc main_arg0)) (m ((c : Thread nD τ).loc main_arg1)) := by
  refine (dats m 0 c).arrAt_eq_of_covers 2 _ (by decide +kernel) fun t _ j => ?_
  blk_simp
  rw [after0_2, cell]
  exact nt_block (fun k => by blk_ext [iblk, V, blk0 t]) fun k => by blk_ext [iblk, V, blk1 t]

open Cert.DoutbRIdeal.Read in
theorem ref (a : Mat 4096 2048) (b : Mat 1024 2048) : val_main_v4 (F := Ideal) a b = nt a b :=
  Mat.ext fun r l => by
    unfold val_main_v4 val_main_v3 val_main_v1
    pointwise
    rfl

theorem frame_reference : Cert.quiescent_DoutbRIdeal (hDoutbRIdeal := Cert.DoutbRIdeal.Gen.facts) := fun m ρ _ =>
  quiet (θ_run _ _ _).mono (fun r => sem_eq_zero_of_no_sems (by decide) r.2) (Cert.DoutbRIdeal.Value.run m ρ)

theorem algebraic : Cert.algebraic_DoutbKIdeal_DoutbRIdeal (hDoutbKIdeal := Cert.DoutbKIdeal.Gen.facts) (hDoutbRIdeal := Cert.DoutbRIdeal.Gen.facts) :=
  fun m g m' g' _ hm => agree (θ_run _ _ _).mono (θ_run _ _ _).mono _ (Value.run_blocks m g) (arr m) (Cert.DoutbRIdeal.Value.run m' g') fun c => by
    rw [Cert.DoutbRIdeal.Read.val_main_v4_eq, (hm c).1, (hm c).2]
    exact ref _ _

end Doutb

/-! ## The convolution branch, through its pointwise product -/

namespace Duc
open Cert.DucKIdeal Cert.DucKIdeal.Gen

theorem cell (x : Mat 1024 1024) (y : Mat 1024 1024) : out0_2 (F := Ideal) x y = nt x y :=
  Mat.ext fun r l => by
    frame_out
    unfold k0_pay1
    pointwise
    rfl

theorem blk0 : ∀ t : Fin cfg0.N, win0_0.index t = ![win0_2.index t 0, 0] := (by decide +kernel : ∀ t : Fin grid0.N, _)
theorem blk1 : ∀ t : Fin cfg0.N, win0_1.index t = ![win0_2.index t 1, 0] := (by decide +kernel : ∀ t : Fin grid0.N, _)

theorem arr (m : (ℓ : Loc nD τ sig) → Buf (Elt Ideal) ℓ) (c : Dev nD) :
    (dats m 0 c).arrAt 2 cfg0.N = nt (m ((c : Thread nD τ).loc main_arg0)) (m ((c : Thread nD τ).loc main_arg1)) := by
  refine (dats m 0 c).arrAt_eq_of_covers 2 _ (by decide +kernel) fun t _ j => ?_
  blk_simp
  rw [after0_2, cell]
  refine nt_block (fun k => ?_) fun k => ?_
  · blk_ext [iblk, V, blk0 t]
  · blk_ext [iblk, V, blk1 t]

open Cert.DucRIdeal.Read in
theorem ref (a : Mat 4096 1024) (b : Mat 1024 1024) : val_main_v4 (F := Ideal) a b = nt a b :=
  Mat.ext fun r l => by
    unfold val_main_v4 val_main_v3 val_main_v1
    pointwise
    rfl

theorem frame_reference : Cert.quiescent_DucRIdeal (hDucRIdeal := Cert.DucRIdeal.Gen.facts) := fun m ρ _ =>
  quiet (θ_run _ _ _).mono (fun r => sem_eq_zero_of_no_sems (by decide) r.2) (Cert.DucRIdeal.Value.run m ρ)

theorem algebraic : Cert.algebraic_DucKIdeal_DucRIdeal (hDucKIdeal := Cert.DucKIdeal.Gen.facts) (hDucRIdeal := Cert.DucRIdeal.Gen.facts) :=
  fun m g m' g' _ hm => agree (θ_run _ _ _).mono (θ_run _ _ _).mono _ (Value.run_blocks m g) (arr m) (Cert.DucRIdeal.Value.run m' g') fun c => by
    rw [Cert.DucRIdeal.Read.val_main_v4_eq, (hm c).1, (hm c).2]
    exact ref _ _

end Duc

/-! ## The normalised input, through the input projection's narrow columns, added to the main ones' -/

namespace Dhba
open Cert.DhbaKIdeal Cert.DhbaKIdeal.Gen

theorem cell (x : Mat 1024 128) (y : Mat 1024 128) (z : Mat 1024 1024) : out0_3 (F := Ideal) x y z = plus (nt x y) z :=
  Mat.ext fun r l => by
    frame_out
    unfold k0_pay1
    pointwise
    rfl

theorem blk0 : ∀ t : Fin cfg0.N, win0_0.index t = ![win0_3.index t 0, 0] := (by decide +kernel : ∀ t : Fin grid0.N, _)
theorem blk1 : ∀ t : Fin cfg0.N, win0_1.index t = ![win0_3.index t 1, 0] := (by decide +kernel : ∀ t : Fin grid0.N, _)
theorem blk2 : ∀ t : Fin cfg0.N, win0_2.index t = ![win0_3.index t 0, win0_3.index t 1] := (by decide +kernel : ∀ t : Fin grid0.N, _)

theorem arr (m : (ℓ : Loc nD τ sig) → Buf (Elt Ideal) ℓ) (c : Dev nD) :
    (dats m 0 c).arrAt 3 cfg0.N = plus (nt (m ((c : Thread nD τ).loc main_arg0)) (m ((c : Thread nD τ).loc main_arg1))) (m ((c : Thread nD τ).loc main_arg2)) := by
  refine (dats m 0 c).arrAt_eq_of_covers 3 _ (by decide +kernel) fun t _ j => ?_
  blk_simp
  rw [after0_3, cell]
  exact add_congr (nt_block (fun k => by blk_ext [iblk, V, blk0 t]) fun k => by blk_ext [iblk, V, blk1 t]) (by blk_ext [iblk, V, blk2 t])

open Cert.DhbaRIdeal.Read in
theorem ref (a : Mat 4096 128) (b : Mat 2048 128) (x : Mat 4096 2048) : val_main_v4 (F := Ideal) a b x = plus (nt a b) x :=
  Mat.ext fun r l => by
    unfold val_main_v4 val_main_v3 val_main_v1
    pointwise
    exact add_comm _ _

theorem frame_reference : Cert.quiescent_DhbaRIdeal (hDhbaRIdeal := Cert.DhbaRIdeal.Gen.facts) := fun m ρ _ =>
  quiet (θ_run _ _ _).mono (fun r => sem_eq_zero_of_no_sems (by decide) r.2) (Cert.DhbaRIdeal.Value.run m ρ)

theorem algebraic : Cert.algebraic_DhbaKIdeal_DhbaRIdeal (hDhbaKIdeal := Cert.DhbaKIdeal.Gen.facts) (hDhbaRIdeal := Cert.DhbaRIdeal.Gen.facts) :=
  fun m g m' g' _ hm => agree (θ_run _ _ _).mono (θ_run _ _ _).mono _ (Value.run_blocks m g) (arr m) (Cert.DhbaRIdeal.Value.run m' g') fun c => by
    rw [Cert.DhbaRIdeal.Read.val_main_v4_eq, (hm c).1, (hm c).2.1, (hm c).2.2]
    exact ref _ _ _

end Dhba

end Cert.Proof

end
-- ==== Proof.Gate.lean ====
/- The gradient of the feed-forward layer's input: the two halves of the up projection, each a sum carried over two points. -/
module

public import proofs.«01_k».proof.Defs
public import proofs.«01_k».proof.Proof.Gen.DhgKIdeal.Value
public import proofs.«01_k».proof.Proof.Gen.DhgRIdeal.Read
public import proofs.«01_k».proof.Proof.Gen.DhuKIdeal.Value
public import proofs.«01_k».proof.Proof.Gen.DhuRIdeal.Read
public import proofs.«01_k».proof.Proof.Products
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

namespace Cert.Proof

open Idealize.ShloMosaic Idealize.ShloMosaic.TcCoe Idealize.SL.Sem

/-- Two sums whose terms are the first 2816 and the last 2816 terms of a third add up to it. -/
theorem halves (f : Fin 5632 → EReal) (u v : Fin 2816 → EReal) (hu : ∀ k, u k = f (Fin.castAdd 2816 k))
    (hv : ∀ k, v k = f (Fin.natAdd 2816 k)) : (∑ k, u k) + (∑ k, v k) = ∑ k, f k :=
  (congrArg₂ (fun x y : EReal => x + y) (Finset.sum_congr rfl fun k _ => hu k) (Finset.sum_congr rfl fun k _ => hv k)).trans
    (Fin.sum_univ_add (a := 2816) (b := 2816) f).symm

/-! ## Through the gate half -/

namespace Dhg
open Cert.DhgKIdeal Cert.DhgKIdeal.Gen

/-- What both programs compute. -/
def res (a : S4096x5632.Idx → EReal) (b : S4x2048x2816.Idx → EReal) (i : S4096x2048.Idx) : EReal :=
  ∑ k : Fin 5632, a (ix2 (i 0) k) * b (ix3 ⟨k.val / 2816, by omega⟩ (i 1) ⟨k.val % 2816, Nat.mod_lt _ (Nat.succ_pos _)⟩)

/-! ### One block: half of the sum, carried, then the other half -/

theorem half (x0 : S1024x2816.Idx → EReal) (x1 : S1x1024x2816.Idx → EReal) (r : Fin 1024) (l : Fin 1024) :
    k0_pay2 (F := Ideal) x0 x1 (ix2 r l) = ∑ k : Fin 2816, x0 (ix2 r k) * x1 (ix3 0 l k) := by
  unfold k0_pay2 k0_pay1
  pointwise

theorem whole (x0 : S1024x2816.Idx → EReal) (x1 : S1x1024x2816.Idx → EReal) (y : S1024x1024.Idx → EReal) (r : Fin 1024) (l : Fin 1024) :
    k0_pay4 (F := Ideal) x0 x1 y (ix2 r l) = y (ix2 r l) + (∑ k : Fin 2816, x0 (ix2 r k) * x1 (ix3 0 l k)) := by
  unfold k0_pay4 k0_pay1
  pointwise

theorem both (u0 x0 : S1024x2816.Idx → EReal) (u1 x1 : S1x1024x2816.Idx → EReal) (r : Fin 1024) (l : Fin 1024) :
    k0_pay4 (F := Ideal) x0 x1 (k0_pay2 (F := Ideal) u0 u1) (ix2 r l) =
      (∑ k : Fin 2816, u0 (ix2 r k) * u1 (ix3 0 l k)) + (∑ k : Fin 2816, x0 (ix2 r k) * x1 (ix3 0 l k)) := by
  rw [whole, half]

/-! ### The blocks' places -/

theorem blk0 : ∀ t : Fin cfg0.N, win0_0.index t = ![t.val / 4, t.val % 2] := (by decide +kernel : ∀ t : Fin grid0.N, _)
theorem blk1 : ∀ t : Fin cfg0.N, win0_1.index t = ![t.val % 2, t.val / 2 % 2, 0] := (by decide +kernel : ∀ t : Fin grid0.N, _)
theorem blk : ∀ t : Fin cfg0.N, win0_2.index t = ![t.val / 4, t.val / 2 % 2] := (by decide +kernel : ∀ t : Fin grid0.N, _)

variable (m : (ℓ : Loc nD τ sig) → Buf (Elt Ideal) ℓ) (c : Dev nD) (t : Fin cfg0.N)

/-- The point before, at a point that finishes a block. -/
def prev : Fin cfg0.N := ⟨t.val - 1, Nat.lt_of_le_of_lt (Nat.sub_le _ _) t.isLt⟩

theorem carried (h : t.val % 2 = 0) : (outsAt0 m c t.val t.isLt).2 = k0_pay2 (iblk m c 0 t) (iblk m c 1 t) := by
  rw [outsAt0_A m c t h (by omega)]
  frame_out

theorem left (h : t.val % 2 = 1) : (outsAt0 m c t.val t.isLt).1 =
    k0_pay4 (iblk m c 0 t) (iblk m c 1 t) (k0_pay2 (iblk m c 0 (prev t)) (iblk m c 1 (prev t))) := by
  rw [outsAt0_B m c t (by omega) h]
  frame_out
  exact congrArg (fun y => k0_pay4 (iblk m c 0 t) (iblk m c 1 t) y) (((Memref.isWhole_whole _).read_unread _).trans (carried m c (prev t) (by show (t.val - 1) % 2 = 0; omega)))

/-! ### The result array -/

theorem arr : (dats m 0 c).arrAt 2 cfg0.N = res (m ((c : Thread nD τ).loc main_arg0)) (m ((c : Thread nD τ).loc main_arg1)) := by
  refine (dats m 0 c).arrAt_eq_of_covers 2 _ (by decide +kernel) fun t hf j => ?_
  have h := (flush0_2 t).mp hf
  have hp : (prev t).val = t.val - 1 := rfl
  blk_simp
  rw [after0_2, left m c t h]
  have hj : j = ix2 (j 0) (j 1) := eq_ix2 j
  rw [hj]
  refine (both _ _ _ _ (j 0) (j 1)).trans ?_
  unfold res
  refine halves _ _ _ (fun k => congrArg₂ (fun x y : EReal => x * y) ?_ ?_) (fun k => congrArg₂ (fun x y : EReal => x * y) ?_ ?_)
  · blk_ext [iblk, V, blk0 (prev t), blk t, Fin.val_castAdd]
  · blk_ext [iblk, V, blk1 (prev t), blk t, Fin.val_castAdd]
  · blk_ext [iblk, V, blk0 t, blk t, Fin.val_natAdd]
  · blk_ext [iblk, V, blk1 t, blk t, Fin.val_natAdd]

/-! ### The reference -/

open Cert.DhgRIdeal.Read in
theorem ref (a : S4096x5632.Idx → EReal) (b : S4x2048x2816.Idx → EReal) : val_main_v7 (F := Ideal) a b = res a b := by
  funext i
  have hi : i = ix2 (i 0) (i 1) := eq_ix2 i
  generalize i 0 = r at hi
  generalize i 1 = l at hi
  subst hi
  unfold val_main_v7 val_main_v6 val_main_v4 val_main_v2 val_main_v1 val_main_v0
  pointwise
  rfl

theorem frame_reference : Cert.quiescent_DhgRIdeal (hDhgRIdeal := Cert.DhgRIdeal.Gen.facts) := fun m ρ _ =>
  quiet (θ_run _ _ _).mono (fun r => sem_eq_zero_of_no_sems (by decide) r.2) (Cert.DhgRIdeal.Value.run m ρ)

theorem algebraic : Cert.algebraic_DhgKIdeal_DhgRIdeal (hDhgKIdeal := Cert.DhgKIdeal.Gen.facts) (hDhgRIdeal := Cert.DhgRIdeal.Gen.facts) :=
  fun m g m' g' _ hm => agree (θ_run _ _ _).mono (θ_run _ _ _).mono _ (Value.run_blocks m g) (arr m) (Cert.DhgRIdeal.Value.run m' g') fun c => by
    rw [Cert.DhgRIdeal.Read.val_main_v7_eq, (hm c).1, (hm c).2]
    exact ref _ _

end Dhg

/-! ## Through the up half, added to the gate half's -/

namespace Dhu
open Cert.DhuKIdeal Cert.DhuKIdeal.Gen

/-- What both programs compute. -/
def res (a : S4096x5632.Idx → EReal) (b : S4x2048x2816.Idx → EReal) (x : S4096x2048.Idx → EReal) (i : S4096x2048.Idx) : EReal :=
  (∑ k : Fin 5632, a (ix2 (i 0) k) * b (ix3 ⟨k.val / 2816 + 2, by omega⟩ (i 1) ⟨k.val % 2816, Nat.mod_lt _ (Nat.succ_pos _)⟩)) + x (ix2 (i 0) (i 1))

/-! ### One block: half of the sum, carried, then the other half -/

theorem half (x0 : S1024x2816.Idx → EReal) (x1 : S1x1024x2816.Idx → EReal) (r : Fin 1024) (l : Fin 1024) :
    k0_pay2 (F := Ideal) x0 x1 (ix2 r l) = ∑ k : Fin 2816, x0 (ix2 r k) * x1 (ix3 0 l k) := by
  unfold k0_pay2 k0_pay1
  pointwise

theorem whole (x0 : S1024x2816.Idx → EReal) (x1 : S1x1024x2816.Idx → EReal) (y : S1024x1024.Idx → EReal) (z : S1024x1024.Idx → EReal) (r : Fin 1024) (l : Fin 1024) :
    k0_pay4 (F := Ideal) x0 x1 y z (ix2 r l) = y (ix2 r l) + (∑ k : Fin 2816, x0 (ix2 r k) * x1 (ix3 0 l k)) + z (ix2 r l) := by
  unfold k0_pay4 k0_pay1
  pointwise

theorem both (u0 x0 : S1024x2816.Idx → EReal) (u1 x1 : S1x1024x2816.Idx → EReal) (z : S1024x1024.Idx → EReal) (r : Fin 1024) (l : Fin 1024) :
    k0_pay4 (F := Ideal) x0 x1 (k0_pay2 (F := Ideal) u0 u1) z (ix2 r l) =
      (∑ k : Fin 2816, u0 (ix2 r k) * u1 (ix3 0 l k)) + (∑ k : Fin 2816, x0 (ix2 r k) * x1 (ix3 0 l k)) + z (ix2 r l) := by
  rw [whole, half]

/-! ### The blocks' places -/

theorem blk0 : ∀ t : Fin cfg0.N, win0_0.index t = ![t.val / 4, t.val % 2] := (by decide +kernel : ∀ t : Fin grid0.N, _)
theorem blk1 : ∀ t : Fin cfg0.N, win0_1.index t = ![t.val % 2 + 2, t.val / 2 % 2, 0] := (by decide +kernel : ∀ t : Fin grid0.N, _)
theorem blk2 : ∀ t : Fin cfg0.N, win0_2.index t = ![t.val / 4, t.val / 2 % 2] := (by decide +kernel : ∀ t : Fin grid0.N, _)
theorem blk : ∀ t : Fin cfg0.N, win0_3.index t = ![t.val / 4, t.val / 2 % 2] := (by decide +kernel : ∀ t : Fin grid0.N, _)

variable (m : (ℓ : Loc nD τ sig) → Buf (Elt Ideal) ℓ) (c : Dev nD) (t : Fin cfg0.N)

/-- The point before, at a point that finishes a block. -/
def prev : Fin cfg0.N := ⟨t.val - 1, Nat.lt_of_le_of_lt (Nat.sub_le _ _) t.isLt⟩

theorem carried (h : t.val % 2 = 0) : (outsAt0 m c t.val t.isLt).2 = k0_pay2 (iblk m c 0 t) (iblk m c 1 t) := by
  rw [outsAt0_A m c t h (by omega)]
  frame_out

theorem left (h : t.val % 2 = 1) : (outsAt0 m c t.val t.isLt).1 =
    k0_pay4 (iblk m c 0 t) (iblk m c 1 t) (k0_pay2 (iblk m c 0 (prev t)) (iblk m c 1 (prev t))) (iblk m c 2 t) := by
  rw [outsAt0_B m c t (by omega) h]
  frame_out
  exact congrArg (fun y => k0_pay4 (iblk m c 0 t) (iblk m c 1 t) y (iblk m c 2 t)) (((Memref.isWhole_whole _).read_unread _).trans (carried m c (prev t) (by show (t.val - 1) % 2 = 0; omega)))

/-! ### The result array -/

theorem arr : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t hf j => ?_
  have h := (flush0_3 t).mp hf
  have hp : (prev t).val = t.val - 1 := rfl
  blk_simp
  rw [after0_3, left m c t h]
  have hj : j = ix2 (j 0) (j 1) := eq_ix2 j
  rw [hj]
  refine (both _ _ _ _ _ (j 0) (j 1)).trans ?_
  unfold res
  refine congrArg₂ (fun x y : EReal => x + y) (halves _ _ _ (fun k => congrArg₂ (fun x y : EReal => x * y) ?_ ?_) (fun k => congrArg₂ (fun x y : EReal => x * y) ?_ ?_)) ?_
  · blk_ext [iblk, V, blk0 (prev t), blk t, Fin.val_castAdd]
  · blk_ext [iblk, V, blk1 (prev t), blk t, Fin.val_castAdd]
  · blk_ext [iblk, V, blk0 t, blk t, Fin.val_natAdd]
  · blk_ext [iblk, V, blk1 t, blk t, Fin.val_natAdd]
  · blk_ext [iblk, V, blk2 t, blk t]

/-! ### The reference -/

open Cert.DhuRIdeal.Read in
theorem ref (a : S4096x5632.Idx → EReal) (b : S4x2048x2816.Idx → EReal) (x : S4096x2048.Idx → EReal) : val_main_v8 (F := Ideal) a b x = res a b x := by
  funext i
  have hi : i = ix2 (i 0) (i 1) := eq_ix2 i
  generalize i 0 = r at hi
  generalize i 1 = l at hi
  subst hi
  unfold val_main_v8 val_main_v7 val_main_v6 val_main_v4 val_main_v2 val_main_v1 val_main_v0
  pointwise
  refine (add_comm _ _).trans (congrArg (fun y : EReal => y + x (ix2 r l))
    (Finset.sum_congr rfl fun k _ => congrArg (fun q => a (ix2 r k) * b q) (funext fun d => Fin.ext ?_)))
  match d with
  | ⟨0, _⟩ => show (5632 + k.val) / 2816 = k.val / 2816 + 2; omega
  | ⟨1, _⟩ => rfl
  | ⟨2, _⟩ => show (5632 + k.val) % 2816 = k.val % 2816; omega

theorem frame_reference : Cert.quiescent_DhuRIdeal (hDhuRIdeal := Cert.DhuRIdeal.Gen.facts) := fun m ρ _ =>
  quiet (θ_run _ _ _).mono (fun r => sem_eq_zero_of_no_sems (by decide) r.2) (Cert.DhuRIdeal.Value.run m ρ)

theorem algebraic : Cert.algebraic_DhuKIdeal_DhuRIdeal (hDhuKIdeal := Cert.DhuKIdeal.Gen.facts) (hDhuRIdeal := Cert.DhuRIdeal.Gen.facts) :=
  fun m g m' g' _ hm => agree (θ_run _ _ _).mono (θ_run _ _ _).mono _ (Value.run_blocks m g) (arr m) (Cert.DhuRIdeal.Value.run m' g') fun c => by
    rw [Cert.DhuRIdeal.Read.val_main_v8_eq, (hm c).1, (hm c).2.1, (hm c).2.2]
    exact ref _ _ _

end Dhu

end Cert.Proof

end
-- ==== Proof.Forward.lean ====
/- The forward products. -/
module

public import proofs.«01_k».proof.Defs
public import proofs.«01_k».proof.Proof.Gen.InMainKIdeal.Value
public import proofs.«01_k».proof.Proof.Gen.InMainRIdeal.Read
public import proofs.«01_k».proof.Proof.Gen.InBaKIdeal.Value
public import proofs.«01_k».proof.Proof.Gen.InBaRIdeal.Read
public import proofs.«01_k».proof.Proof.Gen.PwKIdeal.Value
public import proofs.«01_k».proof.Proof.Gen.PwRIdeal.Read
public import proofs.«01_k».proof.Proof.Gen.OutKIdeal.Value
public import proofs.«01_k».proof.Proof.Gen.OutRIdeal.Read
public import proofs.«01_k».proof.Proof.Gen.UpKIdeal.Value
public import proofs.«01_k».proof.Proof.Gen.UpRIdeal.Read
public import proofs.«01_k».proof.Proof.Gen.DownKIdeal.Value
public import proofs.«01_k».proof.Proof.Gen.DownRIdeal.Read
public import proofs.«01_k».proof.Proof.Products
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

namespace Cert.Proof

open Idealize.ShloMosaic Idealize.ShloMosaic.TcCoe Idealize.SL.Sem

/-! ## The input projection: its main columns and its narrow ones -/

namespace InMain
open Cert.InMainKIdeal Cert.InMainKIdeal.Gen

theorem cell (x : Mat 1024 2048) (y : Mat 2048 1024) : out0_2 (F := Ideal) x y = nn x y :=
  Mat.ext fun r l => by
    frame_out
    unfold k0_pay1
    pointwise
    rfl

theorem blk0 : ∀ t : Fin cfg0.N, win0_0.index t = ![win0_2.index t 0, 0] := (by decide +kernel : ∀ t : Fin grid0.N, _)
theorem blk1 : ∀ t : Fin cfg0.N, win0_1.index t = ![0, win0_2.index t 1] := (by decide +kernel : ∀ t : Fin grid0.N, _)

theorem arr (m : (ℓ : Loc nD τ sig) → Buf (Elt Ideal) ℓ) (c : Dev nD) :
    (dats m 0 c).arrAt 2 cfg0.N = nn (m ((c : Thread nD τ).loc main_arg0)) (m ((c : Thread nD τ).loc main_arg1)) := by
  refine (dats m 0 c).arrAt_eq_of_covers 2 _ (by decide +kernel) fun t _ j => ?_
  blk_simp
  rw [after0_2, cell]
  exact nn_block (fun k => by blk_ext [iblk, V, blk0 t]) fun k => by blk_ext [iblk, V, blk1 t]

open Cert.InMainRIdeal.Read in
theorem ref (a : Mat 4096 2048) (b : Mat 2048 5120) : val_main_v2 (F := Ideal) a b = nn a b :=
  Mat.ext fun r l => by
    unfold val_main_v2 val_main_v1 val_main_v0
    pointwise
    rfl

theorem frame_reference : Cert.quiescent_InMainRIdeal (hInMainRIdeal := Cert.InMainRIdeal.Gen.facts) := fun m ρ _ =>
  quiet (θ_run _ _ _).mono (fun r => sem_eq_zero_of_no_sems (by decide) r.2) (Cert.InMainRIdeal.Value.run m ρ)

theorem algebraic : Cert.algebraic_InMainKIdeal_InMainRIdeal (hInMainKIdeal := Cert.InMainKIdeal.Gen.facts) (hInMainRIdeal := Cert.InMainRIdeal.Gen.facts) :=
  fun m g m' g' _ hm => agree (θ_run _ _ _).mono (θ_run _ _ _).mono _ (Value.run_blocks m g) (arr m) (Cert.InMainRIdeal.Value.run m' g') fun c => by
    rw [Cert.InMainRIdeal.Read.val_main_v2_eq, (hm c).1, (hm c).2]
    exact ref _ _

end InMain

namespace InBa
open Cert.InBaKIdeal Cert.InBaKIdeal.Gen

theorem cell (x : Mat 1024 2048) (y : Mat 2048 128) : out0_2 (F := Ideal) x y = nn x y :=
  Mat.ext fun r l => by
    frame_out
    unfold k0_pay1
    pointwise
    rfl

theorem blk0 : ∀ t : Fin cfg0.N, win0_0.index t = ![win0_2.index t 0, 0] := (by decide +kernel : ∀ t : Fin grid0.N, _)
theorem blk1 : ∀ t : Fin cfg0.N, win0_1.index t = ![0, win0_2.index t 1] := (by decide +kernel : ∀ t : Fin grid0.N, _)

theorem arr (m : (ℓ : Loc nD τ sig) → Buf (Elt Ideal) ℓ) (c : Dev nD) :
    (dats m 0 c).arrAt 2 cfg0.N = nn (m ((c : Thread nD τ).loc main_arg0)) (m ((c : Thread nD τ).loc main_arg1)) := by
  refine (dats m 0 c).arrAt_eq_of_covers 2 _ (by decide +kernel) fun t _ j => ?_
  blk_simp
  rw [after0_2, cell]
  exact nn_block (fun k => by blk_ext [iblk, V, blk0 t]) fun k => by blk_ext [iblk, V, blk1 t]

open Cert.InBaRIdeal.Read in
theorem ref (a : Mat 4096 2048) (b : Mat 2048 128) : val_main_v2 (F := Ideal) a b = nn a b :=
  Mat.ext fun r l => by
    unfold val_main_v2 val_main_v1 val_main_v0
    pointwise
    rfl

theorem frame_reference : Cert.quiescent_InBaRIdeal (hInBaRIdeal := Cert.InBaRIdeal.Gen.facts) := fun m ρ _ =>
  quiet (θ_run _ _ _).mono (fun r => sem_eq_zero_of_no_sems (by decide) r.2) (Cert.InBaRIdeal.Value.run m ρ)

theorem algebraic : Cert.algebraic_InBaKIdeal_InBaRIdeal (hInBaKIdeal := Cert.InBaKIdeal.Gen.facts) (hInBaRIdeal := Cert.InBaRIdeal.Gen.facts) :=
  fun m g m' g' _ hm => agree (θ_run _ _ _).mono (θ_run _ _ _).mono _ (Value.run_blocks m g) (arr m) (Cert.InBaRIdeal.Value.run m' g') fun c => by
    rw [Cert.InBaRIdeal.Read.val_main_v2_eq, (hm c).1, (hm c).2]
    exact ref _ _

end InBa

/-! ## The convolution branch's pointwise product, with its bias -/

namespace Pw
open Cert.PwKIdeal Cert.PwKIdeal.Gen

def biased (a : Mat 4096 1024) (b : Mat 1024 1024) (v : S1024.Idx → EReal) : Mat 4096 1024 := fun i => nn a b i + v (ix1 (i 1))

theorem cell (x : Mat 1024 1024) (y : Mat 1024 1024) (z : Mat 1 1024) : out0_3 (F := Ideal) x y z = fun i => nn x y i + z (ix2 0 (i 1)) :=
  Mat.ext fun r l => by
    frame_out
    unfold k0_pay1
    pointwise
    rfl

theorem blk0 : ∀ t : Fin cfg0.N, win0_0.index t = ![win0_3.index t 0, 0] := (by decide +kernel : ∀ t : Fin grid0.N, _)
theorem blk1 : ∀ t : Fin cfg0.N, win0_1.index t = ![0, win0_3.index t 1] := (by decide +kernel : ∀ t : Fin grid0.N, _)
theorem blk2 : ∀ t : Fin cfg0.N, win0_2.index t = ![0, win0_3.index t 1] := (by decide +kernel : ∀ t : Fin grid0.N, _)

theorem arr (m : (ℓ : Loc nD τ sig) → Buf (Elt Ideal) ℓ) (c : Dev nD) :
    (dats m 0 c).arrAt 3 cfg0.N = biased (m ((c : Thread nD τ).loc main_arg0)) (m ((c : Thread nD τ).loc main_arg1)) (m ((c : Thread nD τ).loc main_arg2)) := by
  refine (dats m 0 c).arrAt_eq_of_covers 3 _ (by decide +kernel) fun t _ j => ?_
  blk_simp
  rw [after0_3, cell]
  exact add_congr (nn_block (fun k => by blk_ext! [iblk, blk0 t]) fun k => by blk_ext! [iblk, blk1 t]) (by blk_ext! [iblk, blk2 t])

open Cert.PwRIdeal.Read in
theorem ref (a : Mat 4096 1024) (b : Mat 1024 1024) (v : S1024.Idx → EReal) : val_main_v6 (F := Ideal) a b v = biased a b v :=
  Mat.ext fun r l => by
    unfold val_main_v6 val_main_v5 val_main_v4 val_main_v3 val_main_v2 val_main_v1 val_main_v0
    pointwise
    rfl

theorem frame_reference : Cert.quiescent_PwRIdeal (hPwRIdeal := Cert.PwRIdeal.Gen.facts) := fun m ρ _ =>
  quiet (θ_run _ _ _).mono (fun r => sem_eq_zero_of_no_sems (by decide) r.2) (Cert.PwRIdeal.Value.run m ρ)

theorem algebraic : Cert.algebraic_PwKIdeal_PwRIdeal (hPwKIdeal := Cert.PwKIdeal.Gen.facts) (hPwRIdeal := Cert.PwRIdeal.Gen.facts) :=
  fun m g m' g' _ hm => agree (θ_run _ _ _).mono (θ_run _ _ _).mono _ (Value.run_blocks m g) (arr m) (Cert.PwRIdeal.Value.run m' g') fun c => by
    rw [Cert.PwRIdeal.Read.val_main_v6_eq, (hm c).1, (hm c).2.1, (hm c).2.2]
    exact ref _ _ _

end Pw

/-! ## The output projection of one branch, added to the residual -/

namespace Out
open Cert.OutKIdeal Cert.OutKIdeal.Gen

theorem cell (x : Mat 1024 1024) (y : Mat 1024 1024) (z : Mat 1024 1024) : out0_3 (F := Ideal) x y z = plus (nn x y) z :=
  Mat.ext fun r l => by
    frame_out
    unfold k0_pay1
    pointwise
    rfl

theorem blk0 : ∀ t : Fin cfg0.N, win0_0.index t = ![win0_3.index t 0, 0] := (by decide +kernel : ∀ t : Fin grid0.N, _)
theorem blk1 : ∀ t : Fin cfg0.N, win0_1.index t = ![0, win0_3.index t 1] := (by decide +kernel : ∀ t : Fin grid0.N, _)
theorem blk2 : ∀ t : Fin cfg0.N, win0_2.index t = ![win0_3.index t 0, win0_3.index t 1] := (by decide +kernel : ∀ t : Fin grid0.N, _)

theorem arr (m : (ℓ : Loc nD τ sig) → Buf (Elt Ideal) ℓ) (c : Dev nD) :
    (dats m 0 c).arrAt 3 cfg0.N = plus (nn (m ((c : Thread nD τ).loc main_arg0)) (m ((c : Thread nD τ).loc main_arg1))) (m ((c : Thread nD τ).loc main_arg2)) := by
  refine (dats m 0 c).arrAt_eq_of_covers 3 _ (by decide +kernel) fun t _ j => ?_
  blk_simp
  rw [after0_3, cell]
  exact add_congr (nn_block (fun k => by blk_ext [iblk, V, blk0 t]) fun k => by blk_ext [iblk, V, blk1 t]) (by blk_ext [iblk, V, blk2 t])

open Cert.OutRIdeal.Read in
theorem ref (a : Mat 4096 1024) (b : Mat 1024 2048) (x : Mat 4096 2048) : val_main_v3 (F := Ideal) a b x = plus (nn a b) x :=
  Mat.ext fun r l => by
    unfold val_main_v3 val_main_v2 val_main_v1 val_main_v0
    pointwise
    exact add_comm _ _

theorem frame_reference : Cert.quiescent_OutRIdeal (hOutRIdeal := Cert.OutRIdeal.Gen.facts) := fun m ρ _ =>
  quiet (θ_run _ _ _).mono (fun r => sem_eq_zero_of_no_sems (by decide) r.2) (Cert.OutRIdeal.Value.run m ρ)

theorem algebraic : Cert.algebraic_OutKIdeal_OutRIdeal (hOutKIdeal := Cert.OutKIdeal.Gen.facts) (hOutRIdeal := Cert.OutRIdeal.Gen.facts) :=
  fun m g m' g' _ hm => agree (θ_run _ _ _).mono (θ_run _ _ _).mono _ (Value.run_blocks m g) (arr m) (Cert.OutRIdeal.Value.run m' g') fun c => by
    rw [Cert.OutRIdeal.Read.val_main_v3_eq, (hm c).1, (hm c).2.1, (hm c).2.2]
    exact ref _ _ _

end Out

/-! ## The feed-forward layer: the up projection, its weight in four column slots, and the down projection -/

namespace Up
open Cert.UpKIdeal Cert.UpKIdeal.Gen

/-- The weight as one matrix: column `l` of slot `s` is column `2816 s + l`. -/
def columns (b : S4x2048x2816.Idx → EReal) : Mat 2048 11264 := fun i =>
  b (ix3 ⟨(i 1).val / 2816, by have : (i 1).val < 11264 := (i 1).isLt; omega⟩ (i 0) ⟨(i 1).val % 2816, Nat.mod_lt _ (Nat.succ_pos _)⟩)

theorem cell (x : Mat 1024 2048) (y : S1x2048x1408.Idx → EReal) : out0_2 (F := Ideal) x y = nn x (fun i => y (ix3 0 (i 0) (i 1)) : Mat 2048 1408) :=
  Mat.ext fun r l => by
    frame_out
    unfold k0_pay1
    pointwise
    rfl

theorem blk0 : ∀ t : Fin cfg0.N, win0_0.index t = ![win0_2.index t 0, 0] := (by decide +kernel : ∀ t : Fin grid0.N, _)
theorem blk1 : ∀ t : Fin cfg0.N, win0_1.index t = ![win0_2.index t 1 / 2, 0, win0_2.index t 1 % 2] := (by decide +kernel : ∀ t : Fin grid0.N, _)

theorem arr (m : (ℓ : Loc nD τ sig) → Buf (Elt Ideal) ℓ) (c : Dev nD) :
    (dats m 0 c).arrAt 2 cfg0.N = nn (m ((c : Thread nD τ).loc main_arg0)) (columns (m ((c : Thread nD τ).loc main_arg1))) := by
  refine (dats m 0 c).arrAt_eq_of_covers 2 _ (by decide +kernel) fun t _ j => ?_
  blk_simp
  rw [after0_2, cell]
  refine nn_block (fun k => ?_) fun k => ?_
  · blk_ext [iblk, V, blk0 t]
  · unfold columns
    blk_ext [iblk, V, blk1 t]

open Cert.UpRIdeal.Read in
theorem ref (a : Mat 4096 2048) (b : S4x2048x2816.Idx → EReal) : val_main_v5 (F := Ideal) a b = nn a (columns b) :=
  Mat.ext fun r l => by
    unfold val_main_v5 val_main_v4 val_main_v3 val_main_v2 val_main_v1 val_main_v0
    pointwise
    rfl

theorem frame_reference : Cert.quiescent_UpRIdeal (hUpRIdeal := Cert.UpRIdeal.Gen.facts) := fun m ρ _ =>
  quiet (θ_run _ _ _).mono (fun r => sem_eq_zero_of_no_sems (by decide) r.2) (Cert.UpRIdeal.Value.run m ρ)

theorem algebraic : Cert.algebraic_UpKIdeal_UpRIdeal (hUpKIdeal := Cert.UpKIdeal.Gen.facts) (hUpRIdeal := Cert.UpRIdeal.Gen.facts) :=
  fun m g m' g' _ hm => agree (θ_run _ _ _).mono (θ_run _ _ _).mono _ (Value.run_blocks m g) (arr m) (Cert.UpRIdeal.Value.run m' g') fun c => by
    rw [Cert.UpRIdeal.Read.val_main_v5_eq, (hm c).1, (hm c).2]
    exact ref _ _

end Up

namespace Down
open Cert.DownKIdeal Cert.DownKIdeal.Gen

theorem cell (x : Mat 512 5632) (y : Mat 5632 1024) (z : Mat 512 1024) : out0_3 (F := Ideal) x y z = plus (nn x y) z :=
  Mat.ext fun r l => by
    frame_out
    unfold k0_pay1
    pointwise
    rfl

theorem blk0 : ∀ t : Fin cfg0.N, win0_0.index t = ![win0_3.index t 0, 0] := (by decide +kernel : ∀ t : Fin grid0.N, _)
theorem blk1 : ∀ t : Fin cfg0.N, win0_1.index t = ![0, win0_3.index t 1] := (by decide +kernel : ∀ t : Fin grid0.N, _)
theorem blk2 : ∀ t : Fin cfg0.N, win0_2.index t = ![win0_3.index t 0, win0_3.index t 1] := (by decide +kernel : ∀ t : Fin grid0.N, _)

theorem arr (m : (ℓ : Loc nD τ sig) → Buf (Elt Ideal) ℓ) (c : Dev nD) :
    (dats m 0 c).arrAt 3 cfg0.N = plus (nn (m ((c : Thread nD τ).loc main_arg0)) (m ((c : Thread nD τ).loc main_arg1))) (m ((c : Thread nD τ).loc main_arg2)) := by
  refine (dats m 0 c).arrAt_eq_of_covers 3 _ (by decide +kernel) fun t _ j => ?_
  blk_simp
  rw [after0_3, cell]
  exact add_congr (nn_block (fun k => by blk_ext [iblk, V, blk0 t]) fun k => by blk_ext [iblk, V, blk1 t]) (by blk_ext [iblk, V, blk2 t])

open Cert.DownRIdeal.Read in
theorem ref (a : Mat 4096 5632) (b : Mat 5632 2048) (x : Mat 4096 2048) : val_main_v3 (F := Ideal) a b x = plus (nn a b) x :=
  Mat.ext fun r l => by
    unfold val_main_v3 val_main_v2 val_main_v1 val_main_v0
    pointwise
    exact add_comm _ _

theorem frame_reference : Cert.quiescent_DownRIdeal (hDownRIdeal := Cert.DownRIdeal.Gen.facts) := fun m ρ _ =>
  quiet (θ_run _ _ _).mono (fun r => sem_eq_zero_of_no_sems (by decide) r.2) (Cert.DownRIdeal.Value.run m ρ)

theorem algebraic : Cert.algebraic_DownKIdeal_DownRIdeal (hDownKIdeal := Cert.DownKIdeal.Gen.facts) (hDownRIdeal := Cert.DownRIdeal.Gen.facts) :=
  fun m g m' g' _ hm => agree (θ_run _ _ _).mono (θ_run _ _ _).mono _ (Value.run_blocks m g) (arr m) (Cert.DownRIdeal.Value.run m' g') fun c => by
    rw [Cert.DownRIdeal.Read.val_main_v3_eq, (hm c).1, (hm c).2.1, (hm c).2.2]
    exact ref _ _ _

end Down

end Cert.Proof

end
-- ==== Proof.Taps.lean ====
/- Real sequences on the rows of a block: delays and advances, the causal convolution by a short kernel with its two
   gradients, the logistic function; and the readings that bring a vector program's masks, rotations and 0/1 shift matrices
   to them. -/
module

public import Idealize.ShloMosaic.Lib.Pointwise
public import Idealize.ShloMosaic.Lib.WordCmp

@[expose] public section

noncomputable section

namespace Cert.Proof

open Idealize.ShloMosaic

/-! ## Sequences -/

variable {S K : ℕ}

/-- `x` delayed by `s` rows, zeros first. -/
def lag (x : Fin S → ℝ) (s : ℕ) (r : Fin S) : ℝ := if h : s ≤ r.val then x ⟨r.val - s, by omega⟩ else 0

/-- `x` advanced by `s` rows, zeros last. -/
def lead (x : Fin S → ℝ) (s : ℕ) (r : Fin S) : ℝ := if h : r.val + s < S then x ⟨r.val + s, h⟩ else 0

theorem lag_zero (x : Fin S → ℝ) (r : Fin S) : lag x 0 r = x r := by simp [lag]
theorem lead_zero (x : Fin S → ℝ) (r : Fin S) : lead x 0 r = x r := by simp [lead]

/-- The causal convolution, its gradient in the sequence, its gradient in the taps. -/
def conv (w : Fin K → ℝ) (x : Fin S → ℝ) (r : Fin S) : ℝ := ∑ k : Fin K, w k * lag x (K - 1 - k.val) r
def convT (w : Fin K → ℝ) (y : Fin S → ℝ) (r : Fin S) : ℝ := ∑ k : Fin K, w k * lead y (K - 1 - k.val) r
def tapGrad (y x : Fin S → ℝ) (s : ℕ) : ℝ := ∑ r : Fin S, y r * lag x s r

/-- A row of a 0/1 shift matrix picks the delayed element; a column, the advanced one. -/
theorem sum_shift_row (x : Fin S → ℝ) (a k : ℕ) (hk : k ≤ a) (t : Fin S) :
    (∑ s : Fin S, x s * if s.val + a = t.val + k then 1 else 0) = lag x (a - k) t := by
  unfold lag
  split_ifs with h
  · rw [Finset.sum_eq_single (⟨t.val - (a - k), by omega⟩ : Fin S)]
    · rw [if_pos (by show t.val - (a - k) + a = t.val + k; omega), mul_one]
    · intro s _ hs
      rw [if_neg (fun e => hs (Fin.ext (by show s.val = t.val - (a - k); omega))), mul_zero]
    · exact fun h => absurd (Finset.mem_univ _) h
  · exact Finset.sum_eq_zero fun s _ => by rw [if_neg (by omega), mul_zero]

theorem sum_shift_col (y : Fin S → ℝ) (a k : ℕ) (hk : k ≤ a) (s : Fin S) :
    (∑ t : Fin S, y t * if s.val + a = t.val + k then 1 else 0) = lead y (a - k) s := by
  unfold lead
  split_ifs with h
  · rw [Finset.sum_eq_single (⟨s.val + (a - k), h⟩ : Fin S)]
    · rw [if_pos (by show s.val + a = s.val + (a - k) + k; omega), mul_one]
    · intro t _ ht
      rw [if_neg (fun e => ht (Fin.ext (by show t.val = s.val + (a - k); omega))), mul_zero]
    · exact fun h => absurd (Finset.mem_univ _) h
  · exact Finset.sum_eq_zero fun t _ => by rw [if_neg (by have := t.isLt; omega), mul_zero]

/-! ## Rotations under a mask -/

theorem rot_lag (x : Fin S → ℝ) (s : ℕ) (r : Fin S) (h : (r.val + S - s) % S < S) :
    (if s ≤ r.val then x ⟨(r.val + S - s) % S, h⟩ else 0) = lag x s r := by
  unfold lag
  split_ifs with hs
  · congr 1; apply Fin.ext
    show (r.val + S - s) % S = r.val - s
    have := r.isLt
    rw [show r.val + S - s = r.val - s + S by omega, Nat.add_mod_right, Nat.mod_eq_of_lt (by omega)]
  · rfl

theorem rot_lead (x : Fin S → ℝ) (s q : ℕ) (r : Fin S) (hq : q + s = S) (h : (r.val + S - q) % S < S) :
    (if r.val < q then x ⟨(r.val + S - q) % S, h⟩ else 0) = lead x s r := by
  unfold lead
  by_cases hs : r.val < q
  · rw [if_pos hs, dif_pos (by omega)]
    congr 1; apply Fin.ext
    show (r.val + S - q) % S = r.val + s
    rw [show r.val + S - q = r.val + s by omega, Nat.mod_eq_of_lt (by omega)]
  · rw [if_neg hs, dif_neg (by omega)]

theorem rot_lag_mul (x : Fin S → ℝ) (s : ℕ) (r : Fin S) (h : (r.val + S - s) % S < S) (c : ℝ) :
    (if s ≤ r.val then x ⟨(r.val + S - s) % S, h⟩ * c else 0) = lag x s r * c := by
  rw [← rot_lag x s r h, ite_mul, zero_mul]

/-- Three taps, spelt out from the last. -/
theorem conv_three (w : Fin 3 → ℝ) (x : Fin S → ℝ) (r : Fin S) :
    conv w x r = x r * w 2 + lag x 1 r * w 1 + lag x 2 r * w 0 := by
  unfold conv
  rw [Fin.sum_univ_three]
  show w 0 * lag x 2 r + w 1 * lag x 1 r + w 2 * lag x 0 r = _
  rw [lag_zero]; ring

theorem convT_three (w : Fin 3 → ℝ) (x : Fin S → ℝ) (r : Fin S) :
    convT w x r = x r * w 2 + lead x 1 r * w 1 + lead x 2 r * w 0 := by
  unfold convT
  rw [Fin.sum_univ_three]
  show w 0 * lead x 2 r + w 1 * lead x 1 r + w 2 * lead x 0 r = _
  rw [lead_zero]; ring

/-! ## Words -/

theorem sel_sge {α : Type} (r s : ℕ) (hr : r < 2 ^ 31) (hs : s < 2 ^ 31) (a b : α) :
    Scalar.select (IntOp.cmpi .sge (BitVec.ofNat 32 r) (BitVec.ofNat 32 s)) a b = if s ≤ r then a else b := by
  rw [WordCmp.cmpi_sge_ofNat hr hs]
  by_cases h : s ≤ r <;> simp [Scalar.select, h]

theorem sel_slt {α : Type} (r s : ℕ) (hr : r < 2 ^ 31) (hs : s < 2 ^ 31) (a b : α) :
    Scalar.select (IntOp.cmpi .slt (BitVec.ofNat 32 r) (BitVec.ofNat 32 s)) a b = if r < s then a else b := by
  rw [WordCmp.cmpi_slt_ofNat hr hs]
  by_cases h : r < s <;> simp [Scalar.select, h]

theorem sel_eq {α : Type} (r s : ℕ) (hr : r < 2 ^ 32) (hs : s < 2 ^ 32) (a b : α) :
    Scalar.select (IntOp.cmpi .eq (BitVec.ofNat 32 r) (BitVec.ofNat 32 s)) a b = if r = s then a else b := by
  rw [WordCmp.cmpi_eq_ofNat hr hs]
  by_cases h : r = s <;> simp [Scalar.select, h]

/-! ## Real numbers among the extended ones -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (a b : ℝ) : ((if p then a else b : ℝ) : EReal) = if p then (a : EReal) else b := by
  split_ifs <;> rfl

theorem ofBits_half : Ideal.ofBits .f32 0x3F000000#32 = ((1 / 2 : ℝ) : EReal) := by
  simp [Ideal.ofBits, Ideal.ieee, -EReal.coe_mul]; norm_num

theorem ofBits_eps : ∃ e : ℝ, 0 < e ∧ Ideal.ofBits .f32 0x358637BD#32 = (e : EReal) :=
  ⟨8796093 * (2 : ℝ) ^ (-43 : ℤ), by positivity, by simp [Ideal.ofBits, Ideal.ieee, -EReal.coe_mul]⟩

theorem one_coe : (1 : EReal) = ((1 : ℝ) : EReal) := rfl
theorem zero_coe : (0 : EReal) = ((0 : ℝ) : EReal) := rfl

/-- A real array, as an array of extended reals. -/
abbrev ext {ι : Type*} (x : ι → ℝ) : ι → EReal := fun i => (x i : EReal)

/-- An array of extended reals strictly between the infinities is an array of reals. -/
theorem exists_real {ι : Type*} (x : ι → EReal) (h : ∀ i, x i < ⊤ ∧ ⊥ < x i) : ∃ y : ι → ℝ, x = ext y :=
  ⟨fun i => (x i).toReal, funext fun i => (EReal.coe_toReal (h i).1.ne (h i).2.ne').symm⟩

theorem ofBits_top_f32 : Ideal.ofBits .f32 0x7F800000#32 = ⊤ := by simp [Ideal.ofBits, Ideal.ieee]
theorem ofBits_bot_f32 : Ideal.ofBits .f32 0xFF800000#32 = ⊥ := by simp [Ideal.ofBits, Ideal.ieee]
theorem ofBits_top_bf16 : Ideal.ofBits .bf16 0x7F80#16 = ⊤ := by simp [Ideal.ofBits, Ideal.ieee]
theorem ofBits_bot_bf16 : Ideal.ofBits .bf16 0xFF80#16 = ⊥ := by simp [Ideal.ofBits, Ideal.ieee]

/-- A masked and rotated column sum is a tap's gradient. -/
theorem sum_rot (y x : Fin S → ℝ) (s : ℕ) (hS : S ≤ 2 ^ 31) (hs : s < 2 ^ 31) (h : ∀ r : Fin S, (r.val + S - s) % S < S) :
    (∑ r : Fin S, Scalar.select (IntOp.cmpi .sge (BitVec.ofNat 32 r.val) (BitVec.ofNat 32 s))
      ((y r : EReal) * (x ⟨(r.val + S - s) % S, h r⟩ : EReal)) 0) = ((tapGrad y x s : ℝ) : EReal) := by
  unfold tapGrad
  rw [coe_sum]
  refine Finset.sum_congr rfl fun r _ => ?_
  rw [sel_sge _ _ (by have := r.isLt; omega) hs, ← rot_lag x s r (h r), mul_ite, mul_zero, coe_ite, EReal.coe_mul]
  rfl

theorem sum_plain (y x : Fin S → ℝ) :
    (∑ r : Fin S, (y r : EReal) * (x r : EReal)) = ((tapGrad y x 0 : ℝ) : EReal) := by
  unfold tapGrad
  rw [coe_sum]
  exact Finset.sum_congr rfl fun r _ => by rw [lag_zero, EReal.coe_mul]

/-- An entry of a 0/1 shift matrix, as the host writes it. -/
theorem shift_entry (s a t k : ℕ) (h : s + a < 2 ^ 32) (h' : t + k < 2 ^ 32) :
    Scalar.select (IntOp.cmpi .eq (IntOp.addi (BitVec.ofNat 32 s) (BitVec.ofNat 32 a)) (IntOp.addi (BitVec.ofNat 32 t) (BitVec.ofNat 32 k)))
      (1 : EReal) 0 = ((if s + a = t + k then 1 else 0 : ℝ) : EReal) := by
  rw [show IntOp.addi (BitVec.ofNat 32 s) (BitVec.ofNat 32 a) = BitVec.ofNat 32 (s + a) from (BitVec.ofNat_add s a).symm,
    show IntOp.addi (BitVec.ofNat 32 t) (BitVec.ofNat 32 k) = BitVec.ofNat 32 (t + k) from (BitVec.ofNat_add t k).symm,
    sel_eq _ _ h h', coe_ite]
  rfl

theorem shift_row (x : Fin S → ℝ) (a k : ℕ) (hk : k ≤ a) (t : Fin S) :
    (∑ s : Fin S, (x s : EReal) * ((if s.val + a = t.val + k then 1 else 0 : ℝ) : EReal)) = ((lag x (a - k) t : ℝ) : EReal) := by
  rw [← sum_shift_row x a k hk t, coe_sum]
  exact Finset.sum_congr rfl fun s _ => (EReal.coe_mul _ _).symm

theorem shift_col (y : Fin S → ℝ) (a k : ℕ) (hk : k ≤ a) (s : Fin S) :
    (∑ t : Fin S, (y t : EReal) * ((if s.val + a = t.val + k then 1 else 0 : ℝ) : EReal)) = ((lead y (a - k) s : ℝ) : EReal) := by
  rw [← sum_shift_col y a k hk s, coe_sum]
  exact Finset.sum_congr rfl fun s _ => (EReal.coe_mul _ _).symm

/-- Two strict comparisons that both came out true. -/
theorem both_lt {x lo hi : EReal} (h : IntOp.andi (BitVec.ofBool (decide (x < hi))) (BitVec.ofBool (decide (lo < x))) = 1#1) : x < hi ∧ lo < x := by
  by_cases h1 : x < hi <;> by_cases h2 : lo < x <;> simp [h1, h2, IntOp.andi] at h ⊢

/-! ## The logistic function -/

def sg (x : ℝ) : ℝ := 1 / (1 + Real.exp (-x))

theorem one_add_exp_ne (x : ℝ) : 1 + Real.exp (-x) ≠ 0 := by positivity

/-- By the hyperbolic tangent. -/
theorem sg_tanh (x : ℝ) : 1 / 2 * Real.tanh (1 / 2 * x) + 1 / 2 = sg x := by
  unfold sg
  rw [Real.tanh_eq_sinh_div_cosh, Real.sinh_eq, Real.cosh_eq]
  have e : Real.exp (-x) = Real.exp (-(1 / 2 * x)) * Real.exp (-(1 / 2 * x)) := by rw [← Real.exp_add]; congr 1; ring
  have o : Real.exp (1 / 2 * x) * Real.exp (-(1 / 2 * x)) = 1 := by rw [← Real.exp_add]; simp
  have p := Real.exp_pos (1 / 2 * x)
  have q := Real.exp_pos (-(1 / 2 * x))
  rw [e]
  generalize Real.exp (1 / 2 * x) = a at *
  generalize Real.exp (-(1 / 2 * x)) = c at *
  have n : a + c ≠ 0 := by positivity
  have m : 1 + c * c ≠ 0 := by positivity
  have k : 1 / 2 * ((a - c) / 2 / ((a + c) / 2)) + 1 / 2 = a / (a + c) := by field_simp; ring
  rw [k, div_eq_div_iff n m]
  linear_combination c * o

/-- By the exponential, the quotient the extended one. -/
theorem sg_div (x : ℝ) : Ideal.div 1 ((1 : EReal) + Ideal.exp (-(x : EReal))) = (sg x : EReal) := by
  rw [← EReal.coe_neg, Ideal.exp_coe, one_coe, ← EReal.coe_add, Ideal.div_coe (one_add_exp_ne x), ← EReal.coe_mul]
  congr 1; unfold sg; ring

end Cert.Proof

end
-- ==== Proof.FfnKernel.lean ====
/- What one grid point of the FFN activation's backward kernel writes, over real blocks. -/
module

public import proofs.«01_k».proof.Proof.Gen.FfnKIdeal.Value
public import proofs.«01_k».proof.Proof.Taps

@[expose] public section

set_option maxHeartbeats 1000000

noncomputable section

namespace Cert.Proof.Ffn

open Idealize.ShloMosaic Cert.FfnKIdeal Cert.FfnKIdeal.Gen

/-! ## The mathematics of one column: gate `g`, value `u`, cotangent `d`, taps `w`, bias `b` -/

variable {S : ℕ}

def pre (w : Fin 3 → ℝ) (b : ℝ) (g : Fin S → ℝ) (r : Fin S) : ℝ := conv w g r + b
def dUp (w : Fin 3 → ℝ) (b : ℝ) (g d : Fin S → ℝ) (r : Fin S) : ℝ := d r * (pre w b g r * sg (pre w b g r))
def dPre (w : Fin 3 → ℝ) (b : ℝ) (g u d : Fin S → ℝ) (r : Fin S) : ℝ :=
  d r * u r * (sg (pre w b g r) * (1 + pre w b g r * (1 - sg (pre w b g r))))
def dGate (w : Fin 3 → ℝ) (b : ℝ) (g u d : Fin S → ℝ) (r : Fin S) : ℝ := convT w (dPre w b g u d) r
def part (w : Fin 3 → ℝ) (b : ℝ) (g u d : Fin S → ℝ) (q : ℕ) : ℝ :=
  if q < 3 then tapGrad (dPre w b g u d) g (2 - q) else if q = 3 then ∑ r, dPre w b g u d r else 0

/-! ## The body -/

theorem off2 : (![0, 0] : Fin 2 → Nat) = fun _ => 0 := by decide
theorem off3 : (![0, 0, 0] : Fin 3 → Nat) = fun _ => 0 := by decide

variable (x0 x1 : S2048x256.Idx → ℝ) (x2 : S3x256.Idx → ℝ) (x3 : S1x256.Idx → ℝ) (x4 : S2048x256.Idx → ℝ)

abbrev col (x : S2048x256.Idx → ℝ) (l : Fin 256) : Fin 2048 → ℝ := fun r => x (ix2 r l)
abbrev taps (x : S3x256.Idx → ℝ) (l : Fin 256) : Fin 3 → ℝ := fun k => x (ix2 k l)

theorem pre_eq (r : Fin 2048) (l : Fin 256) :
    k0_pay16 (F := Ideal) (ext x0) (ext x1) (ext x2) (ext x3) (ext x4) (ix2 r l) = (pre (taps x2 l) (x3 (ix2 0 l)) (col x0 l) r : EReal) := by
  have hr : r.val < 2 ^ 31 := by have := r.isLt; omega
  unfold k0_pay16
  unfold_payloads
  pointwise
  rw [sel_sge r.val 1 hr (by norm_num), sel_sge r.val 2 hr (by norm_num)]
  simp only [← EReal.coe_mul, zero_coe, ← coe_ite, ← EReal.coe_add]
  unfold pre
  rw [conv_three, ← rot_lag_mul (col x0 l) 1 r (Nat.mod_lt _ (by norm_num)), ← rot_lag_mul (col x0 l) 2 r (Nat.mod_lt _ (by norm_num))]

/-- A generated value of the block, read by its own name. -/
theorem sig_eq (r : Fin 2048) (l : Fin 256) :
    k0_pay17 (F := Ideal) (ext x0) (ext x1) (ext x2) (ext x3) (ext x4) (ix2 r l) = (sg (pre (taps x2 l) (x3 (ix2 0 l)) (col x0 l) r) : EReal) := by
  have h := pre_eq x0 x1 x2 x3 x4 r l
  rw [← sg_tanh, EReal.coe_add, EReal.coe_mul, ← Ideal.tanh_coe, EReal.coe_mul, ← h, ← ofBits_half]
  rfl

theorem cot_eq (r : Fin 2048) (l : Fin 256) :
    k0_pay18 (F := Ideal) (ext x0) (ext x1) (ext x2) (ext x3) (ext x4) (ix2 r l) = (col x4 l r : EReal) := by
  unfold k0_pay18
  unfold_payloads
  pointwise

theorem dPre_eq (r : Fin 2048) (l : Fin 256) :
    k0_pay19 (F := Ideal) (ext x0) (ext x1) (ext x2) (ext x3) (ext x4) (ix2 r l)
      = (dPre (taps x2 l) (x3 (ix2 0 l)) (col x0 l) (col x1 l) (col x4 l) r : EReal) := by
  have h := pre_eq x0 x1 x2 x3 x4 r l
  have s := sig_eq x0 x1 x2 x3 x4 r l
  have c := cot_eq x0 x1 x2 x3 x4 r l
  unfold k0_pay19 k0_pay7
  generalize k0_pay16 (F := Ideal) (ext x0) (ext x1) (ext x2) (ext x3) (ext x4) = p16 at *
  generalize k0_pay17 (F := Ideal) (ext x0) (ext x1) (ext x2) (ext x3) (ext x4) = p17 at *
  generalize k0_pay18 (F := Ideal) (ext x0) (ext x1) (ext x2) (ext x3) (ext x4) = p18 at *
  pointwise
  rw [h, s, c]
  simp only [← EReal.coe_mul, one_coe, ← EReal.coe_add, ← EReal.coe_sub]
  rfl

theorem out6_eq (r : Fin 2048) (l : Fin 256) :
    out0_6 (F := Ideal) (ext x0) (ext x1) (ext x2) (ext x3) (ext x4) (ix2 r l)
      = (dUp (taps x2 l) (x3 (ix2 0 l)) (col x0 l) (col x4 l) r : EReal) := by
  have h := pre_eq x0 x1 x2 x3 x4 r l
  have s := sig_eq x0 x1 x2 x3 x4 r l
  have c := cot_eq x0 x1 x2 x3 x4 r l
  unfold out0_6
  rw [View.canon_unit_zero off2]
  unfold k0_pay6
  pointwise
  rw [h, s, c]
  simp only [← EReal.coe_mul]
  unfold dUp
  rw [mul_assoc]

set_option maxRecDepth 100000 in
theorem out5_eq (r : Fin 2048) (l : Fin 256) :
    out0_5 (F := Ideal) (ext x0) (ext x1) (ext x2) (ext x3) (ext x4) (ix2 r l)
      = (dGate (taps x2 l) (x3 (ix2 0 l)) (col x0 l) (col x1 l) (col x4 l) r : EReal) := by
  have D := fun r => dPre_eq x0 x1 x2 x3 x4 r l
  unfold out0_5
  rw [View.canon_unit_zero off2]
  unfold k0_pay12 k0_pay11 k0_pay9 k0_pay14
  change _ = _
  rw [show k0_pay7 (k0_pay16 (F := Ideal) (ext x0) (ext x1) (ext x2) (ext x3) (ext x4)) (k0_pay17 (ext x0) (ext x1) (ext x2) (ext x3) (ext x4)) (k0_pay18 (ext x0) (ext x1) (ext x2) (ext x3) (ext x4)) (View.ld (ext x1) r0_0)
      = k0_pay19 (ext x0) (ext x1) (ext x2) (ext x3) (ext x4) from rfl]
  generalize k0_pay19 (F := Ideal) (ext x0) (ext x1) (ext x2) (ext x3) (ext x4) = p19 at *
  pointwise
  have hr : r.val < 2 ^ 31 := by have := r.isLt; omega
  rw [sel_slt r.val 2047 hr (by norm_num), sel_slt r.val 2046 hr (by norm_num), D, D, D]
  simp only [← EReal.coe_mul, zero_coe, ← coe_ite, ← EReal.coe_add]
  unfold dGate
  rw [convT_three, ← rot_lead _ 1 2047 r rfl (Nat.mod_lt _ (by norm_num)), ← rot_lead _ 2 2046 r rfl (Nat.mod_lt _ (by norm_num))]
  simp only [ite_mul, zero_mul]

theorem out7_eq (z : Fin 1) (q : Fin 8) (l : Fin 256) :
    out0_7 (F := Ideal) (ext x0) (ext x1) (ext x2) (ext x3) (ext x4) (ix3 z q l)
      = (part (taps x2 l) (x3 (ix2 0 l)) (col x0 l) (col x1 l) (col x4 l) q.val : EReal) := by
  have D := fun r => dPre_eq x0 x1 x2 x3 x4 r l
  unfold out0_7
  rw [View.canon_unit_zero off3]
  unfold k0_pay1 k0_pay13 k0_pay8 k0_pay10 k0_pay14 k0_pay15 k0_pay2
  rw [show k0_pay7 (k0_pay16 (F := Ideal) (ext x0) (ext x1) (ext x2) (ext x3) (ext x4)) (k0_pay17 (ext x0) (ext x1) (ext x2) (ext x3) (ext x4)) (k0_pay18 (ext x0) (ext x1) (ext x2) (ext x3) (ext x4)) (View.ld (ext x1) r0_0)
      = k0_pay19 (ext x0) (ext x1) (ext x2) (ext x3) (ext x4) from rfl]
  generalize k0_pay19 (F := Ideal) (ext x0) (ext x1) (ext x2) (ext x3) (ext x4) = p19 at *
  pointwise
  have hq : q.val < 2 ^ 32 := by have := q.isLt; omega
  rw [sel_eq q.val 3 hq (by norm_num), sel_eq q.val 2 hq (by norm_num), sel_eq q.val 1 hq (by norm_num), sel_eq q.val 0 hq (by norm_num)]
  simp only [D]
  have hm : ∀ s, ∀ x : Fin 2048, (x.val + 2048 - s) % 2048 < 2048 := fun s x => Nat.mod_lt _ (Nat.succ_pos _)
  obtain ⟨q, hq8⟩ := q
  unfold part
  generalize dPre (taps x2 l) (x3 (ix2 0 l)) (col x0 l) (col x1 l) (col x4 l) = y
  rcases (by omega : q = 0 ∨ q = 1 ∨ q = 2 ∨ q = 3 ∨ 3 < q) with h | h | h | h | h
  · subst h; exact sum_rot y (col x0 l) 2 (by norm_num) (by norm_num) (hm 2)
  · subst h; exact sum_rot y (col x0 l) 1 (by norm_num) (by norm_num) (hm 1)
  · subst h; exact sum_plain y (col x0 l)
  · subst h; exact (coe_sum _ _).symm
  · rw [if_neg (by show ¬ q = 3; omega), if_neg (by show ¬ q = 2; omega), if_neg (by show ¬ q = 1; omega), if_neg (by show ¬ q = 0; omega), if_neg (by show ¬ q < 3; omega), if_neg (by show ¬ q = 3; omega)]
    rfl

end Cert.Proof.Ffn

end
-- ==== Proof.FfnRef.lean ====
/- What the reference of the gated short convolution's gradient computes, read at real arguments. -/
module

public import proofs.«01_k».proof.Proof.FfnKernel
public import proofs.«01_k».proof.Proof.Gen.FfnRIdeal.Read

@[expose] public section

noncomputable section

namespace Cert.Proof.Ffn

open Idealize.ShloMosaic
open Cert.FfnRIdeal Cert.FfnRIdeal.Read Cert.FfnRIdeal.Gen

/-- One example's rows of one column. -/
def rows {N C : ℕ} (x : (⟨2, ![2 * N, C]⟩ : Shape).Idx → ℝ) (q : Fin 2) (c : Fin C) (r : Fin N) : ℝ :=
  x (ix2 ⟨q.val * N + r.val, by have := r.isLt; have := q.isLt; nlinarith⟩ c)

def ups (c : Fin 5632) : Fin 11264 := ⟨5632 + c.val, by have := c.isLt; omega⟩
def gates (c : Fin 5632) : Fin 11264 := ⟨c.val, by have := c.isLt; omega⟩

variable (x0 : S4096x11264.Idx → ℝ) (x1 : S3x5632.Idx → ℝ) (x2 : S5632.Idx → ℝ) (x3 : S4096x5632.Idx → ℝ)

abbrev gcol (q : Fin 2) (c : Fin 5632) : Fin 2048 → ℝ := rows (N := 2048) (C := 11264) x0 q (gates c)
abbrev ucol (q : Fin 2) (c : Fin 5632) : Fin 2048 → ℝ := rows (N := 2048) (C := 11264) x0 q (ups c)
abbrev dcol (q : Fin 2) (c : Fin 5632) : Fin 2048 → ℝ := rows (N := 2048) (C := 5632) x3 q c
abbrev wcol (c : Fin 5632) : Fin 3 → ℝ := fun k => x1 (ix2 k c)

theorem ref_gate (q : Fin 2) (r : Fin 2048) (c : Fin 5632) :
    val_main_v2 (F := Ideal) (ext x0) (ix3 q r c) = (gcol x0 q c r : EReal) := by
  pointwise [val_main_v2, val_main_v1, val_main_v0]
  rfl

theorem ref_up (q : Fin 2) (r : Fin 2048) (c : Fin 5632) :
    val_main_v3 (F := Ideal) (ext x0) (ix3 q r c) = (ucol x0 q c r : EReal) := by
  pointwise [val_main_v3, val_main_v1, val_main_v0]
  rfl

theorem ref_dact (q : Fin 2) (r : Fin 2048) (c : Fin 5632) :
    val_main_v26 (F := Ideal) (ext x3) (ix3 q r c) = (dcol x3 q c r : EReal) := by
  pointwise [val_main_v26, val_main_v25]
  rfl

theorem ref_shift (k : Fin 3) (t s : Fin 2048) :
    val_main_v13 (F := Ideal) (ix3 k t s) = ((if s.val + 2 = t.val + k.val then 1 else 0 : ℝ) : EReal) := by
  pointwise [val_main_v13, val_main_v12, val_main_v11, val_main_v10, val_main_v9, val_main_v8, val_main_v7, val_main_v6, val_main_c, val_main_call0_v0, val_main_call0_v1, val_main_cst, val_main_cst_0]
  exact shift_entry _ _ _ _ (by have := s.isLt; omega) (by have := t.isLt; have := k.isLt; omega)

theorem ref_lag (q : Fin 2) (k : Fin 3) (r : Fin 2048) (c : Fin 5632) :
    val_main_v16 (F := Ideal) (ext x0) (ix4 q k r c) = (lag (gcol x0 q c) (2 - k.val) r : EReal) := by
  have g := fun r => ref_gate x0 q r c
  have h := fun k t s => ref_shift k t s
  unfold val_main_v16 val_main_v15
  generalize val_main_v2 (F := Ideal) (ext x0) = A at *
  generalize val_main_v13 (F := Ideal) = B at *
  pointwise
  simp only [g, h]
  exact shift_row _ 2 k.val (by have := k.isLt; omega) r

theorem ref_pre (q : Fin 2) (r : Fin 2048) (c : Fin 5632) :
    val_main_v22 (F := Ideal) (ext x0) (ext x1) (ext x2) (ix3 q r c) = (pre (wcol x1 c) (x2 (ix1 c)) (gcol x0 q c) r : EReal) := by
  have g := fun k => ref_lag x0 q k r c
  unfold val_main_v22 val_main_v19 val_main_v18
  generalize val_main_v16 (F := Ideal) (ext x0) = A at *
  pointwise [val_main_v17, val_main_v14, val_main_v4, val_main_v21, val_main_v20, val_main_v5, val_main_cst_1]
  simp only [g, ← EReal.coe_mul, ← coe_sum, ← EReal.coe_add]
  rfl

theorem ref_sg (q : Fin 2) (r : Fin 2048) (c : Fin 5632) :
    val_main_v23_2 (F := Ideal) (ext x0) (ext x1) (ext x2) (ix3 q r c) = (sg (pre (wcol x1 c) (x2 (ix1 c)) (gcol x0 q c) r) : EReal) := by
  have g := ref_pre x0 x1 x2 q r c
  unfold val_main_v23_2 val_main_call1_v3 val_main_call1_v1 val_main_call1_v0
  generalize val_main_v22 (F := Ideal) (ext x0) (ext x1) (ext x2) = A at *
  pointwise [val_main_call1_v4, val_main_call1_v2, val_main_call1_cst, val_main_call1_cst_0]
  rw [g, sg_div]

theorem ref_dPre (q : Fin 2) (r : Fin 2048) (c : Fin 5632) :
    val_main_v29 (F := Ideal) (ext x0) (ext x1) (ext x2) (ext x3) (ix3 q r c)
      = (dPre (wcol x1 c) (x2 (ix1 c)) (gcol x0 q c) (ucol x0 q c) (dcol x3 q c) r : EReal) := by
  have z := ref_pre x0 x1 x2 q r c
  have s := ref_sg x0 x1 x2 q r c
  have d := ref_dact x3 q r c
  have u := ref_up x0 q r c
  unfold val_main_v29 val_main_call2_v2 val_main_call2_v1 val_main_call2_v0 val_main_v28 val_main_v23_1 val_main_call1_v7
  generalize val_main_v22 (F := Ideal) (ext x0) (ext x1) (ext x2) = A at *
  generalize val_main_v23_2 (F := Ideal) (ext x0) (ext x1) (ext x2) = B at *
  generalize val_main_v26 (F := Ideal) (ext x3) = C at *
  generalize val_main_v3 (F := Ideal) (ext x0) = D at *
  pointwise [val_main_call1_v6, val_main_call1_cst_1]
  rw [z, s, d, u]
  simp only [← EReal.coe_mul, one_coe, ← EReal.coe_add, ← EReal.coe_sub]
  congr 1
  unfold dPre
  ring

theorem ref_dUp (q : Fin 2) (r : Fin 2048) (c : Fin 5632) :
    val_main_v27 (F := Ideal) (ext x0) (ext x1) (ext x2) (ext x3) (ix3 q r c)
      = (dUp (wcol x1 c) (x2 (ix1 c)) (gcol x0 q c) (dcol x3 q c) r : EReal) := by
  have z := ref_pre x0 x1 x2 q r c
  have s := ref_sg x0 x1 x2 q r c
  have d := ref_dact x3 q r c
  unfold val_main_v27 val_main_v23_0
  generalize val_main_v22 (F := Ideal) (ext x0) (ext x1) (ext x2) = A at *
  generalize val_main_v23_2 (F := Ideal) (ext x0) (ext x1) (ext x2) = B at *
  generalize val_main_v26 (F := Ideal) (ext x3) = C at *
  pointwise
  rw [z, s, d]
  simp only [← EReal.coe_mul]
  congr 1
  unfold dUp
  ring

theorem ref_dGate (q : Fin 2) (r : Fin 2048) (c : Fin 5632) :
    val_main_v41 (F := Ideal) (ext x0) (ext x1) (ext x2) (ext x3) (ix3 q r c)
      = (dGate (wcol x1 c) (x2 (ix1 c)) (gcol x0 q c) (ucol x0 q c) (dcol x3 q c) r : EReal) := by
  have y := fun r => ref_dPre x0 x1 x2 x3 q r c
  have h := fun k t s => ref_shift k t s
  unfold val_main_v41 val_main_v40 val_main_v39 val_main_v35 val_main_v33
  generalize val_main_v29 (F := Ideal) (ext x0) (ext x1) (ext x2) (ext x3) = A at *
  generalize val_main_v13 (F := Ideal) = B at *
  pointwise [val_main_v34, val_main_v14, val_main_v4]
  simp only [y, h, ← EReal.coe_mul, ← coe_sum]
  unfold dGate convT
  refine congrArg Real.toEReal (Finset.sum_congr rfl fun k _ => ?_)
  rw [show (3 - 1 - k.val) = 2 - k.val from rfl, ← sum_shift_col _ 2 k.val (by have := k.isLt; omega) r, Finset.mul_sum]
  exact Finset.sum_congr rfl fun t _ => mul_assoc _ _ _

theorem ref_part (q : Fin 2) (p : Fin 8) (c : Fin 5632) :
    val_main_v49 (F := Ideal) (ext x0) (ext x1) (ext x2) (ext x3) (ix3 q p c)
      = (part (wcol x1 c) (x2 (ix1 c)) (gcol x0 q c) (ucol x0 q c) (dcol x3 q c) p.val : EReal) := by
  have y := fun r => ref_dPre x0 x1 x2 x3 q r c
  have g := fun k r => ref_lag x0 q k r c
  unfold val_main_v49 val_main_v47 val_main_v32 val_main_v31 val_main_v30 val_main_v42 val_main_v38 val_main_v37 val_main_v36 val_main_v33
  generalize val_main_v29 (F := Ideal) (ext x0) (ext x1) (ext x2) (ext x3) = A at *
  generalize val_main_v16 (F := Ideal) (ext x0) = B at *
  pointwise [val_main_v48]
  simp only [y, g, val_main_cst_2, val_main_cst_3, val_main_cst_4, val_main_cst_5, val_main_cst_6, Finset.univ_unique, Finset.sum_singleton]
  pointwise
  simp only [← EReal.coe_mul, ← coe_sum, zero_add]
  unfold part tapGrad
  split_ifs with h1 h2 h3 h4
  · rfl
  · rfl
  · omega
  · omega
  · rfl

end Cert.Proof.Ffn

end
-- ==== Proof.Ffn.lean ====
/- The gated short convolution's gradient: what the launch leaves in its result arrays, block by block, and that this is what
   the reference leaves in its own. -/
module

public import proofs.«01_k».proof.Defs
public import proofs.«01_k».proof.Proof.FfnRef
public import proofs.«01_k».proof.Proof.Gen.FfnKIdeal.Value
public import proofs.«01_k».proof.Proof.Gen.Pre_finite

@[expose] public section

noncomputable section

namespace Cert.Proof.Ffn

open Idealize.ShloMosaic Idealize.ShloMosaic.TcCoe Idealize.SL.Sem
open Cert.FfnKIdeal Cert.FfnKIdeal.Gen

/-! ## Index maps -/

theorem blk0 : ∀ t : Fin cfg0.N, win0_0.index t = ![(win0_5.index t 0), (win0_5.index t 1)] :=
  (by decide +kernel : ∀ t : Fin grid0.N, _)
theorem blk1 : ∀ t : Fin cfg0.N, win0_1.index t = ![(win0_5.index t 0), 22 + (win0_5.index t 1)] :=
  (by decide +kernel : ∀ t : Fin grid0.N, _)
theorem blk2 : ∀ t : Fin cfg0.N, win0_2.index t = ![0, (win0_5.index t 1)] :=
  (by decide +kernel : ∀ t : Fin grid0.N, _)
theorem blk3 : ∀ t : Fin cfg0.N, win0_3.index t = ![0, (win0_5.index t 1)] :=
  (by decide +kernel : ∀ t : Fin grid0.N, _)
theorem blk4 : ∀ t : Fin cfg0.N, win0_4.index t = ![(win0_5.index t 0), (win0_5.index t 1)] :=
  (by decide +kernel : ∀ t : Fin grid0.N, _)
theorem blk6 : ∀ t : Fin cfg0.N, win0_6.index t = ![(win0_5.index t 0), (win0_5.index t 1)] :=
  (by decide +kernel : ∀ t : Fin grid0.N, _)
theorem blk7 : ∀ t : Fin cfg0.N, win0_7.index t = ![(win0_5.index t 0), 0, (win0_5.index t 1)] :=
  (by decide +kernel : ∀ t : Fin grid0.N, _)
theorem blk5 : ∀ t : Fin cfg0.N, win0_5.index t 0 < 2 ∧ win0_5.index t 1 < 22 :=
  (by decide +kernel : ∀ t : Fin grid0.N, _)
theorem blk5_onto : ∀ (q : Fin 2) (j : Fin 22), ∃ t : Fin cfg0.N, win0_5.index t = ![q.val, j.val] :=
  (by decide +kernel : ∀ (q : Fin 2) (j : Fin 22), ∃ t : Fin grid0.N, _)

/-! ## Blocks of the arguments -/

variable (m : (ℓ : Loc nD τ sig) → Buf (Elt Ideal) ℓ) (c : Dev nD) (t : Fin cfg0.N)
variable (a0 : S4096x11264.Idx → ℝ) (a1 : S3x5632.Idx → ℝ) (a2 : S5632.Idx → ℝ) (a3 : S4096x5632.Idx → ℝ)

/-- The example and the column a point's lane is at. -/
def exq : Fin 2 := ⟨win0_5.index t 0, (blk5 t).1⟩
def coll (l : Fin 256) : Fin 5632 := ⟨win0_5.index t 1 * 256 + l.val, by have := (blk5 t).2; have := l.isLt; omega⟩

theorem in0 (h : m ((c : Thread nD τ).loc main_arg0) = ext a0) :
    iblk m c 0 t = ext (fun y : S2048x256.Idx => gcol a0 (exq t) (coll t (y 1)) (y 0)) := by
  have hV := (V_main_arg0 m c).trans h
  funext y
  show V m c main_arg0 (((cfg0.win 0).blk t).view.emb y) = _
  rw [hV]
  refine congrArg (fun i => (a0 i : EReal)) (funext fun a => Fin.ext ?_)
  have e := blk0 t
  match a with
  | ⟨0, _⟩ => show win0_0.index t 0 * 2048 + 1 * (y 0).val = win0_5.index t 0 * 2048 + (y 0).val; rw [e]; show win0_5.index t 0 * 2048 + _ = _; omega
  | ⟨1, _⟩ => show win0_0.index t 1 * 256 + 1 * (y 1).val = win0_5.index t 1 * 256 + (y 1).val; rw [e]; show win0_5.index t 1 * 256 + _ = _; omega

theorem in1 (h : m ((c : Thread nD τ).loc main_arg0) = ext a0) :
    iblk m c 1 t = ext (fun y : S2048x256.Idx => ucol a0 (exq t) (coll t (y 1)) (y 0)) := by
  have hV := (V_main_arg0 m c).trans h
  funext y
  show V m c main_arg0 (((cfg0.win 1).blk t).view.emb y) = _
  rw [hV]
  refine congrArg (fun i => (a0 i : EReal)) (funext fun a => Fin.ext ?_)
  have e := blk1 t
  match a with
  | ⟨0, _⟩ => show win0_1.index t 0 * 2048 + 1 * (y 0).val = win0_5.index t 0 * 2048 + (y 0).val; rw [e]; show win0_5.index t 0 * 2048 + _ = _; omega
  | ⟨1, _⟩ => show win0_1.index t 1 * 256 + 1 * (y 1).val = 5632 + (win0_5.index t 1 * 256 + (y 1).val); rw [e]; show (22 + win0_5.index t 1) * 256 + _ = _; omega

theorem in2 (h : m ((c : Thread nD τ).loc main_arg1) = ext a1) :
    iblk m c 2 t = ext (fun y : S3x256.Idx => wcol a1 (coll t (y 1)) (y 0)) := by
  have hV := (V_main_arg1 m c).trans h
  funext y
  show V m c main_arg1 (((cfg0.win 2).blk t).view.emb y) = _
  rw [hV]
  refine congrArg (fun i => (a1 i : EReal)) (funext fun a => Fin.ext ?_)
  have e := blk2 t
  match a with
  | ⟨0, _⟩ => show win0_2.index t 0 * 3 + 1 * (y 0).val = (y 0).val; rw [e]; show 0 * 3 + _ = _; omega
  | ⟨1, _⟩ => show win0_2.index t 1 * 256 + 1 * (y 1).val = win0_5.index t 1 * 256 + (y 1).val; rw [e]; show win0_5.index t 1 * 256 + _ = _; omega

theorem V_bias (h : m ((c : Thread nD τ).loc main_arg2) = ext a2) (k : Fin 1) (n : Fin 5632) :
    (V m c main_v0 : S1x5632.Idx → EReal) (ix2 k n) = (a2 (ix1 n) : EReal) := by
  have e : (V m c main_v0 : S1x5632.Idx → EReal) = shapeCast S1x5632 (ext a2 : S5632.Idx → EReal) shapeCasts_S5632_S1x5632 := by
    rw [← h]; rfl
  rw [e]
  pointwise

theorem in3 (h : m ((c : Thread nD τ).loc main_arg2) = ext a2) :
    iblk m c 3 t = ext (fun y : S1x256.Idx => a2 (ix1 (coll t (y 1)))) := by
  funext y
  show V m c main_v0 (((cfg0.win 3).blk t).view.emb y) = _
  refine Eq.trans ?_ (V_bias m c a2 h 0 (coll t (y 1)))
  refine congrArg (V m c main_v0) (funext fun a => Fin.ext ?_)
  have e := blk3 t
  match a with
  | ⟨0, _⟩ => show win0_3.index t 0 * 1 + 1 * (y 0).val = 0; rw [e]; show 0 * 1 + 1 * (y 0).val = 0; have : (y 0).val < 1 := (y 0).isLt; omega
  | ⟨1, _⟩ => show win0_3.index t 1 * 256 + 1 * (y 1).val = win0_5.index t 1 * 256 + (y 1).val; rw [e]; show win0_5.index t 1 * 256 + _ = _; omega

theorem in4 (h : m ((c : Thread nD τ).loc main_arg3) = ext a3) :
    iblk m c 4 t = ext (fun y : S2048x256.Idx => dcol a3 (exq t) (coll t (y 1)) (y 0)) := by
  have hV := (V_main_arg3 m c).trans h
  funext y
  show V m c main_arg3 (((cfg0.win 4).blk t).view.emb y) = _
  rw [hV]
  refine congrArg (fun i => (a3 i : EReal)) (funext fun a => Fin.ext ?_)
  have e := blk4 t
  match a with
  | ⟨0, _⟩ => show win0_4.index t 0 * 2048 + 1 * (y 0).val = win0_5.index t 0 * 2048 + (y 0).val; rw [e]; show win0_5.index t 0 * 2048 + _ = _; omega
  | ⟨1, _⟩ => show win0_4.index t 1 * 256 + 1 * (y 1).val = win0_5.index t 1 * 256 + (y 1).val; rw [e]; show win0_5.index t 1 * 256 + _ = _; omega

/-! ## The result arrays -/

/-- The example and the position of a row of the flattened arrays. -/
def exOf (R : Fin 4096) : Fin 2 := ⟨R.val / 2048, by have := R.isLt; omega⟩
def rowOf (R : Fin 4096) : Fin 2048 := ⟨R.val % 2048, Nat.mod_lt _ (by norm_num)⟩

theorem exOf_mk (q : Fin 2) (r : Fin 2048) (h : q.val * 2048 + r.val < 4096) : exOf ⟨q.val * 2048 + r.val, h⟩ = q :=
  Fin.ext (by show (q.val * 2048 + r.val) / 2048 = q.val; have := r.isLt; omega)
theorem rowOf_mk (q : Fin 2) (r : Fin 2048) (h : q.val * 2048 + r.val < 4096) : rowOf ⟨q.val * 2048 + r.val, h⟩ = r :=
  Fin.ext (by show (q.val * 2048 + r.val) % 2048 = r.val; have := r.isLt; omega)

def res5 (i : S4096x5632.Idx) : EReal :=
  (dGate (wcol a1 (i 1)) (a2 (ix1 (i 1))) (gcol a0 (exOf (i 0)) (i 1)) (ucol a0 (exOf (i 0)) (i 1))
    (dcol a3 (exOf (i 0)) (i 1)) (rowOf (i 0)) : ℝ)

def res6 (i : S4096x5632.Idx) : EReal :=
  (dUp (wcol a1 (i 1)) (a2 (ix1 (i 1))) (gcol a0 (exOf (i 0)) (i 1))
    (dcol a3 (exOf (i 0)) (i 1)) (rowOf (i 0)) : ℝ)

def res7 (i : S2x8x5632.Idx) : EReal :=
  (part (wcol a1 (i 2)) (a2 (ix1 (i 2))) (gcol a0 (i 0) (i 2)) (ucol a0 (i 0) (i 2)) (dcol a3 (i 0) (i 2)) (i 1).val : ℝ)

theorem mem5 (i : S4096x5632.Idx) : i ∈ ((cfg0.win 5).blk t).view.set ↔
    ∀ a : Fin 2, win0_5.index t a * S2048x256.size a ≤ (i a).val ∧ (i a).val < win0_5.index t a * S2048x256.size a + S2048x256.size a := by
  show i ∈ ((View.whole main_v1_0).slice (win0_5.rect t)).set ↔ _
  rw [View.set_slice_whole, Rect.mem_set_unit]
  exact Iff.rfl

theorem res5_at (q : Fin 2) (r : Fin 2048) (n : Fin 5632) (h : q.val * 2048 + r.val < 4096) : res5 a0 a1 a2 a3 (ix2 ⟨q.val * 2048 + r.val, h⟩ n)
    = (dGate (wcol a1 n) (a2 (ix1 n)) (gcol a0 q n) (ucol a0 q n) (dcol a3 q n) r : ℝ) := by
  show ((dGate (wcol a1 n) (a2 (ix1 n)) (gcol a0 (exOf ⟨q.val * 2048 + r.val, h⟩) n) (ucol a0 (exOf ⟨q.val * 2048 + r.val, h⟩) n) (dcol a3 (exOf ⟨q.val * 2048 + r.val, h⟩) n) (rowOf ⟨q.val * 2048 + r.val, h⟩) : ℝ) : EReal) = _
  rw [exOf_mk, rowOf_mk]

theorem arr5 (h0 : m ((c : Thread nD τ).loc main_arg0) = ext a0) (h1 : m ((c : Thread nD τ).loc main_arg1) = ext a1)
    (h2 : m ((c : Thread nD τ).loc main_arg2) = ext a2) (h3 : m ((c : Thread nD τ).loc main_arg3) = ext a3) :
    (dats m 0 c).arrAt 5 cfg0.N = res5 a0 a1 a2 a3 := by
  refine (dats m 0 c).arrAt_eq_of_cover 5 (res5 a0 a1 a2 a3) ?_ ?_
  · intro t _
    rw [Value.flushed5, in0 m c t a0 h0, in1 m c t a0 h0, in2 m c t a1 h1, in3 m c t a2 h2, in4 m c t a3 h3]
    funext j
    show out0_5 (F := Ideal) _ _ _ _ _ j = (res5 a0 a1 a2 a3 (((cfg0.win 5).blk t).view.emb j) : EReal)
    have hj : j = ix2 (j 0) (j 1) := eq_ix2 j
    generalize j 0 = r at hj
    generalize j 1 = l at hj
    subst hj
    refine (out5_eq _ _ _ _ _ r l).trans ?_
    refine (res5_at a0 a1 a2 a3 (exq t) r (coll t l) (by have := (exq t).isLt; have : r.val < 2048 := r.isLt; omega)).symm.trans ?_
    refine congrArg (res5 a0 a1 a2 a3) (funext fun a => Fin.ext ?_)
    match a with
    | ⟨0, _⟩ => show win0_5.index t 0 * 2048 + r.val = win0_5.index t 0 * 2048 + 1 * r.val; omega
    | ⟨1, _⟩ => show win0_5.index t 1 * 256 + l.val = win0_5.index t 1 * 256 + 1 * l.val; omega
  · intro i
    have h0 : (i 0).val < 4096 := (i 0).isLt
    have h1 : (i 1).val < 5632 := (i 1).isLt
    obtain ⟨t, ht⟩ := blk5_onto ⟨(i 0).val / 2048, by omega⟩ ⟨(i 1).val / 256, by omega⟩
    have e0 : win0_5.index t 0 = (i 0).val / 2048 := by rw [ht]; rfl
    have e1 : win0_5.index t 1 = (i 1).val / 256 := by rw [ht]; rfl
    refine ⟨t, flush0_5 t, (mem5 t i).2 fun a => ?_⟩
    skip
    match a with
    | ⟨0, _⟩ => show win0_5.index t 0 * 2048 ≤ (i 0).val ∧ (i 0).val < win0_5.index t 0 * 2048 + 2048; omega
    | ⟨1, _⟩ => show win0_5.index t 1 * 256 ≤ (i 1).val ∧ (i 1).val < win0_5.index t 1 * 256 + 256; omega

theorem mem6 (i : S4096x5632.Idx) : i ∈ ((cfg0.win 6).blk t).view.set ↔
    ∀ a : Fin 2, win0_6.index t a * S2048x256.size a ≤ (i a).val ∧ (i a).val < win0_6.index t a * S2048x256.size a + S2048x256.size a := by
  show i ∈ ((View.whole main_v1_1).slice (win0_6.rect t)).set ↔ _
  rw [View.set_slice_whole, Rect.mem_set_unit]
  exact Iff.rfl

theorem res6_at (q : Fin 2) (r : Fin 2048) (n : Fin 5632) (h : q.val * 2048 + r.val < 4096) : res6 a0 a1 a2 a3 (ix2 ⟨q.val * 2048 + r.val, h⟩ n)
    = (dUp (wcol a1 n) (a2 (ix1 n)) (gcol a0 q n) (dcol a3 q n) r : ℝ) := by
  show ((dUp (wcol a1 n) (a2 (ix1 n)) (gcol a0 (exOf ⟨q.val * 2048 + r.val, h⟩) n) (dcol a3 (exOf ⟨q.val * 2048 + r.val, h⟩) n) (rowOf ⟨q.val * 2048 + r.val, h⟩) : ℝ) : EReal) = _
  rw [exOf_mk, rowOf_mk]

theorem arr6 (h0 : m ((c : Thread nD τ).loc main_arg0) = ext a0) (h1 : m ((c : Thread nD τ).loc main_arg1) = ext a1)
    (h2 : m ((c : Thread nD τ).loc main_arg2) = ext a2) (h3 : m ((c : Thread nD τ).loc main_arg3) = ext a3) :
    (dats m 0 c).arrAt 6 cfg0.N = res6 a0 a1 a2 a3 := by
  refine (dats m 0 c).arrAt_eq_of_cover 6 (res6 a0 a1 a2 a3) ?_ ?_
  · intro t _
    rw [Value.flushed6, in0 m c t a0 h0, in1 m c t a0 h0, in2 m c t a1 h1, in3 m c t a2 h2, in4 m c t a3 h3]
    funext j
    show out0_6 (F := Ideal) _ _ _ _ _ j = (res6 a0 a1 a2 a3 (((cfg0.win 6).blk t).view.emb j) : EReal)
    have hj : j = ix2 (j 0) (j 1) := eq_ix2 j
    generalize j 0 = r at hj
    generalize j 1 = l at hj
    subst hj
    refine (out6_eq _ _ _ _ _ r l).trans ?_
    refine (res6_at a0 a1 a2 a3 (exq t) r (coll t l) (by have := (exq t).isLt; have : r.val < 2048 := r.isLt; omega)).symm.trans ?_
    refine congrArg (res6 a0 a1 a2 a3) (funext fun a => Fin.ext ?_)
    match a with
    | ⟨0, _⟩ => show win0_5.index t 0 * 2048 + r.val = win0_6.index t 0 * 2048 + 1 * r.val; rw [blk6 t]; show _ = win0_5.index t 0 * 2048 + _; omega
    | ⟨1, _⟩ => show win0_5.index t 1 * 256 + l.val = win0_6.index t 1 * 256 + 1 * l.val; rw [blk6 t]; show _ = win0_5.index t 1 * 256 + _; omega
  · intro i
    have h0 : (i 0).val < 4096 := (i 0).isLt
    have h1 : (i 1).val < 5632 := (i 1).isLt
    obtain ⟨t, ht⟩ := blk5_onto ⟨(i 0).val / 2048, by omega⟩ ⟨(i 1).val / 256, by omega⟩
    have e0 : win0_5.index t 0 = (i 0).val / 2048 := by rw [ht]; rfl
    have e1 : win0_5.index t 1 = (i 1).val / 256 := by rw [ht]; rfl
    refine ⟨t, flush0_6 t, (mem6 t i).2 fun a => ?_⟩
    rw [blk6 t]
    match a with
    | ⟨0, _⟩ => show win0_5.index t 0 * 2048 ≤ (i 0).val ∧ (i 0).val < win0_5.index t 0 * 2048 + 2048; omega
    | ⟨1, _⟩ => show win0_5.index t 1 * 256 ≤ (i 1).val ∧ (i 1).val < win0_5.index t 1 * 256 + 256; omega

theorem mem7 (i : S2x8x5632.Idx) : i ∈ ((cfg0.win 7).blk t).view.set ↔
    ∀ a : Fin 3, win0_7.index t a * S1x8x256.size a ≤ (i a).val ∧ (i a).val < win0_7.index t a * S1x8x256.size a + S1x8x256.size a := by
  show i ∈ ((View.whole main_v1_2).slice (win0_7.rect t)).set ↔ _
  rw [View.set_slice_whole, Rect.mem_set_unit]
  exact Iff.rfl

theorem arr7 (h0 : m ((c : Thread nD τ).loc main_arg0) = ext a0) (h1 : m ((c : Thread nD τ).loc main_arg1) = ext a1)
    (h2 : m ((c : Thread nD τ).loc main_arg2) = ext a2) (h3 : m ((c : Thread nD τ).loc main_arg3) = ext a3) :
    (dats m 0 c).arrAt 7 cfg0.N = res7 a0 a1 a2 a3 := by
  refine (dats m 0 c).arrAt_eq_of_cover 7 (res7 a0 a1 a2 a3) ?_ ?_
  · intro t _
    rw [Value.flushed7, in0 m c t a0 h0, in1 m c t a0 h0, in2 m c t a1 h1, in3 m c t a2 h2, in4 m c t a3 h3]
    funext j
    show out0_7 (F := Ideal) _ _ _ _ _ j = (res7 a0 a1 a2 a3 (((cfg0.win 7).blk t).view.emb j) : EReal)
    have hj : j = ix3 (j 0) (j 1) (j 2) := eq_ix3 j
    generalize j 0 = z at hj
    generalize j 1 = p at hj
    generalize j 2 = l at hj
    subst hj
    refine (out7_eq _ _ _ _ _ z p l).trans ?_
    refine (rfl : _ = res7 a0 a1 a2 a3 (ix3 (exq t) p (coll t l))).trans ?_
    refine congrArg (res7 a0 a1 a2 a3) (funext fun a => Fin.ext ?_)
    have hz : z.val < 1 := z.isLt
    match a with
    | ⟨0, _⟩ => show win0_5.index t 0 = win0_7.index t 0 * 1 + 1 * z.val; rw [blk7 t]; show _ = win0_5.index t 0 * 1 + _; omega
    | ⟨1, _⟩ => show p.val = win0_7.index t 1 * 8 + 1 * p.val; rw [blk7 t]; show _ = 0 * 8 + _; omega
    | ⟨2, _⟩ => show win0_5.index t 1 * 256 + l.val = win0_7.index t 2 * 256 + 1 * l.val; rw [blk7 t]; show _ = win0_5.index t 1 * 256 + _; omega
  · intro i
    have h0 : (i 0).val < 2 := (i 0).isLt
    have h1 : (i 1).val < 8 := (i 1).isLt
    have h2 : (i 2).val < 5632 := (i 2).isLt
    obtain ⟨t, ht⟩ := blk5_onto ⟨(i 0).val, h0⟩ ⟨(i 2).val / 256, by omega⟩
    have e0 : win0_5.index t 0 = (i 0).val := by rw [ht]; rfl
    have e1 : win0_5.index t 1 = (i 2).val / 256 := by rw [ht]; rfl
    refine ⟨t, flush0_7 t, (mem7 t i).2 fun a => ?_⟩
    rw [blk7 t]
    match a with
    | ⟨0, _⟩ => show win0_5.index t 0 * 1 ≤ (i 0).val ∧ (i 0).val < win0_5.index t 0 * 1 + 1; omega
    | ⟨1, _⟩ => show 0 * 8 ≤ (i 1).val ∧ (i 1).val < 0 * 8 + 8; omega
    | ⟨2, _⟩ => show win0_5.index t 1 * 256 ≤ (i 2).val ∧ (i 2).val < win0_5.index t 1 * 256 + 256; omega

/-! ## The reference's results -/

open Cert.FfnRIdeal.Read in
theorem ref5 : val_main_v44 (F := Ideal) (ext a0) (ext a1) (ext a2) (ext a3) = res5 a0 a1 a2 a3 := by
  funext i
  have hi : i = ix2 (i 0) (i 1) := eq_ix2 i
  generalize i 0 = R at hi
  generalize i 1 = n at hi
  subst hi
  refine Eq.trans ?_ (ref_dGate a0 a1 a2 a3 (exOf R) (rowOf R) n)
  unfold val_main_v44 val_main_v43
  generalize val_main_v41 (F := Ideal) (ext a0) (ext a1) (ext a2) (ext a3) = A
  pointwise
  rfl

open Cert.FfnRIdeal.Read in
theorem ref6 : val_main_v46 (F := Ideal) (ext a0) (ext a1) (ext a2) (ext a3) = res6 a0 a1 a2 a3 := by
  funext i
  have hi : i = ix2 (i 0) (i 1) := eq_ix2 i
  generalize i 0 = R at hi
  generalize i 1 = n at hi
  subst hi
  refine Eq.trans ?_ (ref_dUp a0 a1 a2 a3 (exOf R) (rowOf R) n)
  unfold val_main_v46 val_main_v45
  generalize val_main_v27 (F := Ideal) (ext a0) (ext a1) (ext a2) (ext a3) = A
  pointwise
  rfl

open Cert.FfnRIdeal.Read in
theorem ref7 : val_main_v49 (F := Ideal) (ext a0) (ext a1) (ext a2) (ext a3) = res7 a0 a1 a2 a3 := by
  funext i
  have hi : i = ix3 (i 0) (i 1) (i 2) := eq_ix3 i
  generalize i 0 = q at hi
  generalize i 1 = p at hi
  generalize i 2 = n at hi
  subst hi
  exact ref_part a0 a1 a2 a3 q p n

/-! ## The precondition -/

theorem fin0 [Cert.Pre_finite.Facts] (x0 x1 x2 x3) (h : (Cert.Pre_finite.fn (F := Ideal) x0 x1 x2 x3).1 = fun _ => 1#1) (i : S4096x11264.Idx) :
    x0 i < (⊤ : EReal) ∧ (⊥ : EReal) < x0 i := by
  have h := congrFun h i
  unfold Cert.Pre_finite.fn Cert.Pre_finite.fn_part1 at h
  have e : i = ix2 (i 0) (i 1) := eq_ix2 i
  generalize i 0 = n0 at e
  generalize i 1 = n1 at e
  subst e
  revert h
  pointwise
  intro h
  rw [ofBits_top_bf16, ofBits_bot_bf16] at h
  exact both_lt h

theorem fin1 [Cert.Pre_finite.Facts] (x0 x1 x2 x3) (h : (Cert.Pre_finite.fn (F := Ideal) x0 x1 x2 x3).2.1 = fun _ => 1#1) (i : S3x5632.Idx) :
    x1 i < (⊤ : EReal) ∧ (⊥ : EReal) < x1 i := by
  have h := congrFun h i
  unfold Cert.Pre_finite.fn Cert.Pre_finite.fn_part1 at h
  have e : i = ix2 (i 0) (i 1) := eq_ix2 i
  generalize i 0 = n0 at e
  generalize i 1 = n1 at e
  subst e
  revert h
  pointwise
  intro h
  rw [ofBits_top_f32, ofBits_bot_f32] at h
  exact both_lt h

theorem fin2 [Cert.Pre_finite.Facts] (x0 x1 x2 x3) (h : (Cert.Pre_finite.fn (F := Ideal) x0 x1 x2 x3).2.2.1 = fun _ => 1#1) (i : S5632.Idx) :
    x2 i < (⊤ : EReal) ∧ (⊥ : EReal) < x2 i := by
  have h := congrFun h i
  unfold Cert.Pre_finite.fn Cert.Pre_finite.fn_part1 at h
  have e : i = ix1 (i 0) := eq_ix1 i
  generalize i 0 = n0 at e
  subst e
  revert h
  pointwise
  intro h
  rw [ofBits_top_f32, ofBits_bot_f32] at h
  exact both_lt h

theorem fin3 [Cert.Pre_finite.Facts] (x0 x1 x2 x3) (h : (Cert.Pre_finite.fn (F := Ideal) x0 x1 x2 x3).2.2.2 = fun _ => 1#1) (i : S4096x5632.Idx) :
    x3 i < (⊤ : EReal) ∧ (⊥ : EReal) < x3 i := by
  have h := congrFun h i
  unfold Cert.Pre_finite.fn Cert.Pre_finite.fn_part1 at h
  have e : i = ix2 (i 0) (i 1) := eq_ix2 i
  generalize i 0 = n0 at e
  generalize i 1 = n1 at e
  subst e
  revert h
  pointwise
  intro h
  rw [ofBits_top_bf16, ofBits_bot_bf16] at h
  exact both_lt h

/-! ## The claim -/

theorem algebraic : Cert.algebraic_FfnKIdeal_FfnRIdeal_pre_finite (hFfnKIdeal := Cert.FfnKIdeal.Gen.facts) (hFfnRIdeal := Cert.FfnRIdeal.Gen.facts)
    (hPre_finite := Cert.Pre_finite.Gen.facts) := by
  haveI := Cert.Pre_finite.Gen.facts
  intro m g m' g' hp hm
  have key : ∀ c : Dev nD, ∃ a0 a1 a2 a3, m ((c : Thread nD τ).loc main_arg0) = ext a0 ∧ m ((c : Thread nD τ).loc main_arg1) = ext a1
      ∧ m ((c : Thread nD τ).loc main_arg2) = ext a2 ∧ m ((c : Thread nD τ).loc main_arg3) = ext a3 := fun c => by
    obtain ⟨p0, p1, p2, p3⟩ := hp c
    obtain ⟨a0, e0⟩ := exists_real _ (fin0 _ _ _ _ p0)
    obtain ⟨a1, e1⟩ := exists_real _ (fin1 _ _ _ _ p1)
    obtain ⟨a2, e2⟩ := exists_real _ (fin2 _ _ _ _ p2)
    obtain ⟨a3, e3⟩ := exists_real _ (fin3 _ _ _ _ p3)
    exact ⟨a0, a1, a2, a3, e0, e1, e2, e3⟩
  choose a0 a1 a2 a3 e0 e1 e2 e3 using key
  refine ⟨fun c => res5 (a0 c) (a1 c) (a2 c) (a3 c), fun c => res6 (a0 c) (a1 c) (a2 c) (a3 c), fun c => res7 (a0 c) (a1 c) (a2 c) (a3 c), ?_, ?_⟩
  · refine (θ_run Cert.FfnKIdeal.defs _ _).mono (fun r h c => ?_) (Value.run_blocks m g)
    obtain ⟨h5, h6, h7, k0, k1, k2, k3⟩ := h c
    exact ⟨h5.trans (arr5 m c _ _ _ _ (e0 c) (e1 c) (e2 c) (e3 c)), h6.trans (arr6 m c _ _ _ _ (e0 c) (e1 c) (e2 c) (e3 c)),
      h7.trans (arr7 m c _ _ _ _ (e0 c) (e1 c) (e2 c) (e3 c)), k0, k1, k2, k3⟩
  · refine (θ_run Cert.FfnRIdeal.defs _ _).mono (fun r h c => ?_) (Cert.FfnRIdeal.Value.run m' g')
    obtain ⟨h5, h6, h7, k0, k1, k2, k3⟩ := h c
    obtain ⟨q0, q1, q2, q3⟩ := hm c
    have f0 := q0.trans (e0 c)
    have f1 := q1.trans (e1 c)
    have f2 := q2.trans (e2 c)
    have f3 := q3.trans (e3 c)
    refine ⟨h5.trans ?_, h6.trans ?_, h7.trans ?_, k0, k1, k2, k3⟩
    · rw [Cert.FfnRIdeal.Read.val_main_v44_eq, f0, f1, f2, f3]
      exact ref5 _ _ _ _
    · rw [Cert.FfnRIdeal.Read.val_main_v46_eq, f0, f1, f2, f3]
      exact ref6 _ _ _ _
    · rw [Cert.FfnRIdeal.Read.val_main_v49_eq, f0, f1, f2, f3]
      exact ref7 _ _ _ _

end Cert.Proof.Ffn

end
-- ==== Proof.Rows.lean ====
/- The rows of a device's examples, and the readings of a masked rotation of real rows as a delay or an advance. -/
module

public import proofs.«01_k».proof.Proof.Taps

@[expose] public section

noncomputable section

namespace Cert.Proof

open Idealize.ShloMosaic

/-! ## Two examples, their rows one below the other -/

def exOf (R : Fin 4096) : Fin 2 := ⟨R.val / 2048, by have := R.isLt; omega⟩
def rowOf (R : Fin 4096) : Fin 2048 := ⟨R.val % 2048, Nat.mod_lt _ (by norm_num)⟩
def flat (q : Fin 2) (r : Fin 2048) : Fin 4096 := ⟨q.val * 2048 + r.val, by have := q.isLt; have := r.isLt; omega⟩

theorem exOf_flat (q : Fin 2) (r : Fin 2048) : exOf (flat q r) = q :=
  Fin.ext (by show (q.val * 2048 + r.val) / 2048 = q.val; have := r.isLt; omega)
theorem rowOf_flat (q : Fin 2) (r : Fin 2048) : rowOf (flat q r) = r :=
  Fin.ext (by show (q.val * 2048 + r.val) % 2048 = r.val; have := r.isLt; omega)

/-- One example's rows of one column. -/
def rows {C : ℕ} (x : (⟨2, ![4096, C]⟩ : Shape).Idx → ℝ) (q : Fin 2) (c : Fin C) (r : Fin 2048) : ℝ := x (ix2 (flat q r) c)

/-- A column of a block. -/
abbrev lane {N L : ℕ} (x : (⟨2, ![N, L]⟩ : Shape).Idx → ℝ) (l : Fin L) : Fin N → ℝ := fun r => x (ix2 r l)

/-! ## Masks and rotations of real rows -/

variable {S : ℕ}

theorem sel_lag (x : Fin S → ℝ) (s : ℕ) (r : Fin S) (c : EReal) (hS : S ≤ 2 ^ 31) (hs : s < 2 ^ 31) (h : (r.val + S - s) % S < S) :
    Scalar.select (IntOp.cmpi .sge (BitVec.ofNat 32 r.val) (BitVec.ofNat 32 s)) ((x ⟨(r.val + S - s) % S, h⟩ : EReal) * c) 0 = (lag x s r : EReal) * c := by
  rw [sel_sge _ _ (by have := r.isLt; omega) hs, ← rot_lag x s r h, coe_ite, ite_mul, EReal.coe_zero, zero_mul]

theorem sel_lead (x : Fin S → ℝ) (s q : ℕ) (r : Fin S) (c : EReal) (hS : S ≤ 2 ^ 31) (hq : q + s = S) (hs : q < 2 ^ 31) (h : (r.val + S - q) % S < S) :
    Scalar.select (IntOp.cmpi .slt (BitVec.ofNat 32 r.val) (BitVec.ofNat 32 q)) ((x ⟨(r.val + S - q) % S, h⟩ : EReal) * c) 0 = (lead x s r : EReal) * c := by
  rw [sel_slt _ _ (by have := r.isLt; omega) hs, ← rot_lead x s q r hq h, coe_ite, ite_mul, EReal.coe_zero, zero_mul]

/-- A tap's gradient, its delayed rows already read. -/
theorem sum_lag (y x : Fin S → ℝ) (s : ℕ) : (∑ r : Fin S, (y r : EReal) * (lag x s r : EReal)) = ((tapGrad y x s : ℝ) : EReal) := by
  unfold tapGrad
  rw [coe_sum]
  exact Finset.sum_congr rfl fun r _ => (EReal.coe_mul _ _).symm

/-! ## Four taps, spelt out from the last -/

theorem conv_four (w : Fin 4 → ℝ) (x : Fin S → ℝ) (r : Fin S) :
    conv w x r = x r * w 3 + lag x 1 r * w 2 + lag x 2 r * w 1 + lag x 3 r * w 0 := by
  unfold conv
  rw [Fin.sum_univ_four]
  show w 0 * lag x 3 r + w 1 * lag x 2 r + w 2 * lag x 1 r + w 3 * lag x 0 r = _
  rw [lag_zero]; ring

theorem convT_four (w : Fin 4 → ℝ) (x : Fin S → ℝ) (r : Fin S) :
    convT w x r = x r * w 3 + lead x 1 r * w 2 + lead x 2 r * w 1 + lead x 3 r * w 0 := by
  unfold convT
  rw [Fin.sum_univ_four]
  show w 0 * lead x 3 r + w 1 * lead x 2 r + w 2 * lead x 1 r + w 3 * lead x 0 r = _
  rw [lead_zero]; ring

/-! ## The gradient of `x * sg x` -/

def dSilu (d p : ℝ) : ℝ := d * (sg p * (1 + p * (1 - sg p)))

theorem dSilu_coe (d p : ℝ) : (d : EReal) * ((sg p : EReal) * ((1 : EReal) + (p : EReal) * ((1 : EReal) - (sg p : EReal)))) = (dSilu d p : EReal) := by
  simp only [← EReal.coe_mul, one_coe, ← EReal.coe_add, ← EReal.coe_sub]
  rfl

/-- By the chain rule. -/
theorem dSilu_chain (d p : ℝ) :
    (d : EReal) * (sg p : EReal) + (p : EReal) * (d : EReal) * ((sg p : EReal) * ((1 : EReal) - (sg p : EReal))) = (dSilu d p : EReal) := by
  simp only [← EReal.coe_mul, one_coe, ← EReal.coe_add, ← EReal.coe_sub]
  congr 1; unfold dSilu; ring

theorem sg_coe (p : ℝ) : Ideal.ofBits .f32 0x3F000000#32 * Ideal.tanh (Ideal.ofBits .f32 0x3F000000#32 * (p : EReal)) + Ideal.ofBits .f32 0x3F000000#32 = (sg p : EReal) := by
  rw [ofBits_half, ← sg_tanh, EReal.coe_add, EReal.coe_mul, ← Ideal.tanh_coe, EReal.coe_mul]

end Cert.Proof

end
-- ==== Proof.Extended.lean ====
/- Sequences of extended reals on the rows of a block: delays, the causal convolution, the logistic function; and the readings
   that bring a masked rotation, a 0/1 shift matrix and the two forms of the logistic function to them. No value is excluded. -/
module

public import proofs.«01_k».proof.Proof.Rows

@[expose] public section

noncomputable section

namespace Cert.Proof

open Idealize.ShloMosaic

/-- One example's rows of one column. -/
def erows {C : ℕ} (x : (⟨2, ![4096, C]⟩ : Shape).Idx → EReal) (q : Fin 2) (c : Fin C) (r : Fin 2048) : EReal := x (ix2 (flat q r) c)

/-- A column of a block. -/
abbrev elane {N L : ℕ} (x : (⟨2, ![N, L]⟩ : Shape).Idx → EReal) (l : Fin L) : Fin N → EReal := fun r => x (ix2 r l)

variable {S N : ℕ}

/-- `x` delayed by `s` rows, zeros first. -/
def elag (x : Fin S → EReal) (s : ℕ) (r : Fin S) : EReal := if h : s ≤ r.val then x ⟨r.val - s, by omega⟩ else 0

theorem elag_zero (x : Fin S → EReal) (r : Fin S) : elag x 0 r = x r := by simp [elag]

/-- The causal convolution by `N + 1` taps. -/
def econv (w : Fin (N + 1) → EReal) (x : Fin S → EReal) (r : Fin S) : EReal := ∑ k : Fin (N + 1), w k * elag x (N - k.val) r

/-! ## The reference's shift matrix -/

theorem eshift (x : Fin S → EReal) (a k : ℕ) (hk : k ≤ a) (t : Fin S) :
    (∑ s : Fin S, x s * ((if s.val + a = t.val + k then 1 else 0 : ℝ) : EReal)) = elag x (a - k) t := by
  unfold elag
  split_ifs with h
  · rw [Finset.sum_eq_single (⟨t.val - (a - k), by omega⟩ : Fin S)]
    · rw [if_pos (by show t.val - (a - k) + a = t.val + k; omega), EReal.coe_one, mul_one]
    · intro s _ hs
      rw [if_neg (fun e => hs (Fin.ext (by show s.val = t.val - (a - k); omega))), EReal.coe_zero, mul_zero]
    · exact fun h => absurd (Finset.mem_univ _) h
  · exact Finset.sum_eq_zero fun s _ => by rw [if_neg (by omega), EReal.coe_zero, mul_zero]

/-! ## The kernel's sum of rotations, tap by tap from the last -/

def lastTaps (w : Fin (N + 1) → EReal) (x : Fin S → EReal) (r : Fin S) (n : ℕ) : EReal :=
  ∑ s ∈ Finset.range (n + 1), elag x s r * (if h : s ≤ N then w ⟨N - s, by omega⟩ else 0)

theorem lastTaps_all (w : Fin (N + 1) → EReal) (x : Fin S → EReal) (r : Fin S) : lastTaps w x r N = econv w x r := by
  unfold lastTaps econv
  rw [Finset.sum_range, ← Equiv.sum_comp Fin.revPerm]
  refine Finset.sum_congr rfl fun k _ => ?_
  have hk := k.isLt
  have e : (Fin.revPerm k).val = N - k.val := by show N + 1 - (k.val + 1) = _; omega
  rw [e, dif_pos (by omega), mul_comm]
  exact congrArg₂ _ (congrArg w (Fin.ext (by show N - (N - k.val) = k.val; omega))) rfl

theorem lastTaps_zero (w : Fin (N + 1) → EReal) (x : Fin S → EReal) (r : Fin S) (k : Fin (N + 1)) (hk : k.val = N) : x r * w k = lastTaps w x r 0 := by
  unfold lastTaps
  rw [Finset.sum_range_one, elag_zero, dif_pos (Nat.zero_le _)]
  exact congrArg _ (congrArg w (Fin.ext hk))

theorem lastTaps_succ (w : Fin (N + 1) → EReal) (x : Fin S → EReal) (r : Fin S) (n s : ℕ) (k : Fin (N + 1)) (h : (r.val + S - s) % S < S) (hS : S ≤ 2 ^ 31) (hs31 : s < 2 ^ 31)
    (hs : s = n + 1) (hk : k.val + s = N) :
    lastTaps w x r n + Scalar.select (IntOp.cmpi .sge (BitVec.ofNat 32 r.val) (BitVec.ofNat 32 s)) (x ⟨(r.val + S - s) % S, h⟩ * w k) 0 = lastTaps w x r (n + 1) := by
  have e : Scalar.select (IntOp.cmpi .sge (BitVec.ofNat 32 r.val) (BitVec.ofNat 32 s)) (x ⟨(r.val + S - s) % S, h⟩ * w k) 0 = elag x s r * w k := by
    rw [sel_sge _ _ (by have := r.isLt; omega) hs31]
    unfold elag
    split_ifs with hr
    · congr 2; apply Fin.ext
      show (r.val + S - s) % S = r.val - s
      have := r.isLt
      rw [show r.val + S - s = r.val - s + S by omega, Nat.add_mod_right, Nat.mod_eq_of_lt (by omega)]
    · rw [zero_mul]
  rw [e]
  subst hs
  unfold lastTaps
  rw [Finset.sum_range_succ _ (n + 1), dif_pos (by omega)]
  congr 2
  exact congrArg w (Fin.ext (by show k.val = N - (n + 1); omega))

/-! ## The logistic function -/

def esg (x : EReal) : EReal := Ideal.div 1 ((1 : EReal) + Ideal.exp (-x))

theorem esg_tanh (x : EReal) : Ideal.ofBits .f32 0x3F000000#32 * Ideal.tanh (Ideal.ofBits .f32 0x3F000000#32 * x) + Ideal.ofBits .f32 0x3F000000#32 = esg x := by
  have p : (0 : EReal) < ((1 / 2 : ℝ) : EReal) := EReal.coe_pos.mpr (by norm_num)
  induction x with
  | coe x => rw [sg_coe, esg, sg_div]
  | top =>
    rw [ofBits_half, EReal.mul_top_of_pos p, Ideal.tanh_top, esg, EReal.neg_top, Ideal.exp_bot, add_zero, one_coe, Ideal.div_coe one_ne_zero]
    simp only [← EReal.coe_mul, ← EReal.coe_add]
    norm_num
  | bot =>
    rw [ofBits_half, EReal.mul_bot_of_pos p, Ideal.tanh_bot, esg, EReal.neg_bot, Ideal.exp_top]
    have e : ((1 / 2 : ℝ) : EReal) * -1 + ((1 / 2 : ℝ) : EReal) = 0 := by
      rw [mul_neg, mul_one, ← EReal.coe_neg, ← EReal.coe_add]; norm_num
    rw [e, one_coe, EReal.add_top_of_ne_bot (EReal.coe_ne_bot 1)]
    simp [Ideal.div]

/-- `x * esg x`. -/
def esilu (x : EReal) : EReal := x * esg x

end Cert.Proof

end
-- ==== Proof.QkvF.lean ====
/- The forward call of the short convolution of q, k and v: what the launch leaves, what the reference computes, and that they
   agree. No value is excluded. -/
module

public import proofs.«01_k».proof.Defs
public import proofs.«01_k».proof.Proof.Extended
public import proofs.«01_k».proof.Proof.Gen.QkvFKIdeal.Value
public import proofs.«01_k».proof.Proof.Gen.QkvFRIdeal.Read
public import Idealize.ShloMosaic.Lib.Pipeline.ValueKit.Geometry
public import Idealize.ShloMosaic.Lib.Pipeline.ValueKit.Acc

@[expose] public section

set_option maxRecDepth 16384
set_option maxHeartbeats 1000000

noncomputable section

namespace Cert.Proof.QkvF

open Idealize.ShloMosaic Idealize.ShloMosaic.TcCoe Idealize.SL.Sem

/-- The columns of q, k and v. -/
def qkvs (c : Fin 2048) : Fin 5120 := ⟨2048 + c.val, by have := c.isLt; omega⟩

variable (a0 : (⟨2, ![4096, 5120]⟩ : Shape).Idx → EReal) (a1 : (⟨2, ![4, 2048]⟩ : Shape).Idx → EReal)

/-- What both programs compute. -/
def out (i : (⟨2, ![4096, 2048]⟩ : Shape).Idx) : EReal :=
  esilu (econv (N := 3) (elane a1 (i 1)) (erows a0 (exOf (i 0)) (qkvs (i 1))) (rowOf (i 0)))

/-! ## The launch -/

section Launch
open Cert.QkvFKIdeal Cert.QkvFKIdeal.Gen

theorem off2 : (![0, 0] : Fin 2 → Nat) = fun _ => 0 := by decide

theorem pre_eq (x0 : S2048x128.Idx → EReal) (x1 : S4x128.Idx → EReal) (r : Fin 2048) (l : Fin 128) :
    k0_pay2 (F := Ideal) (View.ld x0 r0_0) (View.ld x1 r0_1) (View.ld x1 r0_2) (View.ld x1 r0_3) (View.ld x1 r0_4) (ix2 r l)
      = econv (N := 3) (elane x1 l) (elane x0 l) r := by
  unfold_payloads
  pointwise
  have z := lastTaps_zero (N := 3) (elane x1 l) (elane x0 l) r
  have s := fun n q k h hq hk => lastTaps_succ (N := 3) (elane x1 l) (elane x0 l) r n q k h (by norm_num) (by subst hq; exact lt_of_le_of_lt (show n + 1 ≤ 3 by have := k.isLt; omega) (by norm_num)) hq hk
  rw [z _ rfl, s _ _ _ _ rfl rfl, s _ _ _ _ rfl rfl, s _ _ _ _ rfl rfl]
  exact lastTaps_all _ _ _

theorem out2_eq (x0 : S2048x128.Idx → EReal) (x1 : S4x128.Idx → EReal) (r : Fin 2048) (l : Fin 128) :
    out0_2 (F := Ideal) x0 x1 (ix2 r l) = esilu (econv (N := 3) (elane x1 l) (elane x0 l) r) := by
  have h := pre_eq x0 x1 r l
  unfold out0_2
  rw [View.canon_unit_zero off2]
  unfold k0_pay1 k0_pay3
  generalize k0_pay2 (F := Ideal) (View.ld x0 r0_0) (View.ld x1 r0_1) (View.ld x1 r0_2) (View.ld x1 r0_3) (View.ld x1 r0_4) = p at *
  pointwise
  rw [h, esg_tanh]
  rfl

theorem blk0 : ∀ t : Fin cfg0.N, win0_0.index t = ![win0_2.index t 0, 16 + win0_2.index t 1] := (by decide +kernel : ∀ t : Fin grid0.N, _)
theorem blk1 : ∀ t : Fin cfg0.N, win0_1.index t = ![0, win0_2.index t 1] := (by decide +kernel : ∀ t : Fin grid0.N, _)
theorem blk2 : ∀ t : Fin cfg0.N, win0_2.index t 0 < 2 ∧ win0_2.index t 1 < 16 := (by decide +kernel : ∀ t : Fin grid0.N, _)

variable (m : (ℓ : Loc nD τ sig) → Buf (Elt Ideal) ℓ) (c : Dev nD) (t : Fin cfg0.N)

/-- The example and the column a point's lane is at. -/
def exq : Fin 2 := ⟨win0_2.index t 0, (blk2 t).1⟩
def coll (l : Fin 128) : Fin 2048 := ⟨win0_2.index t 1 * 128 + l.val, by have := (blk2 t).2; have := l.isLt; omega⟩

theorem in0 (h : m ((c : Thread nD τ).loc main_arg0) = a0) :
    iblk m c 0 t = (fun y : S2048x128.Idx => erows a0 (exq t) (qkvs (coll t (y 1))) (y 0)) := by
  have hV := (V_main_arg0 m c).trans h
  funext y
  show V m c main_arg0 (((cfg0.win 0).blk t).view.emb y) = _
  rw [hV]
  refine congrArg a0 (funext fun a => Fin.ext ?_)
  have e := blk0 t
  match a with
  | ⟨0, _⟩ => show win0_0.index t 0 * 2048 + 1 * (y 0).val = win0_2.index t 0 * 2048 + (y 0).val; rw [e]; show win0_2.index t 0 * 2048 + _ = _; omega
  | ⟨1, _⟩ => show win0_0.index t 1 * 128 + 1 * (y 1).val = 2048 + (win0_2.index t 1 * 128 + (y 1).val); rw [e]; show (16 + win0_2.index t 1) * 128 + _ = _; omega

theorem in1 (h : m ((c : Thread nD τ).loc main_arg1) = a1) :
    iblk m c 1 t = (fun y : S4x128.Idx => elane a1 (coll t (y 1)) (y 0)) := by
  have hV := (V_main_arg1 m c).trans h
  funext y
  show V m c main_arg1 (((cfg0.win 1).blk t).view.emb y) = _
  rw [hV]
  refine congrArg a1 (funext fun a => Fin.ext ?_)
  have e := blk1 t
  match a with
  | ⟨0, _⟩ => show win0_1.index t 0 * 4 + 1 * (y 0).val = (y 0).val; rw [e]; show 0 * 4 + _ = _; omega
  | ⟨1, _⟩ => show win0_1.index t 1 * 128 + 1 * (y 1).val = win0_2.index t 1 * 128 + (y 1).val; rw [e]; show win0_2.index t 1 * 128 + _ = _; omega

theorem out_at (q : Fin 2) (r : Fin 2048) (n : Fin 2048) :
    out a0 a1 (ix2 (flat q r) n) = esilu (econv (N := 3) (elane a1 n) (erows a0 q (qkvs n)) r) := by
  show esilu (econv (N := 3) (elane a1 n) (erows a0 (exOf (flat q r)) (qkvs n)) (rowOf (flat q r))) = _
  rw [exOf_flat, rowOf_flat]

theorem arr2 (h0 : m ((c : Thread nD τ).loc main_arg0) = a0) (h1 : m ((c : Thread nD τ).loc main_arg1) = a1) :
    (dats m 0 c).arrAt 2 cfg0.N = out a0 a1 := by
  refine (dats m 0 c).arrAt_eq_of_covers 2 _ (by decide +kernel) fun t _ j => ?_
  refine (congrFun (Value.flushed2 m c t) j).trans ?_
  rw [in0 a0 m c t h0, in1 a1 m c t h1]
  show out0_2 (F := Ideal) _ _ j = out a0 a1 (((cfg0.win 2).blk t).view.emb j)
  obtain ⟨r, l, rfl⟩ : ∃ (r : Fin 2048) (l : Fin 128), j = ix2 r l := ⟨j 0, j 1, eq_ix2 j⟩
  refine (out2_eq _ _ r l).trans ((out_at a0 a1 (exq t) r (coll t l)).symm.trans ?_)
  refine congrArg (out a0 a1) (funext fun a => Fin.ext ?_)
  match a with
  | ⟨0, _⟩ => show win0_2.index t 0 * 2048 + r.val = win0_2.index t 0 * 2048 + 1 * r.val; omega
  | ⟨1, _⟩ => show win0_2.index t 1 * 128 + l.val = win0_2.index t 1 * 128 + 1 * l.val; omega

end Launch

/-! ## The reference -/

section Reference
open Cert.QkvFRIdeal Cert.QkvFRIdeal.Gen Cert.QkvFRIdeal.Read

theorem ref_in (q : Fin 2) (r : Fin 2048) (c : Fin 2048) :
    val_main_v1 (F := Ideal) a0 (ix3 q r c) = erows a0 q (qkvs c) r := by
  pointwise [val_main_v1, val_main_v0]
  rfl

theorem ref_shift (k : Fin 4) (t s : Fin 2048) :
    val_main_v10 (F := Ideal) (ix3 k t s) = ((if s.val + 3 = t.val + k.val then 1 else 0 : ℝ) : EReal) := by
  pointwise [val_main_v10, val_main_v9, val_main_v8, val_main_v7, val_main_v6, val_main_v5, val_main_v4, val_main_v3, val_main_c, val_main_call0_v0, val_main_call0_v1, val_main_cst, val_main_cst_0]
  exact shift_entry _ _ _ _ (by have := s.isLt; omega) (by have := t.isLt; have := k.isLt; omega)

theorem ref_lag (q : Fin 2) (k : Fin 4) (r : Fin 2048) (c : Fin 2048) :
    val_main_v13 (F := Ideal) a0 (ix4 q k r c) = elag (erows a0 q (qkvs c)) (3 - k.val) r := by
  have g := fun r => ref_in a0 q r c
  have h := fun k t s => ref_shift k t s
  unfold val_main_v13 val_main_v12
  generalize val_main_v1 (F := Ideal) a0 = A at *
  generalize val_main_v10 (F := Ideal) = B at *
  pointwise
  simp only [g, h]
  exact eshift _ 3 k.val (by have := k.isLt; omega) r

theorem ref_pre (q : Fin 2) (r : Fin 2048) (c : Fin 2048) :
    val_main_v16 (F := Ideal) a0 a1 (ix3 q r c) = econv (N := 3) (elane a1 c) (erows a0 q (qkvs c)) r := by
  have g := fun k => ref_lag a0 q k r c
  unfold val_main_v16 val_main_v15
  generalize val_main_v13 (F := Ideal) a0 = A at *
  pointwise [val_main_v14, val_main_v11, val_main_v2, val_main_cst_1]
  simp only [g]
  rfl

theorem ref_out : val_main_v18 (F := Ideal) a0 a1 = out a0 a1 := by
  funext i
  obtain ⟨R, n, rfl⟩ : ∃ (R : Fin 4096) (n : Fin 2048), i = ix2 R n := ⟨i 0, i 1, eq_ix2 i⟩
  have g := ref_pre a0 a1 (exOf R) (rowOf R) n
  have e : out a0 a1 (ix2 R n) = esilu (val_main_v16 (F := Ideal) a0 a1 (ix3 (exOf R) (rowOf R) n)) := by rw [g]; rfl
  rw [e]
  unfold val_main_v18 val_main_v17 val_main_call1_v5 val_main_call1_v3 val_main_call1_v1 val_main_call1_v0
  generalize val_main_v16 (F := Ideal) a0 a1 = A
  pointwise [val_main_call1_v4, val_main_call1_v2, val_main_call1_cst, val_main_call1_cst_0]
  rfl

end Reference

/-! ## The claims -/

theorem frame_reference : Cert.quiescent_QkvFRIdeal (hQkvFRIdeal := Cert.QkvFRIdeal.Gen.facts) := fun m ρ _ =>
  (θ_run _ _ _).mono (fun r h => ⟨fun c => (h c).2, sem_eq_zero_of_no_sems (by decide) r.2⟩) (Cert.QkvFRIdeal.Value.run m ρ)

open Cert.QkvFKIdeal Cert.QkvFKIdeal.Gen in
theorem algebraic : Cert.algebraic_QkvFKIdeal_QkvFRIdeal (hQkvFKIdeal := Cert.QkvFKIdeal.Gen.facts) (hQkvFRIdeal := Cert.QkvFRIdeal.Gen.facts) := by
  intro m g m' g' _ hm
  refine ⟨fun c => out (m ((c : Thread nD τ).loc main_arg0)) (m ((c : Thread nD τ).loc main_arg1)), ?_, ?_⟩
  · refine (θ_run Cert.QkvFKIdeal.defs _ _).mono (fun r h c => ?_) (Value.run_blocks m g)
    exact ⟨(h c).1.trans (arr2 _ _ m c rfl rfl), (h c).2⟩
  · refine (θ_run Cert.QkvFRIdeal.defs _ _).mono (fun r h c => ?_) (Cert.QkvFRIdeal.Value.run m' g')
    obtain ⟨q0, q1⟩ := hm c
    refine ⟨(h c).1.trans ?_, (h c).2⟩
    rw [Cert.QkvFRIdeal.Read.val_main_v18_eq, q0, q1]
    exact ref_out _ _

end Cert.Proof.QkvF

end
-- ==== Proof.FfnF.lean ====
/- The forward call of the feed-forward activation: what the launch leaves, what the reference computes, and that they
   agree. No value is excluded. -/
module

public import proofs.«01_k».proof.Defs
public import proofs.«01_k».proof.Proof.Extended
public import proofs.«01_k».proof.Proof.Gen.FfnFKIdeal.Value
public import proofs.«01_k».proof.Proof.Gen.FfnFRIdeal.Read
public import Idealize.ShloMosaic.Lib.Pipeline.ValueKit.Geometry
public import Idealize.ShloMosaic.Lib.Pipeline.ValueKit.Acc

@[expose] public section

set_option maxRecDepth 16384
set_option maxHeartbeats 1000000

noncomputable section

namespace Cert.Proof.FfnF

open Idealize.ShloMosaic Idealize.ShloMosaic.TcCoe Idealize.SL.Sem

/-- The column of the gate, and of its partner. -/
def gat (c : Fin 5632) : Fin 11264 := ⟨c.val, by have := c.isLt; omega⟩
def upc (c : Fin 5632) : Fin 11264 := ⟨5632 + c.val, by have := c.isLt; omega⟩

variable (a0 : (⟨2, ![4096, 11264]⟩ : Shape).Idx → EReal) (a1 : (⟨2, ![3, 5632]⟩ : Shape).Idx → EReal) (a2 : (⟨1, ![5632]⟩ : Shape).Idx → EReal)

/-- The convolved gate, and what both programs compute. -/
def pre (q : Fin 2) (r : Fin 2048) (n : Fin 5632) : EReal := econv (N := 2) (elane a1 n) (erows a0 q (gat n)) r + a2 (ix1 n)
def out (i : (⟨2, ![4096, 5632]⟩ : Shape).Idx) : EReal :=
  esilu (pre a0 a1 a2 (exOf (i 0)) (rowOf (i 0)) (i 1)) * erows a0 (exOf (i 0)) (upc (i 1)) (rowOf (i 0))

/-! ## The launch -/

section Launch
open Cert.FfnFKIdeal Cert.FfnFKIdeal.Gen

theorem off2 : (![0, 0] : Fin 2 → Nat) = fun _ => 0 := by decide

theorem act_eq (x0 : S2048x256.Idx → EReal) (x2 : S3x256.Idx → EReal) (x3 : S1x256.Idx → EReal) (r : Fin 2048) (l : Fin 256) :
    k0_pay2 (F := Ideal) (View.ld x0 r0_0) (View.ld x2 r0_1) (View.ld x2 r0_2) (View.ld x2 r0_3) (View.ld x3 r0_4) (ix2 r l)
      = esilu (econv (N := 2) (elane x2 l) (elane x0 l) r + x3 (ix2 0 l)) := by
  unfold_payloads
  pointwise
  have z := lastTaps_zero (N := 2) (elane x2 l) (elane x0 l) r
  have s := fun n q k h hq hk => lastTaps_succ (N := 2) (elane x2 l) (elane x0 l) r n q k h (by norm_num) (by subst hq; exact lt_of_le_of_lt (show n + 1 ≤ 2 by have := k.isLt; omega) (by norm_num)) hq hk
  rw [z _ rfl, s _ _ _ _ rfl rfl, s _ _ _ _ rfl rfl, lastTaps_all, esg_tanh]
  rfl

theorem out4_eq (x0 x1 : S2048x256.Idx → EReal) (x2 : S3x256.Idx → EReal) (x3 : S1x256.Idx → EReal) (r : Fin 2048) (l : Fin 256) :
    out0_4 (F := Ideal) x0 x1 x2 x3 (ix2 r l) = esilu (econv (N := 2) (elane x2 l) (elane x0 l) r + x3 (ix2 0 l)) * x1 (ix2 r l) := by
  have h := act_eq x0 x2 x3 r l
  unfold out0_4
  rw [View.canon_unit_zero off2]
  unfold k0_pay1
  generalize k0_pay2 (F := Ideal) (View.ld x0 r0_0) (View.ld x2 r0_1) (View.ld x2 r0_2) (View.ld x2 r0_3) (View.ld x3 r0_4) = p at *
  pointwise
  rw [h]

theorem blk0 : ∀ t : Fin cfg0.N, win0_0.index t = ![win0_4.index t 0, win0_4.index t 1] := (by decide +kernel : ∀ t : Fin grid0.N, _)
theorem blk1 : ∀ t : Fin cfg0.N, win0_1.index t = ![win0_4.index t 0, 22 + win0_4.index t 1] := (by decide +kernel : ∀ t : Fin grid0.N, _)
theorem blk2 : ∀ t : Fin cfg0.N, win0_2.index t = ![0, win0_4.index t 1] := (by decide +kernel : ∀ t : Fin grid0.N, _)
theorem blk3 : ∀ t : Fin cfg0.N, win0_3.index t = ![0, win0_4.index t 1] := (by decide +kernel : ∀ t : Fin grid0.N, _)
theorem blk4 : ∀ t : Fin cfg0.N, win0_4.index t 0 < 2 ∧ win0_4.index t 1 < 22 := (by decide +kernel : ∀ t : Fin grid0.N, _)

variable (m : (ℓ : Loc nD τ sig) → Buf (Elt Ideal) ℓ) (c : Dev nD) (t : Fin cfg0.N)

/-- The example and the column a point's lane is at. -/
def exq : Fin 2 := ⟨win0_4.index t 0, (blk4 t).1⟩
def coll (l : Fin 256) : Fin 5632 := ⟨win0_4.index t 1 * 256 + l.val, by have := (blk4 t).2; have := l.isLt; omega⟩

theorem in0 (h : m ((c : Thread nD τ).loc main_arg0) = a0) :
    iblk m c 0 t = (fun y : S2048x256.Idx => erows a0 (exq t) (gat (coll t (y 1))) (y 0)) := by
  have hV := (V_main_arg0 m c).trans h
  funext y
  show V m c main_arg0 (((cfg0.win 0).blk t).view.emb y) = _
  rw [hV]
  refine congrArg a0 (funext fun a => Fin.ext ?_)
  have e := blk0 t
  match a with
  | ⟨0, _⟩ => show win0_0.index t 0 * 2048 + 1 * (y 0).val = win0_4.index t 0 * 2048 + (y 0).val; rw [e]; show win0_4.index t 0 * 2048 + _ = _; omega
  | ⟨1, _⟩ => show win0_0.index t 1 * 256 + 1 * (y 1).val = win0_4.index t 1 * 256 + (y 1).val; rw [e]; show win0_4.index t 1 * 256 + _ = _; omega

theorem in1 (h : m ((c : Thread nD τ).loc main_arg0) = a0) :
    iblk m c 1 t = (fun y : S2048x256.Idx => erows a0 (exq t) (upc (coll t (y 1))) (y 0)) := by
  have hV := (V_main_arg0 m c).trans h
  funext y
  show V m c main_arg0 (((cfg0.win 1).blk t).view.emb y) = _
  rw [hV]
  refine congrArg a0 (funext fun a => Fin.ext ?_)
  have e := blk1 t
  match a with
  | ⟨0, _⟩ => show win0_1.index t 0 * 2048 + 1 * (y 0).val = win0_4.index t 0 * 2048 + (y 0).val; rw [e]; show win0_4.index t 0 * 2048 + _ = _; omega
  | ⟨1, _⟩ => show win0_1.index t 1 * 256 + 1 * (y 1).val = 5632 + (win0_4.index t 1 * 256 + (y 1).val); rw [e]; show (22 + win0_4.index t 1) * 256 + _ = _; omega

theorem in2 (h : m ((c : Thread nD τ).loc main_arg1) = a1) :
    iblk m c 2 t = (fun y : S3x256.Idx => elane a1 (coll t (y 1)) (y 0)) := by
  have hV := (V_main_arg1 m c).trans h
  funext y
  show V m c main_arg1 (((cfg0.win 2).blk t).view.emb y) = _
  rw [hV]
  refine congrArg a1 (funext fun a => Fin.ext ?_)
  have e := blk2 t
  match a with
  | ⟨0, _⟩ => show win0_2.index t 0 * 3 + 1 * (y 0).val = (y 0).val; rw [e]; show 0 * 3 + _ = _; omega
  | ⟨1, _⟩ => show win0_2.index t 1 * 256 + 1 * (y 1).val = win0_4.index t 1 * 256 + (y 1).val; rw [e]; show win0_4.index t 1 * 256 + _ = _; omega

theorem V_bias (h : m ((c : Thread nD τ).loc main_arg2) = a2) (k : Fin 1) (n : Fin 5632) :
    (V m c main_v0 : S1x5632.Idx → EReal) (ix2 k n) = a2 (ix1 n) := by
  have e : (V m c main_v0 : S1x5632.Idx → EReal) = shapeCast S1x5632 (a2 : S5632.Idx → EReal) shapeCasts_S5632_S1x5632 := by
    rw [← h]; rfl
  rw [e]
  pointwise

theorem in3 (h : m ((c : Thread nD τ).loc main_arg2) = a2) :
    iblk m c 3 t = (fun y : S1x256.Idx => a2 (ix1 (coll t (y 1)))) := by
  funext y
  show V m c main_v0 (((cfg0.win 3).blk t).view.emb y) = _
  refine Eq.trans ?_ (V_bias a2 m c h 0 (coll t (y 1)))
  refine congrArg (V m c main_v0) (funext fun a => Fin.ext ?_)
  have e := blk3 t
  match a with
  | ⟨0, _⟩ => show win0_3.index t 0 * 1 + 1 * (y 0).val = 0; rw [e]; show 0 * 1 + 1 * (y 0).val = 0; have : (y 0).val < 1 := (y 0).isLt; omega
  | ⟨1, _⟩ => show win0_3.index t 1 * 256 + 1 * (y 1).val = win0_4.index t 1 * 256 + (y 1).val; rw [e]; show win0_4.index t 1 * 256 + _ = _; omega

theorem out_at (q : Fin 2) (r : Fin 2048) (n : Fin 5632) :
    out a0 a1 a2 (ix2 (flat q r) n) = esilu (pre a0 a1 a2 q r n) * erows a0 q (upc n) r := by
  show esilu (pre a0 a1 a2 (exOf (flat q r)) (rowOf (flat q r)) n) * erows a0 (exOf (flat q r)) (upc n) (rowOf (flat q r)) = _
  rw [exOf_flat, rowOf_flat]

theorem arr4 (h0 : m ((c : Thread nD τ).loc main_arg0) = a0) (h1 : m ((c : Thread nD τ).loc main_arg1) = a1) (h2 : m ((c : Thread nD τ).loc main_arg2) = a2) :
    (dats m 0 c).arrAt 4 cfg0.N = out a0 a1 a2 := by
  refine (dats m 0 c).arrAt_eq_of_covers 4 _ (by decide +kernel) fun t _ j => ?_
  refine (congrFun (Value.flushed4 m c t) j).trans ?_
  rw [in0 a0 m c t h0, in1 a0 m c t h0, in2 a1 m c t h1, in3 a2 m c t h2]
  show out0_4 (F := Ideal) _ _ _ _ j = out a0 a1 a2 (((cfg0.win 4).blk t).view.emb j)
  obtain ⟨r, l, rfl⟩ : ∃ (r : Fin 2048) (l : Fin 256), j = ix2 r l := ⟨j 0, j 1, eq_ix2 j⟩
  refine (out4_eq _ _ _ _ r l).trans ((out_at a0 a1 a2 (exq t) r (coll t l)).symm.trans ?_)
  refine congrArg (out a0 a1 a2) (funext fun a => Fin.ext ?_)
  match a with
  | ⟨0, _⟩ => show win0_4.index t 0 * 2048 + r.val = win0_4.index t 0 * 2048 + 1 * r.val; omega
  | ⟨1, _⟩ => show win0_4.index t 1 * 256 + l.val = win0_4.index t 1 * 256 + 1 * l.val; omega

end Launch

/-! ## The reference -/

section Reference
open Cert.FfnFRIdeal Cert.FfnFRIdeal.Gen Cert.FfnFRIdeal.Read

theorem ref_gate (q : Fin 2) (r : Fin 2048) (c : Fin 5632) :
    val_main_v2 (F := Ideal) a0 (ix3 q r c) = erows a0 q (gat c) r := by
  pointwise [val_main_v2, val_main_v1, val_main_v0]
  rfl

theorem ref_up (q : Fin 2) (r : Fin 2048) (c : Fin 5632) :
    val_main_v3 (F := Ideal) a0 (ix3 q r c) = erows a0 q (upc c) r := by
  pointwise [val_main_v3, val_main_v1, val_main_v0]
  rfl

theorem ref_shift (k : Fin 3) (t s : Fin 2048) :
    val_main_v13 (F := Ideal) (ix3 k t s) = ((if s.val + 2 = t.val + k.val then 1 else 0 : ℝ) : EReal) := by
  pointwise [val_main_v13, val_main_v12, val_main_v11, val_main_v10, val_main_v9, val_main_v8, val_main_v7, val_main_v6, val_main_c, val_main_call0_v0, val_main_call0_v1, val_main_cst, val_main_cst_0]
  exact shift_entry _ _ _ _ (by have := s.isLt; omega) (by have := t.isLt; have := k.isLt; omega)

theorem ref_lag (q : Fin 2) (k : Fin 3) (r : Fin 2048) (c : Fin 5632) :
    val_main_v16 (F := Ideal) a0 (ix4 q k r c) = elag (erows a0 q (gat c)) (2 - k.val) r := by
  have g := fun r => ref_gate a0 q r c
  have h := fun k t s => ref_shift k t s
  unfold val_main_v16 val_main_v15
  generalize val_main_v2 (F := Ideal) a0 = A at *
  generalize val_main_v13 (F := Ideal) = B at *
  pointwise
  simp only [g, h]
  exact eshift _ 2 k.val (by have := k.isLt; omega) r

theorem ref_pre (q : Fin 2) (r : Fin 2048) (c : Fin 5632) :
    val_main_v22 (F := Ideal) a0 a1 a2 (ix3 q r c) = pre a0 a1 a2 q r c := by
  have g := fun k => ref_lag a0 q k r c
  unfold val_main_v22 val_main_v19 val_main_v18
  generalize val_main_v16 (F := Ideal) a0 = A at *
  pointwise [val_main_v17, val_main_v14, val_main_v4, val_main_cst_1, val_main_v21, val_main_v20, val_main_v5]
  simp only [g]
  rfl

theorem ref_out : val_main_v26 (F := Ideal) a0 a1 a2 = out a0 a1 a2 := by
  funext i
  obtain ⟨R, n, rfl⟩ : ∃ (R : Fin 4096) (n : Fin 5632), i = ix2 R n := ⟨i 0, i 1, eq_ix2 i⟩
  have e : out a0 a1 a2 (ix2 R n) = esilu (val_main_v22 (F := Ideal) a0 a1 a2 (ix3 (exOf R) (rowOf R) n)) * val_main_v3 (F := Ideal) a0 (ix3 (exOf R) (rowOf R) n) := by
    rw [ref_pre, ref_up]; rfl
  rw [e]
  unfold val_main_v26 val_main_v25 val_main_v24 val_main_v23 val_main_call1_v5 val_main_call1_v3 val_main_call1_v1 val_main_call1_v0
  generalize val_main_v22 (F := Ideal) a0 a1 a2 = A
  generalize val_main_v3 (F := Ideal) a0 = B
  pointwise [val_main_call1_v4, val_main_call1_v2, val_main_call1_cst, val_main_call1_cst_0]
  rfl

end Reference

/-! ## The claims -/

theorem frame_reference : Cert.quiescent_FfnFRIdeal (hFfnFRIdeal := Cert.FfnFRIdeal.Gen.facts) := fun m ρ _ =>
  (θ_run _ _ _).mono (fun r h => ⟨fun c => (h c).2, sem_eq_zero_of_no_sems (by decide) r.2⟩) (Cert.FfnFRIdeal.Value.run m ρ)

open Cert.FfnFKIdeal Cert.FfnFKIdeal.Gen in
theorem algebraic : Cert.algebraic_FfnFKIdeal_FfnFRIdeal (hFfnFKIdeal := Cert.FfnFKIdeal.Gen.facts) (hFfnFRIdeal := Cert.FfnFRIdeal.Gen.facts) := by
  intro m g m' g' _ hm
  refine ⟨fun c => out (m ((c : Thread nD τ).loc main_arg0)) (m ((c : Thread nD τ).loc main_arg1)) (m ((c : Thread nD τ).loc main_arg2)), ?_, ?_⟩
  · refine (θ_run Cert.FfnFKIdeal.defs _ _).mono (fun r h c => ?_) (Value.run_blocks m g)
    exact ⟨(h c).1.trans (arr4 _ _ _ m c rfl rfl rfl), (h c).2⟩
  · refine (θ_run Cert.FfnFRIdeal.defs _ _).mono (fun r h c => ?_) (Cert.FfnFRIdeal.Value.run m' g')
    obtain ⟨q0, q1, q2⟩ := hm c
    refine ⟨(h c).1.trans ?_, (h c).2⟩
    rw [Cert.FfnFRIdeal.Read.val_main_v26_eq, q0, q1, q2]
    exact ref_out _ _ _

end Cert.Proof.FfnF

end
-- ==== Proof.GroupNorm.lean ====
/- Layer normalisation of a row of 128 real channels followed by `x * sg x`, and its gradients; over real numbers, and as the
   extended-real expressions that reduce to it. -/
module

public import proofs.«01_k».proof.Proof.Rows

@[expose] public section

noncomputable section

namespace Cert.Proof.Conf

open Idealize.ShloMosaic

/-! ## One row -/

def mean (x : Fin 128 → ℝ) : ℝ := (∑ i, x i) / 128
def cen (x : Fin 128 → ℝ) (i : Fin 128) : ℝ := x i - mean x

/-- The constant added to the variance. -/
def eps : ℝ := (Ideal.ofBits .f32 0x358637BD#32).toReal
def var (x : Fin 128 → ℝ) : ℝ := mean (fun i => cen x i * cen x i) + eps
def inv (x : Fin 128 → ℝ) : ℝ := (Real.sqrt (var x))⁻¹
def hat (x : Fin 128 → ℝ) (i : Fin 128) : ℝ := cen x i * inv x

/-- The gradient in the row, of the cotangent `g` of the normalised row. -/
def back (x g : Fin 128 → ℝ) (i : Fin 128) : ℝ := inv x * (g i - mean g - hat x i * mean fun j => g j * hat x j)

theorem eps_coe : Ideal.ofBits .f32 0x358637BD#32 = (eps : EReal) := by
  obtain ⟨e, _, h⟩ := ofBits_eps
  unfold eps
  rw [h]; rfl

theorem eps_pos : 0 < eps := by
  obtain ⟨e, p, h⟩ := ofBits_eps
  unfold eps
  rw [h]; exact p

theorem var_pos (x : Fin 128 → ℝ) : 0 < var x := by
  unfold var mean
  have := Finset.sum_nonneg (s := Finset.univ) fun i (_ : i ∈ Finset.univ) => mul_self_nonneg (cen x i)
  have := eps_pos
  positivity

theorem ofBits_128 : Ideal.ofBits .f32 0x43000000#32 = ((128 : ℝ) : EReal) := by
  simp [Ideal.ofBits, Ideal.ieee, -EReal.coe_mul]; norm_num

theorem mean_coe (x : Fin 128 → ℝ) : Ideal.div (∑ i, (x i : EReal)) (Ideal.ofBits .f32 0x43000000#32) = (mean x : EReal) := by
  rw [ofBits_128, Ideal.div_coe (by norm_num), ← coe_sum, ← EReal.coe_mul, mul_one_div]
  rfl

theorem cen_coe (x : Fin 128 → ℝ) (i : Fin 128) :
    (x i : EReal) - Ideal.div (∑ i, (x i : EReal)) (Ideal.ofBits .f32 0x43000000#32) = (cen x i : EReal) := by
  rw [mean_coe, ← EReal.coe_sub]; rfl

theorem var_coe (x : Fin 128 → ℝ) :
    Ideal.div (∑ i, (cen x i : EReal) * (cen x i : EReal)) (Ideal.ofBits .f32 0x43000000#32) + Ideal.ofBits .f32 0x358637BD#32 = (var x : EReal) := by
  simp only [← EReal.coe_mul]
  rw [mean_coe, eps_coe, ← EReal.coe_add]; rfl

theorem inv_coe (x : Fin 128 → ℝ) : Ideal.rsqrt (var x : EReal) = (inv x : EReal) := by
  rw [Ideal.rsqrt_coe, if_neg (not_lt.mpr (var_pos x).le), if_neg (var_pos x).ne']; rfl

theorem cube_coe (x : Fin 128 → ℝ) : Ideal.div (inv x : EReal) (var x : EReal) = ((inv x * inv x * inv x : ℝ) : EReal) := by
  have hp := var_pos x
  rw [Ideal.div_coe hp.ne', ← EReal.coe_mul]
  congr 1
  unfold inv
  have q := Real.mul_self_sqrt hp.le
  have n : Real.sqrt (var x) ≠ 0 := (Real.sqrt_pos.mpr hp).ne'
  generalize Real.sqrt (var x) = b at q n
  rw [← q]
  field_simp

theorem sum_cen (x : Fin 128 → ℝ) : ∑ i, cen x i = 0 := by
  simp only [cen, Finset.sum_sub_distrib, Finset.sum_const, Finset.card_univ, Fintype.card_fin, nsmul_eq_mul, mean]
  push_cast; ring

/-- The kernel's form. -/
theorem back_coe (x g : Fin 128 → ℝ) (i : Fin 128) :
    (inv x : EReal) * ((g i : EReal) - Ideal.div (∑ j, (g j : EReal)) (Ideal.ofBits .f32 0x43000000#32)
      - (hat x i : EReal) * Ideal.div (∑ j, (g j : EReal) * (hat x j : EReal)) (Ideal.ofBits .f32 0x43000000#32)) = (back x g i : EReal) := by
  simp only [← EReal.coe_mul]
  rw [mean_coe, mean_coe]
  simp only [← EReal.coe_mul, ← EReal.coe_sub]
  rfl

/-- The part of the gradient that comes through the variance: half of it. -/
def half (x g : Fin 128 → ℝ) : ℝ := (∑ j, cen x j * g j) * (-(1 / 2) * (inv x * inv x * inv x)) / 128

/-- By the chain rule, the mean's part last. -/
theorem back_chain (x g : Fin 128 → ℝ) (i : Fin 128) :
    (g i * inv x + cen x i * half x g + half x g * cen x i) + (∑ j, -(g j * inv x + cen x j * half x g + half x g * cen x j)) / 128 = back x g i := by
  have e : ∑ j, -(g j * inv x + cen x j * half x g + half x g * cen x j) = -((∑ j, g j) * inv x) := by
    rw [Finset.sum_neg_distrib, Finset.sum_add_distrib, Finset.sum_add_distrib, ← Finset.sum_mul, ← Finset.sum_mul, ← Finset.mul_sum, sum_cen]
    ring
  have s : ∑ j, g j * hat x j = (∑ j, cen x j * g j) * inv x := by
    rw [Finset.sum_mul]
    exact Finset.sum_congr rfl fun j _ => by unfold hat; ring
  rw [e]
  unfold back half hat mean at *
  rw [s]
  ring

/-! ## A group: its rows `u` of 128 channels, cotangents `d`, the values `v` and gates `a` before the convolution -/

variable (u d v a : Fin 2048 → Fin 128 → ℝ) (w : Fin 31 → Fin 128 → ℝ) (g b : Fin 128 → ℝ)

/-- The normalised rows, scaled and shifted. -/
def pre (r : Fin 2048) (l : Fin 128) : ℝ := hat (u r) l * g l + b l

/-- Their cotangents. -/
def dPre (r : Fin 2048) (l : Fin 128) : ℝ := dSilu (d r l) (pre u g b r l)

/-- The cotangents of the convolution's result. -/
def dConv (l : Fin 128) (r : Fin 2048) : ℝ := back (u r) (fun j => dPre u d g b r j * g j) l

/-- The gated rows: the convolution's argument, and its cotangent. -/
def gated (l : Fin 128) (r : Fin 2048) : ℝ := v r l * sg (a r l)
def dGated (r : Fin 2048) (l : Fin 128) : ℝ := convT (fun k => w k l) (dConv u d g b l) r

def dVal (r : Fin 2048) (l : Fin 128) : ℝ := dGated u d w g b r l * sg (a r l)
def dGate (r : Fin 2048) (l : Fin 128) : ℝ := dGated u d w g b r l * v r l * sg (a r l) * (1 - sg (a r l))
def dTap (k : Fin 31) (l : Fin 128) : ℝ := tapGrad (dConv u d g b l) (gated v a l) (30 - k.val)

/-- The sums over the rows: the gradients in the convolution's bias, the norm's scale and shift, and the sum of the rows `o`. -/
def sums (o : Fin 2048 → Fin 128 → EReal) (q : ℕ) (l : Fin 128) : EReal :=
  if q = 3 then ∑ r, o r l else if q = 2 then ((∑ r, dPre u d g b r l : ℝ) : EReal)
  else if q = 1 then ((∑ r, dPre u d g b r l * hat (u r) l : ℝ) : EReal) else if q = 0 then ((∑ r, dConv u d g b l r : ℝ) : EReal) else 0

/-! ## The arrays: two examples' rows, eight groups of channels -/

def chan (h : Fin 8) (l : Fin 128) : Fin 1024 := ⟨h.val * 128 + l.val, by have := h.isLt; have := l.isLt; omega⟩
def grpOf (c : Fin 1024) : Fin 8 := ⟨c.val / 128, by have := c.isLt; omega⟩
def lnOf (c : Fin 1024) : Fin 128 := ⟨c.val % 128, Nat.mod_lt _ (by norm_num)⟩

theorem grpOf_chan (h : Fin 8) (l : Fin 128) : grpOf (chan h l) = h :=
  Fin.ext (by show (h.val * 128 + l.val) / 128 = h.val; have := l.isLt; omega)
theorem lnOf_chan (h : Fin 8) (l : Fin 128) : lnOf (chan h l) = l :=
  Fin.ext (by show (h.val * 128 + l.val) % 128 = l.val; have := l.isLt; omega)
theorem chan_of (c : Fin 1024) : chan (grpOf c) (lnOf c) = c :=
  Fin.ext (by show c.val / 128 * 128 + c.val % 128 = c.val; omega)

/-- The columns of the values and of the gates. -/
def valc (c : Fin 1024) : Fin 5120 := ⟨c.val, by have := c.isLt; omega⟩
def gatec (c : Fin 1024) : Fin 5120 := ⟨1024 + c.val, by have := c.isLt; omega⟩

/-- One example's rows of one group; a group's taps; a group's share of a vector. -/
def grp {α : Type} (x : (⟨2, ![4096, 1024]⟩ : Shape).Idx → α) (q : Fin 2) (h : Fin 8) (r : Fin 2048) (l : Fin 128) : α := x (ix2 (flat q r) (chan h l))
def vals (x : (⟨2, ![4096, 5120]⟩ : Shape).Idx → ℝ) (q : Fin 2) (h : Fin 8) (r : Fin 2048) (l : Fin 128) : ℝ := x (ix2 (flat q r) (valc (chan h l)))
def gates (x : (⟨2, ![4096, 5120]⟩ : Shape).Idx → ℝ) (q : Fin 2) (h : Fin 8) (r : Fin 2048) (l : Fin 128) : ℝ := x (ix2 (flat q r) (gatec (chan h l)))
def tap (x : (⟨2, ![31, 1024]⟩ : Shape).Idx → ℝ) (h : Fin 8) (k : Fin 31) (l : Fin 128) : ℝ := x (ix2 k (chan h l))
def per (x : (⟨1, ![1024]⟩ : Shape).Idx → ℝ) (h : Fin 8) (l : Fin 128) : ℝ := x (ix1 (chan h l))

variable (P : (⟨2, ![4096, 5120]⟩ : Shape).Idx → ℝ) (U D : (⟨2, ![4096, 1024]⟩ : Shape).Idx → ℝ) (W : (⟨2, ![31, 1024]⟩ : Shape).Idx → ℝ)
  (G B : (⟨1, ![1024]⟩ : Shape).Idx → ℝ) (O : (⟨2, ![4096, 1024]⟩ : Shape).Idx → EReal)

def valAt (q : Fin 2) (h : Fin 8) (r : Fin 2048) (l : Fin 128) : EReal :=
  (dVal (grp U q h) (grp D q h) (gates P q h) (tap W h) (per G h) (per B h) r l : ℝ)
def gateAt (q : Fin 2) (h : Fin 8) (r : Fin 2048) (l : Fin 128) : EReal :=
  (dGate (grp U q h) (grp D q h) (vals P q h) (gates P q h) (tap W h) (per G h) (per B h) r l : ℝ)
def tapAt (q : Fin 2) (k : Fin 31) (h : Fin 8) (l : Fin 128) : EReal :=
  (dTap (grp U q h) (grp D q h) (vals P q h) (gates P q h) (per G h) (per B h) k l : ℝ)
def sumAt (q : Fin 2) (z : Fin 8) (h : Fin 8) (l : Fin 128) : EReal :=
  sums (grp U q h) (grp D q h) (per G h) (per B h) (grp O q h) z.val l

/-! ## The results -/

def resVal (i : (⟨2, ![4096, 1024]⟩ : Shape).Idx) : EReal := valAt P U D W G B (exOf (i 0)) (grpOf (i 1)) (rowOf (i 0)) (lnOf (i 1))
def resGate (i : (⟨2, ![4096, 1024]⟩ : Shape).Idx) : EReal := gateAt P U D W G B (exOf (i 0)) (grpOf (i 1)) (rowOf (i 0)) (lnOf (i 1))
def resTap (i : (⟨3, ![2, 31, 1024]⟩ : Shape).Idx) : EReal := tapAt P U D G B (i 0) (i 1) (grpOf (i 2)) (lnOf (i 2))
def resSums (i : (⟨3, ![2, 8, 1024]⟩ : Shape).Idx) : EReal := sumAt U D G B O (i 0) (i 1) (grpOf (i 2)) (lnOf (i 2))

theorem resVal_at (q : Fin 2) (h : Fin 8) (r : Fin 2048) (l : Fin 128) : resVal P U D W G B (ix2 (flat q r) (chan h l)) = valAt P U D W G B q h r l := by
  show valAt P U D W G B (exOf (flat q r)) (grpOf (chan h l)) (rowOf (flat q r)) (lnOf (chan h l)) = _
  rw [exOf_flat, rowOf_flat, grpOf_chan, lnOf_chan]
theorem resGate_at (q : Fin 2) (h : Fin 8) (r : Fin 2048) (l : Fin 128) : resGate P U D W G B (ix2 (flat q r) (chan h l)) = gateAt P U D W G B q h r l := by
  show gateAt P U D W G B (exOf (flat q r)) (grpOf (chan h l)) (rowOf (flat q r)) (lnOf (chan h l)) = _
  rw [exOf_flat, rowOf_flat, grpOf_chan, lnOf_chan]
theorem resTap_at (q : Fin 2) (k : Fin 31) (h : Fin 8) (l : Fin 128) : resTap P U D G B (ix3 q k (chan h l)) = tapAt P U D G B q k h l := by
  show tapAt P U D G B q k (grpOf (chan h l)) (lnOf (chan h l)) = _
  rw [grpOf_chan, lnOf_chan]
theorem resSums_at (q : Fin 2) (z : Fin 8) (h : Fin 8) (l : Fin 128) : resSums U D G B O (ix3 q z (chan h l)) = sumAt U D G B O q z h l := by
  show sumAt U D G B O q z (grpOf (chan h l)) (lnOf (chan h l)) = _
  rw [grpOf_chan, lnOf_chan]

end Cert.Proof.Conf

end
-- ==== Proof.ConfFRef.lean ====
/- The forward call of the gated convolution branch: what the reference computes. No value is excluded. -/
module

public import proofs.«01_k».proof.Proof.Extended
public import proofs.«01_k».proof.Proof.GroupNorm
public import proofs.«01_k».proof.Proof.Gen.ConfFRIdeal.Read

@[expose] public section

set_option maxRecDepth 16384
set_option maxHeartbeats 1000000

noncomputable section

namespace Cert.Proof.ConfF

open Idealize.ShloMosaic
open Conf (chan grpOf lnOf grpOf_chan lnOf_chan chan_of valc gatec)

/-! ## The normalisation of a row of a group -/

def ecen (x : Fin 128 → EReal) (i : Fin 128) : EReal := x i - Ideal.div (∑ j, x j) (Ideal.ofBits .f32 0x43000000#32)
def einv (x : Fin 128 → EReal) : EReal :=
  Ideal.rsqrt (Ideal.div (∑ j, ecen x j * ecen x j) (Ideal.ofBits .f32 0x43000000#32) + Ideal.ofBits .f32 0x358637BD#32)
def ehat (x : Fin 128 → EReal) (i : Fin 128) : EReal := ecen x i * einv x

/-- The values times the logistic function of the gates. -/
def egate (v g : Fin 2048 → EReal) (r : Fin 2048) : EReal := v r * esg (g r)

variable (a0 : (⟨2, ![4096, 5120]⟩ : Shape).Idx → EReal) (a1 : (⟨2, ![31, 1024]⟩ : Shape).Idx → EReal) (a2 a3 a4 : (⟨1, ![1024]⟩ : Shape).Idx → EReal)

/-- The convolution, and the activation of the normalised convolution. -/
def conv (q : Fin 2) (r : Fin 2048) (n : Fin 1024) : EReal :=
  econv (N := 30) (elane a1 n) (egate (erows a0 q (valc n)) (erows a0 q (gatec n))) r + a2 (ix1 n)
def act (q : Fin 2) (r : Fin 2048) (h : Fin 8) (l : Fin 128) : EReal :=
  esilu (ehat (fun l => conv a0 a1 a2 q r (chan h l)) l * a3 (ix1 (chan h l)) + a4 (ix1 (chan h l)))

def resConv (i : (⟨2, ![4096, 1024]⟩ : Shape).Idx) : EReal := conv a0 a1 a2 (exOf (i 0)) (rowOf (i 0)) (i 1)
def resAct (i : (⟨2, ![4096, 1024]⟩ : Shape).Idx) : EReal := act a0 a1 a2 a3 a4 (exOf (i 0)) (rowOf (i 0)) (grpOf (i 1)) (lnOf (i 1))

theorem resConv_at (q : Fin 2) (r : Fin 2048) (n : Fin 1024) : resConv a0 a1 a2 (ix2 (flat q r) n) = conv a0 a1 a2 q r n := by
  show conv a0 a1 a2 (exOf (flat q r)) (rowOf (flat q r)) n = _
  rw [exOf_flat, rowOf_flat]

theorem resAct_at (q : Fin 2) (r : Fin 2048) (h : Fin 8) (l : Fin 128) : resAct a0 a1 a2 a3 a4 (ix2 (flat q r) (chan h l)) = act a0 a1 a2 a3 a4 q r h l := by
  show act a0 a1 a2 a3 a4 (exOf (flat q r)) (rowOf (flat q r)) (grpOf (chan h l)) (lnOf (chan h l)) = _
  rw [exOf_flat, rowOf_flat, grpOf_chan, lnOf_chan]

/-! ## The reference -/

section Reference
open Cert.ConfFRIdeal Cert.ConfFRIdeal.Gen Cert.ConfFRIdeal.Read

theorem ref_val (q : Fin 2) (r : Fin 2048) (n : Fin 1024) : val_main_v1 (F := Ideal) a0 (ix3 q r n) = erows a0 q (valc n) r := by
  pointwise [val_main_v1, val_main_v0]
  unfold erows
  refine congrArg a0 (funext fun a => Fin.ext ?_)
  match a with
  | ⟨0, _⟩ => show _ = q.val * 2048 + r.val; simp <;> omega
  | ⟨1, _⟩ => show _ = n.val; simp <;> omega

theorem ref_gatec (q : Fin 2) (r : Fin 2048) (n : Fin 1024) : val_main_v3 (F := Ideal) a0 (ix3 q r n) = erows a0 q (gatec n) r := by
  pointwise [val_main_v3, val_main_v2]
  unfold erows
  refine congrArg a0 (funext fun a => Fin.ext ?_)
  match a with
  | ⟨0, _⟩ => show _ = q.val * 2048 + r.val; simp <;> omega
  | ⟨1, _⟩ => show _ = 1024 + n.val; simp <;> omega

theorem ref_gated (q : Fin 2) (r : Fin 2048) (n : Fin 1024) :
    val_main_v10 (F := Ideal) a0 (ix3 q r n) = egate (erows a0 q (valc n)) (erows a0 q (gatec n)) r := by
  have v := ref_val a0 q r n
  have g := ref_gatec a0 q r n
  unfold val_main_v10 val_main_v9 val_main_v7 val_main_v5 val_main_v4
  generalize val_main_v1 (F := Ideal) a0 = A at *
  generalize val_main_v3 (F := Ideal) a0 = B at *
  pointwise [val_main_v8, val_main_v6, val_main_cst, val_main_cst_0]
  rw [v, g]
  rfl

theorem ref_shift (k : Fin 31) (t s : Fin 2048) :
    val_main_v19 (F := Ideal) (ix3 k t s) = ((if s.val + 30 = t.val + k.val then 1 else 0 : ℝ) : EReal) := by
  pointwise [val_main_v19, val_main_v18, val_main_v17, val_main_v16, val_main_v15, val_main_v14, val_main_v13, val_main_v12, val_main_c, val_main_call0_v0, val_main_call0_v1, val_main_cst_1, val_main_cst_2]
  exact shift_entry _ _ _ _ (by have := s.isLt; omega) (by have := t.isLt; have := k.isLt; omega)

theorem ref_lag (q : Fin 2) (k : Fin 31) (r : Fin 2048) (n : Fin 1024) :
    val_main_v22 (F := Ideal) a0 (ix4 q k r n) = elag (egate (erows a0 q (valc n)) (erows a0 q (gatec n))) (30 - k.val) r := by
  have g := fun r => ref_gated a0 q r n
  have h := fun k t s => ref_shift k t s
  unfold val_main_v22 val_main_v21
  generalize val_main_v10 (F := Ideal) a0 = A at *
  generalize val_main_v19 (F := Ideal) = B at *
  pointwise
  simp only [g, h]
  exact eshift _ 30 k.val (by have := k.isLt; omega) r

theorem ref_conv (q : Fin 2) (r : Fin 2048) (n : Fin 1024) : val_main_v29 (F := Ideal) a0 a1 a2 (ix3 q r n) = conv a0 a1 a2 q r n := by
  have g := fun k => ref_lag a0 q k r n
  unfold val_main_v29 val_main_v25 val_main_v24
  generalize val_main_v22 (F := Ideal) a0 = A at *
  pointwise [val_main_v23, val_main_v20, val_main_v11, val_main_cst_3, val_main_v28, val_main_v27, val_main_v26]
  simp only [g]
  rfl

/-- The reference's arrays of the normalisation, value by value, of the values they are made of. -/
theorem mean_of (q : Fin 2) (r : Fin 2048) (h : Fin 8) (u : Fin 128 → EReal)
    (g : ∀ l, val_main_v32 (F := Ideal) a0 a1 a2 (ix4 q r h l) = u l) (z : Fin 1) :
    val_main_v36 (F := Ideal) a0 a1 a2 (ix4 q r h z) = Ideal.div (∑ j, u j) (Ideal.ofBits .f32 0x43000000#32) := by
  have s : val_main_v33 (F := Ideal) a0 a1 a2 (ix3 q r h) = ∑ j, u j := by
    unfold val_main_v33
    generalize val_main_v32 (F := Ideal) a0 a1 a2 = A at *
    pointwise [val_main_cst_4]
    exact Finset.sum_congr rfl fun l _ => g l
  rw [val_main_v36_apply, val_main_v34_apply]
  generalize val_main_v33 (F := Ideal) a0 a1 a2 = B at *
  have t : idx_main_v34 (ix4 q r h z) = ix3 q r h := funext fun a => match a with
    | ⟨0, _⟩ => rfl
    | ⟨1, _⟩ => rfl
    | ⟨2, _⟩ => rfl
  rw [t, s]
  generalize ∑ j, u j = w
  pointwise [val_main_v35, val_main_cst_5]

theorem cen_of (q : Fin 2) (r : Fin 2048) (h : Fin 8) (x w : EReal) (l : Fin 128)
    (g : val_main_v32 (F := Ideal) a0 a1 a2 (ix4 q r h l) = x) (k : val_main_v36 (F := Ideal) a0 a1 a2 (ix4 q r h 0) = w) :
    val_main_v38 (F := Ideal) a0 a1 a2 (ix4 q r h l) = x - w := by
  rw [val_main_v38_apply, val_main_v37_apply, g]
  clear g
  generalize val_main_v36 (F := Ideal) a0 a1 a2 = C at *
  have t : idx_main_v37 (ix4 q r h l) = ix4 q r h 0 := funext fun a => match a with
    | ⟨0, _⟩ => rfl
    | ⟨1, _⟩ => rfl
    | ⟨2, _⟩ => rfl
    | ⟨3, _⟩ => rfl
  rw [t, k]
  rfl

theorem inv_of (q : Fin 2) (r : Fin 2048) (h : Fin 8) (z : Fin 1) (e : Fin 128 → EReal) (g : ∀ l, val_main_v38 (F := Ideal) a0 a1 a2 (ix4 q r h l) = e l) :
    val_main_v46 (F := Ideal) a0 a1 a2 (ix4 q r h z)
      = Ideal.rsqrt (Ideal.div (∑ j, e j * e j) (Ideal.ofBits .f32 0x43000000#32) + Ideal.ofBits .f32 0x358637BD#32) := by
  have s : val_main_v40 (F := Ideal) a0 a1 a2 (ix3 q r h) = ∑ j, e j * e j := by
    have k : ∀ l, val_main_v39 (F := Ideal) a0 a1 a2 (ix4 q r h l) = e l * e l := fun l => by
      rw [val_main_v39_apply, g]; rfl
    clear g
    unfold val_main_v40
    generalize val_main_v39 (F := Ideal) a0 a1 a2 = A at *
    pointwise [val_main_cst_6]
    exact Finset.sum_congr rfl fun l _ => k l
  clear g
  rw [val_main_v46_apply, val_main_v45_apply, val_main_v43_apply, val_main_v41_apply]
  generalize val_main_v40 (F := Ideal) a0 a1 a2 = B at *
  have t : idx_main_v41 (ix4 q r h z) = ix3 q r h := funext fun a => match a with
    | ⟨0, _⟩ => rfl
    | ⟨1, _⟩ => rfl
    | ⟨2, _⟩ => rfl
  rw [t, s]
  generalize ∑ j, e j * e j = w
  pointwise [val_main_v44, val_main_v42, val_main_cst_7, val_main_cst_8]

theorem half_of (q : Fin 2) (r : Fin 2048) (h : Fin 8) (l : Fin 128) (x y : EReal) (g : val_main_v38 (F := Ideal) a0 a1 a2 (ix4 q r h l) = x)
    (i : val_main_v46 (F := Ideal) a0 a1 a2 (ix4 q r h 0) = y) : val_main_v48 (F := Ideal) a0 a1 a2 (ix4 q r h l) = x * y := by
  rw [val_main_v48_apply, val_main_v47_apply, g]
  clear g
  generalize val_main_v46 (F := Ideal) a0 a1 a2 = C at *
  have t : idx_main_v47 (ix4 q r h l) = ix4 q r h 0 := funext fun a => match a with
    | ⟨0, _⟩ => rfl
    | ⟨1, _⟩ => rfl
    | ⟨2, _⟩ => rfl
    | ⟨3, _⟩ => rfl
  rw [t, i]
  rfl

theorem split_of (q : Fin 2) (r : Fin 2048) (n : Fin 1024) : val_main_v49 (F := Ideal) a0 a1 a2 (ix3 q r n) = val_main_v48 (F := Ideal) a0 a1 a2 (ix4 q r (grpOf n) (lnOf n)) := by
  rw [val_main_v49_apply]
  generalize val_main_v48 (F := Ideal) a0 a1 a2 = A
  refine congrArg A (funext fun a => Fin.ext ?_)
  have := q.isLt; have := r.isLt; have := n.isLt
  match a with
  | ⟨0, _⟩ => show ((q.val * 2048 + r.val) * 1024 + n.val) / 2097152 = q.val; omega
  | ⟨1, _⟩ => show ((q.val * 2048 + r.val) * 1024 + n.val) / 1024 % 2048 = r.val; omega
  | ⟨2, _⟩ => show ((q.val * 2048 + r.val) * 1024 + n.val) / 128 % 8 = n.val / 128; omega
  | ⟨3, _⟩ => show ((q.val * 2048 + r.val) * 1024 + n.val) % 128 = n.val % 128; omega

theorem scaled_of (q : Fin 2) (r : Fin 2048) (n : Fin 1024) (x : EReal) (g : val_main_v49 (F := Ideal) a0 a1 a2 (ix3 q r n) = x) :
    val_main_v55 (F := Ideal) a0 a1 a2 a3 a4 (ix3 q r n) = x * a3 (ix1 n) + a4 (ix1 n) := by
  rw [val_main_v55_apply, val_main_v52_apply, g]
  clear g
  pointwise [val_main_v51, val_main_v50, val_main_v30, val_main_v54, val_main_v53, val_main_v31]

theorem silu_of (q : Fin 2) (r : Fin 2048) (n : Fin 1024) (x : EReal) (g : val_main_v55 (F := Ideal) a0 a1 a2 a3 a4 (ix3 q r n) = x) :
    val_main_v56 (F := Ideal) a0 a1 a2 a3 a4 (ix3 q r n) = esilu x := by
  rw [val_main_v56_apply, val_main_call1_v5_apply, val_main_call1_v3_apply, val_main_call1_v1_apply, val_main_call1_v0_apply, g]
  clear g
  pointwise [val_main_call1_v4, val_main_call1_v2, val_main_call1_cst, val_main_call1_cst_0]
  rfl

theorem group_of (q : Fin 2) (r : Fin 2048) (h : Fin 8) (l : Fin 128) :
    val_main_v32 (F := Ideal) a0 a1 a2 (ix4 q r h l) = val_main_v29 (F := Ideal) a0 a1 a2 (ix3 q r (chan h l)) := by
  unfold val_main_v32
  generalize val_main_v29 (F := Ideal) a0 a1 a2 = A
  pointwise
  refine congrArg A (funext fun a => Fin.ext ?_)
  have := q.isLt; have := r.isLt; have := h.isLt; have := l.isLt
  match a with
  | ⟨0, _⟩ => show _ = q.val; simp <;> omega
  | ⟨1, _⟩ => show _ = r.val; simp <;> omega
  | ⟨2, _⟩ => show _ = h.val * 128 + l.val; simp <;> omega

theorem ref_act (q : Fin 2) (r : Fin 2048) (n : Fin 1024) :
    val_main_v56 (F := Ideal) a0 a1 a2 a3 a4 (ix3 q r n) = act a0 a1 a2 a3 a4 q r (grpOf n) (lnOf n) := by
  have c : ∀ l, val_main_v32 (F := Ideal) a0 a1 a2 (ix4 q r (grpOf n) l) = (fun l => conv a0 a1 a2 q r (chan (grpOf n) l)) l :=
    fun l => (group_of a0 a1 a2 q r (grpOf n) l).trans (ref_conv a0 a1 a2 q r (chan (grpOf n) l))
  unfold act
  rw [chan_of]
  generalize (fun l => conv a0 a1 a2 q r (chan (grpOf n) l)) = u at *
  have m := mean_of a0 a1 a2 q r (grpOf n) u c 0
  have g : ∀ l, val_main_v38 (F := Ideal) a0 a1 a2 (ix4 q r (grpOf n) l) = ecen u l :=
    fun l => cen_of a0 a1 a2 q r (grpOf n) _ _ l (c l) m
  have i := inv_of a0 a1 a2 q r (grpOf n) 0 (ecen u) g
  have h := (split_of a0 a1 a2 q r n).trans (half_of a0 a1 a2 q r (grpOf n) (lnOf n) _ _ (g (lnOf n)) i)
  exact silu_of a0 a1 a2 a3 a4 q r n _ (scaled_of a0 a1 a2 a3 a4 q r n _ h)

theorem ref_resAct : val_main_v58 (F := Ideal) a0 a1 a2 a3 a4 = resAct a0 a1 a2 a3 a4 := by
  funext i
  obtain ⟨R, n, rfl⟩ : ∃ (R : Fin 4096) (n : Fin 1024), i = ix2 R n := ⟨i 0, i 1, eq_ix2 i⟩
  have g := ref_act a0 a1 a2 a3 a4 (exOf R) (rowOf R) n
  refine Eq.trans ?_ g
  unfold val_main_v58 val_main_v57
  generalize val_main_v56 (F := Ideal) a0 a1 a2 a3 a4 = A
  pointwise
  rfl

theorem ref_resConv : val_main_v59 (F := Ideal) a0 a1 a2 = resConv a0 a1 a2 := by
  funext i
  obtain ⟨R, n, rfl⟩ : ∃ (R : Fin 4096) (n : Fin 1024), i = ix2 R n := ⟨i 0, i 1, eq_ix2 i⟩
  have g := ref_conv a0 a1 a2 (exOf R) (rowOf R) n
  refine Eq.trans ?_ g
  unfold val_main_v59
  generalize val_main_v29 (F := Ideal) a0 a1 a2 = A
  pointwise
  rfl

end Reference

end Cert.Proof.ConfF

end
-- ==== Proof.ConfF.lean ====
/- The forward call of the gated convolution branch: what the launch leaves, and that the reference computes it. -/
module

public import proofs.«01_k».proof.Defs
public import proofs.«01_k».proof.Proof.ConfFRef
public import proofs.«01_k».proof.Proof.Gen.ConfFKIdeal.Value
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384
set_option maxHeartbeats 1000000

noncomputable section

namespace Cert.Proof.ConfF

open Idealize.ShloMosaic Idealize.ShloMosaic.TcCoe Idealize.SL.Sem
open Conf (chan grpOf lnOf grpOf_chan lnOf_chan chan_of valc gatec)

variable (a0 : (⟨2, ![4096, 5120]⟩ : Shape).Idx → EReal) (a1 : (⟨2, ![31, 1024]⟩ : Shape).Idx → EReal) (a2 a3 a4 : (⟨1, ![1024]⟩ : Shape).Idx → EReal)

/-! ## The launch -/

section Launch
open Cert.ConfFKIdeal Cert.ConfFKIdeal.Gen

theorem off2 : (![0, 0] : Fin 2 → Nat) = fun _ => 0 := by decide

variable (x0 x1 : S2048x128.Idx → EReal) (x2 : S31x128.Idx → EReal) (x3 x4 x5 : S1x128.Idx → EReal)

/-- A block's convolution. -/
def bconv (r : Fin 2048) (l : Fin 128) : EReal := econv (N := 30) (elane x2 l) (egate (elane x0 l) (elane x1 l)) r + x3 (ix2 0 l)

theorem gated_eq (r : Fin 2048) (l : Fin 128) :
    k0_pay5 (F := Ideal) (View.ld x0 r0_0) (View.ld x1 r0_0) (ix2 r l) = egate (elane x0 l) (elane x1 l) r := by
  unfold k0_pay5
  pointwise
  rw [esg_tanh]
  rfl

set_option maxRecDepth 100000 in
theorem conv_eq (r : Fin 2048) (l : Fin 128) :
    k0_pay22 (F := Ideal) (k0_pay24 (F := Ideal) x0 x1 x2 x3 x4 x5) (k0_pay25 x0 x1 x2 x3 x4 x5) (k0_pay26 x0 x1 x2 x3 x4 x5) (k0_pay27 x0 x1 x2 x3 x4 x5) (k0_pay28 (F := Ideal) x0 x1 x2 x3 x4 x5) (k0_pay29 x0 x1 x2 x3 x4 x5)
      (View.ld x2 r0_30) (View.ld x2 r0_31) (View.ld x2 r0_32) (ix2 r l) = bconv x0 x1 x2 x3 r l := by
  have d : elane (k0_pay5 (F := Ideal) (View.ld x0 r0_0) (View.ld x1 r0_0)) l = egate (elane x0 l) (elane x1 l) := funext fun r => gated_eq x0 x1 r l
  unfold k0_pay29 k0_pay28 k0_pay27 k0_pay26 k0_pay25 k0_pay24 k0_pay6 k0_pay7
  generalize k0_pay5 (F := Ideal) (View.ld x0 r0_0) (View.ld x1 r0_0) = p at *
  unfold_payloads
  pointwise
  have z := lastTaps_zero (N := 30) (elane x2 l) (elane p l) r
  have s := fun n q k h hq hk => lastTaps_succ (N := 30) (elane x2 l) (elane p l) r n q k h (by norm_num) (by subst hq; exact lt_of_le_of_lt (show n + 1 ≤ 30 by have := k.isLt; omega) (by norm_num)) hq hk
  rw [z _ rfl]
  iterate 30 rw [s _ _ _ _ rfl rfl]
  rw [lastTaps_all, d]
  rfl

theorem hat_eq (r : Fin 2048) (l : Fin 128) :
    k0_pay23 (F := Ideal) (k0_pay24 (F := Ideal) x0 x1 x2 x3 x4 x5) (k0_pay25 x0 x1 x2 x3 x4 x5) (k0_pay26 x0 x1 x2 x3 x4 x5) (k0_pay27 x0 x1 x2 x3 x4 x5) (k0_pay28 (F := Ideal) x0 x1 x2 x3 x4 x5) (k0_pay29 x0 x1 x2 x3 x4 x5)
      (View.ld x2 r0_30) (View.ld x2 r0_31) (View.ld x2 r0_32) (ix2 r l) = ehat (bconv x0 x1 x2 x3 r) l := by
  have d := conv_eq x0 x1 x2 x3 x4 x5 r
  unfold k0_pay23
  generalize k0_pay22 (F := Ideal) (k0_pay24 (F := Ideal) x0 x1 x2 x3 x4 x5) (k0_pay25 x0 x1 x2 x3 x4 x5) (k0_pay26 x0 x1 x2 x3 x4 x5) (k0_pay27 x0 x1 x2 x3 x4 x5) (k0_pay28 (F := Ideal) x0 x1 x2 x3 x4 x5) (k0_pay29 x0 x1 x2 x3 x4 x5)
      (View.ld x2 r0_30) (View.ld x2 r0_31) (View.ld x2 r0_32) = p at *
  have e : bconv x0 x1 x2 x3 r = fun l => p (ix2 r l) := funext fun l => (d l).symm
  rw [e]
  clear d e
  pointwise
  rfl

theorem out7_eq (r : Fin 2048) (l : Fin 128) : out0_7 (F := Ideal) x0 x1 x2 x3 x4 x5 (ix2 r l) = bconv x0 x1 x2 x3 r l := by
  unfold out0_7
  rw [View.canon_unit_zero off2]
  exact conv_eq x0 x1 x2 x3 x4 x5 r l

theorem out6_eq (r : Fin 2048) (l : Fin 128) :
    out0_6 (F := Ideal) x0 x1 x2 x3 x4 x5 (ix2 r l) = esilu (ehat (bconv x0 x1 x2 x3 r) l * x4 (ix2 0 l) + x5 (ix2 0 l)) := by
  have h := hat_eq x0 x1 x2 x3 x4 x5 r l
  unfold out0_6
  rw [View.canon_unit_zero off2]
  generalize k0_pay23 (F := Ideal) (k0_pay24 (F := Ideal) x0 x1 x2 x3 x4 x5) (k0_pay25 x0 x1 x2 x3 x4 x5) (k0_pay26 x0 x1 x2 x3 x4 x5) (k0_pay27 x0 x1 x2 x3 x4 x5) (k0_pay28 (F := Ideal) x0 x1 x2 x3 x4 x5) (k0_pay29 x0 x1 x2 x3 x4 x5)
      (View.ld x2 r0_30) (View.ld x2 r0_31) (View.ld x2 r0_32) = p at *
  generalize ehat (bconv x0 x1 x2 x3 r) l = y at *
  unfold_payloads
  pointwise
  rw [h, esg_tanh]
  rfl

theorem blk0 : ∀ t : Fin cfg0.N, win0_0.index t = ![win0_6.index t 0, win0_6.index t 1] := (by decide +kernel : ∀ t : Fin grid0.N, _)
theorem blk1 : ∀ t : Fin cfg0.N, win0_1.index t = ![win0_6.index t 0, 8 + win0_6.index t 1] := (by decide +kernel : ∀ t : Fin grid0.N, _)
theorem blk2 : ∀ t : Fin cfg0.N, win0_2.index t = ![0, win0_6.index t 1] := (by decide +kernel : ∀ t : Fin grid0.N, _)
theorem blk3 : ∀ t : Fin cfg0.N, win0_3.index t = ![0, win0_6.index t 1] := (by decide +kernel : ∀ t : Fin grid0.N, _)
theorem blk4 : ∀ t : Fin cfg0.N, win0_4.index t = ![0, win0_6.index t 1] := (by decide +kernel : ∀ t : Fin grid0.N, _)
theorem blk5 : ∀ t : Fin cfg0.N, win0_5.index t = ![0, win0_6.index t 1] := (by decide +kernel : ∀ t : Fin grid0.N, _)
theorem blk7 : ∀ t : Fin cfg0.N, win0_7.index t = ![win0_6.index t 0, win0_6.index t 1] := (by decide +kernel : ∀ t : Fin grid0.N, _)
theorem blk6 : ∀ t : Fin cfg0.N, win0_6.index t 0 < 2 ∧ win0_6.index t 1 < 8 := (by decide +kernel : ∀ t : Fin grid0.N, _)

variable (m : (ℓ : Loc nD τ sig) → Buf (Elt Ideal) ℓ) (c : Dev nD) (t : Fin cfg0.N)

/-- The example and the group of a point. -/
def exq : Fin 2 := ⟨win0_6.index t 0, (blk6 t).1⟩
def gr : Fin 8 := ⟨win0_6.index t 1, (blk6 t).2⟩

theorem in0 (h : m ((c : Thread nD τ).loc main_arg0) = a0) :
    iblk m c 0 t = (fun y : S2048x128.Idx => erows a0 (exq t) (valc (chan (gr t) (y 1))) (y 0)) := by
  have hV := (V_main_arg0 m c).trans h
  funext y
  show V m c main_arg0 (((cfg0.win 0).blk t).view.emb y) = _
  rw [hV]
  refine congrArg a0 (funext fun a => Fin.ext ?_)
  have e := blk0 t
  match a with
  | ⟨0, _⟩ => show win0_0.index t 0 * 2048 + 1 * (y 0).val = win0_6.index t 0 * 2048 + (y 0).val; rw [e]; show win0_6.index t 0 * 2048 + _ = _; omega
  | ⟨1, _⟩ => show win0_0.index t 1 * 128 + 1 * (y 1).val = win0_6.index t 1 * 128 + (y 1).val; rw [e]; show win0_6.index t 1 * 128 + _ = _; omega

theorem in1 (h : m ((c : Thread nD τ).loc main_arg0) = a0) :
    iblk m c 1 t = (fun y : S2048x128.Idx => erows a0 (exq t) (gatec (chan (gr t) (y 1))) (y 0)) := by
  have hV := (V_main_arg0 m c).trans h
  funext y
  show V m c main_arg0 (((cfg0.win 1).blk t).view.emb y) = _
  rw [hV]
  refine congrArg a0 (funext fun a => Fin.ext ?_)
  have e := blk1 t
  match a with
  | ⟨0, _⟩ => show win0_1.index t 0 * 2048 + 1 * (y 0).val = win0_6.index t 0 * 2048 + (y 0).val; rw [e]; show win0_6.index t 0 * 2048 + _ = _; omega
  | ⟨1, _⟩ => show win0_1.index t 1 * 128 + 1 * (y 1).val = 1024 + (win0_6.index t 1 * 128 + (y 1).val); rw [e]; show (8 + win0_6.index t 1) * 128 + _ = _; omega

theorem in2 (h : m ((c : Thread nD τ).loc main_arg1) = a1) :
    iblk m c 2 t = (fun y : S31x128.Idx => elane a1 (chan (gr t) (y 1)) (y 0)) := by
  have hV := (V_main_arg1 m c).trans h
  funext y
  show V m c main_arg1 (((cfg0.win 2).blk t).view.emb y) = _
  rw [hV]
  refine congrArg a1 (funext fun a => Fin.ext ?_)
  have e := blk2 t
  match a with
  | ⟨0, _⟩ => show win0_2.index t 0 * 31 + 1 * (y 0).val = (y 0).val; rw [e]; show 0 * 31 + _ = _; omega
  | ⟨1, _⟩ => show win0_2.index t 1 * 128 + 1 * (y 1).val = win0_6.index t 1 * 128 + (y 1).val; rw [e]; show win0_6.index t 1 * 128 + _ = _; omega

theorem in3 (h : m ((c : Thread nD τ).loc main_arg2) = a2) : iblk m c 3 t = (fun y : S1x128.Idx => a2 (ix1 (chan (gr t) (y 1)))) := by
  funext y
  obtain ⟨z, l, rfl⟩ : ∃ (z : Fin 1) (l : Fin 128), y = ix2 z l := ⟨y 0, y 1, eq_ix2 y⟩
  refine Eq.trans ?_ (congrFun h (ix1 (chan (gr t) l)))
  show _ = m ((c : Thread nD τ).loc main_arg2) (ix1 ⟨win0_6.index t 1 * 128 + l.val, _⟩)
  blk_ext! [iblk, blk3 t]

theorem in4 (h : m ((c : Thread nD τ).loc main_arg3) = a3) : iblk m c 4 t = (fun y : S1x128.Idx => a3 (ix1 (chan (gr t) (y 1)))) := by
  funext y
  obtain ⟨z, l, rfl⟩ : ∃ (z : Fin 1) (l : Fin 128), y = ix2 z l := ⟨y 0, y 1, eq_ix2 y⟩
  refine Eq.trans ?_ (congrFun h (ix1 (chan (gr t) l)))
  show _ = m ((c : Thread nD τ).loc main_arg3) (ix1 ⟨win0_6.index t 1 * 128 + l.val, _⟩)
  blk_ext! [iblk, blk4 t]

theorem in5 (h : m ((c : Thread nD τ).loc main_arg4) = a4) : iblk m c 5 t = (fun y : S1x128.Idx => a4 (ix1 (chan (gr t) (y 1)))) := by
  funext y
  obtain ⟨z, l, rfl⟩ : ∃ (z : Fin 1) (l : Fin 128), y = ix2 z l := ⟨y 0, y 1, eq_ix2 y⟩
  refine Eq.trans ?_ (congrFun h (ix1 (chan (gr t) l)))
  show _ = m ((c : Thread nD τ).loc main_arg4) (ix1 ⟨win0_6.index t 1 * 128 + l.val, _⟩)
  blk_ext! [iblk, blk5 t]

variable (h0 : m ((c : Thread nD τ).loc main_arg0) = a0) (h1 : m ((c : Thread nD τ).loc main_arg1) = a1) (h2 : m ((c : Thread nD τ).loc main_arg2) = a2)
  (h3 : m ((c : Thread nD τ).loc main_arg3) = a3) (h4 : m ((c : Thread nD τ).loc main_arg4) = a4)

include h0 h1 h2

theorem arr7 : (dats m 0 c).arrAt 7 cfg0.N = resConv a0 a1 a2 := by
  refine (dats m 0 c).arrAt_eq_of_covers 7 _ (by decide +kernel) fun t _ j => ?_
  refine (congrFun (Value.flushed7 m c t) j).trans ?_
  rw [in0 a0 m c t h0, in1 a0 m c t h0, in2 a1 m c t h1, in3 a2 m c t h2]
  show out0_7 (F := Ideal) _ _ _ _ _ _ j = resConv a0 a1 a2 (((cfg0.win 7).blk t).view.emb j)
  obtain ⟨r, l, rfl⟩ : ∃ (r : Fin 2048) (l : Fin 128), j = ix2 r l := ⟨j 0, j 1, eq_ix2 j⟩
  refine (out7_eq _ _ _ _ _ _ r l).trans ((resConv_at a0 a1 a2 (exq t) r (chan (gr t) l)).symm.trans ?_)
  refine congrArg (resConv a0 a1 a2) (funext fun a => Fin.ext ?_)
  have e := blk7 t
  match a with
  | ⟨0, _⟩ => show win0_6.index t 0 * 2048 + r.val = win0_7.index t 0 * 2048 + 1 * r.val; rw [e]; show _ = win0_6.index t 0 * 2048 + _; omega
  | ⟨1, _⟩ => show win0_6.index t 1 * 128 + l.val = win0_7.index t 1 * 128 + 1 * l.val; rw [e]; show _ = win0_6.index t 1 * 128 + _; omega

include h3 h4

theorem arr6 : (dats m 0 c).arrAt 6 cfg0.N = resAct a0 a1 a2 a3 a4 := by
  refine (dats m 0 c).arrAt_eq_of_covers 6 _ (by decide +kernel) fun t _ j => ?_
  refine (congrFun (Value.flushed6 m c t) j).trans ?_
  rw [in0 a0 m c t h0, in1 a0 m c t h0, in2 a1 m c t h1, in3 a2 m c t h2, in4 a3 m c t h3, in5 a4 m c t h4]
  show out0_6 (F := Ideal) _ _ _ _ _ _ j = resAct a0 a1 a2 a3 a4 (((cfg0.win 6).blk t).view.emb j)
  obtain ⟨r, l, rfl⟩ : ∃ (r : Fin 2048) (l : Fin 128), j = ix2 r l := ⟨j 0, j 1, eq_ix2 j⟩
  refine (out6_eq _ _ _ _ _ _ r l).trans ((resAct_at a0 a1 a2 a3 a4 (exq t) r (gr t) l).symm.trans ?_)
  refine congrArg (resAct a0 a1 a2 a3 a4) (funext fun a => Fin.ext ?_)
  match a with
  | ⟨0, _⟩ => show win0_6.index t 0 * 2048 + r.val = win0_6.index t 0 * 2048 + 1 * r.val; omega
  | ⟨1, _⟩ => show win0_6.index t 1 * 128 + l.val = win0_6.index t 1 * 128 + 1 * l.val; omega

end Launch

/-! ## The claims -/

theorem frame_reference : Cert.quiescent_ConfFRIdeal (hConfFRIdeal := Cert.ConfFRIdeal.Gen.facts) := fun m ρ _ =>
  (θ_run _ _ _).mono (fun r h => ⟨fun c => (h c).2.2, sem_eq_zero_of_no_sems (by decide) r.2⟩) (Cert.ConfFRIdeal.Value.run m ρ)

open Cert.ConfFKIdeal Cert.ConfFKIdeal.Gen in
theorem algebraic : Cert.algebraic_ConfFKIdeal_ConfFRIdeal (hConfFKIdeal := Cert.ConfFKIdeal.Gen.facts) (hConfFRIdeal := Cert.ConfFRIdeal.Gen.facts) := by
  intro m g m' g' _ hm
  refine ⟨fun c => resAct (m ((c : Thread nD τ).loc main_arg0)) (m ((c : Thread nD τ).loc main_arg1)) (m ((c : Thread nD τ).loc main_arg2)) (m ((c : Thread nD τ).loc main_arg3)) (m ((c : Thread nD τ).loc main_arg4)),
    fun c => resConv (m ((c : Thread nD τ).loc main_arg0)) (m ((c : Thread nD τ).loc main_arg1)) (m ((c : Thread nD τ).loc main_arg2)), ?_, ?_⟩
  · refine (θ_run Cert.ConfFKIdeal.defs _ _).mono (fun r h c => ?_) (Value.run_blocks m g)
    exact ⟨(h c).1.trans (arr6 _ _ _ _ _ m c rfl rfl rfl rfl rfl), (h c).2.1.trans (arr7 _ _ _ m c rfl rfl rfl), (h c).2.2⟩
  · refine (θ_run Cert.ConfFRIdeal.defs _ _).mono (fun r h c => ?_) (Cert.ConfFRIdeal.Value.run m' g')
    obtain ⟨q0, q1, q2, q3, q4⟩ := hm c
    refine ⟨(h c).1.trans ?_, (h c).2.1.trans ?_, (h c).2.2⟩
    · rw [Cert.ConfFRIdeal.Read.val_main_v58_eq, q0, q1, q2, q3, q4]
      exact ref_resAct _ _ _ _ _
    · rw [Cert.ConfFRIdeal.Read.val_main_v59_eq, q0, q1, q2]
      exact ref_resConv _ _ _

end Cert.Proof.ConfF

end
-- ==== Proof.QkvKernel.lean ====
/- What one grid point of the short convolution's backward kernel writes, over real blocks. -/
module

public import proofs.«01_k».proof.Proof.Gen.QkvKIdeal.Value
public import proofs.«01_k».proof.Proof.Rows

@[expose] public section

set_option maxHeartbeats 1000000

noncomputable section

namespace Cert.Proof.Qkv

open Idealize.ShloMosaic Cert.QkvKIdeal Cert.QkvKIdeal.Gen

/-! ## The mathematics of one column: sequence `g`, cotangent `d`, taps `w` -/

variable {S : ℕ}

def dPre (w : Fin 4 → ℝ) (g d : Fin S → ℝ) (r : Fin S) : ℝ := dSilu (d r) (conv w g r)
def dIn (w : Fin 4 → ℝ) (g d : Fin S → ℝ) (r : Fin S) : ℝ := convT w (dPre w g d) r
def part (w : Fin 4 → ℝ) (g d : Fin S → ℝ) (q : ℕ) : ℝ := if q < 4 then tapGrad (dPre w g d) g (3 - q) else 0

/-! ## The body -/

theorem off2 : (![0, 0] : Fin 2 → Nat) = fun _ => 0 := by decide
theorem off3 : (![0, 0, 0] : Fin 3 → Nat) = fun _ => 0 := by decide

variable (x0 : S2048x128.Idx → ℝ) (x1 : S4x128.Idx → ℝ) (x2 : S2048x128.Idx → ℝ)

theorem pre_eq (r : Fin 2048) (l : Fin 128) :
    k0_pay14 (F := Ideal) (ext x0) (ext x1) (ext x2) (ix2 r l) = (conv (lane x1 l) (lane x0 l) r : EReal) := by
  unfold k0_pay14
  unfold_payloads
  pointwise
  have L := fun s c hs h => sel_lag (lane x0 l) s r c (by norm_num) hs h
  rw [conv_four, EReal.coe_add, EReal.coe_add, EReal.coe_add, EReal.coe_mul, EReal.coe_mul, EReal.coe_mul, EReal.coe_mul,
    ← L 1 _ (by norm_num) (Nat.mod_lt _ (by norm_num)), ← L 2 _ (by norm_num) (Nat.mod_lt _ (by norm_num)), ← L 3 _ (by norm_num) (Nat.mod_lt _ (by norm_num))]

theorem dPre_eq (r : Fin 2048) (l : Fin 128) :
    k0_pay16 (F := Ideal) (ext x0) (ext x1) (ext x2) (ix2 r l) = (dPre (lane x1 l) (lane x0 l) (lane x2 l) r : EReal) := by
  have h := pre_eq x0 x1 x2 r l
  unfold k0_pay14 at h
  unfold k0_pay16 k0_pay14 k0_pay15 k0_pay4 k0_pay3
  generalize k0_pay2 (F := Ideal) (View.ld (ext x0) r0_0) (View.ld (ext x1) r0_1) (View.ld (ext x1) r0_2) (View.ld (ext x1) r0_3) (View.ld (ext x1) r0_4) = p at *
  pointwise
  rw [h, sg_coe]
  exact dSilu_coe _ _

set_option maxRecDepth 100000 in
theorem out3_eq (r : Fin 2048) (l : Fin 128) :
    out0_3 (F := Ideal) (ext x0) (ext x1) (ext x2) (ix2 r l) = (dIn (lane x1 l) (lane x0 l) (lane x2 l) r : EReal) := by
  have D := fun r => dPre_eq x0 x1 x2 r l
  unfold out0_3
  rw [View.canon_unit_zero off2]
  unfold k0_pay9 k0_pay6 k0_pay8 k0_pay13
  change _ = _
  rw [show k0_pay4 (k0_pay14 (F := Ideal) (ext x0) (ext x1) (ext x2)) (k0_pay15 (ext x0) (ext x1) (ext x2)) (View.ld (ext x2) r0_0)
      = k0_pay16 (ext x0) (ext x1) (ext x2) from rfl]
  generalize k0_pay16 (F := Ideal) (ext x0) (ext x1) (ext x2) = p at *
  pointwise
  simp only [D]
  have L := fun s q c hq hs h => sel_lead (dPre (lane x1 l) (lane x0 l) (lane x2 l)) s q r c (by norm_num) hq hs h
  unfold dIn
  rw [convT_four, EReal.coe_add, EReal.coe_add, EReal.coe_add, EReal.coe_mul, EReal.coe_mul, EReal.coe_mul, EReal.coe_mul,
    ← L 1 2047 _ rfl (by norm_num) (Nat.mod_lt _ (by norm_num)), ← L 2 2046 _ rfl (by norm_num) (Nat.mod_lt _ (by norm_num)), ← L 3 2045 _ rfl (by norm_num) (Nat.mod_lt _ (by norm_num))]

theorem out4_eq (z : Fin 1) (q : Fin 8) (l : Fin 128) :
    out0_4 (F := Ideal) (ext x0) (ext x1) (ext x2) (ix3 z q l) = (part (lane x1 l) (lane x0 l) (lane x2 l) q.val : EReal) := by
  have D := fun r => dPre_eq x0 x1 x2 r l
  unfold out0_4
  rw [View.canon_unit_zero off3]
  unfold k0_pay1 k0_pay5 k0_pay7 k0_pay10 k0_pay11 k0_pay12 k0_pay13
  rw [show k0_pay4 (k0_pay14 (F := Ideal) (ext x0) (ext x1) (ext x2)) (k0_pay15 (ext x0) (ext x1) (ext x2)) (View.ld (ext x2) r0_0)
      = k0_pay16 (ext x0) (ext x1) (ext x2) from rfl]
  generalize k0_pay16 (F := Ideal) (ext x0) (ext x1) (ext x2) = p at *
  pointwise
  have hq : q.val < 2 ^ 32 := by have := q.isLt; omega
  rw [sel_eq q.val 3 hq (by norm_num), sel_eq q.val 2 hq (by norm_num), sel_eq q.val 1 hq (by norm_num), sel_eq q.val 0 hq (by norm_num)]
  simp only [D]
  have hm : ∀ s, ∀ x : Fin 2048, (x.val + 2048 - s) % 2048 < 2048 := fun s x => Nat.mod_lt _ (Nat.succ_pos _)
  obtain ⟨q, hq8⟩ := q
  unfold part
  generalize dPre (lane x1 l) (lane x0 l) (lane x2 l) = y
  rcases (by omega : q = 0 ∨ q = 1 ∨ q = 2 ∨ q = 3 ∨ 3 < q) with h | h | h | h | h
  · subst h; exact sum_rot y (lane x0 l) 3 (by norm_num) (by norm_num) (hm 3)
  · subst h; exact sum_rot y (lane x0 l) 2 (by norm_num) (by norm_num) (hm 2)
  · subst h; exact sum_rot y (lane x0 l) 1 (by norm_num) (by norm_num) (hm 1)
  · subst h; exact sum_plain y (lane x0 l)
  · rw [if_neg (by show ¬ q = 3; omega), if_neg (by show ¬ q = 2; omega), if_neg (by show ¬ q = 1; omega), if_neg (by show ¬ q = 0; omega), if_neg (by show ¬ q < 4; omega)]
    rfl

end Cert.Proof.Qkv

end
-- ==== Proof.Qkv.lean ====
/- The short convolution's gradient: what the launch leaves in its result arrays, what the reference computes, and that they
   agree. -/
module

public import proofs.«01_k».proof.Defs
public import proofs.«01_k».proof.Proof.QkvKernel
public import proofs.«01_k».proof.Proof.Gen.QkvRIdeal.Read
public import proofs.«01_k».proof.Proof.Gen.Pre_finite_qkv
public import Idealize.ShloMosaic.Lib.Pipeline.ValueKit.Geometry
public import Idealize.ShloMosaic.Lib.Pipeline.ValueKit.Acc

@[expose] public section

set_option maxRecDepth 16384

noncomputable section

namespace Cert.Proof.Qkv

open Idealize.ShloMosaic Idealize.ShloMosaic.TcCoe Idealize.SL.Sem

/-- The columns of q, k and v. -/
def qkvs (c : Fin 2048) : Fin 5120 := ⟨2048 + c.val, by have := c.isLt; omega⟩

variable (a0 : (⟨2, ![4096, 5120]⟩ : Shape).Idx → ℝ) (a1 : (⟨2, ![4, 2048]⟩ : Shape).Idx → ℝ) (a2 : (⟨2, ![4096, 2048]⟩ : Shape).Idx → ℝ)

/-! ## What both programs compute -/

def dx (i : (⟨2, ![4096, 2048]⟩ : Shape).Idx) : EReal :=
  (dIn (lane a1 (i 1)) (rows a0 (exOf (i 0)) (qkvs (i 1))) (rows a2 (exOf (i 0)) (i 1)) (rowOf (i 0)) : ℝ)

def dw (i : (⟨3, ![2, 8, 2048]⟩ : Shape).Idx) : EReal :=
  (part (lane a1 (i 2)) (rows a0 (i 0) (qkvs (i 2))) (rows a2 (i 0) (i 2)) (i 1).val : ℝ)

/-! ## The launch -/

section Launch
open Cert.QkvKIdeal Cert.QkvKIdeal.Gen

theorem blk0 : ∀ t : Fin cfg0.N, win0_0.index t = ![win0_3.index t 0, 16 + win0_3.index t 1] := (by decide +kernel : ∀ t : Fin grid0.N, _)
theorem blk1 : ∀ t : Fin cfg0.N, win0_1.index t = ![0, win0_3.index t 1] := (by decide +kernel : ∀ t : Fin grid0.N, _)
theorem blk2 : ∀ t : Fin cfg0.N, win0_2.index t = ![win0_3.index t 0, win0_3.index t 1] := (by decide +kernel : ∀ t : Fin grid0.N, _)
theorem blk4 : ∀ t : Fin cfg0.N, win0_4.index t = ![win0_3.index t 0, 0, win0_3.index t 1] := (by decide +kernel : ∀ t : Fin grid0.N, _)
theorem blk3 : ∀ t : Fin cfg0.N, win0_3.index t 0 < 2 ∧ win0_3.index t 1 < 16 := (by decide +kernel : ∀ t : Fin grid0.N, _)

variable (m : (ℓ : Loc nD τ sig) → Buf (Elt Ideal) ℓ) (c : Dev nD) (t : Fin cfg0.N)

/-- The example and the column a point's lane is at. -/
def exq : Fin 2 := ⟨win0_3.index t 0, (blk3 t).1⟩
def coll (l : Fin 128) : Fin 2048 := ⟨win0_3.index t 1 * 128 + l.val, by have := (blk3 t).2; have := l.isLt; omega⟩

theorem in0 (h : m ((c : Thread nD τ).loc main_arg0) = ext a0) :
    iblk m c 0 t = ext (fun y : S2048x128.Idx => rows a0 (exq t) (qkvs (coll t (y 1))) (y 0)) := by
  have hV := (V_main_arg0 m c).trans h
  funext y
  show V m c main_arg0 (((cfg0.win 0).blk t).view.emb y) = _
  rw [hV]
  refine congrArg (fun i => (a0 i : EReal)) (funext fun a => Fin.ext ?_)
  have e := blk0 t
  match a with
  | ⟨0, _⟩ => show win0_0.index t 0 * 2048 + 1 * (y 0).val = win0_3.index t 0 * 2048 + (y 0).val; rw [e]; show win0_3.index t 0 * 2048 + _ = _; omega
  | ⟨1, _⟩ => show win0_0.index t 1 * 128 + 1 * (y 1).val = 2048 + (win0_3.index t 1 * 128 + (y 1).val); rw [e]; show (16 + win0_3.index t 1) * 128 + _ = _; omega

theorem in1 (h : m ((c : Thread nD τ).loc main_arg1) = ext a1) :
    iblk m c 1 t = ext (fun y : S4x128.Idx => lane a1 (coll t (y 1)) (y 0)) := by
  have hV := (V_main_arg1 m c).trans h
  funext y
  show V m c main_arg1 (((cfg0.win 1).blk t).view.emb y) = _
  rw [hV]
  refine congrArg (fun i => (a1 i : EReal)) (funext fun a => Fin.ext ?_)
  have e := blk1 t
  match a with
  | ⟨0, _⟩ => show win0_1.index t 0 * 4 + 1 * (y 0).val = (y 0).val; rw [e]; show 0 * 4 + _ = _; omega
  | ⟨1, _⟩ => show win0_1.index t 1 * 128 + 1 * (y 1).val = win0_3.index t 1 * 128 + (y 1).val; rw [e]; show win0_3.index t 1 * 128 + _ = _; omega

theorem in2 (h : m ((c : Thread nD τ).loc main_arg2) = ext a2) :
    iblk m c 2 t = ext (fun y : S2048x128.Idx => rows a2 (exq t) (coll t (y 1)) (y 0)) := by
  have hV := (V_main_arg2 m c).trans h
  funext y
  show V m c main_arg2 (((cfg0.win 2).blk t).view.emb y) = _
  rw [hV]
  refine congrArg (fun i => (a2 i : EReal)) (funext fun a => Fin.ext ?_)
  have e := blk2 t
  match a with
  | ⟨0, _⟩ => show win0_2.index t 0 * 2048 + 1 * (y 0).val = win0_3.index t 0 * 2048 + (y 0).val; rw [e]; show win0_3.index t 0 * 2048 + _ = _; omega
  | ⟨1, _⟩ => show win0_2.index t 1 * 128 + 1 * (y 1).val = win0_3.index t 1 * 128 + (y 1).val; rw [e]; show win0_3.index t 1 * 128 + _ = _; omega

theorem dx_at (q : Fin 2) (r : Fin 2048) (n : Fin 2048) :
    dx a0 a1 a2 (ix2 (flat q r) n) = (dIn (lane a1 n) (rows a0 q (qkvs n)) (rows a2 q n) r : ℝ) := by
  show ((dIn (lane a1 n) (rows a0 (exOf (flat q r)) (qkvs n)) (rows a2 (exOf (flat q r)) n) (rowOf (flat q r)) : ℝ) : EReal) = _
  rw [exOf_flat, rowOf_flat]

variable (h0 : m ((c : Thread nD τ).loc main_arg0) = ext a0) (h1 : m ((c : Thread nD τ).loc main_arg1) = ext a1)
  (h2 : m ((c : Thread nD τ).loc main_arg2) = ext a2)

include h0 h1 h2 in
theorem arr3 : (dats m 0 c).arrAt 3 cfg0.N = dx a0 a1 a2 := by
  refine (dats m 0 c).arrAt_eq_of_covers 3 _ (by decide +kernel) fun t _ j => ?_
  refine (congrFun (Value.flushed3 m c t) j).trans ?_
  rw [in0 a0 m c t h0, in1 a1 m c t h1, in2 a2 m c t h2]
  show out0_3 (F := Ideal) _ _ _ j = (dx a0 a1 a2 (((cfg0.win 3).blk t).view.emb j) : EReal)
  obtain ⟨r, l, rfl⟩ : ∃ (r : Fin 2048) (l : Fin 128), j = ix2 r l := ⟨j 0, j 1, eq_ix2 j⟩
  refine (out3_eq _ _ _ r l).trans ?_
  rw [show lane (fun y : S4x128.Idx => lane a1 (coll t (y 1)) (y 0)) l = lane a1 (coll t l) from rfl,
    show lane (fun y : S2048x128.Idx => rows a0 (exq t) (qkvs (coll t (y 1))) (y 0)) l = rows a0 (exq t) (qkvs (coll t l)) from rfl,
    show lane (fun y : S2048x128.Idx => rows a2 (exq t) (coll t (y 1)) (y 0)) l = rows a2 (exq t) (coll t l) from rfl,
    ← dx_at]
  refine congrArg (dx a0 a1 a2) (funext fun a => Fin.ext ?_)
  match a with
  | ⟨0, _⟩ => show win0_3.index t 0 * 2048 + r.val = win0_3.index t 0 * 2048 + 1 * r.val; omega
  | ⟨1, _⟩ => show win0_3.index t 1 * 128 + l.val = win0_3.index t 1 * 128 + 1 * l.val; omega

include h0 h1 h2 in
theorem arr4 : (dats m 0 c).arrAt 4 cfg0.N = dw a0 a1 a2 := by
  refine (dats m 0 c).arrAt_eq_of_covers 4 _ (by decide +kernel) fun t _ j => ?_
  refine (congrFun (Value.flushed4 m c t) j).trans ?_
  rw [in0 a0 m c t h0, in1 a1 m c t h1, in2 a2 m c t h2]
  show out0_4 (F := Ideal) _ _ _ j = (dw a0 a1 a2 (((cfg0.win 4).blk t).view.emb j) : EReal)
  obtain ⟨z, p, l, rfl⟩ : ∃ (z : Fin 1) (p : Fin 8) (l : Fin 128), j = ix3 z p l := ⟨j 0, j 1, j 2, eq_ix3 j⟩
  refine (out4_eq _ _ _ z p l).trans ((rfl : _ = dw a0 a1 a2 (ix3 (exq t) p (coll t l))).trans ?_)
  refine congrArg (dw a0 a1 a2) (funext fun a => Fin.ext ?_)
  have hz : z.val < 1 := z.isLt
  match a with
  | ⟨0, _⟩ => show win0_3.index t 0 = win0_4.index t 0 * 1 + 1 * z.val; rw [blk4 t]; show _ = win0_3.index t 0 * 1 + _; omega
  | ⟨1, _⟩ => show p.val = win0_4.index t 1 * 8 + 1 * p.val; rw [blk4 t]; show _ = 0 * 8 + _; omega
  | ⟨2, _⟩ => show win0_3.index t 1 * 128 + l.val = win0_4.index t 2 * 128 + 1 * l.val; rw [blk4 t]; show _ = win0_3.index t 1 * 128 + _; omega

end Launch

/-! ## The reference -/

section Reference
open Cert.QkvRIdeal Cert.QkvRIdeal.Gen Cert.QkvRIdeal.Read

theorem ref_in (q : Fin 2) (r : Fin 2048) (c : Fin 2048) :
    val_main_v1 (F := Ideal) (ext a0) (ix3 q r c) = (rows a0 q (qkvs c) r : EReal) := by
  pointwise [val_main_v1, val_main_v0]
  rfl

theorem ref_cot (q : Fin 2) (r : Fin 2048) (c : Fin 2048) :
    val_main_v18 (F := Ideal) (ext a2) (ix3 q r c) = (rows a2 q c r : EReal) := by
  pointwise [val_main_v18]
  rfl

theorem ref_shift (k : Fin 4) (t s : Fin 2048) :
    val_main_v10 (F := Ideal) (ix3 k t s) = ((if s.val + 3 = t.val + k.val then 1 else 0 : ℝ) : EReal) := by
  pointwise [val_main_v10, val_main_v9, val_main_v8, val_main_v7, val_main_v6, val_main_v5, val_main_v4, val_main_v3, val_main_c, val_main_call0_v0, val_main_call0_v1, val_main_cst, val_main_cst_0]
  exact shift_entry _ _ _ _ (by have := s.isLt; omega) (by have := t.isLt; have := k.isLt; omega)

theorem ref_lag (q : Fin 2) (k : Fin 4) (r : Fin 2048) (c : Fin 2048) :
    val_main_v13 (F := Ideal) (ext a0) (ix4 q k r c) = (lag (rows a0 q (qkvs c)) (3 - k.val) r : EReal) := by
  have g := fun r => ref_in a0 q r c
  have h := fun k t s => ref_shift k t s
  unfold val_main_v13 val_main_v12
  generalize val_main_v1 (F := Ideal) (ext a0) = A at *
  generalize val_main_v10 (F := Ideal) = B at *
  pointwise
  simp only [g, h]
  exact shift_row _ 3 k.val (by have := k.isLt; omega) r

theorem ref_pre (q : Fin 2) (r : Fin 2048) (c : Fin 2048) :
    val_main_v16 (F := Ideal) (ext a0) (ext a1) (ix3 q r c) = (conv (lane a1 c) (rows a0 q (qkvs c)) r : EReal) := by
  have g := fun k => ref_lag a0 q k r c
  unfold val_main_v16 val_main_v15
  generalize val_main_v13 (F := Ideal) (ext a0) = A at *
  pointwise [val_main_v14, val_main_v11, val_main_v2, val_main_cst_1]
  simp only [g, ← EReal.coe_mul, ← coe_sum, ← EReal.coe_add]
  rfl

theorem ref_sg (q : Fin 2) (r : Fin 2048) (c : Fin 2048) :
    val_main_v17_2 (F := Ideal) (ext a0) (ext a1) (ix3 q r c) = (sg (conv (lane a1 c) (rows a0 q (qkvs c)) r) : EReal) := by
  have g := ref_pre a0 a1 q r c
  unfold val_main_v17_2 val_main_call1_v3 val_main_call1_v1 val_main_call1_v0
  generalize val_main_v16 (F := Ideal) (ext a0) (ext a1) = A at *
  pointwise [val_main_call1_v4, val_main_call1_v2, val_main_call1_cst, val_main_call1_cst_0]
  rw [g, sg_div]

theorem ref_dPre (q : Fin 2) (r : Fin 2048) (c : Fin 2048) :
    val_main_v19 (F := Ideal) (ext a0) (ext a1) (ext a2) (ix3 q r c)
      = (dPre (lane a1 c) (rows a0 q (qkvs c)) (rows a2 q c) r : EReal) := by
  have z := ref_pre a0 a1 q r c
  have s := ref_sg a0 a1 q r c
  have d := ref_cot a2 q r c
  unfold val_main_v19 val_main_call2_v2 val_main_call2_v1 val_main_call2_v0 val_main_v17_1 val_main_call1_v7
  generalize val_main_v16 (F := Ideal) (ext a0) (ext a1) = A at *
  generalize val_main_v17_2 (F := Ideal) (ext a0) (ext a1) = B at *
  generalize val_main_v18 (F := Ideal) (ext a2) = C at *
  pointwise [val_main_call1_v6, val_main_call1_cst_1]
  rw [z, s, d]
  exact dSilu_chain _ _

theorem ref_dIn (q : Fin 2) (r : Fin 2048) (c : Fin 2048) :
    val_main_v28 (F := Ideal) (ext a0) (ext a1) (ext a2) (ix3 q r c)
      = (dIn (lane a1 c) (rows a0 q (qkvs c)) (rows a2 q c) r : EReal) := by
  have y := fun r => ref_dPre a0 a1 a2 q r c
  have h := fun k t s => ref_shift k t s
  unfold val_main_v28 val_main_v27 val_main_v26 val_main_v22 val_main_v20
  generalize val_main_v19 (F := Ideal) (ext a0) (ext a1) (ext a2) = A at *
  generalize val_main_v10 (F := Ideal) = B at *
  pointwise [val_main_v21, val_main_v11, val_main_v2]
  simp only [y, h, ← EReal.coe_mul, ← coe_sum]
  unfold dIn convT
  refine congrArg Real.toEReal (Finset.sum_congr rfl fun k _ => ?_)
  rw [show (4 - 1 - k.val) = 3 - k.val from rfl, ← sum_shift_col _ 3 k.val (by have := k.isLt; omega) r, Finset.mul_sum]
  exact Finset.sum_congr rfl fun t _ => mul_assoc _ _ _

theorem ref_part (q : Fin 2) (p : Fin 8) (c : Fin 2048) :
    val_main_v33 (F := Ideal) (ext a0) (ext a1) (ext a2) (ix3 q p c)
      = (part (lane a1 c) (rows a0 q (qkvs c)) (rows a2 q c) p.val : EReal) := by
  have y := fun r => ref_dPre a0 a1 a2 q r c
  have g := fun k r => ref_lag a0 q k r c
  unfold val_main_v33 val_main_v29 val_main_v25 val_main_v24 val_main_v23 val_main_v20
  generalize val_main_v19 (F := Ideal) (ext a0) (ext a1) (ext a2) = A at *
  generalize val_main_v13 (F := Ideal) (ext a0) = B at *
  pointwise [val_main_v32]
  simp only [y, g, val_main_cst_2, val_main_cst_3, val_main_cst_4, Finset.univ_unique, Finset.sum_singleton]
  pointwise
  simp only [← EReal.coe_mul, ← coe_sum, zero_add]
  unfold part tapGrad
  split_ifs with h1
  · rfl
  · rfl

theorem ref_dx : val_main_v31 (F := Ideal) (ext a0) (ext a1) (ext a2) = dx a0 a1 a2 := by
  funext i
  obtain ⟨R, n, rfl⟩ : ∃ (R : Fin 4096) (n : Fin 2048), i = ix2 R n := ⟨i 0, i 1, eq_ix2 i⟩
  refine Eq.trans ?_ (ref_dIn a0 a1 a2 (exOf R) (rowOf R) n)
  unfold val_main_v31 val_main_v30
  generalize val_main_v28 (F := Ideal) (ext a0) (ext a1) (ext a2) = A
  pointwise
  rfl

theorem ref_dw : val_main_v33 (F := Ideal) (ext a0) (ext a1) (ext a2) = dw a0 a1 a2 := by
  funext i
  obtain ⟨q, p, n, rfl⟩ : ∃ (q : Fin 2) (p : Fin 8) (n : Fin 2048), i = ix3 q p n := ⟨i 0, i 1, i 2, eq_ix3 i⟩
  exact ref_part a0 a1 a2 q p n

end Reference

/-! ## The precondition -/

section Pre
open Cert.Pre_finite_qkv
variable [Cert.Pre_finite_qkv.Facts] (x0 : (⟨2, ![4096, 5120]⟩ : Shape).Idx → EReal) (x1 : (⟨2, ![4, 2048]⟩ : Shape).Idx → EReal) (x2 : (⟨2, ![4096, 2048]⟩ : Shape).Idx → EReal)

theorem fin0 (h : (fn (F := Ideal) x0 x1 x2).1 = fun _ => 1#1) (i) : x0 i < (⊤ : EReal) ∧ (⊥ : EReal) < x0 i := by
  obtain ⟨r, l, rfl⟩ : ∃ (r : Fin 4096) (l : Fin 5120), i = ix2 r l := ⟨i 0, i 1, eq_ix2 i⟩
  have h := congrFun h (ix2 r l)
  unfold fn at h
  revert h
  pointwise
  intro h
  rw [ofBits_top_f32, ofBits_bot_f32] at h
  exact both_lt h

theorem fin1 (h : (fn (F := Ideal) x0 x1 x2).2.1 = fun _ => 1#1) (i) : x1 i < (⊤ : EReal) ∧ (⊥ : EReal) < x1 i := by
  obtain ⟨r, l, rfl⟩ : ∃ (r : Fin 4) (l : Fin 2048), i = ix2 r l := ⟨i 0, i 1, eq_ix2 i⟩
  have h := congrFun h (ix2 r l)
  unfold fn at h
  revert h
  pointwise
  intro h
  rw [ofBits_top_f32, ofBits_bot_f32] at h
  exact both_lt h

theorem fin2 (h : (fn (F := Ideal) x0 x1 x2).2.2 = fun _ => 1#1) (i) : x2 i < (⊤ : EReal) ∧ (⊥ : EReal) < x2 i := by
  obtain ⟨r, l, rfl⟩ : ∃ (r : Fin 4096) (l : Fin 2048), i = ix2 r l := ⟨i 0, i 1, eq_ix2 i⟩
  have h := congrFun h (ix2 r l)
  unfold fn at h
  revert h
  pointwise
  intro h
  rw [ofBits_top_f32, ofBits_bot_f32] at h
  exact both_lt h

end Pre

/-! ## The claims -/

theorem frame_reference : Cert.quiescent_QkvRIdeal (hQkvRIdeal := Cert.QkvRIdeal.Gen.facts) := fun m ρ _ =>
  (θ_run _ _ _).mono (fun r h => ⟨fun c => (h c).2.2, sem_eq_zero_of_no_sems (by decide) r.2⟩) (Cert.QkvRIdeal.Value.run m ρ)

open Cert.QkvKIdeal Cert.QkvKIdeal.Gen in
theorem algebraic : Cert.algebraic_QkvKIdeal_QkvRIdeal_pre_finite_qkv (hQkvKIdeal := Cert.QkvKIdeal.Gen.facts) (hQkvRIdeal := Cert.QkvRIdeal.Gen.facts)
    (hPre_finite_qkv := Cert.Pre_finite_qkv.Gen.facts) := by
  haveI := Cert.Pre_finite_qkv.Gen.facts
  intro m g m' g' hp hm
  have key : ∀ c : Dev nD, ∃ a0 a1 a2, m ((c : Thread nD τ).loc main_arg0) = ext a0 ∧ m ((c : Thread nD τ).loc main_arg1) = ext a1
      ∧ m ((c : Thread nD τ).loc main_arg2) = ext a2 := fun c => by
    obtain ⟨p0, p1, p2⟩ := hp c
    obtain ⟨a0, e0⟩ := exists_real _ (fin0 _ _ _ p0)
    obtain ⟨a1, e1⟩ := exists_real _ (fin1 _ _ _ p1)
    obtain ⟨a2, e2⟩ := exists_real _ (fin2 _ _ _ p2)
    exact ⟨a0, a1, a2, e0, e1, e2⟩
  choose a0 a1 a2 e0 e1 e2 using key
  refine ⟨fun c => dx (a0 c) (a1 c) (a2 c), fun c => dw (a0 c) (a1 c) (a2 c), ?_, ?_⟩
  · refine (θ_run Cert.QkvKIdeal.defs _ _).mono (fun r h c => ?_) (Value.run_blocks m g)
    obtain ⟨h3, h4, k⟩ := h c
    exact ⟨h3.trans (arr3 _ _ _ m c (e0 c) (e1 c) (e2 c)), h4.trans (arr4 _ _ _ m c (e0 c) (e1 c) (e2 c)), k⟩
  · refine (θ_run Cert.QkvRIdeal.defs _ _).mono (fun r h c => ?_) (Cert.QkvRIdeal.Value.run m' g')
    obtain ⟨h3, h4, k⟩ := h c
    obtain ⟨q0, q1, q2⟩ := hm c
    refine ⟨h3.trans ?_, h4.trans ?_, k⟩
    · rw [Cert.QkvRIdeal.Read.val_main_v31_eq, q0.trans (e0 c), q1.trans (e1 c), q2.trans (e2 c)]
      exact ref_dx _ _ _
    · rw [Cert.QkvRIdeal.Read.val_main_v33_eq, q0.trans (e0 c), q1.trans (e1 c), q2.trans (e2 c)]
      exact ref_dw _ _ _

end Cert.Proof.Qkv

end
-- ==== Proof.ConfKernel.lean ====
/- What one grid point of the gated convolution's backward kernel writes, over real blocks. -/
module

public import proofs.«01_k».proof.Proof.Gen.ConfKIdeal.Value
public import proofs.«01_k».proof.Proof.GroupNorm

@[expose] public section

set_option maxHeartbeats 1000000

noncomputable section

namespace Cert.Proof.Conf

open Idealize.ShloMosaic Cert.ConfKIdeal Cert.ConfKIdeal.Gen

theorem off2 : (![0, 0] : Fin 2 → Nat) = fun _ => 0 := by decide
theorem off3 : (![0, 0, 0] : Fin 3 → Nat) = fun _ => 0 := by decide

/-- A block, by row and lane. -/
abbrev mat {α : Type} {N : ℕ} (x : (⟨2, ![N, 128]⟩ : Shape).Idx → α) (r : Fin N) (l : Fin 128) : α := x (ix2 r l)
/-- A block of one row. -/
abbrev vec (x : S1x128.Idx → ℝ) (l : Fin 128) : ℝ := x (ix2 0 l)

variable (x0 x1 x2 x7 : S2048x128.Idx → ℝ) (x3 : S31x128.Idx → ℝ) (x4 : S1x128.Idx → EReal) (x5 x6 : S1x128.Idx → ℝ) (x8 : S2048x128.Idx → EReal)

theorem sg_eq (r : Fin 2048) (l : Fin 128) : k0_pay2 (F := Ideal) (View.ld (ext x1) r0_0) (ix2 r l) = (sg (x1 (ix2 r l)) : EReal) := by
  unfold k0_pay2
  pointwise
  exact sg_coe _

theorem gated_eq (r : Fin 2048) (l : Fin 128) :
    k0_pay3 (F := Ideal) (View.ld (ext x0) r0_0) (View.ld (ext x1) r0_0) (ix2 r l) = (gated (mat x0) (mat x1) l r : EReal) := by
  have s := sg_eq x1 r l
  unfold k0_pay3
  generalize k0_pay2 (F := Ideal) (View.ld (ext x1) r0_0) = p at *
  pointwise
  rw [s, ← EReal.coe_mul]
  rfl

theorem cen_eq (r : Fin 2048) (l : Fin 128) : k0_pay4 (F := Ideal) (View.ld (ext x2) r0_0) (ix2 r l) = (cen (mat x2 r) l : EReal) := by
  unfold k0_pay4
  pointwise
  exact cen_coe (mat x2 r) l

theorem inv_eq (r : Fin 2048) (z : Fin 1) : k0_pay5 (F := Ideal) (View.ld (ext x2) r0_0) (ix2 r z) = (inv (mat x2 r) : EReal) := by
  have c := fun l => cen_eq x2 r l
  unfold k0_pay5
  generalize k0_pay4 (F := Ideal) (View.ld (ext x2) r0_0) = p at *
  pointwise
  simp only [c]
  rw [var_coe, inv_coe]

theorem hat_eq (r : Fin 2048) (l : Fin 128) : k0_pay6 (F := Ideal) (View.ld (ext x2) r0_0) (ix2 r l) = (hat (mat x2 r) l : EReal) := by
  have c := cen_eq x2 r l
  have i := inv_eq x2 r 0
  unfold k0_pay6
  generalize k0_pay4 (F := Ideal) (View.ld (ext x2) r0_0) = p at *
  generalize k0_pay5 (F := Ideal) (View.ld (ext x2) r0_0) = q at *
  pointwise
  rw [c, i, ← EReal.coe_mul]
  rfl

theorem pre_eq (r : Fin 2048) (l : Fin 128) :
    k0_pay7 (F := Ideal) (View.ld (ext x5) r0_1) (View.ld (ext x6) r0_1) (View.ld (ext x2) r0_0) (ix2 r l) = (pre (mat x2) (vec x5) (vec x6) r l : EReal) := by
  have h := hat_eq x2 r l
  unfold k0_pay7
  generalize k0_pay6 (F := Ideal) (View.ld (ext x2) r0_0) = p at *
  pointwise
  rw [h, ← EReal.coe_mul, ← EReal.coe_add]
  rfl

theorem dPre_eq (r : Fin 2048) (l : Fin 128) :
    k0_pay9 (F := Ideal) (k0_pay7 (View.ld (ext x5) r0_1) (View.ld (ext x6) r0_1) (View.ld (ext x2) r0_0)) (k0_pay8 (View.ld (ext x5) r0_1) (View.ld (ext x6) r0_1) (View.ld (ext x2) r0_0))
      (View.ld (ext x7) r0_0) (ix2 r l) = (dPre (mat x2) (mat x7) (vec x5) (vec x6) r l : EReal) := by
  have h := pre_eq x2 x5 x6 r l
  unfold k0_pay9 k0_pay8
  generalize k0_pay7 (F := Ideal) (View.ld (ext x5) r0_1) (View.ld (ext x6) r0_1) (View.ld (ext x2) r0_0) = p at *
  pointwise
  rw [h, sg_coe]
  exact dSilu_coe _ _

theorem dConv_eq (r : Fin 2048) (l : Fin 128) :
    k0_pay116 (F := Ideal) (ext x0) (ext x1) (ext x2) (ext x3) x4 (ext x5) (ext x6) (ext x7) x8 (ix2 r l)
      = (dConv (mat x2) (mat x7) (vec x5) (vec x6) l r : EReal) := by
  have d := fun l => dPre_eq x2 x7 x5 x6 r l
  have h := fun l => hat_eq x2 r l
  have i := inv_eq x2 r 0
  unfold k0_pay116 k0_pay112 k0_pay113 k0_pay114 k0_pay115 k0_pay12
  generalize k0_pay9 (F := Ideal) (k0_pay7 (View.ld (ext x5) r0_1) (View.ld (ext x6) r0_1) (View.ld (ext x2) r0_0)) (k0_pay8 (View.ld (ext x5) r0_1) (View.ld (ext x6) r0_1) (View.ld (ext x2) r0_0)) (View.ld (ext x7) r0_0) = p at *
  generalize k0_pay6 (F := Ideal) (View.ld (ext x2) r0_0) = q at *
  generalize k0_pay5 (F := Ideal) (View.ld (ext x2) r0_0) = s at *
  pointwise
  simp only [d, h, i]
  have e := back_coe (mat x2 r) (fun j => dPre (mat x2) (mat x7) (vec x5) (vec x6) r j * vec x5 j) l
  simp only [EReal.coe_mul] at e
  exact e

/-! ## The sum of the taps' terms, one by one -/

/-- The last `n + 1` taps' part of the convolution's gradient. -/
def upTo (w : Fin 31 → ℝ) (y : Fin 2048 → ℝ) (r : Fin 2048) (n : ℕ) : ℝ :=
  ∑ s ∈ Finset.range (n + 1), lead y s r * (if h : s ≤ 30 then w ⟨30 - s, by omega⟩ else 0)

theorem upTo_all (w : Fin 31 → ℝ) (y : Fin 2048 → ℝ) (r : Fin 2048) : upTo w y r 30 = convT w y r := by
  unfold upTo convT
  rw [Finset.sum_range, ← Equiv.sum_comp Fin.revPerm]
  refine Finset.sum_congr rfl fun k _ => ?_
  have hk := k.isLt
  have e : (Fin.revPerm k).val = 30 - k.val := by show 31 - (k.val + 1) = _; omega
  rw [e, dif_pos (by omega), mul_comm]
  exact congrArg₂ _ (congrArg w (Fin.ext (by show 30 - (30 - k.val) = k.val; omega))) rfl

theorem upTo_zero (w : Fin 31 → ℝ) (y : Fin 2048 → ℝ) (r : Fin 2048) : (y r : EReal) * (w 30 : EReal) = (upTo w y r 0 : EReal) := by
  unfold upTo
  rw [Finset.sum_range_one, lead_zero, dif_pos (by norm_num), ← EReal.coe_mul]
  rfl

theorem upTo_succ (w : Fin 31 → ℝ) (y : Fin 2048 → ℝ) (r : Fin 2048) (n q : ℕ) (k : Fin 31) (h : (r.val + 2048 - q) % 2048 < 2048) (hq : q + (n + 1) = 2048) (hk : k.val + (n + 1) = 30) :
    (upTo w y r n : EReal) + Scalar.select (IntOp.cmpi .slt (BitVec.ofNat 32 r.val) (BitVec.ofNat 32 q)) ((y ⟨(r.val + 2048 - q) % 2048, h⟩ : EReal) * (w k : EReal)) 0
      = (upTo w y r (n + 1) : EReal) := by
  rw [sel_lead y (n + 1) q r _ (by norm_num) hq (by omega) h, ← EReal.coe_mul, ← EReal.coe_add]
  unfold upTo
  rw [Finset.sum_range_succ _ (n + 1), dif_pos (by omega)]
  congr 3
  exact congrArg w (Fin.ext (by show k.val = 30 - (n + 1); omega))

set_option maxRecDepth 100000 in
theorem dGated_eq (r : Fin 2048) (l : Fin 128) :
    k0_pay117 (F := Ideal) (ext x0) (ext x1) (ext x2) (ext x3) x4 (ext x5) (ext x6) (ext x7) x8 (ix2 r l)
      = (dGated (mat x2) (mat x7) (mat x3) (vec x5) (vec x6) r l : EReal) := by
  have d := fun r => dConv_eq x0 x1 x2 x7 x3 x4 x5 x6 x8 r l
  unfold k0_pay117 k0_pay14
  rw [show k0_pay12 (F := Ideal) (k0_pay112 (ext x0) (ext x1) (ext x2) (ext x3) x4 (ext x5) (ext x6) (ext x7) x8) (k0_pay113 (ext x0) (ext x1) (ext x2) (ext x3) x4 (ext x5) (ext x6) (ext x7) x8)
      (k0_pay114 (ext x0) (ext x1) (ext x2) (ext x3) x4 (ext x5) (ext x6) (ext x7) x8) (k0_pay115 (ext x0) (ext x1) (ext x2) (ext x3) x4 (ext x5) (ext x6) (ext x7) x8) (View.ld (ext x7) r0_0) (View.ld (ext x5) r0_1)
      = k0_pay116 (ext x0) (ext x1) (ext x2) (ext x3) x4 (ext x5) (ext x6) (ext x7) x8 from rfl]
  generalize k0_pay116 (F := Ideal) (ext x0) (ext x1) (ext x2) (ext x3) x4 (ext x5) (ext x6) (ext x7) x8 = p at *
  unfold k0_pay109
  unfold_payloads
  pointwise
  simp only [d]
  have z := upTo_zero (fun k => mat x3 k l) (dConv (mat x2) (mat x7) (vec x5) (vec x6) l) r
  have s := fun n q k h hq hk => upTo_succ (fun k => mat x3 k l) (dConv (mat x2) (mat x7) (vec x5) (vec x6) l) r n q k h hq hk
  rw [z]
  iterate 30 rw [s _ _ _ _ rfl rfl]
  exact congrArg Real.toEReal (upTo_all _ _ _)

/-! ## The results -/

theorem out9_eq (r : Fin 2048) (l : Fin 128) :
    out0_9 (F := Ideal) (ext x0) (ext x1) (ext x2) (ext x3) x4 (ext x5) (ext x6) (ext x7) x8 (ix2 r l) = (dVal (mat x2) (mat x7) (mat x1) (mat x3) (vec x5) (vec x6) r l : EReal) := by
  have d := dGated_eq x0 x1 x2 x7 x3 x4 x5 x6 x8 r l
  have s := sg_eq x1 r l
  unfold out0_9
  rw [View.canon_unit_zero off2]
  unfold k0_pay76 k0_pay110
  generalize k0_pay117 (F := Ideal) (ext x0) (ext x1) (ext x2) (ext x3) x4 (ext x5) (ext x6) (ext x7) x8 = p at *
  generalize k0_pay2 (F := Ideal) (View.ld (ext x1) r0_0) = q at *
  pointwise
  rw [d, s, ← EReal.coe_mul]
  rfl

theorem out10_eq (r : Fin 2048) (l : Fin 128) :
    out0_10 (F := Ideal) (ext x0) (ext x1) (ext x2) (ext x3) x4 (ext x5) (ext x6) (ext x7) x8 (ix2 r l) = (dGate (mat x2) (mat x7) (mat x0) (mat x1) (mat x3) (vec x5) (vec x6) r l : EReal) := by
  have d := dGated_eq x0 x1 x2 x7 x3 x4 x5 x6 x8 r l
  have s := sg_eq x1 r l
  unfold out0_10
  rw [View.canon_unit_zero off2]
  unfold k0_pay77 k0_pay110
  generalize k0_pay117 (F := Ideal) (ext x0) (ext x1) (ext x2) (ext x3) x4 (ext x5) (ext x6) (ext x7) x8 = p at *
  generalize k0_pay2 (F := Ideal) (View.ld (ext x1) r0_0) = q at *
  pointwise
  rw [d, s]
  simp only [← EReal.coe_mul, one_coe, ← EReal.coe_sub]
  rfl

/-- The taps' gradients, as a block. -/
def taps (y : S1x31x128.Idx) : EReal := (dTap (mat x2) (mat x7) (mat x0) (mat x1) (vec x5) (vec x6) (y 1) (y 2) : ℝ)

theorem taps_row (s k : ℕ) (h : k + s = 30) (inb) (z y : Fin 1) (l : Fin 128) :
    ((tapGrad (dConv (mat x2) (mat x7) (vec x5) (vec x6) l) (gated (mat x0) (mat x1) l) s : ℝ) : EReal)
      = taps x0 x1 x2 x7 x5 x6 ((Rect.unit (s := S1x31x128) ![0, k, 0] S1x1x128.size inb).emb (ix3 z y l)) := by
  unfold taps dTap
  have e1 : 30 - ((Rect.unit (s := S1x31x128) ![0, k, 0] S1x1x128.size inb).emb (ix3 z y l) 1).val = s := by
    show 30 - (k + 1 * y.val) = s; omega
  have e2 : (Rect.unit (s := S1x31x128) ![0, k, 0] S1x1x128.size inb).emb (ix3 z y l) 2 = l :=
    Fin.ext (by show 0 + 1 * l.val = l.val; omega)
  rw [e1, e2]

theorem pieces_cons {S : Shape} (G : S.Idx → EReal) (r : Rect S) (w : r.shape.Idx → EReal) (L : List (View.Piece (Elt Ideal) S .f32)) (h : ∀ i, w i = G (r.emb i))
    (hL : ∀ p ∈ L, ∀ i : p.1.shape.Idx, p.2 i = G (p.1.emb i)) : ∀ p ∈ (⟨r, w⟩ : View.Piece (Elt Ideal) S .f32) :: L, ∀ i : p.1.shape.Idx, p.2 i = G (p.1.emb i) := fun p hp => by
  rcases List.mem_cons.mp hp with rfl | hp
  · exact h
  · exact hL p hp

set_option maxRecDepth 100000 in
theorem out11_eq (y : S1x31x128.Idx) : out0_11 (F := Ideal) (ext x0) (ext x1) (ext x2) (ext x3) x4 (ext x5) (ext x6) (ext x7) x8 y = taps x0 x1 x2 x7 x5 x6 y := by
  have d := fun r l => dConv_eq x0 x1 x2 x7 x3 x4 x5 x6 x8 r l
  have u := fun r l => gated_eq x0 x1 r l
  unfold out0_11 k0_pay15 k0_pay111 k0_pay109
  rw [show k0_pay12 (F := Ideal) (k0_pay112 (ext x0) (ext x1) (ext x2) (ext x3) x4 (ext x5) (ext x6) (ext x7) x8) (k0_pay113 (ext x0) (ext x1) (ext x2) (ext x3) x4 (ext x5) (ext x6) (ext x7) x8)
      (k0_pay114 (ext x0) (ext x1) (ext x2) (ext x3) x4 (ext x5) (ext x6) (ext x7) x8) (k0_pay115 (ext x0) (ext x1) (ext x2) (ext x3) x4 (ext x5) (ext x6) (ext x7) x8) (View.ld (ext x7) r0_0) (View.ld (ext x5) r0_1)
      = k0_pay116 (ext x0) (ext x1) (ext x2) (ext x3) x4 (ext x5) (ext x6) (ext x7) x8 from rfl]
  generalize k0_pay116 (F := Ideal) (ext x0) (ext x1) (ext x2) (ext x3) x4 (ext x5) (ext x6) (ext x7) x8 = p at *
  generalize k0_pay3 (F := Ideal) (View.ld (ext x0) r0_0) (View.ld (ext x1) r0_0) = q at *
  have hm : ∀ s, ∀ x : Fin 2048, (x.val + 2048 - s) % 2048 < 2048 := fun s x => Nat.mod_lt _ (Nat.succ_pos _)
  refine View.canon_apply_of_pieces (Val := Elt Ideal) (e := .f32) (taps x0 x1 x2 x7 x5 x6) _ ?_ y (cover0_11 _ _ _ _ _ _ _ _ _ _ _ _ _ _ _ _ _ _ _ _ _ _ _ _ _ _ _ _ _ _ _ y)
  refine pieces_cons _ _ _ _ (fun i => ?_) ?_
  · obtain ⟨z, z', l, rfl⟩ : ∃ (z z' : Fin 1) (l : Fin 128), i = ix3 z z' l := ⟨i 0, i 1, i 2, eq_ix3 i⟩
    unfold_payloads
    pointwise
    simp only [d, u]
    exact (sum_plain _ _).trans (taps_row _ _ _ _ _ _ _ _ rfl _ z z' l)
  iterate 30 (refine pieces_cons _ _ _ _ (fun i => ?_) ?_; rotate_left)
  · exact fun _ h => absurd h List.not_mem_nil
  all_goals
    obtain ⟨z, z', l, rfl⟩ : ∃ (z z' : Fin 1) (l : Fin 128), i = ix3 z z' l := ⟨i 0, i 1, i 2, eq_ix3 i⟩
    unfold_payloads
    pointwise
    simp only [d, u]
    exact (sum_rot _ _ _ (by norm_num) (by norm_num) (hm _)).trans (taps_row _ _ _ _ _ _ _ _ rfl _ z z' l)

theorem out12_eq (z : Fin 1) (q : Fin 8) (l : Fin 128) :
    out0_12 (F := Ideal) (ext x0) (ext x1) (ext x2) (ext x3) x4 (ext x5) (ext x6) (ext x7) x8 (ix3 z q l) = sums (mat x2) (mat x7) (vec x5) (vec x6) (mat x8) q.val l := by
  have d := fun r l => dConv_eq x0 x1 x2 x7 x3 x4 x5 x6 x8 r l
  have e := fun r l => dPre_eq x2 x7 x5 x6 r l
  have h := fun r l => hat_eq x2 r l
  unfold out0_12 k0_pay13 k0_pay11 k0_pay10
  rw [View.canon_unit_zero off3]
  rw [show k0_pay12 (F := Ideal) (k0_pay112 (ext x0) (ext x1) (ext x2) (ext x3) x4 (ext x5) (ext x6) (ext x7) x8) (k0_pay113 (ext x0) (ext x1) (ext x2) (ext x3) x4 (ext x5) (ext x6) (ext x7) x8)
      (k0_pay114 (ext x0) (ext x1) (ext x2) (ext x3) x4 (ext x5) (ext x6) (ext x7) x8) (k0_pay115 (ext x0) (ext x1) (ext x2) (ext x3) x4 (ext x5) (ext x6) (ext x7) x8) (View.ld (ext x7) r0_0) (View.ld (ext x5) r0_1)
      = k0_pay116 (ext x0) (ext x1) (ext x2) (ext x3) x4 (ext x5) (ext x6) (ext x7) x8 from rfl]
  unfold k0_pay113 k0_pay114 k0_pay115 k0_pay1
  generalize k0_pay116 (F := Ideal) (ext x0) (ext x1) (ext x2) (ext x3) x4 (ext x5) (ext x6) (ext x7) x8 = p at *
  generalize k0_pay9 (F := Ideal) (k0_pay7 (View.ld (ext x5) r0_1) (View.ld (ext x6) r0_1) (View.ld (ext x2) r0_0)) (k0_pay8 (View.ld (ext x5) r0_1) (View.ld (ext x6) r0_1) (View.ld (ext x2) r0_0)) (View.ld (ext x7) r0_0) = s at *
  generalize k0_pay6 (F := Ideal) (View.ld (ext x2) r0_0) = t at *
  pointwise
  have hq : q.val < 2 ^ 32 := by have := q.isLt; omega
  rw [sel_eq q.val 3 hq (by norm_num), sel_eq q.val 2 hq (by norm_num), sel_eq q.val 1 hq (by norm_num), sel_eq q.val 0 hq (by norm_num)]
  simp only [d, e, h, ← EReal.coe_mul, ← coe_sum]
  rfl

end Cert.Proof.Conf

end
-- ==== Proof.ConfLaunch.lean ====
/- The gated convolution's gradient: what the launch leaves in its result arrays. -/
module

public import proofs.«01_k».proof.Proof.ConfKernel
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

namespace Cert.Proof.Conf

open Idealize.ShloMosaic Idealize.ShloMosaic.TcCoe Idealize.SL.Sem Cert.ConfKIdeal Cert.ConfKIdeal.Gen

theorem blk0 : ∀ t : Fin cfg0.N, win0_0.index t = ![win0_9.index t 0, win0_9.index t 1] := (by decide +kernel : ∀ t : Fin grid0.N, _)
theorem blk1 : ∀ t : Fin cfg0.N, win0_1.index t = ![win0_9.index t 0, 8 + win0_9.index t 1] := (by decide +kernel : ∀ t : Fin grid0.N, _)
theorem blk2 : ∀ t : Fin cfg0.N, win0_2.index t = ![win0_9.index t 0, win0_9.index t 1] := (by decide +kernel : ∀ t : Fin grid0.N, _)
theorem blk3 : ∀ t : Fin cfg0.N, win0_3.index t = ![0, win0_9.index t 1] := (by decide +kernel : ∀ t : Fin grid0.N, _)
theorem blk5 : ∀ t : Fin cfg0.N, win0_5.index t = ![0, win0_9.index t 1] := (by decide +kernel : ∀ t : Fin grid0.N, _)
theorem blk6 : ∀ t : Fin cfg0.N, win0_6.index t = ![0, win0_9.index t 1] := (by decide +kernel : ∀ t : Fin grid0.N, _)
theorem blk7 : ∀ t : Fin cfg0.N, win0_7.index t = ![win0_9.index t 0, win0_9.index t 1] := (by decide +kernel : ∀ t : Fin grid0.N, _)
theorem blk8 : ∀ t : Fin cfg0.N, win0_8.index t = ![win0_9.index t 0, win0_9.index t 1] := (by decide +kernel : ∀ t : Fin grid0.N, _)
theorem blk10 : ∀ t : Fin cfg0.N, win0_10.index t = ![win0_9.index t 0, win0_9.index t 1] := (by decide +kernel : ∀ t : Fin grid0.N, _)
theorem blk11 : ∀ t : Fin cfg0.N, win0_11.index t = ![win0_9.index t 0, 0, win0_9.index t 1] := (by decide +kernel : ∀ t : Fin grid0.N, _)
theorem blk12 : ∀ t : Fin cfg0.N, win0_12.index t = ![win0_9.index t 0, 0, win0_9.index t 1] := (by decide +kernel : ∀ t : Fin grid0.N, _)
theorem blk9 : ∀ t : Fin cfg0.N, win0_9.index t 0 < 2 ∧ win0_9.index t 1 < 8 := (by decide +kernel : ∀ t : Fin grid0.N, _)

variable (P : S4096x5120.Idx → ℝ) (U D : S4096x1024.Idx → ℝ) (W : S31x1024.Idx → ℝ) (G B : S1024.Idx → ℝ)
variable (m : (ℓ : Loc nD τ sig) → Buf (Elt Ideal) ℓ) (c : Dev nD) (t : Fin cfg0.N)

/-- The example and the group of a point. -/
def exq : Fin 2 := ⟨win0_9.index t 0, (blk9 t).1⟩
def gr : Fin 8 := ⟨win0_9.index t 1, (blk9 t).2⟩

theorem in0 (h : m ((c : Thread nD τ).loc main_arg0) = ext P) : iblk m c 0 t = ext (fun y : S2048x128.Idx => vals P (exq t) (gr t) (y 0) (y 1)) := by
  have hV := (V_main_arg0 m c).trans h
  funext y
  show V m c main_arg0 (((cfg0.win 0).blk t).view.emb y) = _
  rw [hV]
  refine congrArg (fun i => (P i : EReal)) (funext fun a => Fin.ext ?_)
  have e := blk0 t
  match a with
  | ⟨0, _⟩ => show win0_0.index t 0 * 2048 + 1 * (y 0).val = win0_9.index t 0 * 2048 + (y 0).val; rw [e]; show win0_9.index t 0 * 2048 + _ = _; omega
  | ⟨1, _⟩ => show win0_0.index t 1 * 128 + 1 * (y 1).val = win0_9.index t 1 * 128 + (y 1).val; rw [e]; show win0_9.index t 1 * 128 + _ = _; omega

theorem in1 (h : m ((c : Thread nD τ).loc main_arg0) = ext P) : iblk m c 1 t = ext (fun y : S2048x128.Idx => gates P (exq t) (gr t) (y 0) (y 1)) := by
  have hV := (V_main_arg0 m c).trans h
  funext y
  show V m c main_arg0 (((cfg0.win 1).blk t).view.emb y) = _
  rw [hV]
  refine congrArg (fun i => (P i : EReal)) (funext fun a => Fin.ext ?_)
  have e := blk1 t
  match a with
  | ⟨0, _⟩ => show win0_1.index t 0 * 2048 + 1 * (y 0).val = win0_9.index t 0 * 2048 + (y 0).val; rw [e]; show win0_9.index t 0 * 2048 + _ = _; omega
  | ⟨1, _⟩ => show win0_1.index t 1 * 128 + 1 * (y 1).val = 1024 + (win0_9.index t 1 * 128 + (y 1).val); rw [e]; show (8 + win0_9.index t 1) * 128 + _ = _; omega

theorem in2 (h : m ((c : Thread nD τ).loc main_arg1) = ext U) : iblk m c 2 t = ext (fun y : S2048x128.Idx => grp U (exq t) (gr t) (y 0) (y 1)) := by
  have hV := (V_main_arg1 m c).trans h
  funext y
  show V m c main_arg1 (((cfg0.win 2).blk t).view.emb y) = _
  rw [hV]
  refine congrArg (fun i => (U i : EReal)) (funext fun a => Fin.ext ?_)
  have e := blk2 t
  match a with
  | ⟨0, _⟩ => show win0_2.index t 0 * 2048 + 1 * (y 0).val = win0_9.index t 0 * 2048 + (y 0).val; rw [e]; show win0_9.index t 0 * 2048 + _ = _; omega
  | ⟨1, _⟩ => show win0_2.index t 1 * 128 + 1 * (y 1).val = win0_9.index t 1 * 128 + (y 1).val; rw [e]; show win0_9.index t 1 * 128 + _ = _; omega

theorem in3 (h : m ((c : Thread nD τ).loc main_arg2) = ext W) : iblk m c 3 t = ext (fun y : S31x128.Idx => tap W (gr t) (y 0) (y 1)) := by
  have hV := (V_main_arg2 m c).trans h
  funext y
  show V m c main_arg2 (((cfg0.win 3).blk t).view.emb y) = _
  rw [hV]
  refine congrArg (fun i => (W i : EReal)) (funext fun a => Fin.ext ?_)
  have e := blk3 t
  match a with
  | ⟨0, _⟩ => show win0_3.index t 0 * 31 + 1 * (y 0).val = (y 0).val; rw [e]; show 0 * 31 + _ = _; omega
  | ⟨1, _⟩ => show win0_3.index t 1 * 128 + 1 * (y 1).val = win0_9.index t 1 * 128 + (y 1).val; rw [e]; show win0_9.index t 1 * 128 + _ = _; omega

theorem in7 (h : m ((c : Thread nD τ).loc main_arg6) = ext D) : iblk m c 7 t = ext (fun y : S2048x128.Idx => grp D (exq t) (gr t) (y 0) (y 1)) := by
  have hV := (V_main_arg6 m c).trans h
  funext y
  show V m c main_arg6 (((cfg0.win 7).blk t).view.emb y) = _
  rw [hV]
  refine congrArg (fun i => (D i : EReal)) (funext fun a => Fin.ext ?_)
  have e := blk7 t
  match a with
  | ⟨0, _⟩ => show win0_7.index t 0 * 2048 + 1 * (y 0).val = win0_9.index t 0 * 2048 + (y 0).val; rw [e]; show win0_9.index t 0 * 2048 + _ = _; omega
  | ⟨1, _⟩ => show win0_7.index t 1 * 128 + 1 * (y 1).val = win0_9.index t 1 * 128 + (y 1).val; rw [e]; show win0_9.index t 1 * 128 + _ = _; omega

theorem in5 (h : m ((c : Thread nD τ).loc main_arg4) = ext G) : iblk m c 5 t = ext (fun y : S1x128.Idx => per G (gr t) (y 1)) := by
  funext y
  obtain ⟨z, l, rfl⟩ : ∃ (z : Fin 1) (l : Fin 128), y = ix2 z l := ⟨y 0, y 1, eq_ix2 y⟩
  refine Eq.trans ?_ (congrFun h (ix1 (chan (gr t) l)))
  show _ = m ((c : Thread nD τ).loc main_arg4) (ix1 ⟨win0_9.index t 1 * 128 + l.val, _⟩)
  blk_ext! [iblk, blk5 t]

theorem in6 (h : m ((c : Thread nD τ).loc main_arg5) = ext B) : iblk m c 6 t = ext (fun y : S1x128.Idx => per B (gr t) (y 1)) := by
  funext y
  obtain ⟨z, l, rfl⟩ : ∃ (z : Fin 1) (l : Fin 128), y = ix2 z l := ⟨y 0, y 1, eq_ix2 y⟩
  refine Eq.trans ?_ (congrFun h (ix1 (chan (gr t) l)))
  show _ = m ((c : Thread nD τ).loc main_arg5) (ix1 ⟨win0_9.index t 1 * 128 + l.val, _⟩)
  blk_ext! [iblk, blk6 t]

theorem in8 (r : Fin 2048) (l : Fin 128) : iblk m c 8 t (ix2 r l) = grp (m ((c : Thread nD τ).loc main_arg7)) (exq t) (gr t) r l := by
  show V m c main_arg7 (((cfg0.win 8).blk t).view.emb (ix2 r l)) = _
  rw [V_main_arg7 m c]
  refine congrArg (m ((c : Thread nD τ).loc main_arg7)) (funext fun a => Fin.ext ?_)
  have e := blk8 t
  match a with
  | ⟨0, _⟩ => show win0_8.index t 0 * 2048 + 1 * r.val = win0_9.index t 0 * 2048 + r.val; rw [e]; show win0_9.index t 0 * 2048 + _ = _; omega
  | ⟨1, _⟩ => show win0_8.index t 1 * 128 + 1 * l.val = win0_9.index t 1 * 128 + l.val; rw [e]; show win0_9.index t 1 * 128 + _ = _; omega

variable (h0 : m ((c : Thread nD τ).loc main_arg0) = ext P) (h1 : m ((c : Thread nD τ).loc main_arg1) = ext U)
  (h2 : m ((c : Thread nD τ).loc main_arg2) = ext W) (h4 : m ((c : Thread nD τ).loc main_arg4) = ext G)
  (h5 : m ((c : Thread nD τ).loc main_arg5) = ext B) (h6 : m ((c : Thread nD τ).loc main_arg6) = ext D)

include h0 h1 h2 h4 h5 h6 in
theorem arr9 : (dats m 0 c).arrAt 9 cfg0.N = resVal P U D W G B := by
  refine (dats m 0 c).arrAt_eq_of_covers 9 _ (by decide +kernel) fun t _ j => ?_
  refine (congrFun (Value.flushed9 m c t) j).trans ?_
  rw [in0 P m c t h0, in1 P m c t h0, in2 U m c t h1, in3 W m c t h2, in5 G m c t h4, in6 B m c t h5, in7 D m c t h6]
  show out0_9 (F := Ideal) _ _ _ _ _ _ _ _ _ j = (resVal P U D W G B (((cfg0.win 9).blk t).view.emb j) : EReal)
  obtain ⟨r, l, rfl⟩ : ∃ (r : Fin 2048) (l : Fin 128), j = ix2 r l := ⟨j 0, j 1, eq_ix2 j⟩
  refine (out9_eq _ _ _ _ _ _ _ _ _ r l).trans (((resVal_at P U D W G B (exq t) (gr t) r l).symm : _ = _).trans ?_)
  refine congrArg (resVal P U D W G B) (funext fun a => Fin.ext ?_)
  have e := blk9 t
  match a with
  | ⟨0, _⟩ => show win0_9.index t 0 * 2048 + r.val = win0_9.index t 0 * 2048 + 1 * r.val; omega
  | ⟨1, _⟩ => show win0_9.index t 1 * 128 + l.val = win0_9.index t 1 * 128 + 1 * l.val; omega

include h0 h1 h2 h4 h5 h6 in
theorem arr10 : (dats m 0 c).arrAt 10 cfg0.N = resGate P U D W G B := by
  refine (dats m 0 c).arrAt_eq_of_covers 10 _ (by decide +kernel) fun t _ j => ?_
  refine (congrFun (Value.flushed10 m c t) j).trans ?_
  rw [in0 P m c t h0, in1 P m c t h0, in2 U m c t h1, in3 W m c t h2, in5 G m c t h4, in6 B m c t h5, in7 D m c t h6]
  show out0_10 (F := Ideal) _ _ _ _ _ _ _ _ _ j = (resGate P U D W G B (((cfg0.win 10).blk t).view.emb j) : EReal)
  obtain ⟨r, l, rfl⟩ : ∃ (r : Fin 2048) (l : Fin 128), j = ix2 r l := ⟨j 0, j 1, eq_ix2 j⟩
  refine (out10_eq _ _ _ _ _ _ _ _ _ r l).trans (((resGate_at P U D W G B (exq t) (gr t) r l).symm : _ = _).trans ?_)
  refine congrArg (resGate P U D W G B) (funext fun a => Fin.ext ?_)
  have e := blk10 t
  match a with
  | ⟨0, _⟩ => show win0_9.index t 0 * 2048 + r.val = win0_10.index t 0 * 2048 + 1 * r.val; rw [e]; show _ = win0_9.index t 0 * 2048 + _; omega
  | ⟨1, _⟩ => show win0_9.index t 1 * 128 + l.val = win0_10.index t 1 * 128 + 1 * l.val; rw [e]; show _ = win0_9.index t 1 * 128 + _; omega

include h0 h1 h2 h4 h5 h6 in
theorem arr11 : (dats m 0 c).arrAt 11 cfg0.N = resTap P U D G B := by
  refine (dats m 0 c).arrAt_eq_of_covers 11 _ (by decide +kernel) fun t _ j => ?_
  refine (congrFun (Value.flushed11 m c t) j).trans ?_
  rw [in0 P m c t h0, in1 P m c t h0, in2 U m c t h1, in3 W m c t h2, in5 G m c t h4, in6 B m c t h5, in7 D m c t h6]
  show out0_11 (F := Ideal) _ _ _ _ _ _ _ _ _ j = (resTap P U D G B (((cfg0.win 11).blk t).view.emb j) : EReal)
  obtain ⟨z, k, l, rfl⟩ : ∃ (z : Fin 1) (k : Fin 31) (l : Fin 128), j = ix3 z k l := ⟨j 0, j 1, j 2, eq_ix3 j⟩
  refine (out11_eq _ _ _ _ _ _ _ _ _ (ix3 z k l)).trans (((resTap_at P U D G B (exq t) k (gr t) l).symm : _ = _).trans ?_)
  refine congrArg (resTap P U D G B) (funext fun a => Fin.ext ?_)
  have hz : z.val < 1 := z.isLt
  have e := blk11 t
  match a with
  | ⟨0, _⟩ => show win0_9.index t 0 = win0_11.index t 0 * 1 + 1 * z.val; rw [e]; show _ = win0_9.index t 0 * 1 + _; omega
  | ⟨1, _⟩ => show k.val = win0_11.index t 1 * 31 + 1 * k.val; rw [e]; show _ = 0 * 31 + _; omega
  | ⟨2, _⟩ => show win0_9.index t 1 * 128 + l.val = win0_11.index t 2 * 128 + 1 * l.val; rw [e]; show _ = win0_9.index t 1 * 128 + _; omega

include h0 h1 h2 h4 h5 h6 in
theorem arr12 : (dats m 0 c).arrAt 12 cfg0.N = resSums U D G B (m ((c : Thread nD τ).loc main_arg7)) := by
  refine (dats m 0 c).arrAt_eq_of_covers 12 _ (by decide +kernel) fun t _ j => ?_
  refine (congrFun (Value.flushed12 m c t) j).trans ?_
  rw [in0 P m c t h0, in1 P m c t h0, in2 U m c t h1, in3 W m c t h2, in5 G m c t h4, in6 B m c t h5, in7 D m c t h6]
  show out0_12 (F := Ideal) _ _ _ _ _ _ _ _ _ j = (resSums U D G B (m ((c : Thread nD τ).loc main_arg7)) (((cfg0.win 12).blk t).view.emb j) : EReal)
  obtain ⟨z, p, l, rfl⟩ : ∃ (z : Fin 1) (p : Fin 8) (l : Fin 128), j = ix3 z p l := ⟨j 0, j 1, j 2, eq_ix3 j⟩
  refine (out12_eq _ _ _ _ _ _ _ _ _ z p l).trans (Eq.trans ?_ (((resSums_at U D G B (m ((c : Thread nD τ).loc main_arg7)) (exq t) p (gr t) l).symm : _ = _).trans ?_))
  · refine congrArg (fun o => sums _ _ _ _ o p.val l) (funext fun r => funext fun l => ?_)
    exact in8 m c t r l
  refine congrArg (resSums U D G B (m ((c : Thread nD τ).loc main_arg7))) (funext fun a => Fin.ext ?_)
  have hz : z.val < 1 := z.isLt
  have e := blk12 t
  match a with
  | ⟨0, _⟩ => show win0_9.index t 0 = win0_12.index t 0 * 1 + 1 * z.val; rw [e]; show _ = win0_9.index t 0 * 1 + _; omega
  | ⟨1, _⟩ => show p.val = win0_12.index t 1 * 8 + 1 * p.val; rw [e]; show _ = 0 * 8 + _; omega
  | ⟨2, _⟩ => show win0_9.index t 1 * 128 + l.val = win0_12.index t 2 * 128 + 1 * l.val; rw [e]; show _ = win0_9.index t 1 * 128 + _; omega

end Cert.Proof.Conf

end
-- ==== Proof.ConfRef.lean ====
/- The gated convolution's gradient: what the reference computes. -/
module

public import proofs.«01_k».proof.Proof.GroupNorm
public import proofs.«01_k».proof.Proof.Gen.ConfRIdeal.Read

@[expose] public section

set_option maxRecDepth 16384

noncomputable section

namespace Cert.Proof.Conf

open Idealize.ShloMosaic Cert.ConfRIdeal Cert.ConfRIdeal.Gen Cert.ConfRIdeal.Read

theorem minus_half : Ideal.ofBits .f32 0xBF000000#32 = ((-(1 / 2) : ℝ) : EReal) := by
  simp [Ideal.ofBits, Ideal.ieee, -EReal.coe_mul]; norm_num

variable (P : S4096x5120.Idx → ℝ) (U D : S4096x1024.Idx → ℝ) (W : S31x1024.Idx → ℝ) (G B : S1024.Idx → ℝ)

/-! ## The normalised rows -/

theorem ref_cen (q : Fin 2) (r : Fin 2048) (h : Fin 8) (l : Fin 128) :
    val_main_v9 (F := Ideal) (ext U) (ix4 q r h l) = (cen (grp U q h r) l : EReal) := by
  have g : ∀ l, val_main_v3 (F := Ideal) (ext U) (ix4 q r h l) = ((grp U q h r l : ℝ) : EReal) := fun l => by
    pointwise [val_main_v3, val_main_v0]
    unfold grp
    refine congrArg (fun i => (U i : EReal)) (funext fun a => Fin.ext ?_)
    have := q.isLt; have := r.isLt; have := h.isLt; have := l.isLt
    match a with
    | ⟨0, _⟩ => show _ = q.val * 2048 + r.val; simp <;> omega
    | ⟨1, _⟩ => show _ = h.val * 128 + l.val; simp <;> omega
  unfold val_main_v9 val_main_v8 val_main_v7 val_main_v5 val_main_v4
  generalize val_main_v3 (F := Ideal) (ext U) = A at *
  pointwise [val_main_v6, val_main_cst, val_main_cst_0]
  simp only [g]
  exact cen_coe _ _

theorem ref_var (q : Fin 2) (r : Fin 2048) (h : Fin 8) (z : Fin 1) :
    val_main_v16 (F := Ideal) (ext U) (ix4 q r h z) = (var (grp U q h r) : EReal) := by
  have g := ref_cen U q r h
  unfold val_main_v16 val_main_v14 val_main_v12 val_main_v11 val_main_v10
  generalize val_main_v9 (F := Ideal) (ext U) = A at *
  pointwise [val_main_v15, val_main_v13, val_main_cst_1, val_main_cst_2, val_main_cst_3]
  simp only [g]
  exact var_coe _

theorem ref_inv (q : Fin 2) (r : Fin 2048) (h : Fin 8) (z : Fin 1) :
    val_main_v17 (F := Ideal) (ext U) (ix4 q r h z) = (inv (grp U q h r) : EReal) := by
  have g := ref_var U q r h z
  unfold val_main_v17
  generalize val_main_v16 (F := Ideal) (ext U) = A at *
  pointwise
  rw [g]
  exact inv_coe _

theorem ref_cube (q : Fin 2) (r : Fin 2048) (h : Fin 8) (z : Fin 1) :
    val_main_v20 (F := Ideal) (ext U) (ix4 q r h z)
      = ((-(1 / 2) * (inv (grp U q h r) * inv (grp U q h r) * inv (grp U q h r)) : ℝ) : EReal) := by
  have g := ref_var U q r h z
  have i := ref_inv U q r h z
  unfold val_main_v20 val_main_v18
  generalize val_main_v17 (F := Ideal) (ext U) = A at *
  generalize val_main_v16 (F := Ideal) (ext U) = C at *
  pointwise [val_main_v19, val_main_cst_4]
  rw [g, i, cube_coe, minus_half, ← EReal.coe_mul]

theorem ref_hat (q : Fin 2) (r : Fin 2048) (c : Fin 1024) :
    val_main_v23 (F := Ideal) (ext U) (ix3 q r c) = (hat (grp U q (grpOf c) r) (lnOf c) : EReal) := by
  have g := ref_cen U q r (grpOf c) (lnOf c)
  have i := ref_inv U q r (grpOf c) 0
  have e : val_main_v23 (F := Ideal) (ext U) (ix3 q r c) = val_main_v22 (F := Ideal) (ext U) (ix4 q r (grpOf c) (lnOf c)) := by
    unfold val_main_v23
    generalize val_main_v22 (F := Ideal) (ext U) = A
    pointwise
    refine congrArg A (funext fun a => Fin.ext ?_)
    have := q.isLt; have := r.isLt; have := c.isLt
    match a with
    | ⟨0, _⟩ => show _ = q.val; simp <;> omega
    | ⟨1, _⟩ => show _ = r.val; simp <;> omega
    | ⟨2, _⟩ => show _ = c.val / 128; simp <;> omega
    | ⟨3, _⟩ => show _ = c.val % 128; simp <;> omega
  rw [e]
  unfold val_main_v22 val_main_v21
  generalize val_main_v9 (F := Ideal) (ext U) = A at *
  generalize val_main_v17 (F := Ideal) (ext U) = C at *
  pointwise
  rw [g, show C _ = _ from i, ← EReal.coe_mul]
  rfl

theorem ref_pre (q : Fin 2) (r : Fin 2048) (c : Fin 1024) :
    val_main_v29 (F := Ideal) (ext U) (ext G) (ext B) (ix3 q r c)
      = (pre (grp U q (grpOf c)) (per G (grpOf c)) (per B (grpOf c)) r (lnOf c) : EReal) := by
  have g := ref_hat U q r c
  unfold val_main_v29 val_main_v26
  generalize val_main_v23 (F := Ideal) (ext U) = A at *
  pointwise [val_main_v25, val_main_v24, val_main_v1, val_main_v28, val_main_v27, val_main_v2]
  rw [g, ← EReal.coe_mul, ← EReal.coe_add]
  unfold pre per
  rw [chan_of]

theorem ref_sg (q : Fin 2) (r : Fin 2048) (c : Fin 1024) :
    val_main_v30_2 (F := Ideal) (ext U) (ext G) (ext B) (ix3 q r c)
      = (sg (pre (grp U q (grpOf c)) (per G (grpOf c)) (per B (grpOf c)) r (lnOf c)) : EReal) := by
  have g := ref_pre U G B q r c
  unfold val_main_v30_2 val_main_call0_v3 val_main_call0_v1 val_main_call0_v0
  generalize val_main_v29 (F := Ideal) (ext U) (ext G) (ext B) = A at *
  pointwise [val_main_call0_v4, val_main_call0_v2, val_main_call0_cst, val_main_call0_cst_0]
  rw [g, sg_div]

/-! ## Their gradient -/

theorem ref_dPre (q : Fin 2) (r : Fin 2048) (c : Fin 1024) :
    val_main_v32 (F := Ideal) (ext U) (ext G) (ext B) (ext D) (ix3 q r c)
      = (dPre (grp U q (grpOf c)) (grp D q (grpOf c)) (per G (grpOf c)) (per B (grpOf c)) r (lnOf c) : EReal) := by
  have z := ref_pre U G B q r c
  have s := ref_sg U G B q r c
  have d : val_main_v31 (F := Ideal) (ext D) (ix3 q r c) = ((grp D q (grpOf c) r (lnOf c) : ℝ) : EReal) := by
    pointwise [val_main_v31]
    unfold grp
    rw [chan_of]
    rfl
  unfold val_main_v32 val_main_call1_v2 val_main_call1_v1 val_main_call1_v0 val_main_v30_1 val_main_call0_v7
  generalize val_main_v29 (F := Ideal) (ext U) (ext G) (ext B) = A at *
  generalize val_main_v30_2 (F := Ideal) (ext U) (ext G) (ext B) = C at *
  generalize val_main_v31 (F := Ideal) (ext D) = E at *
  pointwise [val_main_call0_v6, val_main_call0_cst_1]
  rw [z, s, d]
  exact dSilu_chain _ _

theorem ref_dHat (q : Fin 2) (r : Fin 2048) (h : Fin 8) (l : Fin 128) :
    val_main_v42 (F := Ideal) (ext U) (ext G) (ext B) (ext D) (ix4 q r h l)
      = ((dPre (grp U q h) (grp D q h) (per G h) (per B h) r l * per G h l : ℝ) : EReal) := by
  have d := ref_dPre U D G B q r (chan h l)
  rw [grpOf_chan, lnOf_chan] at d
  have e : val_main_v42 (F := Ideal) (ext U) (ext G) (ext B) (ext D) (ix4 q r h l)
      = val_main_v40 (F := Ideal) (ext U) (ext G) (ext B) (ext D) (ix3 q r (chan h l)) := by
    unfold val_main_v42
    generalize val_main_v40 (F := Ideal) (ext U) (ext G) (ext B) (ext D) = A
    pointwise
    refine congrArg A (funext fun a => Fin.ext ?_)
    have := q.isLt; have := r.isLt; have := h.isLt; have := l.isLt
    match a with
    | ⟨0, _⟩ => show _ = q.val; simp <;> omega
    | ⟨1, _⟩ => show _ = r.val; simp <;> omega
    | ⟨2, _⟩ => show _ = h.val * 128 + l.val; simp <;> omega
  rw [e]
  unfold val_main_v40
  generalize val_main_v32 (F := Ideal) (ext U) (ext G) (ext B) (ext D) = A at *
  pointwise [val_main_v39, val_main_v24, val_main_v1]
  rw [d, ← EReal.coe_mul]
  rfl

theorem ref_half (q : Fin 2) (r : Fin 2048) (h : Fin 8) (l : Fin 128) :
    val_main_v52 (F := Ideal) (ext U) (ext G) (ext B) (ext D) (ix4 q r h l)
      = (half (grp U q h r) (fun j => dPre (grp U q h) (grp D q h) (per G h) (per B h) r j * per G h j) : EReal) := by
  have d := ref_dHat U D G B q r h
  have g := ref_cen U q r h
  have i := ref_cube U q r h
  unfold val_main_v52 val_main_v51 val_main_v50 val_main_v48 val_main_v45 val_main_v44 val_main_v43
  generalize val_main_v42 (F := Ideal) (ext U) (ext G) (ext B) (ext D) = A at *
  generalize val_main_v9 (F := Ideal) (ext U) = C at *
  generalize val_main_v20 (F := Ideal) (ext U) = E at *
  pointwise [val_main_v49, val_main_cst_9, val_main_cst_10, val_main_cst_11]
  simp only [d, g, i, ofBits_128, Ideal.div_coe (show (128 : ℝ) ≠ 0 by norm_num), ← EReal.coe_mul, ← coe_sum, Finset.univ_unique, Finset.sum_singleton, mul_one_div]
  rfl

theorem ref_dConv (q : Fin 2) (r : Fin 2048) (c : Fin 1024) :
    val_main_v65 (F := Ideal) (ext U) (ext G) (ext B) (ext D) (ix3 q r c)
      = (dConv (grp U q (grpOf c)) (grp D q (grpOf c)) (per G (grpOf c)) (per B (grpOf c)) (lnOf c) r : EReal) := by
  have d := ref_dHat U D G B q r (grpOf c)
  have g := ref_cen U q r (grpOf c)
  have i := ref_inv U q r (grpOf c)
  have k := ref_half U D G B q r (grpOf c)
  have e : val_main_v65 (F := Ideal) (ext U) (ext G) (ext B) (ext D) (ix3 q r c)
      = val_main_v64 (F := Ideal) (ext U) (ext G) (ext B) (ext D) (ix4 q r (grpOf c) (lnOf c)) := by
    unfold val_main_v65
    generalize val_main_v64 (F := Ideal) (ext U) (ext G) (ext B) (ext D) = A
    pointwise
    refine congrArg A (funext fun a => Fin.ext ?_)
    have := q.isLt; have := r.isLt; have := c.isLt
    match a with
    | ⟨0, _⟩ => show _ = q.val; simp <;> omega
    | ⟨1, _⟩ => show _ = r.val; simp <;> omega
    | ⟨2, _⟩ => show _ = c.val / 128; simp <;> omega
    | ⟨3, _⟩ => show _ = c.val % 128; simp <;> omega
  rw [e]
  unfold val_main_v64 val_main_v63 val_main_v62 val_main_v61 val_main_v59 val_main_v58 val_main_v57 val_main_v56 val_main_v55 val_main_v54 val_main_v53 val_main_v47 val_main_v46
  generalize val_main_v42 (F := Ideal) (ext U) (ext G) (ext B) (ext D) = A at *
  generalize val_main_v52 (F := Ideal) (ext U) (ext G) (ext B) (ext D) = H at *
  generalize val_main_v9 (F := Ideal) (ext U) = C at *
  generalize val_main_v17 (F := Ideal) (ext U) = E at *
  pointwise [val_main_v60, val_main_cst_12, val_main_cst_13, val_main_cst_14]
  simp only [d, g, i, k, ofBits_128, Ideal.div_coe (show (128 : ℝ) ≠ 0 by norm_num), ← EReal.coe_mul, ← EReal.coe_add, ← EReal.coe_neg, ← coe_sum,
    Finset.univ_unique, Finset.sum_singleton, mul_one_div]
  exact congrArg Real.toEReal (back_chain (grp U q (grpOf c) r)
    (fun j => dPre (grp U q (grpOf c)) (grp D q (grpOf c)) (per G (grpOf c)) (per B (grpOf c)) r j * per G (grpOf c) j) (lnOf c))

/-! ## The convolution -/

theorem ref_val (q : Fin 2) (r : Fin 2048) (c : Fin 1024) :
    val_main_v67 (F := Ideal) (ext P) (ix3 q r c) = (vals P q (grpOf c) r (lnOf c) : EReal) := by
  pointwise [val_main_v67, val_main_v66]
  unfold vals
  rw [chan_of]
  refine congrArg (fun i => (P i : EReal)) (funext fun a => Fin.ext ?_)
  match a with
  | ⟨0, _⟩ => show _ = q.val * 2048 + r.val; simp <;> omega
  | ⟨1, _⟩ => show _ = c.val; simp <;> omega

theorem ref_gate (q : Fin 2) (r : Fin 2048) (c : Fin 1024) :
    val_main_v69 (F := Ideal) (ext P) (ix3 q r c) = (gates P q (grpOf c) r (lnOf c) : EReal) := by
  pointwise [val_main_v69, val_main_v68]
  unfold gates
  rw [chan_of]
  refine congrArg (fun i => (P i : EReal)) (funext fun a => Fin.ext ?_)
  match a with
  | ⟨0, _⟩ => show _ = q.val * 2048 + r.val; simp <;> omega
  | ⟨1, _⟩ => show _ = 1024 + c.val; simp <;> omega

theorem ref_open (q : Fin 2) (r : Fin 2048) (c : Fin 1024) :
    val_main_v77 (F := Ideal) (ext P) (ix3 q r c) = (sg (gates P q (grpOf c) r (lnOf c)) : EReal) := by
  have g := ref_gate P q r c
  unfold val_main_v77 val_main_v75 val_main_v73 val_main_v72
  generalize val_main_v69 (F := Ideal) (ext P) = A at *
  pointwise [val_main_v76, val_main_v74, val_main_cst_15, val_main_cst_16]
  rw [g, sg_div]

theorem ref_shift (k : Fin 31) (t s : Fin 2048) :
    val_main_v89 (F := Ideal) (ix3 k t s) = ((if s.val + 30 = t.val + k.val then 1 else 0 : ℝ) : EReal) := by
  pointwise [val_main_v89, val_main_v88, val_main_v87, val_main_v86, val_main_v85, val_main_v84, val_main_v83, val_main_v82, val_main_c, val_main_call2_v0, val_main_call2_v1, val_main_cst_18, val_main_cst_19]
  exact shift_entry _ _ _ _ (by have := s.isLt; omega) (by have := t.isLt; have := k.isLt; omega)

theorem ref_lag (q : Fin 2) (k : Fin 31) (r : Fin 2048) (c : Fin 1024) :
    val_main_v92 (F := Ideal) (ext P) (ix4 q k r c) = (lag (gated (vals P q (grpOf c)) (gates P q (grpOf c)) (lnOf c)) (30 - k.val) r : EReal) := by
  have g := fun r => ref_val P q r c
  have o := fun r => ref_open P q r c
  have h := fun k t s => ref_shift k t s
  unfold val_main_v92 val_main_v91 val_main_v81
  generalize val_main_v67 (F := Ideal) (ext P) = A at *
  generalize val_main_v77 (F := Ideal) (ext P) = C at *
  generalize val_main_v89 (F := Ideal) = E at *
  pointwise
  simp only [g, o, h, ← EReal.coe_mul]
  simp only [EReal.coe_mul]
  exact shift_row (gated (vals P q (grpOf c)) (gates P q (grpOf c)) (lnOf c)) 30 k.val (by have := k.isLt; omega) r

theorem ref_dGated (q : Fin 2) (r : Fin 2048) (c : Fin 1024) :
    val_main_v110 (F := Ideal) (ext U) (ext W) (ext G) (ext B) (ext D) (ix3 q r c)
      = (dGated (grp U q (grpOf c)) (grp D q (grpOf c)) (tap W (grpOf c)) (per G (grpOf c)) (per B (grpOf c)) r (lnOf c) : EReal) := by
  have y := fun r => ref_dConv U D G B q r c
  have h := fun k t s => ref_shift k t s
  unfold val_main_v110 val_main_v109 val_main_v108 val_main_v104 val_main_v102
  generalize val_main_v65 (F := Ideal) (ext U) (ext G) (ext B) (ext D) = A at *
  generalize val_main_v89 (F := Ideal) = E at *
  pointwise [val_main_v103, val_main_v90, val_main_v70]
  simp only [y, h, ← EReal.coe_mul, ← coe_sum]
  unfold dGated convT tap
  rw [chan_of]
  refine congrArg Real.toEReal (Finset.sum_congr rfl fun k _ => ?_)
  rw [show (31 - 1 - k.val) = 30 - k.val from rfl, ← sum_shift_col _ 30 k.val (by have := k.isLt; omega) r, Finset.mul_sum]
  exact Finset.sum_congr rfl fun t _ => mul_assoc _ _ _

theorem ref_tap (q : Fin 2) (k : Fin 31) (c : Fin 1024) :
    val_main_v111 (F := Ideal) (ext P) (ext U) (ext G) (ext B) (ext D) (ix3 q k c) = tapAt P U D G B q k (grpOf c) (lnOf c) := by
  have y := fun r => ref_dConv U D G B q r c
  have g := fun k r => ref_lag P q k r c
  unfold val_main_v111 val_main_v107 val_main_v106 val_main_v105 val_main_v102
  generalize val_main_v65 (F := Ideal) (ext U) (ext G) (ext B) (ext D) = A at *
  generalize val_main_v92 (F := Ideal) (ext P) = E at *
  pointwise [val_main_cst_23, val_main_cst_24]
  simp only [y, g, Finset.univ_unique, Finset.sum_singleton, ← EReal.coe_mul, ← coe_sum]
  rfl

theorem ref_dVal (q : Fin 2) (r : Fin 2048) (c : Fin 1024) :
    val_main_v113 (F := Ideal) (ext P) (ext U) (ext W) (ext G) (ext B) (ext D) (ix3 q r c) = valAt P U D W G B q (grpOf c) r (lnOf c) := by
  have d := ref_dGated U D W G B q r c
  have o := ref_open P q r c
  unfold val_main_v113
  generalize val_main_v110 (F := Ideal) (ext U) (ext W) (ext G) (ext B) (ext D) = A at *
  generalize val_main_v77 (F := Ideal) (ext P) = C at *
  pointwise
  rw [d, o, ← EReal.coe_mul]
  rfl

theorem ref_dGate (q : Fin 2) (r : Fin 2048) (c : Fin 1024) :
    val_main_v114 (F := Ideal) (ext P) (ext U) (ext W) (ext G) (ext B) (ext D) (ix3 q r c) = gateAt P U D W G B q (grpOf c) r (lnOf c) := by
  have d := ref_dGated U D W G B q r c
  have o := ref_open P q r c
  have v := ref_val P q r c
  unfold val_main_v114 val_main_v112 val_main_v80 val_main_v79
  generalize val_main_v110 (F := Ideal) (ext U) (ext W) (ext G) (ext B) (ext D) = A at *
  generalize val_main_v77 (F := Ideal) (ext P) = C at *
  generalize val_main_v67 (F := Ideal) (ext P) = E at *
  pointwise [val_main_v78, val_main_cst_17]
  rw [d, o, v, one_coe, ← EReal.coe_sub, ← EReal.coe_mul, ← EReal.coe_mul, ← EReal.coe_mul]
  unfold gateAt dGate
  exact congrArg Real.toEReal (by ring)

/-! ## The sums over the rows -/

variable (O : S4096x1024.Idx → EReal)

theorem ref_sum0 (q : Fin 2) (z : Fin 1) (c : Fin 1024) :
    val_main_v122 (F := Ideal) (ext U) (ext G) (ext B) (ext D) (ix3 q z c)
      = ((∑ r, dConv (grp U q (grpOf c)) (grp D q (grpOf c)) (per G (grpOf c)) (per B (grpOf c)) (lnOf c) r : ℝ) : EReal) := by
  have y := fun r => ref_dConv U D G B q r c
  unfold val_main_v122 val_main_v101 val_main_v100 val_main_v99
  generalize val_main_v65 (F := Ideal) (ext U) (ext G) (ext B) (ext D) = A at *
  pointwise [val_main_cst_21, val_main_cst_22]
  simp only [y, Finset.univ_unique, Finset.sum_singleton, ← coe_sum]

theorem ref_sum1 (q : Fin 2) (z : Fin 1) (c : Fin 1024) :
    val_main_v123 (F := Ideal) (ext U) (ext G) (ext B) (ext D) (ix3 q z c)
      = ((∑ r, dPre (grp U q (grpOf c)) (grp D q (grpOf c)) (per G (grpOf c)) (per B (grpOf c)) r (lnOf c) * hat (grp U q (grpOf c) r) (lnOf c) : ℝ) : EReal) := by
  have y := fun r => ref_dPre U D G B q r c
  have g := fun r => ref_hat U q r c
  unfold val_main_v123 val_main_v41 val_main_v38 val_main_v37 val_main_v36
  generalize val_main_v32 (F := Ideal) (ext U) (ext G) (ext B) (ext D) = A at *
  generalize val_main_v23 (F := Ideal) (ext U) = C at *
  pointwise [val_main_cst_7, val_main_cst_8]
  simp only [y, g, Finset.univ_unique, Finset.sum_singleton, ← EReal.coe_mul, ← coe_sum]
  exact congrArg Real.toEReal (Finset.sum_congr rfl fun r _ => mul_comm _ _)

theorem ref_sum2 (q : Fin 2) (z : Fin 1) (c : Fin 1024) :
    val_main_v124 (F := Ideal) (ext U) (ext G) (ext B) (ext D) (ix3 q z c)
      = ((∑ r, dPre (grp U q (grpOf c)) (grp D q (grpOf c)) (per G (grpOf c)) (per B (grpOf c)) r (lnOf c) : ℝ) : EReal) := by
  have y := fun r => ref_dPre U D G B q r c
  unfold val_main_v124 val_main_v35 val_main_v34 val_main_v33
  generalize val_main_v32 (F := Ideal) (ext U) (ext G) (ext B) (ext D) = A at *
  pointwise [val_main_cst_5, val_main_cst_6]
  simp only [y, Finset.univ_unique, Finset.sum_singleton, ← coe_sum]

theorem ref_sum3 (q : Fin 2) (z : Fin 1) (c : Fin 1024) :
    val_main_v125 (F := Ideal) O (ix3 q z c) = ∑ r, grp O q (grpOf c) r (lnOf c) := by
  pointwise [val_main_v125, val_main_v117, val_main_v116, val_main_v115, val_main_cst_25]
  unfold grp
  rw [chan_of]
  rfl

theorem ref_sums (q : Fin 2) (p : Fin 8) (c : Fin 1024) :
    val_main_v128 (F := Ideal) (ext U) (ext G) (ext B) (ext D) O (ix3 q p c) = sumAt U D G B O q p (grpOf c) (lnOf c) := by
  have s0 := fun z => ref_sum0 U D G B q z c
  have s1 := fun z => ref_sum1 U D G B q z c
  have s2 := fun z => ref_sum2 U D G B q z c
  have s3 := fun z => ref_sum3 O q z c
  unfold val_main_v128 val_main_v126
  generalize val_main_v122 (F := Ideal) (ext U) (ext G) (ext B) (ext D) = A0 at *
  generalize val_main_v123 (F := Ideal) (ext U) (ext G) (ext B) (ext D) = A1 at *
  generalize val_main_v124 (F := Ideal) (ext U) (ext G) (ext B) (ext D) = A2 at *
  generalize val_main_v125 (F := Ideal) O = A3 at *
  pointwise [val_main_v127, val_main_cst_26]
  simp only [s0, s1, s2, s3]
  unfold sumAt sums
  have hp := p.isLt
  split_ifs <;> first | rfl | omega

end Cert.Proof.Conf

end
-- ==== Proof.Conf.lean ====
/- The gated convolution's gradient: the launch and the reference agree. -/
module

public import proofs.«01_k».proof.Defs
public import proofs.«01_k».proof.Proof.ConfLaunch
public import proofs.«01_k».proof.Proof.ConfRef
public import proofs.«01_k».proof.Proof.Gen.Pre_finite_conf

@[expose] public section

set_option maxRecDepth 16384

noncomputable section

namespace Cert.Proof.Conf

open Idealize.ShloMosaic Idealize.ShloMosaic.TcCoe Idealize.SL.Sem

/-! ## The reference's results -/

section Reference
open Cert.ConfRIdeal Cert.ConfRIdeal.Gen Cert.ConfRIdeal.Read
variable (P : S4096x5120.Idx → ℝ) (U D : S4096x1024.Idx → ℝ) (W : S31x1024.Idx → ℝ) (G B : S1024.Idx → ℝ) (O : S4096x1024.Idx → EReal)

theorem res119 {x0 : S4096x5120.Idx → EReal} {x1 x6 : S4096x1024.Idx → EReal} {x2 : S31x1024.Idx → EReal} {x4 x5 : S1024.Idx → EReal}
    (h0 : x0 = ext P) (h1 : x1 = ext U) (h2 : x2 = ext W) (h4 : x4 = ext G) (h5 : x5 = ext B) (h6 : x6 = ext D) :
    val_main_v119 (F := Ideal) x0 x1 x2 x4 x5 x6 = resVal P U D W G B := by
  subst h0 h1 h2 h4 h5 h6
  funext i
  obtain ⟨R, n, rfl⟩ : ∃ (R : Fin 4096) (n : Fin 1024), i = ix2 R n := ⟨i 0, i 1, eq_ix2 i⟩
  refine Eq.trans ?_ (ref_dVal P U D W G B (exOf R) (rowOf R) n)
  unfold val_main_v119 val_main_v118
  generalize val_main_v113 (F := Ideal) (ext P) (ext U) (ext W) (ext G) (ext B) (ext D) = A
  pointwise
  rfl

theorem res121 {x0 : S4096x5120.Idx → EReal} {x1 x6 : S4096x1024.Idx → EReal} {x2 : S31x1024.Idx → EReal} {x4 x5 : S1024.Idx → EReal}
    (h0 : x0 = ext P) (h1 : x1 = ext U) (h2 : x2 = ext W) (h4 : x4 = ext G) (h5 : x5 = ext B) (h6 : x6 = ext D) :
    val_main_v121 (F := Ideal) x0 x1 x2 x4 x5 x6 = resGate P U D W G B := by
  subst h0 h1 h2 h4 h5 h6
  funext i
  obtain ⟨R, n, rfl⟩ : ∃ (R : Fin 4096) (n : Fin 1024), i = ix2 R n := ⟨i 0, i 1, eq_ix2 i⟩
  refine Eq.trans ?_ (ref_dGate P U D W G B (exOf R) (rowOf R) n)
  unfold val_main_v121 val_main_v120
  generalize val_main_v114 (F := Ideal) (ext P) (ext U) (ext W) (ext G) (ext B) (ext D) = A
  pointwise
  rfl

theorem res111 {x0 : S4096x5120.Idx → EReal} {x1 x6 : S4096x1024.Idx → EReal} {x4 x5 : S1024.Idx → EReal}
    (h0 : x0 = ext P) (h1 : x1 = ext U) (h4 : x4 = ext G) (h5 : x5 = ext B) (h6 : x6 = ext D) :
    val_main_v111 (F := Ideal) x0 x1 x4 x5 x6 = resTap P U D G B := by
  subst h0 h1 h4 h5 h6
  funext i
  obtain ⟨q, k, n, rfl⟩ : ∃ (q : Fin 2) (k : Fin 31) (n : Fin 1024), i = ix3 q k n := ⟨i 0, i 1, i 2, eq_ix3 i⟩
  exact ref_tap P U D G B q k n

theorem res128 {x1 x6 : S4096x1024.Idx → EReal} {x4 x5 : S1024.Idx → EReal} {x7 : S4096x1024.Idx → EReal}
    (h1 : x1 = ext U) (h4 : x4 = ext G) (h5 : x5 = ext B) (h6 : x6 = ext D) (h7 : x7 = O) :
    val_main_v128 (F := Ideal) x1 x4 x5 x6 x7 = resSums U D G B O := by
  subst h1 h4 h5 h6 h7
  funext i
  obtain ⟨q, p, n, rfl⟩ : ∃ (q : Fin 2) (p : Fin 8) (n : Fin 1024), i = ix3 q p n := ⟨i 0, i 1, i 2, eq_ix3 i⟩
  exact ref_sums U D G B _ q p n

end Reference

/-! ## The precondition -/

section Pre
open Cert.Pre_finite_conf
variable [Cert.Pre_finite_conf.Facts]
variable (x0 : (⟨2, ![4096, 5120]⟩ : Shape).Idx → EReal)
variable (x1 : (⟨2, ![4096, 1024]⟩ : Shape).Idx → EReal)
variable (x2 : (⟨2, ![31, 1024]⟩ : Shape).Idx → EReal)
variable (x3 : (⟨1, ![1024]⟩ : Shape).Idx → EReal)
variable (x4 : (⟨1, ![1024]⟩ : Shape).Idx → EReal)
variable (x5 : (⟨1, ![1024]⟩ : Shape).Idx → EReal)
variable (x6 : (⟨2, ![4096, 1024]⟩ : Shape).Idx → EReal)
variable (x7 : (⟨2, ![4096, 1024]⟩ : Shape).Idx → EReal)

theorem fin0 (h : (fn (F := Ideal) x0 x1 x2 x3 x4 x5 x6 x7).1 = fun _ => 1#1) (i) : x0 i < (⊤ : EReal) ∧ (⊥ : EReal) < x0 i := by
  obtain ⟨r, l, rfl⟩ : ∃ (r : Fin 4096) (l : Fin 5120), i = ix2 r l := ⟨i 0, i 1, eq_ix2 i⟩
  have h := congrFun h (ix2 r l)
  unfold fn fn_part1 at h
  revert h
  pointwise
  intro h
  rw [ofBits_top_f32, ofBits_bot_f32] at h
  exact both_lt h

theorem fin1 (h : (fn (F := Ideal) x0 x1 x2 x3 x4 x5 x6 x7).2.1 = fun _ => 1#1) (i) : x1 i < (⊤ : EReal) ∧ (⊥ : EReal) < x1 i := by
  obtain ⟨r, l, rfl⟩ : ∃ (r : Fin 4096) (l : Fin 1024), i = ix2 r l := ⟨i 0, i 1, eq_ix2 i⟩
  have h := congrFun h (ix2 r l)
  unfold fn fn_part1 at h
  revert h
  pointwise
  intro h
  rw [ofBits_top_f32, ofBits_bot_f32] at h
  exact both_lt h

theorem fin2 (h : (fn (F := Ideal) x0 x1 x2 x3 x4 x5 x6 x7).2.2.1 = fun _ => 1#1) (i) : x2 i < (⊤ : EReal) ∧ (⊥ : EReal) < x2 i := by
  obtain ⟨r, l, rfl⟩ : ∃ (r : Fin 31) (l : Fin 1024), i = ix2 r l := ⟨i 0, i 1, eq_ix2 i⟩
  have h := congrFun h (ix2 r l)
  unfold fn fn_part1 at h
  revert h
  pointwise
  intro h
  rw [ofBits_top_f32, ofBits_bot_f32] at h
  exact both_lt h

theorem fin4 (h : (fn (F := Ideal) x0 x1 x2 x3 x4 x5 x6 x7).2.2.2.1 = fun _ => 1#1) (i) : x4 i < (⊤ : EReal) ∧ (⊥ : EReal) < x4 i := by
  obtain ⟨l, rfl⟩ : ∃ l : Fin 1024, i = ix1 l := ⟨i 0, eq_ix1 i⟩
  have h := congrFun h (ix1 l)
  unfold fn fn_part1 at h
  revert h
  pointwise
  intro h
  rw [ofBits_top_f32, ofBits_bot_f32] at h
  exact both_lt h

theorem fin5 (h : (fn (F := Ideal) x0 x1 x2 x3 x4 x5 x6 x7).2.2.2.2.1 = fun _ => 1#1) (i) : x5 i < (⊤ : EReal) ∧ (⊥ : EReal) < x5 i := by
  obtain ⟨l, rfl⟩ : ∃ l : Fin 1024, i = ix1 l := ⟨i 0, eq_ix1 i⟩
  have h := congrFun h (ix1 l)
  unfold fn fn_part1 at h
  revert h
  pointwise
  intro h
  rw [ofBits_top_f32, ofBits_bot_f32] at h
  exact both_lt h

theorem fin6 (h : (fn (F := Ideal) x0 x1 x2 x3 x4 x5 x6 x7).2.2.2.2.2 = fun _ => 1#1) (i) : x6 i < (⊤ : EReal) ∧ (⊥ : EReal) < x6 i := by
  obtain ⟨r, l, rfl⟩ : ∃ (r : Fin 4096) (l : Fin 1024), i = ix2 r l := ⟨i 0, i 1, eq_ix2 i⟩
  have h := congrFun h (ix2 r l)
  unfold fn fn_part1 at h
  revert h
  pointwise
  intro h
  rw [ofBits_top_f32, ofBits_bot_f32] at h
  exact both_lt h

end Pre

/-! ## The claims -/

theorem frame_reference : Cert.quiescent_ConfRIdeal (hConfRIdeal := Cert.ConfRIdeal.Gen.facts) := fun m ρ _ =>
  (θ_run _ _ _).mono (fun r h => ⟨fun c => (h c).2.2.2.2, sem_eq_zero_of_no_sems (by decide) r.2⟩) (Cert.ConfRIdeal.Value.run m ρ)

open Cert.ConfKIdeal Cert.ConfKIdeal.Gen in
theorem algebraic : Cert.algebraic_ConfKIdeal_ConfRIdeal_pre_finite_conf (hConfKIdeal := Cert.ConfKIdeal.Gen.facts) (hConfRIdeal := Cert.ConfRIdeal.Gen.facts)
    (hPre_finite_conf := Cert.Pre_finite_conf.Gen.facts) := by
  haveI := Cert.Pre_finite_conf.Gen.facts
  intro m g m' g' hp hm
  have key : ∀ c : Dev nD, ∃ P U W G B D, m ((c : Thread nD τ).loc main_arg0) = ext P ∧ m ((c : Thread nD τ).loc main_arg1) = ext U
      ∧ m ((c : Thread nD τ).loc main_arg2) = ext W ∧ m ((c : Thread nD τ).loc main_arg4) = ext G ∧ m ((c : Thread nD τ).loc main_arg5) = ext B
      ∧ m ((c : Thread nD τ).loc main_arg6) = ext D := fun c => by
    obtain ⟨p0, p1, p2, p4, p5, p6⟩ := hp c
    obtain ⟨P, e0⟩ := exists_real _ (fin0 _ _ _ _ _ _ _ _ p0)
    obtain ⟨U, e1⟩ := exists_real _ (fin1 _ _ _ _ _ _ _ _ p1)
    obtain ⟨W, e2⟩ := exists_real _ (fin2 _ _ _ _ _ _ _ _ p2)
    obtain ⟨G, e4⟩ := exists_real _ (fin4 _ _ _ _ _ _ _ _ p4)
    obtain ⟨B, e5⟩ := exists_real _ (fin5 _ _ _ _ _ _ _ _ p5)
    obtain ⟨D, e6⟩ := exists_real _ (fin6 _ _ _ _ _ _ _ _ p6)
    exact ⟨P, U, W, G, B, D, e0, e1, e2, e4, e5, e6⟩
  choose P U W G B D e0 e1 e2 e4 e5 e6 using key
  refine ⟨fun c => resVal (P c) (U c) (D c) (W c) (G c) (B c), fun c => resGate (P c) (U c) (D c) (W c) (G c) (B c),
    fun c => resTap (P c) (U c) (D c) (G c) (B c), fun c => resSums (U c) (D c) (G c) (B c) (m ((c : Thread nD τ).loc main_arg7)), ?_, ?_⟩
  · refine (θ_run Cert.ConfKIdeal.defs _ _).mono (fun r h c => ?_) (Value.run_blocks m g)
    obtain ⟨h9, h10, h11, h12, k⟩ := h c
    exact ⟨h9.trans (arr9 _ _ _ _ _ _ m c (e0 c) (e1 c) (e2 c) (e4 c) (e5 c) (e6 c)), h10.trans (arr10 _ _ _ _ _ _ m c (e0 c) (e1 c) (e2 c) (e4 c) (e5 c) (e6 c)),
      h11.trans (arr11 _ _ _ (W c) _ _ m c (e0 c) (e1 c) (e2 c) (e4 c) (e5 c) (e6 c)), h12.trans (arr12 (P c) _ _ (W c) _ _ m c (e0 c) (e1 c) (e2 c) (e4 c) (e5 c) (e6 c)), k⟩
  · refine (θ_run Cert.ConfRIdeal.defs _ _).mono (fun r h c => ?_) (Cert.ConfRIdeal.Value.run m' g')
    obtain ⟨h9, h10, h11, h12, k⟩ := h c
    obtain ⟨q0, q1, q2, q3, q4, q5, q6, q7⟩ := hm c
    refine ⟨h9.trans ?_, h10.trans ?_, h11.trans ?_, h12.trans ?_, k⟩
    · exact (Cert.ConfRIdeal.Read.val_main_v119_eq _).trans (res119 _ _ _ _ _ _ (q0.trans (e0 c)) (q1.trans (e1 c)) (q2.trans (e2 c)) (q4.trans (e4 c)) (q5.trans (e5 c)) (q6.trans (e6 c)))
    · exact (Cert.ConfRIdeal.Read.val_main_v121_eq _).trans (res121 _ _ _ _ _ _ (q0.trans (e0 c)) (q1.trans (e1 c)) (q2.trans (e2 c)) (q4.trans (e4 c)) (q5.trans (e5 c)) (q6.trans (e6 c)))
    · exact (Cert.ConfRIdeal.Read.val_main_v111_eq _).trans (res111 _ _ _ _ _ (q0.trans (e0 c)) (q1.trans (e1 c)) (q4.trans (e4 c)) (q5.trans (e5 c)) (q6.trans (e6 c)))
    · exact (Cert.ConfRIdeal.Read.val_main_v128_eq _).trans (res128 _ _ _ _ _ (q1.trans (e1 c)) (q4.trans (e4 c)) (q5.trans (e5 c)) (q6.trans (e6 c)) q7)

end Cert.Proof.Conf

end
-- ==== Proof.Norm.lean ====
/- Root-mean-square normalisation and its gradients over the extended reals. -/
module

public import proofs.«01_k».proof.Proof.Taps
public import proofs.«01_k».proof.Proof.Products

@[expose] public section

noncomputable section

namespace Cert.Proof

open Idealize.ShloMosaic

theorem ofBits_width : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The mean of the squares, a small constant added. -/
def meanSq (x : Fin 2048 → EReal) : EReal :=
  Ideal.div (∑ k, x k * x k) (Ideal.ofBits .f32 0x45000000#32) + Ideal.ofBits .f32 0x358637BD#32

/-- The factor that normalises a row. -/
def scale (x : Fin 2048 → EReal) : EReal := Ideal.rsqrt (meanSq x)

theorem sq_nonneg_ext (a : EReal) : 0 ≤ a * a := by
  induction a with
  | bot => simp
  | top => simp
  | coe a => exact_mod_cast mul_self_nonneg a

theorem sq_infinite {a : EReal} (h : ¬(a < ⊤ ∧ ⊥ < a)) : a * a = ⊤ := by
  induction a with
  | bot => simp
  | top => simp
  | coe a => exact absurd ⟨EReal.coe_lt_top a, EReal.bot_lt_coe a⟩ h

/-- A row of reals has a real factor; of any other row the factor is zero. -/
theorem scale_cases (x : Fin 2048 → EReal) :
    (∃ (y : Fin 2048 → ℝ) (r : ℝ), x = ext y ∧ 0 ≤ r ∧ scale x = (r : EReal) ∧ Ideal.div (scale x) (meanSq x) = ((r * r * r : ℝ) : EReal)) ∨
      (scale x = 0 ∧ Ideal.div (scale x) (meanSq x) = 0) := by
  obtain ⟨e, he, hE⟩ := ofBits_eps
  by_cases h : ∀ k, x k < ⊤ ∧ ⊥ < x k
  · left
    obtain ⟨y, rfl⟩ := exists_real x h
    have hm : meanSq (ext y) = (((∑ k, y k * y k) / 2048 + e : ℝ) : EReal) := by
      unfold meanSq
      rw [hE, ofBits_width, Ideal.div_coe (by norm_num)]
      simp only [← EReal.coe_mul, ← coe_sum, ← EReal.coe_add]
      rw [mul_one_div]
    have hp : 0 < (∑ k, y k * y k) / 2048 + e := by
      have : 0 ≤ ∑ k, y k * y k := Finset.sum_nonneg fun k _ => mul_self_nonneg _
      positivity
    generalize (∑ k, y k * y k) / 2048 + e = a at hm hp
    have hs : scale (ext y) = (((Real.sqrt a)⁻¹ : ℝ) : EReal) := by
      unfold scale
      rw [hm, Ideal.rsqrt_coe, if_neg (not_lt.mpr hp.le), if_neg hp.ne']
    refine ⟨y, (Real.sqrt a)⁻¹, rfl, by positivity, hs, ?_⟩
    rw [hs, hm, Ideal.div_coe hp.ne', ← EReal.coe_mul]
    congr 1
    have q := Real.mul_self_sqrt hp.le
    have n : Real.sqrt a ≠ 0 := (Real.sqrt_pos.mpr hp).ne'
    generalize Real.sqrt a = b at q n
    subst q
    field_simp
  · right
    push Not at h
    obtain ⟨k, hk⟩ := h
    have ht : (∑ k, x k * x k) = ⊤ := top_unique <| (sq_infinite (a := x k) (fun h => absurd h.2 (not_lt.mpr (hk h.1)))).symm.le.trans
      (Finset.single_le_sum (f := fun k => x k * x k) (fun k _ => sq_nonneg_ext _) (Finset.mem_univ k))
    have hm : meanSq x = ⊤ := by
      unfold meanSq
      rw [ht, hE, ofBits_width, Ideal.div_coe (by norm_num), EReal.top_mul_coe_of_pos (by norm_num), EReal.top_add_coe]
    have hs : scale x = 0 := by unfold scale; rw [hm]; rfl
    exact ⟨hs, by rw [hs, hm]; simp [Ideal.div]⟩

/-- The gradient of a row, `d` the gradient of the normalised one. -/
def back (x d : Fin 2048 → EReal) (i : Fin 2048) : EReal :=
  scale x * (d i - x i * scale x * Ideal.div (∑ k, d k * (x k * scale x)) (Ideal.ofBits .f32 0x45000000#32))

theorem back_congr {x y d e : Fin 2048 → EReal} {i j : Fin 2048} (hx : ∀ k, x k = y k) (hd : ∀ k, d k = e k) (h : ∀ f : (⟨1, ![2048]⟩ : Shape).Idx → EReal, f (ix1 i) = f (ix1 j)) :
    back x d i = back y e j := by
  rw [funext hx, funext hd]
  exact h fun q => back y e (q 0)

/-- A column, from the arrays' reading of it. -/
theorem column (F : Fin 2048 → EReal) {i j : Fin 2048} (h : ∀ f : (⟨1, ![2048]⟩ : Shape).Idx → EReal, f (ix1 i) = f (ix1 j)) : F i = F j :=
  h fun q => F (q 0)

theorem sum_scaled {n : Nat} (f : Fin n → EReal) (r : ℝ) (hr : 0 ≤ r) : (∑ k, f k * (r : EReal)) = (∑ k, f k) * (r : EReal) := by
  classical
  induction (Finset.univ : Finset (Fin n)) using Finset.induction_on with
  | empty => simp
  | insert a s ha ih =>
    rw [Finset.sum_insert ha, Finset.sum_insert ha, ih, EReal.right_distrib_of_nonneg_of_ne_top (by exact_mod_cast hr) (EReal.coe_ne_top r)]

theorem twice (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul, mul_two]

/-- As the chain rule has it, the factor's own gradient apart. -/
theorem back_chain (x d : Fin 2048 → EReal) (i : Fin 2048) :
    d i * scale x + (x i * Ideal.div ((∑ k, x k * d k) * (Ideal.ofBits .f32 0xBF000000#32 * Ideal.div (scale x) (meanSq x))) (Ideal.ofBits .f32 0x45000000#32) +
        Ideal.div ((∑ k, x k * d k) * (Ideal.ofBits .f32 0xBF000000#32 * Ideal.div (scale x) (meanSq x))) (Ideal.ofBits .f32 0x45000000#32) * x i) = back x d i := by
  unfold back
  rw [ofBits_width, ofBits_neg_half]
  rcases scale_cases x with ⟨y, r, hx, hr, hs, hd⟩ | ⟨hs, hd⟩
  · have hS : (∑ k, d k * (x k * (r : EReal))) = (∑ k, x k * d k) * (r : EReal) := by
      rw [← sum_scaled _ r hr]
      exact Finset.sum_congr rfl fun k _ => by rw [← mul_assoc, mul_comm (d k)]
    rw [hd, hs, hS, hx]
    simp only [Ideal.div_coe (show (2048 : ℝ) ≠ 0 by norm_num)]
    generalize (∑ k, ext y k * d k) = S
    generalize d i = D
    show D * (r : EReal) + ((y i : EReal) * _ + _ * (y i : EReal)) = _ * (D - (y i : EReal) * _ * _)
    generalize y i = a
    have hk : (a : EReal) * (r : EReal) * (S * (r : EReal) * ((1 / 2048 : ℝ) : EReal)) = S * ((a * r * r * (1 / 2048) : ℝ) : EReal) := by
      simp only [EReal.coe_mul]; ac_rfl
    have hc : (a : EReal) * (S * (((-(1 / 2) : ℝ) : EReal) * ((r * r * r : ℝ) : EReal)) * ((1 / 2048 : ℝ) : EReal)) * ((2 : ℝ) : EReal) =
        S * ((r * -(a * r * r * (1 / 2048)) : ℝ) : EReal) := by
      rw [show r * -(a * r * r * (1 / 2048)) = a * (-(1 / 2) * (r * r * r)) * (1 / 2048) * 2 by ring]
      simp only [EReal.coe_mul]; ac_rfl
    rw [mul_comm _ (a : EReal), twice, hc, hk, sub_eq_add_neg, EReal.left_distrib_of_nonneg_of_ne_top (by exact_mod_cast hr) (EReal.coe_ne_top r),
      mul_comm D, ← mul_neg S, ← EReal.coe_neg, mul_left_comm, ← EReal.coe_mul]
  · rw [hd, hs]
    simp [Ideal.div_coe (show (2048 : ℝ) ≠ 0 by norm_num)]

/-- A row's term of the weight's gradient. -/
theorem term_congr {d e a b : EReal} {x y : Fin 2048 → EReal} (hd : d = e) (ha : a = b) (hx : ∀ k, x k = y k) : d * (a * scale x) = e * (b * scale y) := by
  rw [funext hx, ha, hd]

/-! ## The claims about two runs to three results -/

section
variable {D : Type} {A B : Type} {V0 V1 V2 : D → Type} {RA : (A → Prop) → Prop} {RB : (B → Prop) → Prop}

/-- Two runs whose three results are the same satisfy the claim that they are equal. -/
theorem agree_three (monoA : ∀ {P Q : A → Prop}, (∀ r, P r → Q r) → RA P → RA Q) (monoB : ∀ {P Q : B → Prop}, (∀ r, P r → Q r) → RB P → RB Q)
    {a0 : A → (c : D) → V0 c} {a1 : A → (c : D) → V1 c} {a2 : A → (c : D) → V2 c} {b0 : B → (c : D) → V0 c} {b1 : B → (c : D) → V1 c} {b2 : B → (c : D) → V2 c}
    {keep : A → D → Prop} {keep' : B → D → Prop} {x0 y0 : (c : D) → V0 c} {x1 y1 : (c : D) → V1 c} {x2 y2 : (c : D) → V2 c}
    (v0 : (c : D) → V0 c) (v1 : (c : D) → V1 c) (v2 : (c : D) → V2 c)
    (ha : RA fun r => ∀ c, a0 r c = x0 c ∧ a1 r c = x1 c ∧ a2 r c = x2 c ∧ keep r c)
    (hx0 : ∀ c, x0 c = v0 c) (hx1 : ∀ c, x1 c = v1 c) (hx2 : ∀ c, x2 c = v2 c)
    (hb : RB fun r => ∀ c, b0 r c = y0 c ∧ b1 r c = y1 c ∧ b2 r c = y2 c ∧ keep' r c)
    (hy0 : ∀ c, y0 c = v0 c) (hy1 : ∀ c, y1 c = v1 c) (hy2 : ∀ c, y2 c = v2 c) :
    ∃ (v0 : (c : D) → V0 c) (v1 : (c : D) → V1 c) (v2 : (c : D) → V2 c),
      (RA fun r => ∀ c, a0 r c = v0 c ∧ a1 r c = v1 c ∧ a2 r c = v2 c ∧ keep r c)
      ∧ RB fun r => ∀ c, b0 r c = v0 c ∧ b1 r c = v1 c ∧ b2 r c = v2 c ∧ keep' r c := by
  refine ⟨v0, v1, v2, monoA (fun r h c => ?_) ha, monoB (fun r h c => ?_) hb⟩
  · obtain ⟨h0, h1, h2, k⟩ := h c
    exact ⟨h0.trans (hx0 c), h1.trans (hx1 c), h2.trans (hx2 c), k⟩
  · obtain ⟨h0, h1, h2, k⟩ := h c
    exact ⟨h0.trans (hy0 c), h1.trans (hy1 c), h2.trans (hy2 c), k⟩

/-- The frame of a program from its run to three results, where nothing counts on a semaphore. -/
theorem quiet_three (monoA : ∀ {P Q : A → Prop}, (∀ r, P r → Q r) → RA P → RA Q) {Z : A → Prop} (hz : ∀ r, Z r)
    {a0 : A → (c : D) → V0 c} {a1 : A → (c : D) → V1 c} {a2 : A → (c : D) → V2 c}
    {x0 : (c : D) → V0 c} {x1 : (c : D) → V1 c} {x2 : (c : D) → V2 c} {keep : A → D → Prop}
    (ha : RA fun r => ∀ c, a0 r c = x0 c ∧ a1 r c = x1 c ∧ a2 r c = x2 c ∧ keep r c) : RA fun r => (∀ c, keep r c) ∧ Z r :=
  monoA (fun r h => ⟨fun c => (h c).2.2.2, hz r⟩) ha
end

end Cert.Proof

end
-- ==== Proof.NormCalls.lean ====
/- The normalisations before the layers' two halves: forward, and backward with the residual's gradient added. -/
module

public import proofs.«01_k».proof.Defs
public import proofs.«01_k».proof.Proof.Gen.NormKIdeal.Value
public import proofs.«01_k».proof.Proof.Gen.NormRIdeal.Read
public import proofs.«01_k».proof.Proof.Gen.DnormKIdeal.Value
public import proofs.«01_k».proof.Proof.Gen.DnormRIdeal.Read
public import proofs.«01_k».proof.Proof.Norm
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

namespace Cert.Proof

open Idealize.ShloMosaic Idealize.ShloMosaic.TcCoe Idealize.SL.Sem

/-! ## Forward -/

namespace Norm
open Cert.NormKIdeal Cert.NormKIdeal.Gen

/-- What both programs compute. -/
def res (x : S4096x2048.Idx → EReal) (g : S2048.Idx → EReal) (i : S4096x2048.Idx) : EReal :=
  x (ix2 (i 0) (i 1)) * scale (fun k => x (ix2 (i 0) k)) * g (ix1 (i 1))

theorem normed_congr {x y : Fin 2048 → EReal} {a b g h : EReal} (hx : ∀ k, x k = y k) (ha : a = b) (hg : g = h) : a * scale x * g = b * scale y * h := by
  rw [funext hx, ha, hg]

theorem cell (x : S256x2048.Idx → EReal) (g : S1x2048.Idx → EReal) (r : Fin 256) (l : Fin 2048) :
    k0_pay1 (F := Ideal) x g (ix2 r l) = x (ix2 r l) * scale (fun k => x (ix2 r k)) * g (ix2 0 l) := by
  unfold k0_pay1
  pointwise
  rfl

theorem blk0 : ∀ t : Fin cfg0.N, win0_0.index t = ![t.val, 0] := (by decide +kernel : ∀ t : Fin grid0.N, _)
theorem blk1 : ∀ t : Fin cfg0.N, win0_1.index t = ![0, win0_2.index t 1] := (by decide +kernel : ∀ t : Fin grid0.N, _)
theorem blk : ∀ t : Fin cfg0.N, win0_2.index t = ![t.val, 0] := (by decide +kernel : ∀ t : Fin grid0.N, _)

variable (m : (ℓ : Loc nD τ sig) → Buf (Elt Ideal) ℓ) (c : Dev nD)

theorem arr : (dats m 0 c).arrAt 2 cfg0.N = res (m ((c : Thread nD τ).loc main_arg0)) (m ((c : Thread nD τ).loc main_arg1)) := by
  refine (dats m 0 c).arrAt_eq_of_covers 2 _ (by decide +kernel) fun t _ j => ?_
  blk_simp
  rw [after0_2]
  frame_out
  have hj : j = ix2 (j 0) (j 1) := eq_ix2 j
  rw [hj]
  refine (cell _ _ (j 0) (j 1)).trans ?_
  unfold res
  refine normed_congr (fun k => ?_) ?_ ?_
  · blk_ext [iblk, V, blk0 t, blk t]
  · blk_ext [iblk, V, blk0 t, blk t]
  · blk_ext! [iblk, blk1 t]

open Cert.NormRIdeal.Read in
theorem ref (x : S4096x2048.Idx → EReal) (g : S2048.Idx → EReal) : val_main_v13 (F := Ideal) x g = res x g := by
  funext i
  have hi : i = ix2 (i 0) (i 1) := eq_ix2 i
  generalize i 0 = r at hi
  generalize i 1 = l at hi
  subst hi
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem frame_reference : Cert.quiescent_NormRIdeal (hNormRIdeal := Cert.NormRIdeal.Gen.facts) := fun m ρ _ =>
  quiet (θ_run _ _ _).mono (fun r => sem_eq_zero_of_no_sems (by decide) r.2) (Cert.NormRIdeal.Value.run m ρ)

theorem algebraic : Cert.algebraic_NormKIdeal_NormRIdeal (hNormKIdeal := Cert.NormKIdeal.Gen.facts) (hNormRIdeal := Cert.NormRIdeal.Gen.facts) :=
  fun m g m' g' _ hm => agree (θ_run _ _ _).mono (θ_run _ _ _).mono _ (Value.run_blocks m g) (arr m) (Cert.NormRIdeal.Value.run m' g') fun c => by
    rw [Cert.NormRIdeal.Read.val_main_v13_eq, (hm c).1, (hm c).2]
    exact ref _ _

end Norm

/-! ## Backward -/

namespace Dnorm
open Cert.DnormKIdeal Cert.DnormKIdeal.Gen

/-- What both programs compute: the rows' gradients with the residual's, and the weight's gradient. -/
def dx (x : S4096x2048.Idx → EReal) (g : S2048.Idx → EReal) (dh dres : S4096x2048.Idx → EReal) (i : S4096x2048.Idx) : EReal :=
  dres (ix2 (i 0) (i 1)) + back (fun k => x (ix2 (i 0) k)) (fun k => dh (ix2 (i 0) k) * g (ix1 k)) (i 1)

def dg (x dh : S4096x2048.Idx → EReal) (i : S1x2048.Idx) : EReal :=
  ∑ r : Fin 4096, dh (ix2 r (i 1)) * (x (ix2 r (i 1)) * scale (fun k => x (ix2 r k)))

theorem cell (x dh : S256x2048.Idx → EReal) (g : S1x2048.Idx → EReal) (dres : S256x2048.Idx → EReal) (r : Fin 256) (l : Fin 2048) :
    k0_pay4 (F := Ideal) x dh g dres (ix2 r l) = dres (ix2 r l) + back (fun k => x (ix2 r k)) (fun k => dh (ix2 r k) * g (ix2 0 k)) l := by
  unfold k0_pay4 k0_pay3 k0_pay2
  pointwise
  rfl

theorem step (x dh : S256x2048.Idx → EReal) (v : S1x2048.Idx → EReal) (j : S1x2048.Idx) :
    k0_pay1 (F := Ideal) (k0_pay3 (F := Ideal) x) dh v j =
      v j + ∑ r : Fin 256, dh (ix2 r (j 1)) * (x (ix2 r (j 1)) * scale (fun k => x (ix2 r k))) := by
  have hj : j = ix2 (j 0) (j 1) := eq_ix2 j
  generalize j 0 = r at hj
  generalize j 1 = l at hj
  subst hj
  unfold k0_pay1 k0_pay3 k0_pay2
  pointwise
  rfl

theorem zero (j : S1x2048.Idx) : k0_pay6 (F := Ideal) j = 0 := by
  unfold k0_pay6
  pointwise

theorem blk0 : ∀ t : Fin cfg0.N, win0_0.index t = ![t.val, 0] := (by decide +kernel : ∀ t : Fin grid0.N, _)
theorem blk1 : ∀ t : Fin cfg0.N, win0_1.index t = ![0, 0] := (by decide +kernel : ∀ t : Fin grid0.N, _)
theorem blk2 : ∀ t : Fin cfg0.N, win0_2.index t = ![t.val, 0] := (by decide +kernel : ∀ t : Fin grid0.N, _)
theorem blk3 : ∀ t : Fin cfg0.N, win0_3.index t = ![t.val, 0] := (by decide +kernel : ∀ t : Fin grid0.N, _)
theorem blk4 : ∀ t : Fin cfg0.N, win0_4.index t = ![t.val, 0] := (by decide +kernel : ∀ t : Fin grid0.N, _)
theorem blk5 : ∀ t : Fin cfg0.N, win0_5.index t = ![t.val, 0] := (by decide +kernel : ∀ t : Fin grid0.N, _)
theorem blk6 : ∀ t : Fin cfg0.N, win0_6.index t = ![0, 0] := (by decide +kernel : ∀ t : Fin grid0.N, _)

variable (m : (ℓ : Loc nD τ sig) → Buf (Elt Ideal) ℓ) (c : Dev nD)

theorem left (t : Fin cfg0.N) : (outsAt0 m c t.val t.isLt).1 = k0_pay4 (iblk m c 0 t) (iblk m c 2 t) (iblk m c 1 t) (iblk m c 3 t) := by
  by_cases h : t.val % 16 = 0
  · rw [outsAt0_A m c t h]; frame_out
  · rw [outsAt0_B m c t h]; frame_out

theorem left' (t : Fin cfg0.N) : (outsAt0 m c t.val t.isLt).2.1 = k0_pay4 (iblk m c 0 t) (iblk m c 2 t) (iblk m c 1 t) (iblk m c 3 t) := by
  by_cases h : t.val % 16 = 0
  · rw [outsAt0_A m c t h]; frame_out; rfl
  · rw [outsAt0_B m c t h]; frame_out; rfl

theorem arr4 : (dats m 0 c).arrAt 4 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ j => ?_
  blk_simp
  rw [after0_4, left]
  have hj : j = ix2 (j 0) (j 1) := eq_ix2 j
  rw [hj]
  refine (cell _ _ _ _ (j 0) (j 1)).trans ?_
  unfold dx
  refine add_congr ?_ (back_congr (fun k => ?_) (fun k => congrArg₂ (fun x y : EReal => x * y) ?_ ?_) fun f => ?_)
  · blk_ext [iblk, V, blk3 t, blk4 t]
  · blk_ext [iblk, V, blk0 t, blk4 t]
  · blk_ext [iblk, V, blk2 t, blk4 t]
  · blk_ext! [iblk, blk1 t]
  · blk_ext [iblk, V, blk4 t]

theorem arr5 : (dats m 0 c).arrAt 5 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ j => ?_
  blk_simp
  rw [after0_5, left']
  have hj : j = ix2 (j 0) (j 1) := eq_ix2 j
  rw [hj]
  refine (cell _ _ _ _ (j 0) (j 1)).trans ?_
  unfold dx
  refine add_congr ?_ (back_congr (fun k => ?_) (fun k => congrArg₂ (fun x y : EReal => x * y) ?_ ?_) fun f => ?_)
  · blk_ext [iblk, V, blk3 t, blk5 t]
  · blk_ext [iblk, V, blk0 t, blk5 t]
  · blk_ext [iblk, V, blk2 t, blk5 t]
  · blk_ext! [iblk, blk1 t]
  · blk_ext [iblk, V, blk5 t]

theorem arr6 : (dats m 0 c).arrAt 6 cfg0.N = dg (m ((c : Thread nD τ).loc main_arg0)) (m ((c : Thread nD τ).loc main_arg2)) := by
  refine (dats m 0 c).arrAt_eq_of_covers 6 _ (by decide +kernel) fun t ht j => ?_
  have h := (flush0_6 t).mp ht
  have hl : t.val + 1 = cfg0.N := by
    have n : cfg0.N = 16 := by decide
    have b : t.val < cfg0.N := t.isLt
    rw [n] at b ⊢
    omega
  blk_simp
  rw [after0_6]
  rw [Pipeline.eq_sum_fin_of_reset_step_apply_last (fun n h => (outsAt0 m c n h).2.2) 16 (fun _ => 0) _
      (fun t h j => by rw [outsAt0_A m c t h]; frame_out; rw [step, zero])
      (fun t h j => by rw [outsAt0_B m c t h]; frame_out; rw [step])
      (by decide) t hl j, zero_add]
  unfold dg
  refine Fin.sum_mul_add_congr fun s k hl => ?_
  refine term_congr ?_ ?_ fun q => ?_
  · blk_ext [iblk, V, blk2 s, blk6 t]
  · blk_ext [iblk, V, blk0 s, blk6 t]
  · blk_ext [iblk, V, blk0 s, blk6 t]

open Cert.DnormRIdeal.Read in
theorem ref36 (x : S4096x2048.Idx → EReal) (g : S2048.Idx → EReal) (dh dres : S4096x2048.Idx → EReal) : val_main_v36 (F := Ideal) x g dh dres = dx x g dh dres := by
  funext i
  have hi : i = ix2 (i 0) (i 1) := eq_ix2 i
  generalize i 0 = r at hi
  generalize i 1 = l at hi
  subst hi
  unfold val_main_v36 val_main_v35 val_main_v34 val_main_v33 val_main_v32 val_main_v31 val_main_v30 val_main_v29 val_main_v28 val_main_v27 val_main_v26 val_main_v25 val_main_v24 val_main_v23 val_main_v22 val_main_v20 val_main_v19 val_main_v13 val_main_v10 val_main_v9 val_main_v8 val_main_v7 val_main_v6 val_main_v5 val_main_v4 val_main_v3 val_main_v2 val_main_v1 val_main_v0 val_main_cst val_main_cst_0 val_main_cst_1 val_main_cst_2 val_main_cst_5 val_main_cst_6 val_main_cst_7
  pointwise
  rw [Fin.sum_univ_one, add_assoc]
  exact congrArg (fun y : EReal => dres (ix2 r l) + y) (back_chain (fun k => x (ix2 r k)) (fun k => dh (ix2 r k) * g (ix1 k)) l)

open Cert.DnormRIdeal.Read in
theorem ref38 (x dh : S4096x2048.Idx → EReal) : val_main_v38 (F := Ideal) x dh = dg x dh := by
  funext i
  have hi : i = ix2 (i 0) (i 1) := eq_ix2 i
  generalize i 0 = r at hi
  generalize i 1 = l at hi
  subst hi
  unfold val_main_v38 val_main_v21 val_main_v18 val_main_v17 val_main_v16 val_main_v12 val_main_v11 val_main_v7 val_main_v6 val_main_v5 val_main_v4 val_main_v3 val_main_v2 val_main_v1 val_main_v0 val_main_cst val_main_cst_0 val_main_cst_1 val_main_cst_3 val_main_cst_4
  pointwise
  unfold dg
  rw [Fin.sum_univ_one]
  exact Finset.sum_congr rfl fun k _ => mul_comm _ _

theorem frame_reference : Cert.quiescent_DnormRIdeal (hDnormRIdeal := Cert.DnormRIdeal.Gen.facts) := fun m ρ _ =>
  quiet_three (θ_run _ _ _).mono (fun r => sem_eq_zero_of_no_sems (by decide) r.2) (Cert.DnormRIdeal.Value.run m ρ)

theorem algebraic : Cert.algebraic_DnormKIdeal_DnormRIdeal (hDnormKIdeal := Cert.DnormKIdeal.Gen.facts) (hDnormRIdeal := Cert.DnormRIdeal.Gen.facts) :=
  fun m g m' g' _ hm => agree_three (θ_run _ _ _).mono (θ_run _ _ _).mono _ _ _ (Value.run_blocks m g) (arr4 m) (arr5 m) (arr6 m) (Cert.DnormRIdeal.Value.run m' g')
    (fun c => by rw [Cert.DnormRIdeal.Read.val_main_v36_eq, (hm c).1, (hm c).2.1, (hm c).2.2.1, (hm c).2.2.2]; exact ref36 _ _ _ _)
    (fun c => by rw [Cert.DnormRIdeal.Read.val_main_v37_eq, (hm c).1, (hm c).2.1, (hm c).2.2.1, (hm c).2.2.2]; exact ref36 _ _ _ _)
    fun c => by rw [Cert.DnormRIdeal.Read.val_main_v38_eq, (hm c).1, (hm c).2.2.1]; exact ref38 _ _

end Dnorm

end Cert.Proof

end
-- ==== Proof.Adam.lean ====
/- A step of the optimiser over the extended reals, element by element, and what the claims about its calls share. -/
module

public import Idealize.ShloMosaic.Lib.Pointwise

@[expose] public section

noncomputable section

namespace Cert.Proof

open Idealize.ShloMosaic

/-- A gradient from its two parts. -/
def both {ι : Type} (a b : ι → EReal) (i : ι) : EReal := a i + b i

/-- The first moment after a step, from the gradient and the moment before: the constants are 0.9 and 0.1. -/
def newM {ι : Type} (g m : ι → EReal) (i : ι) : EReal := Ideal.ofBits .f32 0x3F666666#32 * m i + Ideal.ofBits .f32 0x3DCCCCCD#32 * g i

/-- The second moment after a step: the constants are 0.999 and 0.001. -/
def newV {ι : Type} (g v : ι → EReal) (i : ι) : EReal := Ideal.ofBits .f32 0x3F7FBE77#32 * v i + Ideal.ofBits .f32 0x3A83126F#32 * (g i * g i)

/-- The change of a weight: minus the rate times the ratio of the corrected moments plus the decay. -/
def delta {ι : Type} (g w m v : ι → EReal) (i : ι) : EReal :=
  Ideal.ofBits .f32 0xBA83126F#32 * (Ideal.div (Ideal.div (newM g m i) (Ideal.ofBits .f32 0x3F26BD02#32))
    (Ideal.sqrt (Ideal.div (newV g v i) (Ideal.ofBits .f32 0x3C231ACC#32)) + Ideal.ofBits .f32 0x322BCC77#32) + Ideal.ofBits .f32 0x3C23D70A#32 * w i)

section
variable {D A B : Type} {V0 V1 V2 V3 : D → Type} {RA : (A → Prop) → Prop} {RB : (B → Prop) → Prop}

/-- Two runs whose four results are both `v0`, `v1`, `v2` and `v3` satisfy the claim that they are equal. -/
theorem agree_four (monoA : ∀ {P Q : A → Prop}, (∀ r, P r → Q r) → RA P → RA Q) (monoB : ∀ {P Q : B → Prop}, (∀ r, P r → Q r) → RB P → RB Q)
    {a0 : A → (c : D) → V0 c} {a1 : A → (c : D) → V1 c} {a2 : A → (c : D) → V2 c} {a3 : A → (c : D) → V3 c}
    {b0 : B → (c : D) → V0 c} {b1 : B → (c : D) → V1 c} {b2 : B → (c : D) → V2 c} {b3 : B → (c : D) → V3 c}
    {keep : A → D → Prop} {keep' : B → D → Prop} {x0 y0 : (c : D) → V0 c} {x1 y1 : (c : D) → V1 c} {x2 y2 : (c : D) → V2 c} {x3 y3 : (c : D) → V3 c}
    (v0 : (c : D) → V0 c) (v1 : (c : D) → V1 c) (v2 : (c : D) → V2 c) (v3 : (c : D) → V3 c)
    (ha : RA fun r => ∀ c, a0 r c = x0 c ∧ a1 r c = x1 c ∧ a2 r c = x2 c ∧ a3 r c = x3 c ∧ keep r c)
    (hx : ∀ c, x0 c = v0 c ∧ x1 c = v1 c ∧ x2 c = v2 c ∧ x3 c = v3 c)
    (hb : RB fun r => ∀ c, b0 r c = y0 c ∧ b1 r c = y1 c ∧ b2 r c = y2 c ∧ b3 r c = y3 c ∧ keep' r c)
    (hy : ∀ c, y0 c = v0 c ∧ y1 c = v1 c ∧ y2 c = v2 c ∧ y3 c = v3 c) :
    ∃ (v0 : (c : D) → V0 c) (v1 : (c : D) → V1 c) (v2 : (c : D) → V2 c) (v3 : (c : D) → V3 c),
      (RA fun r => ∀ c, a0 r c = v0 c ∧ a1 r c = v1 c ∧ a2 r c = v2 c ∧ a3 r c = v3 c ∧ keep r c)
      ∧ RB fun r => ∀ c, b0 r c = v0 c ∧ b1 r c = v1 c ∧ b2 r c = v2 c ∧ b3 r c = v3 c ∧ keep' r c := by
  refine ⟨v0, v1, v2, v3, monoA (fun r h c => ?_) ha, monoB (fun r h c => ?_) hb⟩
  · obtain ⟨h0, h1, h2, h3, k⟩ := h c
    obtain ⟨e0, e1, e2, e3⟩ := hx c
    exact ⟨h0.trans e0, h1.trans e1, h2.trans e2, h3.trans e3, k⟩
  · obtain ⟨h0, h1, h2, h3, k⟩ := h c
    obtain ⟨e0, e1, e2, e3⟩ := hy c
    exact ⟨h0.trans e0, h1.trans e1, h2.trans e2, h3.trans e3, k⟩

/-- The frame of a program from its run to four results, where nothing counts on a semaphore. -/
theorem quiet_four (monoA : ∀ {P Q : A → Prop}, (∀ r, P r → Q r) → RA P → RA Q) {Z : A → Prop} (hz : ∀ r, Z r)
    {a0 : A → (c : D) → V0 c} {a1 : A → (c : D) → V1 c} {a2 : A → (c : D) → V2 c} {a3 : A → (c : D) → V3 c}
    {x0 : (c : D) → V0 c} {x1 : (c : D) → V1 c} {x2 : (c : D) → V2 c} {x3 : (c : D) → V3 c} {keep : A → D → Prop}
    (ha : RA fun r => ∀ c, a0 r c = x0 c ∧ a1 r c = x1 c ∧ a2 r c = x2 c ∧ a3 r c = x3 c ∧ keep r c) : RA fun r => (∀ c, keep r c) ∧ Z r :=
  monoA (fun r h => ⟨fun c => (h c).2.2.2.2, hz r⟩) ha
end

end Cert.Proof

end
-- ==== Proof.LossHead.lean ====
/- The loss head: the last normalisation, the loss of its rows, and the gradients of both. -/
module

public import proofs.«01_k».proof.Defs
public import proofs.«01_k».proof.Proof.Gen.LossKIdeal.Value
public import proofs.«01_k».proof.Proof.Gen.LossRIdeal.Read
public import proofs.«01_k».proof.Proof.Adam
public import proofs.«01_k».proof.Proof.Norm
public import Idealize.ShloMosaic.Lib.Pipeline.ValueKit.Geometry
public import Idealize.ShloMosaic.Lib.Pipeline.ValueKit.Acc
public import Idealize.ShloMosaic.Lib.Pipeline.ValueKit.Point

@[expose] public section

set_option maxRecDepth 16384

noncomputable section

namespace Cert.Proof

open Idealize.ShloMosaic Idealize.ShloMosaic.TcCoe Idealize.SL.Sem

namespace Loss
open Cert.LossKIdeal Cert.LossKIdeal.Gen

theorem ofBits_two : Ideal.ofBits .f32 0x40000000#32 = ((2 : ℝ) : EReal) := by
  simp [Ideal.ofBits, Ideal.ieee, -EReal.coe_mul]; norm_num

theorem ofBits_mean : Ideal.ofBits .f32 0x3A000000#32 = ((1 / 2048 : ℝ) : EReal) := by
  simp [Ideal.ofBits, Ideal.ieee, -EReal.coe_mul]; norm_num

theorem ofBits_half_mean : Ideal.ofBits .f32 0x39800000#32 = ((1 / 4096 : ℝ) : EReal) := by
  simp [Ideal.ofBits, Ideal.ieee, -EReal.coe_mul]; norm_num

/-! ### A row -/

/-- The error of a row, its loss, and the loss's gradient in the normalised row. -/
def err (x g t : Fin 2048 → EReal) (k : Fin 2048) : EReal := x k * scale x * g k - t k
def cost (x g t : Fin 2048 → EReal) : EReal := (∑ k, err x g t k * err x g t k) * ((1 / 4096 : ℝ) : EReal)
def slope (x g t : Fin 2048 → EReal) (k : Fin 2048) : EReal := err x g t k * ((1 / 2048 : ℝ) : EReal)

theorem slope_congr {x y g h t u : Fin 2048 → EReal} (hx : ∀ k, x k = y k) (hg : ∀ k, g k = h k) (ht : ∀ k, t k = u k) (k : Fin 2048) :
    slope x g t k = slope y h u k := by
  rw [funext hx, funext hg, funext ht]

/-- The slope as the chain rule has it, the mean's, the half's and the square's factors apart. -/
theorem slope_chain (e : EReal) :
    Ideal.div (Ideal.ofBits .f32 0x3F000000#32) (Ideal.ofBits .f32 0x45000000#32) * (Ideal.ofBits .f32 0x40000000#32 * e) =
      e * ((1 / 2048 : ℝ) : EReal) := by
  rw [ofBits_half, ofBits_width, ofBits_two, Ideal.div_coe (by norm_num), ← mul_assoc, mul_comm _ e, ← EReal.coe_mul, ← EReal.coe_mul]
  norm_num

/-- Half the sum of the rows' means. -/
theorem cost_sum (f : Fin 4096 → EReal) :
    Ideal.ofBits .f32 0x3F000000#32 * (∑ r, Ideal.div (f r) (Ideal.ofBits .f32 0x45000000#32)) = ∑ r, f r * ((1 / 4096 : ℝ) : EReal) := by
  rw [ofBits_half, ofBits_width, mul_comm]
  simp only [Ideal.div_coe (show (2048 : ℝ) ≠ 0 by norm_num)]
  rw [← sum_scaled _ _ (by norm_num)]
  refine Finset.sum_congr rfl fun r _ => ?_
  rw [mul_assoc, ← EReal.coe_mul]
  norm_num

/-! ### What both programs compute -/

variable (x : S4096x2048.Idx → EReal) (g : S2048.Idx → EReal) (t : S4096x2048.Idx → EReal)

def loss (_ : S8x128.Idx) : EReal := ∑ r : Fin 4096, cost (fun k => x (ix2 r k)) (fun k => g (ix1 k)) (fun k => t (ix2 r k))

def dx (i : S4096x2048.Idx) : EReal :=
  back (fun k => x (ix2 (i 0) k)) (fun k => slope (fun k => x (ix2 (i 0) k)) (fun k => g (ix1 k)) (fun k => t (ix2 (i 0) k)) k * g (ix1 k)) (i 1)

def term (r : Fin 4096) (l : Fin 2048) : EReal :=
  slope (fun k => x (ix2 r k)) (fun k => g (ix1 k)) (fun k => t (ix2 r k)) l * (x (ix2 r l) * scale (fun k => x (ix2 r k)))

def dg (i : S1x2048.Idx) : EReal := ∑ r : Fin 4096, term x g t r (i 1)

/-! ### One block -/

section
variable (x : S256x2048.Idx → EReal) (g : S1x2048.Idx → EReal) (t : S256x2048.Idx → EReal)

theorem cell (r : Fin 256) (l : Fin 2048) : k0_pay9 (F := Ideal) x g t g (ix2 r l) =
    back (fun k => x (ix2 r k)) (fun k => slope (fun k => x (ix2 r k)) (fun k => g (ix2 0 k)) (fun k => t (ix2 r k)) k * g (ix2 0 k)) l := by
  unfold k0_pay9 k0_pay8 k0_pay7 k0_pay6 k0_pay5
  pointwise
  rw [ofBits_mean]
  rfl

theorem step (v : S1x2048.Idx → EReal) (j : S1x2048.Idx) : k0_pay3 (F := Ideal) (k0_pay6 (F := Ideal) x) (k0_pay8 (F := Ideal) x g t) v j =
    v j + ∑ r : Fin 256, slope (fun k => x (ix2 r k)) (fun k => g (ix2 0 k)) (fun k => t (ix2 r k)) (j 1) * (x (ix2 r (j 1)) * scale (fun k => x (ix2 r k))) := by
  have hj : j = ix2 (j 0) (j 1) := eq_ix2 j
  generalize j 0 = r at hj
  generalize j 1 = l at hj
  subst hj
  unfold k0_pay3 k0_pay8 k0_pay7 k0_pay6 k0_pay5
  pointwise
  rw [ofBits_mean]
  rfl

theorem add (v : S8x128.Idx → EReal) (j : S8x128.Idx) : k0_pay4 (F := Ideal) (k0_pay7 (F := Ideal) x g t) v j =
    v j + ∑ r : Fin 256, cost (fun k => x (ix2 r k)) (fun k => g (ix2 0 k)) (fun k => t (ix2 r k)) := by
  have hj : j = ix2 (j 0) (j 1) := eq_ix2 j
  generalize j 0 = r at hj
  generalize j 1 = l at hj
  subst hj
  unfold k0_pay4 k0_pay7 k0_pay6 k0_pay5
  pointwise
  rw [ofBits_half_mean, ← sum_scaled _ _ (by norm_num)]
  rfl
end

theorem zero1 (j : S1x2048.Idx) : k0_pay1 (F := Ideal) j = 0 := by
  unfold k0_pay1
  pointwise

theorem zero2 (j : S8x128.Idx) : k0_pay2 (F := Ideal) j = 0 := by
  unfold k0_pay2
  pointwise

theorem blk0 : ∀ t : Fin cfg0.N, win0_0.index t = ![t.val, 0] := (by decide +kernel : ∀ t : Fin grid0.N, _)
theorem blk1 : ∀ t : Fin cfg0.N, win0_1.index t = ![0, 0] := (by decide +kernel : ∀ t : Fin grid0.N, _)
theorem blk2 : ∀ t : Fin cfg0.N, win0_2.index t = ![t.val, 0] := (by decide +kernel : ∀ t : Fin grid0.N, _)
theorem blk3 : ∀ t : Fin cfg0.N, win0_3.index t = ![0, 0] := (by decide +kernel : ∀ t : Fin grid0.N, _)
theorem blk4 : ∀ t : Fin cfg0.N, win0_4.index t = ![t.val, 0] := (by decide +kernel : ∀ t : Fin grid0.N, _)
theorem blk5 : ∀ t : Fin cfg0.N, win0_5.index t = ![t.val, 0] := (by decide +kernel : ∀ t : Fin grid0.N, _)
theorem blk6 : ∀ t : Fin cfg0.N, win0_6.index t = ![0, 0] := (by decide +kernel : ∀ t : Fin grid0.N, _)

variable (m : (ℓ : Loc nD τ sig) → Buf (Elt Ideal) ℓ) (c : Dev nD)

theorem left (t : Fin cfg0.N) : (outsAt0 m c t.val t.isLt).2.1 = k0_pay9 (iblk m c 0 t) (iblk m c 1 t) (iblk m c 2 t) (iblk m c 1 t) := by
  by_cases h : t.val % 16 = 0
  · rw [outsAt0_A m c t h]; frame_out
  · rw [outsAt0_B m c t h]; frame_out

theorem left' (t : Fin cfg0.N) : (outsAt0 m c t.val t.isLt).2.2.1 = k0_pay9 (iblk m c 0 t) (iblk m c 1 t) (iblk m c 2 t) (iblk m c 1 t) := by
  by_cases h : t.val % 16 = 0
  · rw [outsAt0_A m c t h]; frame_out; rfl
  · rw [outsAt0_B m c t h]; frame_out; rfl

/-- The last point, where the sums are written. -/
theorem last {t : Fin cfg0.N} (h : t.val % 16 = 15) : t.val + 1 = cfg0.N := by
  have n : cfg0.N = 16 := by decide
  have b : t.val < 16 := t.isLt.trans_eq n
  exact (by omega : t.val + 1 = 16).trans n.symm

/-! The points' blocks of the arguments. -/

theorem rows0 (s : Fin cfg0.N) (r : Fin 256) (h : s.val * 256 + r.val < 4096) (k : Fin 2048) :
    iblk m c 0 s (ix2 r k) = m ((c : Thread nD τ).loc main_arg0) (ix2 ⟨s.val * 256 + r.val, h⟩ k) := by
  blk_ext [iblk, V, blk0 s]

theorem rows2 (s : Fin cfg0.N) (r : Fin 256) (h : s.val * 256 + r.val < 4096) (k : Fin 2048) :
    iblk m c 2 s (ix2 r k) = m ((c : Thread nD τ).loc main_arg2) (ix2 ⟨s.val * 256 + r.val, h⟩ k) := by
  blk_ext [iblk, V, blk2 s]

theorem row1 (s : Fin cfg0.N) (k : Fin 2048) : iblk m c 1 s (ix2 0 k) = m ((c : Thread nD τ).loc main_arg1) (ix1 k) := by
  blk_ext! [iblk, blk1 s]

theorem arr3 : (dats m 0 c).arrAt 3 cfg0.N = loss (m ((c : Thread nD τ).loc main_arg0)) (m ((c : Thread nD τ).loc main_arg1)) (m ((c : Thread nD τ).loc main_arg2)) := by
  refine (dats m 0 c).arrAt_eq_of_covers 3 _ (by decide +kernel) fun t ht j => ?_
  have hl := last ((flush0_3 t).mp ht)
  blk_simp
  rw [after0_3]
  rw [Pipeline.eq_sum_fin_of_reset_step_apply_last (fun n h => (outsAt0 m c n h).1) 16 (fun _ => 0) _
      (fun t h j => by rw [outsAt0_A m c t h]; frame_out; rw [add, zero2])
      (fun t h j => by rw [outsAt0_B m c t h]; frame_out; rw [add])
      (by decide) t hl j, zero_add]
  unfold loss
  refine Fin.sum_mul_add_congr fun s k hl => ?_
  simp only [rows0 m c s k hl, rows2 m c s k hl, row1]

theorem arr4 : (dats m 0 c).arrAt 4 cfg0.N = dx (m ((c : Thread nD τ).loc main_arg0)) (m ((c : Thread nD τ).loc main_arg1)) (m ((c : Thread nD τ).loc main_arg2)) := by
  refine (dats m 0 c).arrAt_eq_of_covers 4 _ (by decide +kernel) fun t _ j => ?_
  blk_simp
  rw [after0_4, left]
  have hj : j = ix2 (j 0) (j 1) := eq_ix2 j
  rw [hj]
  refine (cell _ _ _ (j 0) (j 1)).trans ?_
  unfold dx
  refine back_congr (fun k => ?_) (fun k => congrArg₂ (fun x y : EReal => x * y) (slope_congr (fun k => ?_) (row1 m c t) (fun k => ?_) k) (row1 m c t k)) fun f => ?_
  · blk_ext [iblk, V, blk0 t, blk4 t]
  · blk_ext [iblk, V, blk0 t, blk4 t]
  · blk_ext [iblk, V, blk2 t, blk4 t]
  · blk_ext [iblk, V, blk4 t]

theorem arr5 : (dats m 0 c).arrAt 5 cfg0.N = dx (m ((c : Thread nD τ).loc main_arg0)) (m ((c : Thread nD τ).loc main_arg1)) (m ((c : Thread nD τ).loc main_arg2)) := by
  refine (dats m 0 c).arrAt_eq_of_covers 5 _ (by decide +kernel) fun t _ j => ?_
  blk_simp
  rw [after0_5, left']
  have hj : j = ix2 (j 0) (j 1) := eq_ix2 j
  rw [hj]
  refine (cell _ _ _ (j 0) (j 1)).trans ?_
  unfold dx
  refine back_congr (fun k => ?_) (fun k => congrArg₂ (fun x y : EReal => x * y) (slope_congr (fun k => ?_) (row1 m c t) (fun k => ?_) k) (row1 m c t k)) fun f => ?_
  · blk_ext [iblk, V, blk0 t, blk5 t]
  · blk_ext [iblk, V, blk0 t, blk5 t]
  · blk_ext [iblk, V, blk2 t, blk5 t]
  · blk_ext [iblk, V, blk5 t]

theorem arr6 : (dats m 0 c).arrAt 6 cfg0.N = dg (m ((c : Thread nD τ).loc main_arg0)) (m ((c : Thread nD τ).loc main_arg1)) (m ((c : Thread nD τ).loc main_arg2)) := by
  refine (dats m 0 c).arrAt_eq_of_covers 6 _ (by decide +kernel) fun t ht j => ?_
  have hl := last ((flush0_6 t).mp ht)
  blk_simp
  rw [after0_6]
  rw [Pipeline.eq_sum_fin_of_reset_step_apply_last (fun n h => (outsAt0 m c n h).2.2.2) 16 (fun _ => 0) _
      (fun t h j => by rw [outsAt0_A m c t h]; frame_out; rw [step, zero1])
      (fun t h j => by rw [outsAt0_B m c t h]; frame_out; rw [step])
      (by decide) t hl j, zero_add]
  unfold dg
  refine Fin.sum_mul_add_congr fun s k hl => ?_
  simp only [rows0 m c s k hl, rows2 m c s k hl, row1]
  rw [show iblk m c 0 s (ix2 k (j 1)) = _ from rows0 m c s k hl (j 1)]
  refine column (term (m ((c : Thread nD τ).loc main_arg0)) (m ((c : Thread nD τ).loc main_arg1)) (m ((c : Thread nD τ).loc main_arg2)) ⟨s.val * 256 + k.val, hl⟩) fun f => ?_
  blk_ext [iblk, V, blk6 t]

/-! ### The reference -/

open Cert.LossRIdeal.Read in
theorem ref51 : val_main_v51 (F := Ideal) x g t = loss x g t := by
  funext i
  obtain ⟨r, l, rfl⟩ : ∃ (r : Fin 8) (l : Fin 128), i = ix2 r l := ⟨i 0, i 1, eq_ix2 i⟩
  unfold val_main_v51 val_main_v24 val_main_v23 val_main_v22 val_main_v21 val_main_v20 val_main_v17 val_main_v16 val_main_v15 val_main_v14 val_main_v13 val_main_v12 val_main_v11 val_main_v7 val_main_v6 val_main_v5 val_main_v4 val_main_v3 val_main_v2 val_main_v1 val_main_v0 val_main_cst val_main_cst_0 val_main_cst_1 val_main_cst_4 val_main_cst_5 val_main_cst_6 val_main_cst_7
  pointwise
  exact cost_sum _

open Cert.LossRIdeal.Read in
theorem ref50 : val_main_v50 (F := Ideal) x g t = dx x g t := by
  funext i
  obtain ⟨r, l, rfl⟩ : ∃ (r : Fin 4096) (l : Fin 2048), i = ix2 r l := ⟨i 0, i 1, eq_ix2 i⟩
  unfold val_main_v50 val_main_v49 val_main_v48 val_main_v47 val_main_v46 val_main_v45 val_main_v44 val_main_v43 val_main_v42 val_main_v41 val_main_v40 val_main_v39 val_main_v38 val_main_v37 val_main_v35 val_main_v34 val_main_v30 val_main_v29 val_main_v28 val_main_v27 val_main_v26 val_main_v25 val_main_v19 val_main_v18 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 val_main_cst_8 val_main_cst_9 val_main_cst_10 val_main_cst_13 val_main_cst_14 val_main_cst_15
  pointwise
  rw [Fin.sum_univ_one, add_assoc]
  simp only [slope_chain]
  exact back_chain (fun k => x (ix2 r k)) (fun k => slope (fun k => x (ix2 r k)) (fun k => g (ix1 k)) (fun k => t (ix2 r k)) k * g (ix1 k)) l

open Cert.LossRIdeal.Read in
theorem ref53 : val_main_v53 (F := Ideal) x g t = dg x g t := by
  funext i
  obtain ⟨r, l, rfl⟩ : ∃ (r : Fin 1) (l : Fin 2048), i = ix2 r l := ⟨i 0, i 1, eq_ix2 i⟩
  unfold val_main_v53 val_main_v36 val_main_v33 val_main_v32 val_main_v31 val_main_v30 val_main_v29 val_main_v28 val_main_v27 val_main_v26 val_main_v25 val_main_v19 val_main_v18 val_main_v16 val_main_v15 val_main_v14 val_main_v13 val_main_v12 val_main_v11 val_main_v7 val_main_v6 val_main_v5 val_main_v4 val_main_v3 val_main_v2 val_main_v1 val_main_v0 val_main_cst val_main_cst_0 val_main_cst_1 val_main_cst_3 val_main_cst_8 val_main_cst_9 val_main_cst_10 val_main_cst_11 val_main_cst_12
  pointwise
  unfold dg
  rw [Fin.sum_univ_one]
  simp only [slope_chain]
  exact Finset.sum_congr rfl fun k _ => mul_comm _ _

theorem frame_reference : Cert.quiescent_LossRIdeal (hLossRIdeal := Cert.LossRIdeal.Gen.facts) := fun m ρ _ =>
  quiet_four (θ_run _ _ _).mono (fun r => sem_eq_zero_of_no_sems (by decide) r.2) (Cert.LossRIdeal.Value.run m ρ)

theorem algebraic : Cert.algebraic_LossKIdeal_LossRIdeal (hLossKIdeal := Cert.LossKIdeal.Gen.facts) (hLossRIdeal := Cert.LossRIdeal.Gen.facts) :=
  fun m g m' g' _ hm => agree_four (θ_run _ _ _).mono (θ_run _ _ _).mono _ _ _ _ (Value.run_blocks m g) (fun c => ⟨arr3 m c, arr4 m c, arr5 m c, arr6 m c⟩) (Cert.LossRIdeal.Value.run m' g') fun c =>
    ⟨by rw [Cert.LossRIdeal.Read.val_main_v51_eq, (hm c).1, (hm c).2.1, (hm c).2.2]; exact ref51 _ _ _,
      by rw [Cert.LossRIdeal.Read.val_main_v50_eq, (hm c).1, (hm c).2.1, (hm c).2.2]; exact ref50 _ _ _,
      by rw [Cert.LossRIdeal.Read.val_main_v52_eq, (hm c).1, (hm c).2.1, (hm c).2.2]; exact ref50 _ _ _,
      by rw [Cert.LossRIdeal.Read.val_main_v53_eq, (hm c).1, (hm c).2.1, (hm c).2.2]; exact ref53 _ _ _⟩

end Loss

end Cert.Proof

end
-- ==== Proof.AdamLarge.lean ====
/- The optimiser's calls for the five large weights: the gradient is the sum of two bf16 parts. -/
module

public import proofs.«01_k».proof.Defs
public import proofs.«01_k».proof.Proof.Gen.AdWinKIdeal.Value
public import proofs.«01_k».proof.Proof.Gen.AdWinRIdeal.Read
public import proofs.«01_k».proof.Proof.Gen.AdPwKIdeal.Value
public import proofs.«01_k».proof.Proof.Gen.AdPwRIdeal.Read
public import proofs.«01_k».proof.Proof.Gen.AdWoutKIdeal.Value
public import proofs.«01_k».proof.Proof.Gen.AdWoutRIdeal.Read
public import proofs.«01_k».proof.Proof.Gen.AdWupKIdeal.Value
public import proofs.«01_k».proof.Proof.Gen.AdWupRIdeal.Read
public import proofs.«01_k».proof.Proof.Gen.AdWdownKIdeal.Value
public import proofs.«01_k».proof.Proof.Gen.AdWdownRIdeal.Read
public import proofs.«01_k».proof.Proof.Adam
public import Idealize.ShloMosaic.Lib.Pipeline.ValueKit.Geometry
public import Idealize.ShloMosaic.Lib.Pipeline.ValueKit.Acc

@[expose] public section

set_option maxRecDepth 16384

noncomputable section

namespace Cert.Proof

open Idealize.ShloMosaic Idealize.ShloMosaic.TcCoe Idealize.SL.Sem

/-! ## w_in -/

namespace AdWin
open Cert.AdWinKIdeal Cert.AdWinKIdeal.Gen

/-- What the four results hold. -/
theorem arr (m : (ℓ : Loc nD τ sig) → Buf (Elt Ideal) ℓ) (c : Dev nD) :
    let g := both (m ((c : Thread nD τ).loc main_arg0)) (m ((c : Thread nD τ).loc main_arg1))
    (dats m 0 c).arrAt 5 cfg0.N = g
    ∧ (dats m 0 c).arrAt 6 cfg0.N = delta g (m ((c : Thread nD τ).loc main_arg2)) (m ((c : Thread nD τ).loc main_arg3)) (m ((c : Thread nD τ).loc main_arg4))
    ∧ (dats m 0 c).arrAt 7 cfg0.N = newM g (m ((c : Thread nD τ).loc main_arg3))
    ∧ (dats m 0 c).arrAt 8 cfg0.N = newV g (m ((c : Thread nD τ).loc main_arg4)) :=
  ⟨(dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl,
   (dats m 0 c).arrAt_eq_of_covers 8 _ (by decide +kernel) fun t _ j => by blk_simp; rw [after0_8]; frame_out; rfl⟩

theorem frame_reference : Cert.quiescent_AdWinRIdeal (hAdWinRIdeal := Cert.AdWinRIdeal.Gen.facts) := fun m ρ _ =>
  quiet_four (θ_run _ _ _).mono (fun r => sem_eq_zero_of_no_sems (by decide) r.2) (Cert.AdWinRIdeal.Value.run m ρ)

theorem algebraic : Cert.algebraic_AdWinKIdeal_AdWinRIdeal (hAdWinKIdeal := Cert.AdWinKIdeal.Gen.facts) (hAdWinRIdeal := Cert.AdWinRIdeal.Gen.facts) :=
  fun m g m' g' _ hm => agree_four (θ_run _ _ _).mono (θ_run _ _ _).mono _ _ _ _ (Value.run_blocks m g) (arr m) (Cert.AdWinRIdeal.Value.run m' g') fun c => by
    obtain ⟨e0, e1, e2, e3, e4⟩ := hm c
    rw [e0, e1, e2, e3, e4]
    exact ⟨rfl, rfl, rfl, rfl⟩

end AdWin

/-! ## conv_pw_w -/

namespace AdPw
open Cert.AdPwKIdeal Cert.AdPwKIdeal.Gen

/-- What the four results hold. -/
theorem arr (m : (ℓ : Loc nD τ sig) → Buf (Elt Ideal) ℓ) (c : Dev nD) :
    let g := both (m ((c : Thread nD τ).loc main_arg0)) (m ((c : Thread nD τ).loc main_arg1))
    (dats m 0 c).arrAt 5 cfg0.N = g
    ∧ (dats m 0 c).arrAt 6 cfg0.N = delta g (m ((c : Thread nD τ).loc main_arg2)) (m ((c : Thread nD τ).loc main_arg3)) (m ((c : Thread nD τ).loc main_arg4))
    ∧ (dats m 0 c).arrAt 7 cfg0.N = newM g (m ((c : Thread nD τ).loc main_arg3))
    ∧ (dats m 0 c).arrAt 8 cfg0.N = newV g (m ((c : Thread nD τ).loc main_arg4)) :=
  ⟨(dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl,
   (dats m 0 c).arrAt_eq_of_covers 8 _ (by decide +kernel) fun t _ j => by blk_simp; rw [after0_8]; frame_out; rfl⟩

theorem frame_reference : Cert.quiescent_AdPwRIdeal (hAdPwRIdeal := Cert.AdPwRIdeal.Gen.facts) := fun m ρ _ =>
  quiet_four (θ_run _ _ _).mono (fun r => sem_eq_zero_of_no_sems (by decide) r.2) (Cert.AdPwRIdeal.Value.run m ρ)

theorem algebraic : Cert.algebraic_AdPwKIdeal_AdPwRIdeal (hAdPwKIdeal := Cert.AdPwKIdeal.Gen.facts) (hAdPwRIdeal := Cert.AdPwRIdeal.Gen.facts) :=
  fun m g m' g' _ hm => agree_four (θ_run _ _ _).mono (θ_run _ _ _).mono _ _ _ _ (Value.run_blocks m g) (arr m) (Cert.AdPwRIdeal.Value.run m' g') fun c => by
    obtain ⟨e0, e1, e2, e3, e4⟩ := hm c
    rw [e0, e1, e2, e3, e4]
    exact ⟨rfl, rfl, rfl, rfl⟩

end AdPw

/-! ## w_out -/

namespace AdWout
open Cert.AdWoutKIdeal Cert.AdWoutKIdeal.Gen

/-- What the four results hold. -/
theorem arr (m : (ℓ : Loc nD τ sig) → Buf (Elt Ideal) ℓ) (c : Dev nD) :
    let g := both (m ((c : Thread nD τ).loc main_arg0)) (m ((c : Thread nD τ).loc main_arg1))
    (dats m 0 c).arrAt 5 cfg0.N = g
    ∧ (dats m 0 c).arrAt 6 cfg0.N = delta g (m ((c : Thread nD τ).loc main_arg2)) (m ((c : Thread nD τ).loc main_arg3)) (m ((c : Thread nD τ).loc main_arg4))
    ∧ (dats m 0 c).arrAt 7 cfg0.N = newM g (m ((c : Thread nD τ).loc main_arg3))
    ∧ (dats m 0 c).arrAt 8 cfg0.N = newV g (m ((c : Thread nD τ).loc main_arg4)) :=
  ⟨(dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl,
   (dats m 0 c).arrAt_eq_of_covers 8 _ (by decide +kernel) fun t _ j => by blk_simp; rw [after0_8]; frame_out; rfl⟩

theorem frame_reference : Cert.quiescent_AdWoutRIdeal (hAdWoutRIdeal := Cert.AdWoutRIdeal.Gen.facts) := fun m ρ _ =>
  quiet_four (θ_run _ _ _).mono (fun r => sem_eq_zero_of_no_sems (by decide) r.2) (Cert.AdWoutRIdeal.Value.run m ρ)

theorem algebraic : Cert.algebraic_AdWoutKIdeal_AdWoutRIdeal (hAdWoutKIdeal := Cert.AdWoutKIdeal.Gen.facts) (hAdWoutRIdeal := Cert.AdWoutRIdeal.Gen.facts) :=
  fun m g m' g' _ hm => agree_four (θ_run _ _ _).mono (θ_run _ _ _).mono _ _ _ _ (Value.run_blocks m g) (arr m) (Cert.AdWoutRIdeal.Value.run m' g') fun c => by
    obtain ⟨e0, e1, e2, e3, e4⟩ := hm c
    rw [e0, e1, e2, e3, e4]
    exact ⟨rfl, rfl, rfl, rfl⟩

end AdWout

/-! ## w_up -/

namespace AdWup
open Cert.AdWupKIdeal Cert.AdWupKIdeal.Gen

/-- What the four results hold. -/
theorem arr (m : (ℓ : Loc nD τ sig) → Buf (Elt Ideal) ℓ) (c : Dev nD) :
    let g := both (m ((c : Thread nD τ).loc main_arg0)) (m ((c : Thread nD τ).loc main_arg1))
    (dats m 0 c).arrAt 5 cfg0.N = g
    ∧ (dats m 0 c).arrAt 6 cfg0.N = delta g (m ((c : Thread nD τ).loc main_arg2)) (m ((c : Thread nD τ).loc main_arg3)) (m ((c : Thread nD τ).loc main_arg4))
    ∧ (dats m 0 c).arrAt 7 cfg0.N = newM g (m ((c : Thread nD τ).loc main_arg3))
    ∧ (dats m 0 c).arrAt 8 cfg0.N = newV g (m ((c : Thread nD τ).loc main_arg4)) :=
  ⟨(dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl,
   (dats m 0 c).arrAt_eq_of_covers 8 _ (by decide +kernel) fun t _ j => by blk_simp; rw [after0_8]; frame_out; rfl⟩

theorem frame_reference : Cert.quiescent_AdWupRIdeal (hAdWupRIdeal := Cert.AdWupRIdeal.Gen.facts) := fun m ρ _ =>
  quiet_four (θ_run _ _ _).mono (fun r => sem_eq_zero_of_no_sems (by decide) r.2) (Cert.AdWupRIdeal.Value.run m ρ)

theorem algebraic : Cert.algebraic_AdWupKIdeal_AdWupRIdeal (hAdWupKIdeal := Cert.AdWupKIdeal.Gen.facts) (hAdWupRIdeal := Cert.AdWupRIdeal.Gen.facts) :=
  fun m g m' g' _ hm => agree_four (θ_run _ _ _).mono (θ_run _ _ _).mono _ _ _ _ (Value.run_blocks m g) (arr m) (Cert.AdWupRIdeal.Value.run m' g') fun c => by
    obtain ⟨e0, e1, e2, e3, e4⟩ := hm c
    rw [e0, e1, e2, e3, e4]
    exact ⟨rfl, rfl, rfl, rfl⟩

end AdWup

/-! ## w_down -/

namespace AdWdown
open Cert.AdWdownKIdeal Cert.AdWdownKIdeal.Gen

/-- What the four results hold. -/
theorem arr (m : (ℓ : Loc nD τ sig) → Buf (Elt Ideal) ℓ) (c : Dev nD) :
    let g := both (m ((c : Thread nD τ).loc main_arg0)) (m ((c : Thread nD τ).loc main_arg1))
    (dats m 0 c).arrAt 5 cfg0.N = g
    ∧ (dats m 0 c).arrAt 6 cfg0.N = delta g (m ((c : Thread nD τ).loc main_arg2)) (m ((c : Thread nD τ).loc main_arg3)) (m ((c : Thread nD τ).loc main_arg4))
    ∧ (dats m 0 c).arrAt 7 cfg0.N = newM g (m ((c : Thread nD τ).loc main_arg3))
    ∧ (dats m 0 c).arrAt 8 cfg0.N = newV g (m ((c : Thread nD τ).loc main_arg4)) :=
  ⟨(dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl,
   (dats m 0 c).arrAt_eq_of_covers 8 _ (by decide +kernel) fun t _ j => by blk_simp; rw [after0_8]; frame_out; rfl⟩

theorem frame_reference : Cert.quiescent_AdWdownRIdeal (hAdWdownRIdeal := Cert.AdWdownRIdeal.Gen.facts) := fun m ρ _ =>
  quiet_four (θ_run _ _ _).mono (fun r => sem_eq_zero_of_no_sems (by decide) r.2) (Cert.AdWdownRIdeal.Value.run m ρ)

theorem algebraic : Cert.algebraic_AdWdownKIdeal_AdWdownRIdeal (hAdWdownKIdeal := Cert.AdWdownKIdeal.Gen.facts) (hAdWdownRIdeal := Cert.AdWdownRIdeal.Gen.facts) :=
  fun m g m' g' _ hm => agree_four (θ_run _ _ _).mono (θ_run _ _ _).mono _ _ _ _ (Value.run_blocks m g) (arr m) (Cert.AdWdownRIdeal.Value.run m' g') fun c => by
    obtain ⟨e0, e1, e2, e3, e4⟩ := hm c
    rw [e0, e1, e2, e3, e4]
    exact ⟨rfl, rfl, rfl, rfl⟩

end AdWdown

end Cert.Proof

end
-- ==== Proof.AdamSmall.lean ====
/- The optimiser's calls for the small weights: the gradient is one f32 array. -/
module

public import proofs.«01_k».proof.Defs
public import proofs.«01_k».proof.Proof.Gen.AdDwKIdeal.Value
public import proofs.«01_k».proof.Proof.Gen.AdDwRIdeal.Read
public import proofs.«01_k».proof.Proof.Gen.AdGcKIdeal.Value
public import proofs.«01_k».proof.Proof.Gen.AdGcRIdeal.Read
public import proofs.«01_k».proof.Proof.Gen.AdFcKIdeal.Value
public import proofs.«01_k».proof.Proof.Gen.AdFcRIdeal.Read
public import proofs.«01_k».proof.Proof.Gen.AdNormKIdeal.Value
public import proofs.«01_k».proof.Proof.Gen.AdNormRIdeal.Read
public import proofs.«01_k».proof.Proof.Gen.AdFinalKIdeal.Value
public import proofs.«01_k».proof.Proof.Gen.AdFinalRIdeal.Read
public import proofs.«01_k».proof.Proof.Gen.AdChKIdeal.Value
public import proofs.«01_k».proof.Proof.Gen.AdChRIdeal.Read
public import proofs.«01_k».proof.Proof.Gen.AdHeadKIdeal.Value
public import proofs.«01_k».proof.Proof.Gen.AdHeadRIdeal.Read
public import proofs.«01_k».proof.Proof.Gen.AdKeyKIdeal.Value
public import proofs.«01_k».proof.Proof.Gen.AdKeyRIdeal.Read
public import proofs.«01_k».proof.Proof.Gen.AdFbKIdeal.Value
public import proofs.«01_k».proof.Proof.Gen.AdFbRIdeal.Read
public import proofs.«01_k».proof.Proof.Adam
public import Idealize.ShloMosaic.Lib.Pipeline.ValueKit.Geometry
public import Idealize.ShloMosaic.Lib.Pipeline.ValueKit.Acc

@[expose] public section

set_option maxRecDepth 16384

noncomputable section

namespace Cert.Proof

open Idealize.ShloMosaic Idealize.ShloMosaic.TcCoe Idealize.SL.Sem

/-! ## conv_dw_w -/

namespace AdDw
open Cert.AdDwKIdeal Cert.AdDwKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdDwRIdeal (hAdDwRIdeal := Cert.AdDwRIdeal.Gen.facts) := fun m ρ _ =>
  quiet_four (θ_run _ _ _).mono (fun r => sem_eq_zero_of_no_sems (by decide) r.2) (Cert.AdDwRIdeal.Value.run m ρ)

theorem algebraic : Cert.algebraic_AdDwKIdeal_AdDwRIdeal (hAdDwKIdeal := Cert.AdDwKIdeal.Gen.facts) (hAdDwRIdeal := Cert.AdDwRIdeal.Gen.facts) :=
  fun m g m' g' _ hm => agree_four (θ_run _ _ _).mono (θ_run _ _ _).mono _ _ _ _ (Value.run_blocks m g) (arr m) (Cert.AdDwRIdeal.Value.run m' g') fun c => by
    obtain ⟨e0, e1, e2, e3⟩ := hm c
    rw [e0, e1, e2, e3]
    exact ⟨rfl, rfl, rfl, rfl⟩

end AdDw

/-! ## gdn_conv_w -/

namespace AdGc
open Cert.AdGcKIdeal Cert.AdGcKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdGcRIdeal (hAdGcRIdeal := Cert.AdGcRIdeal.Gen.facts) := fun m ρ _ =>
  quiet_four (θ_run _ _ _).mono (fun r => sem_eq_zero_of_no_sems (by decide) r.2) (Cert.AdGcRIdeal.Value.run m ρ)

theorem algebraic : Cert.algebraic_AdGcKIdeal_AdGcRIdeal (hAdGcKIdeal := Cert.AdGcKIdeal.Gen.facts) (hAdGcRIdeal := Cert.AdGcRIdeal.Gen.facts) :=
  fun m g m' g' _ hm => agree_four (θ_run _ _ _).mono (θ_run _ _ _).mono _ _ _ _ (Value.run_blocks m g) (arr m) (Cert.AdGcRIdeal.Value.run m' g') fun c => by
    obtain ⟨e0, e1, e2, e3⟩ := hm c
    rw [e0, e1, e2, e3]
    exact ⟨rfl, rfl, rfl, rfl⟩

end AdGc

/-! ## ffn_conv_w -/

namespace AdFc
open Cert.AdFcKIdeal Cert.AdFcKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdFcRIdeal (hAdFcRIdeal := Cert.AdFcRIdeal.Gen.facts) := fun m ρ _ =>
  quiet_four (θ_run _ _ _).mono (fun r => sem_eq_zero_of_no_sems (by decide) r.2) (Cert.AdFcRIdeal.Value.run m ρ)

theorem algebraic : Cert.algebraic_AdFcKIdeal_AdFcRIdeal (hAdFcKIdeal := Cert.AdFcKIdeal.Gen.facts) (hAdFcRIdeal := Cert.AdFcRIdeal.Gen.facts) :=
  fun m g m' g' _ hm => agree_four (θ_run _ _ _).mono (θ_run _ _ _).mono _ _ _ _ (Value.run_blocks m g) (arr m) (Cert.AdFcRIdeal.Value.run m' g') fun c => by
    obtain ⟨e0, e1, e2, e3⟩ := hm c
    rw [e0, e1, e2, e3]
    exact ⟨rfl, rfl, rfl, rfl⟩

end AdFc

/-! ## mix_norm_g and ffn_norm_g -/

namespace AdNorm
open Cert.AdNormKIdeal Cert.AdNormKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdNormRIdeal (hAdNormRIdeal := Cert.AdNormRIdeal.Gen.facts) := fun m ρ _ =>
  quiet_four (θ_run _ _ _).mono (fun r => sem_eq_zero_of_no_sems (by decide) r.2) (Cert.AdNormRIdeal.Value.run m ρ)

theorem algebraic : Cert.algebraic_AdNormKIdeal_AdNormRIdeal (hAdNormKIdeal := Cert.AdNormKIdeal.Gen.facts) (hAdNormRIdeal := Cert.AdNormRIdeal.Gen.facts) :=
  fun m g m' g' _ hm => agree_four (θ_run _ _ _).mono (θ_run _ _ _).mono _ _ _ _ (Value.run_blocks m g) (arr m) (Cert.AdNormRIdeal.Value.run m' g') fun c => by
    obtain ⟨e0, e1, e2, e3⟩ := hm c
    rw [e0, e1, e2, e3]
    exact ⟨rfl, rfl, rfl, rfl⟩

end AdNorm

/-! ## final_norm_g -/

namespace AdFinal
open Cert.AdFinalKIdeal Cert.AdFinalKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdFinalRIdeal (hAdFinalRIdeal := Cert.AdFinalRIdeal.Gen.facts) := fun m ρ _ =>
  quiet_four (θ_run _ _ _).mono (fun r => sem_eq_zero_of_no_sems (by decide) r.2) (Cert.AdFinalRIdeal.Value.run m ρ)

theorem algebraic : Cert.algebraic_AdFinalKIdeal_AdFinalRIdeal (hAdFinalKIdeal := Cert.AdFinalKIdeal.Gen.facts) (hAdFinalRIdeal := Cert.AdFinalRIdeal.Gen.facts) :=
  fun m g m' g' _ hm => agree_four (θ_run _ _ _).mono (θ_run _ _ _).mono _ _ _ _ (Value.run_blocks m g) (arr m) (Cert.AdFinalRIdeal.Value.run m' g') fun c => by
    obtain ⟨e0, e1, e2, e3⟩ := hm c
    rw [e0, e1, e2, e3]
    exact ⟨rfl, rfl, rfl, rfl⟩

end AdFinal

/-! ## conv_dw_b, conv_ln_g, conv_ln_b and conv_pw_b -/

namespace AdCh
open Cert.AdChKIdeal Cert.AdChKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdChRIdeal (hAdChRIdeal := Cert.AdChRIdeal.Gen.facts) := fun m ρ _ =>
  quiet_four (θ_run _ _ _).mono (fun r => sem_eq_zero_of_no_sems (by decide) r.2) (Cert.AdChRIdeal.Value.run m ρ)

theorem algebraic : Cert.algebraic_AdChKIdeal_AdChRIdeal (hAdChKIdeal := Cert.AdChKIdeal.Gen.facts) (hAdChRIdeal := Cert.AdChRIdeal.Gen.facts) :=
  fun m g m' g' _ hm => agree_four (θ_run _ _ _).mono (θ_run _ _ _).mono _ _ _ _ (Value.run_blocks m g) (arr m) (Cert.AdChRIdeal.Value.run m' g') fun c => by
    obtain ⟨e0, e1, e2, e3⟩ := hm c
    rw [e0, e1, e2, e3]
    exact ⟨rfl, rfl, rfl, rfl⟩

end AdCh

/-! ## gdn_a_log and gdn_dt_bias -/

namespace AdHead
open Cert.AdHeadKIdeal Cert.AdHeadKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdHeadRIdeal (hAdHeadRIdeal := Cert.AdHeadRIdeal.Gen.facts) := fun m ρ _ =>
  quiet_four (θ_run _ _ _).mono (fun r => sem_eq_zero_of_no_sems (by decide) r.2) (Cert.AdHeadRIdeal.Value.run m ρ)

theorem algebraic : Cert.algebraic_AdHeadKIdeal_AdHeadRIdeal (hAdHeadKIdeal := Cert.AdHeadKIdeal.Gen.facts) (hAdHeadRIdeal := Cert.AdHeadRIdeal.Gen.facts) :=
  fun m g m' g' _ hm => agree_four (θ_run _ _ _).mono (θ_run _ _ _).mono _ _ _ _ (Value.run_blocks m g) (arr m) (Cert.AdHeadRIdeal.Value.run m' g') fun c => by
    obtain ⟨e0, e1, e2, e3⟩ := hm c
    rw [e0, e1, e2, e3]
    exact ⟨rfl, rfl, rfl, rfl⟩

end AdHead

/-! ## gdn_norm_g -/

namespace AdKey
open Cert.AdKeyKIdeal Cert.AdKeyKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdKeyRIdeal (hAdKeyRIdeal := Cert.AdKeyRIdeal.Gen.facts) := fun m ρ _ =>
  quiet_four (θ_run _ _ _).mono (fun r => sem_eq_zero_of_no_sems (by decide) r.2) (Cert.AdKeyRIdeal.Value.run m ρ)

theorem algebraic : Cert.algebraic_AdKeyKIdeal_AdKeyRIdeal (hAdKeyKIdeal := Cert.AdKeyKIdeal.Gen.facts) (hAdKeyRIdeal := Cert.AdKeyRIdeal.Gen.facts) :=
  fun m g m' g' _ hm => agree_four (θ_run _ _ _).mono (θ_run _ _ _).mono _ _ _ _ (Value.run_blocks m g) (arr m) (Cert.AdKeyRIdeal.Value.run m' g') fun c => by
    obtain ⟨e0, e1, e2, e3⟩ := hm c
    rw [e0, e1, e2, e3]
    exact ⟨rfl, rfl, rfl, rfl⟩

end AdKey

/-! ## ffn_conv_b -/

namespace AdFb
open Cert.AdFbKIdeal Cert.AdFbKIdeal.Gen

/-- What the four results hold. -/
theorem arr (m : (ℓ : Loc nD τ sig) → Buf (Elt Ideal) ℓ) (c : Dev nD) :
    let g := m ((c : Thread nD τ).loc main_arg0)
    (dats m 0 c).arrAt 4 cfg0.N = g
    ∧ (dats m 0 c).arrAt 5 cfg0.N = delta g (m ((c : Thread nD τ).loc main_arg1)) (m ((c : Thread nD τ).loc main_arg2)) (m ((c : Thread nD τ).loc main_arg3))
    ∧ (dats m 0 c).arrAt 6 cfg0.N = newM g (m ((c : Thread nD τ).loc main_arg2))
    ∧ (dats m 0 c).arrAt 7 cfg0.N = newV g (m ((c : Thread nD τ).loc main_arg3)) :=
  ⟨(dats m 0 c).arrAt_eq_of_covers 4 _ (by decide +kernel) fun t _ j => by blk_simp; rw [after0_4]; frame_out; rfl,
   (dats m 0 c).arrAt_eq_of_covers 5 _ (by decide +kernel) fun t _ j => by blk_simp; rw [after0_5]; frame_out; rfl,
   (dats m 0 c).arrAt_eq_of_covers 6 _ (by decide +kernel) fun t _ j => by blk_simp; rw [after0_6]; frame_out; rfl,
   (dats m 0 c).arrAt_eq_of_covers 7 _ (by decide +kernel) fun t _ j => by blk_simp; rw [after0_7]; frame_out; rfl⟩

theorem frame_reference : Cert.quiescent_AdFbRIdeal (hAdFbRIdeal := Cert.AdFbRIdeal.Gen.facts) := fun m ρ _ =>
  quiet_four (θ_run _ _ _).mono (fun r => sem_eq_zero_of_no_sems (by decide) r.2) (Cert.AdFbRIdeal.Value.run m ρ)

theorem algebraic : Cert.algebraic_AdFbKIdeal_AdFbRIdeal (hAdFbKIdeal := Cert.AdFbKIdeal.Gen.facts) (hAdFbRIdeal := Cert.AdFbRIdeal.Gen.facts) :=
  fun m g m' g' _ hm => agree_four (θ_run _ _ _).mono (θ_run _ _ _).mono _ _ _ _ (Value.run_blocks m g) (arr m) (Cert.AdFbRIdeal.Value.run m' g') fun c => by
    obtain ⟨e0, e1, e2, e3⟩ := hm c
    rw [e0, e1, e2, e3]
    exact ⟨rfl, rfl, rfl, rfl⟩

end AdFb

end Cert.Proof

end
-- ==== Proof.lean ====
module

public import proofs.«01_k».proof.Defs
public import proofs.«01_k».proof.Proof.Gen.FfnK
public import proofs.«01_k».proof.Proof.Gen.FfnK.Skeleton
public import proofs.«01_k».proof.Proof.Gen.FfnK.Launch
public import proofs.«01_k».proof.Proof.Gen.FfnK.Points
public import proofs.«01_k».proof.Proof.Gen.FfnK.Frame
public import proofs.«01_k».proof.Proof.Gen.FfnKIdeal
public import proofs.«01_k».proof.Proof.Gen.FfnKIdeal.Skeleton
public import proofs.«01_k».proof.Proof.Gen.FfnKIdeal.Launch
public import proofs.«01_k».proof.Proof.Gen.FfnKIdeal.Points
public import proofs.«01_k».proof.Proof.Gen.FfnKIdeal.Frame
public import proofs.«01_k».proof.Proof.Gen.FfnRIdeal
public import proofs.«01_k».proof.Proof.Gen.Pre_finite
public import proofs.«01_k».proof.Proof.Gen.FfnKIdeal.Value
public import proofs.«01_k».proof.Proof.Gen.FfnRIdeal.Read
public import proofs.«01_k».proof.Proof.Gen.DwdownK
public import proofs.«01_k».proof.Proof.Gen.DwdownK.Frame
public import proofs.«01_k».proof.Proof.Gen.DwdownKIdeal
public import proofs.«01_k».proof.Proof.Gen.DwdownKIdeal.Frame
public import proofs.«01_k».proof.Proof.Gen.DwdownRIdeal
public import proofs.«01_k».proof.Proof.Gen.DwupK
public import proofs.«01_k».proof.Proof.Gen.DwupK.Frame
public import proofs.«01_k».proof.Proof.Gen.DwupKIdeal
public import proofs.«01_k».proof.Proof.Gen.DwupKIdeal.Frame
public import proofs.«01_k».proof.Proof.Gen.DwupRIdeal
public import proofs.«01_k».proof.Proof.Gen.DactK
public import proofs.«01_k».proof.Proof.Gen.DactK.Frame
public import proofs.«01_k».proof.Proof.Gen.DactKIdeal
public import proofs.«01_k».proof.Proof.Gen.DactKIdeal.Frame
public import proofs.«01_k».proof.Proof.Gen.DactRIdeal
public import proofs.«01_k».proof.Proof.Gen.DwinK
public import proofs.«01_k».proof.Proof.Gen.DwinK.Frame
public import proofs.«01_k».proof.Proof.Gen.DwinKIdeal
public import proofs.«01_k».proof.Proof.Gen.DwinKIdeal.Frame
public import proofs.«01_k».proof.Proof.Gen.DwinRIdeal
public import proofs.«01_k».proof.Proof.Gen.DhgK
public import proofs.«01_k».proof.Proof.Gen.DhgK.Frame
public import proofs.«01_k».proof.Proof.Gen.DhgKIdeal
public import proofs.«01_k».proof.Proof.Gen.DhgKIdeal.Frame
public import proofs.«01_k».proof.Proof.Gen.DhgRIdeal
public import proofs.«01_k».proof.Proof.Gen.DhuK
public import proofs.«01_k».proof.Proof.Gen.DhuK.Frame
public import proofs.«01_k».proof.Proof.Gen.DhuKIdeal
public import proofs.«01_k».proof.Proof.Gen.DhuKIdeal.Frame
public import proofs.«01_k».proof.Proof.Gen.DhuRIdeal
public import proofs.«01_k».proof.Proof.Gen.DhK
public import proofs.«01_k».proof.Proof.Gen.DhK.Frame
public import proofs.«01_k».proof.Proof.Gen.DhKIdeal
public import proofs.«01_k».proof.Proof.Gen.DhKIdeal.Frame
public import proofs.«01_k».proof.Proof.Gen.DhRIdeal
public import proofs.«01_k».proof.Proof.Gen.UpK
public import proofs.«01_k».proof.Proof.Gen.UpK.Frame
public import proofs.«01_k».proof.Proof.Gen.UpKIdeal
public import proofs.«01_k».proof.Proof.Gen.UpKIdeal.Frame
public import proofs.«01_k».proof.Proof.Gen.UpRIdeal
public import proofs.«01_k».proof.Proof.Gen.DownK
public import proofs.«01_k».proof.Proof.Gen.DownK.Frame
public import proofs.«01_k».proof.Proof.Gen.DownKIdeal
public import proofs.«01_k».proof.Proof.Gen.DownKIdeal.Frame
public import proofs.«01_k».proof.Proof.Gen.DownRIdeal
public import proofs.«01_k».proof.Proof.Gen.InMainK
public import proofs.«01_k».proof.Proof.Gen.InMainK.Frame
public import proofs.«01_k».proof.Proof.Gen.InMainKIdeal
public import proofs.«01_k».proof.Proof.Gen.InMainKIdeal.Frame
public import proofs.«01_k».proof.Proof.Gen.InMainRIdeal
public import proofs.«01_k».proof.Proof.Gen.InBaK
public import proofs.«01_k».proof.Proof.Gen.InBaK.Frame
public import proofs.«01_k».proof.Proof.Gen.InBaKIdeal
public import proofs.«01_k».proof.Proof.Gen.InBaKIdeal.Frame
public import proofs.«01_k».proof.Proof.Gen.InBaRIdeal
public import proofs.«01_k».proof.Proof.Gen.PwK
public import proofs.«01_k».proof.Proof.Gen.PwK.Frame
public import proofs.«01_k».proof.Proof.Gen.PwKIdeal
public import proofs.«01_k».proof.Proof.Gen.PwKIdeal.Frame
public import proofs.«01_k».proof.Proof.Gen.PwRIdeal
public import proofs.«01_k».proof.Proof.Gen.OutK
public import proofs.«01_k».proof.Proof.Gen.OutK.Frame
public import proofs.«01_k».proof.Proof.Gen.OutKIdeal
public import proofs.«01_k».proof.Proof.Gen.OutKIdeal.Frame
public import proofs.«01_k».proof.Proof.Gen.OutRIdeal
public import proofs.«01_k».proof.Proof.Gen.DoutaK
public import proofs.«01_k».proof.Proof.Gen.DoutaK.Frame
public import proofs.«01_k».proof.Proof.Gen.DoutaKIdeal
public import proofs.«01_k».proof.Proof.Gen.DoutaKIdeal.Frame
public import proofs.«01_k».proof.Proof.Gen.DoutaRIdeal
public import proofs.«01_k».proof.Proof.Gen.DoutbK
public import proofs.«01_k».proof.Proof.Gen.DoutbK.Frame
public import proofs.«01_k».proof.Proof.Gen.DoutbKIdeal
public import proofs.«01_k».proof.Proof.Gen.DoutbKIdeal.Frame
public import proofs.«01_k».proof.Proof.Gen.DoutbRIdeal
public import proofs.«01_k».proof.Proof.Gen.DwoutK
public import proofs.«01_k».proof.Proof.Gen.DwoutK.Frame
public import proofs.«01_k».proof.Proof.Gen.DwoutKIdeal
public import proofs.«01_k».proof.Proof.Gen.DwoutKIdeal.Frame
public import proofs.«01_k».proof.Proof.Gen.DwoutRIdeal
public import proofs.«01_k».proof.Proof.Gen.DucK
public import proofs.«01_k».proof.Proof.Gen.DucK.Frame
public import proofs.«01_k».proof.Proof.Gen.DucKIdeal
public import proofs.«01_k».proof.Proof.Gen.DucKIdeal.Frame
public import proofs.«01_k».proof.Proof.Gen.DucRIdeal
public import proofs.«01_k».proof.Proof.Gen.DwpwK
public import proofs.«01_k».proof.Proof.Gen.DwpwK.Frame
public import proofs.«01_k».proof.Proof.Gen.DwpwKIdeal
public import proofs.«01_k».proof.Proof.Gen.DwpwKIdeal.Frame
public import proofs.«01_k».proof.Proof.Gen.DwpwRIdeal
public import proofs.«01_k».proof.Proof.Gen.DwbaK
public import proofs.«01_k».proof.Proof.Gen.DwbaK.Frame
public import proofs.«01_k».proof.Proof.Gen.DwbaKIdeal
public import proofs.«01_k».proof.Proof.Gen.DwbaKIdeal.Frame
public import proofs.«01_k».proof.Proof.Gen.DwbaRIdeal
public import proofs.«01_k».proof.Proof.Gen.DhbaK
public import proofs.«01_k».proof.Proof.Gen.DhbaK.Frame
public import proofs.«01_k».proof.Proof.Gen.DhbaKIdeal
public import proofs.«01_k».proof.Proof.Gen.DhbaKIdeal.Frame
public import proofs.«01_k».proof.Proof.Gen.DhbaRIdeal
public import proofs.«01_k».proof.Proof.Gen.AdWinK
public import proofs.«01_k».proof.Proof.Gen.AdWinK.Frame
public import proofs.«01_k».proof.Proof.Gen.AdWinKIdeal
public import proofs.«01_k».proof.Proof.Gen.AdWinKIdeal.Frame
public import proofs.«01_k».proof.Proof.Gen.AdWinRIdeal
public import proofs.«01_k».proof.Proof.Gen.AdPwK
public import proofs.«01_k».proof.Proof.Gen.AdPwK.Frame
public import proofs.«01_k».proof.Proof.Gen.AdPwKIdeal
public import proofs.«01_k».proof.Proof.Gen.AdPwKIdeal.Frame
public import proofs.«01_k».proof.Proof.Gen.AdPwRIdeal
public import proofs.«01_k».proof.Proof.Gen.AdWoutK
public import proofs.«01_k».proof.Proof.Gen.AdWoutK.Frame
public import proofs.«01_k».proof.Proof.Gen.AdWoutKIdeal
public import proofs.«01_k».proof.Proof.Gen.AdWoutKIdeal.Frame
public import proofs.«01_k».proof.Proof.Gen.AdWoutRIdeal
public import proofs.«01_k».proof.Proof.Gen.AdWupK
public import proofs.«01_k».proof.Proof.Gen.AdWupK.Frame
public import proofs.«01_k».proof.Proof.Gen.AdWupKIdeal
public import proofs.«01_k».proof.Proof.Gen.AdWupKIdeal.Frame
public import proofs.«01_k».proof.Proof.Gen.AdWupRIdeal
public import proofs.«01_k».proof.Proof.Gen.AdWdownK
public import proofs.«01_k».proof.Proof.Gen.AdWdownK.Frame
public import proofs.«01_k».proof.Proof.Gen.AdWdownKIdeal
public import proofs.«01_k».proof.Proof.Gen.AdWdownKIdeal.Frame
public import proofs.«01_k».proof.Proof.Gen.AdWdownRIdeal
public import proofs.«01_k».proof.Proof.Gen.AdDwK
public import proofs.«01_k».proof.Proof.Gen.AdDwK.Frame
public import proofs.«01_k».proof.Proof.Gen.AdDwKIdeal
public import proofs.«01_k».proof.Proof.Gen.AdDwKIdeal.Frame
public import proofs.«01_k».proof.Proof.Gen.AdDwRIdeal
public import proofs.«01_k».proof.Proof.Gen.AdGcK
public import proofs.«01_k».proof.Proof.Gen.AdGcK.Frame
public import proofs.«01_k».proof.Proof.Gen.AdGcKIdeal
public import proofs.«01_k».proof.Proof.Gen.AdGcKIdeal.Frame
public import proofs.«01_k».proof.Proof.Gen.AdGcRIdeal
public import proofs.«01_k».proof.Proof.Gen.AdFcK
public import proofs.«01_k».proof.Proof.Gen.AdFcK.Frame
public import proofs.«01_k».proof.Proof.Gen.AdFcKIdeal
public import proofs.«01_k».proof.Proof.Gen.AdFcKIdeal.Frame
public import proofs.«01_k».proof.Proof.Gen.AdFcRIdeal
public import proofs.«01_k».proof.Proof.Gen.AdNormK
public import proofs.«01_k».proof.Proof.Gen.AdNormK.Frame
public import proofs.«01_k».proof.Proof.Gen.AdNormKIdeal
public import proofs.«01_k».proof.Proof.Gen.AdNormKIdeal.Frame
public import proofs.«01_k».proof.Proof.Gen.AdNormRIdeal
public import proofs.«01_k».proof.Proof.Gen.AdFinalK
public import proofs.«01_k».proof.Proof.Gen.AdFinalK.Frame
public import proofs.«01_k».proof.Proof.Gen.AdFinalKIdeal
public import proofs.«01_k».proof.Proof.Gen.AdFinalKIdeal.Frame
public import proofs.«01_k».proof.Proof.Gen.AdFinalRIdeal
public import proofs.«01_k».proof.Proof.Gen.AdChK
public import proofs.«01_k».proof.Proof.Gen.AdChK.Frame
public import proofs.«01_k».proof.Proof.Gen.AdChKIdeal
public import proofs.«01_k».proof.Proof.Gen.AdChKIdeal.Frame
public import proofs.«01_k».proof.Proof.Gen.AdChRIdeal
public import proofs.«01_k».proof.Proof.Gen.AdHeadK
public import proofs.«01_k».proof.Proof.Gen.AdHeadK.Frame
public import proofs.«01_k».proof.Proof.Gen.AdHeadKIdeal
public import proofs.«01_k».proof.Proof.Gen.AdHeadKIdeal.Frame
public import proofs.«01_k».proof.Proof.Gen.AdHeadRIdeal
public import proofs.«01_k».proof.Proof.Gen.AdKeyK
public import proofs.«01_k».proof.Proof.Gen.AdKeyK.Frame
public import proofs.«01_k».proof.Proof.Gen.AdKeyKIdeal
public import proofs.«01_k».proof.Proof.Gen.AdKeyKIdeal.Frame
public import proofs.«01_k».proof.Proof.Gen.AdKeyRIdeal
public import proofs.«01_k».proof.Proof.Gen.AdFbK
public import proofs.«01_k».proof.Proof.Gen.AdFbK.Frame
public import proofs.«01_k».proof.Proof.Gen.AdFbKIdeal
public import proofs.«01_k».proof.Proof.Gen.AdFbKIdeal.Frame
public import proofs.«01_k».proof.Proof.Gen.AdFbRIdeal
public import proofs.«01_k».proof.Proof.Gen.NormK
public import proofs.«01_k».proof.Proof.Gen.NormK.Frame
public import proofs.«01_k».proof.Proof.Gen.NormKIdeal
public import proofs.«01_k».proof.Proof.Gen.NormKIdeal.Frame
public import proofs.«01_k».proof.Proof.Gen.NormRIdeal
public import proofs.«01_k».proof.Proof.Gen.DnormK
public import proofs.«01_k».proof.Proof.Gen.DnormK.Frame
public import proofs.«01_k».proof.Proof.Gen.DnormKIdeal
public import proofs.«01_k».proof.Proof.Gen.DnormKIdeal.Frame
public import proofs.«01_k».proof.Proof.Gen.DnormRIdeal
public import proofs.«01_k».proof.Proof.Gen.LossK
public import proofs.«01_k».proof.Proof.Gen.LossK.Frame
public import proofs.«01_k».proof.Proof.Gen.LossKIdeal
public import proofs.«01_k».proof.Proof.Gen.LossKIdeal.Frame
public import proofs.«01_k».proof.Proof.Gen.LossRIdeal
public import proofs.«01_k».proof.Proof.Gen.QkvFK
public import proofs.«01_k».proof.Proof.Gen.QkvFK.Frame
public import proofs.«01_k».proof.Proof.Gen.QkvFKIdeal
public import proofs.«01_k».proof.Proof.Gen.QkvFKIdeal.Frame
public import proofs.«01_k».proof.Proof.Gen.QkvFRIdeal
public import proofs.«01_k».proof.Proof.Gen.FfnFK
public import proofs.«01_k».proof.Proof.Gen.FfnFK.Frame
public import proofs.«01_k».proof.Proof.Gen.FfnFKIdeal
public import proofs.«01_k».proof.Proof.Gen.FfnFKIdeal.Frame
public import proofs.«01_k».proof.Proof.Gen.FfnFRIdeal
public import proofs.«01_k».proof.Proof.Gen.ConfFK
public import proofs.«01_k».proof.Proof.Gen.ConfFK.Frame
public import proofs.«01_k».proof.Proof.Gen.ConfFKIdeal
public import proofs.«01_k».proof.Proof.Gen.ConfFKIdeal.Frame
public import proofs.«01_k».proof.Proof.Gen.ConfFRIdeal
public import proofs.«01_k».proof.Proof.Gen.QkvK
public import proofs.«01_k».proof.Proof.Gen.QkvK.Frame
public import proofs.«01_k».proof.Proof.Gen.QkvKIdeal
public import proofs.«01_k».proof.Proof.Gen.QkvKIdeal.Frame
public import proofs.«01_k».proof.Proof.Gen.QkvRIdeal
public import proofs.«01_k».proof.Proof.Gen.ConfK
public import proofs.«01_k».proof.Proof.Gen.ConfK.Frame
public import proofs.«01_k».proof.Proof.Gen.ConfKIdeal
public import proofs.«01_k».proof.Proof.Gen.ConfKIdeal.Frame
public import proofs.«01_k».proof.Proof.Gen.ConfRIdeal
public import proofs.«01_k».proof.Proof.Weights
public import proofs.«01_k».proof.Proof.Inputs
public import proofs.«01_k».proof.Proof.Gate
public import proofs.«01_k».proof.Proof.Forward
public import proofs.«01_k».proof.Proof.Ffn
public import proofs.«01_k».proof.Proof.QkvF
public import proofs.«01_k».proof.Proof.FfnF
public import proofs.«01_k».proof.Proof.ConfF
public import proofs.«01_k».proof.Proof.Qkv
public import proofs.«01_k».proof.Proof.Conf
public import proofs.«01_k».proof.Proof.NormCalls
public import proofs.«01_k».proof.Proof.LossHead
public import proofs.«01_k».proof.Proof.AdamLarge
public import proofs.«01_k».proof.Proof.AdamSmall
public import Idealize.ShloMosaic.Adequacy
public import Idealize.ShloMosaic.Init

@[expose] public section

noncomputable section

namespace Cert.Proof

open Idealize.ShloMosaic Idealize.SL.Sem

/-- The reference is a straight-line host program without semaphores: its run keeps the arguments. -/
theorem frame_reference : Cert.quiescent_FfnRIdeal (hFfnRIdeal := Cert.FfnRIdeal.Gen.facts) := fun m ρ _ =>
  (θ_run Cert.FfnRIdeal.defs _ _).mono (fun r h => ⟨fun c => (h c).2.2.2, sem_eq_zero_of_no_sems (by decide) r.2⟩)
    (Cert.FfnRIdeal.Value.run m ρ)

/-- Everything that the certificate claims. -/
theorem claim : Cert.Claim := ⟨Cert.FfnK.Gen.facts, Cert.FfnKIdeal.Gen.facts, Cert.FfnRIdeal.Gen.facts,
  Cert.DwdownK.Gen.facts, Cert.DwdownKIdeal.Gen.facts, Cert.DwdownRIdeal.Gen.facts, Cert.DwupK.Gen.facts, Cert.DwupKIdeal.Gen.facts, Cert.DwupRIdeal.Gen.facts, Cert.DactK.Gen.facts, Cert.DactKIdeal.Gen.facts, Cert.DactRIdeal.Gen.facts, Cert.DwinK.Gen.facts, Cert.DwinKIdeal.Gen.facts, Cert.DwinRIdeal.Gen.facts, Cert.DhgK.Gen.facts, Cert.DhgKIdeal.Gen.facts, Cert.DhgRIdeal.Gen.facts, Cert.DhuK.Gen.facts, Cert.DhuKIdeal.Gen.facts, Cert.DhuRIdeal.Gen.facts, Cert.DhK.Gen.facts, Cert.DhKIdeal.Gen.facts, Cert.DhRIdeal.Gen.facts, Cert.UpK.Gen.facts, Cert.UpKIdeal.Gen.facts, Cert.UpRIdeal.Gen.facts, Cert.DownK.Gen.facts, Cert.DownKIdeal.Gen.facts, Cert.DownRIdeal.Gen.facts, Cert.InMainK.Gen.facts, Cert.InMainKIdeal.Gen.facts, Cert.InMainRIdeal.Gen.facts, Cert.InBaK.Gen.facts, Cert.InBaKIdeal.Gen.facts, Cert.InBaRIdeal.Gen.facts, Cert.PwK.Gen.facts, Cert.PwKIdeal.Gen.facts, Cert.PwRIdeal.Gen.facts, Cert.OutK.Gen.facts, Cert.OutKIdeal.Gen.facts, Cert.OutRIdeal.Gen.facts, Cert.DoutaK.Gen.facts, Cert.DoutaKIdeal.Gen.facts, Cert.DoutaRIdeal.Gen.facts, Cert.DoutbK.Gen.facts, Cert.DoutbKIdeal.Gen.facts, Cert.DoutbRIdeal.Gen.facts, Cert.DwoutK.Gen.facts, Cert.DwoutKIdeal.Gen.facts, Cert.DwoutRIdeal.Gen.facts, Cert.DucK.Gen.facts, Cert.DucKIdeal.Gen.facts, Cert.DucRIdeal.Gen.facts, Cert.DwpwK.Gen.facts, Cert.DwpwKIdeal.Gen.facts, Cert.DwpwRIdeal.Gen.facts, Cert.DwbaK.Gen.facts, Cert.DwbaKIdeal.Gen.facts, Cert.DwbaRIdeal.Gen.facts, Cert.DhbaK.Gen.facts, Cert.DhbaKIdeal.Gen.facts, Cert.DhbaRIdeal.Gen.facts,
  Cert.AdWinK.Gen.facts, Cert.AdWinKIdeal.Gen.facts, Cert.AdWinRIdeal.Gen.facts, Cert.AdPwK.Gen.facts, Cert.AdPwKIdeal.Gen.facts, Cert.AdPwRIdeal.Gen.facts, Cert.AdWoutK.Gen.facts, Cert.AdWoutKIdeal.Gen.facts, Cert.AdWoutRIdeal.Gen.facts,
  Cert.AdWupK.Gen.facts, Cert.AdWupKIdeal.Gen.facts, Cert.AdWupRIdeal.Gen.facts, Cert.AdWdownK.Gen.facts, Cert.AdWdownKIdeal.Gen.facts, Cert.AdWdownRIdeal.Gen.facts, Cert.AdDwK.Gen.facts, Cert.AdDwKIdeal.Gen.facts, Cert.AdDwRIdeal.Gen.facts,
  Cert.AdGcK.Gen.facts, Cert.AdGcKIdeal.Gen.facts, Cert.AdGcRIdeal.Gen.facts, Cert.AdFcK.Gen.facts, Cert.AdFcKIdeal.Gen.facts, Cert.AdFcRIdeal.Gen.facts, Cert.AdNormK.Gen.facts, Cert.AdNormKIdeal.Gen.facts, Cert.AdNormRIdeal.Gen.facts,
  Cert.AdFinalK.Gen.facts, Cert.AdFinalKIdeal.Gen.facts, Cert.AdFinalRIdeal.Gen.facts, Cert.AdChK.Gen.facts, Cert.AdChKIdeal.Gen.facts, Cert.AdChRIdeal.Gen.facts, Cert.AdHeadK.Gen.facts, Cert.AdHeadKIdeal.Gen.facts, Cert.AdHeadRIdeal.Gen.facts,
  Cert.AdKeyK.Gen.facts, Cert.AdKeyKIdeal.Gen.facts, Cert.AdKeyRIdeal.Gen.facts, Cert.AdFbK.Gen.facts, Cert.AdFbKIdeal.Gen.facts, Cert.AdFbRIdeal.Gen.facts,
  Cert.NormK.Gen.facts, Cert.NormKIdeal.Gen.facts, Cert.NormRIdeal.Gen.facts, Cert.DnormK.Gen.facts, Cert.DnormKIdeal.Gen.facts, Cert.DnormRIdeal.Gen.facts, Cert.LossK.Gen.facts, Cert.LossKIdeal.Gen.facts, Cert.LossRIdeal.Gen.facts,
  Cert.QkvFK.Gen.facts, Cert.QkvFKIdeal.Gen.facts, Cert.QkvFRIdeal.Gen.facts, Cert.FfnFK.Gen.facts, Cert.FfnFKIdeal.Gen.facts, Cert.FfnFRIdeal.Gen.facts, Cert.ConfFK.Gen.facts, Cert.ConfFKIdeal.Gen.facts, Cert.ConfFRIdeal.Gen.facts,
  Cert.QkvK.Gen.facts, Cert.QkvKIdeal.Gen.facts, Cert.QkvRIdeal.Gen.facts, Cert.ConfK.Gen.facts, Cert.ConfKIdeal.Gen.facts, Cert.ConfRIdeal.Gen.facts,
  Cert.Pre_finite.Gen.facts, Cert.Pre_finite_qkv.Gen.facts, Cert.Pre_finite_conf.Gen.facts,
  fun m ρ _ => Cert.FfnK.Gen.frame m ρ, fun m ρ _ => Cert.FfnKIdeal.Gen.frame m ρ, fun m ρ _ => Cert.FfnKIdeal.Gen.frame m ρ, frame_reference,
  fun m ρ _ => frame_reference m ρ trivial,
  fun m ρ _ => Cert.DwdownK.Gen.frame m ρ, fun m ρ _ => Cert.DwdownKIdeal.Gen.frame m ρ, Dwdown.frame_reference,
  fun m ρ _ => Cert.DwupK.Gen.frame m ρ, fun m ρ _ => Cert.DwupKIdeal.Gen.frame m ρ, Dwup.frame_reference,
  fun m ρ _ => Cert.DactK.Gen.frame m ρ, fun m ρ _ => Cert.DactKIdeal.Gen.frame m ρ, Dact.frame_reference,
  fun m ρ _ => Cert.DwinK.Gen.frame m ρ, fun m ρ _ => Cert.DwinKIdeal.Gen.frame m ρ, Dwin.frame_reference,
  fun m ρ _ => Cert.DhgK.Gen.frame m ρ, fun m ρ _ => Cert.DhgKIdeal.Gen.frame m ρ, Dhg.frame_reference,
  fun m ρ _ => Cert.DhuK.Gen.frame m ρ, fun m ρ _ => Cert.DhuKIdeal.Gen.frame m ρ, Dhu.frame_reference,
  fun m ρ _ => Cert.DhK.Gen.frame m ρ, fun m ρ _ => Cert.DhKIdeal.Gen.frame m ρ, Dh.frame_reference,
  fun m ρ _ => Cert.UpK.Gen.frame m ρ, fun m ρ _ => Cert.UpKIdeal.Gen.frame m ρ, Up.frame_reference,
  fun m ρ _ => Cert.DownK.Gen.frame m ρ, fun m ρ _ => Cert.DownKIdeal.Gen.frame m ρ, Down.frame_reference,
  fun m ρ _ => Cert.InMainK.Gen.frame m ρ, fun m ρ _ => Cert.InMainKIdeal.Gen.frame m ρ, InMain.frame_reference,
  fun m ρ _ => Cert.InBaK.Gen.frame m ρ, fun m ρ _ => Cert.InBaKIdeal.Gen.frame m ρ, InBa.frame_reference,
  fun m ρ _ => Cert.PwK.Gen.frame m ρ, fun m ρ _ => Cert.PwKIdeal.Gen.frame m ρ, Pw.frame_reference,
  fun m ρ _ => Cert.OutK.Gen.frame m ρ, fun m ρ _ => Cert.OutKIdeal.Gen.frame m ρ, Out.frame_reference,
  fun m ρ _ => Cert.DoutaK.Gen.frame m ρ, fun m ρ _ => Cert.DoutaKIdeal.Gen.frame m ρ, Douta.frame_reference,
  fun m ρ _ => Cert.DoutbK.Gen.frame m ρ, fun m ρ _ => Cert.DoutbKIdeal.Gen.frame m ρ, Doutb.frame_reference,
  fun m ρ _ => Cert.DwoutK.Gen.frame m ρ, fun m ρ _ => Cert.DwoutKIdeal.Gen.frame m ρ, Dwout.frame_reference,
  fun m ρ _ => Cert.DucK.Gen.frame m ρ, fun m ρ _ => Cert.DucKIdeal.Gen.frame m ρ, Duc.frame_reference,
  fun m ρ _ => Cert.DwpwK.Gen.frame m ρ, fun m ρ _ => Cert.DwpwKIdeal.Gen.frame m ρ, Dwpw.frame_reference,
  fun m ρ _ => Cert.DwbaK.Gen.frame m ρ, fun m ρ _ => Cert.DwbaKIdeal.Gen.frame m ρ, Dwba.frame_reference,
  fun m ρ _ => Cert.DhbaK.Gen.frame m ρ, fun m ρ _ => Cert.DhbaKIdeal.Gen.frame m ρ, Dhba.frame_reference,
  fun m ρ _ => Cert.AdWinK.Gen.frame m ρ, fun m ρ _ => Cert.AdWinKIdeal.Gen.frame m ρ, AdWin.frame_reference,
  fun m ρ _ => Cert.AdPwK.Gen.frame m ρ, fun m ρ _ => Cert.AdPwKIdeal.Gen.frame m ρ, AdPw.frame_reference,
  fun m ρ _ => Cert.AdWoutK.Gen.frame m ρ, fun m ρ _ => Cert.AdWoutKIdeal.Gen.frame m ρ, AdWout.frame_reference,
  fun m ρ _ => Cert.AdWupK.Gen.frame m ρ, fun m ρ _ => Cert.AdWupKIdeal.Gen.frame m ρ, AdWup.frame_reference,
  fun m ρ _ => Cert.AdWdownK.Gen.frame m ρ, fun m ρ _ => Cert.AdWdownKIdeal.Gen.frame m ρ, AdWdown.frame_reference,
  fun m ρ _ => Cert.AdDwK.Gen.frame m ρ, fun m ρ _ => Cert.AdDwKIdeal.Gen.frame m ρ, AdDw.frame_reference,
  fun m ρ _ => Cert.AdGcK.Gen.frame m ρ, fun m ρ _ => Cert.AdGcKIdeal.Gen.frame m ρ, AdGc.frame_reference,
  fun m ρ _ => Cert.AdFcK.Gen.frame m ρ, fun m ρ _ => Cert.AdFcKIdeal.Gen.frame m ρ, AdFc.frame_reference,
  fun m ρ _ => Cert.AdNormK.Gen.frame m ρ, fun m ρ _ => Cert.AdNormKIdeal.Gen.frame m ρ, AdNorm.frame_reference,
  fun m ρ _ => Cert.AdFinalK.Gen.frame m ρ, fun m ρ _ => Cert.AdFinalKIdeal.Gen.frame m ρ, AdFinal.frame_reference,
  fun m ρ _ => Cert.AdChK.Gen.frame m ρ, fun m ρ _ => Cert.AdChKIdeal.Gen.frame m ρ, AdCh.frame_reference,
  fun m ρ _ => Cert.AdHeadK.Gen.frame m ρ, fun m ρ _ => Cert.AdHeadKIdeal.Gen.frame m ρ, AdHead.frame_reference,
  fun m ρ _ => Cert.AdKeyK.Gen.frame m ρ, fun m ρ _ => Cert.AdKeyKIdeal.Gen.frame m ρ, AdKey.frame_reference,
  fun m ρ _ => Cert.AdFbK.Gen.frame m ρ, fun m ρ _ => Cert.AdFbKIdeal.Gen.frame m ρ, AdFb.frame_reference,
  fun m ρ _ => Cert.NormK.Gen.frame m ρ, fun m ρ _ => Cert.NormKIdeal.Gen.frame m ρ, Norm.frame_reference,
  fun m ρ _ => Cert.DnormK.Gen.frame m ρ, fun m ρ _ => Cert.DnormKIdeal.Gen.frame m ρ, Dnorm.frame_reference,
  fun m ρ _ => Cert.LossK.Gen.frame m ρ, fun m ρ _ => Cert.LossKIdeal.Gen.frame m ρ, Loss.frame_reference,
  fun m ρ _ => Cert.QkvFK.Gen.frame m ρ, fun m ρ _ => Cert.QkvFKIdeal.Gen.frame m ρ, QkvF.frame_reference,
  fun m ρ _ => Cert.FfnFK.Gen.frame m ρ, fun m ρ _ => Cert.FfnFKIdeal.Gen.frame m ρ, FfnF.frame_reference,
  fun m ρ _ => Cert.ConfFK.Gen.frame m ρ, fun m ρ _ => Cert.ConfFKIdeal.Gen.frame m ρ, ConfF.frame_reference,
  fun m ρ _ => Cert.QkvK.Gen.frame m ρ, fun m ρ _ => Cert.QkvKIdeal.Gen.frame m ρ, fun m ρ _ => Cert.QkvKIdeal.Gen.frame m ρ,
  Qkv.frame_reference, fun m ρ _ => Qkv.frame_reference m ρ trivial,
  fun m ρ _ => Cert.ConfK.Gen.frame m ρ, fun m ρ _ => Cert.ConfKIdeal.Gen.frame m ρ, fun m ρ _ => Cert.ConfKIdeal.Gen.frame m ρ,
  Conf.frame_reference, fun m ρ _ => Conf.frame_reference m ρ trivial,
  trivial, Ffn.algebraic,
  trivial, Dwdown.algebraic,
  trivial, Dwup.algebraic,
  trivial, Dact.algebraic,
  trivial, Dwin.algebraic,
  trivial, Dhg.algebraic,
  trivial, Dhu.algebraic,
  trivial, Dh.algebraic,
  trivial, Up.algebraic,
  trivial, Down.algebraic,
  trivial, InMain.algebraic,
  trivial, InBa.algebraic,
  trivial, Pw.algebraic,
  trivial, Out.algebraic,
  trivial, Douta.algebraic,
  trivial, Doutb.algebraic,
  trivial, Dwout.algebraic,
  trivial, Duc.algebraic,
  trivial, Dwpw.algebraic,
  trivial, Dwba.algebraic,
  trivial, Dhba.algebraic,
  trivial, AdWin.algebraic,
  trivial, AdPw.algebraic,
  trivial, AdWout.algebraic,
  trivial, AdWup.algebraic,
  trivial, AdWdown.algebraic,
  trivial, AdDw.algebraic,
  trivial, AdGc.algebraic,
  trivial, AdFc.algebraic,
  trivial, AdNorm.algebraic,
  trivial, AdFinal.algebraic,
  trivial, AdCh.algebraic,
  trivial, AdHead.algebraic,
  trivial, AdKey.algebraic,
  trivial, AdFb.algebraic,
  trivial, Norm.algebraic,
  trivial, Dnorm.algebraic,
  trivial, Loss.algebraic,
  trivial, QkvF.algebraic,
  trivial, FfnF.algebraic,
  trivial, ConfF.algebraic,
  trivial, Qkv.algebraic,
  trivial, Conf.algebraic⟩

end Cert.Proof

end
